-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_finite_gate [hPre_finite_gate : Cert.Pre_finite_gate.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_finite_gate.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))) = (fun _ => 1#1)

def Pre_GateGradReferenceIdeal (m : (ℓ : Loc Cert.GateGradReferenceIdeal.nD Cert.GateGradReferenceIdeal.τ Cert.GateGradReferenceIdeal.sig) → Buf (Elt Ideal) ℓ) : Prop :=
  True

def Pre_GateGradReferenceIdeal_finite_gate [hPre_finite_gate : Cert.Pre_finite_gate.Facts] (m : (ℓ : Loc Cert.GateGradReferenceIdeal.nD Cert.GateGradReferenceIdeal.τ Cert.GateGradReferenceIdeal.sig) → Buf (Elt Ideal) ℓ) : Prop :=
  ∀ c : Dev Cert.GateGradReferenceIdeal.nD,
    (Cert.Pre_finite_gate.fn (F := Ideal) (m ((c.tc : Thread Cert.GateGradReferenceIdeal.nD Cert.GateGradReferenceIdeal.τ).loc Cert.GateGradReferenceIdeal.main_arg0)) (m ((c.tc : Thread Cert.GateGradReferenceIdeal.nD Cert.GateGradReferenceIdeal.τ).loc Cert.GateGradReferenceIdeal.main_arg1)) (m ((c.tc : Thread Cert.GateGradReferenceIdeal.nD Cert.GateGradReferenceIdeal.τ).loc Cert.GateGradReferenceIdeal.main_arg2)) (m ((c.tc : Thread Cert.GateGradReferenceIdeal.nD Cert.GateGradReferenceIdeal.τ).loc Cert.GateGradReferenceIdeal.main_arg3))) = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_finite_norm [hPre_finite_norm : Cert.Pre_finite_norm.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6)) (m ((c.tc : Thread Cert.NormGradIdeal.nD Cert.NormGradIdeal.τ).loc Cert.NormGradIdeal.main_arg7)) (m ((c.tc : Thread Cert.NormGradIdeal.nD Cert.NormGradIdeal.τ).loc Cert.NormGradIdeal.main_arg8)) (m ((c.tc : Thread Cert.NormGradIdeal.nD Cert.NormGradIdeal.τ).loc Cert.NormGradIdeal.main_arg9))) = (fun _ => 1#1)

def Pre_NormGradReferenceIdeal (m : (ℓ : Loc Cert.NormGradReferenceIdeal.nD Cert.NormGradReferenceIdeal.τ Cert.NormGradReferenceIdeal.sig) → Buf (Elt Ideal) ℓ) : Prop :=
  True

def Pre_NormGradReferenceIdeal_finite_norm [hPre_finite_norm : Cert.Pre_finite_norm.Facts] (m : (ℓ : Loc Cert.NormGradReferenceIdeal.nD Cert.NormGradReferenceIdeal.τ Cert.NormGradReferenceIdeal.sig) → Buf (Elt Ideal) ℓ) : Prop :=
  ∀ c : Dev Cert.NormGradReferenceIdeal.nD,
    (Cert.Pre_finite_norm.fn (F := Ideal) (m ((c.tc : Thread Cert.NormGradReferenceIdeal.nD Cert.NormGradReferenceIdeal.τ).loc Cert.NormGradReferenceIdeal.main_arg0)) (m ((c.tc : Thread Cert.NormGradReferenceIdeal.nD Cert.NormGradReferenceIdeal.τ).loc Cert.NormGradReferenceIdeal.main_arg1)) (m ((c.tc : Thread Cert.NormGradReferenceIdeal.nD Cert.NormGradReferenceIdeal.τ).loc Cert.NormGradReferenceIdeal.main_arg2)) (m ((c.tc : Thread Cert.NormGradReferenceIdeal.nD Cert.NormGradReferenceIdeal.τ).loc Cert.NormGradReferenceIdeal.main_arg3)) (m ((c.tc : Thread Cert.NormGradReferenceIdeal.nD Cert.NormGradReferenceIdeal.τ).loc Cert.NormGradReferenceIdeal.main_arg4)) (m ((c.tc : Thread Cert.NormGradReferenceIdeal.nD Cert.NormGradReferenceIdeal.τ).loc Cert.NormGradReferenceIdeal.main_arg5)) (m ((c.tc : Thread Cert.NormGradReferenceIdeal.nD Cert.NormGradReferenceIdeal.τ).loc Cert.NormGradReferenceIdeal.main_arg6)) (m ((c.tc : Thread Cert.NormGradReferenceIdeal.nD Cert.NormGradReferenceIdeal.τ).loc Cert.NormGradReferenceIdeal.main_arg7)) (m ((c.tc : Thread Cert.NormGradReferenceIdeal.nD Cert.NormGradReferenceIdeal.τ).loc Cert.NormGradReferenceIdeal.main_arg8)) (m ((c.tc : Thread Cert.NormGradReferenceIdeal.nD Cert.NormGradReferenceIdeal.τ).loc Cert.NormGradReferenceIdeal.main_arg9))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_GatesGrad (m : (ℓ : Loc Cert.GatesGrad.nD Cert.GatesGrad.τ Cert.GatesGrad.sig) → Buf (Elt Bits) ℓ) : Prop :=
  True

def Pre_GatesGradIdeal (m : (ℓ : Loc Cert.GatesGradIdeal.nD Cert.GatesGradIdeal.τ Cert.GatesGradIdeal.sig) → Buf (Elt Ideal) ℓ) : Prop :=
  True

def Pre_GatesGradReferenceIdeal (m : (ℓ : Loc Cert.GatesGradReferenceIdeal.nD Cert.GatesGradReferenceIdeal.τ Cert.GatesGradReferenceIdeal.sig) → Buf (Elt Ideal) ℓ) : Prop :=
  True

def Pre_MixNormGrad (m : (ℓ : Loc Cert.MixNormGrad.nD Cert.MixNormGrad.τ Cert.MixNormGrad.sig) → Buf (Elt Bits) ℓ) : Prop :=
  True

def Pre_MixNormGradIdeal (m : (ℓ : Loc Cert.MixNormGradIdeal.nD Cert.MixNormGradIdeal.τ Cert.MixNormGradIdeal.sig) → Buf (Elt Ideal) ℓ) : Prop :=
  True

def Pre_MixNormGradIdeal_finite_mix [hPre_finite_mix : Cert.Pre_finite_mix.Facts] (m : (ℓ : Loc Cert.MixNormGradIdeal.nD Cert.MixNormGradIdeal.τ Cert.MixNormGradIdeal.sig) → Buf (Elt Ideal) ℓ) : Prop :=
  ∀ c : Dev Cert.MixNormGradIdeal.nD,
    (Cert.Pre_finite_mix.fn (F := Ideal) (m ((c.tc : Thread Cert.MixNormGradIdeal.nD Cert.MixNormGradIdeal.τ).loc Cert.MixNormGradIdeal.main_arg0)) (m ((c.tc : Thread Cert.MixNormGradIdeal.nD Cert.MixNormGradIdeal.τ).loc Cert.MixNormGradIdeal.main_arg1)) (m ((c.tc : Thread Cert.MixNormGradIdeal.nD Cert.MixNormGradIdeal.τ).loc Cert.MixNormGradIdeal.main_arg2)) (m ((c.tc : Thread Cert.MixNormGradIdeal.nD Cert.MixNormGradIdeal.τ).loc Cert.MixNormGradIdeal.main_arg3)) (m ((c.tc : Thread Cert.MixNormGradIdeal.nD Cert.MixNormGradIdeal.τ).loc Cert.MixNormGradIdeal.main_arg4)) (m ((c.tc : Thread Cert.MixNormGradIdeal.nD Cert.MixNormGradIdeal.τ).loc Cert.MixNormGradIdeal.main_arg5)) (m ((c.tc : Thread Cert.MixNormGradIdeal.nD Cert.MixNormGradIdeal.τ).loc Cert.MixNormGradIdeal.main_arg6)) (m ((c.tc : Thread Cert.MixNormGradIdeal.nD Cert.MixNormGradIdeal.τ).loc Cert.MixNormGradIdeal.main_arg7))) = (fun _ => 1#1)

def Pre_MixNormGradReferenceIdeal (m : (ℓ : Loc Cert.MixNormGradReferenceIdeal.nD Cert.MixNormGradReferenceIdeal.τ Cert.MixNormGradReferenceIdeal.sig) → Buf (Elt Ideal) ℓ) : Prop :=
  True

def Pre_MixNormGradReferenceIdeal_finite_mix [hPre_finite_mix : Cert.Pre_finite_mix.Facts] (m : (ℓ : Loc Cert.MixNormGradReferenceIdeal.nD Cert.MixNormGradReferenceIdeal.τ Cert.MixNormGradReferenceIdeal.sig) → Buf (Elt Ideal) ℓ) : Prop :=
  ∀ c : Dev Cert.MixNormGradReferenceIdeal.nD,
    (Cert.Pre_finite_mix.fn (F := Ideal) (m ((c.tc : Thread Cert.MixNormGradReferenceIdeal.nD Cert.MixNormGradReferenceIdeal.τ).loc Cert.MixNormGradReferenceIdeal.main_arg0)) (m ((c.tc : Thread Cert.MixNormGradReferenceIdeal.nD Cert.MixNormGradReferenceIdeal.τ).loc Cert.MixNormGradReferenceIdeal.main_arg1)) (m ((c.tc : Thread Cert.MixNormGradReferenceIdeal.nD Cert.MixNormGradReferenceIdeal.τ).loc Cert.MixNormGradReferenceIdeal.main_arg2)) (m ((c.tc : Thread Cert.MixNormGradReferenceIdeal.nD Cert.MixNormGradReferenceIdeal.τ).loc Cert.MixNormGradReferenceIdeal.main_arg3)) (m ((c.tc : Thread Cert.MixNormGradReferenceIdeal.nD Cert.MixNormGradReferenceIdeal.τ).loc Cert.MixNormGradReferenceIdeal.main_arg4)) (m ((c.tc : Thread Cert.MixNormGradReferenceIdeal.nD Cert.MixNormGradReferenceIdeal.τ).loc Cert.MixNormGradReferenceIdeal.main_arg5)) (m ((c.tc : Thread Cert.MixNormGradReferenceIdeal.nD Cert.MixNormGradReferenceIdeal.τ).loc Cert.MixNormGradReferenceIdeal.main_arg6)) (m ((c.tc : Thread Cert.MixNormGradReferenceIdeal.nD Cert.MixNormGradReferenceIdeal.τ).loc Cert.MixNormGradReferenceIdeal.main_arg7))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradReferenceIdeal (m : (ℓ : Loc Cert.OutWeightGradReferenceIdeal.nD Cert.OutWeightGradReferenceIdeal.τ Cert.OutWeightGradReferenceIdeal.sig) → Buf (Elt Ideal) ℓ) : Prop :=
  True

def Pre_HalfNormGrad (m : (ℓ : Loc Cert.HalfNormGrad.nD Cert.HalfNormGrad.τ Cert.HalfNormGrad.sig) → Buf (Elt Bits) ℓ) : Prop :=
  True

def Pre_HalfNormGradIdeal (m : (ℓ : Loc Cert.HalfNormGradIdeal.nD Cert.HalfNormGradIdeal.τ Cert.HalfNormGradIdeal.sig) → Buf (Elt Ideal) ℓ) : Prop :=
  True

def Pre_HalfNormGradIdeal_finite_norm [hPre_finite_norm : Cert.Pre_finite_norm.Facts] (m : (ℓ : Loc Cert.HalfNormGradIdeal.nD Cert.HalfNormGradIdeal.τ Cert.HalfNormGradIdeal.sig) → Buf (Elt Ideal) ℓ) : Prop :=
  ∀ c : Dev Cert.HalfNormGradIdeal.nD,
    (Cert.Pre_finite_norm.fn (F := Ideal) (m ((c.tc : Thread Cert.HalfNormGradIdeal.nD Cert.HalfNormGradIdeal.τ).loc Cert.HalfNormGradIdeal.main_arg0)) (m ((c.tc : Thread Cert.HalfNormGradIdeal.nD Cert.HalfNormGradIdeal.τ).loc Cert.HalfNormGradIdeal.main_arg1)) (m ((c.tc : Thread Cert.HalfNormGradIdeal.nD Cert.HalfNormGradIdeal.τ).loc Cert.HalfNormGradIdeal.main_arg2)) (m ((c.tc : Thread Cert.HalfNormGradIdeal.nD Cert.HalfNormGradIdeal.τ).loc Cert.HalfNormGradIdeal.main_arg3)) (m ((c.tc : Thread Cert.HalfNormGradIdeal.nD Cert.HalfNormGradIdeal.τ).loc Cert.HalfNormGradIdeal.main_arg4)) (m ((c.tc : Thread Cert.HalfNormGradIdeal.nD Cert.HalfNormGradIdeal.τ).loc Cert.HalfNormGradIdeal.main_arg5)) (m ((c.tc : Thread Cert.HalfNormGradIdeal.nD Cert.HalfNormGradIdeal.τ).loc Cert.HalfNormGradIdeal.main_arg6)) (m ((c.tc : Thread Cert.HalfNormGradIdeal.nD Cert.HalfNormGradIdeal.τ).loc Cert.HalfNormGradIdeal.main_arg7)) (m ((c.tc : Thread Cert.HalfNormGradIdeal.nD Cert.HalfNormGradIdeal.τ).loc Cert.HalfNormGradIdeal.main_arg8)) (m ((c.tc : Thread Cert.HalfNormGradIdeal.nD Cert.HalfNormGradIdeal.τ).loc Cert.HalfNormGradIdeal.main_arg9))) = (fun _ => 1#1)

def Pre_HalfNormGradReferenceIdeal (m : (ℓ : Loc Cert.HalfNormGradReferenceIdeal.nD Cert.HalfNormGradReferenceIdeal.τ Cert.HalfNormGradReferenceIdeal.sig) → Buf (Elt Ideal) ℓ) : Prop :=
  True

def Pre_HalfNormGradReferenceIdeal_finite_norm [hPre_finite_norm : Cert.Pre_finite_norm.Facts] (m : (ℓ : Loc Cert.HalfNormGradReferenceIdeal.nD Cert.HalfNormGradReferenceIdeal.τ Cert.HalfNormGradReferenceIdeal.sig) → Buf (Elt Ideal) ℓ) : Prop :=
  ∀ c : Dev Cert.HalfNormGradReferenceIdeal.nD,
    (Cert.Pre_finite_norm.fn (F := Ideal) (m ((c.tc : Thread Cert.HalfNormGradReferenceIdeal.nD Cert.HalfNormGradReferenceIdeal.τ).loc Cert.HalfNormGradReferenceIdeal.main_arg0)) (m ((c.tc : Thread Cert.HalfNormGradReferenceIdeal.nD Cert.HalfNormGradReferenceIdeal.τ).loc Cert.HalfNormGradReferenceIdeal.main_arg1)) (m ((c.tc : Thread Cert.HalfNormGradReferenceIdeal.nD Cert.HalfNormGradReferenceIdeal.τ).loc Cert.HalfNormGradReferenceIdeal.main_arg2)) (m ((c.tc : Thread Cert.HalfNormGradReferenceIdeal.nD Cert.HalfNormGradReferenceIdeal.τ).loc Cert.HalfNormGradReferenceIdeal.main_arg3)) (m ((c.tc : Thread Cert.HalfNormGradReferenceIdeal.nD Cert.HalfNormGradReferenceIdeal.τ).loc Cert.HalfNormGradReferenceIdeal.main_arg4)) (m ((c.tc : Thread Cert.HalfNormGradReferenceIdeal.nD Cert.HalfNormGradReferenceIdeal.τ).loc Cert.HalfNormGradReferenceIdeal.main_arg5)) (m ((c.tc : Thread Cert.HalfNormGradReferenceIdeal.nD Cert.HalfNormGradReferenceIdeal.τ).loc Cert.HalfNormGradReferenceIdeal.main_arg6)) (m ((c.tc : Thread Cert.HalfNormGradReferenceIdeal.nD Cert.HalfNormGradReferenceIdeal.τ).loc Cert.HalfNormGradReferenceIdeal.main_arg7)) (m ((c.tc : Thread Cert.HalfNormGradReferenceIdeal.nD Cert.HalfNormGradReferenceIdeal.τ).loc Cert.HalfNormGradReferenceIdeal.main_arg8)) (m ((c.tc : Thread Cert.HalfNormGradReferenceIdeal.nD Cert.HalfNormGradReferenceIdeal.τ).loc Cert.HalfNormGradReferenceIdeal.main_arg9))) = (fun _ => 1#1)

def Pre_LastNormGrad (m : (ℓ : Loc Cert.LastNormGrad.nD Cert.LastNormGrad.τ Cert.LastNormGrad.sig) → Buf (Elt Bits) ℓ) : Prop :=
  True

def Pre_LastNormGradIdeal (m : (ℓ : Loc Cert.LastNormGradIdeal.nD Cert.LastNormGradIdeal.τ Cert.LastNormGradIdeal.sig) → Buf (Elt Ideal) ℓ) : Prop :=
  True

def Pre_LastNormGradIdeal_finite_last [hPre_finite_last : Cert.Pre_finite_last.Facts] (m : (ℓ : Loc Cert.LastNormGradIdeal.nD Cert.LastNormGradIdeal.τ Cert.LastNormGradIdeal.sig) → Buf (Elt Ideal) ℓ) : Prop :=
  ∀ c : Dev Cert.LastNormGradIdeal.nD,
    (Cert.Pre_finite_last.fn (F := Ideal) (m ((c.tc : Thread Cert.LastNormGradIdeal.nD Cert.LastNormGradIdeal.τ).loc Cert.LastNormGradIdeal.main_arg0)) (m ((c.tc : Thread Cert.LastNormGradIdeal.nD Cert.LastNormGradIdeal.τ).loc Cert.LastNormGradIdeal.main_arg1)) (m ((c.tc : Thread Cert.LastNormGradIdeal.nD Cert.LastNormGradIdeal.τ).loc Cert.LastNormGradIdeal.main_arg2)) (m ((c.tc : Thread Cert.LastNormGradIdeal.nD Cert.LastNormGradIdeal.τ).loc Cert.LastNormGradIdeal.main_arg3)) (m ((c.tc : Thread Cert.LastNormGradIdeal.nD Cert.LastNormGradIdeal.τ).loc Cert.LastNormGradIdeal.main_arg4)) (m ((c.tc : Thread Cert.LastNormGradIdeal.nD Cert.LastNormGradIdeal.τ).loc Cert.LastNormGradIdeal.main_arg5)) (m ((c.tc : Thread Cert.LastNormGradIdeal.nD Cert.LastNormGradIdeal.τ).loc Cert.LastNormGradIdeal.main_arg6)) (m ((c.tc : Thread Cert.LastNormGradIdeal.nD Cert.LastNormGradIdeal.τ).loc Cert.LastNormGradIdeal.main_arg7))) = (fun _ => 1#1)

def Pre_LastNormGradReferenceIdeal (m : (ℓ : Loc Cert.LastNormGradReferenceIdeal.nD Cert.LastNormGradReferenceIdeal.τ Cert.LastNormGradReferenceIdeal.sig) → Buf (Elt Ideal) ℓ) : Prop :=
  True

def Pre_LastNormGradReferenceIdeal_finite_last [hPre_finite_last : Cert.Pre_finite_last.Facts] (m : (ℓ : Loc Cert.LastNormGradReferenceIdeal.nD Cert.LastNormGradReferenceIdeal.τ Cert.LastNormGradReferenceIdeal.sig) → Buf (Elt Ideal) ℓ) : Prop :=
  ∀ c : Dev Cert.LastNormGradReferenceIdeal.nD,
    (Cert.Pre_finite_last.fn (F := Ideal) (m ((c.tc : Thread Cert.LastNormGradReferenceIdeal.nD Cert.LastNormGradReferenceIdeal.τ).loc Cert.LastNormGradReferenceIdeal.main_arg0)) (m ((c.tc : Thread Cert.LastNormGradReferenceIdeal.nD Cert.LastNormGradReferenceIdeal.τ).loc Cert.LastNormGradReferenceIdeal.main_arg1)) (m ((c.tc : Thread Cert.LastNormGradReferenceIdeal.nD Cert.LastNormGradReferenceIdeal.τ).loc Cert.LastNormGradReferenceIdeal.main_arg2)) (m ((c.tc : Thread Cert.LastNormGradReferenceIdeal.nD Cert.LastNormGradReferenceIdeal.τ).loc Cert.LastNormGradReferenceIdeal.main_arg3)) (m ((c.tc : Thread Cert.LastNormGradReferenceIdeal.nD Cert.LastNormGradReferenceIdeal.τ).loc Cert.LastNormGradReferenceIdeal.main_arg4)) (m ((c.tc : Thread Cert.LastNormGradReferenceIdeal.nD Cert.LastNormGradReferenceIdeal.τ).loc Cert.LastNormGradReferenceIdeal.main_arg5)) (m ((c.tc : Thread Cert.LastNormGradReferenceIdeal.nD Cert.LastNormGradReferenceIdeal.τ).loc Cert.LastNormGradReferenceIdeal.main_arg6)) (m ((c.tc : Thread Cert.LastNormGradReferenceIdeal.nD Cert.LastNormGradReferenceIdeal.τ).loc Cert.LastNormGradReferenceIdeal.main_arg7))) = (fun _ => 1#1)

def Pre_SbForward (m : (ℓ : Loc Cert.SbForward.nD Cert.SbForward.τ Cert.SbForward.sig) → Buf (Elt Bits) ℓ) : Prop :=
  True

def Pre_SbForwardIdeal (m : (ℓ : Loc Cert.SbForwardIdeal.nD Cert.SbForwardIdeal.τ Cert.SbForwardIdeal.sig) → Buf (Elt Ideal) ℓ) : Prop :=
  True

def Pre_SbForwardIdeal_finite_forward [hPre_finite_forward : Cert.Pre_finite_forward.Facts] (m : (ℓ : Loc Cert.SbForwardIdeal.nD Cert.SbForwardIdeal.τ Cert.SbForwardIdeal.sig) → Buf (Elt Ideal) ℓ) : Prop :=
  ∀ c : Dev Cert.SbForwardIdeal.nD,
    (Cert.Pre_finite_forward.fn (F := Ideal) (m ((c.tc : Thread Cert.SbForwardIdeal.nD Cert.SbForwardIdeal.τ).loc Cert.SbForwardIdeal.main_arg0)) (m ((c.tc : Thread Cert.SbForwardIdeal.nD Cert.SbForwardIdeal.τ).loc Cert.SbForwardIdeal.main_arg1)) (m ((c.tc : Thread Cert.SbForwardIdeal.nD Cert.SbForwardIdeal.τ).loc Cert.SbForwardIdeal.main_arg2))) = (fun _ => 1#1)

def Pre_SbForwardReferenceIdeal (m : (ℓ : Loc Cert.SbForwardReferenceIdeal.nD Cert.SbForwardReferenceIdeal.τ Cert.SbForwardReferenceIdeal.sig) → Buf (Elt Ideal) ℓ) : Prop :=
  True

def Pre_SbForwardReferenceIdeal_finite_forward [hPre_finite_forward : Cert.Pre_finite_forward.Facts] (m : (ℓ : Loc Cert.SbForwardReferenceIdeal.nD Cert.SbForwardReferenceIdeal.τ Cert.SbForwardReferenceIdeal.sig) → Buf (Elt Ideal) ℓ) : Prop :=
  ∀ c : Dev Cert.SbForwardReferenceIdeal.nD,
    (Cert.Pre_finite_forward.fn (F := Ideal) (m ((c.tc : Thread Cert.SbForwardReferenceIdeal.nD Cert.SbForwardReferenceIdeal.τ).loc Cert.SbForwardReferenceIdeal.main_arg0)) (m ((c.tc : Thread Cert.SbForwardReferenceIdeal.nD Cert.SbForwardReferenceIdeal.τ).loc Cert.SbForwardReferenceIdeal.main_arg1)) (m ((c.tc : Thread Cert.SbForwardReferenceIdeal.nD Cert.SbForwardReferenceIdeal.τ).loc Cert.SbForwardReferenceIdeal.main_arg2))) = (fun _ => 1#1)

def Pre_BranchSbGrad (m : (ℓ : Loc Cert.BranchSbGrad.nD Cert.BranchSbGrad.τ Cert.BranchSbGrad.sig) → Buf (Elt Bits) ℓ) : Prop :=
  True

def Pre_BranchSbGradIdeal (m : (ℓ : Loc Cert.BranchSbGradIdeal.nD Cert.BranchSbGradIdeal.τ Cert.BranchSbGradIdeal.sig) → Buf (Elt Ideal) ℓ) : Prop :=
  True

def Pre_BranchSbGradReferenceIdeal (m : (ℓ : Loc Cert.BranchSbGradReferenceIdeal.nD Cert.BranchSbGradReferenceIdeal.τ Cert.BranchSbGradReferenceIdeal.sig) → Buf (Elt Ideal) ℓ) : Prop :=
  True

def Pre_BranchDilGrad (m : (ℓ : Loc Cert.BranchDilGrad.nD Cert.BranchDilGrad.τ Cert.BranchDilGrad.sig) → Buf (Elt Bits) ℓ) : Prop :=
  True

def Pre_BranchDilGradIdeal (m : (ℓ : Loc Cert.BranchDilGradIdeal.nD Cert.BranchDilGradIdeal.τ Cert.BranchDilGradIdeal.sig) → Buf (Elt Ideal) ℓ) : Prop :=
  True

def Pre_BranchDilGradReferenceIdeal (m : (ℓ : Loc Cert.BranchDilGradReferenceIdeal.nD Cert.BranchDilGradReferenceIdeal.τ Cert.BranchDilGradReferenceIdeal.sig) → Buf (Elt Ideal) ℓ) : Prop :=
  True

def Pre_BranchSwaGrad (m : (ℓ : Loc Cert.BranchSwaGrad.nD Cert.BranchSwaGrad.τ Cert.BranchSwaGrad.sig) → Buf (Elt Bits) ℓ) : Prop :=
  True

def Pre_BranchSwaGradIdeal (m : (ℓ : Loc Cert.BranchSwaGradIdeal.nD Cert.BranchSwaGradIdeal.τ Cert.BranchSwaGradIdeal.sig) → Buf (Elt Ideal) ℓ) : Prop :=
  True

def Pre_BranchSwaGradReferenceIdeal (m : (ℓ : Loc Cert.BranchSwaGradReferenceIdeal.nD Cert.BranchSwaGradReferenceIdeal.τ Cert.BranchSwaGradReferenceIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradReferenceIdeal (m : (ℓ : Loc Cert.MergeGradReferenceIdeal.nD Cert.MergeGradReferenceIdeal.τ Cert.MergeGradReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradIdeal_pre_finite_gate [hGateGradIdeal : Cert.GateGradIdeal.Facts] [hPre_finite_gate : Cert.Pre_finite_gate.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_finite_gate m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3))
      ∧ r.2.sem = fun _ => 0)

def quiescent_GateGradReferenceIdeal_pre_finite_gate [hGateGradReferenceIdeal : Cert.GateGradReferenceIdeal.Facts] [hPre_finite_gate : Cert.Pre_finite_gate.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal_finite_gate m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5)
      ∧ r.2.mem ((c.tc : Thread Cert.NormGrad.nD Cert.NormGrad.τ).loc Cert.NormGrad.main_arg6) = m ((c.tc : Thread Cert.NormGrad.nD Cert.NormGrad.τ).loc Cert.NormGrad.main_arg6)
      ∧ r.2.mem ((c.tc : Thread Cert.NormGrad.nD Cert.NormGrad.τ).loc Cert.NormGrad.main_arg7) = m ((c.tc : Thread Cert.NormGrad.nD Cert.NormGrad.τ).loc Cert.NormGrad.main_arg7)
      ∧ r.2.mem ((c.tc : Thread Cert.NormGrad.nD Cert.NormGrad.τ).loc Cert.NormGrad.main_arg8) = m ((c.tc : Thread Cert.NormGrad.nD Cert.NormGrad.τ).loc Cert.NormGrad.main_arg8)
      ∧ r.2.mem ((c.tc : Thread Cert.NormGrad.nD Cert.NormGrad.τ).loc Cert.NormGrad.main_arg9) = m ((c.tc : Thread Cert.NormGrad.nD Cert.NormGrad.τ).loc Cert.NormGrad.main_arg9))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
      ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7)
      ∧ r.2.mem ((c.tc : Thread Cert.NormGradIdeal.nD Cert.NormGradIdeal.τ).loc Cert.NormGradIdeal.main_arg8) = m ((c.tc : Thread Cert.NormGradIdeal.nD Cert.NormGradIdeal.τ).loc Cert.NormGradIdeal.main_arg8)
      ∧ r.2.mem ((c.tc : Thread Cert.NormGradIdeal.nD Cert.NormGradIdeal.τ).loc Cert.NormGradIdeal.main_arg9) = m ((c.tc : Thread Cert.NormGradIdeal.nD Cert.NormGradIdeal.τ).loc Cert.NormGradIdeal.main_arg9))
      ∧ r.2.sem = fun _ => 0)

def quiescent_NormGradIdeal_pre_finite_norm [hNormGradIdeal : Cert.NormGradIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
      ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7)
      ∧ r.2.mem ((c.tc : Thread Cert.NormGradIdeal.nD Cert.NormGradIdeal.τ).loc Cert.NormGradIdeal.main_arg8) = m ((c.tc : Thread Cert.NormGradIdeal.nD Cert.NormGradIdeal.τ).loc Cert.NormGradIdeal.main_arg8)
      ∧ r.2.mem ((c.tc : Thread Cert.NormGradIdeal.nD Cert.NormGradIdeal.τ).loc Cert.NormGradIdeal.main_arg9) = m ((c.tc : Thread Cert.NormGradIdeal.nD Cert.NormGradIdeal.τ).loc Cert.NormGradIdeal.main_arg9))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4)
      ∧ r.2.mem ((c.tc : Thread Cert.NormGradReferenceIdeal.nD Cert.NormGradReferenceIdeal.τ).loc Cert.NormGradReferenceIdeal.main_arg5) = m ((c.tc : Thread Cert.NormGradReferenceIdeal.nD Cert.NormGradReferenceIdeal.τ).loc Cert.NormGradReferenceIdeal.main_arg5)
      ∧ r.2.mem ((c.tc : Thread Cert.NormGradReferenceIdeal.nD Cert.NormGradReferenceIdeal.τ).loc Cert.NormGradReferenceIdeal.main_arg6) = m ((c.tc : Thread Cert.NormGradReferenceIdeal.nD Cert.NormGradReferenceIdeal.τ).loc Cert.NormGradReferenceIdeal.main_arg6)
      ∧ r.2.mem ((c.tc : Thread Cert.NormGradReferenceIdeal.nD Cert.NormGradReferenceIdeal.τ).loc Cert.NormGradReferenceIdeal.main_arg7) = m ((c.tc : Thread Cert.NormGradReferenceIdeal.nD Cert.NormGradReferenceIdeal.τ).loc Cert.NormGradReferenceIdeal.main_arg7)
      ∧ r.2.mem ((c.tc : Thread Cert.NormGradReferenceIdeal.nD Cert.NormGradReferenceIdeal.τ).loc Cert.NormGradReferenceIdeal.main_arg8) = m ((c.tc : Thread Cert.NormGradReferenceIdeal.nD Cert.NormGradReferenceIdeal.τ).loc Cert.NormGradReferenceIdeal.main_arg8)
      ∧ r.2.mem ((c.tc : Thread Cert.NormGradReferenceIdeal.nD Cert.NormGradReferenceIdeal.τ).loc Cert.NormGradReferenceIdeal.main_arg9) = m ((c.tc : Thread Cert.NormGradReferenceIdeal.nD Cert.NormGradReferenceIdeal.τ).loc Cert.NormGradReferenceIdeal.main_arg9))
      ∧ r.2.sem = fun _ => 0)

def quiescent_NormGradReferenceIdeal_pre_finite_norm [hNormGradReferenceIdeal : Cert.NormGradReferenceIdeal.Facts] [hPre_finite_norm : Cert.Pre_finite_norm.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal_finite_norm m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4)
      ∧ r.2.mem ((c.tc : Thread Cert.NormGradReferenceIdeal.nD Cert.NormGradReferenceIdeal.τ).loc Cert.NormGradReferenceIdeal.main_arg5) = m ((c.tc : Thread Cert.NormGradReferenceIdeal.nD Cert.NormGradReferenceIdeal.τ).loc Cert.NormGradReferenceIdeal.main_arg5)
      ∧ r.2.mem ((c.tc : Thread Cert.NormGradReferenceIdeal.nD Cert.NormGradReferenceIdeal.τ).loc Cert.NormGradReferenceIdeal.main_arg6) = m ((c.tc : Thread Cert.NormGradReferenceIdeal.nD Cert.NormGradReferenceIdeal.τ).loc Cert.NormGradReferenceIdeal.main_arg6)
      ∧ r.2.mem ((c.tc : Thread Cert.NormGradReferenceIdeal.nD Cert.NormGradReferenceIdeal.τ).loc Cert.NormGradReferenceIdeal.main_arg7) = m ((c.tc : Thread Cert.NormGradReferenceIdeal.nD Cert.NormGradReferenceIdeal.τ).loc Cert.NormGradReferenceIdeal.main_arg7)
      ∧ r.2.mem ((c.tc : Thread Cert.NormGradReferenceIdeal.nD Cert.NormGradReferenceIdeal.τ).loc Cert.NormGradReferenceIdeal.main_arg8) = m ((c.tc : Thread Cert.NormGradReferenceIdeal.nD Cert.NormGradReferenceIdeal.τ).loc Cert.NormGradReferenceIdeal.main_arg8)
      ∧ r.2.mem ((c.tc : Thread Cert.NormGradReferenceIdeal.nD Cert.NormGradReferenceIdeal.τ).loc Cert.NormGradReferenceIdeal.main_arg9) = m ((c.tc : Thread Cert.NormGradReferenceIdeal.nD Cert.NormGradReferenceIdeal.τ).loc Cert.NormGradReferenceIdeal.main_arg9))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_GatesGrad [hGatesGrad : Cert.GatesGrad.Facts] : Prop :=
  ∀ (m : (ℓ : Loc Cert.GatesGrad.nD Cert.GatesGrad.τ Cert.GatesGrad.sig) → Buf (Elt Bits) ℓ) (g : Dev Cert.GatesGrad.nD → PrngReg), Pre_GatesGrad m →
    θ_run (Cert.GatesGrad.defs (F := Bits)) (onTc (τ := Cert.GatesGrad.τ) (Cert.GatesGrad.main (F := Bits))) ⟨m, fun _ => 0, g⟩ (fun r => (∀ c : Dev Cert.GatesGrad.nD,
      r.2.mem ((c.tc : Thread Cert.GatesGrad.nD Cert.GatesGrad.τ).loc Cert.GatesGrad.main_arg0) = m ((c.tc : Thread Cert.GatesGrad.nD Cert.GatesGrad.τ).loc Cert.GatesGrad.main_arg0)
      ∧ r.2.mem ((c.tc : Thread Cert.GatesGrad.nD Cert.GatesGrad.τ).loc Cert.GatesGrad.main_arg1) = m ((c.tc : Thread Cert.GatesGrad.nD Cert.GatesGrad.τ).loc Cert.GatesGrad.main_arg1)
      ∧ r.2.mem ((c.tc : Thread Cert.GatesGrad.nD Cert.GatesGrad.τ).loc Cert.GatesGrad.main_arg2) = m ((c.tc : Thread Cert.GatesGrad.nD Cert.GatesGrad.τ).loc Cert.GatesGrad.main_arg2))
      ∧ r.2.sem = fun _ => 0)

def quiescent_GatesGradIdeal [hGatesGradIdeal : Cert.GatesGradIdeal.Facts] : Prop :=
  ∀ (m : (ℓ : Loc Cert.GatesGradIdeal.nD Cert.GatesGradIdeal.τ Cert.GatesGradIdeal.sig) → Buf (Elt Ideal) ℓ) (g : Dev Cert.GatesGradIdeal.nD → PrngReg), Pre_GatesGradIdeal m →
    θ_run (Cert.GatesGradIdeal.defs (F := Ideal)) (onTc (τ := Cert.GatesGradIdeal.τ) (Cert.GatesGradIdeal.main (F := Ideal))) ⟨m, fun _ => 0, g⟩ (fun r => (∀ c : Dev Cert.GatesGradIdeal.nD,
      r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
      ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
      ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2))
      ∧ r.2.sem = fun _ => 0)

def quiescent_GatesGradReferenceIdeal [hGatesGradReferenceIdeal : Cert.GatesGradReferenceIdeal.Facts] : Prop :=
  ∀ (m : (ℓ : Loc Cert.GatesGradReferenceIdeal.nD Cert.GatesGradReferenceIdeal.τ Cert.GatesGradReferenceIdeal.sig) → Buf (Elt Ideal) ℓ) (g : Dev Cert.GatesGradReferenceIdeal.nD → PrngReg), Pre_GatesGradReferenceIdeal m →
    θ_run (Cert.GatesGradReferenceIdeal.defs (F := Ideal)) (onTc (τ := Cert.GatesGradReferenceIdeal.τ) (Cert.GatesGradReferenceIdeal.main (F := Ideal))) ⟨m, fun _ => 0, g⟩ (fun r => (∀ c : Dev Cert.GatesGradReferenceIdeal.nD,
      r.2.mem ((c.tc : Thread Cert.GatesGradReferenceIdeal.nD Cert.GatesGradReferenceIdeal.τ).loc Cert.GatesGradReferenceIdeal.main_arg0) = m ((c.tc : Thread Cert.GatesGradReferenceIdeal.nD Cert.GatesGradReferenceIdeal.τ).loc Cert.GatesGradReferenceIdeal.main_arg0)
      ∧ r.2.mem ((c.tc : Thread Cert.GatesGradReferenceIdeal.nD Cert.GatesGradReferenceIdeal.τ).loc Cert.GatesGradReferenceIdeal.main_arg1) = m ((c.tc : Thread Cert.GatesGradReferenceIdeal.nD Cert.GatesGradReferenceIdeal.τ).loc Cert.GatesGradReferenceIdeal.main_arg1)
      ∧ r.2.mem ((c.tc : Thread Cert.GatesGradReferenceIdeal.nD Cert.GatesGradReferenceIdeal.τ).loc Cert.GatesGradReferenceIdeal.main_arg2) = m ((c.tc : Thread Cert.GatesGradReferenceIdeal.nD Cert.GatesGradReferenceIdeal.τ).loc Cert.GatesGradReferenceIdeal.main_arg2))
      ∧ r.2.sem = fun _ => 0)

def quiescent_MixNormGrad [hMixNormGrad : Cert.MixNormGrad.Facts] : Prop :=
  ∀ (m : (ℓ : Loc Cert.MixNormGrad.nD Cert.MixNormGrad.τ Cert.MixNormGrad.sig) → Buf (Elt Bits) ℓ) (g : Dev Cert.MixNormGrad.nD → PrngReg), Pre_MixNormGrad m →
    θ_run (Cert.MixNormGrad.defs (F := Bits)) (onTc (τ := Cert.MixNormGrad.τ) (Cert.MixNormGrad.main (F := Bits))) ⟨m, fun _ => 0, g⟩ (fun r => (∀ c : Dev Cert.MixNormGrad.nD,
      r.2.mem ((c.tc : Thread Cert.MixNormGrad.nD Cert.MixNormGrad.τ).loc Cert.MixNormGrad.main_arg0) = m ((c.tc : Thread Cert.MixNormGrad.nD Cert.MixNormGrad.τ).loc Cert.MixNormGrad.main_arg0)
      ∧ r.2.mem ((c.tc : Thread Cert.MixNormGrad.nD Cert.MixNormGrad.τ).loc Cert.MixNormGrad.main_arg1) = m ((c.tc : Thread Cert.MixNormGrad.nD Cert.MixNormGrad.τ).loc Cert.MixNormGrad.main_arg1)
      ∧ r.2.mem ((c.tc : Thread Cert.MixNormGrad.nD Cert.MixNormGrad.τ).loc Cert.MixNormGrad.main_arg2) = m ((c.tc : Thread Cert.MixNormGrad.nD Cert.MixNormGrad.τ).loc Cert.MixNormGrad.main_arg2)
      ∧ r.2.mem ((c.tc : Thread Cert.MixNormGrad.nD Cert.MixNormGrad.τ).loc Cert.MixNormGrad.main_arg3) = m ((c.tc : Thread Cert.MixNormGrad.nD Cert.MixNormGrad.τ).loc Cert.MixNormGrad.main_arg3)
      ∧ r.2.mem ((c.tc : Thread Cert.MixNormGrad.nD Cert.MixNormGrad.τ).loc Cert.MixNormGrad.main_arg4) = m ((c.tc : Thread Cert.MixNormGrad.nD Cert.MixNormGrad.τ).loc Cert.MixNormGrad.main_arg4)
      ∧ r.2.mem ((c.tc : Thread Cert.MixNormGrad.nD Cert.MixNormGrad.τ).loc Cert.MixNormGrad.main_arg5) = m ((c.tc : Thread Cert.MixNormGrad.nD Cert.MixNormGrad.τ).loc Cert.MixNormGrad.main_arg5)
      ∧ r.2.mem ((c.tc : Thread Cert.MixNormGrad.nD Cert.MixNormGrad.τ).loc Cert.MixNormGrad.main_arg6) = m ((c.tc : Thread Cert.MixNormGrad.nD Cert.MixNormGrad.τ).loc Cert.MixNormGrad.main_arg6)
      ∧ r.2.mem ((c.tc : Thread Cert.MixNormGrad.nD Cert.MixNormGrad.τ).loc Cert.MixNormGrad.main_arg7) = m ((c.tc : Thread Cert.MixNormGrad.nD Cert.MixNormGrad.τ).loc Cert.MixNormGrad.main_arg7))
      ∧ r.2.sem = fun _ => 0)

def quiescent_MixNormGradIdeal [hMixNormGradIdeal : Cert.MixNormGradIdeal.Facts] : Prop :=
  ∀ (m : (ℓ : Loc Cert.MixNormGradIdeal.nD Cert.MixNormGradIdeal.τ Cert.MixNormGradIdeal.sig) → Buf (Elt Ideal) ℓ) (g : Dev Cert.MixNormGradIdeal.nD → PrngReg), Pre_MixNormGradIdeal m →
    θ_run (Cert.MixNormGradIdeal.defs (F := Ideal)) (onTc (τ := Cert.MixNormGradIdeal.τ) (Cert.MixNormGradIdeal.main (F := Ideal))) ⟨m, fun _ => 0, g⟩ (fun r => (∀ c : Dev Cert.MixNormGradIdeal.nD,
      r.2.mem ((c.tc : Thread Cert.MixNormGradIdeal.nD Cert.MixNormGradIdeal.τ).loc Cert.MixNormGradIdeal.main_arg0) = m ((c.tc : Thread Cert.MixNormGradIdeal.nD Cert.MixNormGradIdeal.τ).loc Cert.MixNormGradIdeal.main_arg0)
      ∧ r.2.mem ((c.tc : Thread Cert.MixNormGradIdeal.nD Cert.MixNormGradIdeal.τ).loc Cert.MixNormGradIdeal.main_arg1) = m ((c.tc : Thread Cert.MixNormGradIdeal.nD Cert.MixNormGradIdeal.τ).loc Cert.MixNormGradIdeal.main_arg1)
      ∧ r.2.mem ((c.tc : Thread Cert.MixNormGradIdeal.nD Cert.MixNormGradIdeal.τ).loc Cert.MixNormGradIdeal.main_arg2) = m ((c.tc : Thread Cert.MixNormGradIdeal.nD Cert.MixNormGradIdeal.τ).loc Cert.MixNormGradIdeal.main_arg2)
      ∧ r.2.mem ((c.tc : Thread Cert.MixNormGradIdeal.nD Cert.MixNormGradIdeal.τ).loc Cert.MixNormGradIdeal.main_arg3) = m ((c.tc : Thread Cert.MixNormGradIdeal.nD Cert.MixNormGradIdeal.τ).loc Cert.MixNormGradIdeal.main_arg3)
      ∧ r.2.mem ((c.tc : Thread Cert.MixNormGradIdeal.nD Cert.MixNormGradIdeal.τ).loc Cert.MixNormGradIdeal.main_arg4) = m ((c.tc : Thread Cert.MixNormGradIdeal.nD Cert.MixNormGradIdeal.τ).loc Cert.MixNormGradIdeal.main_arg4)
      ∧ r.2.mem ((c.tc : Thread Cert.MixNormGradIdeal.nD Cert.MixNormGradIdeal.τ).loc Cert.MixNormGradIdeal.main_arg5) = m ((c.tc : Thread Cert.MixNormGradIdeal.nD Cert.MixNormGradIdeal.τ).loc Cert.MixNormGradIdeal.main_arg5)
      ∧ r.2.mem ((c.tc : Thread Cert.MixNormGradIdeal.nD Cert.MixNormGradIdeal.τ).loc Cert.MixNormGradIdeal.main_arg6) = m ((c.tc : Thread Cert.MixNormGradIdeal.nD Cert.MixNormGradIdeal.τ).loc Cert.MixNormGradIdeal.main_arg6)
      ∧ r.2.mem ((c.tc : Thread Cert.MixNormGradIdeal.nD Cert.MixNormGradIdeal.τ).loc Cert.MixNormGradIdeal.main_arg7) = m ((c.tc : Thread Cert.MixNormGradIdeal.nD Cert.MixNormGradIdeal.τ).loc Cert.MixNormGradIdeal.main_arg7))
      ∧ r.2.sem = fun _ => 0)

def quiescent_MixNormGradIdeal_pre_finite_mix [hMixNormGradIdeal : Cert.MixNormGradIdeal.Facts] [hPre_finite_mix : Cert.Pre_finite_mix.Facts] : Prop :=
  ∀ (m : (ℓ : Loc Cert.MixNormGradIdeal.nD Cert.MixNormGradIdeal.τ Cert.MixNormGradIdeal.sig) → Buf (Elt Ideal) ℓ) (g : Dev Cert.MixNormGradIdeal.nD → PrngReg), Pre_MixNormGradIdeal_finite_mix m →
    θ_run (Cert.MixNormGradIdeal.defs (F := Ideal)) (onTc (τ := Cert.MixNormGradIdeal.τ) (Cert.MixNormGradIdeal.main (F := Ideal))) ⟨m, fun _ => 0, g⟩ (fun r => (∀ c : Dev Cert.MixNormGradIdeal.nD,
      r.2.mem ((c.tc : Thread Cert.MixNormGradIdeal.nD Cert.MixNormGradIdeal.τ).loc Cert.MixNormGradIdeal.main_arg0) = m ((c.tc : Thread Cert.MixNormGradIdeal.nD Cert.MixNormGradIdeal.τ).loc Cert.MixNormGradIdeal.main_arg0)
      ∧ r.2.mem ((c.tc : Thread Cert.MixNormGradIdeal.nD Cert.MixNormGradIdeal.τ).loc Cert.MixNormGradIdeal.main_arg1) = m ((c.tc : Thread Cert.MixNormGradIdeal.nD Cert.MixNormGradIdeal.τ).loc Cert.MixNormGradIdeal.main_arg1)
      ∧ r.2.mem ((c.tc : Thread Cert.MixNormGradIdeal.nD Cert.MixNormGradIdeal.τ).loc Cert.MixNormGradIdeal.main_arg2) = m ((c.tc : Thread Cert.MixNormGradIdeal.nD Cert.MixNormGradIdeal.τ).loc Cert.MixNormGradIdeal.main_arg2)
      ∧ r.2.mem ((c.tc : Thread Cert.MixNormGradIdeal.nD Cert.MixNormGradIdeal.τ).loc Cert.MixNormGradIdeal.main_arg3) = m ((c.tc : Thread Cert.MixNormGradIdeal.nD Cert.MixNormGradIdeal.τ).loc Cert.MixNormGradIdeal.main_arg3)
      ∧ r.2.mem ((c.tc : Thread Cert.MixNormGradIdeal.nD Cert.MixNormGradIdeal.τ).loc Cert.MixNormGradIdeal.main_arg4) = m ((c.tc : Thread Cert.MixNormGradIdeal.nD Cert.MixNormGradIdeal.τ).loc Cert.MixNormGradIdeal.main_arg4)
      ∧ r.2.mem ((c.tc : Thread Cert.MixNormGradIdeal.nD Cert.MixNormGradIdeal.τ).loc Cert.MixNormGradIdeal.main_arg5) = m ((c.tc : Thread Cert.MixNormGradIdeal.nD Cert.MixNormGradIdeal.τ).loc Cert.MixNormGradIdeal.main_arg5)
      ∧ r.2.mem ((c.tc : Thread Cert.MixNormGradIdeal.nD Cert.MixNormGradIdeal.τ).loc Cert.MixNormGradIdeal.main_arg6) = m ((c.tc : Thread Cert.MixNormGradIdeal.nD Cert.MixNormGradIdeal.τ).loc Cert.MixNormGradIdeal.main_arg6)
      ∧ r.2.mem ((c.tc : Thread Cert.MixNormGradIdeal.nD Cert.MixNormGradIdeal.τ).loc Cert.MixNormGradIdeal.main_arg7) = m ((c.tc : Thread Cert.MixNormGradIdeal.nD Cert.MixNormGradIdeal.τ).loc Cert.MixNormGradIdeal.main_arg7))
      ∧ r.2.sem = fun _ => 0)

def quiescent_MixNormGradReferenceIdeal [hMixNormGradReferenceIdeal : Cert.MixNormGradReferenceIdeal.Facts] : Prop :=
  ∀ (m : (ℓ : Loc Cert.MixNormGradReferenceIdeal.nD Cert.MixNormGradReferenceIdeal.τ Cert.MixNormGradReferenceIdeal.sig) → Buf (Elt Ideal) ℓ) (g : Dev Cert.MixNormGradReferenceIdeal.nD → PrngReg), Pre_MixNormGradReferenceIdeal m →
    θ_run (Cert.MixNormGradReferenceIdeal.defs (F := Ideal)) (onTc (τ := Cert.MixNormGradReferenceIdeal.τ) (Cert.MixNormGradReferenceIdeal.main (F := Ideal))) ⟨m, fun _ => 0, g⟩ (fun r => (∀ c : Dev Cert.MixNormGradReferenceIdeal.nD,
      r.2.mem ((c.tc : Thread Cert.MixNormGradReferenceIdeal.nD Cert.MixNormGradReferenceIdeal.τ).loc Cert.MixNormGradReferenceIdeal.main_arg0) = m ((c.tc : Thread Cert.MixNormGradReferenceIdeal.nD Cert.MixNormGradReferenceIdeal.τ).loc Cert.MixNormGradReferenceIdeal.main_arg0)
      ∧ r.2.mem ((c.tc : Thread Cert.MixNormGradReferenceIdeal.nD Cert.MixNormGradReferenceIdeal.τ).loc Cert.MixNormGradReferenceIdeal.main_arg1) = m ((c.tc : Thread Cert.MixNormGradReferenceIdeal.nD Cert.MixNormGradReferenceIdeal.τ).loc Cert.MixNormGradReferenceIdeal.main_arg1)
      ∧ r.2.mem ((c.tc : Thread Cert.MixNormGradReferenceIdeal.nD Cert.MixNormGradReferenceIdeal.τ).loc Cert.MixNormGradReferenceIdeal.main_arg2) = m ((c.tc : Thread Cert.MixNormGradReferenceIdeal.nD Cert.MixNormGradReferenceIdeal.τ).loc Cert.MixNormGradReferenceIdeal.main_arg2)
      ∧ r.2.mem ((c.tc : Thread Cert.MixNormGradReferenceIdeal.nD Cert.MixNormGradReferenceIdeal.τ).loc Cert.MixNormGradReferenceIdeal.main_arg3) = m ((c.tc : Thread Cert.MixNormGradReferenceIdeal.nD Cert.MixNormGradReferenceIdeal.τ).loc Cert.MixNormGradReferenceIdeal.main_arg3)
      ∧ r.2.mem ((c.tc : Thread Cert.MixNormGradReferenceIdeal.nD Cert.MixNormGradReferenceIdeal.τ).loc Cert.MixNormGradReferenceIdeal.main_arg4) = m ((c.tc : Thread Cert.MixNormGradReferenceIdeal.nD Cert.MixNormGradReferenceIdeal.τ).loc Cert.MixNormGradReferenceIdeal.main_arg4)
      ∧ r.2.mem ((c.tc : Thread Cert.MixNormGradReferenceIdeal.nD Cert.MixNormGradReferenceIdeal.τ).loc Cert.MixNormGradReferenceIdeal.main_arg5) = m ((c.tc : Thread Cert.MixNormGradReferenceIdeal.nD Cert.MixNormGradReferenceIdeal.τ).loc Cert.MixNormGradReferenceIdeal.main_arg5)
      ∧ r.2.mem ((c.tc : Thread Cert.MixNormGradReferenceIdeal.nD Cert.MixNormGradReferenceIdeal.τ).loc Cert.MixNormGradReferenceIdeal.main_arg6) = m ((c.tc : Thread Cert.MixNormGradReferenceIdeal.nD Cert.MixNormGradReferenceIdeal.τ).loc Cert.MixNormGradReferenceIdeal.main_arg6)
      ∧ r.2.mem ((c.tc : Thread Cert.MixNormGradReferenceIdeal.nD Cert.MixNormGradReferenceIdeal.τ).loc Cert.MixNormGradReferenceIdeal.main_arg7) = m ((c.tc : Thread Cert.MixNormGradReferenceIdeal.nD Cert.MixNormGradReferenceIdeal.τ).loc Cert.MixNormGradReferenceIdeal.main_arg7))
      ∧ r.2.sem = fun _ => 0)

def quiescent_MixNormGradReferenceIdeal_pre_finite_mix [hMixNormGradReferenceIdeal : Cert.MixNormGradReferenceIdeal.Facts] [hPre_finite_mix : Cert.Pre_finite_mix.Facts] : Prop :=
  ∀ (m : (ℓ : Loc Cert.MixNormGradReferenceIdeal.nD Cert.MixNormGradReferenceIdeal.τ Cert.MixNormGradReferenceIdeal.sig) → Buf (Elt Ideal) ℓ) (g : Dev Cert.MixNormGradReferenceIdeal.nD → PrngReg), Pre_MixNormGradReferenceIdeal_finite_mix m →
    θ_run (Cert.MixNormGradReferenceIdeal.defs (F := Ideal)) (onTc (τ := Cert.MixNormGradReferenceIdeal.τ) (Cert.MixNormGradReferenceIdeal.main (F := Ideal))) ⟨m, fun _ => 0, g⟩ (fun r => (∀ c : Dev Cert.MixNormGradReferenceIdeal.nD,
      r.2.mem ((c.tc : Thread Cert.MixNormGradReferenceIdeal.nD Cert.MixNormGradReferenceIdeal.τ).loc Cert.MixNormGradReferenceIdeal.main_arg0) = m ((c.tc : Thread Cert.MixNormGradReferenceIdeal.nD Cert.MixNormGradReferenceIdeal.τ).loc Cert.MixNormGradReferenceIdeal.main_arg0)
      ∧ r.2.mem ((c.tc : Thread Cert.MixNormGradReferenceIdeal.nD Cert.MixNormGradReferenceIdeal.τ).loc Cert.MixNormGradReferenceIdeal.main_arg1) = m ((c.tc : Thread Cert.MixNormGradReferenceIdeal.nD Cert.MixNormGradReferenceIdeal.τ).loc Cert.MixNormGradReferenceIdeal.main_arg1)
      ∧ r.2.mem ((c.tc : Thread Cert.MixNormGradReferenceIdeal.nD Cert.MixNormGradReferenceIdeal.τ).loc Cert.MixNormGradReferenceIdeal.main_arg2) = m ((c.tc : Thread Cert.MixNormGradReferenceIdeal.nD Cert.MixNormGradReferenceIdeal.τ).loc Cert.MixNormGradReferenceIdeal.main_arg2)
      ∧ r.2.mem ((c.tc : Thread Cert.MixNormGradReferenceIdeal.nD Cert.MixNormGradReferenceIdeal.τ).loc Cert.MixNormGradReferenceIdeal.main_arg3) = m ((c.tc : Thread Cert.MixNormGradReferenceIdeal.nD Cert.MixNormGradReferenceIdeal.τ).loc Cert.MixNormGradReferenceIdeal.main_arg3)
      ∧ r.2.mem ((c.tc : Thread Cert.MixNormGradReferenceIdeal.nD Cert.MixNormGradReferenceIdeal.τ).loc Cert.MixNormGradReferenceIdeal.main_arg4) = m ((c.tc : Thread Cert.MixNormGradReferenceIdeal.nD Cert.MixNormGradReferenceIdeal.τ).loc Cert.MixNormGradReferenceIdeal.main_arg4)
      ∧ r.2.mem ((c.tc : Thread Cert.MixNormGradReferenceIdeal.nD Cert.MixNormGradReferenceIdeal.τ).loc Cert.MixNormGradReferenceIdeal.main_arg5) = m ((c.tc : Thread Cert.MixNormGradReferenceIdeal.nD Cert.MixNormGradReferenceIdeal.τ).loc Cert.MixNormGradReferenceIdeal.main_arg5)
      ∧ r.2.mem ((c.tc : Thread Cert.MixNormGradReferenceIdeal.nD Cert.MixNormGradReferenceIdeal.τ).loc Cert.MixNormGradReferenceIdeal.main_arg6) = m ((c.tc : Thread Cert.MixNormGradReferenceIdeal.nD Cert.MixNormGradReferenceIdeal.τ).loc Cert.MixNormGradReferenceIdeal.main_arg6)
      ∧ r.2.mem ((c.tc : Thread Cert.MixNormGradReferenceIdeal.nD Cert.MixNormGradReferenceIdeal.τ).loc Cert.MixNormGradReferenceIdeal.main_arg7) = m ((c.tc : Thread Cert.MixNormGradReferenceIdeal.nD Cert.MixNormGradReferenceIdeal.τ).loc Cert.MixNormGradReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradReferenceIdeal [hOutWeightGradReferenceIdeal : Cert.OutWeightGradReferenceIdeal.Facts] : Prop :=
  ∀ (m : (ℓ : Loc Cert.OutWeightGradReferenceIdeal.nD Cert.OutWeightGradReferenceIdeal.τ Cert.OutWeightGradReferenceIdeal.sig) → Buf (Elt Ideal) ℓ) (g : Dev Cert.OutWeightGradReferenceIdeal.nD → PrngReg), Pre_OutWeightGradReferenceIdeal m →
    θ_run (Cert.OutWeightGradReferenceIdeal.defs (F := Ideal)) (onTc (τ := Cert.OutWeightGradReferenceIdeal.τ) (Cert.OutWeightGradReferenceIdeal.main (F := Ideal))) ⟨m, fun _ => 0, g⟩ (fun r => (∀ c : Dev Cert.OutWeightGradReferenceIdeal.nD,
      r.2.mem ((c.tc : Thread Cert.OutWeightGradReferenceIdeal.nD Cert.OutWeightGradReferenceIdeal.τ).loc Cert.OutWeightGradReferenceIdeal.main_arg0) = m ((c.tc : Thread Cert.OutWeightGradReferenceIdeal.nD Cert.OutWeightGradReferenceIdeal.τ).loc Cert.OutWeightGradReferenceIdeal.main_arg0)
      ∧ r.2.mem ((c.tc : Thread Cert.OutWeightGradReferenceIdeal.nD Cert.OutWeightGradReferenceIdeal.τ).loc Cert.OutWeightGradReferenceIdeal.main_arg1) = m ((c.tc : Thread Cert.OutWeightGradReferenceIdeal.nD Cert.OutWeightGradReferenceIdeal.τ).loc Cert.OutWeightGradReferenceIdeal.main_arg1))
      ∧ r.2.sem = fun _ => 0)

def quiescent_HalfNormGrad [hHalfNormGrad : Cert.HalfNormGrad.Facts] : Prop :=
  ∀ (m : (ℓ : Loc Cert.HalfNormGrad.nD Cert.HalfNormGrad.τ Cert.HalfNormGrad.sig) → Buf (Elt Bits) ℓ) (g : Dev Cert.HalfNormGrad.nD → PrngReg), Pre_HalfNormGrad m →
    θ_run (Cert.HalfNormGrad.defs (F := Bits)) (onTc (τ := Cert.HalfNormGrad.τ) (Cert.HalfNormGrad.main (F := Bits))) ⟨m, fun _ => 0, g⟩ (fun r => (∀ c : Dev Cert.HalfNormGrad.nD,
      r.2.mem ((c.tc : Thread Cert.HalfNormGrad.nD Cert.HalfNormGrad.τ).loc Cert.HalfNormGrad.main_arg0) = m ((c.tc : Thread Cert.HalfNormGrad.nD Cert.HalfNormGrad.τ).loc Cert.HalfNormGrad.main_arg0)
      ∧ r.2.mem ((c.tc : Thread Cert.HalfNormGrad.nD Cert.HalfNormGrad.τ).loc Cert.HalfNormGrad.main_arg1) = m ((c.tc : Thread Cert.HalfNormGrad.nD Cert.HalfNormGrad.τ).loc Cert.HalfNormGrad.main_arg1)
      ∧ r.2.mem ((c.tc : Thread Cert.HalfNormGrad.nD Cert.HalfNormGrad.τ).loc Cert.HalfNormGrad.main_arg2) = m ((c.tc : Thread Cert.HalfNormGrad.nD Cert.HalfNormGrad.τ).loc Cert.HalfNormGrad.main_arg2)
      ∧ r.2.mem ((c.tc : Thread Cert.HalfNormGrad.nD Cert.HalfNormGrad.τ).loc Cert.HalfNormGrad.main_arg3) = m ((c.tc : Thread Cert.HalfNormGrad.nD Cert.HalfNormGrad.τ).loc Cert.HalfNormGrad.main_arg3)
      ∧ r.2.mem ((c.tc : Thread Cert.HalfNormGrad.nD Cert.HalfNormGrad.τ).loc Cert.HalfNormGrad.main_arg4) = m ((c.tc : Thread Cert.HalfNormGrad.nD Cert.HalfNormGrad.τ).loc Cert.HalfNormGrad.main_arg4)
      ∧ r.2.mem ((c.tc : Thread Cert.HalfNormGrad.nD Cert.HalfNormGrad.τ).loc Cert.HalfNormGrad.main_arg5) = m ((c.tc : Thread Cert.HalfNormGrad.nD Cert.HalfNormGrad.τ).loc Cert.HalfNormGrad.main_arg5)
      ∧ r.2.mem ((c.tc : Thread Cert.HalfNormGrad.nD Cert.HalfNormGrad.τ).loc Cert.HalfNormGrad.main_arg6) = m ((c.tc : Thread Cert.HalfNormGrad.nD Cert.HalfNormGrad.τ).loc Cert.HalfNormGrad.main_arg6)
      ∧ r.2.mem ((c.tc : Thread Cert.HalfNormGrad.nD Cert.HalfNormGrad.τ).loc Cert.HalfNormGrad.main_arg7) = m ((c.tc : Thread Cert.HalfNormGrad.nD Cert.HalfNormGrad.τ).loc Cert.HalfNormGrad.main_arg7)
      ∧ r.2.mem ((c.tc : Thread Cert.HalfNormGrad.nD Cert.HalfNormGrad.τ).loc Cert.HalfNormGrad.main_arg8) = m ((c.tc : Thread Cert.HalfNormGrad.nD Cert.HalfNormGrad.τ).loc Cert.HalfNormGrad.main_arg8)
      ∧ r.2.mem ((c.tc : Thread Cert.HalfNormGrad.nD Cert.HalfNormGrad.τ).loc Cert.HalfNormGrad.main_arg9) = m ((c.tc : Thread Cert.HalfNormGrad.nD Cert.HalfNormGrad.τ).loc Cert.HalfNormGrad.main_arg9))
      ∧ r.2.sem = fun _ => 0)

def quiescent_HalfNormGradIdeal [hHalfNormGradIdeal : Cert.HalfNormGradIdeal.Facts] : Prop :=
  ∀ (m : (ℓ : Loc Cert.HalfNormGradIdeal.nD Cert.HalfNormGradIdeal.τ Cert.HalfNormGradIdeal.sig) → Buf (Elt Ideal) ℓ) (g : Dev Cert.HalfNormGradIdeal.nD → PrngReg), Pre_HalfNormGradIdeal m →
    θ_run (Cert.HalfNormGradIdeal.defs (F := Ideal)) (onTc (τ := Cert.HalfNormGradIdeal.τ) (Cert.HalfNormGradIdeal.main (F := Ideal))) ⟨m, fun _ => 0, g⟩ (fun r => (∀ c : Dev Cert.HalfNormGradIdeal.nD,
      r.2.mem ((c.tc : Thread Cert.HalfNormGradIdeal.nD Cert.HalfNormGradIdeal.τ).loc Cert.HalfNormGradIdeal.main_arg0) = m ((c.tc : Thread Cert.HalfNormGradIdeal.nD Cert.HalfNormGradIdeal.τ).loc Cert.HalfNormGradIdeal.main_arg0)
      ∧ r.2.mem ((c.tc : Thread Cert.HalfNormGradIdeal.nD Cert.HalfNormGradIdeal.τ).loc Cert.HalfNormGradIdeal.main_arg1) = m ((c.tc : Thread Cert.HalfNormGradIdeal.nD Cert.HalfNormGradIdeal.τ).loc Cert.HalfNormGradIdeal.main_arg1)
      ∧ r.2.mem ((c.tc : Thread Cert.HalfNormGradIdeal.nD Cert.HalfNormGradIdeal.τ).loc Cert.HalfNormGradIdeal.main_arg2) = m ((c.tc : Thread Cert.HalfNormGradIdeal.nD Cert.HalfNormGradIdeal.τ).loc Cert.HalfNormGradIdeal.main_arg2)
      ∧ r.2.mem ((c.tc : Thread Cert.HalfNormGradIdeal.nD Cert.HalfNormGradIdeal.τ).loc Cert.HalfNormGradIdeal.main_arg3) = m ((c.tc : Thread Cert.HalfNormGradIdeal.nD Cert.HalfNormGradIdeal.τ).loc Cert.HalfNormGradIdeal.main_arg3)
      ∧ r.2.mem ((c.tc : Thread Cert.HalfNormGradIdeal.nD Cert.HalfNormGradIdeal.τ).loc Cert.HalfNormGradIdeal.main_arg4) = m ((c.tc : Thread Cert.HalfNormGradIdeal.nD Cert.HalfNormGradIdeal.τ).loc Cert.HalfNormGradIdeal.main_arg4)
      ∧ r.2.mem ((c.tc : Thread Cert.HalfNormGradIdeal.nD Cert.HalfNormGradIdeal.τ).loc Cert.HalfNormGradIdeal.main_arg5) = m ((c.tc : Thread Cert.HalfNormGradIdeal.nD Cert.HalfNormGradIdeal.τ).loc Cert.HalfNormGradIdeal.main_arg5)
      ∧ r.2.mem ((c.tc : Thread Cert.HalfNormGradIdeal.nD Cert.HalfNormGradIdeal.τ).loc Cert.HalfNormGradIdeal.main_arg6) = m ((c.tc : Thread Cert.HalfNormGradIdeal.nD Cert.HalfNormGradIdeal.τ).loc Cert.HalfNormGradIdeal.main_arg6)
      ∧ r.2.mem ((c.tc : Thread Cert.HalfNormGradIdeal.nD Cert.HalfNormGradIdeal.τ).loc Cert.HalfNormGradIdeal.main_arg7) = m ((c.tc : Thread Cert.HalfNormGradIdeal.nD Cert.HalfNormGradIdeal.τ).loc Cert.HalfNormGradIdeal.main_arg7)
      ∧ r.2.mem ((c.tc : Thread Cert.HalfNormGradIdeal.nD Cert.HalfNormGradIdeal.τ).loc Cert.HalfNormGradIdeal.main_arg8) = m ((c.tc : Thread Cert.HalfNormGradIdeal.nD Cert.HalfNormGradIdeal.τ).loc Cert.HalfNormGradIdeal.main_arg8)
      ∧ r.2.mem ((c.tc : Thread Cert.HalfNormGradIdeal.nD Cert.HalfNormGradIdeal.τ).loc Cert.HalfNormGradIdeal.main_arg9) = m ((c.tc : Thread Cert.HalfNormGradIdeal.nD Cert.HalfNormGradIdeal.τ).loc Cert.HalfNormGradIdeal.main_arg9))
      ∧ r.2.sem = fun _ => 0)

def quiescent_HalfNormGradIdeal_pre_finite_norm [hHalfNormGradIdeal : Cert.HalfNormGradIdeal.Facts] [hPre_finite_norm : Cert.Pre_finite_norm.Facts] : Prop :=
  ∀ (m : (ℓ : Loc Cert.HalfNormGradIdeal.nD Cert.HalfNormGradIdeal.τ Cert.HalfNormGradIdeal.sig) → Buf (Elt Ideal) ℓ) (g : Dev Cert.HalfNormGradIdeal.nD → PrngReg), Pre_HalfNormGradIdeal_finite_norm m →
    θ_run (Cert.HalfNormGradIdeal.defs (F := Ideal)) (onTc (τ := Cert.HalfNormGradIdeal.τ) (Cert.HalfNormGradIdeal.main (F := Ideal))) ⟨m, fun _ => 0, g⟩ (fun r => (∀ c : Dev Cert.HalfNormGradIdeal.nD,
      r.2.mem ((c.tc : Thread Cert.HalfNormGradIdeal.nD Cert.HalfNormGradIdeal.τ).loc Cert.HalfNormGradIdeal.main_arg0) = m ((c.tc : Thread Cert.HalfNormGradIdeal.nD Cert.HalfNormGradIdeal.τ).loc Cert.HalfNormGradIdeal.main_arg0)
      ∧ r.2.mem ((c.tc : Thread Cert.HalfNormGradIdeal.nD Cert.HalfNormGradIdeal.τ).loc Cert.HalfNormGradIdeal.main_arg1) = m ((c.tc : Thread Cert.HalfNormGradIdeal.nD Cert.HalfNormGradIdeal.τ).loc Cert.HalfNormGradIdeal.main_arg1)
      ∧ r.2.mem ((c.tc : Thread Cert.HalfNormGradIdeal.nD Cert.HalfNormGradIdeal.τ).loc Cert.HalfNormGradIdeal.main_arg2) = m ((c.tc : Thread Cert.HalfNormGradIdeal.nD Cert.HalfNormGradIdeal.τ).loc Cert.HalfNormGradIdeal.main_arg2)
      ∧ r.2.mem ((c.tc : Thread Cert.HalfNormGradIdeal.nD Cert.HalfNormGradIdeal.τ).loc Cert.HalfNormGradIdeal.main_arg3) = m ((c.tc : Thread Cert.HalfNormGradIdeal.nD Cert.HalfNormGradIdeal.τ).loc Cert.HalfNormGradIdeal.main_arg3)
      ∧ r.2.mem ((c.tc : Thread Cert.HalfNormGradIdeal.nD Cert.HalfNormGradIdeal.τ).loc Cert.HalfNormGradIdeal.main_arg4) = m ((c.tc : Thread Cert.HalfNormGradIdeal.nD Cert.HalfNormGradIdeal.τ).loc Cert.HalfNormGradIdeal.main_arg4)
      ∧ r.2.mem ((c.tc : Thread Cert.HalfNormGradIdeal.nD Cert.HalfNormGradIdeal.τ).loc Cert.HalfNormGradIdeal.main_arg5) = m ((c.tc : Thread Cert.HalfNormGradIdeal.nD Cert.HalfNormGradIdeal.τ).loc Cert.HalfNormGradIdeal.main_arg5)
      ∧ r.2.mem ((c.tc : Thread Cert.HalfNormGradIdeal.nD Cert.HalfNormGradIdeal.τ).loc Cert.HalfNormGradIdeal.main_arg6) = m ((c.tc : Thread Cert.HalfNormGradIdeal.nD Cert.HalfNormGradIdeal.τ).loc Cert.HalfNormGradIdeal.main_arg6)
      ∧ r.2.mem ((c.tc : Thread Cert.HalfNormGradIdeal.nD Cert.HalfNormGradIdeal.τ).loc Cert.HalfNormGradIdeal.main_arg7) = m ((c.tc : Thread Cert.HalfNormGradIdeal.nD Cert.HalfNormGradIdeal.τ).loc Cert.HalfNormGradIdeal.main_arg7)
      ∧ r.2.mem ((c.tc : Thread Cert.HalfNormGradIdeal.nD Cert.HalfNormGradIdeal.τ).loc Cert.HalfNormGradIdeal.main_arg8) = m ((c.tc : Thread Cert.HalfNormGradIdeal.nD Cert.HalfNormGradIdeal.τ).loc Cert.HalfNormGradIdeal.main_arg8)
      ∧ r.2.mem ((c.tc : Thread Cert.HalfNormGradIdeal.nD Cert.HalfNormGradIdeal.τ).loc Cert.HalfNormGradIdeal.main_arg9) = m ((c.tc : Thread Cert.HalfNormGradIdeal.nD Cert.HalfNormGradIdeal.τ).loc Cert.HalfNormGradIdeal.main_arg9))
      ∧ r.2.sem = fun _ => 0)

def quiescent_HalfNormGradReferenceIdeal [hHalfNormGradReferenceIdeal : Cert.HalfNormGradReferenceIdeal.Facts] : Prop :=
  ∀ (m : (ℓ : Loc Cert.HalfNormGradReferenceIdeal.nD Cert.HalfNormGradReferenceIdeal.τ Cert.HalfNormGradReferenceIdeal.sig) → Buf (Elt Ideal) ℓ) (g : Dev Cert.HalfNormGradReferenceIdeal.nD → PrngReg), Pre_HalfNormGradReferenceIdeal m →
    θ_run (Cert.HalfNormGradReferenceIdeal.defs (F := Ideal)) (onTc (τ := Cert.HalfNormGradReferenceIdeal.τ) (Cert.HalfNormGradReferenceIdeal.main (F := Ideal))) ⟨m, fun _ => 0, g⟩ (fun r => (∀ c : Dev Cert.HalfNormGradReferenceIdeal.nD,
      r.2.mem ((c.tc : Thread Cert.HalfNormGradReferenceIdeal.nD Cert.HalfNormGradReferenceIdeal.τ).loc Cert.HalfNormGradReferenceIdeal.main_arg0) = m ((c.tc : Thread Cert.HalfNormGradReferenceIdeal.nD Cert.HalfNormGradReferenceIdeal.τ).loc Cert.HalfNormGradReferenceIdeal.main_arg0)
      ∧ r.2.mem ((c.tc : Thread Cert.HalfNormGradReferenceIdeal.nD Cert.HalfNormGradReferenceIdeal.τ).loc Cert.HalfNormGradReferenceIdeal.main_arg1) = m ((c.tc : Thread Cert.HalfNormGradReferenceIdeal.nD Cert.HalfNormGradReferenceIdeal.τ).loc Cert.HalfNormGradReferenceIdeal.main_arg1)
      ∧ r.2.mem ((c.tc : Thread Cert.HalfNormGradReferenceIdeal.nD Cert.HalfNormGradReferenceIdeal.τ).loc Cert.HalfNormGradReferenceIdeal.main_arg2) = m ((c.tc : Thread Cert.HalfNormGradReferenceIdeal.nD Cert.HalfNormGradReferenceIdeal.τ).loc Cert.HalfNormGradReferenceIdeal.main_arg2)
      ∧ r.2.mem ((c.tc : Thread Cert.HalfNormGradReferenceIdeal.nD Cert.HalfNormGradReferenceIdeal.τ).loc Cert.HalfNormGradReferenceIdeal.main_arg3) = m ((c.tc : Thread Cert.HalfNormGradReferenceIdeal.nD Cert.HalfNormGradReferenceIdeal.τ).loc Cert.HalfNormGradReferenceIdeal.main_arg3)
      ∧ r.2.mem ((c.tc : Thread Cert.HalfNormGradReferenceIdeal.nD Cert.HalfNormGradReferenceIdeal.τ).loc Cert.HalfNormGradReferenceIdeal.main_arg4) = m ((c.tc : Thread Cert.HalfNormGradReferenceIdeal.nD Cert.HalfNormGradReferenceIdeal.τ).loc Cert.HalfNormGradReferenceIdeal.main_arg4)
      ∧ r.2.mem ((c.tc : Thread Cert.HalfNormGradReferenceIdeal.nD Cert.HalfNormGradReferenceIdeal.τ).loc Cert.HalfNormGradReferenceIdeal.main_arg5) = m ((c.tc : Thread Cert.HalfNormGradReferenceIdeal.nD Cert.HalfNormGradReferenceIdeal.τ).loc Cert.HalfNormGradReferenceIdeal.main_arg5)
      ∧ r.2.mem ((c.tc : Thread Cert.HalfNormGradReferenceIdeal.nD Cert.HalfNormGradReferenceIdeal.τ).loc Cert.HalfNormGradReferenceIdeal.main_arg6) = m ((c.tc : Thread Cert.HalfNormGradReferenceIdeal.nD Cert.HalfNormGradReferenceIdeal.τ).loc Cert.HalfNormGradReferenceIdeal.main_arg6)
      ∧ r.2.mem ((c.tc : Thread Cert.HalfNormGradReferenceIdeal.nD Cert.HalfNormGradReferenceIdeal.τ).loc Cert.HalfNormGradReferenceIdeal.main_arg7) = m ((c.tc : Thread Cert.HalfNormGradReferenceIdeal.nD Cert.HalfNormGradReferenceIdeal.τ).loc Cert.HalfNormGradReferenceIdeal.main_arg7)
      ∧ r.2.mem ((c.tc : Thread Cert.HalfNormGradReferenceIdeal.nD Cert.HalfNormGradReferenceIdeal.τ).loc Cert.HalfNormGradReferenceIdeal.main_arg8) = m ((c.tc : Thread Cert.HalfNormGradReferenceIdeal.nD Cert.HalfNormGradReferenceIdeal.τ).loc Cert.HalfNormGradReferenceIdeal.main_arg8)
      ∧ r.2.mem ((c.tc : Thread Cert.HalfNormGradReferenceIdeal.nD Cert.HalfNormGradReferenceIdeal.τ).loc Cert.HalfNormGradReferenceIdeal.main_arg9) = m ((c.tc : Thread Cert.HalfNormGradReferenceIdeal.nD Cert.HalfNormGradReferenceIdeal.τ).loc Cert.HalfNormGradReferenceIdeal.main_arg9))
      ∧ r.2.sem = fun _ => 0)

def quiescent_HalfNormGradReferenceIdeal_pre_finite_norm [hHalfNormGradReferenceIdeal : Cert.HalfNormGradReferenceIdeal.Facts] [hPre_finite_norm : Cert.Pre_finite_norm.Facts] : Prop :=
  ∀ (m : (ℓ : Loc Cert.HalfNormGradReferenceIdeal.nD Cert.HalfNormGradReferenceIdeal.τ Cert.HalfNormGradReferenceIdeal.sig) → Buf (Elt Ideal) ℓ) (g : Dev Cert.HalfNormGradReferenceIdeal.nD → PrngReg), Pre_HalfNormGradReferenceIdeal_finite_norm m →
    θ_run (Cert.HalfNormGradReferenceIdeal.defs (F := Ideal)) (onTc (τ := Cert.HalfNormGradReferenceIdeal.τ) (Cert.HalfNormGradReferenceIdeal.main (F := Ideal))) ⟨m, fun _ => 0, g⟩ (fun r => (∀ c : Dev Cert.HalfNormGradReferenceIdeal.nD,
      r.2.mem ((c.tc : Thread Cert.HalfNormGradReferenceIdeal.nD Cert.HalfNormGradReferenceIdeal.τ).loc Cert.HalfNormGradReferenceIdeal.main_arg0) = m ((c.tc : Thread Cert.HalfNormGradReferenceIdeal.nD Cert.HalfNormGradReferenceIdeal.τ).loc Cert.HalfNormGradReferenceIdeal.main_arg0)
      ∧ r.2.mem ((c.tc : Thread Cert.HalfNormGradReferenceIdeal.nD Cert.HalfNormGradReferenceIdeal.τ).loc Cert.HalfNormGradReferenceIdeal.main_arg1) = m ((c.tc : Thread Cert.HalfNormGradReferenceIdeal.nD Cert.HalfNormGradReferenceIdeal.τ).loc Cert.HalfNormGradReferenceIdeal.main_arg1)
      ∧ r.2.mem ((c.tc : Thread Cert.HalfNormGradReferenceIdeal.nD Cert.HalfNormGradReferenceIdeal.τ).loc Cert.HalfNormGradReferenceIdeal.main_arg2) = m ((c.tc : Thread Cert.HalfNormGradReferenceIdeal.nD Cert.HalfNormGradReferenceIdeal.τ).loc Cert.HalfNormGradReferenceIdeal.main_arg2)
      ∧ r.2.mem ((c.tc : Thread Cert.HalfNormGradReferenceIdeal.nD Cert.HalfNormGradReferenceIdeal.τ).loc Cert.HalfNormGradReferenceIdeal.main_arg3) = m ((c.tc : Thread Cert.HalfNormGradReferenceIdeal.nD Cert.HalfNormGradReferenceIdeal.τ).loc Cert.HalfNormGradReferenceIdeal.main_arg3)
      ∧ r.2.mem ((c.tc : Thread Cert.HalfNormGradReferenceIdeal.nD Cert.HalfNormGradReferenceIdeal.τ).loc Cert.HalfNormGradReferenceIdeal.main_arg4) = m ((c.tc : Thread Cert.HalfNormGradReferenceIdeal.nD Cert.HalfNormGradReferenceIdeal.τ).loc Cert.HalfNormGradReferenceIdeal.main_arg4)
      ∧ r.2.mem ((c.tc : Thread Cert.HalfNormGradReferenceIdeal.nD Cert.HalfNormGradReferenceIdeal.τ).loc Cert.HalfNormGradReferenceIdeal.main_arg5) = m ((c.tc : Thread Cert.HalfNormGradReferenceIdeal.nD Cert.HalfNormGradReferenceIdeal.τ).loc Cert.HalfNormGradReferenceIdeal.main_arg5)
      ∧ r.2.mem ((c.tc : Thread Cert.HalfNormGradReferenceIdeal.nD Cert.HalfNormGradReferenceIdeal.τ).loc Cert.HalfNormGradReferenceIdeal.main_arg6) = m ((c.tc : Thread Cert.HalfNormGradReferenceIdeal.nD Cert.HalfNormGradReferenceIdeal.τ).loc Cert.HalfNormGradReferenceIdeal.main_arg6)
      ∧ r.2.mem ((c.tc : Thread Cert.HalfNormGradReferenceIdeal.nD Cert.HalfNormGradReferenceIdeal.τ).loc Cert.HalfNormGradReferenceIdeal.main_arg7) = m ((c.tc : Thread Cert.HalfNormGradReferenceIdeal.nD Cert.HalfNormGradReferenceIdeal.τ).loc Cert.HalfNormGradReferenceIdeal.main_arg7)
      ∧ r.2.mem ((c.tc : Thread Cert.HalfNormGradReferenceIdeal.nD Cert.HalfNormGradReferenceIdeal.τ).loc Cert.HalfNormGradReferenceIdeal.main_arg8) = m ((c.tc : Thread Cert.HalfNormGradReferenceIdeal.nD Cert.HalfNormGradReferenceIdeal.τ).loc Cert.HalfNormGradReferenceIdeal.main_arg8)
      ∧ r.2.mem ((c.tc : Thread Cert.HalfNormGradReferenceIdeal.nD Cert.HalfNormGradReferenceIdeal.τ).loc Cert.HalfNormGradReferenceIdeal.main_arg9) = m ((c.tc : Thread Cert.HalfNormGradReferenceIdeal.nD Cert.HalfNormGradReferenceIdeal.τ).loc Cert.HalfNormGradReferenceIdeal.main_arg9))
      ∧ r.2.sem = fun _ => 0)

def quiescent_LastNormGrad [hLastNormGrad : Cert.LastNormGrad.Facts] : Prop :=
  ∀ (m : (ℓ : Loc Cert.LastNormGrad.nD Cert.LastNormGrad.τ Cert.LastNormGrad.sig) → Buf (Elt Bits) ℓ) (g : Dev Cert.LastNormGrad.nD → PrngReg), Pre_LastNormGrad m →
    θ_run (Cert.LastNormGrad.defs (F := Bits)) (onTc (τ := Cert.LastNormGrad.τ) (Cert.LastNormGrad.main (F := Bits))) ⟨m, fun _ => 0, g⟩ (fun r => (∀ c : Dev Cert.LastNormGrad.nD,
      r.2.mem ((c.tc : Thread Cert.LastNormGrad.nD Cert.LastNormGrad.τ).loc Cert.LastNormGrad.main_arg0) = m ((c.tc : Thread Cert.LastNormGrad.nD Cert.LastNormGrad.τ).loc Cert.LastNormGrad.main_arg0)
      ∧ r.2.mem ((c.tc : Thread Cert.LastNormGrad.nD Cert.LastNormGrad.τ).loc Cert.LastNormGrad.main_arg1) = m ((c.tc : Thread Cert.LastNormGrad.nD Cert.LastNormGrad.τ).loc Cert.LastNormGrad.main_arg1)
      ∧ r.2.mem ((c.tc : Thread Cert.LastNormGrad.nD Cert.LastNormGrad.τ).loc Cert.LastNormGrad.main_arg2) = m ((c.tc : Thread Cert.LastNormGrad.nD Cert.LastNormGrad.τ).loc Cert.LastNormGrad.main_arg2)
      ∧ r.2.mem ((c.tc : Thread Cert.LastNormGrad.nD Cert.LastNormGrad.τ).loc Cert.LastNormGrad.main_arg3) = m ((c.tc : Thread Cert.LastNormGrad.nD Cert.LastNormGrad.τ).loc Cert.LastNormGrad.main_arg3)
      ∧ r.2.mem ((c.tc : Thread Cert.LastNormGrad.nD Cert.LastNormGrad.τ).loc Cert.LastNormGrad.main_arg4) = m ((c.tc : Thread Cert.LastNormGrad.nD Cert.LastNormGrad.τ).loc Cert.LastNormGrad.main_arg4)
      ∧ r.2.mem ((c.tc : Thread Cert.LastNormGrad.nD Cert.LastNormGrad.τ).loc Cert.LastNormGrad.main_arg5) = m ((c.tc : Thread Cert.LastNormGrad.nD Cert.LastNormGrad.τ).loc Cert.LastNormGrad.main_arg5)
      ∧ r.2.mem ((c.tc : Thread Cert.LastNormGrad.nD Cert.LastNormGrad.τ).loc Cert.LastNormGrad.main_arg6) = m ((c.tc : Thread Cert.LastNormGrad.nD Cert.LastNormGrad.τ).loc Cert.LastNormGrad.main_arg6)
      ∧ r.2.mem ((c.tc : Thread Cert.LastNormGrad.nD Cert.LastNormGrad.τ).loc Cert.LastNormGrad.main_arg7) = m ((c.tc : Thread Cert.LastNormGrad.nD Cert.LastNormGrad.τ).loc Cert.LastNormGrad.main_arg7))
      ∧ r.2.sem = fun _ => 0)

def quiescent_LastNormGradIdeal [hLastNormGradIdeal : Cert.LastNormGradIdeal.Facts] : Prop :=
  ∀ (m : (ℓ : Loc Cert.LastNormGradIdeal.nD Cert.LastNormGradIdeal.τ Cert.LastNormGradIdeal.sig) → Buf (Elt Ideal) ℓ) (g : Dev Cert.LastNormGradIdeal.nD → PrngReg), Pre_LastNormGradIdeal m →
    θ_run (Cert.LastNormGradIdeal.defs (F := Ideal)) (onTc (τ := Cert.LastNormGradIdeal.τ) (Cert.LastNormGradIdeal.main (F := Ideal))) ⟨m, fun _ => 0, g⟩ (fun r => (∀ c : Dev Cert.LastNormGradIdeal.nD,
      r.2.mem ((c.tc : Thread Cert.LastNormGradIdeal.nD Cert.LastNormGradIdeal.τ).loc Cert.LastNormGradIdeal.main_arg0) = m ((c.tc : Thread Cert.LastNormGradIdeal.nD Cert.LastNormGradIdeal.τ).loc Cert.LastNormGradIdeal.main_arg0)
      ∧ r.2.mem ((c.tc : Thread Cert.LastNormGradIdeal.nD Cert.LastNormGradIdeal.τ).loc Cert.LastNormGradIdeal.main_arg1) = m ((c.tc : Thread Cert.LastNormGradIdeal.nD Cert.LastNormGradIdeal.τ).loc Cert.LastNormGradIdeal.main_arg1)
      ∧ r.2.mem ((c.tc : Thread Cert.LastNormGradIdeal.nD Cert.LastNormGradIdeal.τ).loc Cert.LastNormGradIdeal.main_arg2) = m ((c.tc : Thread Cert.LastNormGradIdeal.nD Cert.LastNormGradIdeal.τ).loc Cert.LastNormGradIdeal.main_arg2)
      ∧ r.2.mem ((c.tc : Thread Cert.LastNormGradIdeal.nD Cert.LastNormGradIdeal.τ).loc Cert.LastNormGradIdeal.main_arg3) = m ((c.tc : Thread Cert.LastNormGradIdeal.nD Cert.LastNormGradIdeal.τ).loc Cert.LastNormGradIdeal.main_arg3)
      ∧ r.2.mem ((c.tc : Thread Cert.LastNormGradIdeal.nD Cert.LastNormGradIdeal.τ).loc Cert.LastNormGradIdeal.main_arg4) = m ((c.tc : Thread Cert.LastNormGradIdeal.nD Cert.LastNormGradIdeal.τ).loc Cert.LastNormGradIdeal.main_arg4)
      ∧ r.2.mem ((c.tc : Thread Cert.LastNormGradIdeal.nD Cert.LastNormGradIdeal.τ).loc Cert.LastNormGradIdeal.main_arg5) = m ((c.tc : Thread Cert.LastNormGradIdeal.nD Cert.LastNormGradIdeal.τ).loc Cert.LastNormGradIdeal.main_arg5)
      ∧ r.2.mem ((c.tc : Thread Cert.LastNormGradIdeal.nD Cert.LastNormGradIdeal.τ).loc Cert.LastNormGradIdeal.main_arg6) = m ((c.tc : Thread Cert.LastNormGradIdeal.nD Cert.LastNormGradIdeal.τ).loc Cert.LastNormGradIdeal.main_arg6)
      ∧ r.2.mem ((c.tc : Thread Cert.LastNormGradIdeal.nD Cert.LastNormGradIdeal.τ).loc Cert.LastNormGradIdeal.main_arg7) = m ((c.tc : Thread Cert.LastNormGradIdeal.nD Cert.LastNormGradIdeal.τ).loc Cert.LastNormGradIdeal.main_arg7))
      ∧ r.2.sem = fun _ => 0)

def quiescent_LastNormGradIdeal_pre_finite_last [hLastNormGradIdeal : Cert.LastNormGradIdeal.Facts] [hPre_finite_last : Cert.Pre_finite_last.Facts] : Prop :=
  ∀ (m : (ℓ : Loc Cert.LastNormGradIdeal.nD Cert.LastNormGradIdeal.τ Cert.LastNormGradIdeal.sig) → Buf (Elt Ideal) ℓ) (g : Dev Cert.LastNormGradIdeal.nD → PrngReg), Pre_LastNormGradIdeal_finite_last m →
    θ_run (Cert.LastNormGradIdeal.defs (F := Ideal)) (onTc (τ := Cert.LastNormGradIdeal.τ) (Cert.LastNormGradIdeal.main (F := Ideal))) ⟨m, fun _ => 0, g⟩ (fun r => (∀ c : Dev Cert.LastNormGradIdeal.nD,
      r.2.mem ((c.tc : Thread Cert.LastNormGradIdeal.nD Cert.LastNormGradIdeal.τ).loc Cert.LastNormGradIdeal.main_arg0) = m ((c.tc : Thread Cert.LastNormGradIdeal.nD Cert.LastNormGradIdeal.τ).loc Cert.LastNormGradIdeal.main_arg0)
      ∧ r.2.mem ((c.tc : Thread Cert.LastNormGradIdeal.nD Cert.LastNormGradIdeal.τ).loc Cert.LastNormGradIdeal.main_arg1) = m ((c.tc : Thread Cert.LastNormGradIdeal.nD Cert.LastNormGradIdeal.τ).loc Cert.LastNormGradIdeal.main_arg1)
      ∧ r.2.mem ((c.tc : Thread Cert.LastNormGradIdeal.nD Cert.LastNormGradIdeal.τ).loc Cert.LastNormGradIdeal.main_arg2) = m ((c.tc : Thread Cert.LastNormGradIdeal.nD Cert.LastNormGradIdeal.τ).loc Cert.LastNormGradIdeal.main_arg2)
      ∧ r.2.mem ((c.tc : Thread Cert.LastNormGradIdeal.nD Cert.LastNormGradIdeal.τ).loc Cert.LastNormGradIdeal.main_arg3) = m ((c.tc : Thread Cert.LastNormGradIdeal.nD Cert.LastNormGradIdeal.τ).loc Cert.LastNormGradIdeal.main_arg3)
      ∧ r.2.mem ((c.tc : Thread Cert.LastNormGradIdeal.nD Cert.LastNormGradIdeal.τ).loc Cert.LastNormGradIdeal.main_arg4) = m ((c.tc : Thread Cert.LastNormGradIdeal.nD Cert.LastNormGradIdeal.τ).loc Cert.LastNormGradIdeal.main_arg4)
      ∧ r.2.mem ((c.tc : Thread Cert.LastNormGradIdeal.nD Cert.LastNormGradIdeal.τ).loc Cert.LastNormGradIdeal.main_arg5) = m ((c.tc : Thread Cert.LastNormGradIdeal.nD Cert.LastNormGradIdeal.τ).loc Cert.LastNormGradIdeal.main_arg5)
      ∧ r.2.mem ((c.tc : Thread Cert.LastNormGradIdeal.nD Cert.LastNormGradIdeal.τ).loc Cert.LastNormGradIdeal.main_arg6) = m ((c.tc : Thread Cert.LastNormGradIdeal.nD Cert.LastNormGradIdeal.τ).loc Cert.LastNormGradIdeal.main_arg6)
      ∧ r.2.mem ((c.tc : Thread Cert.LastNormGradIdeal.nD Cert.LastNormGradIdeal.τ).loc Cert.LastNormGradIdeal.main_arg7) = m ((c.tc : Thread Cert.LastNormGradIdeal.nD Cert.LastNormGradIdeal.τ).loc Cert.LastNormGradIdeal.main_arg7))
      ∧ r.2.sem = fun _ => 0)

def quiescent_LastNormGradReferenceIdeal [hLastNormGradReferenceIdeal : Cert.LastNormGradReferenceIdeal.Facts] : Prop :=
  ∀ (m : (ℓ : Loc Cert.LastNormGradReferenceIdeal.nD Cert.LastNormGradReferenceIdeal.τ Cert.LastNormGradReferenceIdeal.sig) → Buf (Elt Ideal) ℓ) (g : Dev Cert.LastNormGradReferenceIdeal.nD → PrngReg), Pre_LastNormGradReferenceIdeal m →
    θ_run (Cert.LastNormGradReferenceIdeal.defs (F := Ideal)) (onTc (τ := Cert.LastNormGradReferenceIdeal.τ) (Cert.LastNormGradReferenceIdeal.main (F := Ideal))) ⟨m, fun _ => 0, g⟩ (fun r => (∀ c : Dev Cert.LastNormGradReferenceIdeal.nD,
      r.2.mem ((c.tc : Thread Cert.LastNormGradReferenceIdeal.nD Cert.LastNormGradReferenceIdeal.τ).loc Cert.LastNormGradReferenceIdeal.main_arg0) = m ((c.tc : Thread Cert.LastNormGradReferenceIdeal.nD Cert.LastNormGradReferenceIdeal.τ).loc Cert.LastNormGradReferenceIdeal.main_arg0)
      ∧ r.2.mem ((c.tc : Thread Cert.LastNormGradReferenceIdeal.nD Cert.LastNormGradReferenceIdeal.τ).loc Cert.LastNormGradReferenceIdeal.main_arg1) = m ((c.tc : Thread Cert.LastNormGradReferenceIdeal.nD Cert.LastNormGradReferenceIdeal.τ).loc Cert.LastNormGradReferenceIdeal.main_arg1)
      ∧ r.2.mem ((c.tc : Thread Cert.LastNormGradReferenceIdeal.nD Cert.LastNormGradReferenceIdeal.τ).loc Cert.LastNormGradReferenceIdeal.main_arg2) = m ((c.tc : Thread Cert.LastNormGradReferenceIdeal.nD Cert.LastNormGradReferenceIdeal.τ).loc Cert.LastNormGradReferenceIdeal.main_arg2)
      ∧ r.2.mem ((c.tc : Thread Cert.LastNormGradReferenceIdeal.nD Cert.LastNormGradReferenceIdeal.τ).loc Cert.LastNormGradReferenceIdeal.main_arg3) = m ((c.tc : Thread Cert.LastNormGradReferenceIdeal.nD Cert.LastNormGradReferenceIdeal.τ).loc Cert.LastNormGradReferenceIdeal.main_arg3)
      ∧ r.2.mem ((c.tc : Thread Cert.LastNormGradReferenceIdeal.nD Cert.LastNormGradReferenceIdeal.τ).loc Cert.LastNormGradReferenceIdeal.main_arg4) = m ((c.tc : Thread Cert.LastNormGradReferenceIdeal.nD Cert.LastNormGradReferenceIdeal.τ).loc Cert.LastNormGradReferenceIdeal.main_arg4)
      ∧ r.2.mem ((c.tc : Thread Cert.LastNormGradReferenceIdeal.nD Cert.LastNormGradReferenceIdeal.τ).loc Cert.LastNormGradReferenceIdeal.main_arg5) = m ((c.tc : Thread Cert.LastNormGradReferenceIdeal.nD Cert.LastNormGradReferenceIdeal.τ).loc Cert.LastNormGradReferenceIdeal.main_arg5)
      ∧ r.2.mem ((c.tc : Thread Cert.LastNormGradReferenceIdeal.nD Cert.LastNormGradReferenceIdeal.τ).loc Cert.LastNormGradReferenceIdeal.main_arg6) = m ((c.tc : Thread Cert.LastNormGradReferenceIdeal.nD Cert.LastNormGradReferenceIdeal.τ).loc Cert.LastNormGradReferenceIdeal.main_arg6)
      ∧ r.2.mem ((c.tc : Thread Cert.LastNormGradReferenceIdeal.nD Cert.LastNormGradReferenceIdeal.τ).loc Cert.LastNormGradReferenceIdeal.main_arg7) = m ((c.tc : Thread Cert.LastNormGradReferenceIdeal.nD Cert.LastNormGradReferenceIdeal.τ).loc Cert.LastNormGradReferenceIdeal.main_arg7))
      ∧ r.2.sem = fun _ => 0)

def quiescent_LastNormGradReferenceIdeal_pre_finite_last [hLastNormGradReferenceIdeal : Cert.LastNormGradReferenceIdeal.Facts] [hPre_finite_last : Cert.Pre_finite_last.Facts] : Prop :=
  ∀ (m : (ℓ : Loc Cert.LastNormGradReferenceIdeal.nD Cert.LastNormGradReferenceIdeal.τ Cert.LastNormGradReferenceIdeal.sig) → Buf (Elt Ideal) ℓ) (g : Dev Cert.LastNormGradReferenceIdeal.nD → PrngReg), Pre_LastNormGradReferenceIdeal_finite_last m →
    θ_run (Cert.LastNormGradReferenceIdeal.defs (F := Ideal)) (onTc (τ := Cert.LastNormGradReferenceIdeal.τ) (Cert.LastNormGradReferenceIdeal.main (F := Ideal))) ⟨m, fun _ => 0, g⟩ (fun r => (∀ c : Dev Cert.LastNormGradReferenceIdeal.nD,
      r.2.mem ((c.tc : Thread Cert.LastNormGradReferenceIdeal.nD Cert.LastNormGradReferenceIdeal.τ).loc Cert.LastNormGradReferenceIdeal.main_arg0) = m ((c.tc : Thread Cert.LastNormGradReferenceIdeal.nD Cert.LastNormGradReferenceIdeal.τ).loc Cert.LastNormGradReferenceIdeal.main_arg0)
      ∧ r.2.mem ((c.tc : Thread Cert.LastNormGradReferenceIdeal.nD Cert.LastNormGradReferenceIdeal.τ).loc Cert.LastNormGradReferenceIdeal.main_arg1) = m ((c.tc : Thread Cert.LastNormGradReferenceIdeal.nD Cert.LastNormGradReferenceIdeal.τ).loc Cert.LastNormGradReferenceIdeal.main_arg1)
      ∧ r.2.mem ((c.tc : Thread Cert.LastNormGradReferenceIdeal.nD Cert.LastNormGradReferenceIdeal.τ).loc Cert.LastNormGradReferenceIdeal.main_arg2) = m ((c.tc : Thread Cert.LastNormGradReferenceIdeal.nD Cert.LastNormGradReferenceIdeal.τ).loc Cert.LastNormGradReferenceIdeal.main_arg2)
      ∧ r.2.mem ((c.tc : Thread Cert.LastNormGradReferenceIdeal.nD Cert.LastNormGradReferenceIdeal.τ).loc Cert.LastNormGradReferenceIdeal.main_arg3) = m ((c.tc : Thread Cert.LastNormGradReferenceIdeal.nD Cert.LastNormGradReferenceIdeal.τ).loc Cert.LastNormGradReferenceIdeal.main_arg3)
      ∧ r.2.mem ((c.tc : Thread Cert.LastNormGradReferenceIdeal.nD Cert.LastNormGradReferenceIdeal.τ).loc Cert.LastNormGradReferenceIdeal.main_arg4) = m ((c.tc : Thread Cert.LastNormGradReferenceIdeal.nD Cert.LastNormGradReferenceIdeal.τ).loc Cert.LastNormGradReferenceIdeal.main_arg4)
      ∧ r.2.mem ((c.tc : Thread Cert.LastNormGradReferenceIdeal.nD Cert.LastNormGradReferenceIdeal.τ).loc Cert.LastNormGradReferenceIdeal.main_arg5) = m ((c.tc : Thread Cert.LastNormGradReferenceIdeal.nD Cert.LastNormGradReferenceIdeal.τ).loc Cert.LastNormGradReferenceIdeal.main_arg5)
      ∧ r.2.mem ((c.tc : Thread Cert.LastNormGradReferenceIdeal.nD Cert.LastNormGradReferenceIdeal.τ).loc Cert.LastNormGradReferenceIdeal.main_arg6) = m ((c.tc : Thread Cert.LastNormGradReferenceIdeal.nD Cert.LastNormGradReferenceIdeal.τ).loc Cert.LastNormGradReferenceIdeal.main_arg6)
      ∧ r.2.mem ((c.tc : Thread Cert.LastNormGradReferenceIdeal.nD Cert.LastNormGradReferenceIdeal.τ).loc Cert.LastNormGradReferenceIdeal.main_arg7) = m ((c.tc : Thread Cert.LastNormGradReferenceIdeal.nD Cert.LastNormGradReferenceIdeal.τ).loc Cert.LastNormGradReferenceIdeal.main_arg7))
      ∧ r.2.sem = fun _ => 0)

def quiescent_SbForward [hSbForward : Cert.SbForward.Facts] : Prop :=
  ∀ (m : (ℓ : Loc Cert.SbForward.nD Cert.SbForward.τ Cert.SbForward.sig) → Buf (Elt Bits) ℓ) (g : Dev Cert.SbForward.nD → PrngReg), Pre_SbForward m →
    θ_run (Cert.SbForward.defs (F := Bits)) (onTc (τ := Cert.SbForward.τ) (Cert.SbForward.main (F := Bits))) ⟨m, fun _ => 0, g⟩ (fun r => (∀ c : Dev Cert.SbForward.nD,
      r.2.mem ((c.tc : Thread Cert.SbForward.nD Cert.SbForward.τ).loc Cert.SbForward.main_arg0) = m ((c.tc : Thread Cert.SbForward.nD Cert.SbForward.τ).loc Cert.SbForward.main_arg0)
      ∧ r.2.mem ((c.tc : Thread Cert.SbForward.nD Cert.SbForward.τ).loc Cert.SbForward.main_arg1) = m ((c.tc : Thread Cert.SbForward.nD Cert.SbForward.τ).loc Cert.SbForward.main_arg1)
      ∧ r.2.mem ((c.tc : Thread Cert.SbForward.nD Cert.SbForward.τ).loc Cert.SbForward.main_arg2) = m ((c.tc : Thread Cert.SbForward.nD Cert.SbForward.τ).loc Cert.SbForward.main_arg2))
      ∧ r.2.sem = fun _ => 0)

def quiescent_SbForwardIdeal [hSbForwardIdeal : Cert.SbForwardIdeal.Facts] : Prop :=
  ∀ (m : (ℓ : Loc Cert.SbForwardIdeal.nD Cert.SbForwardIdeal.τ Cert.SbForwardIdeal.sig) → Buf (Elt Ideal) ℓ) (g : Dev Cert.SbForwardIdeal.nD → PrngReg), Pre_SbForwardIdeal m →
    θ_run (Cert.SbForwardIdeal.defs (F := Ideal)) (onTc (τ := Cert.SbForwardIdeal.τ) (Cert.SbForwardIdeal.main (F := Ideal))) ⟨m, fun _ => 0, g⟩ (fun r => (∀ c : Dev Cert.SbForwardIdeal.nD,
      r.2.mem ((c.tc : Thread Cert.SbForwardIdeal.nD Cert.SbForwardIdeal.τ).loc Cert.SbForwardIdeal.main_arg0) = m ((c.tc : Thread Cert.SbForwardIdeal.nD Cert.SbForwardIdeal.τ).loc Cert.SbForwardIdeal.main_arg0)
      ∧ r.2.mem ((c.tc : Thread Cert.SbForwardIdeal.nD Cert.SbForwardIdeal.τ).loc Cert.SbForwardIdeal.main_arg1) = m ((c.tc : Thread Cert.SbForwardIdeal.nD Cert.SbForwardIdeal.τ).loc Cert.SbForwardIdeal.main_arg1)
      ∧ r.2.mem ((c.tc : Thread Cert.SbForwardIdeal.nD Cert.SbForwardIdeal.τ).loc Cert.SbForwardIdeal.main_arg2) = m ((c.tc : Thread Cert.SbForwardIdeal.nD Cert.SbForwardIdeal.τ).loc Cert.SbForwardIdeal.main_arg2))
      ∧ r.2.sem = fun _ => 0)

def quiescent_SbForwardIdeal_pre_finite_forward [hSbForwardIdeal : Cert.SbForwardIdeal.Facts] [hPre_finite_forward : Cert.Pre_finite_forward.Facts] : Prop :=
  ∀ (m : (ℓ : Loc Cert.SbForwardIdeal.nD Cert.SbForwardIdeal.τ Cert.SbForwardIdeal.sig) → Buf (Elt Ideal) ℓ) (g : Dev Cert.SbForwardIdeal.nD → PrngReg), Pre_SbForwardIdeal_finite_forward m →
    θ_run (Cert.SbForwardIdeal.defs (F := Ideal)) (onTc (τ := Cert.SbForwardIdeal.τ) (Cert.SbForwardIdeal.main (F := Ideal))) ⟨m, fun _ => 0, g⟩ (fun r => (∀ c : Dev Cert.SbForwardIdeal.nD,
      r.2.mem ((c.tc : Thread Cert.SbForwardIdeal.nD Cert.SbForwardIdeal.τ).loc Cert.SbForwardIdeal.main_arg0) = m ((c.tc : Thread Cert.SbForwardIdeal.nD Cert.SbForwardIdeal.τ).loc Cert.SbForwardIdeal.main_arg0)
      ∧ r.2.mem ((c.tc : Thread Cert.SbForwardIdeal.nD Cert.SbForwardIdeal.τ).loc Cert.SbForwardIdeal.main_arg1) = m ((c.tc : Thread Cert.SbForwardIdeal.nD Cert.SbForwardIdeal.τ).loc Cert.SbForwardIdeal.main_arg1)
      ∧ r.2.mem ((c.tc : Thread Cert.SbForwardIdeal.nD Cert.SbForwardIdeal.τ).loc Cert.SbForwardIdeal.main_arg2) = m ((c.tc : Thread Cert.SbForwardIdeal.nD Cert.SbForwardIdeal.τ).loc Cert.SbForwardIdeal.main_arg2))
      ∧ r.2.sem = fun _ => 0)

def quiescent_SbForwardReferenceIdeal [hSbForwardReferenceIdeal : Cert.SbForwardReferenceIdeal.Facts] : Prop :=
  ∀ (m : (ℓ : Loc Cert.SbForwardReferenceIdeal.nD Cert.SbForwardReferenceIdeal.τ Cert.SbForwardReferenceIdeal.sig) → Buf (Elt Ideal) ℓ) (g : Dev Cert.SbForwardReferenceIdeal.nD → PrngReg), Pre_SbForwardReferenceIdeal m →
    θ_run (Cert.SbForwardReferenceIdeal.defs (F := Ideal)) (onTc (τ := Cert.SbForwardReferenceIdeal.τ) (Cert.SbForwardReferenceIdeal.main (F := Ideal))) ⟨m, fun _ => 0, g⟩ (fun r => (∀ c : Dev Cert.SbForwardReferenceIdeal.nD,
      r.2.mem ((c.tc : Thread Cert.SbForwardReferenceIdeal.nD Cert.SbForwardReferenceIdeal.τ).loc Cert.SbForwardReferenceIdeal.main_arg0) = m ((c.tc : Thread Cert.SbForwardReferenceIdeal.nD Cert.SbForwardReferenceIdeal.τ).loc Cert.SbForwardReferenceIdeal.main_arg0)
      ∧ r.2.mem ((c.tc : Thread Cert.SbForwardReferenceIdeal.nD Cert.SbForwardReferenceIdeal.τ).loc Cert.SbForwardReferenceIdeal.main_arg1) = m ((c.tc : Thread Cert.SbForwardReferenceIdeal.nD Cert.SbForwardReferenceIdeal.τ).loc Cert.SbForwardReferenceIdeal.main_arg1)
      ∧ r.2.mem ((c.tc : Thread Cert.SbForwardReferenceIdeal.nD Cert.SbForwardReferenceIdeal.τ).loc Cert.SbForwardReferenceIdeal.main_arg2) = m ((c.tc : Thread Cert.SbForwardReferenceIdeal.nD Cert.SbForwardReferenceIdeal.τ).loc Cert.SbForwardReferenceIdeal.main_arg2))
      ∧ r.2.sem = fun _ => 0)

def quiescent_SbForwardReferenceIdeal_pre_finite_forward [hSbForwardReferenceIdeal : Cert.SbForwardReferenceIdeal.Facts] [hPre_finite_forward : Cert.Pre_finite_forward.Facts] : Prop :=
  ∀ (m : (ℓ : Loc Cert.SbForwardReferenceIdeal.nD Cert.SbForwardReferenceIdeal.τ Cert.SbForwardReferenceIdeal.sig) → Buf (Elt Ideal) ℓ) (g : Dev Cert.SbForwardReferenceIdeal.nD → PrngReg), Pre_SbForwardReferenceIdeal_finite_forward m →
    θ_run (Cert.SbForwardReferenceIdeal.defs (F := Ideal)) (onTc (τ := Cert.SbForwardReferenceIdeal.τ) (Cert.SbForwardReferenceIdeal.main (F := Ideal))) ⟨m, fun _ => 0, g⟩ (fun r => (∀ c : Dev Cert.SbForwardReferenceIdeal.nD,
      r.2.mem ((c.tc : Thread Cert.SbForwardReferenceIdeal.nD Cert.SbForwardReferenceIdeal.τ).loc Cert.SbForwardReferenceIdeal.main_arg0) = m ((c.tc : Thread Cert.SbForwardReferenceIdeal.nD Cert.SbForwardReferenceIdeal.τ).loc Cert.SbForwardReferenceIdeal.main_arg0)
      ∧ r.2.mem ((c.tc : Thread Cert.SbForwardReferenceIdeal.nD Cert.SbForwardReferenceIdeal.τ).loc Cert.SbForwardReferenceIdeal.main_arg1) = m ((c.tc : Thread Cert.SbForwardReferenceIdeal.nD Cert.SbForwardReferenceIdeal.τ).loc Cert.SbForwardReferenceIdeal.main_arg1)
      ∧ r.2.mem ((c.tc : Thread Cert.SbForwardReferenceIdeal.nD Cert.SbForwardReferenceIdeal.τ).loc Cert.SbForwardReferenceIdeal.main_arg2) = m ((c.tc : Thread Cert.SbForwardReferenceIdeal.nD Cert.SbForwardReferenceIdeal.τ).loc Cert.SbForwardReferenceIdeal.main_arg2))
      ∧ r.2.sem = fun _ => 0)

def quiescent_BranchSbGrad [hBranchSbGrad : Cert.BranchSbGrad.Facts] : Prop :=
  ∀ (m : (ℓ : Loc Cert.BranchSbGrad.nD Cert.BranchSbGrad.τ Cert.BranchSbGrad.sig) → Buf (Elt Bits) ℓ) (g : Dev Cert.BranchSbGrad.nD → PrngReg), Pre_BranchSbGrad m →
    θ_run (Cert.BranchSbGrad.defs (F := Bits)) (onTc (τ := Cert.BranchSbGrad.τ) (Cert.BranchSbGrad.main (F := Bits))) ⟨m, fun _ => 0, g⟩ (fun r => (∀ c : Dev Cert.BranchSbGrad.nD,
      r.2.mem ((c.tc : Thread Cert.BranchSbGrad.nD Cert.BranchSbGrad.τ).loc Cert.BranchSbGrad.main_arg0) = m ((c.tc : Thread Cert.BranchSbGrad.nD Cert.BranchSbGrad.τ).loc Cert.BranchSbGrad.main_arg0)
      ∧ r.2.mem ((c.tc : Thread Cert.BranchSbGrad.nD Cert.BranchSbGrad.τ).loc Cert.BranchSbGrad.main_arg1) = m ((c.tc : Thread Cert.BranchSbGrad.nD Cert.BranchSbGrad.τ).loc Cert.BranchSbGrad.main_arg1))
      ∧ r.2.sem = fun _ => 0)

def quiescent_BranchSbGradIdeal [hBranchSbGradIdeal : Cert.BranchSbGradIdeal.Facts] : Prop :=
  ∀ (m : (ℓ : Loc Cert.BranchSbGradIdeal.nD Cert.BranchSbGradIdeal.τ Cert.BranchSbGradIdeal.sig) → Buf (Elt Ideal) ℓ) (g : Dev Cert.BranchSbGradIdeal.nD → PrngReg), Pre_BranchSbGradIdeal m →
    θ_run (Cert.BranchSbGradIdeal.defs (F := Ideal)) (onTc (τ := Cert.BranchSbGradIdeal.τ) (Cert.BranchSbGradIdeal.main (F := Ideal))) ⟨m, fun _ => 0, g⟩ (fun r => (∀ c : Dev Cert.BranchSbGradIdeal.nD,
      r.2.mem ((c.tc : Thread Cert.BranchSbGradIdeal.nD Cert.BranchSbGradIdeal.τ).loc Cert.BranchSbGradIdeal.main_arg0) = m ((c.tc : Thread Cert.BranchSbGradIdeal.nD Cert.BranchSbGradIdeal.τ).loc Cert.BranchSbGradIdeal.main_arg0)
      ∧ r.2.mem ((c.tc : Thread Cert.BranchSbGradIdeal.nD Cert.BranchSbGradIdeal.τ).loc Cert.BranchSbGradIdeal.main_arg1) = m ((c.tc : Thread Cert.BranchSbGradIdeal.nD Cert.BranchSbGradIdeal.τ).loc Cert.BranchSbGradIdeal.main_arg1))
      ∧ r.2.sem = fun _ => 0)

def quiescent_BranchSbGradReferenceIdeal [hBranchSbGradReferenceIdeal : Cert.BranchSbGradReferenceIdeal.Facts] : Prop :=
  ∀ (m : (ℓ : Loc Cert.BranchSbGradReferenceIdeal.nD Cert.BranchSbGradReferenceIdeal.τ Cert.BranchSbGradReferenceIdeal.sig) → Buf (Elt Ideal) ℓ) (g : Dev Cert.BranchSbGradReferenceIdeal.nD → PrngReg), Pre_BranchSbGradReferenceIdeal m →
    θ_run (Cert.BranchSbGradReferenceIdeal.defs (F := Ideal)) (onTc (τ := Cert.BranchSbGradReferenceIdeal.τ) (Cert.BranchSbGradReferenceIdeal.main (F := Ideal))) ⟨m, fun _ => 0, g⟩ (fun r => (∀ c : Dev Cert.BranchSbGradReferenceIdeal.nD,
      r.2.mem ((c.tc : Thread Cert.BranchSbGradReferenceIdeal.nD Cert.BranchSbGradReferenceIdeal.τ).loc Cert.BranchSbGradReferenceIdeal.main_arg0) = m ((c.tc : Thread Cert.BranchSbGradReferenceIdeal.nD Cert.BranchSbGradReferenceIdeal.τ).loc Cert.BranchSbGradReferenceIdeal.main_arg0)
      ∧ r.2.mem ((c.tc : Thread Cert.BranchSbGradReferenceIdeal.nD Cert.BranchSbGradReferenceIdeal.τ).loc Cert.BranchSbGradReferenceIdeal.main_arg1) = m ((c.tc : Thread Cert.BranchSbGradReferenceIdeal.nD Cert.BranchSbGradReferenceIdeal.τ).loc Cert.BranchSbGradReferenceIdeal.main_arg1))
      ∧ r.2.sem = fun _ => 0)

def quiescent_BranchDilGrad [hBranchDilGrad : Cert.BranchDilGrad.Facts] : Prop :=
  ∀ (m : (ℓ : Loc Cert.BranchDilGrad.nD Cert.BranchDilGrad.τ Cert.BranchDilGrad.sig) → Buf (Elt Bits) ℓ) (g : Dev Cert.BranchDilGrad.nD → PrngReg), Pre_BranchDilGrad m →
    θ_run (Cert.BranchDilGrad.defs (F := Bits)) (onTc (τ := Cert.BranchDilGrad.τ) (Cert.BranchDilGrad.main (F := Bits))) ⟨m, fun _ => 0, g⟩ (fun r => (∀ c : Dev Cert.BranchDilGrad.nD,
      r.2.mem ((c.tc : Thread Cert.BranchDilGrad.nD Cert.BranchDilGrad.τ).loc Cert.BranchDilGrad.main_arg0) = m ((c.tc : Thread Cert.BranchDilGrad.nD Cert.BranchDilGrad.τ).loc Cert.BranchDilGrad.main_arg0)
      ∧ r.2.mem ((c.tc : Thread Cert.BranchDilGrad.nD Cert.BranchDilGrad.τ).loc Cert.BranchDilGrad.main_arg1) = m ((c.tc : Thread Cert.BranchDilGrad.nD Cert.BranchDilGrad.τ).loc Cert.BranchDilGrad.main_arg1))
      ∧ r.2.sem = fun _ => 0)

def quiescent_BranchDilGradIdeal [hBranchDilGradIdeal : Cert.BranchDilGradIdeal.Facts] : Prop :=
  ∀ (m : (ℓ : Loc Cert.BranchDilGradIdeal.nD Cert.BranchDilGradIdeal.τ Cert.BranchDilGradIdeal.sig) → Buf (Elt Ideal) ℓ) (g : Dev Cert.BranchDilGradIdeal.nD → PrngReg), Pre_BranchDilGradIdeal m →
    θ_run (Cert.BranchDilGradIdeal.defs (F := Ideal)) (onTc (τ := Cert.BranchDilGradIdeal.τ) (Cert.BranchDilGradIdeal.main (F := Ideal))) ⟨m, fun _ => 0, g⟩ (fun r => (∀ c : Dev Cert.BranchDilGradIdeal.nD,
      r.2.mem ((c.tc : Thread Cert.BranchDilGradIdeal.nD Cert.BranchDilGradIdeal.τ).loc Cert.BranchDilGradIdeal.main_arg0) = m ((c.tc : Thread Cert.BranchDilGradIdeal.nD Cert.BranchDilGradIdeal.τ).loc Cert.BranchDilGradIdeal.main_arg0)
      ∧ r.2.mem ((c.tc : Thread Cert.BranchDilGradIdeal.nD Cert.BranchDilGradIdeal.τ).loc Cert.BranchDilGradIdeal.main_arg1) = m ((c.tc : Thread Cert.BranchDilGradIdeal.nD Cert.BranchDilGradIdeal.τ).loc Cert.BranchDilGradIdeal.main_arg1))
      ∧ r.2.sem = fun _ => 0)

def quiescent_BranchDilGradReferenceIdeal [hBranchDilGradReferenceIdeal : Cert.BranchDilGradReferenceIdeal.Facts] : Prop :=
  ∀ (m : (ℓ : Loc Cert.BranchDilGradReferenceIdeal.nD Cert.BranchDilGradReferenceIdeal.τ Cert.BranchDilGradReferenceIdeal.sig) → Buf (Elt Ideal) ℓ) (g : Dev Cert.BranchDilGradReferenceIdeal.nD → PrngReg), Pre_BranchDilGradReferenceIdeal m →
    θ_run (Cert.BranchDilGradReferenceIdeal.defs (F := Ideal)) (onTc (τ := Cert.BranchDilGradReferenceIdeal.τ) (Cert.BranchDilGradReferenceIdeal.main (F := Ideal))) ⟨m, fun _ => 0, g⟩ (fun r => (∀ c : Dev Cert.BranchDilGradReferenceIdeal.nD,
      r.2.mem ((c.tc : Thread Cert.BranchDilGradReferenceIdeal.nD Cert.BranchDilGradReferenceIdeal.τ).loc Cert.BranchDilGradReferenceIdeal.main_arg0) = m ((c.tc : Thread Cert.BranchDilGradReferenceIdeal.nD Cert.BranchDilGradReferenceIdeal.τ).loc Cert.BranchDilGradReferenceIdeal.main_arg0)
      ∧ r.2.mem ((c.tc : Thread Cert.BranchDilGradReferenceIdeal.nD Cert.BranchDilGradReferenceIdeal.τ).loc Cert.BranchDilGradReferenceIdeal.main_arg1) = m ((c.tc : Thread Cert.BranchDilGradReferenceIdeal.nD Cert.BranchDilGradReferenceIdeal.τ).loc Cert.BranchDilGradReferenceIdeal.main_arg1))
      ∧ r.2.sem = fun _ => 0)

def quiescent_BranchSwaGrad [hBranchSwaGrad : Cert.BranchSwaGrad.Facts] : Prop :=
  ∀ (m : (ℓ : Loc Cert.BranchSwaGrad.nD Cert.BranchSwaGrad.τ Cert.BranchSwaGrad.sig) → Buf (Elt Bits) ℓ) (g : Dev Cert.BranchSwaGrad.nD → PrngReg), Pre_BranchSwaGrad m →
    θ_run (Cert.BranchSwaGrad.defs (F := Bits)) (onTc (τ := Cert.BranchSwaGrad.τ) (Cert.BranchSwaGrad.main (F := Bits))) ⟨m, fun _ => 0, g⟩ (fun r => (∀ c : Dev Cert.BranchSwaGrad.nD,
      r.2.mem ((c.tc : Thread Cert.BranchSwaGrad.nD Cert.BranchSwaGrad.τ).loc Cert.BranchSwaGrad.main_arg0) = m ((c.tc : Thread Cert.BranchSwaGrad.nD Cert.BranchSwaGrad.τ).loc Cert.BranchSwaGrad.main_arg0)
      ∧ r.2.mem ((c.tc : Thread Cert.BranchSwaGrad.nD Cert.BranchSwaGrad.τ).loc Cert.BranchSwaGrad.main_arg1) = m ((c.tc : Thread Cert.BranchSwaGrad.nD Cert.BranchSwaGrad.τ).loc Cert.BranchSwaGrad.main_arg1))
      ∧ r.2.sem = fun _ => 0)

def quiescent_BranchSwaGradIdeal [hBranchSwaGradIdeal : Cert.BranchSwaGradIdeal.Facts] : Prop :=
  ∀ (m : (ℓ : Loc Cert.BranchSwaGradIdeal.nD Cert.BranchSwaGradIdeal.τ Cert.BranchSwaGradIdeal.sig) → Buf (Elt Ideal) ℓ) (g : Dev Cert.BranchSwaGradIdeal.nD → PrngReg), Pre_BranchSwaGradIdeal m →
    θ_run (Cert.BranchSwaGradIdeal.defs (F := Ideal)) (onTc (τ := Cert.BranchSwaGradIdeal.τ) (Cert.BranchSwaGradIdeal.main (F := Ideal))) ⟨m, fun _ => 0, g⟩ (fun r => (∀ c : Dev Cert.BranchSwaGradIdeal.nD,
      r.2.mem ((c.tc : Thread Cert.BranchSwaGradIdeal.nD Cert.BranchSwaGradIdeal.τ).loc Cert.BranchSwaGradIdeal.main_arg0) = m ((c.tc : Thread Cert.BranchSwaGradIdeal.nD Cert.BranchSwaGradIdeal.τ).loc Cert.BranchSwaGradIdeal.main_arg0)
      ∧ r.2.mem ((c.tc : Thread Cert.BranchSwaGradIdeal.nD Cert.BranchSwaGradIdeal.τ).loc Cert.BranchSwaGradIdeal.main_arg1) = m ((c.tc : Thread Cert.BranchSwaGradIdeal.nD Cert.BranchSwaGradIdeal.τ).loc Cert.BranchSwaGradIdeal.main_arg1))
      ∧ r.2.sem = fun _ => 0)

def quiescent_BranchSwaGradReferenceIdeal [hBranchSwaGradReferenceIdeal : Cert.BranchSwaGradReferenceIdeal.Facts] : Prop :=
  ∀ (m : (ℓ : Loc Cert.BranchSwaGradReferenceIdeal.nD Cert.BranchSwaGradReferenceIdeal.τ Cert.BranchSwaGradReferenceIdeal.sig) → Buf (Elt Ideal) ℓ) (g : Dev Cert.BranchSwaGradReferenceIdeal.nD → PrngReg), Pre_BranchSwaGradReferenceIdeal m →
    θ_run (Cert.BranchSwaGradReferenceIdeal.defs (F := Ideal)) (onTc (τ := Cert.BranchSwaGradReferenceIdeal.τ) (Cert.BranchSwaGradReferenceIdeal.main (F := Ideal))) ⟨m, fun _ => 0, g⟩ (fun r => (∀ c : Dev Cert.BranchSwaGradReferenceIdeal.nD,
      r.2.mem ((c.tc : Thread Cert.BranchSwaGradReferenceIdeal.nD Cert.BranchSwaGradReferenceIdeal.τ).loc Cert.BranchSwaGradReferenceIdeal.main_arg0) = m ((c.tc : Thread Cert.BranchSwaGradReferenceIdeal.nD Cert.BranchSwaGradReferenceIdeal.τ).loc Cert.BranchSwaGradReferenceIdeal.main_arg0)
      ∧ r.2.mem ((c.tc : Thread Cert.BranchSwaGradReferenceIdeal.nD Cert.BranchSwaGradReferenceIdeal.τ).loc Cert.BranchSwaGradReferenceIdeal.main_arg1) = m ((c.tc : Thread Cert.BranchSwaGradReferenceIdeal.nD Cert.BranchSwaGradReferenceIdeal.τ).loc Cert.BranchSwaGradReferenceIdeal.main_arg1))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4)
      ∧ r.2.mem ((c.tc : Thread Cert.MergeGrad.nD Cert.MergeGrad.τ).loc Cert.MergeGrad.main_arg5) = m ((c.tc : Thread Cert.MergeGrad.nD Cert.MergeGrad.τ).loc Cert.MergeGrad.main_arg5)
      ∧ r.2.mem ((c.tc : Thread Cert.MergeGrad.nD Cert.MergeGrad.τ).loc Cert.MergeGrad.main_arg6) = m ((c.tc : Thread Cert.MergeGrad.nD Cert.MergeGrad.τ).loc Cert.MergeGrad.main_arg6)
      ∧ r.2.mem ((c.tc : Thread Cert.MergeGrad.nD Cert.MergeGrad.τ).loc Cert.MergeGrad.main_arg7) = m ((c.tc : Thread Cert.MergeGrad.nD Cert.MergeGrad.τ).loc Cert.MergeGrad.main_arg7))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
      ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
      ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6)
      ∧ r.2.mem ((c.tc : Thread Cert.MergeGradIdeal.nD Cert.MergeGradIdeal.τ).loc Cert.MergeGradIdeal.main_arg7) = m ((c.tc : Thread Cert.MergeGradIdeal.nD Cert.MergeGradIdeal.τ).loc Cert.MergeGradIdeal.main_arg7))
      ∧ r.2.sem = fun _ => 0)

def quiescent_MergeGradReferenceIdeal [hMergeGradReferenceIdeal : Cert.MergeGradReferenceIdeal.Facts] : Prop :=
  ∀ (m : (ℓ : Loc Cert.MergeGradReferenceIdeal.nD Cert.MergeGradReferenceIdeal.τ Cert.MergeGradReferenceIdeal.sig) → Buf (Elt Ideal) ℓ) (g : Dev Cert.MergeGradReferenceIdeal.nD → PrngReg), Pre_MergeGradReferenceIdeal m →
    θ_run (Cert.MergeGradReferenceIdeal.defs (F := Ideal)) (onTc (τ := Cert.MergeGradReferenceIdeal.τ) (Cert.MergeGradReferenceIdeal.main (F := Ideal))) ⟨m, fun _ => 0, g⟩ (fun r => (∀ c : Dev Cert.MergeGradReferenceIdeal.nD,
      r.2.mem ((c.tc : Thread Cert.MergeGradReferenceIdeal.nD Cert.MergeGradReferenceIdeal.τ).loc Cert.MergeGradReferenceIdeal.main_arg0) = m ((c.tc : Thread Cert.MergeGradReferenceIdeal.nD Cert.MergeGradReferenceIdeal.τ).loc Cert.MergeGradReferenceIdeal.main_arg0)
      ∧ r.2.mem ((c.tc : Thread Cert.MergeGradReferenceIdeal.nD Cert.MergeGradReferenceIdeal.τ).loc Cert.MergeGradReferenceIdeal.main_arg1) = m ((c.tc : Thread Cert.MergeGradReferenceIdeal.nD Cert.MergeGradReferenceIdeal.τ).loc Cert.MergeGradReferenceIdeal.main_arg1)
      ∧ r.2.mem ((c.tc : Thread Cert.MergeGradReferenceIdeal.nD Cert.MergeGradReferenceIdeal.τ).loc Cert.MergeGradReferenceIdeal.main_arg2) = m ((c.tc : Thread Cert.MergeGradReferenceIdeal.nD Cert.MergeGradReferenceIdeal.τ).loc Cert.MergeGradReferenceIdeal.main_arg2)
      ∧ r.2.mem ((c.tc : Thread Cert.MergeGradReferenceIdeal.nD Cert.MergeGradReferenceIdeal.τ).loc Cert.MergeGradReferenceIdeal.main_arg3) = m ((c.tc : Thread Cert.MergeGradReferenceIdeal.nD Cert.MergeGradReferenceIdeal.τ).loc Cert.MergeGradReferenceIdeal.main_arg3)
      ∧ r.2.mem ((c.tc : Thread Cert.MergeGradReferenceIdeal.nD Cert.MergeGradReferenceIdeal.τ).loc Cert.MergeGradReferenceIdeal.main_arg4) = m ((c.tc : Thread Cert.MergeGradReferenceIdeal.nD Cert.MergeGradReferenceIdeal.τ).loc Cert.MergeGradReferenceIdeal.main_arg4)
      ∧ r.2.mem ((c.tc : Thread Cert.MergeGradReferenceIdeal.nD Cert.MergeGradReferenceIdeal.τ).loc Cert.MergeGradReferenceIdeal.main_arg5) = m ((c.tc : Thread Cert.MergeGradReferenceIdeal.nD Cert.MergeGradReferenceIdeal.τ).loc Cert.MergeGradReferenceIdeal.main_arg5)
      ∧ r.2.mem ((c.tc : Thread Cert.MergeGradReferenceIdeal.nD Cert.MergeGradReferenceIdeal.τ).loc Cert.MergeGradReferenceIdeal.main_arg6) = m ((c.tc : Thread Cert.MergeGradReferenceIdeal.nD Cert.MergeGradReferenceIdeal.τ).loc Cert.MergeGradReferenceIdeal.main_arg6)
      ∧ r.2.mem ((c.tc : Thread Cert.MergeGradReferenceIdeal.nD Cert.MergeGradReferenceIdeal.τ).loc Cert.MergeGradReferenceIdeal.main_arg7) = m ((c.tc : Thread Cert.MergeGradReferenceIdeal.nD Cert.MergeGradReferenceIdeal.τ).loc Cert.MergeGradReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateGrad_GateGradIdeal : Prop :=
  True

def algebraic_GateGradIdeal_GateGradReferenceIdeal_pre_finite_gate [hGateGradIdeal : Cert.GateGradIdeal.Facts] [hGateGradReferenceIdeal : Cert.GateGradReferenceIdeal.Facts] [hPre_finite_gate : Cert.Pre_finite_gate.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal_finite_gate m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)
      ∧ m' ((c.tc : Thread Cert.GateGradReferenceIdeal.nD Cert.GateGradReferenceIdeal.τ).loc Cert.GateGradReferenceIdeal.main_arg3) = m ((c.tc : Thread Cert.GateGradIdeal.nD Cert.GateGradIdeal.τ).loc Cert.GateGradIdeal.main_arg3)) →
    ∃ (v0 : (c : Dev Cert.GateGradIdeal.nD) → Buf (Elt Ideal) ((c.tc : Thread Cert.GateGradIdeal.nD Cert.GateGradIdeal.τ).loc Cert.GateGradIdeal.main_v4_0)) (v1 : (c : Dev Cert.GateGradIdeal.nD) → Buf (Elt Ideal) ((c.tc : Thread Cert.GateGradIdeal.nD Cert.GateGradIdeal.τ).loc Cert.GateGradIdeal.main_v4_1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v4_0) = v0 c
          ∧ r.2.mem ((c.tc : Thread Cert.GateGradIdeal.nD Cert.GateGradIdeal.τ).loc Cert.GateGradIdeal.main_v4_1) = v1 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v7) = v0 c
          ∧ r.2.mem ((c.tc : Thread Cert.GateGradReferenceIdeal.nD Cert.GateGradReferenceIdeal.τ).loc Cert.GateGradReferenceIdeal.main_v8) = v1 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2)
          ∧ r.2.mem ((c.tc : Thread Cert.GateGradReferenceIdeal.nD Cert.GateGradReferenceIdeal.τ).loc Cert.GateGradReferenceIdeal.main_arg3) = m' ((c.tc : Thread Cert.GateGradReferenceIdeal.nD Cert.GateGradReferenceIdeal.τ).loc Cert.GateGradReferenceIdeal.main_arg3))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v2)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v2) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v4) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def preserves_NormGrad_NormGradIdeal : Prop :=
  True

def algebraic_NormGradIdeal_NormGradReferenceIdeal_pre_finite_norm [hNormGradIdeal : Cert.NormGradIdeal.Facts] [hNormGradReferenceIdeal : Cert.NormGradReferenceIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal_finite_norm m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)
      ∧ m' ((c.tc : Thread Cert.NormGradReferenceIdeal.nD Cert.NormGradReferenceIdeal.τ).loc Cert.NormGradReferenceIdeal.main_arg5) = m ((c.tc : Thread Cert.NormGradIdeal.nD Cert.NormGradIdeal.τ).loc Cert.NormGradIdeal.main_arg5)
      ∧ m' ((c.tc : Thread Cert.NormGradReferenceIdeal.nD Cert.NormGradReferenceIdeal.τ).loc Cert.NormGradReferenceIdeal.main_arg6) = m ((c.tc : Thread Cert.NormGradIdeal.nD Cert.NormGradIdeal.τ).loc Cert.NormGradIdeal.main_arg6)
      ∧ m' ((c.tc : Thread Cert.NormGradReferenceIdeal.nD Cert.NormGradReferenceIdeal.τ).loc Cert.NormGradReferenceIdeal.main_arg7) = m ((c.tc : Thread Cert.NormGradIdeal.nD Cert.NormGradIdeal.τ).loc Cert.NormGradIdeal.main_arg7)
      ∧ m' ((c.tc : Thread Cert.NormGradReferenceIdeal.nD Cert.NormGradReferenceIdeal.τ).loc Cert.NormGradReferenceIdeal.main_arg8) = m ((c.tc : Thread Cert.NormGradIdeal.nD Cert.NormGradIdeal.τ).loc Cert.NormGradIdeal.main_arg8)
      ∧ m' ((c.tc : Thread Cert.NormGradReferenceIdeal.nD Cert.NormGradReferenceIdeal.τ).loc Cert.NormGradReferenceIdeal.main_arg9) = m ((c.tc : Thread Cert.NormGradIdeal.nD Cert.NormGradIdeal.τ).loc Cert.NormGradIdeal.main_arg9)) →
    ∃ (v0 : (c : Dev Cert.NormGradIdeal.nD) → Buf (Elt Ideal) ((c.tc : Thread Cert.NormGradIdeal.nD Cert.NormGradIdeal.τ).loc Cert.NormGradIdeal.main_v9_0)) (v1 : (c : Dev Cert.NormGradIdeal.nD) → Buf (Elt Ideal) ((c.tc : Thread Cert.NormGradIdeal.nD Cert.NormGradIdeal.τ).loc Cert.NormGradIdeal.main_v9_1)) (v2 : (c : Dev Cert.NormGradIdeal.nD) → Buf (Elt Ideal) ((c.tc : Thread Cert.NormGradIdeal.nD Cert.NormGradIdeal.τ).loc Cert.NormGradIdeal.main_v9_2)) (v3 : (c : Dev Cert.NormGradIdeal.nD) → Buf (Elt Ideal) ((c.tc : Thread Cert.NormGradIdeal.nD Cert.NormGradIdeal.τ).loc Cert.NormGradIdeal.main_v9_3)) (v4 : (c : Dev Cert.NormGradIdeal.nD) → Buf (Elt Ideal) ((c.tc : Thread Cert.NormGradIdeal.nD Cert.NormGradIdeal.τ).loc Cert.NormGradIdeal.main_v9_4)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v9_0) = v0 c
          ∧ r.2.mem ((c.tc : Thread Cert.NormGradIdeal.nD Cert.NormGradIdeal.τ).loc Cert.NormGradIdeal.main_v9_1) = v1 c
          ∧ r.2.mem ((c.tc : Thread Cert.NormGradIdeal.nD Cert.NormGradIdeal.τ).loc Cert.NormGradIdeal.main_v9_2) = v2 c
          ∧ r.2.mem ((c.tc : Thread Cert.NormGradIdeal.nD Cert.NormGradIdeal.τ).loc Cert.NormGradIdeal.main_v9_3) = v3 c
          ∧ r.2.mem ((c.tc : Thread Cert.NormGradIdeal.nD Cert.NormGradIdeal.τ).loc Cert.NormGradIdeal.main_v9_4) = v4 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
          ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7)
          ∧ r.2.mem ((c.tc : Thread Cert.NormGradIdeal.nD Cert.NormGradIdeal.τ).loc Cert.NormGradIdeal.main_arg8) = m ((c.tc : Thread Cert.NormGradIdeal.nD Cert.NormGradIdeal.τ).loc Cert.NormGradIdeal.main_arg8)
          ∧ r.2.mem ((c.tc : Thread Cert.NormGradIdeal.nD Cert.NormGradIdeal.τ).loc Cert.NormGradIdeal.main_arg9) = m ((c.tc : Thread Cert.NormGradIdeal.nD Cert.NormGradIdeal.τ).loc Cert.NormGradIdeal.main_arg9))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v48) = v0 c
          ∧ r.2.mem ((c.tc : Thread Cert.NormGradReferenceIdeal.nD Cert.NormGradReferenceIdeal.τ).loc Cert.NormGradReferenceIdeal.main_v28) = v1 c
          ∧ r.2.mem ((c.tc : Thread Cert.NormGradReferenceIdeal.nD Cert.NormGradReferenceIdeal.τ).loc Cert.NormGradReferenceIdeal.main_v31) = v2 c
          ∧ r.2.mem ((c.tc : Thread Cert.NormGradReferenceIdeal.nD Cert.NormGradReferenceIdeal.τ).loc Cert.NormGradReferenceIdeal.main_v57) = v3 c
          ∧ r.2.mem ((c.tc : Thread Cert.NormGradReferenceIdeal.nD Cert.NormGradReferenceIdeal.τ).loc Cert.NormGradReferenceIdeal.main_v56) = v4 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4)
          ∧ r.2.mem ((c.tc : Thread Cert.NormGradReferenceIdeal.nD Cert.NormGradReferenceIdeal.τ).loc Cert.NormGradReferenceIdeal.main_arg5) = m' ((c.tc : Thread Cert.NormGradReferenceIdeal.nD Cert.NormGradReferenceIdeal.τ).loc Cert.NormGradReferenceIdeal.main_arg5)
          ∧ r.2.mem ((c.tc : Thread Cert.NormGradReferenceIdeal.nD Cert.NormGradReferenceIdeal.τ).loc Cert.NormGradReferenceIdeal.main_arg6) = m' ((c.tc : Thread Cert.NormGradReferenceIdeal.nD Cert.NormGradReferenceIdeal.τ).loc Cert.NormGradReferenceIdeal.main_arg6)
          ∧ r.2.mem ((c.tc : Thread Cert.NormGradReferenceIdeal.nD Cert.NormGradReferenceIdeal.τ).loc Cert.NormGradReferenceIdeal.main_arg7) = m' ((c.tc : Thread Cert.NormGradReferenceIdeal.nD Cert.NormGradReferenceIdeal.τ).loc Cert.NormGradReferenceIdeal.main_arg7)
          ∧ r.2.mem ((c.tc : Thread Cert.NormGradReferenceIdeal.nD Cert.NormGradReferenceIdeal.τ).loc Cert.NormGradReferenceIdeal.main_arg8) = m' ((c.tc : Thread Cert.NormGradReferenceIdeal.nD Cert.NormGradReferenceIdeal.τ).loc Cert.NormGradReferenceIdeal.main_arg8)
          ∧ r.2.mem ((c.tc : Thread Cert.NormGradReferenceIdeal.nD Cert.NormGradReferenceIdeal.τ).loc Cert.NormGradReferenceIdeal.main_arg9) = m' ((c.tc : Thread Cert.NormGradReferenceIdeal.nD Cert.NormGradReferenceIdeal.τ).loc Cert.NormGradReferenceIdeal.main_arg9))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)) (v2 : (c : Dev Cert.FfnUpIdeal.nD) → Buf (Elt Ideal) ((c.tc : Thread Cert.FfnUpIdeal.nD Cert.FfnUpIdeal.τ).loc Cert.FfnUpIdeal.main_v5_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_v5_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v4) = v0 c
          ∧ r.2.mem ((c.tc : Thread Cert.FfnUpReferenceIdeal.nD Cert.FfnUpReferenceIdeal.τ).loc Cert.FfnUpReferenceIdeal.main_v5) = v1 c
          ∧ r.2.mem ((c.tc : Thread Cert.FfnUpReferenceIdeal.nD Cert.FfnUpReferenceIdeal.τ).loc Cert.FfnUpReferenceIdeal.main_v6) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v5_0)) (v1 : (c : Dev Cert.FfnDownIdeal.nD) → Buf (Elt Ideal) ((c.tc : Thread Cert.FfnDownIdeal.nD Cert.FfnDownIdeal.τ).loc Cert.FfnDownIdeal.main_v5_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5_0) = v0 c
          ∧ r.2.mem ((c.tc : Thread Cert.FfnDownIdeal.nD Cert.FfnDownIdeal.τ).loc Cert.FfnDownIdeal.main_v5_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v0) = v0 c
          ∧ r.2.mem ((c.tc : Thread Cert.FfnDownReferenceIdeal.nD Cert.FfnDownReferenceIdeal.τ).loc Cert.FfnDownReferenceIdeal.main_v6) = v1 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v1) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v1) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_GatesGrad_GatesGradIdeal : Prop :=
  True

def algebraic_GatesGradIdeal_GatesGradReferenceIdeal [hGatesGradIdeal : Cert.GatesGradIdeal.Facts] [hGatesGradReferenceIdeal : Cert.GatesGradReferenceIdeal.Facts] : Prop :=
  ∀ (m : (ℓ : Loc Cert.GatesGradIdeal.nD Cert.GatesGradIdeal.τ Cert.GatesGradIdeal.sig) → Buf (Elt Ideal) ℓ) (g : Dev Cert.GatesGradIdeal.nD → PrngReg)
    (m' : (ℓ : Loc Cert.GatesGradReferenceIdeal.nD Cert.GatesGradReferenceIdeal.τ Cert.GatesGradReferenceIdeal.sig) → Buf (Elt Ideal) ℓ) (g' : Dev Cert.GatesGradReferenceIdeal.nD → PrngReg), Pre_GatesGradIdeal m →
    (∀ c : Dev Cert.GatesGradIdeal.nD,
      m' ((c.tc : Thread Cert.GatesGradReferenceIdeal.nD Cert.GatesGradReferenceIdeal.τ).loc Cert.GatesGradReferenceIdeal.main_arg0) = m ((c.tc : Thread Cert.GatesGradIdeal.nD Cert.GatesGradIdeal.τ).loc Cert.GatesGradIdeal.main_arg0)
      ∧ m' ((c.tc : Thread Cert.GatesGradReferenceIdeal.nD Cert.GatesGradReferenceIdeal.τ).loc Cert.GatesGradReferenceIdeal.main_arg1) = m ((c.tc : Thread Cert.GatesGradIdeal.nD Cert.GatesGradIdeal.τ).loc Cert.GatesGradIdeal.main_arg1)
      ∧ m' ((c.tc : Thread Cert.GatesGradReferenceIdeal.nD Cert.GatesGradReferenceIdeal.τ).loc Cert.GatesGradReferenceIdeal.main_arg2) = m ((c.tc : Thread Cert.GatesGradIdeal.nD Cert.GatesGradIdeal.τ).loc Cert.GatesGradIdeal.main_arg2)) →
    ∃ (v0 : (c : Dev Cert.GatesGradIdeal.nD) → Buf (Elt Ideal) ((c.tc : Thread Cert.GatesGradIdeal.nD Cert.GatesGradIdeal.τ).loc Cert.GatesGradIdeal.main_v3)),
      θ_run (Cert.GatesGradIdeal.defs (F := Ideal)) (onTc (τ := Cert.GatesGradIdeal.τ) (Cert.GatesGradIdeal.main (F := Ideal))) ⟨m, fun _ => 0, g⟩ (fun r => ∀ c : Dev Cert.GatesGradIdeal.nD,
          r.2.mem ((c.tc : Thread Cert.GatesGradIdeal.nD Cert.GatesGradIdeal.τ).loc Cert.GatesGradIdeal.main_v3) = v0 c
          ∧ r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
          ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
          ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2))
      ∧ θ_run (Cert.GatesGradReferenceIdeal.defs (F := Ideal)) (onTc (τ := Cert.GatesGradReferenceIdeal.τ) (Cert.GatesGradReferenceIdeal.main (F := Ideal))) ⟨m', fun _ => 0, g'⟩ (fun r => ∀ c : Dev Cert.GatesGradReferenceIdeal.nD,
          r.2.mem ((c.tc : Thread Cert.GatesGradReferenceIdeal.nD Cert.GatesGradReferenceIdeal.τ).loc Cert.GatesGradReferenceIdeal.main_v8) = v0 c
          ∧ r.2.mem ((c.tc : Thread Cert.GatesGradReferenceIdeal.nD Cert.GatesGradReferenceIdeal.τ).loc Cert.GatesGradReferenceIdeal.main_arg0) = m' ((c.tc : Thread Cert.GatesGradReferenceIdeal.nD Cert.GatesGradReferenceIdeal.τ).loc Cert.GatesGradReferenceIdeal.main_arg0)
          ∧ r.2.mem ((c.tc : Thread Cert.GatesGradReferenceIdeal.nD Cert.GatesGradReferenceIdeal.τ).loc Cert.GatesGradReferenceIdeal.main_arg1) = m' ((c.tc : Thread Cert.GatesGradReferenceIdeal.nD Cert.GatesGradReferenceIdeal.τ).loc Cert.GatesGradReferenceIdeal.main_arg1)
          ∧ r.2.mem ((c.tc : Thread Cert.GatesGradReferenceIdeal.nD Cert.GatesGradReferenceIdeal.τ).loc Cert.GatesGradReferenceIdeal.main_arg2) = m' ((c.tc : Thread Cert.GatesGradReferenceIdeal.nD Cert.GatesGradReferenceIdeal.τ).loc Cert.GatesGradReferenceIdeal.main_arg2))

def preserves_MixNormGrad_MixNormGradIdeal : Prop :=
  True

def algebraic_MixNormGradIdeal_MixNormGradReferenceIdeal_pre_finite_mix [hMixNormGradIdeal : Cert.MixNormGradIdeal.Facts] [hMixNormGradReferenceIdeal : Cert.MixNormGradReferenceIdeal.Facts] [hPre_finite_mix : Cert.Pre_finite_mix.Facts] : Prop :=
  ∀ (m : (ℓ : Loc Cert.MixNormGradIdeal.nD Cert.MixNormGradIdeal.τ Cert.MixNormGradIdeal.sig) → Buf (Elt Ideal) ℓ) (g : Dev Cert.MixNormGradIdeal.nD → PrngReg)
    (m' : (ℓ : Loc Cert.MixNormGradReferenceIdeal.nD Cert.MixNormGradReferenceIdeal.τ Cert.MixNormGradReferenceIdeal.sig) → Buf (Elt Ideal) ℓ) (g' : Dev Cert.MixNormGradReferenceIdeal.nD → PrngReg), Pre_MixNormGradIdeal_finite_mix m →
    (∀ c : Dev Cert.MixNormGradIdeal.nD,
      m' ((c.tc : Thread Cert.MixNormGradReferenceIdeal.nD Cert.MixNormGradReferenceIdeal.τ).loc Cert.MixNormGradReferenceIdeal.main_arg0) = m ((c.tc : Thread Cert.MixNormGradIdeal.nD Cert.MixNormGradIdeal.τ).loc Cert.MixNormGradIdeal.main_arg0)
      ∧ m' ((c.tc : Thread Cert.MixNormGradReferenceIdeal.nD Cert.MixNormGradReferenceIdeal.τ).loc Cert.MixNormGradReferenceIdeal.main_arg1) = m ((c.tc : Thread Cert.MixNormGradIdeal.nD Cert.MixNormGradIdeal.τ).loc Cert.MixNormGradIdeal.main_arg1)
      ∧ m' ((c.tc : Thread Cert.MixNormGradReferenceIdeal.nD Cert.MixNormGradReferenceIdeal.τ).loc Cert.MixNormGradReferenceIdeal.main_arg2) = m ((c.tc : Thread Cert.MixNormGradIdeal.nD Cert.MixNormGradIdeal.τ).loc Cert.MixNormGradIdeal.main_arg2)
      ∧ m' ((c.tc : Thread Cert.MixNormGradReferenceIdeal.nD Cert.MixNormGradReferenceIdeal.τ).loc Cert.MixNormGradReferenceIdeal.main_arg3) = m ((c.tc : Thread Cert.MixNormGradIdeal.nD Cert.MixNormGradIdeal.τ).loc Cert.MixNormGradIdeal.main_arg3)
      ∧ m' ((c.tc : Thread Cert.MixNormGradReferenceIdeal.nD Cert.MixNormGradReferenceIdeal.τ).loc Cert.MixNormGradReferenceIdeal.main_arg4) = m ((c.tc : Thread Cert.MixNormGradIdeal.nD Cert.MixNormGradIdeal.τ).loc Cert.MixNormGradIdeal.main_arg4)
      ∧ m' ((c.tc : Thread Cert.MixNormGradReferenceIdeal.nD Cert.MixNormGradReferenceIdeal.τ).loc Cert.MixNormGradReferenceIdeal.main_arg5) = m ((c.tc : Thread Cert.MixNormGradIdeal.nD Cert.MixNormGradIdeal.τ).loc Cert.MixNormGradIdeal.main_arg5)
      ∧ m' ((c.tc : Thread Cert.MixNormGradReferenceIdeal.nD Cert.MixNormGradReferenceIdeal.τ).loc Cert.MixNormGradReferenceIdeal.main_arg6) = m ((c.tc : Thread Cert.MixNormGradIdeal.nD Cert.MixNormGradIdeal.τ).loc Cert.MixNormGradIdeal.main_arg6)
      ∧ m' ((c.tc : Thread Cert.MixNormGradReferenceIdeal.nD Cert.MixNormGradReferenceIdeal.τ).loc Cert.MixNormGradReferenceIdeal.main_arg7) = m ((c.tc : Thread Cert.MixNormGradIdeal.nD Cert.MixNormGradIdeal.τ).loc Cert.MixNormGradIdeal.main_arg7)) →
    ∃ (v0 : (c : Dev Cert.MixNormGradIdeal.nD) → Buf (Elt Ideal) ((c.tc : Thread Cert.MixNormGradIdeal.nD Cert.MixNormGradIdeal.τ).loc Cert.MixNormGradIdeal.main_v10_0)) (v1 : (c : Dev Cert.MixNormGradIdeal.nD) → Buf (Elt Ideal) ((c.tc : Thread Cert.MixNormGradIdeal.nD Cert.MixNormGradIdeal.τ).loc Cert.MixNormGradIdeal.main_v10_1)) (v2 : (c : Dev Cert.MixNormGradIdeal.nD) → Buf (Elt Ideal) ((c.tc : Thread Cert.MixNormGradIdeal.nD Cert.MixNormGradIdeal.τ).loc Cert.MixNormGradIdeal.main_v10_2)) (v3 : (c : Dev Cert.MixNormGradIdeal.nD) → Buf (Elt Ideal) ((c.tc : Thread Cert.MixNormGradIdeal.nD Cert.MixNormGradIdeal.τ).loc Cert.MixNormGradIdeal.main_v10_3)) (v4 : (c : Dev Cert.MixNormGradIdeal.nD) → Buf (Elt Ideal) ((c.tc : Thread Cert.MixNormGradIdeal.nD Cert.MixNormGradIdeal.τ).loc Cert.MixNormGradIdeal.main_v10_4)),
      θ_run (Cert.MixNormGradIdeal.defs (F := Ideal)) (onTc (τ := Cert.MixNormGradIdeal.τ) (Cert.MixNormGradIdeal.main (F := Ideal))) ⟨m, fun _ => 0, g⟩ (fun r => ∀ c : Dev Cert.MixNormGradIdeal.nD,
          r.2.mem ((c.tc : Thread Cert.MixNormGradIdeal.nD Cert.MixNormGradIdeal.τ).loc Cert.MixNormGradIdeal.main_v10_0) = v0 c
          ∧ r.2.mem ((c.tc : Thread Cert.MixNormGradIdeal.nD Cert.MixNormGradIdeal.τ).loc Cert.MixNormGradIdeal.main_v10_1) = v1 c
          ∧ r.2.mem ((c.tc : Thread Cert.MixNormGradIdeal.nD Cert.MixNormGradIdeal.τ).loc Cert.MixNormGradIdeal.main_v10_2) = v2 c
          ∧ r.2.mem ((c.tc : Thread Cert.MixNormGradIdeal.nD Cert.MixNormGradIdeal.τ).loc Cert.MixNormGradIdeal.main_v10_3) = v3 c
          ∧ r.2.mem ((c.tc : Thread Cert.MixNormGradIdeal.nD Cert.MixNormGradIdeal.τ).loc Cert.MixNormGradIdeal.main_v10_4) = v4 c
          ∧ r.2.mem ((c.tc : Thread Cert.MixNormGradIdeal.nD Cert.MixNormGradIdeal.τ).loc Cert.MixNormGradIdeal.main_arg0) = m ((c.tc : Thread Cert.MixNormGradIdeal.nD Cert.MixNormGradIdeal.τ).loc Cert.MixNormGradIdeal.main_arg0)
          ∧ r.2.mem ((c.tc : Thread Cert.MixNormGradIdeal.nD Cert.MixNormGradIdeal.τ).loc Cert.MixNormGradIdeal.main_arg1) = m ((c.tc : Thread Cert.MixNormGradIdeal.nD Cert.MixNormGradIdeal.τ).loc Cert.MixNormGradIdeal.main_arg1)
          ∧ r.2.mem ((c.tc : Thread Cert.MixNormGradIdeal.nD Cert.MixNormGradIdeal.τ).loc Cert.MixNormGradIdeal.main_arg2) = m ((c.tc : Thread Cert.MixNormGradIdeal.nD Cert.MixNormGradIdeal.τ).loc Cert.MixNormGradIdeal.main_arg2)
          ∧ r.2.mem ((c.tc : Thread Cert.MixNormGradIdeal.nD Cert.MixNormGradIdeal.τ).loc Cert.MixNormGradIdeal.main_arg3) = m ((c.tc : Thread Cert.MixNormGradIdeal.nD Cert.MixNormGradIdeal.τ).loc Cert.MixNormGradIdeal.main_arg3)
          ∧ r.2.mem ((c.tc : Thread Cert.MixNormGradIdeal.nD Cert.MixNormGradIdeal.τ).loc Cert.MixNormGradIdeal.main_arg4) = m ((c.tc : Thread Cert.MixNormGradIdeal.nD Cert.MixNormGradIdeal.τ).loc Cert.MixNormGradIdeal.main_arg4)
          ∧ r.2.mem ((c.tc : Thread Cert.MixNormGradIdeal.nD Cert.MixNormGradIdeal.τ).loc Cert.MixNormGradIdeal.main_arg5) = m ((c.tc : Thread Cert.MixNormGradIdeal.nD Cert.MixNormGradIdeal.τ).loc Cert.MixNormGradIdeal.main_arg5)
          ∧ r.2.mem ((c.tc : Thread Cert.MixNormGradIdeal.nD Cert.MixNormGradIdeal.τ).loc Cert.MixNormGradIdeal.main_arg6) = m ((c.tc : Thread Cert.MixNormGradIdeal.nD Cert.MixNormGradIdeal.τ).loc Cert.MixNormGradIdeal.main_arg6)
          ∧ r.2.mem ((c.tc : Thread Cert.MixNormGradIdeal.nD Cert.MixNormGradIdeal.τ).loc Cert.MixNormGradIdeal.main_arg7) = m ((c.tc : Thread Cert.MixNormGradIdeal.nD Cert.MixNormGradIdeal.τ).loc Cert.MixNormGradIdeal.main_arg7))
      ∧ θ_run (Cert.MixNormGradReferenceIdeal.defs (F := Ideal)) (onTc (τ := Cert.MixNormGradReferenceIdeal.τ) (Cert.MixNormGradReferenceIdeal.main (F := Ideal))) ⟨m', fun _ => 0, g'⟩ (fun r => ∀ c : Dev Cert.MixNormGradReferenceIdeal.nD,
          r.2.mem ((c.tc : Thread Cert.MixNormGradReferenceIdeal.nD Cert.MixNormGradReferenceIdeal.τ).loc Cert.MixNormGradReferenceIdeal.main_v45) = v0 c
          ∧ r.2.mem ((c.tc : Thread Cert.MixNormGradReferenceIdeal.nD Cert.MixNormGradReferenceIdeal.τ).loc Cert.MixNormGradReferenceIdeal.main_v25) = v1 c
          ∧ r.2.mem ((c.tc : Thread Cert.MixNormGradReferenceIdeal.nD Cert.MixNormGradReferenceIdeal.τ).loc Cert.MixNormGradReferenceIdeal.main_v28) = v2 c
          ∧ r.2.mem ((c.tc : Thread Cert.MixNormGradReferenceIdeal.nD Cert.MixNormGradReferenceIdeal.τ).loc Cert.MixNormGradReferenceIdeal.main_v58) = v3 c
          ∧ r.2.mem ((c.tc : Thread Cert.MixNormGradReferenceIdeal.nD Cert.MixNormGradReferenceIdeal.τ).loc Cert.MixNormGradReferenceIdeal.main_v57) = v4 c
          ∧ r.2.mem ((c.tc : Thread Cert.MixNormGradReferenceIdeal.nD Cert.MixNormGradReferenceIdeal.τ).loc Cert.MixNormGradReferenceIdeal.main_arg0) = m' ((c.tc : Thread Cert.MixNormGradReferenceIdeal.nD Cert.MixNormGradReferenceIdeal.τ).loc Cert.MixNormGradReferenceIdeal.main_arg0)
          ∧ r.2.mem ((c.tc : Thread Cert.MixNormGradReferenceIdeal.nD Cert.MixNormGradReferenceIdeal.τ).loc Cert.MixNormGradReferenceIdeal.main_arg1) = m' ((c.tc : Thread Cert.MixNormGradReferenceIdeal.nD Cert.MixNormGradReferenceIdeal.τ).loc Cert.MixNormGradReferenceIdeal.main_arg1)
          ∧ r.2.mem ((c.tc : Thread Cert.MixNormGradReferenceIdeal.nD Cert.MixNormGradReferenceIdeal.τ).loc Cert.MixNormGradReferenceIdeal.main_arg2) = m' ((c.tc : Thread Cert.MixNormGradReferenceIdeal.nD Cert.MixNormGradReferenceIdeal.τ).loc Cert.MixNormGradReferenceIdeal.main_arg2)
          ∧ r.2.mem ((c.tc : Thread Cert.MixNormGradReferenceIdeal.nD Cert.MixNormGradReferenceIdeal.τ).loc Cert.MixNormGradReferenceIdeal.main_arg3) = m' ((c.tc : Thread Cert.MixNormGradReferenceIdeal.nD Cert.MixNormGradReferenceIdeal.τ).loc Cert.MixNormGradReferenceIdeal.main_arg3)
          ∧ r.2.mem ((c.tc : Thread Cert.MixNormGradReferenceIdeal.nD Cert.MixNormGradReferenceIdeal.τ).loc Cert.MixNormGradReferenceIdeal.main_arg4) = m' ((c.tc : Thread Cert.MixNormGradReferenceIdeal.nD Cert.MixNormGradReferenceIdeal.τ).loc Cert.MixNormGradReferenceIdeal.main_arg4)
          ∧ r.2.mem ((c.tc : Thread Cert.MixNormGradReferenceIdeal.nD Cert.MixNormGradReferenceIdeal.τ).loc Cert.MixNormGradReferenceIdeal.main_arg5) = m' ((c.tc : Thread Cert.MixNormGradReferenceIdeal.nD Cert.MixNormGradReferenceIdeal.τ).loc Cert.MixNormGradReferenceIdeal.main_arg5)
          ∧ r.2.mem ((c.tc : Thread Cert.MixNormGradReferenceIdeal.nD Cert.MixNormGradReferenceIdeal.τ).loc Cert.MixNormGradReferenceIdeal.main_arg6) = m' ((c.tc : Thread Cert.MixNormGradReferenceIdeal.nD Cert.MixNormGradReferenceIdeal.τ).loc Cert.MixNormGradReferenceIdeal.main_arg6)
          ∧ r.2.mem ((c.tc : Thread Cert.MixNormGradReferenceIdeal.nD Cert.MixNormGradReferenceIdeal.τ).loc Cert.MixNormGradReferenceIdeal.main_arg7) = m' ((c.tc : Thread Cert.MixNormGradReferenceIdeal.nD Cert.MixNormGradReferenceIdeal.τ).loc Cert.MixNormGradReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_v4) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v2) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_OutWeightGrad_OutWeightGradIdeal : Prop :=
  True

def algebraic_OutWeightGradIdeal_OutWeightGradReferenceIdeal [hOutWeightGradIdeal : Cert.OutWeightGradIdeal.Facts] [hOutWeightGradReferenceIdeal : Cert.OutWeightGradReferenceIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradReferenceIdeal.nD Cert.OutWeightGradReferenceIdeal.τ Cert.OutWeightGradReferenceIdeal.sig) → Buf (Elt Ideal) ℓ) (g' : Dev Cert.OutWeightGradReferenceIdeal.nD → PrngReg), Pre_OutWeightGradIdeal m →
    (∀ c : Dev Cert.OutWeightGradIdeal.nD,
      m' ((c.tc : Thread Cert.OutWeightGradReferenceIdeal.nD Cert.OutWeightGradReferenceIdeal.τ).loc Cert.OutWeightGradReferenceIdeal.main_arg0) = m ((c.tc : Thread Cert.OutWeightGradIdeal.nD Cert.OutWeightGradIdeal.τ).loc Cert.OutWeightGradIdeal.main_arg0)
      ∧ m' ((c.tc : Thread Cert.OutWeightGradReferenceIdeal.nD Cert.OutWeightGradReferenceIdeal.τ).loc Cert.OutWeightGradReferenceIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v2)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v2) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradReferenceIdeal.defs (F := Ideal)) (onTc (τ := Cert.OutWeightGradReferenceIdeal.τ) (Cert.OutWeightGradReferenceIdeal.main (F := Ideal))) ⟨m', fun _ => 0, g'⟩ (fun r => ∀ c : Dev Cert.OutWeightGradReferenceIdeal.nD,
          r.2.mem ((c.tc : Thread Cert.OutWeightGradReferenceIdeal.nD Cert.OutWeightGradReferenceIdeal.τ).loc Cert.OutWeightGradReferenceIdeal.main_v4) = v0 c
          ∧ r.2.mem ((c.tc : Thread Cert.OutWeightGradReferenceIdeal.nD Cert.OutWeightGradReferenceIdeal.τ).loc Cert.OutWeightGradReferenceIdeal.main_arg0) = m' ((c.tc : Thread Cert.OutWeightGradReferenceIdeal.nD Cert.OutWeightGradReferenceIdeal.τ).loc Cert.OutWeightGradReferenceIdeal.main_arg0)
          ∧ r.2.mem ((c.tc : Thread Cert.OutWeightGradReferenceIdeal.nD Cert.OutWeightGradReferenceIdeal.τ).loc Cert.OutWeightGradReferenceIdeal.main_arg1) = m' ((c.tc : Thread Cert.OutWeightGradReferenceIdeal.nD Cert.OutWeightGradReferenceIdeal.τ).loc Cert.OutWeightGradReferenceIdeal.main_arg1))

def preserves_HalfNormGrad_HalfNormGradIdeal : Prop :=
  True

def algebraic_HalfNormGradIdeal_HalfNormGradReferenceIdeal_pre_finite_norm [hHalfNormGradIdeal : Cert.HalfNormGradIdeal.Facts] [hHalfNormGradReferenceIdeal : Cert.HalfNormGradReferenceIdeal.Facts] [hPre_finite_norm : Cert.Pre_finite_norm.Facts] : Prop :=
  ∀ (m : (ℓ : Loc Cert.HalfNormGradIdeal.nD Cert.HalfNormGradIdeal.τ Cert.HalfNormGradIdeal.sig) → Buf (Elt Ideal) ℓ) (g : Dev Cert.HalfNormGradIdeal.nD → PrngReg)
    (m' : (ℓ : Loc Cert.HalfNormGradReferenceIdeal.nD Cert.HalfNormGradReferenceIdeal.τ Cert.HalfNormGradReferenceIdeal.sig) → Buf (Elt Ideal) ℓ) (g' : Dev Cert.HalfNormGradReferenceIdeal.nD → PrngReg), Pre_HalfNormGradIdeal_finite_norm m →
    (∀ c : Dev Cert.HalfNormGradIdeal.nD,
      m' ((c.tc : Thread Cert.HalfNormGradReferenceIdeal.nD Cert.HalfNormGradReferenceIdeal.τ).loc Cert.HalfNormGradReferenceIdeal.main_arg0) = m ((c.tc : Thread Cert.HalfNormGradIdeal.nD Cert.HalfNormGradIdeal.τ).loc Cert.HalfNormGradIdeal.main_arg0)
      ∧ m' ((c.tc : Thread Cert.HalfNormGradReferenceIdeal.nD Cert.HalfNormGradReferenceIdeal.τ).loc Cert.HalfNormGradReferenceIdeal.main_arg1) = m ((c.tc : Thread Cert.HalfNormGradIdeal.nD Cert.HalfNormGradIdeal.τ).loc Cert.HalfNormGradIdeal.main_arg1)
      ∧ m' ((c.tc : Thread Cert.HalfNormGradReferenceIdeal.nD Cert.HalfNormGradReferenceIdeal.τ).loc Cert.HalfNormGradReferenceIdeal.main_arg2) = m ((c.tc : Thread Cert.HalfNormGradIdeal.nD Cert.HalfNormGradIdeal.τ).loc Cert.HalfNormGradIdeal.main_arg2)
      ∧ m' ((c.tc : Thread Cert.HalfNormGradReferenceIdeal.nD Cert.HalfNormGradReferenceIdeal.τ).loc Cert.HalfNormGradReferenceIdeal.main_arg3) = m ((c.tc : Thread Cert.HalfNormGradIdeal.nD Cert.HalfNormGradIdeal.τ).loc Cert.HalfNormGradIdeal.main_arg3)
      ∧ m' ((c.tc : Thread Cert.HalfNormGradReferenceIdeal.nD Cert.HalfNormGradReferenceIdeal.τ).loc Cert.HalfNormGradReferenceIdeal.main_arg4) = m ((c.tc : Thread Cert.HalfNormGradIdeal.nD Cert.HalfNormGradIdeal.τ).loc Cert.HalfNormGradIdeal.main_arg4)
      ∧ m' ((c.tc : Thread Cert.HalfNormGradReferenceIdeal.nD Cert.HalfNormGradReferenceIdeal.τ).loc Cert.HalfNormGradReferenceIdeal.main_arg5) = m ((c.tc : Thread Cert.HalfNormGradIdeal.nD Cert.HalfNormGradIdeal.τ).loc Cert.HalfNormGradIdeal.main_arg5)
      ∧ m' ((c.tc : Thread Cert.HalfNormGradReferenceIdeal.nD Cert.HalfNormGradReferenceIdeal.τ).loc Cert.HalfNormGradReferenceIdeal.main_arg6) = m ((c.tc : Thread Cert.HalfNormGradIdeal.nD Cert.HalfNormGradIdeal.τ).loc Cert.HalfNormGradIdeal.main_arg6)
      ∧ m' ((c.tc : Thread Cert.HalfNormGradReferenceIdeal.nD Cert.HalfNormGradReferenceIdeal.τ).loc Cert.HalfNormGradReferenceIdeal.main_arg7) = m ((c.tc : Thread Cert.HalfNormGradIdeal.nD Cert.HalfNormGradIdeal.τ).loc Cert.HalfNormGradIdeal.main_arg7)
      ∧ m' ((c.tc : Thread Cert.HalfNormGradReferenceIdeal.nD Cert.HalfNormGradReferenceIdeal.τ).loc Cert.HalfNormGradReferenceIdeal.main_arg8) = m ((c.tc : Thread Cert.HalfNormGradIdeal.nD Cert.HalfNormGradIdeal.τ).loc Cert.HalfNormGradIdeal.main_arg8)
      ∧ m' ((c.tc : Thread Cert.HalfNormGradReferenceIdeal.nD Cert.HalfNormGradReferenceIdeal.τ).loc Cert.HalfNormGradReferenceIdeal.main_arg9) = m ((c.tc : Thread Cert.HalfNormGradIdeal.nD Cert.HalfNormGradIdeal.τ).loc Cert.HalfNormGradIdeal.main_arg9)) →
    ∃ (v0 : (c : Dev Cert.HalfNormGradIdeal.nD) → Buf (Elt Ideal) ((c.tc : Thread Cert.HalfNormGradIdeal.nD Cert.HalfNormGradIdeal.τ).loc Cert.HalfNormGradIdeal.main_v11_0)) (v1 : (c : Dev Cert.HalfNormGradIdeal.nD) → Buf (Elt Ideal) ((c.tc : Thread Cert.HalfNormGradIdeal.nD Cert.HalfNormGradIdeal.τ).loc Cert.HalfNormGradIdeal.main_v11_1)) (v2 : (c : Dev Cert.HalfNormGradIdeal.nD) → Buf (Elt Ideal) ((c.tc : Thread Cert.HalfNormGradIdeal.nD Cert.HalfNormGradIdeal.τ).loc Cert.HalfNormGradIdeal.main_v11_2)) (v3 : (c : Dev Cert.HalfNormGradIdeal.nD) → Buf (Elt Ideal) ((c.tc : Thread Cert.HalfNormGradIdeal.nD Cert.HalfNormGradIdeal.τ).loc Cert.HalfNormGradIdeal.main_v11_3)) (v4 : (c : Dev Cert.HalfNormGradIdeal.nD) → Buf (Elt Ideal) ((c.tc : Thread Cert.HalfNormGradIdeal.nD Cert.HalfNormGradIdeal.τ).loc Cert.HalfNormGradIdeal.main_v11_4)),
      θ_run (Cert.HalfNormGradIdeal.defs (F := Ideal)) (onTc (τ := Cert.HalfNormGradIdeal.τ) (Cert.HalfNormGradIdeal.main (F := Ideal))) ⟨m, fun _ => 0, g⟩ (fun r => ∀ c : Dev Cert.HalfNormGradIdeal.nD,
          r.2.mem ((c.tc : Thread Cert.HalfNormGradIdeal.nD Cert.HalfNormGradIdeal.τ).loc Cert.HalfNormGradIdeal.main_v11_0) = v0 c
          ∧ r.2.mem ((c.tc : Thread Cert.HalfNormGradIdeal.nD Cert.HalfNormGradIdeal.τ).loc Cert.HalfNormGradIdeal.main_v11_1) = v1 c
          ∧ r.2.mem ((c.tc : Thread Cert.HalfNormGradIdeal.nD Cert.HalfNormGradIdeal.τ).loc Cert.HalfNormGradIdeal.main_v11_2) = v2 c
          ∧ r.2.mem ((c.tc : Thread Cert.HalfNormGradIdeal.nD Cert.HalfNormGradIdeal.τ).loc Cert.HalfNormGradIdeal.main_v11_3) = v3 c
          ∧ r.2.mem ((c.tc : Thread Cert.HalfNormGradIdeal.nD Cert.HalfNormGradIdeal.τ).loc Cert.HalfNormGradIdeal.main_v11_4) = v4 c
          ∧ r.2.mem ((c.tc : Thread Cert.HalfNormGradIdeal.nD Cert.HalfNormGradIdeal.τ).loc Cert.HalfNormGradIdeal.main_arg0) = m ((c.tc : Thread Cert.HalfNormGradIdeal.nD Cert.HalfNormGradIdeal.τ).loc Cert.HalfNormGradIdeal.main_arg0)
          ∧ r.2.mem ((c.tc : Thread Cert.HalfNormGradIdeal.nD Cert.HalfNormGradIdeal.τ).loc Cert.HalfNormGradIdeal.main_arg1) = m ((c.tc : Thread Cert.HalfNormGradIdeal.nD Cert.HalfNormGradIdeal.τ).loc Cert.HalfNormGradIdeal.main_arg1)
          ∧ r.2.mem ((c.tc : Thread Cert.HalfNormGradIdeal.nD Cert.HalfNormGradIdeal.τ).loc Cert.HalfNormGradIdeal.main_arg2) = m ((c.tc : Thread Cert.HalfNormGradIdeal.nD Cert.HalfNormGradIdeal.τ).loc Cert.HalfNormGradIdeal.main_arg2)
          ∧ r.2.mem ((c.tc : Thread Cert.HalfNormGradIdeal.nD Cert.HalfNormGradIdeal.τ).loc Cert.HalfNormGradIdeal.main_arg3) = m ((c.tc : Thread Cert.HalfNormGradIdeal.nD Cert.HalfNormGradIdeal.τ).loc Cert.HalfNormGradIdeal.main_arg3)
          ∧ r.2.mem ((c.tc : Thread Cert.HalfNormGradIdeal.nD Cert.HalfNormGradIdeal.τ).loc Cert.HalfNormGradIdeal.main_arg4) = m ((c.tc : Thread Cert.HalfNormGradIdeal.nD Cert.HalfNormGradIdeal.τ).loc Cert.HalfNormGradIdeal.main_arg4)
          ∧ r.2.mem ((c.tc : Thread Cert.HalfNormGradIdeal.nD Cert.HalfNormGradIdeal.τ).loc Cert.HalfNormGradIdeal.main_arg5) = m ((c.tc : Thread Cert.HalfNormGradIdeal.nD Cert.HalfNormGradIdeal.τ).loc Cert.HalfNormGradIdeal.main_arg5)
          ∧ r.2.mem ((c.tc : Thread Cert.HalfNormGradIdeal.nD Cert.HalfNormGradIdeal.τ).loc Cert.HalfNormGradIdeal.main_arg6) = m ((c.tc : Thread Cert.HalfNormGradIdeal.nD Cert.HalfNormGradIdeal.τ).loc Cert.HalfNormGradIdeal.main_arg6)
          ∧ r.2.mem ((c.tc : Thread Cert.HalfNormGradIdeal.nD Cert.HalfNormGradIdeal.τ).loc Cert.HalfNormGradIdeal.main_arg7) = m ((c.tc : Thread Cert.HalfNormGradIdeal.nD Cert.HalfNormGradIdeal.τ).loc Cert.HalfNormGradIdeal.main_arg7)
          ∧ r.2.mem ((c.tc : Thread Cert.HalfNormGradIdeal.nD Cert.HalfNormGradIdeal.τ).loc Cert.HalfNormGradIdeal.main_arg8) = m ((c.tc : Thread Cert.HalfNormGradIdeal.nD Cert.HalfNormGradIdeal.τ).loc Cert.HalfNormGradIdeal.main_arg8)
          ∧ r.2.mem ((c.tc : Thread Cert.HalfNormGradIdeal.nD Cert.HalfNormGradIdeal.τ).loc Cert.HalfNormGradIdeal.main_arg9) = m ((c.tc : Thread Cert.HalfNormGradIdeal.nD Cert.HalfNormGradIdeal.τ).loc Cert.HalfNormGradIdeal.main_arg9))
      ∧ θ_run (Cert.HalfNormGradReferenceIdeal.defs (F := Ideal)) (onTc (τ := Cert.HalfNormGradReferenceIdeal.τ) (Cert.HalfNormGradReferenceIdeal.main (F := Ideal))) ⟨m', fun _ => 0, g'⟩ (fun r => ∀ c : Dev Cert.HalfNormGradReferenceIdeal.nD,
          r.2.mem ((c.tc : Thread Cert.HalfNormGradReferenceIdeal.nD Cert.HalfNormGradReferenceIdeal.τ).loc Cert.HalfNormGradReferenceIdeal.main_v48) = v0 c
          ∧ r.2.mem ((c.tc : Thread Cert.HalfNormGradReferenceIdeal.nD Cert.HalfNormGradReferenceIdeal.τ).loc Cert.HalfNormGradReferenceIdeal.main_v28) = v1 c
          ∧ r.2.mem ((c.tc : Thread Cert.HalfNormGradReferenceIdeal.nD Cert.HalfNormGradReferenceIdeal.τ).loc Cert.HalfNormGradReferenceIdeal.main_v31) = v2 c
          ∧ r.2.mem ((c.tc : Thread Cert.HalfNormGradReferenceIdeal.nD Cert.HalfNormGradReferenceIdeal.τ).loc Cert.HalfNormGradReferenceIdeal.main_v61) = v3 c
          ∧ r.2.mem ((c.tc : Thread Cert.HalfNormGradReferenceIdeal.nD Cert.HalfNormGradReferenceIdeal.τ).loc Cert.HalfNormGradReferenceIdeal.main_v60) = v4 c
          ∧ r.2.mem ((c.tc : Thread Cert.HalfNormGradReferenceIdeal.nD Cert.HalfNormGradReferenceIdeal.τ).loc Cert.HalfNormGradReferenceIdeal.main_arg0) = m' ((c.tc : Thread Cert.HalfNormGradReferenceIdeal.nD Cert.HalfNormGradReferenceIdeal.τ).loc Cert.HalfNormGradReferenceIdeal.main_arg0)
          ∧ r.2.mem ((c.tc : Thread Cert.HalfNormGradReferenceIdeal.nD Cert.HalfNormGradReferenceIdeal.τ).loc Cert.HalfNormGradReferenceIdeal.main_arg1) = m' ((c.tc : Thread Cert.HalfNormGradReferenceIdeal.nD Cert.HalfNormGradReferenceIdeal.τ).loc Cert.HalfNormGradReferenceIdeal.main_arg1)
          ∧ r.2.mem ((c.tc : Thread Cert.HalfNormGradReferenceIdeal.nD Cert.HalfNormGradReferenceIdeal.τ).loc Cert.HalfNormGradReferenceIdeal.main_arg2) = m' ((c.tc : Thread Cert.HalfNormGradReferenceIdeal.nD Cert.HalfNormGradReferenceIdeal.τ).loc Cert.HalfNormGradReferenceIdeal.main_arg2)
          ∧ r.2.mem ((c.tc : Thread Cert.HalfNormGradReferenceIdeal.nD Cert.HalfNormGradReferenceIdeal.τ).loc Cert.HalfNormGradReferenceIdeal.main_arg3) = m' ((c.tc : Thread Cert.HalfNormGradReferenceIdeal.nD Cert.HalfNormGradReferenceIdeal.τ).loc Cert.HalfNormGradReferenceIdeal.main_arg3)
          ∧ r.2.mem ((c.tc : Thread Cert.HalfNormGradReferenceIdeal.nD Cert.HalfNormGradReferenceIdeal.τ).loc Cert.HalfNormGradReferenceIdeal.main_arg4) = m' ((c.tc : Thread Cert.HalfNormGradReferenceIdeal.nD Cert.HalfNormGradReferenceIdeal.τ).loc Cert.HalfNormGradReferenceIdeal.main_arg4)
          ∧ r.2.mem ((c.tc : Thread Cert.HalfNormGradReferenceIdeal.nD Cert.HalfNormGradReferenceIdeal.τ).loc Cert.HalfNormGradReferenceIdeal.main_arg5) = m' ((c.tc : Thread Cert.HalfNormGradReferenceIdeal.nD Cert.HalfNormGradReferenceIdeal.τ).loc Cert.HalfNormGradReferenceIdeal.main_arg5)
          ∧ r.2.mem ((c.tc : Thread Cert.HalfNormGradReferenceIdeal.nD Cert.HalfNormGradReferenceIdeal.τ).loc Cert.HalfNormGradReferenceIdeal.main_arg6) = m' ((c.tc : Thread Cert.HalfNormGradReferenceIdeal.nD Cert.HalfNormGradReferenceIdeal.τ).loc Cert.HalfNormGradReferenceIdeal.main_arg6)
          ∧ r.2.mem ((c.tc : Thread Cert.HalfNormGradReferenceIdeal.nD Cert.HalfNormGradReferenceIdeal.τ).loc Cert.HalfNormGradReferenceIdeal.main_arg7) = m' ((c.tc : Thread Cert.HalfNormGradReferenceIdeal.nD Cert.HalfNormGradReferenceIdeal.τ).loc Cert.HalfNormGradReferenceIdeal.main_arg7)
          ∧ r.2.mem ((c.tc : Thread Cert.HalfNormGradReferenceIdeal.nD Cert.HalfNormGradReferenceIdeal.τ).loc Cert.HalfNormGradReferenceIdeal.main_arg8) = m' ((c.tc : Thread Cert.HalfNormGradReferenceIdeal.nD Cert.HalfNormGradReferenceIdeal.τ).loc Cert.HalfNormGradReferenceIdeal.main_arg8)
          ∧ r.2.mem ((c.tc : Thread Cert.HalfNormGradReferenceIdeal.nD Cert.HalfNormGradReferenceIdeal.τ).loc Cert.HalfNormGradReferenceIdeal.main_arg9) = m' ((c.tc : Thread Cert.HalfNormGradReferenceIdeal.nD Cert.HalfNormGradReferenceIdeal.τ).loc Cert.HalfNormGradReferenceIdeal.main_arg9))

def preserves_LastNormGrad_LastNormGradIdeal : Prop :=
  True

def algebraic_LastNormGradIdeal_LastNormGradReferenceIdeal_pre_finite_last [hLastNormGradIdeal : Cert.LastNormGradIdeal.Facts] [hLastNormGradReferenceIdeal : Cert.LastNormGradReferenceIdeal.Facts] [hPre_finite_last : Cert.Pre_finite_last.Facts] : Prop :=
  ∀ (m : (ℓ : Loc Cert.LastNormGradIdeal.nD Cert.LastNormGradIdeal.τ Cert.LastNormGradIdeal.sig) → Buf (Elt Ideal) ℓ) (g : Dev Cert.LastNormGradIdeal.nD → PrngReg)
    (m' : (ℓ : Loc Cert.LastNormGradReferenceIdeal.nD Cert.LastNormGradReferenceIdeal.τ Cert.LastNormGradReferenceIdeal.sig) → Buf (Elt Ideal) ℓ) (g' : Dev Cert.LastNormGradReferenceIdeal.nD → PrngReg), Pre_LastNormGradIdeal_finite_last m →
    (∀ c : Dev Cert.LastNormGradIdeal.nD,
      m' ((c.tc : Thread Cert.LastNormGradReferenceIdeal.nD Cert.LastNormGradReferenceIdeal.τ).loc Cert.LastNormGradReferenceIdeal.main_arg0) = m ((c.tc : Thread Cert.LastNormGradIdeal.nD Cert.LastNormGradIdeal.τ).loc Cert.LastNormGradIdeal.main_arg0)
      ∧ m' ((c.tc : Thread Cert.LastNormGradReferenceIdeal.nD Cert.LastNormGradReferenceIdeal.τ).loc Cert.LastNormGradReferenceIdeal.main_arg1) = m ((c.tc : Thread Cert.LastNormGradIdeal.nD Cert.LastNormGradIdeal.τ).loc Cert.LastNormGradIdeal.main_arg1)
      ∧ m' ((c.tc : Thread Cert.LastNormGradReferenceIdeal.nD Cert.LastNormGradReferenceIdeal.τ).loc Cert.LastNormGradReferenceIdeal.main_arg2) = m ((c.tc : Thread Cert.LastNormGradIdeal.nD Cert.LastNormGradIdeal.τ).loc Cert.LastNormGradIdeal.main_arg2)
      ∧ m' ((c.tc : Thread Cert.LastNormGradReferenceIdeal.nD Cert.LastNormGradReferenceIdeal.τ).loc Cert.LastNormGradReferenceIdeal.main_arg3) = m ((c.tc : Thread Cert.LastNormGradIdeal.nD Cert.LastNormGradIdeal.τ).loc Cert.LastNormGradIdeal.main_arg3)
      ∧ m' ((c.tc : Thread Cert.LastNormGradReferenceIdeal.nD Cert.LastNormGradReferenceIdeal.τ).loc Cert.LastNormGradReferenceIdeal.main_arg4) = m ((c.tc : Thread Cert.LastNormGradIdeal.nD Cert.LastNormGradIdeal.τ).loc Cert.LastNormGradIdeal.main_arg4)
      ∧ m' ((c.tc : Thread Cert.LastNormGradReferenceIdeal.nD Cert.LastNormGradReferenceIdeal.τ).loc Cert.LastNormGradReferenceIdeal.main_arg5) = m ((c.tc : Thread Cert.LastNormGradIdeal.nD Cert.LastNormGradIdeal.τ).loc Cert.LastNormGradIdeal.main_arg5)
      ∧ m' ((c.tc : Thread Cert.LastNormGradReferenceIdeal.nD Cert.LastNormGradReferenceIdeal.τ).loc Cert.LastNormGradReferenceIdeal.main_arg6) = m ((c.tc : Thread Cert.LastNormGradIdeal.nD Cert.LastNormGradIdeal.τ).loc Cert.LastNormGradIdeal.main_arg6)
      ∧ m' ((c.tc : Thread Cert.LastNormGradReferenceIdeal.nD Cert.LastNormGradReferenceIdeal.τ).loc Cert.LastNormGradReferenceIdeal.main_arg7) = m ((c.tc : Thread Cert.LastNormGradIdeal.nD Cert.LastNormGradIdeal.τ).loc Cert.LastNormGradIdeal.main_arg7)) →
    ∃ (v0 : (c : Dev Cert.LastNormGradIdeal.nD) → Buf (Elt Ideal) ((c.tc : Thread Cert.LastNormGradIdeal.nD Cert.LastNormGradIdeal.τ).loc Cert.LastNormGradIdeal.main_v8_0)) (v1 : (c : Dev Cert.LastNormGradIdeal.nD) → Buf (Elt Ideal) ((c.tc : Thread Cert.LastNormGradIdeal.nD Cert.LastNormGradIdeal.τ).loc Cert.LastNormGradIdeal.main_v8_1)) (v2 : (c : Dev Cert.LastNormGradIdeal.nD) → Buf (Elt Ideal) ((c.tc : Thread Cert.LastNormGradIdeal.nD Cert.LastNormGradIdeal.τ).loc Cert.LastNormGradIdeal.main_v8_2)),
      θ_run (Cert.LastNormGradIdeal.defs (F := Ideal)) (onTc (τ := Cert.LastNormGradIdeal.τ) (Cert.LastNormGradIdeal.main (F := Ideal))) ⟨m, fun _ => 0, g⟩ (fun r => ∀ c : Dev Cert.LastNormGradIdeal.nD,
          r.2.mem ((c.tc : Thread Cert.LastNormGradIdeal.nD Cert.LastNormGradIdeal.τ).loc Cert.LastNormGradIdeal.main_v8_0) = v0 c
          ∧ r.2.mem ((c.tc : Thread Cert.LastNormGradIdeal.nD Cert.LastNormGradIdeal.τ).loc Cert.LastNormGradIdeal.main_v8_1) = v1 c
          ∧ r.2.mem ((c.tc : Thread Cert.LastNormGradIdeal.nD Cert.LastNormGradIdeal.τ).loc Cert.LastNormGradIdeal.main_v8_2) = v2 c
          ∧ r.2.mem ((c.tc : Thread Cert.LastNormGradIdeal.nD Cert.LastNormGradIdeal.τ).loc Cert.LastNormGradIdeal.main_arg0) = m ((c.tc : Thread Cert.LastNormGradIdeal.nD Cert.LastNormGradIdeal.τ).loc Cert.LastNormGradIdeal.main_arg0)
          ∧ r.2.mem ((c.tc : Thread Cert.LastNormGradIdeal.nD Cert.LastNormGradIdeal.τ).loc Cert.LastNormGradIdeal.main_arg1) = m ((c.tc : Thread Cert.LastNormGradIdeal.nD Cert.LastNormGradIdeal.τ).loc Cert.LastNormGradIdeal.main_arg1)
          ∧ r.2.mem ((c.tc : Thread Cert.LastNormGradIdeal.nD Cert.LastNormGradIdeal.τ).loc Cert.LastNormGradIdeal.main_arg2) = m ((c.tc : Thread Cert.LastNormGradIdeal.nD Cert.LastNormGradIdeal.τ).loc Cert.LastNormGradIdeal.main_arg2)
          ∧ r.2.mem ((c.tc : Thread Cert.LastNormGradIdeal.nD Cert.LastNormGradIdeal.τ).loc Cert.LastNormGradIdeal.main_arg3) = m ((c.tc : Thread Cert.LastNormGradIdeal.nD Cert.LastNormGradIdeal.τ).loc Cert.LastNormGradIdeal.main_arg3)
          ∧ r.2.mem ((c.tc : Thread Cert.LastNormGradIdeal.nD Cert.LastNormGradIdeal.τ).loc Cert.LastNormGradIdeal.main_arg4) = m ((c.tc : Thread Cert.LastNormGradIdeal.nD Cert.LastNormGradIdeal.τ).loc Cert.LastNormGradIdeal.main_arg4)
          ∧ r.2.mem ((c.tc : Thread Cert.LastNormGradIdeal.nD Cert.LastNormGradIdeal.τ).loc Cert.LastNormGradIdeal.main_arg5) = m ((c.tc : Thread Cert.LastNormGradIdeal.nD Cert.LastNormGradIdeal.τ).loc Cert.LastNormGradIdeal.main_arg5)
          ∧ r.2.mem ((c.tc : Thread Cert.LastNormGradIdeal.nD Cert.LastNormGradIdeal.τ).loc Cert.LastNormGradIdeal.main_arg6) = m ((c.tc : Thread Cert.LastNormGradIdeal.nD Cert.LastNormGradIdeal.τ).loc Cert.LastNormGradIdeal.main_arg6)
          ∧ r.2.mem ((c.tc : Thread Cert.LastNormGradIdeal.nD Cert.LastNormGradIdeal.τ).loc Cert.LastNormGradIdeal.main_arg7) = m ((c.tc : Thread Cert.LastNormGradIdeal.nD Cert.LastNormGradIdeal.τ).loc Cert.LastNormGradIdeal.main_arg7))
      ∧ θ_run (Cert.LastNormGradReferenceIdeal.defs (F := Ideal)) (onTc (τ := Cert.LastNormGradReferenceIdeal.τ) (Cert.LastNormGradReferenceIdeal.main (F := Ideal))) ⟨m', fun _ => 0, g'⟩ (fun r => ∀ c : Dev Cert.LastNormGradReferenceIdeal.nD,
          r.2.mem ((c.tc : Thread Cert.LastNormGradReferenceIdeal.nD Cert.LastNormGradReferenceIdeal.τ).loc Cert.LastNormGradReferenceIdeal.main_v48) = v0 c
          ∧ r.2.mem ((c.tc : Thread Cert.LastNormGradReferenceIdeal.nD Cert.LastNormGradReferenceIdeal.τ).loc Cert.LastNormGradReferenceIdeal.main_v28) = v1 c
          ∧ r.2.mem ((c.tc : Thread Cert.LastNormGradReferenceIdeal.nD Cert.LastNormGradReferenceIdeal.τ).loc Cert.LastNormGradReferenceIdeal.main_v31) = v2 c
          ∧ r.2.mem ((c.tc : Thread Cert.LastNormGradReferenceIdeal.nD Cert.LastNormGradReferenceIdeal.τ).loc Cert.LastNormGradReferenceIdeal.main_arg0) = m' ((c.tc : Thread Cert.LastNormGradReferenceIdeal.nD Cert.LastNormGradReferenceIdeal.τ).loc Cert.LastNormGradReferenceIdeal.main_arg0)
          ∧ r.2.mem ((c.tc : Thread Cert.LastNormGradReferenceIdeal.nD Cert.LastNormGradReferenceIdeal.τ).loc Cert.LastNormGradReferenceIdeal.main_arg1) = m' ((c.tc : Thread Cert.LastNormGradReferenceIdeal.nD Cert.LastNormGradReferenceIdeal.τ).loc Cert.LastNormGradReferenceIdeal.main_arg1)
          ∧ r.2.mem ((c.tc : Thread Cert.LastNormGradReferenceIdeal.nD Cert.LastNormGradReferenceIdeal.τ).loc Cert.LastNormGradReferenceIdeal.main_arg2) = m' ((c.tc : Thread Cert.LastNormGradReferenceIdeal.nD Cert.LastNormGradReferenceIdeal.τ).loc Cert.LastNormGradReferenceIdeal.main_arg2)
          ∧ r.2.mem ((c.tc : Thread Cert.LastNormGradReferenceIdeal.nD Cert.LastNormGradReferenceIdeal.τ).loc Cert.LastNormGradReferenceIdeal.main_arg3) = m' ((c.tc : Thread Cert.LastNormGradReferenceIdeal.nD Cert.LastNormGradReferenceIdeal.τ).loc Cert.LastNormGradReferenceIdeal.main_arg3)
          ∧ r.2.mem ((c.tc : Thread Cert.LastNormGradReferenceIdeal.nD Cert.LastNormGradReferenceIdeal.τ).loc Cert.LastNormGradReferenceIdeal.main_arg4) = m' ((c.tc : Thread Cert.LastNormGradReferenceIdeal.nD Cert.LastNormGradReferenceIdeal.τ).loc Cert.LastNormGradReferenceIdeal.main_arg4)
          ∧ r.2.mem ((c.tc : Thread Cert.LastNormGradReferenceIdeal.nD Cert.LastNormGradReferenceIdeal.τ).loc Cert.LastNormGradReferenceIdeal.main_arg5) = m' ((c.tc : Thread Cert.LastNormGradReferenceIdeal.nD Cert.LastNormGradReferenceIdeal.τ).loc Cert.LastNormGradReferenceIdeal.main_arg5)
          ∧ r.2.mem ((c.tc : Thread Cert.LastNormGradReferenceIdeal.nD Cert.LastNormGradReferenceIdeal.τ).loc Cert.LastNormGradReferenceIdeal.main_arg6) = m' ((c.tc : Thread Cert.LastNormGradReferenceIdeal.nD Cert.LastNormGradReferenceIdeal.τ).loc Cert.LastNormGradReferenceIdeal.main_arg6)
          ∧ r.2.mem ((c.tc : Thread Cert.LastNormGradReferenceIdeal.nD Cert.LastNormGradReferenceIdeal.τ).loc Cert.LastNormGradReferenceIdeal.main_arg7) = m' ((c.tc : Thread Cert.LastNormGradReferenceIdeal.nD Cert.LastNormGradReferenceIdeal.τ).loc Cert.LastNormGradReferenceIdeal.main_arg7))

def preserves_SbForward_SbForwardIdeal : Prop :=
  True

def algebraic_SbForwardIdeal_SbForwardReferenceIdeal_pre_finite_forward [hSbForwardIdeal : Cert.SbForwardIdeal.Facts] [hSbForwardReferenceIdeal : Cert.SbForwardReferenceIdeal.Facts] [hPre_finite_forward : Cert.Pre_finite_forward.Facts] : Prop :=
  ∀ (m : (ℓ : Loc Cert.SbForwardIdeal.nD Cert.SbForwardIdeal.τ Cert.SbForwardIdeal.sig) → Buf (Elt Ideal) ℓ) (g : Dev Cert.SbForwardIdeal.nD → PrngReg)
    (m' : (ℓ : Loc Cert.SbForwardReferenceIdeal.nD Cert.SbForwardReferenceIdeal.τ Cert.SbForwardReferenceIdeal.sig) → Buf (Elt Ideal) ℓ) (g' : Dev Cert.SbForwardReferenceIdeal.nD → PrngReg), Pre_SbForwardIdeal_finite_forward m →
    (∀ c : Dev Cert.SbForwardIdeal.nD,
      m' ((c.tc : Thread Cert.SbForwardReferenceIdeal.nD Cert.SbForwardReferenceIdeal.τ).loc Cert.SbForwardReferenceIdeal.main_arg0) = m ((c.tc : Thread Cert.SbForwardIdeal.nD Cert.SbForwardIdeal.τ).loc Cert.SbForwardIdeal.main_arg0)
      ∧ m' ((c.tc : Thread Cert.SbForwardReferenceIdeal.nD Cert.SbForwardReferenceIdeal.τ).loc Cert.SbForwardReferenceIdeal.main_arg1) = m ((c.tc : Thread Cert.SbForwardIdeal.nD Cert.SbForwardIdeal.τ).loc Cert.SbForwardIdeal.main_arg1)
      ∧ m' ((c.tc : Thread Cert.SbForwardReferenceIdeal.nD Cert.SbForwardReferenceIdeal.τ).loc Cert.SbForwardReferenceIdeal.main_arg2) = m ((c.tc : Thread Cert.SbForwardIdeal.nD Cert.SbForwardIdeal.τ).loc Cert.SbForwardIdeal.main_arg2)) →
    ∃ (v0 : (c : Dev Cert.SbForwardIdeal.nD) → Buf (Elt Ideal) ((c.tc : Thread Cert.SbForwardIdeal.nD Cert.SbForwardIdeal.τ).loc Cert.SbForwardIdeal.main_v10_0)) (v1 : (c : Dev Cert.SbForwardIdeal.nD) → Buf (Elt Ideal) ((c.tc : Thread Cert.SbForwardIdeal.nD Cert.SbForwardIdeal.τ).loc Cert.SbForwardIdeal.main_v10_1)),
      θ_run (Cert.SbForwardIdeal.defs (F := Ideal)) (onTc (τ := Cert.SbForwardIdeal.τ) (Cert.SbForwardIdeal.main (F := Ideal))) ⟨m, fun _ => 0, g⟩ (fun r => ∀ c : Dev Cert.SbForwardIdeal.nD,
          r.2.mem ((c.tc : Thread Cert.SbForwardIdeal.nD Cert.SbForwardIdeal.τ).loc Cert.SbForwardIdeal.main_v10_0) = v0 c
          ∧ r.2.mem ((c.tc : Thread Cert.SbForwardIdeal.nD Cert.SbForwardIdeal.τ).loc Cert.SbForwardIdeal.main_v10_1) = v1 c
          ∧ r.2.mem ((c.tc : Thread Cert.SbForwardIdeal.nD Cert.SbForwardIdeal.τ).loc Cert.SbForwardIdeal.main_arg0) = m ((c.tc : Thread Cert.SbForwardIdeal.nD Cert.SbForwardIdeal.τ).loc Cert.SbForwardIdeal.main_arg0)
          ∧ r.2.mem ((c.tc : Thread Cert.SbForwardIdeal.nD Cert.SbForwardIdeal.τ).loc Cert.SbForwardIdeal.main_arg1) = m ((c.tc : Thread Cert.SbForwardIdeal.nD Cert.SbForwardIdeal.τ).loc Cert.SbForwardIdeal.main_arg1)
          ∧ r.2.mem ((c.tc : Thread Cert.SbForwardIdeal.nD Cert.SbForwardIdeal.τ).loc Cert.SbForwardIdeal.main_arg2) = m ((c.tc : Thread Cert.SbForwardIdeal.nD Cert.SbForwardIdeal.τ).loc Cert.SbForwardIdeal.main_arg2))
      ∧ θ_run (Cert.SbForwardReferenceIdeal.defs (F := Ideal)) (onTc (τ := Cert.SbForwardReferenceIdeal.τ) (Cert.SbForwardReferenceIdeal.main (F := Ideal))) ⟨m', fun _ => 0, g'⟩ (fun r => ∀ c : Dev Cert.SbForwardReferenceIdeal.nD,
          r.2.mem ((c.tc : Thread Cert.SbForwardReferenceIdeal.nD Cert.SbForwardReferenceIdeal.τ).loc Cert.SbForwardReferenceIdeal.main_v35) = v0 c
          ∧ r.2.mem ((c.tc : Thread Cert.SbForwardReferenceIdeal.nD Cert.SbForwardReferenceIdeal.τ).loc Cert.SbForwardReferenceIdeal.main_v36) = v1 c
          ∧ r.2.mem ((c.tc : Thread Cert.SbForwardReferenceIdeal.nD Cert.SbForwardReferenceIdeal.τ).loc Cert.SbForwardReferenceIdeal.main_arg0) = m' ((c.tc : Thread Cert.SbForwardReferenceIdeal.nD Cert.SbForwardReferenceIdeal.τ).loc Cert.SbForwardReferenceIdeal.main_arg0)
          ∧ r.2.mem ((c.tc : Thread Cert.SbForwardReferenceIdeal.nD Cert.SbForwardReferenceIdeal.τ).loc Cert.SbForwardReferenceIdeal.main_arg1) = m' ((c.tc : Thread Cert.SbForwardReferenceIdeal.nD Cert.SbForwardReferenceIdeal.τ).loc Cert.SbForwardReferenceIdeal.main_arg1)
          ∧ r.2.mem ((c.tc : Thread Cert.SbForwardReferenceIdeal.nD Cert.SbForwardReferenceIdeal.τ).loc Cert.SbForwardReferenceIdeal.main_arg2) = m' ((c.tc : Thread Cert.SbForwardReferenceIdeal.nD Cert.SbForwardReferenceIdeal.τ).loc Cert.SbForwardReferenceIdeal.main_arg2))

def preserves_BranchSbGrad_BranchSbGradIdeal : Prop :=
  True

def algebraic_BranchSbGradIdeal_BranchSbGradReferenceIdeal [hBranchSbGradIdeal : Cert.BranchSbGradIdeal.Facts] [hBranchSbGradReferenceIdeal : Cert.BranchSbGradReferenceIdeal.Facts] : Prop :=
  ∀ (m : (ℓ : Loc Cert.BranchSbGradIdeal.nD Cert.BranchSbGradIdeal.τ Cert.BranchSbGradIdeal.sig) → Buf (Elt Ideal) ℓ) (g : Dev Cert.BranchSbGradIdeal.nD → PrngReg)
    (m' : (ℓ : Loc Cert.BranchSbGradReferenceIdeal.nD Cert.BranchSbGradReferenceIdeal.τ Cert.BranchSbGradReferenceIdeal.sig) → Buf (Elt Ideal) ℓ) (g' : Dev Cert.BranchSbGradReferenceIdeal.nD → PrngReg), Pre_BranchSbGradIdeal m →
    (∀ c : Dev Cert.BranchSbGradIdeal.nD,
      m' ((c.tc : Thread Cert.BranchSbGradReferenceIdeal.nD Cert.BranchSbGradReferenceIdeal.τ).loc Cert.BranchSbGradReferenceIdeal.main_arg0) = m ((c.tc : Thread Cert.BranchSbGradIdeal.nD Cert.BranchSbGradIdeal.τ).loc Cert.BranchSbGradIdeal.main_arg0)
      ∧ m' ((c.tc : Thread Cert.BranchSbGradReferenceIdeal.nD Cert.BranchSbGradReferenceIdeal.τ).loc Cert.BranchSbGradReferenceIdeal.main_arg1) = m ((c.tc : Thread Cert.BranchSbGradIdeal.nD Cert.BranchSbGradIdeal.τ).loc Cert.BranchSbGradIdeal.main_arg1)) →
    ∃ (v0 : (c : Dev Cert.BranchSbGradIdeal.nD) → Buf (Elt Ideal) ((c.tc : Thread Cert.BranchSbGradIdeal.nD Cert.BranchSbGradIdeal.τ).loc Cert.BranchSbGradIdeal.main_v2)),
      θ_run (Cert.BranchSbGradIdeal.defs (F := Ideal)) (onTc (τ := Cert.BranchSbGradIdeal.τ) (Cert.BranchSbGradIdeal.main (F := Ideal))) ⟨m, fun _ => 0, g⟩ (fun r => ∀ c : Dev Cert.BranchSbGradIdeal.nD,
          r.2.mem ((c.tc : Thread Cert.BranchSbGradIdeal.nD Cert.BranchSbGradIdeal.τ).loc Cert.BranchSbGradIdeal.main_v2) = v0 c
          ∧ r.2.mem ((c.tc : Thread Cert.BranchSbGradIdeal.nD Cert.BranchSbGradIdeal.τ).loc Cert.BranchSbGradIdeal.main_arg0) = m ((c.tc : Thread Cert.BranchSbGradIdeal.nD Cert.BranchSbGradIdeal.τ).loc Cert.BranchSbGradIdeal.main_arg0)
          ∧ r.2.mem ((c.tc : Thread Cert.BranchSbGradIdeal.nD Cert.BranchSbGradIdeal.τ).loc Cert.BranchSbGradIdeal.main_arg1) = m ((c.tc : Thread Cert.BranchSbGradIdeal.nD Cert.BranchSbGradIdeal.τ).loc Cert.BranchSbGradIdeal.main_arg1))
      ∧ θ_run (Cert.BranchSbGradReferenceIdeal.defs (F := Ideal)) (onTc (τ := Cert.BranchSbGradReferenceIdeal.τ) (Cert.BranchSbGradReferenceIdeal.main (F := Ideal))) ⟨m', fun _ => 0, g'⟩ (fun r => ∀ c : Dev Cert.BranchSbGradReferenceIdeal.nD,
          r.2.mem ((c.tc : Thread Cert.BranchSbGradReferenceIdeal.nD Cert.BranchSbGradReferenceIdeal.τ).loc Cert.BranchSbGradReferenceIdeal.main_v4) = v0 c
          ∧ r.2.mem ((c.tc : Thread Cert.BranchSbGradReferenceIdeal.nD Cert.BranchSbGradReferenceIdeal.τ).loc Cert.BranchSbGradReferenceIdeal.main_arg0) = m' ((c.tc : Thread Cert.BranchSbGradReferenceIdeal.nD Cert.BranchSbGradReferenceIdeal.τ).loc Cert.BranchSbGradReferenceIdeal.main_arg0)
          ∧ r.2.mem ((c.tc : Thread Cert.BranchSbGradReferenceIdeal.nD Cert.BranchSbGradReferenceIdeal.τ).loc Cert.BranchSbGradReferenceIdeal.main_arg1) = m' ((c.tc : Thread Cert.BranchSbGradReferenceIdeal.nD Cert.BranchSbGradReferenceIdeal.τ).loc Cert.BranchSbGradReferenceIdeal.main_arg1))

def preserves_BranchDilGrad_BranchDilGradIdeal : Prop :=
  True

def algebraic_BranchDilGradIdeal_BranchDilGradReferenceIdeal [hBranchDilGradIdeal : Cert.BranchDilGradIdeal.Facts] [hBranchDilGradReferenceIdeal : Cert.BranchDilGradReferenceIdeal.Facts] : Prop :=
  ∀ (m : (ℓ : Loc Cert.BranchDilGradIdeal.nD Cert.BranchDilGradIdeal.τ Cert.BranchDilGradIdeal.sig) → Buf (Elt Ideal) ℓ) (g : Dev Cert.BranchDilGradIdeal.nD → PrngReg)
    (m' : (ℓ : Loc Cert.BranchDilGradReferenceIdeal.nD Cert.BranchDilGradReferenceIdeal.τ Cert.BranchDilGradReferenceIdeal.sig) → Buf (Elt Ideal) ℓ) (g' : Dev Cert.BranchDilGradReferenceIdeal.nD → PrngReg), Pre_BranchDilGradIdeal m →
    (∀ c : Dev Cert.BranchDilGradIdeal.nD,
      m' ((c.tc : Thread Cert.BranchDilGradReferenceIdeal.nD Cert.BranchDilGradReferenceIdeal.τ).loc Cert.BranchDilGradReferenceIdeal.main_arg0) = m ((c.tc : Thread Cert.BranchDilGradIdeal.nD Cert.BranchDilGradIdeal.τ).loc Cert.BranchDilGradIdeal.main_arg0)
      ∧ m' ((c.tc : Thread Cert.BranchDilGradReferenceIdeal.nD Cert.BranchDilGradReferenceIdeal.τ).loc Cert.BranchDilGradReferenceIdeal.main_arg1) = m ((c.tc : Thread Cert.BranchDilGradIdeal.nD Cert.BranchDilGradIdeal.τ).loc Cert.BranchDilGradIdeal.main_arg1)) →
    ∃ (v0 : (c : Dev Cert.BranchDilGradIdeal.nD) → Buf (Elt Ideal) ((c.tc : Thread Cert.BranchDilGradIdeal.nD Cert.BranchDilGradIdeal.τ).loc Cert.BranchDilGradIdeal.main_v2)),
      θ_run (Cert.BranchDilGradIdeal.defs (F := Ideal)) (onTc (τ := Cert.BranchDilGradIdeal.τ) (Cert.BranchDilGradIdeal.main (F := Ideal))) ⟨m, fun _ => 0, g⟩ (fun r => ∀ c : Dev Cert.BranchDilGradIdeal.nD,
          r.2.mem ((c.tc : Thread Cert.BranchDilGradIdeal.nD Cert.BranchDilGradIdeal.τ).loc Cert.BranchDilGradIdeal.main_v2) = v0 c
          ∧ r.2.mem ((c.tc : Thread Cert.BranchDilGradIdeal.nD Cert.BranchDilGradIdeal.τ).loc Cert.BranchDilGradIdeal.main_arg0) = m ((c.tc : Thread Cert.BranchDilGradIdeal.nD Cert.BranchDilGradIdeal.τ).loc Cert.BranchDilGradIdeal.main_arg0)
          ∧ r.2.mem ((c.tc : Thread Cert.BranchDilGradIdeal.nD Cert.BranchDilGradIdeal.τ).loc Cert.BranchDilGradIdeal.main_arg1) = m ((c.tc : Thread Cert.BranchDilGradIdeal.nD Cert.BranchDilGradIdeal.τ).loc Cert.BranchDilGradIdeal.main_arg1))
      ∧ θ_run (Cert.BranchDilGradReferenceIdeal.defs (F := Ideal)) (onTc (τ := Cert.BranchDilGradReferenceIdeal.τ) (Cert.BranchDilGradReferenceIdeal.main (F := Ideal))) ⟨m', fun _ => 0, g'⟩ (fun r => ∀ c : Dev Cert.BranchDilGradReferenceIdeal.nD,
          r.2.mem ((c.tc : Thread Cert.BranchDilGradReferenceIdeal.nD Cert.BranchDilGradReferenceIdeal.τ).loc Cert.BranchDilGradReferenceIdeal.main_v4) = v0 c
          ∧ r.2.mem ((c.tc : Thread Cert.BranchDilGradReferenceIdeal.nD Cert.BranchDilGradReferenceIdeal.τ).loc Cert.BranchDilGradReferenceIdeal.main_arg0) = m' ((c.tc : Thread Cert.BranchDilGradReferenceIdeal.nD Cert.BranchDilGradReferenceIdeal.τ).loc Cert.BranchDilGradReferenceIdeal.main_arg0)
          ∧ r.2.mem ((c.tc : Thread Cert.BranchDilGradReferenceIdeal.nD Cert.BranchDilGradReferenceIdeal.τ).loc Cert.BranchDilGradReferenceIdeal.main_arg1) = m' ((c.tc : Thread Cert.BranchDilGradReferenceIdeal.nD Cert.BranchDilGradReferenceIdeal.τ).loc Cert.BranchDilGradReferenceIdeal.main_arg1))

def preserves_BranchSwaGrad_BranchSwaGradIdeal : Prop :=
  True

def algebraic_BranchSwaGradIdeal_BranchSwaGradReferenceIdeal [hBranchSwaGradIdeal : Cert.BranchSwaGradIdeal.Facts] [hBranchSwaGradReferenceIdeal : Cert.BranchSwaGradReferenceIdeal.Facts] : Prop :=
  ∀ (m : (ℓ : Loc Cert.BranchSwaGradIdeal.nD Cert.BranchSwaGradIdeal.τ Cert.BranchSwaGradIdeal.sig) → Buf (Elt Ideal) ℓ) (g : Dev Cert.BranchSwaGradIdeal.nD → PrngReg)
    (m' : (ℓ : Loc Cert.BranchSwaGradReferenceIdeal.nD Cert.BranchSwaGradReferenceIdeal.τ Cert.BranchSwaGradReferenceIdeal.sig) → Buf (Elt Ideal) ℓ) (g' : Dev Cert.BranchSwaGradReferenceIdeal.nD → PrngReg), Pre_BranchSwaGradIdeal m →
    (∀ c : Dev Cert.BranchSwaGradIdeal.nD,
      m' ((c.tc : Thread Cert.BranchSwaGradReferenceIdeal.nD Cert.BranchSwaGradReferenceIdeal.τ).loc Cert.BranchSwaGradReferenceIdeal.main_arg0) = m ((c.tc : Thread Cert.BranchSwaGradIdeal.nD Cert.BranchSwaGradIdeal.τ).loc Cert.BranchSwaGradIdeal.main_arg0)
      ∧ m' ((c.tc : Thread Cert.BranchSwaGradReferenceIdeal.nD Cert.BranchSwaGradReferenceIdeal.τ).loc Cert.BranchSwaGradReferenceIdeal.main_arg1) = m ((c.tc : Thread Cert.BranchSwaGradIdeal.nD Cert.BranchSwaGradIdeal.τ).loc Cert.BranchSwaGradIdeal.main_arg1)) →
    ∃ (v0 : (c : Dev Cert.BranchSwaGradIdeal.nD) → Buf (Elt Ideal) ((c.tc : Thread Cert.BranchSwaGradIdeal.nD Cert.BranchSwaGradIdeal.τ).loc Cert.BranchSwaGradIdeal.main_v2)),
      θ_run (Cert.BranchSwaGradIdeal.defs (F := Ideal)) (onTc (τ := Cert.BranchSwaGradIdeal.τ) (Cert.BranchSwaGradIdeal.main (F := Ideal))) ⟨m, fun _ => 0, g⟩ (fun r => ∀ c : Dev Cert.BranchSwaGradIdeal.nD,
          r.2.mem ((c.tc : Thread Cert.BranchSwaGradIdeal.nD Cert.BranchSwaGradIdeal.τ).loc Cert.BranchSwaGradIdeal.main_v2) = v0 c
          ∧ r.2.mem ((c.tc : Thread Cert.BranchSwaGradIdeal.nD Cert.BranchSwaGradIdeal.τ).loc Cert.BranchSwaGradIdeal.main_arg0) = m ((c.tc : Thread Cert.BranchSwaGradIdeal.nD Cert.BranchSwaGradIdeal.τ).loc Cert.BranchSwaGradIdeal.main_arg0)
          ∧ r.2.mem ((c.tc : Thread Cert.BranchSwaGradIdeal.nD Cert.BranchSwaGradIdeal.τ).loc Cert.BranchSwaGradIdeal.main_arg1) = m ((c.tc : Thread Cert.BranchSwaGradIdeal.nD Cert.BranchSwaGradIdeal.τ).loc Cert.BranchSwaGradIdeal.main_arg1))
      ∧ θ_run (Cert.BranchSwaGradReferenceIdeal.defs (F := Ideal)) (onTc (τ := Cert.BranchSwaGradReferenceIdeal.τ) (Cert.BranchSwaGradReferenceIdeal.main (F := Ideal))) ⟨m', fun _ => 0, g'⟩ (fun r => ∀ c : Dev Cert.BranchSwaGradReferenceIdeal.nD,
          r.2.mem ((c.tc : Thread Cert.BranchSwaGradReferenceIdeal.nD Cert.BranchSwaGradReferenceIdeal.τ).loc Cert.BranchSwaGradReferenceIdeal.main_v4) = v0 c
          ∧ r.2.mem ((c.tc : Thread Cert.BranchSwaGradReferenceIdeal.nD Cert.BranchSwaGradReferenceIdeal.τ).loc Cert.BranchSwaGradReferenceIdeal.main_arg0) = m' ((c.tc : Thread Cert.BranchSwaGradReferenceIdeal.nD Cert.BranchSwaGradReferenceIdeal.τ).loc Cert.BranchSwaGradReferenceIdeal.main_arg0)
          ∧ r.2.mem ((c.tc : Thread Cert.BranchSwaGradReferenceIdeal.nD Cert.BranchSwaGradReferenceIdeal.τ).loc Cert.BranchSwaGradReferenceIdeal.main_arg1) = m' ((c.tc : Thread Cert.BranchSwaGradReferenceIdeal.nD Cert.BranchSwaGradReferenceIdeal.τ).loc Cert.BranchSwaGradReferenceIdeal.main_arg1))

def preserves_MergeGrad_MergeGradIdeal : Prop :=
  True

def algebraic_MergeGradIdeal_MergeGradReferenceIdeal [hMergeGradIdeal : Cert.MergeGradIdeal.Facts] [hMergeGradReferenceIdeal : Cert.MergeGradReferenceIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradReferenceIdeal.nD Cert.MergeGradReferenceIdeal.τ Cert.MergeGradReferenceIdeal.sig) → Buf (Elt Ideal) ℓ) (g' : Dev Cert.MergeGradReferenceIdeal.nD → PrngReg), Pre_MergeGradIdeal m →
    (∀ c : Dev Cert.MergeGradIdeal.nD,
      m' ((c.tc : Thread Cert.MergeGradReferenceIdeal.nD Cert.MergeGradReferenceIdeal.τ).loc Cert.MergeGradReferenceIdeal.main_arg0) = m ((c.tc : Thread Cert.MergeGradIdeal.nD Cert.MergeGradIdeal.τ).loc Cert.MergeGradIdeal.main_arg0)
      ∧ m' ((c.tc : Thread Cert.MergeGradReferenceIdeal.nD Cert.MergeGradReferenceIdeal.τ).loc Cert.MergeGradReferenceIdeal.main_arg1) = m ((c.tc : Thread Cert.MergeGradIdeal.nD Cert.MergeGradIdeal.τ).loc Cert.MergeGradIdeal.main_arg1)
      ∧ m' ((c.tc : Thread Cert.MergeGradReferenceIdeal.nD Cert.MergeGradReferenceIdeal.τ).loc Cert.MergeGradReferenceIdeal.main_arg2) = m ((c.tc : Thread Cert.MergeGradIdeal.nD Cert.MergeGradIdeal.τ).loc Cert.MergeGradIdeal.main_arg2)
      ∧ m' ((c.tc : Thread Cert.MergeGradReferenceIdeal.nD Cert.MergeGradReferenceIdeal.τ).loc Cert.MergeGradReferenceIdeal.main_arg3) = m ((c.tc : Thread Cert.MergeGradIdeal.nD Cert.MergeGradIdeal.τ).loc Cert.MergeGradIdeal.main_arg3)
      ∧ m' ((c.tc : Thread Cert.MergeGradReferenceIdeal.nD Cert.MergeGradReferenceIdeal.τ).loc Cert.MergeGradReferenceIdeal.main_arg4) = m ((c.tc : Thread Cert.MergeGradIdeal.nD Cert.MergeGradIdeal.τ).loc Cert.MergeGradIdeal.main_arg4)
      ∧ m' ((c.tc : Thread Cert.MergeGradReferenceIdeal.nD Cert.MergeGradReferenceIdeal.τ).loc Cert.MergeGradReferenceIdeal.main_arg5) = m ((c.tc : Thread Cert.MergeGradIdeal.nD Cert.MergeGradIdeal.τ).loc Cert.MergeGradIdeal.main_arg5)
      ∧ m' ((c.tc : Thread Cert.MergeGradReferenceIdeal.nD Cert.MergeGradReferenceIdeal.τ).loc Cert.MergeGradReferenceIdeal.main_arg6) = m ((c.tc : Thread Cert.MergeGradIdeal.nD Cert.MergeGradIdeal.τ).loc Cert.MergeGradIdeal.main_arg6)
      ∧ m' ((c.tc : Thread Cert.MergeGradReferenceIdeal.nD Cert.MergeGradReferenceIdeal.τ).loc Cert.MergeGradReferenceIdeal.main_arg7) = m ((c.tc : Thread Cert.MergeGradIdeal.nD Cert.MergeGradIdeal.τ).loc Cert.MergeGradIdeal.main_arg7)) →
    ∃ (v0 : (c : Dev Cert.MergeGradIdeal.nD) → Buf (Elt Ideal) ((c.tc : Thread Cert.MergeGradIdeal.nD Cert.MergeGradIdeal.τ).loc Cert.MergeGradIdeal.main_v6_0)) (v1 : (c : Dev Cert.MergeGradIdeal.nD) → Buf (Elt Ideal) ((c.tc : Thread Cert.MergeGradIdeal.nD Cert.MergeGradIdeal.τ).loc Cert.MergeGradIdeal.main_v6_1)) (v2 : (c : Dev Cert.MergeGradIdeal.nD) → Buf (Elt Ideal) ((c.tc : Thread Cert.MergeGradIdeal.nD Cert.MergeGradIdeal.τ).loc Cert.MergeGradIdeal.main_v6_2)) (v3 : (c : Dev Cert.MergeGradIdeal.nD) → Buf (Elt Ideal) ((c.tc : Thread Cert.MergeGradIdeal.nD Cert.MergeGradIdeal.τ).loc Cert.MergeGradIdeal.main_v6_3)) (v4 : (c : Dev Cert.MergeGradIdeal.nD) → Buf (Elt Ideal) ((c.tc : Thread Cert.MergeGradIdeal.nD Cert.MergeGradIdeal.τ).loc Cert.MergeGradIdeal.main_v6_4)) (v5 : (c : Dev Cert.MergeGradIdeal.nD) → Buf (Elt Ideal) ((c.tc : Thread Cert.MergeGradIdeal.nD Cert.MergeGradIdeal.τ).loc Cert.MergeGradIdeal.main_v6_5)) (v6 : (c : Dev Cert.MergeGradIdeal.nD) → Buf (Elt Ideal) ((c.tc : Thread Cert.MergeGradIdeal.nD Cert.MergeGradIdeal.τ).loc Cert.MergeGradIdeal.main_v6_6)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v6_0) = v0 c
          ∧ r.2.mem ((c.tc : Thread Cert.MergeGradIdeal.nD Cert.MergeGradIdeal.τ).loc Cert.MergeGradIdeal.main_v6_1) = v1 c
          ∧ r.2.mem ((c.tc : Thread Cert.MergeGradIdeal.nD Cert.MergeGradIdeal.τ).loc Cert.MergeGradIdeal.main_v6_2) = v2 c
          ∧ r.2.mem ((c.tc : Thread Cert.MergeGradIdeal.nD Cert.MergeGradIdeal.τ).loc Cert.MergeGradIdeal.main_v6_3) = v3 c
          ∧ r.2.mem ((c.tc : Thread Cert.MergeGradIdeal.nD Cert.MergeGradIdeal.τ).loc Cert.MergeGradIdeal.main_v6_4) = v4 c
          ∧ r.2.mem ((c.tc : Thread Cert.MergeGradIdeal.nD Cert.MergeGradIdeal.τ).loc Cert.MergeGradIdeal.main_v6_5) = v5 c
          ∧ r.2.mem ((c.tc : Thread Cert.MergeGradIdeal.nD Cert.MergeGradIdeal.τ).loc Cert.MergeGradIdeal.main_v6_6) = v6 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
          ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
          ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6)
          ∧ r.2.mem ((c.tc : Thread Cert.MergeGradIdeal.nD Cert.MergeGradIdeal.τ).loc Cert.MergeGradIdeal.main_arg7) = m ((c.tc : Thread Cert.MergeGradIdeal.nD Cert.MergeGradIdeal.τ).loc Cert.MergeGradIdeal.main_arg7))
      ∧ θ_run (Cert.MergeGradReferenceIdeal.defs (F := Ideal)) (onTc (τ := Cert.MergeGradReferenceIdeal.τ) (Cert.MergeGradReferenceIdeal.main (F := Ideal))) ⟨m', fun _ => 0, g'⟩ (fun r => ∀ c : Dev Cert.MergeGradReferenceIdeal.nD,
          r.2.mem ((c.tc : Thread Cert.MergeGradReferenceIdeal.nD Cert.MergeGradReferenceIdeal.τ).loc Cert.MergeGradReferenceIdeal.main_v53) = v0 c
          ∧ r.2.mem ((c.tc : Thread Cert.MergeGradReferenceIdeal.nD Cert.MergeGradReferenceIdeal.τ).loc Cert.MergeGradReferenceIdeal.main_v55) = v1 c
          ∧ r.2.mem ((c.tc : Thread Cert.MergeGradReferenceIdeal.nD Cert.MergeGradReferenceIdeal.τ).loc Cert.MergeGradReferenceIdeal.main_v51) = v2 c
          ∧ r.2.mem ((c.tc : Thread Cert.MergeGradReferenceIdeal.nD Cert.MergeGradReferenceIdeal.τ).loc Cert.MergeGradReferenceIdeal.main_v57) = v3 c
          ∧ r.2.mem ((c.tc : Thread Cert.MergeGradReferenceIdeal.nD Cert.MergeGradReferenceIdeal.τ).loc Cert.MergeGradReferenceIdeal.main_v58) = v4 c
          ∧ r.2.mem ((c.tc : Thread Cert.MergeGradReferenceIdeal.nD Cert.MergeGradReferenceIdeal.τ).loc Cert.MergeGradReferenceIdeal.main_v59) = v5 c
          ∧ r.2.mem ((c.tc : Thread Cert.MergeGradReferenceIdeal.nD Cert.MergeGradReferenceIdeal.τ).loc Cert.MergeGradReferenceIdeal.main_v60) = v6 c
          ∧ r.2.mem ((c.tc : Thread Cert.MergeGradReferenceIdeal.nD Cert.MergeGradReferenceIdeal.τ).loc Cert.MergeGradReferenceIdeal.main_arg0) = m' ((c.tc : Thread Cert.MergeGradReferenceIdeal.nD Cert.MergeGradReferenceIdeal.τ).loc Cert.MergeGradReferenceIdeal.main_arg0)
          ∧ r.2.mem ((c.tc : Thread Cert.MergeGradReferenceIdeal.nD Cert.MergeGradReferenceIdeal.τ).loc Cert.MergeGradReferenceIdeal.main_arg1) = m' ((c.tc : Thread Cert.MergeGradReferenceIdeal.nD Cert.MergeGradReferenceIdeal.τ).loc Cert.MergeGradReferenceIdeal.main_arg1)
          ∧ r.2.mem ((c.tc : Thread Cert.MergeGradReferenceIdeal.nD Cert.MergeGradReferenceIdeal.τ).loc Cert.MergeGradReferenceIdeal.main_arg2) = m' ((c.tc : Thread Cert.MergeGradReferenceIdeal.nD Cert.MergeGradReferenceIdeal.τ).loc Cert.MergeGradReferenceIdeal.main_arg2)
          ∧ r.2.mem ((c.tc : Thread Cert.MergeGradReferenceIdeal.nD Cert.MergeGradReferenceIdeal.τ).loc Cert.MergeGradReferenceIdeal.main_arg3) = m' ((c.tc : Thread Cert.MergeGradReferenceIdeal.nD Cert.MergeGradReferenceIdeal.τ).loc Cert.MergeGradReferenceIdeal.main_arg3)
          ∧ r.2.mem ((c.tc : Thread Cert.MergeGradReferenceIdeal.nD Cert.MergeGradReferenceIdeal.τ).loc Cert.MergeGradReferenceIdeal.main_arg4) = m' ((c.tc : Thread Cert.MergeGradReferenceIdeal.nD Cert.MergeGradReferenceIdeal.τ).loc Cert.MergeGradReferenceIdeal.main_arg4)
          ∧ r.2.mem ((c.tc : Thread Cert.MergeGradReferenceIdeal.nD Cert.MergeGradReferenceIdeal.τ).loc Cert.MergeGradReferenceIdeal.main_arg5) = m' ((c.tc : Thread Cert.MergeGradReferenceIdeal.nD Cert.MergeGradReferenceIdeal.τ).loc Cert.MergeGradReferenceIdeal.main_arg5)
          ∧ r.2.mem ((c.tc : Thread Cert.MergeGradReferenceIdeal.nD Cert.MergeGradReferenceIdeal.τ).loc Cert.MergeGradReferenceIdeal.main_arg6) = m' ((c.tc : Thread Cert.MergeGradReferenceIdeal.nD Cert.MergeGradReferenceIdeal.τ).loc Cert.MergeGradReferenceIdeal.main_arg6)
          ∧ r.2.mem ((c.tc : Thread Cert.MergeGradReferenceIdeal.nD Cert.MergeGradReferenceIdeal.τ).loc Cert.MergeGradReferenceIdeal.main_arg7) = m' ((c.tc : Thread Cert.MergeGradReferenceIdeal.nD Cert.MergeGradReferenceIdeal.τ).loc Cert.MergeGradReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)) (v2 : (c : Dev Cert.MergeIdeal.nD) → Buf (Elt Ideal) ((c.tc : Thread Cert.MergeIdeal.nD Cert.MergeIdeal.τ).loc Cert.MergeIdeal.main_v3_2)) (v3 : (c : Dev Cert.MergeIdeal.nD) → Buf (Elt Ideal) ((c.tc : Thread Cert.MergeIdeal.nD Cert.MergeIdeal.τ).loc Cert.MergeIdeal.main_v3_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_v3_2) = v2 c
          ∧ r.2.mem ((c.tc : Thread Cert.MergeIdeal.nD Cert.MergeIdeal.τ).loc Cert.MergeIdeal.main_v3_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v33) = v0 c
          ∧ r.2.mem ((c.tc : Thread Cert.MergeReferenceIdeal.nD Cert.MergeReferenceIdeal.τ).loc Cert.MergeReferenceIdeal.main_v34) = v1 c
          ∧ r.2.mem ((c.tc : Thread Cert.MergeReferenceIdeal.nD Cert.MergeReferenceIdeal.τ).loc Cert.MergeReferenceIdeal.main_v35) = v2 c
          ∧ r.2.mem ((c.tc : Thread Cert.MergeReferenceIdeal.nD Cert.MergeReferenceIdeal.τ).loc Cert.MergeReferenceIdeal.main_v36) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def Claim : Prop :=
  ∃ (hKernel : Cert.Kernel.Facts) (hKernelIdeal : Cert.KernelIdeal.Facts) (hReferenceIdeal : Cert.ReferenceIdeal.Facts) (hGateGrad : Cert.GateGrad.Facts) (hGateGradIdeal : Cert.GateGradIdeal.Facts) (hGateGradReferenceIdeal : Cert.GateGradReferenceIdeal.Facts) (hWeightGrad : Cert.WeightGrad.Facts) (hWeightGradIdeal : Cert.WeightGradIdeal.Facts) (hWeightGradReferenceIdeal : Cert.WeightGradReferenceIdeal.Facts) (hNormGrad : Cert.NormGrad.Facts) (hNormGradIdeal : Cert.NormGradIdeal.Facts) (hNormGradReferenceIdeal : Cert.NormGradReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hQkv : Cert.Qkv.Facts) (hQkvIdeal : Cert.QkvIdeal.Facts) (hQkvReferenceIdeal : Cert.QkvReferenceIdeal.Facts) (hGates : Cert.Gates.Facts) (hGatesIdeal : Cert.GatesIdeal.Facts) (hGatesReferenceIdeal : Cert.GatesReferenceIdeal.Facts) (hGatesGrad : Cert.GatesGrad.Facts) (hGatesGradIdeal : Cert.GatesGradIdeal.Facts) (hGatesGradReferenceIdeal : Cert.GatesGradReferenceIdeal.Facts) (hMixNormGrad : Cert.MixNormGrad.Facts) (hMixNormGradIdeal : Cert.MixNormGradIdeal.Facts) (hMixNormGradReferenceIdeal : Cert.MixNormGradReferenceIdeal.Facts) (hOut : Cert.Out.Facts) (hOutIdeal : Cert.OutIdeal.Facts) (hOutReferenceIdeal : Cert.OutReferenceIdeal.Facts) (hOutGrad : Cert.OutGrad.Facts) (hOutGradIdeal : Cert.OutGradIdeal.Facts) (hOutGradReferenceIdeal : Cert.OutGradReferenceIdeal.Facts) (hOutWeightGrad : Cert.OutWeightGrad.Facts) (hOutWeightGradIdeal : Cert.OutWeightGradIdeal.Facts) (hOutWeightGradReferenceIdeal : Cert.OutWeightGradReferenceIdeal.Facts) (hHalfNormGrad : Cert.HalfNormGrad.Facts) (hHalfNormGradIdeal : Cert.HalfNormGradIdeal.Facts) (hHalfNormGradReferenceIdeal : Cert.HalfNormGradReferenceIdeal.Facts) (hLastNormGrad : Cert.LastNormGrad.Facts) (hLastNormGradIdeal : Cert.LastNormGradIdeal.Facts) (hLastNormGradReferenceIdeal : Cert.LastNormGradReferenceIdeal.Facts) (hSbForward : Cert.SbForward.Facts) (hSbForwardIdeal : Cert.SbForwardIdeal.Facts) (hSbForwardReferenceIdeal : Cert.SbForwardReferenceIdeal.Facts) (hBranchSbGrad : Cert.BranchSbGrad.Facts) (hBranchSbGradIdeal : Cert.BranchSbGradIdeal.Facts) (hBranchSbGradReferenceIdeal : Cert.BranchSbGradReferenceIdeal.Facts) (hBranchDilGrad : Cert.BranchDilGrad.Facts) (hBranchDilGradIdeal : Cert.BranchDilGradIdeal.Facts) (hBranchDilGradReferenceIdeal : Cert.BranchDilGradReferenceIdeal.Facts) (hBranchSwaGrad : Cert.BranchSwaGrad.Facts) (hBranchSwaGradIdeal : Cert.BranchSwaGradIdeal.Facts) (hBranchSwaGradReferenceIdeal : Cert.BranchSwaGradReferenceIdeal.Facts) (hMergeGrad : Cert.MergeGrad.Facts) (hMergeGradIdeal : Cert.MergeGradIdeal.Facts) (hMergeGradReferenceIdeal : Cert.MergeGradReferenceIdeal.Facts) (hMerge : Cert.Merge.Facts) (hMergeIdeal : Cert.MergeIdeal.Facts) (hMergeReferenceIdeal : Cert.MergeReferenceIdeal.Facts) (hPre_finite : Cert.Pre_finite.Facts) (hPre_finite_gate : Cert.Pre_finite_gate.Facts) (hPre_finite_norm : Cert.Pre_finite_norm.Facts) (hPre_finite_mix : Cert.Pre_finite_mix.Facts) (hPre_finite_last : Cert.Pre_finite_last.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateGrad (hGateGrad := hGateGrad)
    ∧ quiescent_GateGradIdeal (hGateGradIdeal := hGateGradIdeal)
    ∧ quiescent_GateGradIdeal_pre_finite_gate (hGateGradIdeal := hGateGradIdeal) (hPre_finite_gate := hPre_finite_gate)
    ∧ quiescent_GateGradReferenceIdeal (hGateGradReferenceIdeal := hGateGradReferenceIdeal)
    ∧ quiescent_GateGradReferenceIdeal_pre_finite_gate (hGateGradReferenceIdeal := hGateGradReferenceIdeal) (hPre_finite_gate := hPre_finite_gate)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ quiescent_NormGrad (hNormGrad := hNormGrad)
    ∧ quiescent_NormGradIdeal (hNormGradIdeal := hNormGradIdeal)
    ∧ quiescent_NormGradIdeal_pre_finite_norm (hNormGradIdeal := hNormGradIdeal) (hPre_finite_norm := hPre_finite_norm)
    ∧ quiescent_NormGradReferenceIdeal (hNormGradReferenceIdeal := hNormGradReferenceIdeal)
    ∧ quiescent_NormGradReferenceIdeal_pre_finite_norm (hNormGradReferenceIdeal := hNormGradReferenceIdeal) (hPre_finite_norm := hPre_finite_norm)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_GatesGrad (hGatesGrad := hGatesGrad)
    ∧ quiescent_GatesGradIdeal (hGatesGradIdeal := hGatesGradIdeal)
    ∧ quiescent_GatesGradReferenceIdeal (hGatesGradReferenceIdeal := hGatesGradReferenceIdeal)
    ∧ quiescent_MixNormGrad (hMixNormGrad := hMixNormGrad)
    ∧ quiescent_MixNormGradIdeal (hMixNormGradIdeal := hMixNormGradIdeal)
    ∧ quiescent_MixNormGradIdeal_pre_finite_mix (hMixNormGradIdeal := hMixNormGradIdeal) (hPre_finite_mix := hPre_finite_mix)
    ∧ quiescent_MixNormGradReferenceIdeal (hMixNormGradReferenceIdeal := hMixNormGradReferenceIdeal)
    ∧ quiescent_MixNormGradReferenceIdeal_pre_finite_mix (hMixNormGradReferenceIdeal := hMixNormGradReferenceIdeal) (hPre_finite_mix := hPre_finite_mix)
    ∧ quiescent_Out (hOut := hOut)
    ∧ quiescent_OutIdeal (hOutIdeal := hOutIdeal)
    ∧ quiescent_OutReferenceIdeal (hOutReferenceIdeal := hOutReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_OutWeightGrad (hOutWeightGrad := hOutWeightGrad)
    ∧ quiescent_OutWeightGradIdeal (hOutWeightGradIdeal := hOutWeightGradIdeal)
    ∧ quiescent_OutWeightGradReferenceIdeal (hOutWeightGradReferenceIdeal := hOutWeightGradReferenceIdeal)
    ∧ quiescent_HalfNormGrad (hHalfNormGrad := hHalfNormGrad)
    ∧ quiescent_HalfNormGradIdeal (hHalfNormGradIdeal := hHalfNormGradIdeal)
    ∧ quiescent_HalfNormGradIdeal_pre_finite_norm (hHalfNormGradIdeal := hHalfNormGradIdeal) (hPre_finite_norm := hPre_finite_norm)
    ∧ quiescent_HalfNormGradReferenceIdeal (hHalfNormGradReferenceIdeal := hHalfNormGradReferenceIdeal)
    ∧ quiescent_HalfNormGradReferenceIdeal_pre_finite_norm (hHalfNormGradReferenceIdeal := hHalfNormGradReferenceIdeal) (hPre_finite_norm := hPre_finite_norm)
    ∧ quiescent_LastNormGrad (hLastNormGrad := hLastNormGrad)
    ∧ quiescent_LastNormGradIdeal (hLastNormGradIdeal := hLastNormGradIdeal)
    ∧ quiescent_LastNormGradIdeal_pre_finite_last (hLastNormGradIdeal := hLastNormGradIdeal) (hPre_finite_last := hPre_finite_last)
    ∧ quiescent_LastNormGradReferenceIdeal (hLastNormGradReferenceIdeal := hLastNormGradReferenceIdeal)
    ∧ quiescent_LastNormGradReferenceIdeal_pre_finite_last (hLastNormGradReferenceIdeal := hLastNormGradReferenceIdeal) (hPre_finite_last := hPre_finite_last)
    ∧ quiescent_SbForward (hSbForward := hSbForward)
    ∧ quiescent_SbForwardIdeal (hSbForwardIdeal := hSbForwardIdeal)
    ∧ quiescent_SbForwardIdeal_pre_finite_forward (hSbForwardIdeal := hSbForwardIdeal) (hPre_finite_forward := hPre_finite_forward)
    ∧ quiescent_SbForwardReferenceIdeal (hSbForwardReferenceIdeal := hSbForwardReferenceIdeal)
    ∧ quiescent_SbForwardReferenceIdeal_pre_finite_forward (hSbForwardReferenceIdeal := hSbForwardReferenceIdeal) (hPre_finite_forward := hPre_finite_forward)
    ∧ quiescent_BranchSbGrad (hBranchSbGrad := hBranchSbGrad)
    ∧ quiescent_BranchSbGradIdeal (hBranchSbGradIdeal := hBranchSbGradIdeal)
    ∧ quiescent_BranchSbGradReferenceIdeal (hBranchSbGradReferenceIdeal := hBranchSbGradReferenceIdeal)
    ∧ quiescent_BranchDilGrad (hBranchDilGrad := hBranchDilGrad)
    ∧ quiescent_BranchDilGradIdeal (hBranchDilGradIdeal := hBranchDilGradIdeal)
    ∧ quiescent_BranchDilGradReferenceIdeal (hBranchDilGradReferenceIdeal := hBranchDilGradReferenceIdeal)
    ∧ quiescent_BranchSwaGrad (hBranchSwaGrad := hBranchSwaGrad)
    ∧ quiescent_BranchSwaGradIdeal (hBranchSwaGradIdeal := hBranchSwaGradIdeal)
    ∧ quiescent_BranchSwaGradReferenceIdeal (hBranchSwaGradReferenceIdeal := hBranchSwaGradReferenceIdeal)
    ∧ quiescent_MergeGrad (hMergeGrad := hMergeGrad)
    ∧ quiescent_MergeGradIdeal (hMergeGradIdeal := hMergeGradIdeal)
    ∧ quiescent_MergeGradReferenceIdeal (hMergeGradReferenceIdeal := hMergeGradReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateGrad_GateGradIdeal
    ∧ algebraic_GateGradIdeal_GateGradReferenceIdeal_pre_finite_gate (hGateGradIdeal := hGateGradIdeal) (hGateGradReferenceIdeal := hGateGradReferenceIdeal) (hPre_finite_gate := hPre_finite_gate)
    ∧ preserves_WeightGrad_WeightGradIdeal
    ∧ algebraic_WeightGradIdeal_WeightGradReferenceIdeal (hWeightGradIdeal := hWeightGradIdeal) (hWeightGradReferenceIdeal := hWeightGradReferenceIdeal)
    ∧ preserves_NormGrad_NormGradIdeal
    ∧ algebraic_NormGradIdeal_NormGradReferenceIdeal_pre_finite_norm (hNormGradIdeal := hNormGradIdeal) (hNormGradReferenceIdeal := hNormGradReferenceIdeal) (hPre_finite_norm := hPre_finite_norm)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Qkv_QkvIdeal
    ∧ algebraic_QkvIdeal_QkvReferenceIdeal (hQkvIdeal := hQkvIdeal) (hQkvReferenceIdeal := hQkvReferenceIdeal)
    ∧ preserves_Gates_GatesIdeal
    ∧ algebraic_GatesIdeal_GatesReferenceIdeal (hGatesIdeal := hGatesIdeal) (hGatesReferenceIdeal := hGatesReferenceIdeal)
    ∧ preserves_GatesGrad_GatesGradIdeal
    ∧ algebraic_GatesGradIdeal_GatesGradReferenceIdeal (hGatesGradIdeal := hGatesGradIdeal) (hGatesGradReferenceIdeal := hGatesGradReferenceIdeal)
    ∧ preserves_MixNormGrad_MixNormGradIdeal
    ∧ algebraic_MixNormGradIdeal_MixNormGradReferenceIdeal_pre_finite_mix (hMixNormGradIdeal := hMixNormGradIdeal) (hMixNormGradReferenceIdeal := hMixNormGradReferenceIdeal) (hPre_finite_mix := hPre_finite_mix)
    ∧ preserves_Out_OutIdeal
    ∧ algebraic_OutIdeal_OutReferenceIdeal (hOutIdeal := hOutIdeal) (hOutReferenceIdeal := hOutReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_OutWeightGrad_OutWeightGradIdeal
    ∧ algebraic_OutWeightGradIdeal_OutWeightGradReferenceIdeal (hOutWeightGradIdeal := hOutWeightGradIdeal) (hOutWeightGradReferenceIdeal := hOutWeightGradReferenceIdeal)
    ∧ preserves_HalfNormGrad_HalfNormGradIdeal
    ∧ algebraic_HalfNormGradIdeal_HalfNormGradReferenceIdeal_pre_finite_norm (hHalfNormGradIdeal := hHalfNormGradIdeal) (hHalfNormGradReferenceIdeal := hHalfNormGradReferenceIdeal) (hPre_finite_norm := hPre_finite_norm)
    ∧ preserves_LastNormGrad_LastNormGradIdeal
    ∧ algebraic_LastNormGradIdeal_LastNormGradReferenceIdeal_pre_finite_last (hLastNormGradIdeal := hLastNormGradIdeal) (hLastNormGradReferenceIdeal := hLastNormGradReferenceIdeal) (hPre_finite_last := hPre_finite_last)
    ∧ preserves_SbForward_SbForwardIdeal
    ∧ algebraic_SbForwardIdeal_SbForwardReferenceIdeal_pre_finite_forward (hSbForwardIdeal := hSbForwardIdeal) (hSbForwardReferenceIdeal := hSbForwardReferenceIdeal) (hPre_finite_forward := hPre_finite_forward)
    ∧ preserves_BranchSbGrad_BranchSbGradIdeal
    ∧ algebraic_BranchSbGradIdeal_BranchSbGradReferenceIdeal (hBranchSbGradIdeal := hBranchSbGradIdeal) (hBranchSbGradReferenceIdeal := hBranchSbGradReferenceIdeal)
    ∧ preserves_BranchDilGrad_BranchDilGradIdeal
    ∧ algebraic_BranchDilGradIdeal_BranchDilGradReferenceIdeal (hBranchDilGradIdeal := hBranchDilGradIdeal) (hBranchDilGradReferenceIdeal := hBranchDilGradReferenceIdeal)
    ∧ preserves_BranchSwaGrad_BranchSwaGradIdeal
    ∧ algebraic_BranchSwaGradIdeal_BranchSwaGradReferenceIdeal (hBranchSwaGradIdeal := hBranchSwaGradIdeal) (hBranchSwaGradReferenceIdeal := hBranchSwaGradReferenceIdeal)
    ∧ preserves_MergeGrad_MergeGradIdeal
    ∧ algebraic_MergeGradIdeal_MergeGradReferenceIdeal (hMergeGradIdeal := hMergeGradIdeal) (hMergeGradReferenceIdeal := hMergeGradReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S1x2048x4x64 : Shape := ⟨4, ![1, 2048, 4, 64]⟩
abbrev S_ : Shape := ⟨0, ![]⟩

class Facts : Prop where
  bcast_S_S1x2048x4x64 : S_.BroadcastsInDim S1x2048x4x64 (![] : Fin 0 → Fin S1x2048x4x64.rank)
  reducesTo_S1x2048x4x64_S_d0_1_2_3 : S1x2048x4x64.ReducesTo [0, 1, 2, 3] S_
  h_S_ : 0 < S_.numel

variable [Facts]

def fn_part1 {F : FTy → Type} [FloatOps F] (main_v13 : IVec S_ 1) (main_v16 : IVec S1x2048x4x64 1) : IVec S_ 1 :=
  let main_c_5 : IVec S_ 1 := constantI S_ 1 1#1
  let main_v17 : IVec S_ 1 := (fun x v => Host.reduce IntOp.andi x v reducesTo_S1x2048x4x64_S_d0_1_2_3 h_S_) main_v16 main_c_5
  let main_v18 : IVec S_ 1 := andi main_v13 main_v17
  main_v18

def fn {F : FTy → Type} [FloatOps F] (main_arg0 : FVec F S1x2048x4x64 .f32) (main_arg1 : FVec F S1x2048x4x64 .f32) (main_arg2 : FVec F S1x2048x4x64 .f32) (main_arg3 : FVec F S1x2048x4x64 .f32) : IVec S_ 1 :=
  let main_v0 : FVec F S1x2048x4x64 .f32 := Host.absf main_arg0
  let main_cst : FVec F S_ .f32 := constant S_ .f32 0x7F800000#32
  let main_v1 : FVec F S1x2048x4x64 .f32 := broadcastInDim S1x2048x4x64 ![] bcast_S_S1x2048x4x64 main_cst
  let main_v2 : IVec S1x2048x4x64 1 := cmpf .olt main_v0 main_v1
  let main_c : IVec S_ 1 := constantI S_ 1 1#1
  let main_v3 : IVec S_ 1 := (fun x v => Host.reduce IntOp.andi x v reducesTo_S1x2048x4x64_S_d0_1_2_3 h_S_) main_v2 main_c
  let main_v4 : FVec F S1x2048x4x64 .f32 := Host.absf main_arg1
  let main_cst_0 : FVec F S_ .f32 := constant S_ .f32 0x7F800000#32
  let main_v5 : FVec F S1x2048x4x64 .f32 := broadcastInDim S1x2048x4x64 ![] bcast_S_S1x2048x4x64 main_cst_0
  let main_v6 : IVec S1x2048x4x64 1 := cmpf .olt main_v4 main_v5
  let main_c_1 : IVec S_ 1 := constantI S_ 1 1#1
  let main_v7 : IVec S_ 1 := (fun x v => Host.reduce IntOp.andi x v reducesTo_S1x2048x4x64_S_d0_1_2_3 h_S_) main_v6 main_c_1
  let main_v8 : IVec S_ 1 := andi main_v3 main_v7
  let main_v9 : FVec F S1x2048x4x64 .f32 := Host.absf main_arg2
  let main_cst_2 : FVec F S_ .f32 := constant S_ .f32 0x7F800000#32
  let main_v10 : FVec F S1x2048x4x64 .f32 := broadcastInDim S1x2048x4x64 ![] bcast_S_S1x2048x4x64 main_cst_2
  let main_v11 : IVec S1x2048x4x64 1 := cmpf .olt main_v9 main_v10
  let main_c_3 : IVec S_ 1 := constantI S_ 1 1#1
  let main_v12 : IVec S_ 1 := (fun x v => Host.reduce IntOp.andi x v reducesTo_S1x2048x4x64_S_d0_1_2_3 h_S_) main_v11 main_c_3
  let main_v13 : IVec S_ 1 := andi main_v8 main_v12
  let main_v14 : FVec F S1x2048x4x64 .f32 := Host.absf main_arg3
  let main_cst_4 : FVec F S_ .f32 := constant S_ .f32 0x7F800000#32
  let main_v15 : FVec F S1x2048x4x64 .f32 := broadcastInDim S1x2048x4x64 ![] bcast_S_S1x2048x4x64 main_cst_4
  let main_v16 : IVec S1x2048x4x64 1 := cmpf .olt main_v14 main_v15
  fn_part1 (F := F) main_v13 main_v16
-- ==== Pre_finite_forward.lean ====
abbrev S1x2048x4x64 : Shape := ⟨4, ![1, 2048, 4, 64]⟩
abbrev S_ : Shape := ⟨0, ![]⟩

class Facts : Prop where
  bcast_S_S1x2048x4x64 : S_.BroadcastsInDim S1x2048x4x64 (![] : Fin 0 → Fin S1x2048x4x64.rank)
  reducesTo_S1x2048x4x64_S_d0_1_2_3 : S1x2048x4x64.ReducesTo [0, 1, 2, 3] S_
  h_S_ : 0 < S_.numel

variable [Facts]

def fn {F : FTy → Type} [FloatOps F] (main_arg0 : FVec F S1x2048x4x64 .f32) (main_arg1 : FVec F S1x2048x4x64 .f32) (main_arg2 : FVec F S1x2048x4x64 .f32) : IVec S_ 1 :=
  let main_v0 : FVec F S1x2048x4x64 .f32 := Host.absf main_arg0
  let main_cst : FVec F S_ .f32 := constant S_ .f32 0x7F800000#32
  let main_v1 : FVec F S1x2048x4x64 .f32 := broadcastInDim S1x2048x4x64 ![] bcast_S_S1x2048x4x64 main_cst
  let main_v2 : IVec S1x2048x4x64 1 := cmpf .olt main_v0 main_v1
  let main_c : IVec S_ 1 := constantI S_ 1 1#1
  let main_v3 : IVec S_ 1 := (fun x v => Host.reduce IntOp.andi x v reducesTo_S1x2048x4x64_S_d0_1_2_3 h_S_) main_v2 main_c
  let main_v4 : FVec F S1x2048x4x64 .f32 := Host.absf main_arg1
  let main_cst_0 : FVec F S_ .f32 := constant S_ .f32 0x7F800000#32
  let main_v5 : FVec F S1x2048x4x64 .f32 := broadcastInDim S1x2048x4x64 ![] bcast_S_S1x2048x4x64 main_cst_0
  let main_v6 : IVec S1x2048x4x64 1 := cmpf .olt main_v4 main_v5
  let main_c_1 : IVec S_ 1 := constantI S_ 1 1#1
  let main_v7 : IVec S_ 1 := (fun x v => Host.reduce IntOp.andi x v reducesTo_S1x2048x4x64_S_d0_1_2_3 h_S_) main_v6 main_c_1
  let main_v8 : IVec S_ 1 := andi main_v3 main_v7
  let main_v9 : FVec F S1x2048x4x64 .f32 := Host.absf main_arg2
  let main_cst_2 : FVec F S_ .f32 := constant S_ .f32 0x7F800000#32
  let main_v10 : FVec F S1x2048x4x64 .f32 := broadcastInDim S1x2048x4x64 ![] bcast_S_S1x2048x4x64 main_cst_2
  let main_v11 : IVec S1x2048x4x64 1 := cmpf .olt main_v9 main_v10
  let main_c_3 : IVec S_ 1 := constantI S_ 1 1#1
  let main_v12 : IVec S_ 1 := (fun x v => Host.reduce IntOp.andi x v reducesTo_S1x2048x4x64_S_d0_1_2_3 h_S_) main_v11 main_c_3
  let main_v13 : IVec S_ 1 := andi main_v8 main_v12
  main_v13
-- ==== Pre_finite_gate.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .f32) (main_arg1 : FVec F S2816x1024 .f32) (main_arg2 : FVec F S2048x2816 .f32) (main_arg3 : FVec F S2048x2816 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x2816 .f32 := Host.absf main_arg3
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  let main_c_3 : IVec S_ 1 := constantI S_ 1 1#1
  let main_v12 : IVec S_ 1 := (fun x v => Host.reduce IntOp.andi x v reducesTo_S2048x2816_S_d0_1 h_S_) main_v11 main_c_3
  let main_v13 : IVec S_ 1 := andi main_v8 main_v12
  main_v13
-- ==== Pre_finite_last.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg6 : FVec F S1024 .f32) (main_arg7 : FVec F S1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2048x2816 .f32) (main_arg1 : FVec F S1024x2816 .f32) (main_arg2 : FVec F S2048x2816 .f32) (main_arg3 : FVec F S1024x2816 .f32) (main_arg4 : FVec F S2048x1024 .f32) (main_arg5 : FVec F S2048x1024 .f32) (main_arg6 : FVec F S1024 .f32) (main_arg7 : FVec F S1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2048x2816 .f32 := Host.absf main_arg2
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  let main_c_3 : IVec S_ 1 := constantI S_ 1 1#1
  let main_v12 : IVec S_ 1 := (fun x v => Host.reduce IntOp.andi x v reducesTo_S2048x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg6 main_arg7 main_v13 main_v16
-- ==== Pre_finite_mix.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x5632 .f32) (main_arg1 : FVec F S1024x5632 .f32) (main_arg2 : FVec F S2048x1024 .f32) (main_arg3 : FVec F S2048x1024 .f32) (main_arg4 : FVec F S1024 .f32) (main_arg5 : FVec F S1024 .f32) (main_arg6 : FVec F S2048x1024 .f32) (main_arg7 : FVec F S1024 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_finite_norm.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg6 : FVec F S1024 .f32) (main_arg7 : FVec F S1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2048x2816 .f32) (main_arg1 : FVec F S1024x2816 .f32) (main_arg2 : FVec F S2048x2816 .f32) (main_arg3 : FVec F S1024x2816 .f32) (main_arg4 : FVec F S2048x1024 .f32) (main_arg5 : FVec F S2048x1024 .f32) (main_arg6 : FVec F S1024 .f32) (main_arg7 : FVec F S1024 .f32) (main_arg8 : FVec F S2048x1024 .f32) (main_arg9 : FVec F S1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2048x2816 .f32 := Host.absf main_arg2
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  let main_c_3 : IVec S_ 1 := constantI S_ 1 1#1
  let main_v12 : IVec S_ 1 := (fun x v => Host.reduce IntOp.andi x v reducesTo_S2048x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg6 main_arg7 main_v13 main_v16
-- ==== Kernel.lean ====
abbrev S1x2048x4x64 : Shape := ⟨4, ![1, 2048, 4, 64]⟩
abbrev S2048x4x64 : Shape := ⟨3, ![2048, 4, 64]⟩
abbrev S4x2048x64 : Shape := ⟨3, ![4, 2048, 64]⟩
abbrev S_ : Shape := ⟨0, ![]⟩
abbrev S12x2048x64 : Shape := ⟨3, ![12, 2048, 64]⟩
abbrev S4x2048x2048 : Shape := ⟨3, ![4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048 : Shape := ⟨2, ![4, 2048]⟩
abbrev S4x2048x1 : Shape := ⟨3, ![4, 2048, 1]⟩
abbrev S4x512x64 : Shape := ⟨3, ![4, 512, 64]⟩
abbrev S4x512x1 : Shape := ⟨3, ![4, 512, 1]⟩
abbrev S512x512 : Shape := ⟨2, ![512, 512]⟩
abbrev S512x1 : Shape := ⟨2, ![512, 1]⟩
abbrev S512x64 : Shape := ⟨2, ![512, 64]⟩
abbrev S1x512x64 : Shape := ⟨3, ![1, 512, 64]⟩
abbrev S1x512x1 : Shape := ⟨3, ![1, 512, 1]⟩
abbrev S512 : Shape := ⟨1, ![512]⟩

abbrev nBuf : Space → Nat
  | .hbm => 55
  | .vmem => 12
  | .smem => 0
  | _ => 0

abbrev bufTy : (tb : Table) → Fin (tcTables nBuf tb) → BufTy
  | .hbm, ⟨0, _⟩ => ⟨S1x2048x4x64, .f32⟩
  | .hbm, ⟨1, _⟩ => ⟨S1x2048x4x64, .f32⟩
  | .hbm, ⟨2, _⟩ => ⟨S1x2048x4x64, .f32⟩
  | .hbm, ⟨3, _⟩ => ⟨S1x2048x4x64, .f32⟩
  | .hbm, ⟨4, _⟩ => ⟨S2048x4x64, .f32⟩
  | .hbm, ⟨5, _⟩ => ⟨S4x2048x64, .f32⟩
  | .hbm, ⟨6, _⟩ => ⟨S2048x4x64, .f32⟩
  | .hbm, ⟨7, _⟩ => ⟨S4x2048x64, .f32⟩
  | .hbm, ⟨8, _⟩ => ⟨S2048x4x64, .f32⟩
  | .hbm, ⟨9, _⟩ => ⟨S4x2048x64, .f32⟩
  | .hbm, ⟨10, _⟩ => ⟨S2048x4x64, .f32⟩
  | .hbm, ⟨11, _⟩ => ⟨S4x2048x64, .f32⟩
  | .hbm, ⟨12, _⟩ => ⟨S_, .f32⟩
  | .hbm, ⟨13, _⟩ => ⟨S4x2048x64, .f32⟩
  | .hbm, ⟨14, _⟩ => ⟨S4x2048x64, .f32⟩
  | .hbm, ⟨15, _⟩ => ⟨S12x2048x64, .f32⟩
  | .hbm, ⟨16, _⟩ => ⟨S12x2048x64, .bf16⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .i1⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S_, .f32⟩
  | .hbm, ⟨46, _⟩ => ⟨S4x2048x2048, .i1⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S4x2048x64, .f32⟩
  | .hbm, ⟨53, _⟩ => ⟨S4x2048x64, .f32⟩
  | .hbm, ⟨54, _⟩ => ⟨S4x2048x64, .f32⟩
  | .local _ .vmem, ⟨0, _⟩ => ⟨S4x512x64, .bf16⟩
  | .local _ .vmem, ⟨1, _⟩ => ⟨S4x512x64, .bf16⟩
  | .local _ .vmem, ⟨2, _⟩ => ⟨S4x2048x64, .bf16⟩
  | .local _ .vmem, ⟨3, _⟩ => ⟨S4x2048x64, .bf16⟩
  | .local _ .vmem, ⟨4, _⟩ => ⟨S4x512x1, .f32⟩
  | .local _ .vmem, ⟨5, _⟩ => ⟨S4x512x1, .f32⟩
  | .local _ .vmem, ⟨6, _⟩ => ⟨S4x512x64, .f32⟩
  | .local _ .vmem, ⟨7, _⟩ => ⟨S4x512x64, .f32⟩
  | .local _ .vmem, ⟨8, _⟩ => ⟨S4x512x64, .f32⟩
  | .local _ .vmem, ⟨9, _⟩ => ⟨S4x512x64, .f32⟩
  | .local _ .vmem, ⟨10, _⟩ => ⟨S4x2048x64, .f32⟩
  | .local _ .vmem, ⟨11, _⟩ => ⟨S4x2048x64, .f32⟩
  | _, _ => ⟨S1x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v22 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v26_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

@[reducible] def k0_t1_loop (i : grid0.Coords) : Scf.Loop 32 :=
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let c1_i32_6 : BitVec 32 := 1#32
  ⟨c0_i32_5, v24, c1_i32_6⟩
def k0_mult1 (i : grid0.Coords) (k0_t1 : Fin (k0_t1_loop i).trips) : BitVec 32 :=
  let c0_i32_5 : BitVec 32 := 0#32
  let c1_i32_6 : BitVec 32 := 1#32
  let arg9 : BitVec 32 := Scf.iv c0_i32_5 c1_i32_6 k0_t1
  let c512_i32_184 : BitVec 32 := 512#32
  let v425 : BitVec 32 := Scalar.muli arg9 c512_i32_184
  v425
def k0_off1 (i : grid0.Coords) (k0_t1 : Fin (k0_t1_loop i).trips) : Fin 3 → Nat :=
  let c0_188 : Index := 0#32
  let c0_i32_5 : BitVec 32 := 0#32
  let c1_i32_6 : BitVec 32 := 1#32
  let arg9 : BitVec 32 := Scf.iv c0_i32_5 c1_i32_6 k0_t1
  let c512_i32_184 : BitVec 32 := 512#32
  let v425 : BitVec 32 := Scalar.muli arg9 c512_i32_184
  let v426 : BitVec 32 := v425
  let v429 : Index := Scalar.indexCast v426
  let c0_189 : Index := 0#32
  ![0, v429.toNat, 0]
def k0_off2 (i : grid0.Coords) (k0_t1 : Fin (k0_t1_loop i).trips) : Fin 3 → Nat :=
  let c1_228 : Index := 1#32
  let c0_i32_5 : BitVec 32 := 0#32
  let c1_i32_6 : BitVec 32 := 1#32
  let arg9 : BitVec 32 := Scf.iv c0_i32_5 c1_i32_6 k0_t1
  let c512_i32_184 : BitVec 32 := 512#32
  let v425 : BitVec 32 := Scalar.muli arg9 c512_i32_184
  let v426 : BitVec 32 := v425
  let v524 : Index := Scalar.indexCast v426
  let c0_229 : Index := 0#32
  ![1, v524.toNat, 0]
def k0_off3 (i : grid0.Coords) (k0_t1 : Fin (k0_t1_loop i).trips) : Fin 3 → Nat :=
  let c2_268 : Index := 2#32
  let c0_i32_5 : BitVec 32 := 0#32
  let c1_i32_6 : BitVec 32 := 1#32
  let arg9 : BitVec 32 := Scf.iv c0_i32_5 c1_i32_6 k0_t1
  let c512_i32_184 : BitVec 32 := 512#32
  let v425 : BitVec 32 := Scalar.muli arg9 c512_i32_184
  let v426 : BitVec 32 := v425
  let v619 : Index := Scalar.indexCast v426
  let c0_269 : Index := 0#32
  ![2, v619.toNat, 0]
def k0_off4 (i : grid0.Coords) (k0_t1 : Fin (k0_t1_loop i).trips) : Fin 3 → Nat :=
  let c3_308 : Index := 3#32
  let c0_i32_5 : BitVec 32 := 0#32
  let c1_i32_6 : BitVec 32 := 1#32
  let arg9 : BitVec 32 := Scf.iv c0_i32_5 c1_i32_6 k0_t1
  let c512_i32_184 : BitVec 32 := 512#32
  let v425 : BitVec 32 := Scalar.muli arg9 c512_i32_184
  let v426 : BitVec 32 := v425
  let v714 : Index := Scalar.indexCast v426
  let c0_309 : Index := 0#32
  ![3, v714.toNat, 0]
@[reducible] def k0_t2_loop (i : grid0.Coords) : Scf.Loop 32 :=
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let v21 : BitVec 32 := Scalar.addi c0_i32_5 v20
  let c1_i32_7 : BitVec 32 := 1#32
  ⟨v24, v21, c1_i32_7⟩
def k0_mult2 (i : grid0.Coords) (k0_t2 : Fin (k0_t2_loop i).trips) : BitVec 32 :=
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let c1_i32_7 : BitVec 32 := 1#32
  let arg9 : BitVec 32 := Scf.iv v24 c1_i32_7 k0_t2
  let c512_i32_184 : BitVec 32 := 512#32
  let v425 : BitVec 32 := Scalar.muli arg9 c512_i32_184
  v425
def k0_off5 (i : grid0.Coords) (k0_t2 : Fin (k0_t2_loop i).trips) : Fin 3 → Nat :=
  let c0_188 : Index := 0#32
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let c1_i32_7 : BitVec 32 := 1#32
  let arg9 : BitVec 32 := Scf.iv v24 c1_i32_7 k0_t2
  let c512_i32_184 : BitVec 32 := 512#32
  let v425 : BitVec 32 := Scalar.muli arg9 c512_i32_184
  let v426 : BitVec 32 := v425
  let v429 : Index := Scalar.indexCast v426
  let c0_189 : Index := 0#32
  ![0, v429.toNat, 0]
def k0_off6 (i : grid0.Coords) (k0_t2 : Fin (k0_t2_loop i).trips) : Fin 3 → Nat :=
  let c1_228 : Index := 1#32
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let c1_i32_7 : BitVec 32 := 1#32
  let arg9 : BitVec 32 := Scf.iv v24 c1_i32_7 k0_t2
  let c512_i32_184 : BitVec 32 := 512#32
  let v425 : BitVec 32 := Scalar.muli arg9 c512_i32_184
  let v426 : BitVec 32 := v425
  let v524 : Index := Scalar.indexCast v426
  let c0_229 : Index := 0#32
  ![1, v524.toNat, 0]
def k0_off7 (i : grid0.Coords) (k0_t2 : Fin (k0_t2_loop i).trips) : Fin 3 → Nat :=
  let c2_268 : Index := 2#32
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let c1_i32_7 : BitVec 32 := 1#32
  let arg9 : BitVec 32 := Scf.iv v24 c1_i32_7 k0_t2
  let c512_i32_184 : BitVec 32 := 512#32
  let v425 : BitVec 32 := Scalar.muli arg9 c512_i32_184
  let v426 : BitVec 32 := v425
  let v619 : Index := Scalar.indexCast v426
  let c0_269 : Index := 0#32
  ![2, v619.toNat, 0]
def k0_off8 (i : grid0.Coords) (k0_t2 : Fin (k0_t2_loop i).trips) : Fin 3 → Nat :=
  let c3_308 : Index := 3#32
  let c0_i32_5 : BitVec 32 := 0#32
  let arg0 : BitVec 32 := BitVec.ofNat 32 (i 0).val
  let v20 : BitVec 32 := Scalar.subi arg0 c0_i32_5
  let c1_i32 : BitVec 32 := 1#32
  let v22 : BitVec 32 := Scalar.divsi v20 c1_i32
  let v23 : BitVec 32 := Scalar.muli v22 c1_i32
  let v24 : BitVec 32 := Scalar.addi c0_i32_5 v23
  let c1_i32_7 : BitVec 32 := 1#32
  let arg9 : BitVec 32 := Scf.iv v24 c1_i32_7 k0_t2
  let c512_i32_184 : BitVec 32 := 512#32
  let v425 : BitVec 32 := Scalar.muli arg9 c512_i32_184
  let v426 : BitVec 32 := v425
  let v714 : Index := Scalar.indexCast v426
  let c0_309 : Index := 0#32
  ![3, v714.toNat, 0]
def k0_mult3 (i : grid0.Coords) : BitVec 32 :=
  let arg0 : BitVec 32 := BitVec.ofNat 32 (i 0).val
  let c512_i32 : BitVec 32 := 512#32
  let v27 : BitVec 32 := Scalar.muli arg0 c512_i32
  v27
def k0_off9 (i : grid0.Coords) : Fin 3 → Nat :=
  let c0_10 : Index := 0#32
  let arg0 : BitVec 32 := BitVec.ofNat 32 (i 0).val
  let c512_i32 : BitVec 32 := 512#32
  let v27 : BitVec 32 := Scalar.muli arg0 c512_i32
  let v28 : BitVec 32 := v27
  let v31 : Index := Scalar.indexCast v28
  let c0_11 : Index := 0#32
  ![0, v31.toNat, 0]
def k0_off10 (i : grid0.Coords) : Fin 3 → Nat :=
  let c1_50 : Index := 1#32
  let arg0 : BitVec 32 := BitVec.ofNat 32 (i 0).val
  let c512_i32 : BitVec 32 := 512#32
  let v27 : BitVec 32 := Scalar.muli arg0 c512_i32
  let v28 : BitVec 32 := v27
  let v125 : Index := Scalar.indexCast v28
  let c0_51 : Index := 0#32
  ![1, v125.toNat, 0]
def k0_off11 (i : grid0.Coords) : Fin 3 → Nat :=
  let c2_90 : Index := 2#32
  let arg0 : BitVec 32 := BitVec.ofNat 32 (i 0).val
  let c512_i32 : BitVec 32 := 512#32
  let v27 : BitVec 32 := Scalar.muli arg0 c512_i32
  let v28 : BitVec 32 := v27
  let v219 : Index := Scalar.indexCast v28
  let c0_91 : Index := 0#32
  ![2, v219.toNat, 0]
def k0_off12 (i : grid0.Coords) : Fin 3 → Nat :=
  let c3_130 : Index := 3#32
  let arg0 : BitVec 32 := BitVec.ofNat 32 (i 0).val
  let c512_i32 : BitVec 32 := 512#32
  let v27 : BitVec 32 := Scalar.muli arg0 c512_i32
  let v28 : BitVec 32 := v27
  let v313 : Index := Scalar.indexCast v28
  let c0_131 : Index := 0#32
  ![3, v313.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x2048x4x64 : Shape := ⟨4, ![1, 2048, 4, 64]⟩
abbrev S1x4x2048x2048 : Shape := ⟨4, ![1, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x4x64x2048 : Shape := ⟨4, ![1, 4, 64, 2048]⟩
abbrev S1x4x2048x64 : Shape := ⟨4, ![1, 4, 2048, 64]⟩
abbrev S2048x4x64 : Shape := ⟨3, ![2048, 4, 64]⟩
abbrev S4x2048x64 : Shape := ⟨3, ![4, 2048, 64]⟩

abbrev nBuf : Space → Nat
  | .hbm => 170
  | .vmem => 0
  | .smem => 0
  | _ => 0

abbrev hbmTy0_0 (i : Nat) : BufTy := match i % 128 with
  | 0 => ⟨S1x2048x4x64, .f32⟩
  | 1 => ⟨S1x2048x4x64, .f32⟩
  | 2 => ⟨S1x2048x4x64, .f32⟩
  | 3 => ⟨S1x2048x4x64, .f32⟩
  | 4 => ⟨S1x4x2048x2048, .f32⟩
  | 5 => ⟨S_, .f32⟩
  | 6 => ⟨S1x4x2048x2048, .f32⟩
  | 7 => ⟨S1x4x2048x2048, .f32⟩
  | 8 => ⟨S2048, .i32⟩
  | 9 => ⟨S1x2048, .i32⟩
  | 10 => ⟨S2048x1, .i32⟩
  | 11 => ⟨S2048x2048, .i32⟩
  | 12 => ⟨S2048x2048, .i32⟩
  | 13 => ⟨S2048x2048, .i1⟩
  | 14 => ⟨S1x4x2048x2048, .f32⟩
  | 15 => ⟨S1x4x2048x2048, .f32⟩
  | 16 => ⟨S_, .f32⟩
  | 17 => ⟨S1x4x2048x2048, .f32⟩
  | 18 => ⟨S1x4x2048x2048, .f32⟩
  | 19 => ⟨S1x4x2048x2048, .f32⟩
  | 20 => ⟨S1x4x2048x2048, .f32⟩
  | 21 => ⟨S1x4x2048x2048, .i1⟩
  | 22 => ⟨S1x4x2048x2048, .f32⟩
  | 23 => ⟨S1x4x2048x2048, .f32⟩
  | 24 => ⟨S1x4x2048x2048, .f32⟩
  | 25 => ⟨S1x4x2048x2048, .f32⟩
  | 26 => ⟨S1x4x2048x2048, .f32⟩
  | 27 => ⟨S1x4x2048x2048, .f32⟩
  | 28 => ⟨S1x4x2048x2048, .f32⟩
  | 29 => ⟨S1x4x2048x2048, .f32⟩
  | 30 => ⟨S_, .f32⟩
  | 31 => ⟨S1x4x2048x2048, .f32⟩
  | 32 => ⟨S1x4x2048x2048, .i1⟩
  | 33 => ⟨S_, .f32⟩
  | 34 => ⟨S1x4x2048x2048, .f32⟩
  | 35 => ⟨S1x4x2048x2048, .f32⟩
  | 36 => ⟨S_, .f32⟩
  | 37 => ⟨S1x4x2048x2048, .f32⟩
  | 38 => ⟨S1x4x2048x2048, .i1⟩
  | 39 => ⟨S_, .f32⟩
  | 40 => ⟨S1x4x2048x2048, .f32⟩
  | 41 => ⟨S1x4x2048x2048, .f32⟩
  | 42 => ⟨S1x4x2048x2048, .f32⟩
  | 43 => ⟨S1x4x2048x2048, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S1x4x2048x2048, .f32⟩
  | 52 => ⟨S1x4x2048x2048, .i1⟩
  | 53 => ⟨S_, .f32⟩
  | 54 => ⟨S1x4x2048x2048, .f32⟩
  | 55 => ⟨S1x4x2048x2048, .f32⟩
  | 56 => ⟨S1x4x2048x2048, .f32⟩
  | 57 => ⟨S1x4x2048x2048, .f32⟩
  | 58 => ⟨S1x4x2048x2048, .f32⟩
  | 59 => ⟨S_, .f32⟩
  | 60 => ⟨S1x4x2048x2048, .f32⟩
  | 61 => ⟨S1x4x2048x2048, .f32⟩
  | 62 => ⟨S1x4x2048x2048, .f32⟩
  | 63 => ⟨S_, .f32⟩
  | 64 => ⟨S_, .f32⟩
  | 65 => ⟨S1x4x2048x2048, .i1⟩
  | 66 => ⟨S1x4x2048x2048, .f32⟩
  | 67 => ⟨S1x4x2048x2048, .f32⟩
  | 68 => ⟨S_, .f32⟩
  | 69 => ⟨S1x4x2048x2048, .f32⟩
  | 70 => ⟨S_, .f32⟩
  | 71 => ⟨S_, .f32⟩
  | 72 => ⟨S1x4x2048x2048, .f32⟩
  | 73 => ⟨S1x4x2048x2048, .f32⟩
  | 74 => ⟨S1x4x2048x2048, .f32⟩
  | 75 => ⟨S_, .f32⟩
  | 76 => ⟨S1x4x2048x2048, .f32⟩
  | 77 => ⟨S1x4x2048x2048, .f32⟩
  | 78 => ⟨S1x4x2048x2048, .f32⟩
  | 79 => ⟨S1x4x2048x2048, .f32⟩
  | 80 => ⟨S1x4x2048x2048, .i1⟩
  | 81 => ⟨S1x4x2048x2048, .f32⟩
  | 82 => ⟨S1x4x2048x2048, .f32⟩
  | 83 => ⟨S1x4x2048x2048, .f32⟩
  | 84 => ⟨S1x4x2048x2048, .f32⟩
  | 85 => ⟨S1x4x2048x2048, .f32⟩
  | 86 => ⟨S1x4x2048x2048, .f32⟩
  | 87 => ⟨S1x4x2048x2048, .f32⟩
  | 88 => ⟨S1x4x2048x2048, .f32⟩
  | 89 => ⟨S_, .f32⟩
  | 90 => ⟨S1x4x2048x2048, .f32⟩
  | 91 => ⟨S1x4x2048x2048, .i1⟩
  | 92 => ⟨S_, .f32⟩
  | 93 => ⟨S1x4x2048x2048, .f32⟩
  | 94 => ⟨S1x4x2048x2048, .f32⟩
  | 95 => ⟨S_, .f32⟩
  | 96 => ⟨S1x4x2048x2048, .f32⟩
  | 97 => ⟨S1x4x2048x2048, .i1⟩
  | 98 => ⟨S_, .f32⟩
  | 99 => ⟨S1x4x2048x2048, .f32⟩
  | 100 => ⟨S1x4x2048x2048, .f32⟩
  | 101 => ⟨S1x4x2048x2048, .f32⟩
  | 102 => ⟨S1x4x2048x2048, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S1x4x2048x2048, .f32⟩
  | 111 => ⟨S1x4x2048x2048, .i1⟩
  | 112 => ⟨S_, .f32⟩
  | 113 => ⟨S1x4x2048x2048, .f32⟩
  | 114 => ⟨S1x4x2048x2048, .f32⟩
  | 115 => ⟨S1x4x2048x2048, .f32⟩
  | 116 => ⟨S1x4x2048x2048, .f32⟩
  | 117 => ⟨S1x4x2048x2048, .f32⟩
  | 118 => ⟨S_, .f32⟩
  | 119 => ⟨S1x4x2048x2048, .f32⟩
  | 120 => ⟨S1x4x2048x2048, .f32⟩
  | 121 => ⟨S1x4x2048x2048, .f32⟩
  | 122 => ⟨S1x4x2048x2048, .f32⟩
  | 123 => ⟨S1x4x2048x2048, .f32⟩
  | 124 => ⟨S_, .f32⟩
  | 125 => ⟨S_, .f32⟩
  | 126 => ⟨S1x4x2048x2048, .i1⟩
  | 127 => ⟨S1x4x2048x2048, .f32⟩
  | _ => ⟨S1x2048x4x64, .f32⟩

abbrev hbmTy0_1 (i : Nat) : BufTy := match i % 128 with
  | 0 => ⟨S1x4x2048x2048, .f32⟩
  | 1 => ⟨S_, .f32⟩
  | 2 => ⟨S1x4x2048x2048, .f32⟩
  | 3 => ⟨S1x4x64x2048, .f32⟩
  | 4 => ⟨S1x2048x4x64, .f32⟩
  | 5 => ⟨S1x4x64x2048, .f32⟩
  | 6 => ⟨S1x4x2048x2048, .f32⟩
  | 7 => ⟨S1x4x64x2048, .f32⟩
  | 8 => ⟨S1x2048x4x64, .f32⟩
  | 9 => ⟨S_, .f32⟩
  | 10 => ⟨S1x4x2048x2048, .f32⟩
  | 11 => ⟨S1x4x2048x2048, .f32⟩
  | 12 => ⟨S1x4x2048x2048, .f32⟩
  | 13 => ⟨S1x4x2048x2048, .f32⟩
  | 14 => ⟨S1x4x2048x2048, .f32⟩
  | 15 => ⟨S1x4x2048x2048, .f32⟩
  | 16 => ⟨S1x4x2048x2048, .f32⟩
  | 17 => ⟨S_, .f32⟩
  | 18 => ⟨S_, .f32⟩
  | 19 => ⟨S1x4x2048x2048, .f32⟩
  | 20 => ⟨S1x4x2048x2048, .f32⟩
  | 21 => ⟨S_, .f32⟩
  | 22 => ⟨S1x4x2048x2048, .f32⟩
  | 23 => ⟨S1x4x2048x2048, .f32⟩
  | 24 => ⟨S1x4x2048x2048, .f32⟩
  | 25 => ⟨S1x4x2048x2048, .f32⟩
  | 26 => ⟨S1x4x2048x2048, .f32⟩
  | 27 => ⟨S1x4x2048x2048, .f32⟩
  | 28 => ⟨S1x4x2048x2048, .f32⟩
  | 29 => ⟨S_, .f32⟩
  | 30 => ⟨S1x4x2048x2048, .f32⟩
  | 31 => ⟨S1x4x2048x2048, .f32⟩
  | 32 => ⟨S1x4x2048x64, .f32⟩
  | 33 => ⟨S1x2048x4x64, .f32⟩
  | 34 => ⟨S1x4x2048x64, .f32⟩
  | 35 => ⟨S1x2048x4x64, .f32⟩
  | 36 => ⟨S2048x4x64, .f32⟩
  | 37 => ⟨S4x2048x64, .f32⟩
  | 38 => ⟨S2048x4x64, .f32⟩
  | 39 => ⟨S4x2048x64, .f32⟩
  | 40 => ⟨S2048x4x64, .f32⟩
  | 41 => ⟨S4x2048x64, .f32⟩
  | _ => ⟨S1x2048x4x64, .f32⟩

abbrev hbmTy (i : Nat) : BufTy := match i / 128 with
  | 0 => hbmTy0_0 i
  | 1 => hbmTy0_1 i
  | _ => ⟨S1x2048x4x64, .f32⟩

abbrev bufTy : (tb : Table) → Fin (tcTables nBuf tb) → BufTy
  | .hbm, ⟨i, _⟩ => hbmTy i
  | _, _ => ⟨S1x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v10_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v10_2 : Ref sig .tc := ⟨.hbm, 61, rfl⟩
abbrev main_v10_0 : Ref sig .tc := ⟨.hbm, 62, rfl⟩
abbrev main_cst_0 : Ref sig .tc := ⟨.hbm, 63, rfl⟩
abbrev main_call1_v0 : Ref sig .tc := ⟨.hbm, 64, rfl⟩
abbrev main_v11_1 : Ref sig .tc := ⟨.hbm, 65, rfl⟩
abbrev main_call1_v2 : Ref sig .tc := ⟨.hbm, 66, rfl⟩
abbrev main_v11_0 : Ref sig .tc := ⟨.hbm, 67, rfl⟩
abbrev main_call1_cst : Ref sig .tc := ⟨.hbm, 68, rfl⟩
abbrev main_v11_2 : Ref sig .tc := ⟨.hbm, 69, rfl⟩
abbrev main_call2_cst : Ref sig .tc := ⟨.hbm, 70, rfl⟩
abbrev main_call2_v0 : Ref sig .tc := ⟨.hbm, 71, rfl⟩
abbrev main_v12 : Ref sig .tc := ⟨.hbm, 72, rfl⟩
abbrev main_v13 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1_0 : Ref sig .tc := ⟨.hbm, 88, rfl⟩
abbrev main_call3_call0_cst_0 : Ref sig .tc := ⟨.hbm, 89, rfl⟩
abbrev main_call3_call0_v13 : Ref sig .tc := ⟨.hbm, 90, rfl⟩
abbrev main_call3_call0_v14 : Ref sig .tc := ⟨.hbm, 91, rfl⟩
abbrev main_call3_call0_cst_1 : Ref sig .tc := ⟨.hbm, 92, rfl⟩
abbrev main_call3_call0_v15 : Ref sig .tc := ⟨.hbm, 93, rfl⟩
abbrev main_call3_call0_v16 : Ref sig .tc := ⟨.hbm, 94, rfl⟩
abbrev main_call3_call0_cst_2 : Ref sig .tc := ⟨.hbm, 95, rfl⟩
abbrev main_call3_call0_v17 : Ref sig .tc := ⟨.hbm, 96, rfl⟩
abbrev main_call3_call0_v18 : Ref sig .tc := ⟨.hbm, 97, rfl⟩
abbrev main_call3_call0_cst_3 : Ref sig .tc := ⟨.hbm, 98, rfl⟩
abbrev main_call3_call0_v19 : Ref sig .tc := ⟨.hbm, 99, rfl⟩
abbrev main_call3_call0_v20 : Ref sig .tc := ⟨.hbm, 100, rfl⟩
abbrev main_call3_call0_v21 : Ref sig .tc := ⟨.hbm, 101, rfl⟩
abbrev main_v14_1 : Ref sig .tc := ⟨.hbm, 102, rfl⟩
abbrev main_call3_call0_cst_4 : Ref sig .tc := ⟨.hbm, 103, rfl⟩
abbrev main_call3_call0_cst_5 : Ref sig .tc := ⟨.hbm, 104, rfl⟩
abbrev main_call3_call0_v23 : Ref sig .tc := ⟨.hbm, 105, rfl⟩
abbrev main_call3_call0_cst_6 : Ref sig .tc := ⟨.hbm, 106, rfl⟩
abbrev main_call3_call0_cst_7 : Ref sig .tc := ⟨.hbm, 107, rfl⟩
abbrev main_call3_call0_v24 : Ref sig .tc := ⟨.hbm, 108, rfl⟩
abbrev main_call3_call0_cst_8 : Ref sig .tc := ⟨.hbm, 109, rfl⟩
abbrev main_call3_call0_v25 : Ref sig .tc := ⟨.hbm, 110, rfl⟩
abbrev main_call3_call0_v26 : Ref sig .tc := ⟨.hbm, 111, rfl⟩
abbrev main_call3_call0_cst_9 : Ref sig .tc := ⟨.hbm, 112, rfl⟩
abbrev main_call3_call0_v27 : Ref sig .tc := ⟨.hbm, 113, rfl⟩
abbrev main_call3_call0_v28 : Ref sig .tc := ⟨.hbm, 114, rfl⟩
abbrev main_call3_call0_v29 : Ref sig .tc := ⟨.hbm, 115, rfl⟩
abbrev main_call3_call0_v30 : Ref sig .tc := ⟨.hbm, 116, rfl⟩
abbrev main_call3_call0_v31 : Ref sig .tc := ⟨.hbm, 117, rfl⟩
abbrev main_call3_call0_cst_10 : Ref sig .tc := ⟨.hbm, 118, rfl⟩
abbrev main_call3_call0_v32 : Ref sig .tc := ⟨.hbm, 119, rfl⟩
abbrev main_v14_2 : Ref sig .tc := ⟨.hbm, 120, rfl⟩
abbrev main_v14_0 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_call5_cst : Ref sig .tc := ⟨.hbm, 137, rfl⟩
abbrev main_call5_v0 : Ref sig .tc := ⟨.hbm, 138, rfl⟩
abbrev main_v24 : Ref sig .tc := ⟨.hbm, 139, rfl⟩
abbrev main_v25 : Ref sig .tc := ⟨.hbm, 140, rfl⟩
abbrev main_call6_v0 : Ref sig .tc := ⟨.hbm, 141, rfl⟩
abbrev main_call6_v1 : Ref sig .tc := ⟨.hbm, 142, rfl⟩
abbrev main_v26 : Ref sig .tc := ⟨.hbm, 143, rfl⟩
abbrev main_v27 : Ref sig .tc := ⟨.hbm, 144, rfl⟩
abbrev main_call7_cst : Ref sig .tc := ⟨.hbm, 145, rfl⟩
abbrev main_call7_v0 : Ref sig .tc := ⟨.hbm, 146, rfl⟩
abbrev main_v28 : Ref sig .tc := ⟨.hbm, 147, rfl⟩
abbrev main_v29 : Ref sig .tc := ⟨.hbm, 148, rfl⟩
abbrev main_call8_cst : Ref sig .tc := ⟨.hbm, 149, rfl⟩
abbrev main_call8_v0 : Ref sig .tc := ⟨.hbm, 150, rfl⟩
abbrev main_v30 : Ref sig .tc := ⟨.hbm, 151, rfl⟩
abbrev main_call9_v0 : Ref sig .tc := ⟨.hbm, 152, rfl⟩
abbrev main_call9_v1 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_cst_2 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩

abbrev nD : Nat := 1
abbrev τ : Topo := Topo.v7x

variable {F : FTy → Type} [FloatOps F]
-- ==== GateGrad.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x1024, .bf16⟩
  | .hbm, ⟨5, _⟩ => ⟨S2816x1024, .bf16⟩
  | .hbm, ⟨6, _⟩ => ⟨S2048x2816, .bf16⟩
  | .hbm, ⟨7, _⟩ => ⟨S2048x2816, .bf16⟩
  | .hbm, ⟨8, _⟩ => ⟨S2048x2816, .bf16⟩
  | .hbm, ⟨9, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateGradReferenceIdeal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .bf16⟩
  | .hbm, ⟨27, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== WeightGrad.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩
abbrev S1408x2048 : Shape := ⟨2, ![1408, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x2048, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightGradReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormGrad.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 22
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S2048x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S2048x2816, .bf16⟩
  | .hbm, ⟨11, _⟩ => ⟨S2816x1024, .f32⟩
  | .hbm, ⟨12, _⟩ => ⟨S2816x1024, .bf16⟩
  | .hbm, ⟨13, _⟩ => ⟨S2048x2816, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S1x1024, .f32⟩
  | .hbm, ⟨21, _⟩ => ⟨S1x1024, .f32⟩
  | .hbm, ⟨22, _⟩ => ⟨S2048x1024, .bf16⟩
  | .hbm, ⟨23, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NormGradReferenceIdeal.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩

abbrev nBuf : Space → Nat
  | .hbm => 80
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S2048x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S_, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x2816, .f32⟩
  | .hbm, ⟨39, _⟩ => ⟨S2048x2816, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== FfnUp.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S2048x2816, .bf16⟩
  | .hbm, ⟨9, _⟩ => ⟨S2048x2816, .bf16⟩
  | .hbm, ⟨10, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S2048x1024 : Shape := ⟨2, ![2048, 1024]⟩
abbrev S1024x2816 : Shape := ⟨2, ![1024, 2816]⟩
abbrev S2048x2816 : Shape := ⟨2, ![2048, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .bf16⟩
  | .hbm, ⟨16, _⟩ => ⟨S2048x2816, .bf16⟩
  | .hbm, ⟨17, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnDown.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x2816, .bf16⟩
  | .hbm, ⟨5, _⟩ => ⟨S2816x1024, .bf16⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2048x1024, .f32⟩
  | .hbm, ⟨11, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownReferenceIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Qkv.lean ====
abbrev S2048x1024 : Shape := ⟨2, ![2048, 1024]⟩
abbrev S1024x5632 : Shape := ⟨2, ![1024, 5632]⟩
abbrev S5632x1024 : Shape := ⟨2, ![5632, 1024]⟩
abbrev S2048x2560 : Shape := ⟨2, ![2048, 2560]⟩
abbrev S512x1024 : Shape := ⟨2, ![512, 1024]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S5632x1024, .bf16⟩
  | .hbm, ⟨5, _⟩ => ⟨S2048x2560, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S2048x1024 : Shape := ⟨2, ![2048, 1024]⟩
abbrev S1024x5632 : Shape := ⟨2, ![1024, 5632]⟩
abbrev S1024x2560 : Shape := ⟨2, ![1024, 2560]⟩
abbrev S2048x2560 : Shape := ⟨2, ![2048, 2560]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x2560, .f32⟩
  | .hbm, ⟨3, _⟩ => ⟨S2048x2560, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gates.lean ====
abbrev S2048x1024 : Shape := ⟨2, ![2048, 1024]⟩
abbrev S1024x5632 : Shape := ⟨2, ![1024, 5632]⟩
abbrev S5632x1024 : Shape := ⟨2, ![5632, 1024]⟩
abbrev S2048x3072 : Shape := ⟨2, ![2048, 3072]⟩
abbrev S512x1024 : Shape := ⟨2, ![512, 1024]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S5632x1024, .bf16⟩
  | .hbm, ⟨5, _⟩ => ⟨S2048x3072, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S2048x1024 : Shape := ⟨2, ![2048, 1024]⟩
abbrev S1024x5632 : Shape := ⟨2, ![1024, 5632]⟩
abbrev S1024x3072 : Shape := ⟨2, ![1024, 3072]⟩
abbrev S2048x3072 : Shape := ⟨2, ![2048, 3072]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x3072, .f32⟩
  | .hbm, ⟨3, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GatesGrad.lean ====
abbrev S2048x3072 : Shape := ⟨2, ![2048, 3072]⟩
abbrev S2048x1024 : Shape := ⟨2, ![2048, 1024]⟩
abbrev S5632x1024 : Shape := ⟨2, ![5632, 1024]⟩
abbrev S2048x512 : Shape := ⟨2, ![2048, 512]⟩
abbrev S512x1024 : Shape := ⟨2, ![512, 1024]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S5632x1024, .f32⟩
  | .hbm, ⟨3, _⟩ => ⟨S2048x3072, .bf16⟩
  | .hbm, ⟨4, _⟩ => ⟨S2048x1024, .bf16⟩
  | .hbm, ⟨5, _⟩ => ⟨S5632x1024, .bf16⟩
  | .hbm, ⟨6, _⟩ => ⟨S5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x2048, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesGradReferenceIdeal.lean ====
abbrev S2048x3072 : Shape := ⟨2, ![2048, 3072]⟩
abbrev S2048x1024 : Shape := ⟨2, ![2048, 1024]⟩
abbrev S5632x1024 : Shape := ⟨2, ![5632, 1024]⟩
abbrev S_ : Shape := ⟨0, ![]⟩
abbrev S3072x1024 : Shape := ⟨2, ![3072, 1024]⟩
abbrev S1024x3072 : Shape := ⟨2, ![1024, 3072]⟩
abbrev S2560x1024 : Shape := ⟨2, ![2560, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S5632x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S2560x1024, .f32⟩
  | .hbm, ⟨11, _⟩ => ⟨S5632x1024, .f32⟩
  | .hbm, ⟨12, _⟩ => ⟨S5632x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixNormGrad.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S5632x1024 : Shape := ⟨2, ![5632, 1024]⟩
abbrev S2048x2560 : Shape := ⟨2, ![2048, 2560]⟩
abbrev S2048x3072 : Shape := ⟨2, ![2048, 3072]⟩
abbrev S1x1024 : Shape := ⟨2, ![1, 1024]⟩
abbrev S_ : Shape := ⟨0, ![]⟩
abbrev S256x2560 : Shape := ⟨2, ![256, 2560]⟩
abbrev S2560x1024 : Shape := ⟨2, ![2560, 1024]⟩
abbrev S256x3072 : Shape := ⟨2, ![256, 3072]⟩
abbrev S3072x1024 : Shape := ⟨2, ![3072, 1024]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 22
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S2048x5632, .bf16⟩
  | .hbm, ⟨9, _⟩ => ⟨S5632x1024, .f32⟩
  | .hbm, ⟨10, _⟩ => ⟨S5632x1024, .bf16⟩
  | .hbm, ⟨11, _⟩ => ⟨S2048x2560, .bf16⟩
  | .hbm, ⟨12, _⟩ => ⟨S2048x3072, .bf16⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S1x1024, .f32⟩
  | .hbm, ⟨21, _⟩ => ⟨S1x1024, .f32⟩
  | .hbm, ⟨22, _⟩ => ⟨S2048x1024, .bf16⟩
  | .hbm, ⟨23, _⟩ => ⟨S1x1024, .f32⟩
  | .local _ .vmem, ⟨0, _⟩ => ⟨S256x2560, .bf16⟩
  | .local _ .vmem, ⟨1, _⟩ => ⟨S256x2560, .bf16⟩
  | .local _ .vmem, ⟨2, _⟩ => ⟨S2560x1024, .bf16⟩
  | .local _ .vmem, ⟨3, _⟩ => ⟨S256x3072, .bf16⟩
  | .local _ .vmem, ⟨4, _⟩ => ⟨S256x3072, .bf16⟩
  | .local _ .vmem, ⟨5, _⟩ => ⟨S3072x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2560_i32 : BitVec 32 := 2560#32
  let c0_i32 : BitVec 32 := 0#32
  let c0_i32_0 : BitVec 32 := 0#32
  ![c2560_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixNormGradReferenceIdeal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x5632, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S2048x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutGrad.lean ====
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutGradReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWeightGrad.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWeightGradReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HalfNormGrad.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S2816x1024 : Shape := ⟨2, ![2816, 1024]⟩
abbrev S1x1024 : Shape := ⟨2, ![1, 1024]⟩
abbrev S_ : Shape := ⟨0, ![]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 27
  | .vmem => 22
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S2048x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S2048x2816, .bf16⟩
  | .hbm, ⟨11, _⟩ => ⟨S2816x1024, .f32⟩
  | .hbm, ⟨12, _⟩ => ⟨S2816x1024, .bf16⟩
  | .hbm, ⟨13, _⟩ => ⟨S2048x2816, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S2048x1024, .f32⟩
  | .hbm, ⟨23, _⟩ => ⟨S1x1024, .f32⟩
  | .hbm, ⟨24, _⟩ => ⟨S1x1024, .f32⟩
  | .hbm, ⟨25, _⟩ => ⟨S2048x1024, .bf16⟩
  | .hbm, ⟨26, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== HalfNormGradReferenceIdeal.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩

abbrev nBuf : Space → Nat
  | .hbm => 86
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S2048x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1024, .f32⟩
  | .hbm, ⟨10, _⟩ => ⟨S_, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x2816, .f32⟩
  | .hbm, ⟨39, _⟩ => ⟨S2048x2816, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== LastNormGrad.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S2048x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S2048x2816, .bf16⟩
  | .hbm, ⟨9, _⟩ => ⟨S2816x1024, .f32⟩
  | .hbm, ⟨10, _⟩ => ⟨S2816x1024, .bf16⟩
  | .hbm, ⟨11, _⟩ => ⟨S2048x2816, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S1x1024, .f32⟩
  | .hbm, ⟨18, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LastNormGradReferenceIdeal.lean ====
abbrev S2048x2816 : Shape := ⟨2, ![2048, 2816]⟩
abbrev S1024x2816 : Shape := ⟨2, ![1024, 2816]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩

abbrev nBuf : Space → Nat
  | .hbm => 68
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S2048x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x2816, .f32⟩
  | .hbm, ⟨37, _⟩ => ⟨S2048x2816, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== SbForward.lean ====
abbrev S1x2048x4x64 : Shape := ⟨4, ![1, 2048, 4, 64]⟩
abbrev S2048x4x64 : Shape := ⟨3, ![2048, 4, 64]⟩
abbrev S4x2048x64 : Shape := ⟨3, ![4, 2048, 64]⟩
abbrev S_ : Shape := ⟨0, ![]⟩
abbrev S12x2048x64 : Shape := ⟨3, ![12, 2048, 64]⟩
abbrev S4x2048x1 : Shape := ⟨3, ![4, 2048, 1]⟩
abbrev S4x512x64 : Shape := ⟨3, ![4, 512, 64]⟩
abbrev S4x512x1 : Shape := ⟨3, ![4, 512, 1]⟩
abbrev S512x512 : Shape := ⟨2, ![512, 512]⟩
abbrev S512x1 : Shape := ⟨2, ![512, 1]⟩
abbrev S512x64 : Shape := ⟨2, ![512, 64]⟩
abbrev S1x512x64 : Shape := ⟨3, ![1, 512, 64]⟩
abbrev S512 : Shape := ⟨1, ![512]⟩
abbrev S1x512x1 : Shape := ⟨3, ![1, 512, 1]⟩

abbrev nBuf : Space → Nat
  | .hbm => 16
  | .vmem => 8
  | .smem => 0
  | _ => 0

abbrev bufTy : (tb : Table) → Fin (tcTables nBuf tb) → BufTy
  | .hbm, ⟨0, _⟩ => ⟨S1x2048x4x64, .f32⟩
  | .hbm, ⟨1, _⟩ => ⟨S1x2048x4x64, .f32⟩
  | .hbm, ⟨2, _⟩ => ⟨S1x2048x4x64, .f32⟩
  | .hbm, ⟨3, _⟩ => ⟨S2048x4x64, .f32⟩
  | .hbm, ⟨4, _⟩ => ⟨S4x2048x64, .f32⟩
  | .hbm, ⟨5, _⟩ => ⟨S2048x4x64, .f32⟩
  | .hbm, ⟨6, _⟩ => ⟨S4x2048x64, .f32⟩
  | .hbm, ⟨7, _⟩ => ⟨S2048x4x64, .f32⟩
  | .hbm, ⟨8, _⟩ => ⟨S4x2048x64, .f32⟩
  | .hbm, ⟨9, _⟩ => ⟨S_, .f32⟩
  | .hbm, ⟨10, _⟩ => ⟨S4x2048x64, .f32⟩
  | .hbm, ⟨11, _⟩ => ⟨S4x2048x64, .f32⟩
  | .hbm, ⟨12, _⟩ => ⟨S12x2048x64, .f32⟩
  | .hbm, ⟨13, _⟩ => ⟨S12x2048x64, .bf16⟩
  | .hbm, ⟨14, _⟩ => ⟨S4x2048x64, .f32⟩
  | .hbm, ⟨15, _⟩ => ⟨S4x2048x1, .f32⟩
  | .local _ .vmem, ⟨0, _⟩ => ⟨S4x512x64, .bf16⟩
  | .local _ .vmem, ⟨1, _⟩ => ⟨S4x512x64, .bf16⟩
  | .local _ .vmem, ⟨2, _⟩ => ⟨S4x2048x64, .bf16⟩
  | .local _ .vmem, ⟨3, _⟩ => ⟨S4x2048x64, .bf16⟩
  | .local _ .vmem, ⟨4, _⟩ => ⟨S4x512x64, .f32⟩
  | .local _ .vmem, ⟨5, _⟩ => ⟨S4x512x64, .f32⟩
  | .local _ .vmem, ⟨6, _⟩ => ⟨S4x512x1, .f32⟩
  | .local _ .vmem, ⟨7, _⟩ => ⟨S4x512x1, .f32⟩
  | _, _ => ⟨S1x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v14 : BitVec 32 := Scalar.muli arg0 c512_i32
  v14
def k0_off1 (i : grid0.Coords) : Fin 3 → Nat :=
  let c0_9 : Index := 0#32
  let arg0 : BitVec 32 := BitVec.ofNat 32 (i 0).val
  let c512_i32 : BitVec 32 := 512#32
  let v14 : BitVec 32 := Scalar.muli arg0 c512_i32
  let v15 : BitVec 32 := v14
  let v18 : Index := Scalar.indexCast v15
  let c0_10 : Index := 0#32
  ![0, v18.toNat, 0]
def k0_off2 (i : grid0.Coords) : Fin 3 → Nat :=
  let c1_26 : Index := 1#32
  let arg0 : BitVec 32 := BitVec.ofNat 32 (i 0).val
  let c512_i32 : BitVec 32 := 512#32
  let v14 : BitVec 32 := Scalar.muli arg0 c512_i32
  let v15 : BitVec 32 := v14
  let v64 : Index := Scalar.indexCast v15
  let c0_27 : Index := 0#32
  ![1, v64.toNat, 0]
def k0_off3 (i : grid0.Coords) : Fin 3 → Nat :=
  let c2_43 : Index := 2#32
  let arg0 : BitVec 32 := BitVec.ofNat 32 (i 0).val
  let c512_i32 : BitVec 32 := 512#32
  let v14 : BitVec 32 := Scalar.muli arg0 c512_i32
  let v15 : BitVec 32 := v14
  let v110 : Index := Scalar.indexCast v15
  let c0_44 : Index := 0#32
  ![2, v110.toNat, 0]
def k0_off4 (i : grid0.Coords) : Fin 3 → Nat :=
  let c3_60 : Index := 3#32
  let arg0 : BitVec 32 := BitVec.ofNat 32 (i 0).val
  let c512_i32 : BitVec 32 := 512#32
  let v14 : BitVec 32 := Scalar.muli arg0 c512_i32
  let v15 : BitVec 32 := v14
  let v156 : Index := Scalar.indexCast v15
  let c0_61 : Index := 0#32
  ![3, v156.toNat, 0]
@[reducible] def k0_t1_loop (i : grid0.Coords) : Scf.Loop 32 :=
  let c0_i32 : BitVec 32 := 0#32
  let arg0 : BitVec 32 := BitVec.ofNat 32 (i 0).val
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let c1_i32_75 : BitVec 32 := 1#32
  ⟨c0_i32, v204, c1_i32_75⟩
def k0_mult2 (i : grid0.Coords) (k0_t1 : Fin (k0_t1_loop i).trips) : BitVec 32 :=
  let arg0 : BitVec 32 := BitVec.ofNat 32 (i 0).val
  let c1_i32_101 : BitVec 32 := 1#32
  let v231 : BitVec 32 := Scalar.subi arg0 c1_i32_101
  let c0_i32 : BitVec 32 := 0#32
  let c1_i32_75 : BitVec 32 := 1#32
  let arg6 : BitVec 32 := Scf.iv c0_i32 c1_i32_75 k0_t1
  let v232 : BitVec 32 := Scalar.subi v231 arg6
  let c512_i32_102 : BitVec 32 := 512#32
  let v233 : BitVec 32 := Scalar.muli v232 c512_i32_102
  v233
def k0_off5 (i : grid0.Coords) (k0_t1 : Fin (k0_t1_loop i).trips) : Fin 3 → Nat :=
  let c0_106 : Index := 0#32
  let arg0 : BitVec 32 := BitVec.ofNat 32 (i 0).val
  let c1_i32_101 : BitVec 32 := 1#32
  let v231 : BitVec 32 := Scalar.subi arg0 c1_i32_101
  let c0_i32 : BitVec 32 := 0#32
  let c1_i32_75 : BitVec 32 := 1#32
  let arg6 : BitVec 32 := Scf.iv c0_i32 c1_i32_75 k0_t1
  let v232 : BitVec 32 := Scalar.subi v231 arg6
  let c512_i32_102 : BitVec 32 := 512#32
  let v233 : BitVec 32 := Scalar.muli v232 c512_i32_102
  let v234 : BitVec 32 := v233
  let v237 : Index := Scalar.indexCast v234
  let c0_107 : Index := 0#32
  ![0, v237.toNat, 0]
def k0_off6 (i : grid0.Coords) (k0_t1 : Fin (k0_t1_loop i).trips) : Fin 3 → Nat :=
  let c1_122 : Index := 1#32
  let arg0 : BitVec 32 := BitVec.ofNat 32 (i 0).val
  let c1_i32_101 : BitVec 32 := 1#32
  let v231 : BitVec 32 := Scalar.subi arg0 c1_i32_101
  let c0_i32 : BitVec 32 := 0#32
  let c1_i32_75 : BitVec 32 := 1#32
  let arg6 : BitVec 32 := Scf.iv c0_i32 c1_i32_75 k0_t1
  let v232 : BitVec 32 := Scalar.subi v231 arg6
  let c512_i32_102 : BitVec 32 := 512#32
  let v233 : BitVec 32 := Scalar.muli v232 c512_i32_102
  let v234 : BitVec 32 := v233
  let v278 : Index := Scalar.indexCast v234
  let c0_123 : Index := 0#32
  ![1, v278.toNat, 0]
def k0_off7 (i : grid0.Coords) (k0_t1 : Fin (k0_t1_loop i).trips) : Fin 3 → Nat :=
  let c2_138 : Index := 2#32
  let arg0 : BitVec 32 := BitVec.ofNat 32 (i 0).val
  let c1_i32_101 : BitVec 32 := 1#32
  let v231 : BitVec 32 := Scalar.subi arg0 c1_i32_101
  let c0_i32 : BitVec 32 := 0#32
  let c1_i32_75 : BitVec 32 := 1#32
  let arg6 : BitVec 32 := Scf.iv c0_i32 c1_i32_75 k0_t1
  let v232 : BitVec 32 := Scalar.subi v231 arg6
  let c512_i32_102 : BitVec 32 := 512#32
  let v233 : BitVec 32 := Scalar.muli v232 c512_i32_102
  let v234 : BitVec 32 := v233
  let v319 : Index := Scalar.indexCast v234
  let c0_139 : Index := 0#32
  ![2, v319.toNat, 0]
def k0_off8 (i : grid0.Coords) (k0_t1 : Fin (k0_t1_loop i).trips) : Fin 3 → Nat :=
  let c3_154 : Index := 3#32
  let arg0 : BitVec 32 := BitVec.ofNat 32 (i 0).val
  let c1_i32_101 : BitVec 32 := 1#32
  let v231 : BitVec 32 := Scalar.subi arg0 c1_i32_101
  let c0_i32 : BitVec 32 := 0#32
  let c1_i32_75 : BitVec 32 := 1#32
  let arg6 : BitVec 32 := Scf.iv c0_i32 c1_i32_75 k0_t1
  let v232 : BitVec 32 := Scalar.subi v231 arg6
  let c512_i32_102 : BitVec 32 := 512#32
  let v233 : BitVec 32 := Scalar.muli v232 c512_i32_102
  let v234 : BitVec 32 := v233
  let v360 : Index := Scalar.indexCast v234
  let c0_155 : Index := 0#32
  ![3, v360.toNat, 0]
@[reducible] def k0_t2_loop (i : grid0.Coords) : Scf.Loop 32 :=
  let c0_i32 : BitVec 32 := 0#32
  let arg0 : BitVec 32 := BitVec.ofNat 32 (i 0).val
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let v201 : BitVec 32 := Scalar.addi c0_i32 v200
  let c1_i32_76 : BitVec 32 := 1#32
  ⟨v204, v201, c1_i32_76⟩
def k0_mult3 (i : grid0.Coords) (k0_t2 : Fin (k0_t2_loop i).trips) : BitVec 32 :=
  let arg0 : BitVec 32 := BitVec.ofNat 32 (i 0).val
  let c1_i32_101 : BitVec 32 := 1#32
  let v231 : BitVec 32 := Scalar.subi arg0 c1_i32_101
  let c0_i32 : BitVec 32 := 0#32
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let c1_i32_76 : BitVec 32 := 1#32
  let arg6 : BitVec 32 := Scf.iv v204 c1_i32_76 k0_t2
  let v232 : BitVec 32 := Scalar.subi v231 arg6
  let c512_i32_102 : BitVec 32 := 512#32
  let v233 : BitVec 32 := Scalar.muli v232 c512_i32_102
  v233
def k0_off9 (i : grid0.Coords) (k0_t2 : Fin (k0_t2_loop i).trips) : Fin 3 → Nat :=
  let c0_106 : Index := 0#32
  let arg0 : BitVec 32 := BitVec.ofNat 32 (i 0).val
  let c1_i32_101 : BitVec 32 := 1#32
  let v231 : BitVec 32 := Scalar.subi arg0 c1_i32_101
  let c0_i32 : BitVec 32 := 0#32
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let c1_i32_76 : BitVec 32 := 1#32
  let arg6 : BitVec 32 := Scf.iv v204 c1_i32_76 k0_t2
  let v232 : BitVec 32 := Scalar.subi v231 arg6
  let c512_i32_102 : BitVec 32 := 512#32
  let v233 : BitVec 32 := Scalar.muli v232 c512_i32_102
  let v234 : BitVec 32 := v233
  let v237 : Index := Scalar.indexCast v234
  let c0_107 : Index := 0#32
  ![0, v237.toNat, 0]
def k0_off10 (i : grid0.Coords) (k0_t2 : Fin (k0_t2_loop i).trips) : Fin 3 → Nat :=
  let c1_122 : Index := 1#32
  let arg0 : BitVec 32 := BitVec.ofNat 32 (i 0).val
  let c1_i32_101 : BitVec 32 := 1#32
  let v231 : BitVec 32 := Scalar.subi arg0 c1_i32_101
  let c0_i32 : BitVec 32 := 0#32
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let c1_i32_76 : BitVec 32 := 1#32
  let arg6 : BitVec 32 := Scf.iv v204 c1_i32_76 k0_t2
  let v232 : BitVec 32 := Scalar.subi v231 arg6
  let c512_i32_102 : BitVec 32 := 512#32
  let v233 : BitVec 32 := Scalar.muli v232 c512_i32_102
  let v234 : BitVec 32 := v233
  let v278 : Index := Scalar.indexCast v234
  let c0_123 : Index := 0#32
  ![1, v278.toNat, 0]
def k0_off11 (i : grid0.Coords) (k0_t2 : Fin (k0_t2_loop i).trips) : Fin 3 → Nat :=
  let c2_138 : Index := 2#32
  let arg0 : BitVec 32 := BitVec.ofNat 32 (i 0).val
  let c1_i32_101 : BitVec 32 := 1#32
  let v231 : BitVec 32 := Scalar.subi arg0 c1_i32_101
  let c0_i32 : BitVec 32 := 0#32
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let c1_i32_76 : BitVec 32 := 1#32
  let arg6 : BitVec 32 := Scf.iv v204 c1_i32_76 k0_t2
  let v232 : BitVec 32 := Scalar.subi v231 arg6
  let c512_i32_102 : BitVec 32 := 512#32
  let v233 : BitVec 32 := Scalar.muli v232 c512_i32_102
  let v234 : BitVec 32 := v233
  let v319 : Index := Scalar.indexCast v234
  let c0_139 : Index := 0#32
  ![2, v319.toNat, 0]
def k0_off12 (i : grid0.Coords) (k0_t2 : Fin (k0_t2_loop i).trips) : Fin 3 → Nat :=
  let c3_154 : Index := 3#32
  let arg0 : BitVec 32 := BitVec.ofNat 32 (i 0).val
  let c1_i32_101 : BitVec 32 := 1#32
  let v231 : BitVec 32 := Scalar.subi arg0 c1_i32_101
  let c0_i32 : BitVec 32 := 0#32
  let v200 : BitVec 32 := Scalar.subi arg0 c0_i32
  let c1_i32 : BitVec 32 := 1#32
  let v202 : BitVec 32 := Scalar.divsi v200 c1_i32
  let v203 : BitVec 32 := Scalar.muli v202 c1_i32
  let v204 : BitVec 32 := Scalar.addi c0_i32 v203
  let c1_i32_76 : BitVec 32 := 1#32
  let arg6 : BitVec 32 := Scf.iv v204 c1_i32_76 k0_t2
  let v232 : BitVec 32 := Scalar.subi v231 arg6
  let c512_i32_102 : BitVec 32 := 512#32
  let v233 : BitVec 32 := Scalar.muli v232 c512_i32_102
  let v234 : BitVec 32 := v233
  let v360 : Index := Scalar.indexCast v234
  let c0_155 : Index := 0#32
  ![3, v360.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SbForwardReferenceIdeal.lean ====
abbrev S1x2048x4x64 : Shape := ⟨4, ![1, 2048, 4, 64]⟩
abbrev S1x4x2048x2048 : Shape := ⟨4, ![1, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x4x2048 : Shape := ⟨3, ![1, 4, 2048]⟩
abbrev S1x4x2048x1 : Shape := ⟨4, ![1, 4, 2048, 1]⟩
abbrev S1x4x64x2048 : Shape := ⟨4, ![1, 4, 64, 2048]⟩
abbrev S2048x4x64 : Shape := ⟨3, ![2048, 4, 64]⟩
abbrev S4x2048x64 : Shape := ⟨3, ![4, 2048, 64]⟩
abbrev S4x2048x1 : Shape := ⟨3, ![4, 2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S1x2048x4x64, .f32⟩
  | .hbm, ⟨1, _⟩ => ⟨S1x2048x4x64, .f32⟩
  | .hbm, ⟨2, _⟩ => ⟨S1x2048x4x64, .f32⟩
  | .hbm, ⟨3, _⟩ => ⟨S1x4x2048x2048, .f32⟩
  | .hbm, ⟨4, _⟩ => ⟨S_, .f32⟩
  | .hbm, ⟨5, _⟩ => ⟨S1x4x2048x2048, .f32⟩
  | .hbm, ⟨6, _⟩ => ⟨S1x4x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S1x4x2048x2048, .f32⟩
  | .hbm, ⟨14, _⟩ => ⟨S1x4x2048x2048, .f32⟩
  | .hbm, ⟨15, _⟩ => ⟨S_, .f32⟩
  | .hbm, ⟨16, _⟩ => ⟨S1x4x2048x2048, .f32⟩
  | .hbm, ⟨17, _⟩ => ⟨S1x4x2048x2048, .f32⟩
  | .hbm, ⟨18, _⟩ => ⟨S1x4x2048x2048, .f32⟩
  | .hbm, ⟨19, _⟩ => ⟨S1x4x2048x2048, .f32⟩
  | .hbm, ⟨20, _⟩ => ⟨S1x4x2048x2048, .i1⟩
  | .hbm, ⟨21, _⟩ => ⟨S1x4x2048x2048, .f32⟩
  | .hbm, ⟨22, _⟩ => ⟨S1x4x2048x2048, .f32⟩
  | .hbm, ⟨23, _⟩ => ⟨S1x4x2048x2048, .f32⟩
  | .hbm, ⟨24, _⟩ => ⟨S1x4x2048x2048, .f32⟩
  | .hbm, ⟨25, _⟩ => ⟨S1x4x2048x2048, .f32⟩
  | .hbm, ⟨26, _⟩ => ⟨S1x4x2048x2048, .f32⟩
  | .hbm, ⟨27, _⟩ => ⟨S1x4x2048x2048, .f32⟩
  | .hbm, ⟨28, _⟩ => ⟨S1x4x2048x2048, .f32⟩
  | .hbm, ⟨29, _⟩ => ⟨S1x4x2048x2048, .f32⟩
  | .hbm, ⟨30, _⟩ => ⟨S_, .f32⟩
  | .hbm, ⟨31, _⟩ => ⟨S_, .f32⟩
  | .hbm, ⟨32, _⟩ => ⟨S1x4x2048x2048, .i1⟩
  | .hbm, ⟨33, _⟩ => ⟨S1x4x2048x2048, .f32⟩
  | .hbm, ⟨34, _⟩ => ⟨S1x4x2048x2048, .f32⟩
  | .hbm, ⟨35, _⟩ => ⟨S_, .f32⟩
  | .hbm, ⟨36, _⟩ => ⟨S1x4x2048, .f32⟩
  | .hbm, ⟨37, _⟩ => ⟨S1x4x2048x1, .f32⟩
  | .hbm, ⟨38, _⟩ => ⟨S1x4x2048x2048, .f32⟩
  | .hbm, ⟨39, _⟩ => ⟨S_, .f32⟩
  | .hbm, ⟨40, _⟩ => ⟨S1x4x2048x2048, .f32⟩
  | .hbm, ⟨41, _⟩ => ⟨S1x4x2048x2048, .f32⟩
  | .hbm, ⟨42, _⟩ => ⟨S2048, .i32⟩
  | .hbm, ⟨43, _⟩ => ⟨S1x2048, .i32⟩
  | .hbm, ⟨44, _⟩ => ⟨S2048x1, .i32⟩
  | .hbm, ⟨45, _⟩ => ⟨S2048x2048, .i32⟩
  | .hbm, ⟨46, _⟩ => ⟨S2048x2048, .i32⟩
  | .hbm, ⟨47, _⟩ => ⟨S2048x2048, .i1⟩
  | .hbm, ⟨48, _⟩ => ⟨S1x4x2048x2048, .f32⟩
  | .hbm, ⟨49, _⟩ => ⟨S1x4x2048x2048, .f32⟩
  | .hbm, ⟨50, _⟩ => ⟨S_, .f32⟩
  | .hbm, ⟨51, _⟩ => ⟨S1x4x2048x2048, .f32⟩
  | .hbm, ⟨52, _⟩ => ⟨S1x4x2048x2048, .f32⟩
  | .hbm, ⟨53, _⟩ => ⟨S1x4x2048x2048, .f32⟩
  | .hbm, ⟨54, _⟩ => ⟨S1x4x2048x2048, .f32⟩
  | .hbm, ⟨55, _⟩ => ⟨S1x4x2048x2048, .i1⟩
  | .hbm, ⟨56, _⟩ => ⟨S1x4x2048x2048, .f32⟩
  | .hbm, ⟨57, _⟩ => ⟨S1x4x2048x2048, .f32⟩
  | .hbm, ⟨58, _⟩ => ⟨S1x4x2048x2048, .f32⟩
  | .hbm, ⟨59, _⟩ => ⟨S1x4x2048x2048, .f32⟩
  | .hbm, ⟨60, _⟩ => ⟨S1x4x2048x2048, .f32⟩
  | .hbm, ⟨61, _⟩ => ⟨S1x4x2048x2048, .f32⟩
  | .hbm, ⟨62, _⟩ => ⟨S1x4x2048x2048, .f32⟩
  | .hbm, ⟨63, _⟩ => ⟨S1x4x2048x2048, .f32⟩
  | .hbm, ⟨64, _⟩ => ⟨S1x4x2048x2048, .f32⟩
  | .hbm, ⟨65, _⟩ => ⟨S_, .f32⟩
  | .hbm, ⟨66, _⟩ => ⟨S_, .f32⟩
  | .hbm, ⟨67, _⟩ => ⟨S1x4x2048x2048, .i1⟩
  | .hbm, ⟨68, _⟩ => ⟨S1x4x2048x2048, .f32⟩
  | .hbm, ⟨69, _⟩ => ⟨S1x4x2048x2048, .f32⟩
  | .hbm, ⟨70, _⟩ => ⟨S_, .f32⟩
  | .hbm, ⟨71, _⟩ => ⟨S_, .f32⟩
  | .hbm, ⟨72, _⟩ => ⟨S1x4x2048x2048, .f32⟩
  | .hbm, ⟨73, _⟩ => ⟨S1x4x2048x2048, .f32⟩
  | .hbm, ⟨74, _⟩ => ⟨S1x4x2048x2048, .f32⟩
  | .hbm, ⟨75, _⟩ => ⟨S_, .f32⟩
  | .hbm, ⟨76, _⟩ => ⟨S1x4x2048x2048, .f32⟩
  | .hbm, ⟨77, _⟩ => ⟨S1x4x2048x2048, .f32⟩
  | .hbm, ⟨78, _⟩ => ⟨S1x4x2048x2048, .f32⟩
  | .hbm, ⟨79, _⟩ => ⟨S1x4x2048x2048, .f32⟩
  | .hbm, ⟨80, _⟩ => ⟨S1x4x2048x2048, .i1⟩
  | .hbm, ⟨81, _⟩ => ⟨S1x4x2048x2048, .f32⟩
  | .hbm, ⟨82, _⟩ => ⟨S1x4x2048x2048, .f32⟩
  | .hbm, ⟨83, _⟩ => ⟨S1x4x2048x2048, .f32⟩
  | .hbm, ⟨84, _⟩ => ⟨S1x4x2048x2048, .f32⟩
  | .hbm, ⟨85, _⟩ => ⟨S1x4x2048x2048, .f32⟩
  | .hbm, ⟨86, _⟩ => ⟨S1x4x2048x2048, .f32⟩
  | .hbm, ⟨87, _⟩ => ⟨S1x4x2048x2048, .f32⟩
  | .hbm, ⟨88, _⟩ => ⟨S1x4x2048x2048, .f32⟩
  | .hbm, ⟨89, _⟩ => ⟨S1x4x2048x2048, .f32⟩
  | .hbm, ⟨90, _⟩ => ⟨S1x4x2048x2048, .f32⟩
  | .hbm, ⟨91, _⟩ => ⟨S1x4x2048x2048, .f32⟩
  | .hbm, ⟨92, _⟩ => ⟨S_, .f32⟩
  | .hbm, ⟨93, _⟩ => ⟨S_, .f32⟩
  | .hbm, ⟨94, _⟩ => ⟨S1x4x2048x2048, .i1⟩
  | .hbm, ⟨95, _⟩ => ⟨S1x4x2048x2048, .f32⟩
  | .hbm, ⟨96, _⟩ => ⟨S1x4x2048x2048, .f32⟩
  | .hbm, ⟨97, _⟩ => ⟨S1x4x64x2048, .f32⟩
  | .hbm, ⟨98, _⟩ => ⟨S1x2048x4x64, .f32⟩
  | .hbm, ⟨99, _⟩ => ⟨S2048x4x64, .f32⟩
  | .hbm, ⟨100, _⟩ => ⟨S4x2048x64, .f32⟩
  | .hbm, ⟨101, _⟩ => ⟨S4x2048x1, .f32⟩
  | _, _ => ⟨S1x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call2_v0 : Ref sig .tc := ⟨.hbm, 49, rfl⟩
abbrev main_call2_call0_cst : Ref sig .tc := ⟨.hbm, 50, rfl⟩
abbrev main_call2_call0_v0 : Ref sig .tc := ⟨.hbm, 51, rfl⟩
abbrev main_call2_call0_v1 : Ref sig .tc := ⟨.hbm, 52, rfl⟩
abbrev main_call2_call0_v2 : Ref sig .tc := ⟨.hbm, 53, rfl⟩
abbrev main_call2_call0_v3 : Ref sig .tc := ⟨.hbm, 54, rfl⟩
abbrev main_call2_call0_v4 : Ref sig .tc := ⟨.hbm, 55, rfl⟩
abbrev main_call2_call0_v5 : Ref sig .tc := ⟨.hbm, 56, rfl⟩
abbrev main_call2_call0_v6 : Ref sig .tc := ⟨.hbm, 57, rfl⟩
abbrev main_call2_call0_v7 : Ref sig .tc := ⟨.hbm, 58, rfl⟩
abbrev main_call2_call0_v8 : Ref sig .tc := ⟨.hbm, 59, rfl⟩
abbrev main_call2_call0_v9 : Ref sig .tc := ⟨.hbm, 60, rfl⟩
abbrev main_call2_call0_v10 : Ref sig .tc := ⟨.hbm, 61, rfl⟩
abbrev main_call2_call0_v11 : Ref sig .tc := ⟨.hbm, 62, rfl⟩
abbrev main_call2_v1 : Ref sig .tc := ⟨.hbm, 63, rfl⟩
abbrev main_v24 : Ref sig .tc := ⟨.hbm, 64, rfl⟩
abbrev main_cst_3 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v25 : Ref sig .tc := ⟨.hbm, 69, rfl⟩
abbrev main_call4_cst : Ref sig .tc := ⟨.hbm, 70, rfl⟩
abbrev main_call4_v0 : Ref sig .tc := ⟨.hbm, 71, rfl⟩
abbrev main_v26 : Ref sig .tc := ⟨.hbm, 72, rfl⟩
abbrev main_v27 : Ref sig .tc := ⟨.hbm, 73, rfl⟩
abbrev main_call5_v0 : Ref sig .tc := ⟨.hbm, 74, rfl⟩
abbrev main_call5_call0_cst : Ref sig .tc := ⟨.hbm, 75, rfl⟩
abbrev main_call5_call0_v0 : Ref sig .tc := ⟨.hbm, 76, rfl⟩
abbrev main_call5_call0_v1 : Ref sig .tc := ⟨.hbm, 77, rfl⟩
abbrev main_call5_call0_v2 : Ref sig .tc := ⟨.hbm, 78, rfl⟩
abbrev main_call5_call0_v3 : Ref sig .tc := ⟨.hbm, 79, rfl⟩
abbrev main_call5_call0_v4 : Ref sig .tc := ⟨.hbm, 80, rfl⟩
abbrev main_call5_call0_v5 : Ref sig .tc := ⟨.hbm, 81, rfl⟩
abbrev main_call5_call0_v6 : Ref sig .tc := ⟨.hbm, 82, rfl⟩
abbrev main_call5_call0_v7 : Ref sig .tc := ⟨.hbm, 83, rfl⟩
abbrev main_call5_call0_v8 : Ref sig .tc := ⟨.hbm, 84, rfl⟩
abbrev main_call5_call0_v9 : Ref sig .tc := ⟨.hbm, 85, rfl⟩
abbrev main_call5_call0_v10 : Ref sig .tc := ⟨.hbm, 86, rfl⟩
abbrev main_call5_call0_v11 : Ref sig .tc := ⟨.hbm, 87, rfl⟩
abbrev main_call5_v1 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_4 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩

abbrev nD : Nat := 1
abbrev τ : Topo := Topo.v7x

variable {F : FTy → Type} [FloatOps F]
-- ==== BranchSbGrad.lean ====
abbrev S2048x256 : Shape := ⟨2, ![2048, 256]⟩
abbrev S2048x1024 : Shape := ⟨2, ![2048, 1024]⟩
abbrev S256x1024 : Shape := ⟨2, ![256, 1024]⟩
abbrev S256x2048 : Shape := ⟨2, ![256, 2048]⟩

abbrev nBuf : Space → Nat
  | .hbm => 5
  | .vmem => 4
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S2048x256, .bf16⟩
  | .hbm, ⟨3, _⟩ => ⟨S2048x1024, .bf16⟩
  | .hbm, ⟨4, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | .local _ .vmem, ⟨3, _⟩ => ⟨S256x2048, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== BranchSbGradReferenceIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDilGrad.lean ====
abbrev S2048x128 : Shape := ⟨2, ![2048, 128]⟩
abbrev S2048x1024 : Shape := ⟨2, ![2048, 1024]⟩
abbrev S128x1024 : Shape := ⟨2, ![128, 1024]⟩
abbrev S128x2048 : Shape := ⟨2, ![128, 2048]⟩

abbrev nBuf : Space → Nat
  | .hbm => 5
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S2048x1024, .f32⟩
  | .hbm, ⟨2, _⟩ => ⟨S2048x128, .bf16⟩
  | .hbm, ⟨3, _⟩ => ⟨S2048x1024, .bf16⟩
  | .hbm, ⟨4, _⟩ => ⟨S128x1024, .bf16⟩
  | .local _ .vmem, ⟨0, _⟩ => ⟨S2048x128, .bf16⟩
  | .local _ .vmem, ⟨1, _⟩ => ⟨S2048x1024, .bf16⟩
  | .local _ .vmem, ⟨2, _⟩ => ⟨S128x1024, .bf16⟩
  | .local _ .vmem, ⟨3, _⟩ => ⟨S128x2048, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== BranchDilGradReferenceIdeal.lean ====
abbrev S2048x128 : Shape := ⟨2, ![2048, 128]⟩
abbrev S2048x1024 : Shape := ⟨2, ![2048, 1024]⟩
abbrev S_ : Shape := ⟨0, ![]⟩
abbrev S128x1024 : Shape := ⟨2, ![128, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x1024, .f32⟩
  | .hbm, ⟨2, _⟩ => ⟨S_, .f32⟩
  | .hbm, ⟨3, _⟩ => ⟨S128x1024, .f32⟩
  | .hbm, ⟨4, _⟩ => ⟨S2048x1024, .f32⟩
  | .hbm, ⟨5, _⟩ => ⟨S1024x128, .f32⟩
  | .hbm, ⟨6, _⟩ => ⟨S128x1024, .f32⟩
  | .hbm, ⟨7, _⟩ => ⟨S128x1024, .bf16⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchSwaGrad.lean ====
abbrev S2048x384 : Shape := ⟨2, ![2048, 384]⟩
abbrev S2048x1024 : Shape := ⟨2, ![2048, 1024]⟩
abbrev S384x1024 : Shape := ⟨2, ![384, 1024]⟩
abbrev S384x2048 : Shape := ⟨2, ![384, 2048]⟩

abbrev nBuf : Space → Nat
  | .hbm => 5
  | .vmem => 4
  | .smem => 0
  | _ => 0

abbrev bufTy : (tb : Table) → Fin (tcTables nBuf tb) → BufTy
  | .hbm, ⟨0, _⟩ => ⟨S2048x384, .f32⟩
  | .hbm, ⟨1, _⟩ => ⟨S2048x1024, .f32⟩
  | .hbm, ⟨2, _⟩ => ⟨S2048x384, .bf16⟩
  | .hbm, ⟨3, _⟩ => ⟨S2048x1024, .bf16⟩
  | .hbm, ⟨4, _⟩ => ⟨S384x1024, .bf16⟩
  | .local _ .vmem, ⟨0, _⟩ => ⟨S2048x384, .bf16⟩
  | .local _ .vmem, ⟨1, _⟩ => ⟨S2048x1024, .bf16⟩
  | .local _ .vmem, ⟨2, _⟩ => ⟨S384x1024, .bf16⟩
  | .local _ .vmem, ⟨3, _⟩ => ⟨S384x2048, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== BranchSwaGradReferenceIdeal.lean ====
abbrev S2048x384 : Shape := ⟨2, ![2048, 384]⟩
abbrev S2048x1024 : Shape := ⟨2, ![2048, 1024]⟩
abbrev S_ : Shape := ⟨0, ![]⟩
abbrev S384x1024 : Shape := ⟨2, ![384, 1024]⟩
abbrev S1024x384 : Shape := ⟨2, ![1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x1024, .f32⟩
  | .hbm, ⟨2, _⟩ => ⟨S_, .f32⟩
  | .hbm, ⟨3, _⟩ => ⟨S384x1024, .f32⟩
  | .hbm, ⟨4, _⟩ => ⟨S2048x1024, .f32⟩
  | .hbm, ⟨5, _⟩ => ⟨S1024x384, .f32⟩
  | .hbm, ⟨6, _⟩ => ⟨S384x1024, .f32⟩
  | .hbm, ⟨7, _⟩ => ⟨S384x1024, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MergeGrad.lean ====
abbrev S2048x1024 : Shape := ⟨2, ![2048, 1024]⟩
abbrev S2048x256 : Shape := ⟨2, ![2048, 256]⟩
abbrev S2048x128 : Shape := ⟨2, ![2048, 128]⟩
abbrev S2048x384 : Shape := ⟨2, ![2048, 384]⟩
abbrev S2048x3072 : Shape := ⟨2, ![2048, 3072]⟩
abbrev S256x1024 : Shape := ⟨2, ![256, 1024]⟩
abbrev S128x1024 : Shape := ⟨2, ![128, 1024]⟩
abbrev S384x1024 : Shape := ⟨2, ![384, 1024]⟩
abbrev S4x2048x64 : Shape := ⟨3, ![4, 2048, 64]⟩
abbrev S6x2048x64 : Shape := ⟨3, ![6, 2048, 64]⟩
abbrev S256x256 : Shape := ⟨2, ![256, 256]⟩
abbrev S256x128 : Shape := ⟨2, ![256, 128]⟩
abbrev S256x384 : Shape := ⟨2, ![256, 384]⟩
abbrev S256x3072 : Shape := ⟨2, ![256, 3072]⟩
abbrev S4x256x64 : Shape := ⟨3, ![4, 256, 64]⟩
abbrev S6x256x64 : Shape := ⟨3, ![6, 256, 64]⟩
abbrev S256x64 : Shape := ⟨2, ![256, 64]⟩
abbrev S1x256x64 : Shape := ⟨3, ![1, 256, 64]⟩

abbrev nBuf : Space → Nat
  | .hbm => 21
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x128, .f32⟩
  | .hbm, ⟨3, _⟩ => ⟨S2048x384, .f32⟩
  | .hbm, ⟨4, _⟩ => ⟨S2048x3072, .f32⟩
  | .hbm, ⟨5, _⟩ => ⟨S256x1024, .f32⟩
  | .hbm, ⟨6, _⟩ => ⟨S128x1024, .f32⟩
  | .hbm, ⟨7, _⟩ => ⟨S384x1024, .f32⟩
  | .hbm, ⟨8, _⟩ => ⟨S2048x256, .bf16⟩
  | .hbm, ⟨9, _⟩ => ⟨S2048x128, .bf16⟩
  | .hbm, ⟨10, _⟩ => ⟨S2048x384, .bf16⟩
  | .hbm, ⟨11, _⟩ => ⟨S256x1024, .bf16⟩
  | .hbm, ⟨12, _⟩ => ⟨S128x1024, .bf16⟩
  | .hbm, ⟨13, _⟩ => ⟨S384x1024, .bf16⟩
  | .hbm, ⟨14, _⟩ => ⟨S2048x3072, .bf16⟩
  | .hbm, ⟨15, _⟩ => ⟨S4x2048x64, .f32⟩
  | .hbm, ⟨16, _⟩ => ⟨S2048x128, .f32⟩
  | .hbm, ⟨17, _⟩ => ⟨S6x2048x64, .f32⟩
  | .hbm, ⟨18, _⟩ => ⟨S2048x1024, .bf16⟩
  | .hbm, ⟨19, _⟩ => ⟨S2048x1024, .bf16⟩
  | .hbm, ⟨20, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S256x384, .bf16⟩
  | .local _ .vmem, ⟨7, _⟩ => ⟨S256x384, .bf16⟩
  | .local _ .vmem, ⟨8, _⟩ => ⟨S256x3072, .f32⟩
  | .local _ .vmem, ⟨9, _⟩ => ⟨S256x3072, .f32⟩
  | .local _ .vmem, ⟨10, _⟩ => ⟨S256x1024, .bf16⟩
  | .local _ .vmem, ⟨11, _⟩ => ⟨S128x1024, .bf16⟩
  | .local _ .vmem, ⟨12, _⟩ => ⟨S384x1024, .bf16⟩
  | .local _ .vmem, ⟨13, _⟩ => ⟨S256x3072, .bf16⟩
  | .local _ .vmem, ⟨14, _⟩ => ⟨S256x3072, .bf16⟩
  | .local _ .vmem, ⟨15, _⟩ => ⟨S4x256x64, .f32⟩
  | .local _ .vmem, ⟨16, _⟩ => ⟨S4x256x64, .f32⟩
  | .local _ .vmem, ⟨17, _⟩ => ⟨S256x128, .f32⟩
  | .local _ .vmem, ⟨18, _⟩ => ⟨S256x128, .f32⟩
  | .local _ .vmem, ⟨19, _⟩ => ⟨S6x256x64, .f32⟩
  | .local _ .vmem, ⟨20, _⟩ => ⟨S6x256x64, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeGradReferenceIdeal.lean ====
abbrev S2048x1024 : Shape := ⟨2, ![2048, 1024]⟩
abbrev S2048x256 : Shape := ⟨2, ![2048, 256]⟩
abbrev S2048x128 : Shape := ⟨2, ![2048, 128]⟩
abbrev S2048x384 : Shape := ⟨2, ![2048, 384]⟩
abbrev S2048x3072 : Shape := ⟨2, ![2048, 3072]⟩
abbrev S256x1024 : Shape := ⟨2, ![256, 1024]⟩
abbrev S128x1024 : Shape := ⟨2, ![128, 1024]⟩
abbrev S384x1024 : Shape := ⟨2, ![384, 1024]⟩
abbrev S_ : Shape := ⟨0, ![]⟩
abbrev S2048x4x64 : Shape := ⟨3, ![2048, 4, 64]⟩
abbrev S4x2048x64 : Shape := ⟨3, ![4, 2048, 64]⟩
abbrev S2048x6x64 : Shape := ⟨3, ![2048, 6, 64]⟩
abbrev S6x2048x64 : Shape := ⟨3, ![6, 2048, 64]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x128, .f32⟩
  | .hbm, ⟨3, _⟩ => ⟨S2048x384, .f32⟩
  | .hbm, ⟨4, _⟩ => ⟨S2048x3072, .f32⟩
  | .hbm, ⟨5, _⟩ => ⟨S256x1024, .f32⟩
  | .hbm, ⟨6, _⟩ => ⟨S128x1024, .f32⟩
  | .hbm, ⟨7, _⟩ => ⟨S384x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x3072, .f32⟩
  | .hbm, ⟨67, _⟩ => ⟨S2048x384, .f32⟩
  | .hbm, ⟨68, _⟩ => ⟨S2048x128, .f32⟩
  | .hbm, ⟨69, _⟩ => ⟨S2048x256, .f32⟩
  | .hbm, ⟨70, _⟩ => ⟨S2048x3072, .bf16⟩
  | .hbm, ⟨71, _⟩ => ⟨S2048x4x64, .f32⟩
  | .hbm, ⟨72, _⟩ => ⟨S4x2048x64, .f32⟩
  | .hbm, ⟨73, _⟩ => ⟨S2048x6x64, .f32⟩
  | .hbm, ⟨74, _⟩ => ⟨S6x2048x64, .f32⟩
  | .hbm, ⟨75, _⟩ => ⟨S2048x1024, .bf16⟩
  | .hbm, ⟨76, _⟩ => ⟨S2048x1024, .bf16⟩
  | .hbm, ⟨77, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Merge.lean ====
abbrev S4x2048x64 : Shape := ⟨3, ![4, 2048, 64]⟩
abbrev S2048x128 : Shape := ⟨2, ![2048, 128]⟩
abbrev S6x2048x64 : Shape := ⟨3, ![6, 2048, 64]⟩
abbrev S2048x3072 : Shape := ⟨2, ![2048, 3072]⟩
abbrev S256x1024 : Shape := ⟨2, ![256, 1024]⟩
abbrev S128x1024 : Shape := ⟨2, ![128, 1024]⟩
abbrev S384x1024 : Shape := ⟨2, ![384, 1024]⟩
abbrev S2048x1024 : Shape := ⟨2, ![2048, 1024]⟩
abbrev S2048x256 : Shape := ⟨2, ![2048, 256]⟩
abbrev S2048x384 : Shape := ⟨2, ![2048, 384]⟩
abbrev S4x256x64 : Shape := ⟨3, ![4, 256, 64]⟩
abbrev S256x128 : Shape := ⟨2, ![256, 128]⟩
abbrev S6x256x64 : Shape := ⟨3, ![6, 256, 64]⟩
abbrev S256x3072 : Shape := ⟨2, ![256, 3072]⟩
abbrev S256x256 : Shape := ⟨2, ![256, 256]⟩
abbrev S256x384 : Shape := ⟨2, ![256, 384]⟩
abbrev S1x256x64 : Shape := ⟨3, ![1, 256, 64]⟩
abbrev S256x64 : Shape := ⟨2, ![256, 64]⟩

abbrev nBuf : Space → Nat
  | .hbm => 14
  | .vmem => 19
  | .smem => 0
  | _ => 0

abbrev bufTy : (tb : Table) → Fin (tcTables nBuf tb) → BufTy
  | .hbm, ⟨0, _⟩ => ⟨S4x2048x64, .f32⟩
  | .hbm, ⟨1, _⟩ => ⟨S2048x128, .f32⟩
  | .hbm, ⟨2, _⟩ => ⟨S6x2048x64, .f32⟩
  | .hbm, ⟨3, _⟩ => ⟨S2048x3072, .f32⟩
  | .hbm, ⟨4, _⟩ => ⟨S256x1024, .f32⟩
  | .hbm, ⟨5, _⟩ => ⟨S128x1024, .f32⟩
  | .hbm, ⟨6, _⟩ => ⟨S384x1024, .f32⟩
  | .hbm, ⟨7, _⟩ => ⟨S256x1024, .bf16⟩
  | .hbm, ⟨8, _⟩ => ⟨S128x1024, .bf16⟩
  | .hbm, ⟨9, _⟩ => ⟨S384x1024, .bf16⟩
  | .hbm, ⟨10, _⟩ => ⟨S2048x1024, .bf16⟩
  | .hbm, ⟨11, _⟩ => ⟨S2048x256, .bf16⟩
  | .hbm, ⟨12, _⟩ => ⟨S2048x128, .bf16⟩
  | .hbm, ⟨13, _⟩ => ⟨S2048x384, .bf16⟩
  | .local _ .vmem, ⟨0, _⟩ => ⟨S4x256x64, .f32⟩
  | .local _ .vmem, ⟨1, _⟩ => ⟨S4x256x64, .f32⟩
  | .local _ .vmem, ⟨2, _⟩ => ⟨S256x128, .f32⟩
  | .local _ .vmem, ⟨3, _⟩ => ⟨S256x128, .f32⟩
  | .local _ .vmem, ⟨4, _⟩ => ⟨S6x256x64, .f32⟩
  | .local _ .vmem, ⟨5, _⟩ => ⟨S6x256x64, .f32⟩
  | .local _ .vmem, ⟨6, _⟩ => ⟨S256x3072, .f32⟩
  | .local _ .vmem, ⟨7, _⟩ => ⟨S256x3072, .f32⟩
  | .local _ .vmem, ⟨8, _⟩ => ⟨S256x1024, .bf16⟩
  | .local _ .vmem, ⟨9, _⟩ => ⟨S128x1024, .bf16⟩
  | .local _ .vmem, ⟨10, _⟩ => ⟨S384x1024, .bf16⟩
  | .local _ .vmem, ⟨11, _⟩ => ⟨S256x1024, .bf16⟩
  | .local _ .vmem, ⟨12, _⟩ => ⟨S256x1024, .bf16⟩
  | .local _ .vmem, ⟨13, _⟩ => ⟨S256x256, .bf16⟩
  | .local _ .vmem, ⟨14, _⟩ => ⟨S256x256, .bf16⟩
  | .local _ .vmem, ⟨15, _⟩ => ⟨S256x128, .bf16⟩
  | .local _ .vmem, ⟨16, _⟩ => ⟨S256x128, .bf16⟩
  | .local _ .vmem, ⟨17, _⟩ => ⟨S256x384, .bf16⟩
  | .local _ .vmem, ⟨18, _⟩ => ⟨S256x384, .bf16⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4x2048x64 : Shape := ⟨3, ![4, 2048, 64]⟩
abbrev S2048x128 : Shape := ⟨2, ![2048, 128]⟩
abbrev S6x2048x64 : Shape := ⟨3, ![6, 2048, 64]⟩
abbrev S2048x3072 : Shape := ⟨2, ![2048, 3072]⟩
abbrev S256x1024 : Shape := ⟨2, ![256, 1024]⟩
abbrev S128x1024 : Shape := ⟨2, ![128, 1024]⟩
abbrev S384x1024 : Shape := ⟨2, ![384, 1024]⟩
abbrev S2048x4x64 : Shape := ⟨3, ![2048, 4, 64]⟩
abbrev S2048x256 : Shape := ⟨2, ![2048, 256]⟩
abbrev S2048x6x64 : Shape := ⟨3, ![2048, 6, 64]⟩
abbrev S2048x384 : Shape := ⟨2, ![2048, 384]⟩
abbrev S2048x1024 : Shape := ⟨2, ![2048, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x64, .f32⟩
  | .hbm, ⟨1, _⟩ => ⟨S2048x128, .f32⟩
  | .hbm, ⟨2, _⟩ => ⟨S6x2048x64, .f32⟩
  | .hbm, ⟨3, _⟩ => ⟨S2048x3072, .f32⟩
  | .hbm, ⟨4, _⟩ => ⟨S256x1024, .f32⟩
  | .hbm, ⟨5, _⟩ => ⟨S128x1024, .f32⟩
  | .hbm, ⟨6, _⟩ => ⟨S384x1024, .f32⟩
  | .hbm, ⟨7, _⟩ => ⟨S2048x4x64, .f32⟩
  | .hbm, ⟨8, _⟩ => ⟨S2048x256, .f32⟩
  | .hbm, ⟨9, _⟩ => ⟨S2048x6x64, .f32⟩
  | .hbm, ⟨10, _⟩ => ⟨S2048x384, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .bf16⟩
  | .hbm, ⟨47, _⟩ => ⟨S2048x256, .bf16⟩
  | .hbm, ⟨48, _⟩ => ⟨S2048x128, .bf16⟩
  | .hbm, ⟨49, _⟩ => ⟨S2048x384, .bf16⟩
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Args.lean ====
module

public import proofs.«01_k».proof.Proof.Gen.KernelIdeal.Value

/-!
# The arrays the region takes

What the host code makes of the arguments: the scaled queries, the keys and the values in one array, the sum of the
logarithms for every query, and the gradient of the result, head first.
-/

@[expose] public section

set_option maxRecDepth 16384

noncomputable section

namespace Cert.Sb

open Idealize.ShloMosaic Idealize.ShloMosaic.TcCoe Cert.KernelIdeal Cert.KernelIdeal.Gen

variable {F : FTy → Type} [FloatOps F]

/-- Head first, the first axis dropped. -/
def byHead (x : FVec F S1x2048x4x64 .f32) : FVec F S4x2048x64 .f32 :=
  transpose S4x2048x64 [1, 0, 2] (shapeCast S2048x4x64 x shapeCasts_S1x2048x4x64_S2048x4x64) transposes_S2048x4x64_S4x2048x64_1_0_2

/-- The scaled queries, the keys and the values in one array. -/
def packed (q k v : FVec F S1x2048x4x64 .f32) : FVec F S12x2048x64 .bf16 :=
  truncf .bf16 (concatenate S12x2048x64 0 [⟨S4x2048x64, mulf (byHead q) (broadcastInDim S4x2048x64 ![] bcast_S_S4x2048x64 (constant S_ .f32 0x3E000000#32))⟩,
    ⟨S4x2048x64, byHead k⟩, ⟨S4x2048x64, byHead v⟩] concatenates_S4x2048x64_S4x2048x64_S4x2048x64_S12x2048x64_d0) bitsLt_bf16_f32

/-- A constant for every pair of a query and a key. -/
def fill3 (w : BitVec 32) : FVec F S4x2048x2048 .f32 := broadcastInDim S4x2048x2048 ![] bcast_S_S4x2048x2048 (constant S_ .f32 w)

/-- The scores. -/
def hostScore (q k : FVec F S1x2048x4x64 .f32) : FVec F S4x2048x2048 .f32 :=
  mulf (Host.dotGeneral dot_S4x2048x64_S4x2048x64_S4x2048x2048_2_2_1_1_0_0 none (byHead q) (byHead k)) (fill3 0x3E000000#32)

/-- `log (1 + exp x)`. -/
def hostPlus (x : FVec F S4x2048x2048 .f32) : FVec F S4x2048x2048 .f32 :=
  select (cmpf .une (subf x (fill3 0x00000000#32)) (subf x (fill3 0x00000000#32))) (addf x (fill3 0x00000000#32))
    (addf (maximumf x (fill3 0x00000000#32)) (Host.log1p (Host.exp (Host.negf (Host.absf (subf x (fill3 0x00000000#32)))))))

/-- Key before query. -/
def hostBefore : IVec S4x2048x2048 1 :=
  broadcastInDim S4x2048x2048 ![1, 2] bcast_S2048x2048_S4x2048x2048_1_2
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The sum of the logarithms for every query. -/
def hostTot (q k : FVec F S1x2048x4x64 .f32) : FVec F S4x2048x1 .f32 :=
  broadcastInDim S4x2048x1 ![0, 1] bcast_S4x2048_S4x2048x1_0_1
    (Host.reduceAdd (select hostBefore (Host.negf (hostPlus (Host.negf (Host.negf (hostScore q k))))) (fill3 0x00000000#32)) (constant S_ .f32 0x00000000#32)
      reducesTo_S4x2048x2048_S4x2048_d2 h_S_)

variable (m : (ℓ : Loc nD τ sig) → Buf (Elt F) ℓ) (c : Dev nD)

theorem V_packed : V m c main_v11 = packed (m ((c.tc : Thread nD τ).loc main_arg0)) (m ((c.tc : Thread nD τ).loc main_arg1)) (m ((c.tc : Thread nD τ).loc main_arg2)) := rfl

theorem V_outGrad : V m c main_v7 = byHead (m ((c.tc : Thread nD τ).loc main_arg3)) := rfl

theorem V_tot : V m c main_v25 = hostTot (m ((c.tc : Thread nD τ).loc main_arg0)) (m ((c.tc : Thread nD τ).loc main_arg1)) := rfl

end Cert.Sb

end
-- ==== Proof.Scalars.lean ====
/- The scalar facts behind stick-breaking attention: the log-sigmoid and the sigmoid written with `e = exp (-|z|)`,
   and the extended-real operations of both programs on real arguments. -/
module

public import Idealize.ShloMosaic.PureOps.Ideal.Laws
public import Idealize.ShloMosaic.Lib.IdealHost

@[expose] public section

set_option maxRecDepth 16384

noncomputable section

namespace Cert.Sb

open Idealize.ShloMosaic
open scoped BigOperators

/-- `log (1 - σ z)`, the logarithm of the chance that a stick is not broken. -/
def lfail (z : ℝ) : ℝ := -(max z 0 + Real.log (1 + Real.exp (-|z|)))

/-- The sigmoid by the exponential of a number that is not positive. -/
def sigm (z : ℝ) : ℝ := (if 0 ≤ z then 1 else Real.exp (-|z|)) / (1 + Real.exp (-|z|))

theorem one_add_exp_pos (x : ℝ) : 0 < 1 + Real.exp x := by positivity

/-- `z + log (1 - σ z) = log (σ z)`, and that is `log (1 - σ (-z))`. -/
theorem add_lfail (z : ℝ) : z + lfail z = lfail (-z) := by
  unfold lfail
  rw [abs_neg]
  rcases le_total 0 z with h | h
  · rw [max_eq_left h, max_eq_right (by linarith : -z ≤ 0)]; ring
  · rw [max_eq_right h, max_eq_left (by linarith : (0 : ℝ) ≤ -z)]; ring

/-- `exp (z + log (1 - σ z)) = σ z`. -/
theorem exp_add_lfail (z : ℝ) : Real.exp (z + lfail z) = sigm z := by
  have hp := one_add_exp_pos (-|z|)
  have e : z + lfail z = (if 0 ≤ z then 0 else -|z|) - Real.log (1 + Real.exp (-|z|)) := by
    unfold lfail
    split
    · rename_i h; rw [max_eq_left h]; ring
    · rename_i h; push Not at h; rw [max_eq_right h.le, abs_of_neg h]; ring
  rw [e, Real.exp_sub, Real.exp_log hp]
  unfold sigm
  split <;> simp

/-- `1 - σ z = σ (-z)`. -/
theorem one_sub_sigm (z : ℝ) : 1 - sigm z = Real.exp (-z + lfail (-z)) := by
  have hp := one_add_exp_pos (-|z|)
  rw [add_lfail, neg_neg]
  have e : lfail z = (if 0 ≤ z then -|z| else 0) - Real.log (1 + Real.exp (-|z|)) := by
    unfold lfail
    split
    · rename_i h; rw [max_eq_left h, abs_of_nonneg h]; ring
    · rename_i h; push Not at h; rw [max_eq_right h.le]; ring
  rw [e, Real.exp_sub, Real.exp_log hp]
  unfold sigm
  split
  · field_simp; ring
  · field_simp; simp

/-! ## The extended-real operations on reals -/

theorem coe_max (x y : ℝ) : max (x : EReal) (y : EReal) = ((max x y : ℝ) : EReal) := by
  exact ((EReal.coe_strictMono.monotone).map_max (a := x) (b := y)).symm

theorem abs_coe (x : ℝ) : max (x : EReal) (-(x : EReal)) = ((|x| : ℝ) : EReal) := by
  rw [← EReal.coe_neg, coe_max]; rfl

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_mul_coe {ι : Type*} [Fintype ι] (f g : ι → ℝ) :
    ∑ i, ((f i : ℝ) : EReal) * ((g i : ℝ) : EReal) = ((∑ i, f i * g i : ℝ) : EReal) := by
  rw [← coe_sum]; exact Finset.sum_congr rfl fun i _ => (EReal.coe_mul _ _).symm

theorem log_one_add_exp (x : ℝ) :
    Ideal.log (1 + ((Real.exp x : ℝ) : EReal)) = ((Real.log (1 + Real.exp x) : ℝ) : EReal) := by
  rw [show (1 : EReal) = ((1 : ℝ) : EReal) from rfl, ← EReal.coe_add, Ideal.log_coe, if_neg (not_le.2 (one_add_exp_pos x))]

/-- The kernel's `e = exp (0 - |z|)`. -/
theorem e_coe (z : ℝ) : Ideal.exp (0 - max (z : EReal) (-(z : EReal))) = ((Real.exp (-|z|) : ℝ) : EReal) := by
  rw [abs_coe, zero_sub, ← EReal.coe_neg, Ideal.exp_coe]

/-- The kernel's `0 - (max z 0 + log (1 + e))`. -/
theorem lf_coe (z : ℝ) :
    0 - (max (z : EReal) 0 + Ideal.log (1 + ((Real.exp (-|z|) : ℝ) : EReal))) = ((lfail z : ℝ) : EReal) := by
  rw [log_one_add_exp, show (0 : EReal) = ((0 : ℝ) : EReal) from rfl, coe_max, ← EReal.coe_add, ← EReal.coe_sub, zero_sub]; rfl

/-- The kernel's sigmoid. -/
theorem sigm_coe (z : ℝ) :
    Ideal.div (Scalar.select (Ideal.cmp .oge (z : EReal) 0) 1 ((Real.exp (-|z|) : ℝ) : EReal)) (1 + ((Real.exp (-|z|) : ℝ) : EReal))
      = ((sigm z : ℝ) : EReal) := by
  rw [show (1 : EReal) + ((Real.exp (-|z|) : ℝ) : EReal) = ((1 + Real.exp (-|z|) : ℝ) : EReal) from by rw [EReal.coe_add]; rfl,
    Ideal.div_coe (one_add_exp_pos _).ne']
  unfold sigm Ideal.cmp Scalar.select
  by_cases h : 0 ≤ z
  · have h' : (0 : EReal) ≤ (z : EReal) := by exact_mod_cast h
    simp only [h', decide_true, BitVec.ofBool_true, if_pos h]
    rw [if_pos (by decide), show (1 : EReal) = ((1 : ℝ) : EReal) from rfl, ← EReal.coe_mul, one_mul]
  · have h' : ¬ (0 : EReal) ≤ (z : EReal) := by exact_mod_cast h
    simp only [h', decide_false, BitVec.ofBool_false, if_neg h]
    rw [if_neg (by decide), ← EReal.coe_mul, mul_one_div]

/-- The one-eighth by which the logits are scaled. -/
theorem ofBits_eighth : Ideal.ofBits .f32 0x3E000000#32 = ((1 / 8 : ℝ) : EReal) := by
  simp [Ideal.ofBits, Ideal.ieee, -EReal.coe_mul]; norm_num

/-- The word of plus infinity. -/
theorem ofBits_top : Ideal.ofBits .f32 0x7F800000#32 = ⊤ := by
  simp [Ideal.ofBits, Ideal.ieee]

end Cert.Sb

end
-- ==== Proof.Tile.lean ====
/- One 512 by 512 tile of the gradient of stick-breaking attention: the kernel's own operations as named functions of
   the tile's operands (for every float instance), and what they are on real operands. -/
module

public import proofs.«01_k».proof.Proof.Gen.KernelIdeal.Skeleton
public import Idealize.ShloMosaic.Lib.MatmulPlain
public import Idealize.ShloMosaic.Lib.Pipeline.Value
public import Idealize.ShloMosaic.Lib.WordCmp
public import proofs.«01_k».proof.Proof.Scalars

@[expose] public section

set_option maxRecDepth 16384

noncomputable section

namespace Cert.Sb

open Idealize.ShloMosaic Idealize.ShloMosaic.ValueIdx Cert.KernelIdeal Cert.KernelIdeal.Gen
open scoped BigOperators

section Ops
variable {F : FTy → Type} [FloatOps F]

/-- Scores of a query tile against a key tile. -/
def tZ (q k : FVec F S512x64 .bf16) : FVec F S512x512 .f32 :=
  matmul dot_S512x64_S512x64_S512x512_1_1_0_0_n_n none q k (constant S512x512 .f32 0x00000000#32)

/-- A scalar word on the whole tile. -/
def tC (w : BitVec 32) : FVec F S512x512 .f32 := broadcast S512x512 (Scalar.ofBits .f32 w)

/-- `exp (-|z|)`. -/
def tE (z : FVec F S512x512 .f32) : FVec F S512x512 .f32 := exp (subf (tC 0x00000000#32) (absf z))

/-- `log (1 - σ z)`. -/
def tLf (z : FVec F S512x512 .f32) : FVec F S512x512 .f32 :=
  subf (tC 0x00000000#32) (addf (maximumf z (tC 0x00000000#32)) (log (addf (tC 0x3F800000#32) (tE z))))

/-- The product with a triangle of ones, in the two halves the kernel takes of the left operand. -/
def tCum (tri : FVec F S512x512 .bf16) (x : FVec F S512x512 .f32) : FVec F S512x512 .f32 :=
  addf
    (matmul dot_S512x512_S512x512_S512x512_1_0_0_1_n_n none (truncf .bf16 x bitsLt_bf16_f32) tri (constant S512x512 .f32 0x00000000#32))
    (matmul dot_S512x512_S512x512_S512x512_1_0_0_1_n_n none
      (truncf .bf16 (subf x (extf .f32 (truncf .bf16 x bitsLt_bf16_f32) bitsLt_bf16_f32)) bitsLt_bf16_f32) tri
      (constant S512x512 .f32 0x00000000#32))

/-- The logarithm of the weights. -/
def tLogW (tri : FVec F S512x512 .bf16) (left tot : FVec F S512x1 .f32) (z lf : FVec F S512x512 .f32) : FVec F S512x512 .f32 :=
  addf (addf z lf)
    (subf (broadcastTo S512x512 tot broadcasts_S512x1_S512x512)
      (addf (broadcastTo S512x512 left broadcasts_S512x1_S512x512) (tCum tri lf)))

/-- The sigmoid of the scores. -/
def tSig (z : FVec F S512x512 .f32) : FVec F S512x512 .f32 :=
  divf (select (cmpf .oge z (tC 0x00000000#32)) (tC 0x3F800000#32) (tE z)) (addf (tC 0x3F800000#32) (tE z))

/-- The gradient of the logarithm of the weights. -/
def tP (w : FVec F S512x512 .f32) (g v : FVec F S512x64 .bf16) : FVec F S512x512 .f32 := mulf w (tZ g v)

/-- The gradient of the scores. -/
def tDz (tri : FVec F S512x512 .bf16) (cleft : FVec F S512x1 .f32) (z p : FVec F S512x512 .f32) : FVec F S512x512 .f32 :=
  subf (mulf p (subf (tC 0x3F800000#32) (tSig z)))
    (mulf (tSig z) (addf (broadcastTo S512x512 cleft broadcasts_S512x1_S512x512) (tCum tri p)))

/-- A tile's product over its query rows, added to what was there. -/
def accT (old : FVec F S1x512x64 .f32) (a : FVec F S512x512 .f32) (b : FVec F S512x64 .bf16) : FVec F S1x512x64 .f32 :=
  shapeCast S1x512x64
    (addf (shapeCast S512x64 old shapeCasts_S1x512x64_S512x64)
      (matmul dot_S512x512_S512x64_S512x64_0_0_1_1_n_n none (truncf .bf16 a bitsLt_bf16_f32) b (constant S512x64 .f32 0x00000000#32)))
    shapeCasts_S512x64_S1x512x64

/-- A tile's product over its key columns, added to what was there. -/
def accN (old : FVec F S512x64 .f32) (a : FVec F S512x512 .f32) (b : FVec F S512x64 .bf16) : FVec F S512x64 .f32 :=
  addf old
    (matmul dot_S512x512_S512x64_S512x64_1_0_0_1_n_n none (truncf .bf16 a bitsLt_bf16_f32) b (constant S512x64 .f32 0x00000000#32))

/-- A tile's row sums, added to what was there. -/
def rowAcc (old : FVec F S512x1 .f32) (x : FVec F S512x512 .f32) : FVec F S512x1 .f32 :=
  addf old (shapeCast S512x1 (multiReduction .add [1] S512 x 0x00000000#32 reduces_S512x512_S512 (.inl rfl) rfl) shapeCasts_S512_S512x1)

/-- Keys strictly before the query, in a tile on the diagonal. -/
def tMask : IVec S512x512 1 :=
  cmpi .slt (iota .tc S512x512 32 [1] iota_S512x512_d1_w32) (iota .tc S512x512 32 [0] iota_S512x512_d0_w32)

/-- A tile with zeros where the key is not before the query. -/
def tSel (x : FVec F S512x512 .f32) : FVec F S512x512 .f32 := select tMask x (tC 0x00000000#32)

/-- A head's block of a stack as a matrix. -/
def mat {φ : FTy} (x : FVec F S1x512x64 φ) : FVec F S512x64 φ := shapeCast S512x64 x shapeCasts_S1x512x64_S512x64

/-- The same for a column. -/
def col (x : FVec F S1x512x1 .f32) : FVec F S512x1 .f32 := shapeCast S512x1 x shapeCasts_S1x512x1_S512x1

/-- The cotangent of the output as the products take it. -/
def half (x : FVec F S1x512x64 .f32) : FVec F S512x64 .bf16 :=
  truncf .bf16 (shapeCast S512x64 x shapeCasts_S1x512x64_S512x64) bitsLt_bf16_f32

/-- The weights of a tile off the diagonal. -/
def wOff (q k : FVec F S512x64 .bf16) (left tot : FVec F S512x1 .f32) : FVec F S512x512 .f32 :=
  exp (tLogW k0_pay126 left tot (tZ q k) (tLf (tZ q k)))

/-- The gradient of the logarithms off the diagonal. -/
def pOff (q k v g : FVec F S512x64 .bf16) (left tot : FVec F S512x1 .f32) : FVec F S512x512 .f32 := tP (wOff q k left tot) g v

/-- The gradient of the scores off the diagonal. -/
def dOff (q k v g : FVec F S512x64 .bf16) (left cleft tot : FVec F S512x1 .f32) : FVec F S512x512 .f32 :=
  tDz k0_pay127 cleft (tZ q k) (pOff q k v g left tot)

/-- The weights of a tile on the diagonal. -/
def wDiag (q k : FVec F S512x64 .bf16) (left tot : FVec F S512x1 .f32) : FVec F S512x512 .f32 :=
  tSel (exp (tLogW k0_pay126 left tot (tZ q k) (tSel (tLf (tZ q k)))))

/-- The gradient of the logarithms on the diagonal. -/
def pDiag (q k v g : FVec F S512x64 .bf16) (left tot : FVec F S512x1 .f32) : FVec F S512x512 .f32 := tP (wDiag q k left tot) g v

/-- The gradient of the scores on the diagonal. -/
def dDiag (q k v g : FVec F S512x64 .bf16) (left cleft tot : FVec F S512x1 .f32) : FVec F S512x512 .f32 :=
  tSel (tDz k0_pay127 cleft (tZ q k) (pDiag q k v g left tot))

end Ops

/-! ## On real operands -/

/-- The matrix holds the real numbers `a`. -/
def Is2 {n m : ℕ} (A : (⟨2, ![n, m]⟩ : Shape).Idx → EReal) (a : ℕ → ℕ → ℝ) : Prop :=
  ∀ (r : Fin n) (c : Fin m), A (ix2 r c) = ((a r.val c.val : ℝ) : EReal)

/-- The one-head stack holds the real numbers `a`. -/
def Is3 {n m : ℕ} (A : (⟨3, ![1, n, m]⟩ : Shape).Idx → EReal) (a : ℕ → ℕ → ℝ) : Prop :=
  ∀ (r : Fin n) (c : Fin m), A (ix3 0 r c) = ((a r.val c.val : ℝ) : EReal)

theorem Is2.congr {n m : ℕ} {A : (⟨2, ![n, m]⟩ : Shape).Idx → EReal} {a b : ℕ → ℕ → ℝ} (h : Is2 A a)
    (hab : ∀ r c, r < n → c < m → a r c = b r c) : Is2 A b := fun r c => by rw [h r c, hab _ _ r.isLt c.isLt]

theorem Is3.congr {n m : ℕ} {A : (⟨3, ![1, n, m]⟩ : Shape).Idx → EReal} {a b : ℕ → ℕ → ℝ} (h : Is3 A a)
    (hab : ∀ r c, r < n → c < m → a r c = b r c) : Is3 A b := fun r c => by rw [h r c, hab _ _ r.isLt c.isLt]

theorem sum_fin_mul (n : ℕ) (f g : ℕ → ℝ) :
    ∑ k : Fin n, ((f k.val : ℝ) : EReal) * ((g k.val : ℝ) : EReal) = ((∑ k ∈ Finset.range n, f k * g k : ℝ) : EReal) := by
  rw [sum_mul_coe, Fin.sum_univ_eq_sum_range (fun k => f k * g k)]

theorem tZ_real {q k : FVec Ideal S512x64 .bf16} {a b : ℕ → ℕ → ℝ} (hq : Is2 q a) (hk : Is2 k b) :
    Is2 (tZ q k) (fun r c => ∑ d ∈ Finset.range 64, a r d * b c d) := fun r c => by
  refine (Ideal.matmul_transposedRhs_apply (M := 512) (K := 64) (N := 512) none q k _ r c).trans ?_
  rw [show constant (F := Ideal) S512x512 .f32 0x00000000#32 (ix2 r c) = 0 from Ideal.ofBits_zero_f32, zero_add, ← sum_fin_mul]
  exact Finset.sum_congr rfl fun d _ => by rw [hq r d, hk c d]

theorem matmulN_real {N : ℕ} {φ₁ φ₂ : FTy} {x : FVec Ideal ⟨2, ![512, 512]⟩ φ₁} {y : FVec Ideal ⟨2, ![512, N]⟩ φ₂} {a b : ℕ → ℕ → ℝ}
    (hx : Is2 x a) (hy : Is2 y b) :
    Is2 (FloatOps.matmul (DotDims.plain 512 512 N) none x y (constant ⟨2, ![512, N]⟩ .f32 0x00000000#32))
      (fun r c => ∑ k ∈ Finset.range 512, a r k * b k c) := fun r c => by
  rw [Ideal.matmul_plain_apply, show constant (F := Ideal) ⟨2, ![512, N]⟩ .f32 0x00000000#32 (ix2 r c) = 0 from Ideal.ofBits_zero_f32,
    zero_add, ← sum_fin_mul 512 (fun k => a r.val k) (fun k => b k c.val)]
  exact Finset.sum_congr rfl fun d _ => by rw [hx r d, hy d c]

theorem matmulT_real {φ₁ φ₂ : FTy} {x : FVec Ideal S512x512 φ₁} {y : FVec Ideal S512x64 φ₂} {a b : ℕ → ℕ → ℝ}
    (hx : Is2 x a) (hy : Is2 y b) :
    Is2 (FloatOps.matmul dot_S512x512_S512x64_S512x64_0_0_1_1_n_n none x y (constant S512x64 .f32 0x00000000#32))
      (fun r c => ∑ k ∈ Finset.range 512, a k r * b k c) := fun r c => by
  have hr : dot_S512x512_S512x64_S512x64_0_0_1_1_n_n.contr.rank = 1 := rfl
  have hs : dot_S512x512_S512x64_S512x64_0_0_1_1_n_n.contr.size ⟨0, by rw [hr]; exact Nat.one_pos⟩ = 512 := rfl
  rw [Ideal.matmul_apply, ← Equiv.sum_comp (contrEquiv1 _ 512 hr hs).symm,
    show constant (F := Ideal) S512x64 .f32 0x00000000#32 (ix2 r c) = 0 from Ideal.ofBits_zero_f32,
    zero_add, ← sum_fin_mul 512 (fun k => a k r.val) (fun k => b k c.val)]
  refine Finset.sum_congr rfl fun d _ => ?_
  have hk := contrEquiv1_symm_val _ 512 hr hs d
  have el : dot_S512x512_S512x64_S512x64_0_0_1_1_n_n.lhsIdx (ix2 r c) ((contrEquiv1 _ 512 hr hs).symm d) = ix2 d r := by
    funext a; apply Fin.ext
    match a with
    | ⟨0, _⟩ => exact hk
    | ⟨1, _⟩ => rfl
  have er : dot_S512x512_S512x64_S512x64_0_0_1_1_n_n.rhsIdx (ix2 r c) ((contrEquiv1 _ 512 hr hs).symm d) = ix2 d c := by
    funext a; apply Fin.ext
    match a with
    | ⟨0, _⟩ => exact hk
    | ⟨1, _⟩ => rfl
  rw [el, er, hx d r, hy d c]

theorem tE_real {z : FVec Ideal S512x512 .f32} {a : ℕ → ℕ → ℝ} (hz : Is2 z a) :
    Is2 (tE z) (fun r c => Real.exp (-|a r c|)) := fun r c => by
  show Ideal.exp (Ideal.ofBits .f32 0x00000000#32 - max (z (ix2 r c)) (-(z (ix2 r c)))) = _
  rw [Ideal.ofBits_zero_f32, hz r c, e_coe]

theorem tLf_real {z : FVec Ideal S512x512 .f32} {a : ℕ → ℕ → ℝ} (hz : Is2 z a) :
    Is2 (tLf z) (fun r c => lfail (a r c)) := fun r c => by
  show Ideal.ofBits .f32 0x00000000#32 - (max (z (ix2 r c)) (Ideal.ofBits .f32 0x00000000#32)
    + Ideal.log (Ideal.ofBits .f32 0x3F800000#32 + tE z (ix2 r c))) = _
  rw [Ideal.ofBits_zero_f32, Ideal.ofBits_one_f32, tE_real hz r c, hz r c, lf_coe]

theorem tSig_real {z : FVec Ideal S512x512 .f32} {a : ℕ → ℕ → ℝ} (hz : Is2 z a) :
    Is2 (tSig z) (fun r c => sigm (a r c)) := fun r c => by
  show Ideal.div (Scalar.select (Ideal.cmp .oge (z (ix2 r c)) (Ideal.ofBits .f32 0x00000000#32)) (Ideal.ofBits .f32 0x3F800000#32)
    (tE z (ix2 r c))) (Ideal.ofBits .f32 0x3F800000#32 + tE z (ix2 r c)) = _
  rw [Ideal.ofBits_zero_f32, Ideal.ofBits_one_f32, tE_real hz r c, hz r c, sigm_coe]

theorem tCum_real {tri : FVec Ideal S512x512 .bf16} {x : FVec Ideal S512x512 .f32} {a b : ℕ → ℕ → ℝ} (ht : Is2 tri b) (hx : Is2 x a) :
    Is2 (tCum tri x) (fun r c => ∑ k ∈ Finset.range 512, a r k * b k c) := fun r c => by
  have h2 : Is2 (n := 512) (m := 512) (fun j => x j - x j) (fun _ _ => 0) := fun r c => by
    show x (ix2 r c) - x (ix2 r c) = _
    rw [hx r c, ← EReal.coe_sub, sub_self]
  have e1 := matmulN_real (N := 512) (φ₁ := .bf16) (φ₂ := .bf16) hx ht r c
  have e2 := matmulN_real (N := 512) (φ₁ := .bf16) (φ₂ := .bf16) h2 ht r c
  refine (congrArg₂ (· + ·) e1 e2).trans ?_
  simp

theorem bcast_real {x : FVec Ideal S512x1 .f32} {a : ℕ → ℕ → ℝ} (hx : Is2 x a) :
    Is2 (broadcastTo S512x512 x broadcasts_S512x1_S512x512) (fun r _ => a r 0) := fun r c => by
  rw [broadcastTo_apply x _ (ix2 r c) (ix2 r 0) (fun d => by
    match d with
    | ⟨0, _⟩ => rfl
    | ⟨1, _⟩ => rfl), hx r 0]; rfl

theorem tLogW_real {tri : FVec Ideal S512x512 .bf16} {left tot : FVec Ideal S512x1 .f32} {z lf : FVec Ideal S512x512 .f32}
    {b l t a f : ℕ → ℕ → ℝ} (htri : Is2 tri b) (hl : Is2 left l) (ht : Is2 tot t) (hz : Is2 z a) (hf : Is2 lf f) :
    Is2 (tLogW tri left tot z lf) (fun r c => a r c + f r c + (t r 0 - (l r 0 + ∑ k ∈ Finset.range 512, f r k * b k c))) := fun r c => by
  show (z (ix2 r c) + lf (ix2 r c)) + (broadcastTo S512x512 tot broadcasts_S512x1_S512x512 (ix2 r c)
    - (broadcastTo S512x512 left broadcasts_S512x1_S512x512 (ix2 r c) + tCum tri lf (ix2 r c))) = _
  rw [hz r c, hf r c, bcast_real ht r c, bcast_real hl r c, tCum_real htri hf r c]
  norm_cast

theorem exp_real {x : FVec Ideal S512x512 .f32} {a : ℕ → ℕ → ℝ} (hx : Is2 x a) : Is2 (exp x) (fun r c => Real.exp (a r c)) := fun r c => by
  show Ideal.exp (x (ix2 r c)) = _
  rw [hx r c, Ideal.exp_coe]

theorem tP_real {w : FVec Ideal S512x512 .f32} {g v : FVec Ideal S512x64 .bf16} {a x y : ℕ → ℕ → ℝ} (hw : Is2 w a) (hg : Is2 g x) (hv : Is2 v y) :
    Is2 (tP w g v) (fun r c => a r c * ∑ d ∈ Finset.range 64, x r d * y c d) := fun r c => by
  show w (ix2 r c) * tZ g v (ix2 r c) = _
  rw [hw r c, tZ_real hg hv r c, ← EReal.coe_mul]

theorem tDz_real {tri : FVec Ideal S512x512 .bf16} {cl : FVec Ideal S512x1 .f32} {z p : FVec Ideal S512x512 .f32}
    {b l a f : ℕ → ℕ → ℝ} (htri : Is2 tri b) (hl : Is2 cl l) (hz : Is2 z a) (hp : Is2 p f) :
    Is2 (tDz tri cl z p) (fun r c => f r c * (1 - sigm (a r c)) - sigm (a r c) * (l r 0 + ∑ k ∈ Finset.range 512, f r k * b k c)) := fun r c => by
  show p (ix2 r c) * (Ideal.ofBits .f32 0x3F800000#32 - tSig z (ix2 r c)) - tSig z (ix2 r c) *
    (broadcastTo S512x512 cl broadcasts_S512x1_S512x512 (ix2 r c) + tCum tri p (ix2 r c)) = _
  rw [Ideal.ofBits_one_f32, hp r c, tSig_real hz r c, bcast_real hl r c, tCum_real htri hp r c]
  norm_cast

theorem mat_apply {φ : FTy} (x : FVec Ideal S1x512x64 φ) (r : Fin 512) (c : Fin 64) : mat x (ix2 r c) = x (ix3 0 r c) :=
  shapeCast_apply _ _ _ _ (by
    rw [Shape.rowMajor_val_succ, Shape.rowMajor_val_two, Shape.rowMajor_val_two]
    show 0 * _ + (r.val * 64 + c.val) = r.val * 64 + c.val
    omega)

theorem unmat_apply (x : FVec Ideal S512x64 .f32) (r : Fin 512) (c : Fin 64) :
    shapeCast S1x512x64 x shapeCasts_S512x64_S1x512x64 (ix3 0 r c) = x (ix2 r c) :=
  shapeCast_apply _ _ _ _ (by
    rw [Shape.rowMajor_val_two, Shape.rowMajor_val_succ, Shape.rowMajor_val_two]
    show r.val * 64 + c.val = 0 * _ + (r.val * 64 + c.val)
    omega)

theorem mat_real {φ : FTy} {x : FVec Ideal S1x512x64 φ} {a : ℕ → ℕ → ℝ} (hx : Is3 x a) : Is2 (mat x) a :=
  fun r c => (mat_apply x r c).trans (hx r c)

theorem half_real {x : FVec Ideal S1x512x64 .f32} {a : ℕ → ℕ → ℝ} (hx : Is3 x a) : Is2 (half x) a :=
  fun r c => (mat_apply (φ := .f32) x r c).trans (hx r c)

theorem col_real {x : FVec Ideal S1x512x1 .f32} {a : ℕ → ℕ → ℝ} (hx : Is3 x a) : Is2 (col x) a :=
  fun r c => (shapeCast_apply _ _ (ix2 r c) (ix3 0 r c) (by
    rw [Shape.rowMajor_val_succ, Shape.rowMajor_val_two, Shape.rowMajor_val_two]
    show 0 * _ + (r.val * 1 + c.val) = r.val * 1 + c.val
    omega)).trans (hx r c)

theorem accT_real {old : FVec Ideal S1x512x64 .f32} {x : FVec Ideal S512x512 .f32} {y : FVec Ideal S512x64 .bf16} {o a b : ℕ → ℕ → ℝ}
    (ho : Is3 old o) (hx : Is2 x a) (hy : Is2 y b) :
    Is3 (accT old x y) (fun r c => o r c + ∑ k ∈ Finset.range 512, a k r * b k c) := fun r c => by
  refine (unmat_apply _ r c).trans ?_
  rw [EReal.coe_add]
  exact congrArg₂ (· + ·) ((mat_apply (φ := .f32) old r c).trans (ho r c)) (matmulT_real (φ₁ := .bf16) (φ₂ := .bf16) hx hy r c)

theorem accN_real {old : FVec Ideal S512x64 .f32} {x : FVec Ideal S512x512 .f32} {y : FVec Ideal S512x64 .bf16} {o a b : ℕ → ℕ → ℝ}
    (ho : Is2 old o) (hx : Is2 x a) (hy : Is2 y b) :
    Is2 (accN old x y) (fun r c => o r c + ∑ k ∈ Finset.range 512, a r k * b k c) := fun r c => by
  rw [EReal.coe_add]
  exact congrArg₂ (· + ·) (ho r c) (matmulN_real (N := 64) (φ₁ := .bf16) (φ₂ := .bf16) hx hy r c)

theorem rowAcc_real {old : FVec Ideal S512x1 .f32} {x : FVec Ideal S512x512 .f32} {o a : ℕ → ℕ → ℝ} (ho : Is2 old o) (hx : Is2 x a) :
    Is2 (rowAcc old x) (fun r c => o r c + ∑ k ∈ Finset.range 512, a r k) := fun r c => by
  rw [EReal.coe_add]
  refine congrArg₂ (· + ·) (ho r c) ((shapeCast_apply _ _ (ix2 r c) (ix1 r) (by
    rw [Shape.rowMajor_val_one, Shape.rowMajor_val_two]
    show r.val = r.val * 1 + c.val
    omega)).trans ?_)
  refine (Ideal.multiReduction_add_single x _ _ _ _ _).trans ?_
  rw [← Fin.sum_univ_eq_sum_range (fun k => a r.val k), ← coe_sum]
  refine Finset.sum_congr rfl fun k _ => ?_
  refine (congrArg x ?_).trans (hx r k)
  funext d; apply Fin.ext
  match d with
  | ⟨0, _⟩ => rfl
  | ⟨1, _⟩ => rfl

theorem upto_real : Is2 (k0_pay126 (F := Ideal)) (fun r c => if r ≤ c then 1 else 0) := fun r c => by
  show (((((IntOp.cmpi .sle (iota .tc S512x512 32 [0] iota_S512x512_d0_w32 (ix2 r c))
    (iota .tc S512x512 32 [1] iota_S512x512_d1_w32 (ix2 r c))).setWidth 32).toInt : ℝ)) : EReal) = _
  rw [iota_single_apply, iota_single_apply]
  have hr := r.isLt
  have hc := c.isLt
  erw [WordCmp.cmpi_sle_ofNat (show r.val < 2 ^ 31 by omega) (show c.val < 2 ^ 31 by omega)]
  by_cases h : r.val ≤ c.val
  · simp [h]
  · simp [h]

theorem before_real : Is2 (k0_pay127 (F := Ideal)) (fun r c => if r < c then 1 else 0) := fun r c => by
  show (((((IntOp.cmpi .slt (iota .tc S512x512 32 [0] iota_S512x512_d0_w32 (ix2 r c))
    (iota .tc S512x512 32 [1] iota_S512x512_d1_w32 (ix2 r c))).setWidth 32).toInt : ℝ)) : EReal) = _
  rw [iota_single_apply, iota_single_apply]
  have hr := r.isLt
  have hc := c.isLt
  erw [WordCmp.cmpi_slt_ofNat (show r.val < 2 ^ 31 by omega) (show c.val < 2 ^ 31 by omega)]
  by_cases h : r.val < c.val
  · simp [h]
  · simp [h]

theorem tSel_real {x : FVec Ideal S512x512 .f32} {a : ℕ → ℕ → ℝ} (hx : Is2 x a) :
    Is2 (tSel x) (fun r c => if c < r then a r c else 0) := fun r c => by
  show Scalar.select (IntOp.cmpi .slt (iota .tc S512x512 32 [1] iota_S512x512_d1_w32 (ix2 r c))
    (iota .tc S512x512 32 [0] iota_S512x512_d0_w32 (ix2 r c))) (x (ix2 r c)) (Ideal.ofBits .f32 0x00000000#32) = _
  rw [iota_single_apply, iota_single_apply, Ideal.ofBits_zero_f32]
  have hr := r.isLt
  have hc := c.isLt
  erw [WordCmp.cmpi_slt_ofNat (show c.val < 2 ^ 31 by omega) (show r.val < 2 ^ 31 by omega)]
  by_cases h : c.val < r.val
  · simp only [h, decide_true, BitVec.ofBool_true, if_true]; exact hx r c
  · simp only [h, decide_false, BitVec.ofBool_false, if_false]; rfl

end Cert.Sb

end
-- ==== Proof.Trip.lean ====
module

public import proofs.«01_k».proof.Proof.Gen.KernelIdeal.Frame
public import proofs.«01_k».proof.Proof.Tile

/-!
# What one trip of the loop stores, in the tile's own words

The loop over the key tiles before the diagonal works on four heads one after the other. For every head it adds a tile's
product to the rows of the two key gradients and carries three values on. Here the stored pieces and the carried values are
written with the tile functions of the module before, at every interpretation of the floats.
-/

@[expose] public section

set_option maxRecDepth 16384

noncomputable section

namespace Cert.Sb

open Idealize.ShloMosaic Idealize.ShloMosaic.TcCoe Idealize.ShloMosaic.ValueIdx Cert.KernelIdeal Cert.KernelIdeal.Gen

variable {F : FTy → Type} [FloatOps F]

/-- The carried value of the loop: for every head the sum of the logarithms, the sum of their gradients, the query gradient. -/
abbrev Carry (F : FTy → Type) : Type :=
  FVec F S512x1 .f32 × FVec F S512x1 .f32 × FVec F S512x64 .f32 × FVec F S512x1 .f32 × FVec F S512x1 .f32 × FVec F S512x64 .f32 ×
  FVec F S512x1 .f32 × FVec F S512x1 .f32 × FVec F S512x64 .f32 × FVec F S512x1 .f32 × FVec F S512x1 .f32 × FVec F S512x64 .f32

/-- The pieces of one array, last first. -/
abbrev Pieces (F : FTy → Type) : Type := List (View.Piece (Elt F) S4x2048x64 .f32)

section Reads

variable {e : EltTy}

/-- A block of 512 rows of one head of a query-tile array. -/
abbrev rdQ (m : Memref sig .tc .vmem S4x512x64 e) (X : m.view.ty.Contents (Elt F)) (o : Fin 3 → ℕ)
    (h : ∀ a, o a + S1x512x64.size a ≤ S4x512x64.size a) : Vec F S1x512x64 e :=
  m.view.readAt (Elt F) (Rect.unit (s := S4x512x64) o S1x512x64.size h).toLoadRect X

/-- A block of 512 rows of one head of a whole array. -/
abbrev rdK (m : Memref sig .tc .vmem S4x2048x64 e) (X : m.view.ty.Contents (Elt F)) (o : Fin 3 → ℕ)
    (h : ∀ a, o a + S1x512x64.size a ≤ S4x2048x64.size a) : Vec F S1x512x64 e :=
  m.view.readAt (Elt F) (Rect.unit (s := S4x2048x64) o S1x512x64.size h).toLoadRect X

/-- The column of one head. -/
abbrev rdT (m : Memref sig .tc .vmem S4x512x1 e) (X : m.view.ty.Contents (Elt F)) (o : Fin 3 → ℕ)
    (h : ∀ a, o a + S1x512x1.size a ≤ S4x512x1.size a) : Vec F S1x512x1 e :=
  m.view.readAt (Elt F) (Rect.unit (s := S4x512x1) o S1x512x1.size h).toLoadRect X

end Reads

/-- One head's store: its product, added to the rows `o` of an array that holds `f`. -/
abbrev push (m : Memref sig .tc .vmem S4x2048x64 .f32) (f : m.view.ty.Contents (Elt F)) (o : Fin 3 → ℕ)
    (h : ∀ a, o a + S1x512x64.size a ≤ S4x2048x64.size a) (a : FVec F S512x512 .f32) (b : FVec F S512x64 .bf16) :
    View.Piece (Elt F) S4x2048x64 .f32 :=
  ⟨Rect.unit (s := S4x2048x64) o S1x512x64.size h, accT (rdK m f o h) a b⟩

section Trip

variable (𝒱 : Variants) (c : Dev nD) (bd : Option 𝒱.V) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x1 .f32) (harg4 : arg4.IsWhole)
  (arg5 : Memref sig .tc .vmem S4x512x64 .f32) (harg5 : arg5.IsWhole)
  (arg6 : Memref sig .tc .vmem S4x512x64 .f32) (harg6 : arg6.IsWhole)
  (arg7 : Memref sig .tc .vmem S4x2048x64 .f32) (harg7 : arg7.IsWhole)
  (arg8 : Memref sig .tc .vmem S4x2048x64 .f32) (harg8 : arg8.IsWhole)
  (X1 : arg1.view.ty.Contents (Elt F)) (X2 : arg2.view.ty.Contents (Elt F)) (X3 : arg3.view.ty.Contents (Elt F)) (X4 : arg4.view.ty.Contents (Elt F)) (X5 : arg5.view.ty.Contents (Elt F))
  (k : Fin (k0_t1_loop i).trips) (acc : Carry F) (f7 : arg7.view.ty.Contents (Elt F)) (f8 : arg8.view.ty.Contents (Elt F))

/-- The pieces of the key gradient. -/
theorem trip7 : (trip_k0_t1 𝒱 c bd i arg1 harg1 arg2 harg2 arg3 harg3 arg4 harg4 arg5 harg5 arg6 harg6 arg7 harg7 arg8 harg8 X1 X2 X3 X4 X5 k).2.1 acc f7 f8 =
    [push arg7 f7 (k0_off4 i k) (k0_off4_inb i k) (dOff (mat (rdQ arg1 X1 ![3, 0, 0] inb_S4x512x64_S1x512x64_3_0_0)) (mat (rdK arg2 X2 (k0_off4 i k) (k0_off4_inb i k))) (mat (rdK arg3 X3 (k0_off4 i k) (k0_off4_inb i k))) (half (rdQ arg5 X5 ![3, 0, 0] inb_S4x512x64_S1x512x64_3_0_0)) acc.2.2.2.2.2.2.2.2.2.1 acc.2.2.2.2.2.2.2.2.2.2.1 (col (rdT arg4 X4 ![3, 0, 0] inb_S4x512x1_S1x512x1_3_0_0))) (mat (rdQ arg1 X1 ![3, 0, 0] inb_S4x512x64_S1x512x64_3_0_0)),
      push arg7 f7 (k0_off3 i k) (k0_off3_inb i k) (dOff (mat (rdQ arg1 X1 ![2, 0, 0] inb_S4x512x64_S1x512x64_2_0_0)) (mat (rdK arg2 X2 (k0_off3 i k) (k0_off3_inb i k))) (mat (rdK arg3 X3 (k0_off3 i k) (k0_off3_inb i k))) (half (rdQ arg5 X5 ![2, 0, 0] inb_S4x512x64_S1x512x64_2_0_0)) acc.2.2.2.2.2.2.1 acc.2.2.2.2.2.2.2.1 (col (rdT arg4 X4 ![2, 0, 0] inb_S4x512x1_S1x512x1_2_0_0))) (mat (rdQ arg1 X1 ![2, 0, 0] inb_S4x512x64_S1x512x64_2_0_0)),
      push arg7 f7 (k0_off2 i k) (k0_off2_inb i k) (dOff (mat (rdQ arg1 X1 ![1, 0, 0] inb_S4x512x64_S1x512x64_1_0_0)) (mat (rdK arg2 X2 (k0_off2 i k) (k0_off2_inb i k))) (mat (rdK arg3 X3 (k0_off2 i k) (k0_off2_inb i k))) (half (rdQ arg5 X5 ![1, 0, 0] inb_S4x512x64_S1x512x64_1_0_0)) acc.2.2.2.1 acc.2.2.2.2.1 (col (rdT arg4 X4 ![1, 0, 0] inb_S4x512x1_S1x512x1_1_0_0))) (mat (rdQ arg1 X1 ![1, 0, 0] inb_S4x512x64_S1x512x64_1_0_0)),
      push arg7 f7 (k0_off1 i k) (k0_off1_inb i k) (dOff (mat (rdQ arg1 X1 ![0, 0, 0] inb_S4x512x64_S1x512x64_0_0_0)) (mat (rdK arg2 X2 (k0_off1 i k) (k0_off1_inb i k))) (mat (rdK arg3 X3 (k0_off1 i k) (k0_off1_inb i k))) (half (rdQ arg5 X5 ![0, 0, 0] inb_S4x512x64_S1x512x64_0_0_0)) acc.1 acc.2.1 (col (rdT arg4 X4 ![0, 0, 0] inb_S4x512x1_S1x512x1_0_0_0))) (mat (rdQ arg1 X1 ![0, 0, 0] inb_S4x512x64_S1x512x64_0_0_0))] := by
  unfold trip_k0_t1; rfl

/-- The pieces of the value gradient. -/
theorem trip8 : (trip_k0_t1 𝒱 c bd i arg1 harg1 arg2 harg2 arg3 harg3 arg4 harg4 arg5 harg5 arg6 harg6 arg7 harg7 arg8 harg8 X1 X2 X3 X4 X5 k).2.2.1 acc f7 f8 =
    [push arg8 f8 (k0_off4 i k) (k0_off4_inb i k) (wOff (mat (rdQ arg1 X1 ![3, 0, 0] inb_S4x512x64_S1x512x64_3_0_0)) (mat (rdK arg2 X2 (k0_off4 i k) (k0_off4_inb i k))) acc.2.2.2.2.2.2.2.2.2.1 (col (rdT arg4 X4 ![3, 0, 0] inb_S4x512x1_S1x512x1_3_0_0))) (half (rdQ arg5 X5 ![3, 0, 0] inb_S4x512x64_S1x512x64_3_0_0)),
      push arg8 f8 (k0_off3 i k) (k0_off3_inb i k) (wOff (mat (rdQ arg1 X1 ![2, 0, 0] inb_S4x512x64_S1x512x64_2_0_0)) (mat (rdK arg2 X2 (k0_off3 i k) (k0_off3_inb i k))) acc.2.2.2.2.2.2.1 (col (rdT arg4 X4 ![2, 0, 0] inb_S4x512x1_S1x512x1_2_0_0))) (half (rdQ arg5 X5 ![2, 0, 0] inb_S4x512x64_S1x512x64_2_0_0)),
      push arg8 f8 (k0_off2 i k) (k0_off2_inb i k) (wOff (mat (rdQ arg1 X1 ![1, 0, 0] inb_S4x512x64_S1x512x64_1_0_0)) (mat (rdK arg2 X2 (k0_off2 i k) (k0_off2_inb i k))) acc.2.2.2.1 (col (rdT arg4 X4 ![1, 0, 0] inb_S4x512x1_S1x512x1_1_0_0))) (half (rdQ arg5 X5 ![1, 0, 0] inb_S4x512x64_S1x512x64_1_0_0)),
      push arg8 f8 (k0_off1 i k) (k0_off1_inb i k) (wOff (mat (rdQ arg1 X1 ![0, 0, 0] inb_S4x512x64_S1x512x64_0_0_0)) (mat (rdK arg2 X2 (k0_off1 i k) (k0_off1_inb i k))) acc.1 (col (rdT arg4 X4 ![0, 0, 0] inb_S4x512x1_S1x512x1_0_0_0))) (half (rdQ arg5 X5 ![0, 0, 0] inb_S4x512x64_S1x512x64_0_0_0))] := by
  unfold trip_k0_t1; rfl

/-- The carried values. -/
theorem tripR : (trip_k0_t1 𝒱 c bd i arg1 harg1 arg2 harg2 arg3 harg3 arg4 harg4 arg5 harg5 arg6 harg6 arg7 harg7 arg8 harg8 X1 X2 X3 X4 X5 k).1 acc f7 f8 =
    (rowAcc acc.1 (tLf (tZ (mat (rdQ arg1 X1 ![0, 0, 0] inb_S4x512x64_S1x512x64_0_0_0)) (mat (rdK arg2 X2 (k0_off1 i k) (k0_off1_inb i k))))),
      rowAcc acc.2.1 (pOff (mat (rdQ arg1 X1 ![0, 0, 0] inb_S4x512x64_S1x512x64_0_0_0)) (mat (rdK arg2 X2 (k0_off1 i k) (k0_off1_inb i k))) (mat (rdK arg3 X3 (k0_off1 i k) (k0_off1_inb i k))) (half (rdQ arg5 X5 ![0, 0, 0] inb_S4x512x64_S1x512x64_0_0_0)) acc.1 (col (rdT arg4 X4 ![0, 0, 0] inb_S4x512x1_S1x512x1_0_0_0))),
      accN acc.2.2.1 (dOff (mat (rdQ arg1 X1 ![0, 0, 0] inb_S4x512x64_S1x512x64_0_0_0)) (mat (rdK arg2 X2 (k0_off1 i k) (k0_off1_inb i k))) (mat (rdK arg3 X3 (k0_off1 i k) (k0_off1_inb i k))) (half (rdQ arg5 X5 ![0, 0, 0] inb_S4x512x64_S1x512x64_0_0_0)) acc.1 acc.2.1 (col (rdT arg4 X4 ![0, 0, 0] inb_S4x512x1_S1x512x1_0_0_0))) (mat (rdK arg2 X2 (k0_off1 i k) (k0_off1_inb i k))),
      rowAcc acc.2.2.2.1 (tLf (tZ (mat (rdQ arg1 X1 ![1, 0, 0] inb_S4x512x64_S1x512x64_1_0_0)) (mat (rdK arg2 X2 (k0_off2 i k) (k0_off2_inb i k))))),
      rowAcc acc.2.2.2.2.1 (pOff (mat (rdQ arg1 X1 ![1, 0, 0] inb_S4x512x64_S1x512x64_1_0_0)) (mat (rdK arg2 X2 (k0_off2 i k) (k0_off2_inb i k))) (mat (rdK arg3 X3 (k0_off2 i k) (k0_off2_inb i k))) (half (rdQ arg5 X5 ![1, 0, 0] inb_S4x512x64_S1x512x64_1_0_0)) acc.2.2.2.1 (col (rdT arg4 X4 ![1, 0, 0] inb_S4x512x1_S1x512x1_1_0_0))),
      accN acc.2.2.2.2.2.1 (dOff (mat (rdQ arg1 X1 ![1, 0, 0] inb_S4x512x64_S1x512x64_1_0_0)) (mat (rdK arg2 X2 (k0_off2 i k) (k0_off2_inb i k))) (mat (rdK arg3 X3 (k0_off2 i k) (k0_off2_inb i k))) (half (rdQ arg5 X5 ![1, 0, 0] inb_S4x512x64_S1x512x64_1_0_0)) acc.2.2.2.1 acc.2.2.2.2.1 (col (rdT arg4 X4 ![1, 0, 0] inb_S4x512x1_S1x512x1_1_0_0))) (mat (rdK arg2 X2 (k0_off2 i k) (k0_off2_inb i k))),
      rowAcc acc.2.2.2.2.2.2.1 (tLf (tZ (mat (rdQ arg1 X1 ![2, 0, 0] inb_S4x512x64_S1x512x64_2_0_0)) (mat (rdK arg2 X2 (k0_off3 i k) (k0_off3_inb i k))))),
      rowAcc acc.2.2.2.2.2.2.2.1 (pOff (mat (rdQ arg1 X1 ![2, 0, 0] inb_S4x512x64_S1x512x64_2_0_0)) (mat (rdK arg2 X2 (k0_off3 i k) (k0_off3_inb i k))) (mat (rdK arg3 X3 (k0_off3 i k) (k0_off3_inb i k))) (half (rdQ arg5 X5 ![2, 0, 0] inb_S4x512x64_S1x512x64_2_0_0)) acc.2.2.2.2.2.2.1 (col (rdT arg4 X4 ![2, 0, 0] inb_S4x512x1_S1x512x1_2_0_0))),
      accN acc.2.2.2.2.2.2.2.2.1 (dOff (mat (rdQ arg1 X1 ![2, 0, 0] inb_S4x512x64_S1x512x64_2_0_0)) (mat (rdK arg2 X2 (k0_off3 i k) (k0_off3_inb i k))) (mat (rdK arg3 X3 (k0_off3 i k) (k0_off3_inb i k))) (half (rdQ arg5 X5 ![2, 0, 0] inb_S4x512x64_S1x512x64_2_0_0)) acc.2.2.2.2.2.2.1 acc.2.2.2.2.2.2.2.1 (col (rdT arg4 X4 ![2, 0, 0] inb_S4x512x1_S1x512x1_2_0_0))) (mat (rdK arg2 X2 (k0_off3 i k) (k0_off3_inb i k))),
      rowAcc acc.2.2.2.2.2.2.2.2.2.1 (tLf (tZ (mat (rdQ arg1 X1 ![3, 0, 0] inb_S4x512x64_S1x512x64_3_0_0)) (mat (rdK arg2 X2 (k0_off4 i k) (k0_off4_inb i k))))),
      rowAcc acc.2.2.2.2.2.2.2.2.2.2.1 (pOff (mat (rdQ arg1 X1 ![3, 0, 0] inb_S4x512x64_S1x512x64_3_0_0)) (mat (rdK arg2 X2 (k0_off4 i k) (k0_off4_inb i k))) (mat (rdK arg3 X3 (k0_off4 i k) (k0_off4_inb i k))) (half (rdQ arg5 X5 ![3, 0, 0] inb_S4x512x64_S1x512x64_3_0_0)) acc.2.2.2.2.2.2.2.2.2.1 (col (rdT arg4 X4 ![3, 0, 0] inb_S4x512x1_S1x512x1_3_0_0))),
      accN acc.2.2.2.2.2.2.2.2.2.2.2 (dOff (mat (rdQ arg1 X1 ![3, 0, 0] inb_S4x512x64_S1x512x64_3_0_0)) (mat (rdK arg2 X2 (k0_off4 i k) (k0_off4_inb i k))) (mat (rdK arg3 X3 (k0_off4 i k) (k0_off4_inb i k))) (half (rdQ arg5 X5 ![3, 0, 0] inb_S4x512x64_S1x512x64_3_0_0)) acc.2.2.2.2.2.2.2.2.2.1 acc.2.2.2.2.2.2.2.2.2.2.1 (col (rdT arg4 X4 ![3, 0, 0] inb_S4x512x1_S1x512x1_3_0_0))) (mat (rdK arg2 X2 (k0_off4 i k) (k0_off4_inb i k)))) := by
  unfold trip_k0_t1; rfl

end Trip

end Cert.Sb

end
-- ==== Proof.Run.lean ====
module

public import proofs.«01_k».proof.Proof.Trip

/-!
# What the body leaves at one grid point, in the tile's own words

After the loop the body works on the tile on the diagonal, again head by head, and stores the query gradients. The second
loop, over what is left when the first one's steps are unrolled, makes no trip. The first grid point writes zeros before.
-/

@[expose] public section

set_option maxRecDepth 16384

noncomputable section

namespace Cert.Sb

open Idealize.ShloMosaic Idealize.ShloMosaic.TcCoe Idealize.ShloMosaic.ValueIdx Cert.KernelIdeal Cert.KernelIdeal.Gen

variable {F : FTy → Type} [FloatOps F]

/-- The carried values the loop begins with. -/
abbrev init0 : Carry F :=
  (k0_pay128, k0_pay128, k0_pay129, k0_pay128, k0_pay128, k0_pay130, k0_pay128, k0_pay128, k0_pay131, k0_pay128, k0_pay128, k0_pay132)

/-- A query gradient as stored: scaled by one over the root of the head's width. -/
def outDq (x : FVec F S512x64 .f32) : FVec F S1x512x64 .f32 :=
  shapeCast S1x512x64 (mulf x (broadcast S512x64 (Scalar.ofBits .f32 0x3E000000#32))) shapeCasts_S512x64_S1x512x64

section Point

variable (c : Dev nD) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x1 .f32) (harg4 : arg4.IsWhole)
  (arg5 : Memref sig .tc .vmem S4x512x64 .f32) (harg5 : arg5.IsWhole)
  (arg6 : Memref sig .tc .vmem S4x512x64 .f32) (harg6 : arg6.IsWhole)
  (arg7 : Memref sig .tc .vmem S4x2048x64 .f32) (harg7 : arg7.IsWhole)
  (arg8 : Memref sig .tc .vmem S4x2048x64 .f32) (harg8 : arg8.IsWhole)

  (X1 : arg1.view.ty.Contents (Elt F)) (X2 : arg2.view.ty.Contents (Elt F)) (X3 : arg3.view.ty.Contents (Elt F)) (X4 : arg4.view.ty.Contents (Elt F)) (X5 : arg5.view.ty.Contents (Elt F))

/-- The first loop's state after all its trips, from the contents `G7`, `G8` of the two key gradients. -/
abbrev loop1 (G7 : arg7.view.ty.Contents (Elt F)) (G8 : arg8.view.ty.Contents (Elt F)) : Carry F × Pieces F × Pieces F :=
  st_k0_t1 Variants.none c none i arg1 harg1 arg2 harg2 arg3 harg3 arg4 harg4 arg5 harg5 arg6 harg6 arg7 harg7 arg8 harg8 X1 X2 X3 X4 X5 G7 G8 init0
    (Scf.trips (k0_t1_loop i).lb (k0_t1_loop i).ub (k0_t1_loop i).st)

/-- The second loop's state after all its trips. -/
abbrev loop2 (v : BitVec 32) (G7 : arg7.view.ty.Contents (Elt F)) (G8 : arg8.view.ty.Contents (Elt F)) (acc : Carry F) :
    Carry F × Pieces F × Pieces F :=
  st_k0_t2 Variants.none c none i arg1 harg1 arg2 harg2 arg3 harg3 arg4 harg4 arg5 harg5 arg6 harg6 arg7 harg7 arg8 harg8 v X1 X2 X3 X4 X5
    G7 G8 acc
    (Scf.trips (k0_t2_loop i).lb (k0_t2_loop i).ub (k0_t2_loop i).st)

/-- The pieces of the key gradient after the diagonal: one more for every head, in front of those before. -/
def diag7 (f : arg7.view.ty.Contents (Elt F)) (acc : Carry F) (L : Pieces F) : Pieces F :=
  let L1 := push arg7 (arg7.view.writes (Elt F) f L) (k0_off9 i) (k0_off9_inb i)
    (dDiag (mat (rdQ arg1 X1 ![0, 0, 0] inb_S4x512x64_S1x512x64_0_0_0)) (mat (rdK arg2 X2 (k0_off9 i) (k0_off9_inb i))) (mat (rdK arg3 X3 (k0_off9 i) (k0_off9_inb i))) (half (rdQ arg5 X5 ![0, 0, 0] inb_S4x512x64_S1x512x64_0_0_0)) acc.1 acc.2.1 (col (rdT arg4 X4 ![0, 0, 0] inb_S4x512x1_S1x512x1_0_0_0))) (mat (rdQ arg1 X1 ![0, 0, 0] inb_S4x512x64_S1x512x64_0_0_0)) :: L
  let L2 := push arg7 (arg7.view.writes (Elt F) f L1) (k0_off10 i) (k0_off10_inb i)
    (dDiag (mat (rdQ arg1 X1 ![1, 0, 0] inb_S4x512x64_S1x512x64_1_0_0)) (mat (rdK arg2 X2 (k0_off10 i) (k0_off10_inb i))) (mat (rdK arg3 X3 (k0_off10 i) (k0_off10_inb i))) (half (rdQ arg5 X5 ![1, 0, 0] inb_S4x512x64_S1x512x64_1_0_0)) acc.2.2.2.1 acc.2.2.2.2.1 (col (rdT arg4 X4 ![1, 0, 0] inb_S4x512x1_S1x512x1_1_0_0))) (mat (rdQ arg1 X1 ![1, 0, 0] inb_S4x512x64_S1x512x64_1_0_0)) :: L1
  let L3 := push arg7 (arg7.view.writes (Elt F) f L2) (k0_off11 i) (k0_off11_inb i)
    (dDiag (mat (rdQ arg1 X1 ![2, 0, 0] inb_S4x512x64_S1x512x64_2_0_0)) (mat (rdK arg2 X2 (k0_off11 i) (k0_off11_inb i))) (mat (rdK arg3 X3 (k0_off11 i) (k0_off11_inb i))) (half (rdQ arg5 X5 ![2, 0, 0] inb_S4x512x64_S1x512x64_2_0_0)) acc.2.2.2.2.2.2.1 acc.2.2.2.2.2.2.2.1 (col (rdT arg4 X4 ![2, 0, 0] inb_S4x512x1_S1x512x1_2_0_0))) (mat (rdQ arg1 X1 ![2, 0, 0] inb_S4x512x64_S1x512x64_2_0_0)) :: L2
  let L4 := push arg7 (arg7.view.writes (Elt F) f L3) (k0_off12 i) (k0_off12_inb i)
    (dDiag (mat (rdQ arg1 X1 ![3, 0, 0] inb_S4x512x64_S1x512x64_3_0_0)) (mat (rdK arg2 X2 (k0_off12 i) (k0_off12_inb i))) (mat (rdK arg3 X3 (k0_off12 i) (k0_off12_inb i))) (half (rdQ arg5 X5 ![3, 0, 0] inb_S4x512x64_S1x512x64_3_0_0)) acc.2.2.2.2.2.2.2.2.2.1 acc.2.2.2.2.2.2.2.2.2.2.1 (col (rdT arg4 X4 ![3, 0, 0] inb_S4x512x1_S1x512x1_3_0_0))) (mat (rdQ arg1 X1 ![3, 0, 0] inb_S4x512x64_S1x512x64_3_0_0)) :: L3
  L4

/-- The pieces of the value gradient after the diagonal: one more for every head, in front of those before. -/
def diag8 (f : arg8.view.ty.Contents (Elt F)) (acc : Carry F) (L : Pieces F) : Pieces F :=
  let L1 := push arg8 (arg8.view.writes (Elt F) f L) (k0_off9 i) (k0_off9_inb i)
    (wDiag (mat (rdQ arg1 X1 ![0, 0, 0] inb_S4x512x64_S1x512x64_0_0_0)) (mat (rdK arg2 X2 (k0_off9 i) (k0_off9_inb i))) acc.1 (col (rdT arg4 X4 ![0, 0, 0] inb_S4x512x1_S1x512x1_0_0_0))) (half (rdQ arg5 X5 ![0, 0, 0] inb_S4x512x64_S1x512x64_0_0_0)) :: L
  let L2 := push arg8 (arg8.view.writes (Elt F) f L1) (k0_off10 i) (k0_off10_inb i)
    (wDiag (mat (rdQ arg1 X1 ![1, 0, 0] inb_S4x512x64_S1x512x64_1_0_0)) (mat (rdK arg2 X2 (k0_off10 i) (k0_off10_inb i))) acc.2.2.2.1 (col (rdT arg4 X4 ![1, 0, 0] inb_S4x512x1_S1x512x1_1_0_0))) (half (rdQ arg5 X5 ![1, 0, 0] inb_S4x512x64_S1x512x64_1_0_0)) :: L1
  let L3 := push arg8 (arg8.view.writes (Elt F) f L2) (k0_off11 i) (k0_off11_inb i)
    (wDiag (mat (rdQ arg1 X1 ![2, 0, 0] inb_S4x512x64_S1x512x64_2_0_0)) (mat (rdK arg2 X2 (k0_off11 i) (k0_off11_inb i))) acc.2.2.2.2.2.2.1 (col (rdT arg4 X4 ![2, 0, 0] inb_S4x512x1_S1x512x1_2_0_0))) (half (rdQ arg5 X5 ![2, 0, 0] inb_S4x512x64_S1x512x64_2_0_0)) :: L2
  let L4 := push arg8 (arg8.view.writes (Elt F) f L3) (k0_off12 i) (k0_off12_inb i)
    (wDiag (mat (rdQ arg1 X1 ![3, 0, 0] inb_S4x512x64_S1x512x64_3_0_0)) (mat (rdK arg2 X2 (k0_off12 i) (k0_off12_inb i))) acc.2.2.2.2.2.2.2.2.2.1 (col (rdT arg4 X4 ![3, 0, 0] inb_S4x512x1_S1x512x1_3_0_0))) (half (rdQ arg5 X5 ![3, 0, 0] inb_S4x512x64_S1x512x64_3_0_0)) :: L3
  L4

/-- The pieces of the query gradient. -/
def diag6 (acc : Carry F) : List (View.Piece (Elt F) S4x512x64 .f32) :=
  [⟨Rect.unit (s := S4x512x64) ![3, 0, 0] S1x512x64.size inb_S4x512x64_S1x512x64_3_0_0,
     outDq (accN acc.2.2.2.2.2.2.2.2.2.2.2 (dDiag (mat (rdQ arg1 X1 ![3, 0, 0] inb_S4x512x64_S1x512x64_3_0_0)) (mat (rdK arg2 X2 (k0_off12 i) (k0_off12_inb i))) (mat (rdK arg3 X3 (k0_off12 i) (k0_off12_inb i))) (half (rdQ arg5 X5 ![3, 0, 0] inb_S4x512x64_S1x512x64_3_0_0)) acc.2.2.2.2.2.2.2.2.2.1 acc.2.2.2.2.2.2.2.2.2.2.1 (col (rdT arg4 X4 ![3, 0, 0] inb_S4x512x1_S1x512x1_3_0_0))) (mat (rdK arg2 X2 (k0_off12 i) (k0_off12_inb i))))⟩,
   ⟨Rect.unit (s := S4x512x64) ![2, 0, 0] S1x512x64.size inb_S4x512x64_S1x512x64_2_0_0,
     outDq (accN acc.2.2.2.2.2.2.2.2.1 (dDiag (mat (rdQ arg1 X1 ![2, 0, 0] inb_S4x512x64_S1x512x64_2_0_0)) (mat (rdK arg2 X2 (k0_off11 i) (k0_off11_inb i))) (mat (rdK arg3 X3 (k0_off11 i) (k0_off11_inb i))) (half (rdQ arg5 X5 ![2, 0, 0] inb_S4x512x64_S1x512x64_2_0_0)) acc.2.2.2.2.2.2.1 acc.2.2.2.2.2.2.2.1 (col (rdT arg4 X4 ![2, 0, 0] inb_S4x512x1_S1x512x1_2_0_0))) (mat (rdK arg2 X2 (k0_off11 i) (k0_off11_inb i))))⟩,
   ⟨Rect.unit (s := S4x512x64) ![1, 0, 0] S1x512x64.size inb_S4x512x64_S1x512x64_1_0_0,
     outDq (accN acc.2.2.2.2.2.1 (dDiag (mat (rdQ arg1 X1 ![1, 0, 0] inb_S4x512x64_S1x512x64_1_0_0)) (mat (rdK arg2 X2 (k0_off10 i) (k0_off10_inb i))) (mat (rdK arg3 X3 (k0_off10 i) (k0_off10_inb i))) (half (rdQ arg5 X5 ![1, 0, 0] inb_S4x512x64_S1x512x64_1_0_0)) acc.2.2.2.1 acc.2.2.2.2.1 (col (rdT arg4 X4 ![1, 0, 0] inb_S4x512x1_S1x512x1_1_0_0))) (mat (rdK arg2 X2 (k0_off10 i) (k0_off10_inb i))))⟩,
   ⟨Rect.unit (s := S4x512x64) ![0, 0, 0] S1x512x64.size inb_S4x512x64_S1x512x64_0_0_0,
     outDq (accN acc.2.2.1 (dDiag (mat (rdQ arg1 X1 ![0, 0, 0] inb_S4x512x64_S1x512x64_0_0_0)) (mat (rdK arg2 X2 (k0_off9 i) (k0_off9_inb i))) (mat (rdK arg3 X3 (k0_off9 i) (k0_off9_inb i))) (half (rdQ arg5 X5 ![0, 0, 0] inb_S4x512x64_S1x512x64_0_0_0)) acc.1 acc.2.1 (col (rdT arg4 X4 ![0, 0, 0] inb_S4x512x1_S1x512x1_0_0_0))) (mat (rdK arg2 X2 (k0_off9 i) (k0_off9_inb i))))⟩]

end Point

section Runs

variable (c : Dev nD) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x1 .f32) (harg4 : arg4.IsWhole)
  (arg5 : Memref sig .tc .vmem S4x512x64 .f32) (harg5 : arg5.IsWhole)
  (arg6 : Memref sig .tc .vmem S4x512x64 .f32) (harg6 : arg6.IsWhole)
  (arg7 : Memref sig .tc .vmem S4x2048x64 .f32) (harg7 : arg7.IsWhole)
  (arg8 : Memref sig .tc .vmem S4x2048x64 .f32) (harg8 : arg8.IsWhole)
  (x0 : Vec F S4x512x64 .bf16) (x1 x2 : Vec F S4x2048x64 .bf16) (x3 : Vec F S4x512x1 .f32) (x4 : Vec F S4x512x64 .f32)

/-- The loops' states in case B. -/
abbrev s1B (xo6 xo7 : Vec F S4x2048x64 .f32) : Carry F × Pieces F × Pieces F :=
  loop1 c i arg1 harg1 arg2 harg2 arg3 harg3 arg4 harg4 arg5 harg5 arg6 harg6 arg7 harg7 arg8 harg8
    (harg1.unread x0) (harg2.unread x1) (harg3.unread x2) (harg4.unread x3) (harg5.unread x4)
    (harg7.unread xo6) (harg8.unread xo7)

@[inherit_doc s1B]
abbrev s2B (xo6 xo7 : Vec F S4x2048x64 .f32) : Carry F × Pieces F × Pieces F :=
  loop2 c i arg1 harg1 arg2 harg2 arg3 harg3 arg4 harg4 arg5 harg5 arg6 harg6 arg7 harg7 arg8 harg8
    (harg1.unread x0) (harg2.unread x1) (harg3.unread x2) (harg4.unread x3) (harg5.unread x4)
    (kernelRun0_B.sl.v24 i) (arg7.view.writes (Elt F) (harg7.unread xo6) (s1B c i arg1 harg1 arg2 harg2 arg3 harg3 arg4 harg4 arg5 harg5 arg6 harg6 arg7 harg7 arg8 harg8 x0 x1 x2 x3 x4 xo6 xo7).2.1)
    (arg8.view.writes (Elt F) (harg8.unread xo7) (s1B c i arg1 harg1 arg2 harg2 arg3 harg3 arg4 harg4 arg5 harg5 arg6 harg6 arg7 harg7 arg8 harg8 x0 x1 x2 x3 x4 xo6 xo7).2.2) (s1B c i arg1 harg1 arg2 harg2 arg3 harg3 arg4 harg4 arg5 harg5 arg6 harg6 arg7 harg7 arg8 harg8 x0 x1 x2 x3 x4 xo6 xo7).1

set_option maxHeartbeats 4000000 in
theorem runB_5 (hc : ¬cond0_0 i) (xo6 xo7 : Vec F S4x2048x64 .f32) : (kernelRun0_B c i arg1 harg1 arg2 harg2 arg3 harg3 arg4 harg4 arg5 harg5 arg6 harg6 arg7 harg7 arg8 harg8 hc x0 x1 x2 x3 x4 xo6 xo7).1 =
    diag6 i arg1 arg2 arg3 arg4 arg5 (harg1.unread x0) (harg2.unread x1) (harg3.unread x2) (harg4.unread x3) (harg5.unread x4)
      (s2B c i arg1 harg1 arg2 harg2 arg3 harg3 arg4 harg4 arg5 harg5 arg6 harg6 arg7 harg7 arg8 harg8 x0 x1 x2 x3 x4 xo6 xo7).1 := by
  unfold kernelRun0_B; rfl

theorem runB_7 (hc : ¬cond0_0 i) (xo6 xo7 : Vec F S4x2048x64 .f32) : (kernelRun0_B c i arg1 harg1 arg2 harg2 arg3 harg3 arg4 harg4 arg5 harg5 arg6 harg6 arg7 harg7 arg8 harg8 hc x0 x1 x2 x3 x4 xo6 xo7).2.1 =
    diag7 i arg1 arg2 arg3 arg4 arg5 arg7 (harg1.unread x0) (harg2.unread x1) (harg3.unread x2) (harg4.unread x3) (harg5.unread x4)
      (harg7.unread xo6) (s2B c i arg1 harg1 arg2 harg2 arg3 harg3 arg4 harg4 arg5 harg5 arg6 harg6 arg7 harg7 arg8 harg8 x0 x1 x2 x3 x4 xo6 xo7).1 ((s2B c i arg1 harg1 arg2 harg2 arg3 harg3 arg4 harg4 arg5 harg5 arg6 harg6 arg7 harg7 arg8 harg8 x0 x1 x2 x3 x4 xo6 xo7).2.1 ++ (s1B c i arg1 harg1 arg2 harg2 arg3 harg3 arg4 harg4 arg5 harg5 arg6 harg6 arg7 harg7 arg8 harg8 x0 x1 x2 x3 x4 xo6 xo7).2.1) := by
  unfold kernelRun0_B; rfl

theorem runB_8 (hc : ¬cond0_0 i) (xo6 xo7 : Vec F S4x2048x64 .f32) : (kernelRun0_B c i arg1 harg1 arg2 harg2 arg3 harg3 arg4 harg4 arg5 harg5 arg6 harg6 arg7 harg7 arg8 harg8 hc x0 x1 x2 x3 x4 xo6 xo7).2.2.1 =
    diag8 i arg1 arg2 arg4 arg5 arg8 (harg1.unread x0) (harg2.unread x1) (harg4.unread x3) (harg5.unread x4)
      (harg8.unread xo7) (s2B c i arg1 harg1 arg2 harg2 arg3 harg3 arg4 harg4 arg5 harg5 arg6 harg6 arg7 harg7 arg8 harg8 x0 x1 x2 x3 x4 xo6 xo7).1 ((s2B c i arg1 harg1 arg2 harg2 arg3 harg3 arg4 harg4 arg5 harg5 arg6 harg6 arg7 harg7 arg8 harg8 x0 x1 x2 x3 x4 xo6 xo7).2.2 ++ (s1B c i arg1 harg1 arg2 harg2 arg3 harg3 arg4 harg4 arg5 harg5 arg6 harg6 arg7 harg7 arg8 harg8 x0 x1 x2 x3 x4 xo6 xo7).2.2) := by
  unfold kernelRun0_B; rfl

/-- The zeros the first point writes. -/
abbrev zero7 : Pieces F :=
  [⟨Rect.unit (s := S4x2048x64) ![0, 0, 0] S4x2048x64.size inb_S4x2048x64_S4x2048x64_0_0_0, k0_pay124⟩]

/-- The zeros the first point writes. -/
abbrev zero8 : Pieces F :=
  [⟨Rect.unit (s := S4x2048x64) ![0, 0, 0] S4x2048x64.size inb_S4x2048x64_S4x2048x64_0_0_0, k0_pay125⟩]

/-- The loops' states in case A. -/
abbrev s1A : Carry F × Pieces F × Pieces F :=
  loop1 c i arg1 harg1 arg2 harg2 arg3 harg3 arg4 harg4 arg5 harg5 arg6 harg6 arg7 harg7 arg8 harg8
    (harg1.unread x0) (harg2.unread x1) (harg3.unread x2) (harg4.unread x3) (harg5.unread x4)
    (arg7.view.writes (Elt F) arg7.view.junk zero7) (arg8.view.writes (Elt F) arg8.view.junk zero8)

@[inherit_doc s1A]
abbrev s2A : Carry F × Pieces F × Pieces F :=
  loop2 c i arg1 harg1 arg2 harg2 arg3 harg3 arg4 harg4 arg5 harg5 arg6 harg6 arg7 harg7 arg8 harg8
    (harg1.unread x0) (harg2.unread x1) (harg3.unread x2) (harg4.unread x3) (harg5.unread x4)
    (kernelRun0_A.sl.v24 i) (arg7.view.writes (Elt F) arg7.view.junk ((s1A c i arg1 harg1 arg2 harg2 arg3 harg3 arg4 harg4 arg5 harg5 arg6 harg6 arg7 harg7 arg8 harg8 x0 x1 x2 x3 x4).2.1 ++ zero7))
    (arg8.view.writes (Elt F) arg8.view.junk ((s1A c i arg1 harg1 arg2 harg2 arg3 harg3 arg4 harg4 arg5 harg5 arg6 harg6 arg7 harg7 arg8 harg8 x0 x1 x2 x3 x4).2.2 ++ zero8)) (s1A c i arg1 harg1 arg2 harg2 arg3 harg3 arg4 harg4 arg5 harg5 arg6 harg6 arg7 harg7 arg8 harg8 x0 x1 x2 x3 x4).1

set_option maxHeartbeats 4000000 in
theorem runA_5 (hc : cond0_0 i) : (kernelRun0_A c i arg1 harg1 arg2 harg2 arg3 harg3 arg4 harg4 arg5 harg5 arg6 harg6 arg7 harg7 arg8 harg8 hc x0 x1 x2 x3 x4).1 =
    diag6 i arg1 arg2 arg3 arg4 arg5 (harg1.unread x0) (harg2.unread x1) (harg3.unread x2) (harg4.unread x3) (harg5.unread x4)
      (s2A c i arg1 harg1 arg2 harg2 arg3 harg3 arg4 harg4 arg5 harg5 arg6 harg6 arg7 harg7 arg8 harg8 x0 x1 x2 x3 x4).1 := by
  unfold kernelRun0_A; rfl

theorem runA_7 (hc : cond0_0 i) : (kernelRun0_A c i arg1 harg1 arg2 harg2 arg3 harg3 arg4 harg4 arg5 harg5 arg6 harg6 arg7 harg7 arg8 harg8 hc x0 x1 x2 x3 x4).2.1 =
    diag7 i arg1 arg2 arg3 arg4 arg5 arg7 (harg1.unread x0) (harg2.unread x1) (harg3.unread x2) (harg4.unread x3) (harg5.unread x4)
      arg7.view.junk (s2A c i arg1 harg1 arg2 harg2 arg3 harg3 arg4 harg4 arg5 harg5 arg6 harg6 arg7 harg7 arg8 harg8 x0 x1 x2 x3 x4).1 ((s2A c i arg1 harg1 arg2 harg2 arg3 harg3 arg4 harg4 arg5 harg5 arg6 harg6 arg7 harg7 arg8 harg8 x0 x1 x2 x3 x4).2.1 ++ ((s1A c i arg1 harg1 arg2 harg2 arg3 harg3 arg4 harg4 arg5 harg5 arg6 harg6 arg7 harg7 arg8 harg8 x0 x1 x2 x3 x4).2.1 ++ zero7)) := by
  unfold kernelRun0_A; rfl

theorem runA_8 (hc : cond0_0 i) : (kernelRun0_A c i arg1 harg1 arg2 harg2 arg3 harg3 arg4 harg4 arg5 harg5 arg6 harg6 arg7 harg7 arg8 harg8 hc x0 x1 x2 x3 x4).2.2.1 =
    diag8 i arg1 arg2 arg4 arg5 arg8 (harg1.unread x0) (harg2.unread x1) (harg4.unread x3) (harg5.unread x4)
      arg8.view.junk (s2A c i arg1 harg1 arg2 harg2 arg3 harg3 arg4 harg4 arg5 harg5 arg6 harg6 arg7 harg7 arg8 harg8 x0 x1 x2 x3 x4).1 ((s2A c i arg1 harg1 arg2 harg2 arg3 harg3 arg4 harg4 arg5 harg5 arg6 harg6 arg7 harg7 arg8 harg8 x0 x1 x2 x3 x4).2.2 ++ ((s1A c i arg1 harg1 arg2 harg2 arg3 harg3 arg4 harg4 arg5 harg5 arg6 harg6 arg7 harg7 arg8 harg8 x0 x1 x2 x3 x4).2.2 ++ zero8)) := by
  unfold kernelRun0_A; rfl

end Runs

end Cert.Sb

end
-- ==== Proof.Grad.lean ====
/- The gradient of stick-breaking attention of one head over the real numbers, and one tile of the kernel computing it.
   `Q` holds the scaled queries, `K` and `V` the keys and values, `G` the gradient of the output, row by row. -/
module

public import proofs.«01_k».proof.Proof.Tile

@[expose] public section

set_option maxRecDepth 16384

noncomputable section

namespace Cert.Sb

open Idealize.ShloMosaic Idealize.ShloMosaic.ValueIdx Cert.KernelIdeal Cert.KernelIdeal.Gen Finset
open scoped BigOperators

variable (Q K V G : ℕ → ℕ → ℝ)

/-- The score of query `t` and key `s`. -/
def zr (t s : ℕ) : ℝ := ∑ d ∈ range 64, Q t d * K s d

/-- The logarithm of the chance that query `t` passes key `s` over. -/
def lr (t s : ℕ) : ℝ := if s < t then lfail (zr Q K t s) else 0

/-- Its sum over all keys. -/
def tr (t : ℕ) : ℝ := ∑ s ∈ range 2048, lr Q K t s

/-- The weight of key `s` for query `t`: the chance of stopping at `s` after passing over every key between. -/
def wr (t s : ℕ) : ℝ :=
  if s < t then Real.exp (zr Q K t s + lfail (zr Q K t s) + (tr Q K t - ∑ j ∈ range (s + 1), lr Q K t j)) else 0

/-- The gradient of the logarithm of the weight. -/
def pr (t s : ℕ) : ℝ := wr Q K t s * ∑ d ∈ range 64, G t d * V s d

/-- The gradient of the score. -/
def dr (t s : ℕ) : ℝ :=
  if s < t then pr Q K V G t s * (1 - sigm (zr Q K t s)) - sigm (zr Q K t s) * ∑ j ∈ range s, pr Q K V G t j else 0

theorem wr_of_le {t s : ℕ} (h : t ≤ s) : wr Q K t s = 0 := if_neg (by omega)
theorem dr_of_le {t s : ℕ} (h : t ≤ s) : dr Q K V G t s = 0 := if_neg (by omega)

theorem sum_upto {c : ℕ} (hc : c < 512) (f : ℕ → ℝ) :
    ∑ k ∈ range 512, f k * (if k ≤ c then 1 else 0) = ∑ k ∈ range (c + 1), f k := by
  simp only [mul_ite, mul_one, mul_zero]
  rw [← sum_filter]
  refine sum_congr ?_ fun _ _ => rfl
  ext k; simp only [mem_filter, mem_range]; omega

theorem sum_before {c : ℕ} (hc : c < 512) (f : ℕ → ℝ) :
    ∑ k ∈ range 512, f k * (if k < c then 1 else 0) = ∑ k ∈ range c, f k := by
  simp only [mul_ite, mul_one, mul_zero]
  rw [← sum_filter]
  refine sum_congr ?_ fun _ _ => rfl
  ext k; simp only [mem_filter, mem_range]; omega

section TileStep

variable {Q K V G}
variable {R C : ℕ} {q k v g : FVec Ideal S512x64 .bf16} {left cleft tot : FVec Ideal S512x1 .f32}

theorem z_tile (hq : Is2 q (fun r d => Q (R + r) d)) (hk : Is2 k (fun c d => K (C + c) d)) :
    Is2 (tZ q k) (fun r c => zr Q K (R + r) (C + c)) := tZ_real hq hk

/-! ### Off the diagonal -/

theorem lf_off (hRC : C + 512 ≤ R) (hq : Is2 q (fun r d => Q (R + r) d)) (hk : Is2 k (fun c d => K (C + c) d)) :
    Is2 (tLf (tZ q k)) (fun r c => lr Q K (R + r) (C + c)) :=
  (tLf_real (z_tile hq hk)).congr fun r c _ hc => by unfold lr; rw [if_pos (by omega)]

theorem w_off (hRC : C + 512 ≤ R) (hq : Is2 q (fun r d => Q (R + r) d)) (hk : Is2 k (fun c d => K (C + c) d))
    (hl : Is2 left (fun r _ => ∑ j ∈ range C, lr Q K (R + r) j)) (ht : Is2 tot (fun r _ => tr Q K (R + r))) :
    Is2 (wOff q k left tot) (fun r c => wr Q K (R + r) (C + c)) :=
  (exp_real (tLogW_real upto_real hl ht (z_tile hq hk) (lf_off hRC hq hk))).congr fun r c _ hc => by
    unfold wr
    rw [if_pos (by omega), sum_upto hc, ← sum_range_add, ← add_assoc]
    unfold lr
    rw [if_pos (by omega)]

theorem p_off (hRC : C + 512 ≤ R) (hq : Is2 q (fun r d => Q (R + r) d)) (hk : Is2 k (fun c d => K (C + c) d))
    (hv : Is2 v (fun c d => V (C + c) d)) (hg : Is2 g (fun r d => G (R + r) d))
    (hl : Is2 left (fun r _ => ∑ j ∈ range C, lr Q K (R + r) j)) (ht : Is2 tot (fun r _ => tr Q K (R + r))) :
    Is2 (pOff q k v g left tot) (fun r c => pr Q K V G (R + r) (C + c)) :=
  tP_real (w_off hRC hq hk hl ht) hg hv

theorem d_off (hRC : C + 512 ≤ R) (hq : Is2 q (fun r d => Q (R + r) d)) (hk : Is2 k (fun c d => K (C + c) d))
    (hv : Is2 v (fun c d => V (C + c) d)) (hg : Is2 g (fun r d => G (R + r) d))
    (hl : Is2 left (fun r _ => ∑ j ∈ range C, lr Q K (R + r) j)) (ht : Is2 tot (fun r _ => tr Q K (R + r)))
    (hcl : Is2 cleft (fun r _ => ∑ j ∈ range C, pr Q K V G (R + r) j)) :
    Is2 (dOff q k v g left cleft tot) (fun r c => dr Q K V G (R + r) (C + c)) :=
  (tDz_real before_real hcl (z_tile hq hk) (p_off hRC hq hk hv hg hl ht)).congr fun r c _ hc => by
    unfold dr
    rw [if_pos (by omega), sum_before hc, ← sum_range_add]

theorem left_off (hRC : C + 512 ≤ R) (hq : Is2 q (fun r d => Q (R + r) d)) (hk : Is2 k (fun c d => K (C + c) d))
    (hl : Is2 left (fun r _ => ∑ j ∈ range C, lr Q K (R + r) j)) :
    Is2 (rowAcc left (tLf (tZ q k))) (fun r _ => ∑ j ∈ range (C + 512), lr Q K (R + r) j) :=
  (rowAcc_real hl (lf_off hRC hq hk)).congr fun r c _ _ => by rw [sum_range_add]

theorem cleft_off (hRC : C + 512 ≤ R) (hq : Is2 q (fun r d => Q (R + r) d)) (hk : Is2 k (fun c d => K (C + c) d))
    (hv : Is2 v (fun c d => V (C + c) d)) (hg : Is2 g (fun r d => G (R + r) d))
    (hl : Is2 left (fun r _ => ∑ j ∈ range C, lr Q K (R + r) j)) (ht : Is2 tot (fun r _ => tr Q K (R + r)))
    (hcl : Is2 cleft (fun r _ => ∑ j ∈ range C, pr Q K V G (R + r) j)) :
    Is2 (rowAcc cleft (pOff q k v g left tot)) (fun r _ => ∑ j ∈ range (C + 512), pr Q K V G (R + r) j) :=
  (rowAcc_real hcl (p_off hRC hq hk hv hg hl ht)).congr fun r c _ _ => by rw [sum_range_add]

/-! ### On the diagonal -/

theorem lf_diag (hq : Is2 q (fun r d => Q (R + r) d)) (hk : Is2 k (fun c d => K (R + c) d)) :
    Is2 (tSel (tLf (tZ q k))) (fun r c => lr Q K (R + r) (R + c)) :=
  (tSel_real (tLf_real (z_tile hq hk))).congr fun r c _ hc => by
    unfold lr; simp only [add_lt_add_iff_left]

theorem w_diag (hq : Is2 q (fun r d => Q (R + r) d)) (hk : Is2 k (fun c d => K (R + c) d))
    (hl : Is2 left (fun r _ => ∑ j ∈ range R, lr Q K (R + r) j)) (ht : Is2 tot (fun r _ => tr Q K (R + r))) :
    Is2 (wDiag q k left tot) (fun r c => wr Q K (R + r) (R + c)) :=
  (tSel_real (exp_real (tLogW_real upto_real hl ht (z_tile hq hk) (lf_diag hq hk)))).congr fun r c _ hc => by
    unfold wr
    simp only [add_lt_add_iff_left]
    split
    · rename_i h
      rw [sum_upto hc, ← sum_range_add, ← add_assoc]
      unfold lr
      rw [if_pos (by omega)]
    · rfl

theorem p_diag (hq : Is2 q (fun r d => Q (R + r) d)) (hk : Is2 k (fun c d => K (R + c) d))
    (hv : Is2 v (fun c d => V (R + c) d)) (hg : Is2 g (fun r d => G (R + r) d))
    (hl : Is2 left (fun r _ => ∑ j ∈ range R, lr Q K (R + r) j)) (ht : Is2 tot (fun r _ => tr Q K (R + r))) :
    Is2 (pDiag q k v g left tot) (fun r c => pr Q K V G (R + r) (R + c)) :=
  tP_real (w_diag hq hk hl ht) hg hv

theorem d_diag (hq : Is2 q (fun r d => Q (R + r) d)) (hk : Is2 k (fun c d => K (R + c) d))
    (hv : Is2 v (fun c d => V (R + c) d)) (hg : Is2 g (fun r d => G (R + r) d))
    (hl : Is2 left (fun r _ => ∑ j ∈ range R, lr Q K (R + r) j)) (ht : Is2 tot (fun r _ => tr Q K (R + r)))
    (hcl : Is2 cleft (fun r _ => ∑ j ∈ range R, pr Q K V G (R + r) j)) :
    Is2 (dDiag q k v g left cleft tot) (fun r c => dr Q K V G (R + r) (R + c)) :=
  (tSel_real (tDz_real before_real hcl (z_tile hq hk) (p_diag hq hk hv hg hl ht))).congr fun r c _ hc => by
    unfold dr
    simp only [add_lt_add_iff_left]
    split
    · rw [sum_before hc, ← sum_range_add]
    · rfl

end TileStep

end Cert.Sb

end
-- ==== Proof.Loop.lean ====
module

public import proofs.«01_k».proof.Proof.Run
public import proofs.«01_k».proof.Proof.Grad
public import Idealize.ShloMosaic.Lib.WritesUnit

/-!
# The loop over the key tiles, on real operands

Real arrays of four heads, what a load of a block of them holds and what a store of a block leaves; then the loop: before trip
`k` the carried values are the sums over the first `512 k` keys, and the rows of those keys have been given this query tile's
share of the two key gradients.
-/

@[expose] public section

set_option maxRecDepth 16384

noncomputable section

namespace Cert.Sb

open Idealize.ShloMosaic Idealize.ShloMosaic.TcCoe Idealize.ShloMosaic.ValueIdx Cert.KernelIdeal Cert.KernelIdeal.Gen Finset
open scoped BigOperators

/-! ## Arrays of four heads -/

/-- The array holds the real numbers `a`. -/
def IsA {n m : ℕ} (A : (⟨3, ![4, n, m]⟩ : Shape).Idx → EReal) (a : ℕ → ℕ → ℕ → ℝ) : Prop :=
  ∀ (h : Fin 4) (r : Fin n) (c : Fin m), A (ix3 h r c) = ((a h.val r.val c.val : ℝ) : EReal)

theorem IsA.congr {n m : ℕ} {A : (⟨3, ![4, n, m]⟩ : Shape).Idx → EReal} {a b : ℕ → ℕ → ℕ → ℝ} (hA : IsA A a)
    (hab : ∀ h r c, h < 4 → r < n → c < m → a h r c = b h r c) : IsA A b :=
  fun h r c => by rw [hA h r c, hab _ _ _ h.isLt r.isLt c.isLt]

section Access

variable {n k m : ℕ} {e : EltTy} (v : View sig .tc .vmem (⟨3, ![4, n, m]⟩ : Shape) e) (f : v.ty.Contents (Elt Ideal))

/-- A load of rows `R …` of head `h`. -/
theorem load_at {o : Fin 3 → ℕ} {h R : ℕ} (hh : h < 4) (ho : o = ![h, R, 0])
    (inb : ∀ a, o a + (⟨3, ![1, k, m]⟩ : Shape).size a ≤ (⟨3, ![4, n, m]⟩ : Shape).size a) (r : Fin k) (c : Fin m) (hr : R + r.val < n) :
    v.readAt (Elt Ideal) (Rect.unit (s := ⟨3, ![4, n, m]⟩) o (⟨3, ![1, k, m]⟩ : Shape).size inb).toLoadRect f (ix3 0 r c)
      = v.read (Elt Ideal) f (ix3 ⟨h, hh⟩ ⟨R + r.val, hr⟩ c) := by
  subst ho
  refine congrArg (v.read (Elt Ideal) f) (funext fun a => Fin.ext ?_)
  match a with
  | ⟨0, _⟩ => show h + 1 * 0 = h; omega
  | ⟨1, _⟩ => show R + 1 * r.val = R + r.val; omega
  | ⟨2, _⟩ => show 0 + 1 * c.val = c.val; omega

/-- A store of rows `R …` of head `h`: the newest piece where it lies, the others elsewhere. -/
theorem store_at {o : Fin 3 → ℕ} {h R : ℕ} (ho : o = ![h, R, 0])
    (inb : ∀ a, o a + (⟨3, ![1, k, m]⟩ : Shape).size a ≤ (⟨3, ![4, n, m]⟩ : Shape).size a)
    (x : (⟨3, ![1, k, m]⟩ : Shape).Idx → Elt Ideal e) (L : List (View.Piece (Elt Ideal) (⟨3, ![4, n, m]⟩ : Shape) e))
    (h' : Fin 4) (r : Fin n) (c : Fin m) :
    v.read (Elt Ideal) (v.writes (Elt Ideal) f (⟨Rect.unit (s := ⟨3, ![4, n, m]⟩) o (⟨3, ![1, k, m]⟩ : Shape).size inb, x⟩ :: L)) (ix3 h' r c)
      = if hc : h'.val = h ∧ R ≤ r.val ∧ r.val < R + k then x (ix3 0 ⟨r.val - R, by omega⟩ c)
        else v.read (Elt Ideal) (v.writes (Elt Ideal) f L) (ix3 h' r c) := by
  split
  · rename_i hc
    refine View.read_writes_cons_unit_of_mem v f inb x L (ix3 h' r c) (ix3 0 ⟨r.val - R, by omega⟩ c) ho fun a => ?_
    match a with
    | ⟨0, _⟩ => show h'.val = h + 0; omega
    | ⟨1, _⟩ => show r.val = R + (r.val - R); omega
    | ⟨2, _⟩ => show c.val = 0 + c.val; omega
  · rename_i hc
    by_cases h0 : h'.val = h
    · refine View.read_writes_cons_unit_of_not_mem v f inb x L (ix3 h' r c) ho ⟨1, by show 1 < 3; omega⟩ ?_
      show r.val < R ∨ R + k ≤ r.val
      omega
    · refine View.read_writes_cons_unit_of_not_mem v f inb x L (ix3 h' r c) ho ⟨0, by show 0 < 3; omega⟩ ?_
      show h'.val < h ∨ h + 1 ≤ h'.val
      omega

end Access

section Blocks

variable {e : EltTy}

theorem rdK_real {v : Memref sig .tc .vmem S4x2048x64 .bf16} {f : v.view.ty.Contents (Elt Ideal)} {a : ℕ → ℕ → ℕ → ℝ}
    (hA : IsA (v.view.read (Elt Ideal) f) a) {o : Fin 3 → ℕ} {h R : ℕ} (hh : h < 4) (hR : R + 512 ≤ 2048) (ho : o = ![h, R, 0])
    (inb : ∀ a, o a + S1x512x64.size a ≤ S4x2048x64.size a) :
    Is3 (rdK v f o inb) (fun r c => a h (R + r) c) := fun r c => by
  have hr := r.isLt
  exact (load_at v.view f hh ho inb r c (by omega)).trans (hA _ _ _)

theorem rdQ_real {v : Memref sig .tc .vmem S4x512x64 .bf16} {f : v.view.ty.Contents (Elt Ideal)} {a : ℕ → ℕ → ℕ → ℝ}
    (hA : IsA (v.view.read (Elt Ideal) f) a) {h : ℕ} (hh : h < 4) (inb : ∀ a, ![h, 0, 0] a + S1x512x64.size a ≤ S4x512x64.size a) :
    Is3 (rdQ v f ![h, 0, 0] inb) (fun r c => a h r c) := fun r c => by
  have hr := r.isLt
  refine (load_at v.view f hh rfl inb r c (by omega)).trans ((hA _ _ _).trans ?_)
  show ((a h (0 + r.val) c.val : ℝ) : EReal) = _
  rw [Nat.zero_add]

theorem rdK_real32 {v : Memref sig .tc .vmem S4x2048x64 .f32} {f : v.view.ty.Contents (Elt Ideal)} {a : ℕ → ℕ → ℕ → ℝ}
    (hA : IsA (v.view.read (Elt Ideal) f) a) {o : Fin 3 → ℕ} {h R : ℕ} (hh : h < 4) (hR : R + 512 ≤ 2048) (ho : o = ![h, R, 0])
    (inb : ∀ a, o a + S1x512x64.size a ≤ S4x2048x64.size a) :
    Is3 (rdK v f o inb) (fun r c => a h (R + r) c) := fun r c => by
  have hr := r.isLt
  exact (load_at v.view f hh ho inb r c (by omega)).trans (hA _ _ _)

theorem rdQ_real32 {v : Memref sig .tc .vmem S4x512x64 .f32} {f : v.view.ty.Contents (Elt Ideal)} {a : ℕ → ℕ → ℕ → ℝ}
    (hA : IsA (v.view.read (Elt Ideal) f) a) {h : ℕ} (hh : h < 4) (inb : ∀ a, ![h, 0, 0] a + S1x512x64.size a ≤ S4x512x64.size a) :
    Is3 (rdQ v f ![h, 0, 0] inb) (fun r c => a h r c) := fun r c => by
  have hr := r.isLt
  refine (load_at v.view f hh rfl inb r c (by omega)).trans ((hA _ _ _).trans ?_)
  show ((a h (0 + r.val) c.val : ℝ) : EReal) = _
  rw [Nat.zero_add]

theorem rdT_real {v : Memref sig .tc .vmem S4x512x1 .f32} {f : v.view.ty.Contents (Elt Ideal)} {a : ℕ → ℕ → ℕ → ℝ}
    (hA : IsA (v.view.read (Elt Ideal) f) a) {h : ℕ} (hh : h < 4) (inb : ∀ a, ![h, 0, 0] a + S1x512x1.size a ≤ S4x512x1.size a) :
    Is3 (rdT v f ![h, 0, 0] inb) (fun r c => a h r c) := fun r c => by
  have hr := r.isLt
  refine (load_at v.view f hh rfl inb r c (by omega)).trans ((hA _ _ _).trans ?_)
  show ((a h (0 + r.val) c.val : ℝ) : EReal) = _
  rw [Nat.zero_add]

/-- `a` with `b` added to the rows `R … R + 511`. -/
def bump (a : ℕ → ℕ → ℕ → ℝ) (R : ℕ) (b : ℕ → ℕ → ℕ → ℝ) (h s d : ℕ) : ℝ := a h s d + if R ≤ s ∧ s < R + 512 then b h s d else 0

/-- The heads below `h` done, the others not yet. -/
def upTo (h : ℕ) (a b : ℕ → ℕ → ℕ → ℝ) (h' s d : ℕ) : ℝ := if h' < h then b h' s d else a h' s d

/-- One head's store in a row of four. -/
theorem push_real {v : Memref sig .tc .vmem S4x2048x64 .f32} {f : v.view.ty.Contents (Elt Ideal)} {L : Pieces Ideal} {a b : ℕ → ℕ → ℕ → ℝ}
    {o : Fin 3 → ℕ} {h R : ℕ} (hh : h < 4) (hR : R + 512 ≤ 2048) (ho : o = ![h, R, 0])
    (hL : IsA (v.view.read (Elt Ideal) (v.view.writes (Elt Ideal) f L)) (upTo h a (bump a R b)))
    (inb : ∀ a, o a + S1x512x64.size a ≤ S4x2048x64.size a)
    {x : FVec Ideal S512x512 .f32} {y : FVec Ideal S512x64 .bf16} {p q : ℕ → ℕ → ℝ} (hx : Is2 x p) (hy : Is2 y q)
    (hb : ∀ r c, b h (R + r) c = ∑ t ∈ range 512, p t r * q t c)
    {g : v.view.ty.Contents (Elt Ideal)} (hg : IsA (v.view.read (Elt Ideal) g) (upTo h a (bump a R b)) ∨ IsA (v.view.read (Elt Ideal) g) a) :
    IsA (v.view.read (Elt Ideal) (v.view.writes (Elt Ideal) f (push v g o inb x y :: L))) (upTo (h + 1) a (bump a R b)) := fun h' r c => by
  have hold : Is3 (rdK v g o inb) (fun r c => a h (R + r) c) := by
    rcases hg with hg | hg
    · exact (rdK_real32 hg hh hR ho inb).congr fun r c _ _ => by unfold upTo; rw [if_neg (lt_irrefl h)]
    · exact rdK_real32 hg hh hR ho inb
  rw [store_at v.view f ho inb _ L h' r c]
  split
  · rename_i hc
    obtain ⟨rfl, h1, h2⟩ := hc
    refine (accT_real hold hx hy _ _).trans ?_
    have e : R + (r.val - R) = r.val := Nat.add_sub_cancel' h1
    have hb' := hb (r.val - R) c.val
    rw [e] at hb'
    show ((a h'.val (R + (r.val - R)) c.val + ∑ t ∈ range 512, p t (r.val - R) * q t c.val : ℝ) : EReal) = _
    unfold upTo bump
    rw [if_pos (Nat.lt_succ_self _), if_pos ⟨h1, h2⟩, hb', e]
  · rename_i hc
    rw [hL h' r c]
    unfold upTo bump
    by_cases h1 : h'.val < h
    · rw [if_pos h1, if_pos (show h'.val < h + 1 by omega)]
    · rw [if_neg h1]
      by_cases h2 : h'.val = h
      · rw [if_pos (show h'.val < h + 1 by omega), if_neg (show ¬(R ≤ r.val ∧ r.val < R + 512) by omega), add_zero]
      · rw [if_neg (show ¬h'.val < h + 1 by omega)]

theorem upTo_zero (a b : ℕ → ℕ → ℕ → ℝ) : upTo 0 a b = a := by
  funext h s d; unfold upTo; rw [if_neg (Nat.not_lt_zero _)]

end Blocks

/-! ## What one point's heads carry -/

variable (Q K V G : ℕ → ℕ → ℕ → ℝ)

/-- The share of the key gradient that the query tile at `R` gives. -/
def kShare (R h s d : ℕ) : ℝ := ∑ t ∈ range 512, dr (Q h) (K h) (V h) (G h) (R + t) s * Q h (R + t) d

/-- The share of the value gradient that the query tile at `R` gives. -/
def vShare (R h s d : ℕ) : ℝ := ∑ t ∈ range 512, wr (Q h) (K h) (R + t) s * G h (R + t) d

/-- One head's carried values at the query tile `R`, after the keys below `C`. -/
def HeadOk (h R C : ℕ) (l cl : FVec Ideal S512x1 .f32) (dq : FVec Ideal S512x64 .f32) : Prop :=
  Is2 l (fun r _ => ∑ j ∈ range C, lr (Q h) (K h) (R + r) j)
  ∧ Is2 cl (fun r _ => ∑ j ∈ range C, pr (Q h) (K h) (V h) (G h) (R + r) j)
  ∧ Is2 dq (fun r d => ∑ s ∈ range C, dr (Q h) (K h) (V h) (G h) (R + r) s * K h s d)

/-- The four heads' carried values. -/
def CarryOk (R C : ℕ) (acc : Carry Ideal) : Prop :=
  HeadOk Q K V G 0 R C acc.1 acc.2.1 acc.2.2.1
  ∧ HeadOk Q K V G 1 R C acc.2.2.2.1 acc.2.2.2.2.1 acc.2.2.2.2.2.1
  ∧ HeadOk Q K V G 2 R C acc.2.2.2.2.2.2.1 acc.2.2.2.2.2.2.2.1 acc.2.2.2.2.2.2.2.2.1
  ∧ HeadOk Q K V G 3 R C acc.2.2.2.2.2.2.2.2.2.1 acc.2.2.2.2.2.2.2.2.2.2.1 acc.2.2.2.2.2.2.2.2.2.2.2

variable {Q K V G}

theorem head_step {h R C : ℕ} (hRC : C + 512 ≤ R) {q k v g : FVec Ideal S512x64 .bf16} {l cl tot : FVec Ideal S512x1 .f32} {dq : FVec Ideal S512x64 .f32}
    (hq : Is2 q (fun r d => Q h (R + r) d)) (hk : Is2 k (fun c d => K h (C + c) d)) (hv : Is2 v (fun c d => V h (C + c) d))
    (hg : Is2 g (fun r d => G h (R + r) d)) (ht : Is2 tot (fun r _ => tr (Q h) (K h) (R + r))) (ho : HeadOk Q K V G h R C l cl dq) :
    HeadOk Q K V G h R (C + 512) (rowAcc l (tLf (tZ q k))) (rowAcc cl (pOff q k v g l tot)) (accN dq (dOff q k v g l cl tot) k) :=
  ⟨left_off hRC hq hk ho.1, cleft_off hRC hq hk hv hg ho.1 ht ho.2.1,
    (accN_real ho.2.2 (d_off hRC hq hk hv hg ho.1 ht ho.2.1) hk).congr fun r c _ _ => by rw [sum_range_add]⟩

section Point

variable (c : Dev nD) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x1 .f32) (harg4 : arg4.IsWhole)
  (arg5 : Memref sig .tc .vmem S4x512x64 .f32) (harg5 : arg5.IsWhole)
  (arg6 : Memref sig .tc .vmem S4x512x64 .f32) (harg6 : arg6.IsWhole)
  (arg7 : Memref sig .tc .vmem S4x2048x64 .f32) (harg7 : arg7.IsWhole)
  (arg8 : Memref sig .tc .vmem S4x2048x64 .f32) (harg8 : arg8.IsWhole)
  (X1 : arg1.view.ty.Contents (Elt Ideal)) (X2 : arg2.view.ty.Contents (Elt Ideal)) (X3 : arg3.view.ty.Contents (Elt Ideal)) (X4 : arg4.view.ty.Contents (Elt Ideal)) (X5 : arg5.view.ty.Contents (Elt Ideal))

/-- The inputs of the point hold the real arrays. -/
structure InOk (arg1 : Memref sig .tc .vmem S4x512x64 .bf16) (arg2 : Memref sig .tc .vmem S4x2048x64 .bf16)
    (arg3 : Memref sig .tc .vmem S4x2048x64 .bf16) (arg4 : Memref sig .tc .vmem S4x512x1 .f32) (arg5 : Memref sig .tc .vmem S4x512x64 .f32)
    (X1 : arg1.view.ty.Contents (Elt Ideal)) (X2 : arg2.view.ty.Contents (Elt Ideal)) (X3 : arg3.view.ty.Contents (Elt Ideal))
    (X4 : arg4.view.ty.Contents (Elt Ideal)) (X5 : arg5.view.ty.Contents (Elt Ideal)) (Q K V G : ℕ → ℕ → ℕ → ℝ) (R : ℕ) : Prop where
  q : IsA (arg1.view.read (Elt Ideal) X1) (fun h r d => Q h (R + r) d)
  k : IsA (arg2.view.read (Elt Ideal) X2) K
  v : IsA (arg3.view.read (Elt Ideal) X3) V
  t : IsA (arg4.view.read (Elt Ideal) X4) (fun h r _ => tr (Q h) (K h) (R + r))
  g : IsA (arg5.view.read (Elt Ideal) X5) (fun h r d => G h (R + r) d)

variable {c i arg1 harg1 arg2 harg2 arg3 harg3 arg4 harg4 arg5 harg5 arg6 harg6 arg7 harg7 arg8 harg8 X1 X2 X3 X4 X5}

theorem trips_eq : ∀ i : grid0.Coords, (k0_t1_loop i).trips = (i 0).val := by decide +kernel

/-- One trip on real operands. -/
theorem trip_real {R : ℕ} (hR : R = 512 * (i 0).val) (hin : InOk arg1 arg2 arg3 arg4 arg5 X1 X2 X3 X4 X5 Q K V G R)
    (k : Fin (k0_t1_loop i).trips) {acc : Carry Ideal} (hacc : CarryOk Q K V G R (512 * k.val) acc)
    {f7 : arg7.view.ty.Contents (Elt Ideal)} {f8 : arg8.view.ty.Contents (Elt Ideal)} {a7 a8 : ℕ → ℕ → ℕ → ℝ}
    (h7 : IsA (arg7.view.read (Elt Ideal) f7) a7) (h8 : IsA (arg8.view.read (Elt Ideal) f8) a8) :
    CarryOk Q K V G R (512 * (k.val + 1)) ((trip_k0_t1 Variants.none c none i arg1 harg1 arg2 harg2 arg3 harg3 arg4 harg4 arg5 harg5 arg6 harg6 arg7 harg7 arg8 harg8 X1 X2 X3 X4 X5 k).1 acc f7 f8)
    ∧ IsA (arg7.view.read (Elt Ideal) (arg7.view.writes (Elt Ideal) f7 ((trip_k0_t1 Variants.none c none i arg1 harg1 arg2 harg2 arg3 harg3 arg4 harg4 arg5 harg5 arg6 harg6 arg7 harg7 arg8 harg8 X1 X2 X3 X4 X5 k).2.1 acc f7 f8))) (bump a7 (512 * k.val) (kShare Q K V G R))
    ∧ IsA (arg8.view.read (Elt Ideal) (arg8.view.writes (Elt Ideal) f8 ((trip_k0_t1 Variants.none c none i arg1 harg1 arg2 harg2 arg3 harg3 arg4 harg4 arg5 harg5 arg6 harg6 arg7 harg7 arg8 harg8 X1 X2 X3 X4 X5 k).2.2.1 acc f7 f8))) (bump a8 (512 * k.val) (vShare Q K G R)) := by
  have hi : (i 0).val < 4 := (i 0).isLt
  have hk : k.val < (i 0).val := lt_of_lt_of_eq k.isLt (trips_eq i)
  have hRC : 512 * k.val + 512 ≤ R := by omega
  have hC : 512 * k.val + 512 ≤ 2048 := by omega
  obtain ⟨a0, a1, a2, a3⟩ := hacc
  have q0 := mat_real (φ := .bf16) (rdQ_real hin.q (show 0 < 4 by decide) inb_S4x512x64_S1x512x64_0_0_0)
  have g0 := half_real (rdQ_real32 hin.g (show 0 < 4 by decide) inb_S4x512x64_S1x512x64_0_0_0)
  have t0 := col_real (rdT_real hin.t (show 0 < 4 by decide) inb_S4x512x1_S1x512x1_0_0_0)
  have k0 := mat_real (φ := .bf16) (rdK_real hin.k (show 0 < 4 by decide) hC (k0_off1_eq i k) (k0_off1_inb i k))
  have v0 := mat_real (φ := .bf16) (rdK_real hin.v (show 0 < 4 by decide) hC (k0_off1_eq i k) (k0_off1_inb i k))
  have q1 := mat_real (φ := .bf16) (rdQ_real hin.q (show 1 < 4 by decide) inb_S4x512x64_S1x512x64_1_0_0)
  have g1 := half_real (rdQ_real32 hin.g (show 1 < 4 by decide) inb_S4x512x64_S1x512x64_1_0_0)
  have t1 := col_real (rdT_real hin.t (show 1 < 4 by decide) inb_S4x512x1_S1x512x1_1_0_0)
  have k1 := mat_real (φ := .bf16) (rdK_real hin.k (show 1 < 4 by decide) hC (k0_off2_eq i k) (k0_off2_inb i k))
  have v1 := mat_real (φ := .bf16) (rdK_real hin.v (show 1 < 4 by decide) hC (k0_off2_eq i k) (k0_off2_inb i k))
  have q2 := mat_real (φ := .bf16) (rdQ_real hin.q (show 2 < 4 by decide) inb_S4x512x64_S1x512x64_2_0_0)
  have g2 := half_real (rdQ_real32 hin.g (show 2 < 4 by decide) inb_S4x512x64_S1x512x64_2_0_0)
  have t2 := col_real (rdT_real hin.t (show 2 < 4 by decide) inb_S4x512x1_S1x512x1_2_0_0)
  have k2 := mat_real (φ := .bf16) (rdK_real hin.k (show 2 < 4 by decide) hC (k0_off3_eq i k) (k0_off3_inb i k))
  have v2 := mat_real (φ := .bf16) (rdK_real hin.v (show 2 < 4 by decide) hC (k0_off3_eq i k) (k0_off3_inb i k))
  have q3 := mat_real (φ := .bf16) (rdQ_real hin.q (show 3 < 4 by decide) inb_S4x512x64_S1x512x64_3_0_0)
  have g3 := half_real (rdQ_real32 hin.g (show 3 < 4 by decide) inb_S4x512x64_S1x512x64_3_0_0)
  have t3 := col_real (rdT_real hin.t (show 3 < 4 by decide) inb_S4x512x1_S1x512x1_3_0_0)
  have k3 := mat_real (φ := .bf16) (rdK_real hin.k (show 3 < 4 by decide) hC (k0_off4_eq i k) (k0_off4_inb i k))
  have v3 := mat_real (φ := .bf16) (rdK_real hin.v (show 3 < 4 by decide) hC (k0_off4_eq i k) (k0_off4_inb i k))
  refine ⟨?_, ?_, ?_⟩
  · rw [tripR, show 512 * (k.val + 1) = 512 * k.val + 512 by ring]
    exact ⟨head_step hRC q0 k0 v0 g0 t0 a0,
      head_step hRC q1 k1 v1 g1 t1 a1,
      head_step hRC q2 k2 v2 g2 t2 a2,
      head_step hRC q3 k3 v3 g3 t3 a3⟩
  · rw [trip7]
    have p0 := push_real (a := a7) (b := kShare Q K V G R) (h := 0) (by decide) hC (k0_off1_eq i k) (f := f7) (L := []) (by rw [upTo_zero]; exact h7) (k0_off1_inb i k)
      (d_off hRC q0 k0 v0 g0 a0.1 t0 a0.2.1) q0 (fun _ _ => rfl) (.inr h7)
    have p1 := push_real (a := a7) (b := kShare Q K V G R) (h := 1) (by decide) hC (k0_off2_eq i k) p0 (k0_off2_inb i k)
      (d_off hRC q1 k1 v1 g1 a1.1 t1 a1.2.1) q1 (fun _ _ => rfl) (.inr h7)
    have p2 := push_real (a := a7) (b := kShare Q K V G R) (h := 2) (by decide) hC (k0_off3_eq i k) p1 (k0_off3_inb i k)
      (d_off hRC q2 k2 v2 g2 a2.1 t2 a2.2.1) q2 (fun _ _ => rfl) (.inr h7)
    have p3 := push_real (a := a7) (b := kShare Q K V G R) (h := 3) (by decide) hC (k0_off4_eq i k) p2 (k0_off4_inb i k)
      (d_off hRC q3 k3 v3 g3 a3.1 t3 a3.2.1) q3 (fun _ _ => rfl) (.inr h7)
    exact p3.congr fun h r d hh _ _ => by unfold upTo; rw [if_pos (by omega)]
  · rw [trip8]
    have p0 := push_real (a := a8) (b := vShare Q K G R) (h := 0) (by decide) hC (k0_off1_eq i k) (f := f8) (L := []) (by rw [upTo_zero]; exact h8) (k0_off1_inb i k)
      (w_off hRC q0 k0 a0.1 t0) g0 (fun _ _ => rfl) (.inr h8)
    have p1 := push_real (a := a8) (b := vShare Q K G R) (h := 1) (by decide) hC (k0_off2_eq i k) p0 (k0_off2_inb i k)
      (w_off hRC q1 k1 a1.1 t1) g1 (fun _ _ => rfl) (.inr h8)
    have p2 := push_real (a := a8) (b := vShare Q K G R) (h := 2) (by decide) hC (k0_off3_eq i k) p1 (k0_off3_inb i k)
      (w_off hRC q2 k2 a2.1 t2) g2 (fun _ _ => rfl) (.inr h8)
    have p3 := push_real (a := a8) (b := vShare Q K G R) (h := 3) (by decide) hC (k0_off4_eq i k) p2 (k0_off4_inb i k)
      (w_off hRC q3 k3 a3.1 t3) g3 (fun _ _ => rfl) (.inr h8)
    exact p3.congr fun h r d hh _ _ => by unfold upTo; rw [if_pos (by omega)]

end Point

end Cert.Sb

end
-- ==== Proof.Point.lean ====
module

public import proofs.«01_k».proof.Proof.Loop

/-!
# One grid point on real operands

After the loop and the tile on the diagonal, the two key gradients have gained the whole share of the point's query tile, and
the query gradients of the tile are complete: beyond the diagonal every weight is zero.
-/

@[expose] public section

set_option maxRecDepth 16384

noncomputable section

namespace Cert.Sb

open Idealize.ShloMosaic Idealize.ShloMosaic.TcCoe Idealize.ShloMosaic.ValueIdx Cert.KernelIdeal Cert.KernelIdeal.Gen Finset
open scoped BigOperators

variable {Q K V G : ℕ → ℕ → ℕ → ℝ}

/-- `a` with `b` added to the rows below `C`. -/
def part (a : ℕ → ℕ → ℕ → ℝ) (C : ℕ) (b : ℕ → ℕ → ℕ → ℝ) (h s d : ℕ) : ℝ := a h s d + if s < C then b h s d else 0

theorem part_zero (a b : ℕ → ℕ → ℕ → ℝ) : part a 0 b = a := by
  funext h s d; unfold part; rw [if_neg (Nat.not_lt_zero _), add_zero]

theorem bump_part (a b : ℕ → ℕ → ℕ → ℝ) (C : ℕ) : bump (part a C b) C b = part a (C + 512) b := by
  funext h s d
  unfold bump part
  rw [add_assoc]
  congr 1
  by_cases h1 : s < C
  · rw [if_pos h1, if_neg (by omega), if_pos (by omega), add_zero]
  · by_cases h2 : s < C + 512
    · rw [if_neg h1, if_pos (by omega), if_pos h2, zero_add]
    · rw [if_neg h1, if_neg (by omega), if_neg h2, zero_add]

theorem part_kShare (a : ℕ → ℕ → ℕ → ℝ) (R h s d : ℕ) : part a (R + 512) (kShare Q K V G R) h s d = a h s d + kShare Q K V G R h s d := by
  unfold part
  split
  · rfl
  · rename_i hs
    congr 1
    refine (sum_eq_zero fun t ht => ?_).symm
    rw [mem_range] at ht
    rw [dr_of_le _ _ _ _ (show R + t ≤ s by omega), zero_mul]

theorem part_vShare (a : ℕ → ℕ → ℕ → ℝ) (R h s d : ℕ) : part a (R + 512) (vShare Q K G R) h s d = a h s d + vShare Q K G R h s d := by
  unfold part
  split
  · rfl
  · rename_i hs
    congr 1
    refine (sum_eq_zero fun t ht => ?_).symm
    rw [mem_range] at ht
    rw [wr_of_le _ _ (show R + t ≤ s by omega), zero_mul]

theorem zero_col : Is2 (k0_pay128 (F := Ideal)) (fun _ _ => 0) := fun r c => Ideal.ofBits_zero_f32

theorem carry_zero (R : ℕ) : CarryOk Q K V G R 0 (init0 (F := Ideal)) := by
  have h : ∀ h : ℕ, ∀ dq : FVec Ideal S512x64 .f32, Is2 dq (fun _ _ => 0) → HeadOk Q K V G h R 0 k0_pay128 k0_pay128 dq := fun h dq hd =>
    ⟨zero_col.congr fun _ _ _ _ => (sum_range_zero _).symm, zero_col.congr fun _ _ _ _ => (sum_range_zero _).symm,
      hd.congr fun _ _ _ _ => (sum_range_zero _).symm⟩
  exact ⟨h 0 _ fun _ _ => Ideal.ofBits_zero_f32, h 1 _ fun _ _ => Ideal.ofBits_zero_f32, h 2 _ fun _ _ => Ideal.ofBits_zero_f32,
    h 3 _ fun _ _ => Ideal.ofBits_zero_f32⟩

section Point

variable {c : Dev nD} {i : grid0.Coords}
  {arg1 : Memref sig .tc .vmem S4x512x64 .bf16} {harg1 : arg1.IsWhole}
  {arg2 : Memref sig .tc .vmem S4x2048x64 .bf16} {harg2 : arg2.IsWhole}
  {arg3 : Memref sig .tc .vmem S4x2048x64 .bf16} {harg3 : arg3.IsWhole}
  {arg4 : Memref sig .tc .vmem S4x512x1 .f32} {harg4 : arg4.IsWhole}
  {arg5 : Memref sig .tc .vmem S4x512x64 .f32} {harg5 : arg5.IsWhole}
  {arg6 : Memref sig .tc .vmem S4x512x64 .f32} {harg6 : arg6.IsWhole}
  {arg7 : Memref sig .tc .vmem S4x2048x64 .f32} {harg7 : arg7.IsWhole}
  {arg8 : Memref sig .tc .vmem S4x2048x64 .f32} {harg8 : arg8.IsWhole}
  {X1 : arg1.view.ty.Contents (Elt Ideal)} {X2 : arg2.view.ty.Contents (Elt Ideal)} {X3 : arg3.view.ty.Contents (Elt Ideal)} {X4 : arg4.view.ty.Contents (Elt Ideal)} {X5 : arg5.view.ty.Contents (Elt Ideal)}

/-- The loop's invariant. -/
theorem loop_real {R : ℕ} (hR : R = 512 * (i 0).val) (hin : InOk arg1 arg2 arg3 arg4 arg5 X1 X2 X3 X4 X5 Q K V G R)
    {G7 : arg7.view.ty.Contents (Elt Ideal)} {G8 : arg8.view.ty.Contents (Elt Ideal)} {a7 a8 : ℕ → ℕ → ℕ → ℝ}
    (h7 : IsA (arg7.view.read (Elt Ideal) G7) a7) (h8 : IsA (arg8.view.read (Elt Ideal) G8) a8) (k : ℕ) (hk : k ≤ (i 0).val) :
    CarryOk Q K V G R (512 * k) (st_k0_t1 Variants.none c none i arg1 harg1 arg2 harg2 arg3 harg3 arg4 harg4 arg5 harg5 arg6 harg6 arg7 harg7 arg8 harg8 X1 X2 X3 X4 X5 G7 G8 init0 k).1
    ∧ IsA (arg7.view.read (Elt Ideal) (arg7.view.writes (Elt Ideal) G7 (st_k0_t1 Variants.none c none i arg1 harg1 arg2 harg2 arg3 harg3 arg4 harg4 arg5 harg5 arg6 harg6 arg7 harg7 arg8 harg8 X1 X2 X3 X4 X5 G7 G8 init0 k).2.1)) (part a7 (512 * k) (kShare Q K V G R))
    ∧ IsA (arg8.view.read (Elt Ideal) (arg8.view.writes (Elt Ideal) G8 (st_k0_t1 Variants.none c none i arg1 harg1 arg2 harg2 arg3 harg3 arg4 harg4 arg5 harg5 arg6 harg6 arg7 harg7 arg8 harg8 X1 X2 X3 X4 X5 G7 G8 init0 k).2.2)) (part a8 (512 * k) (vShare Q K G R)) := by
  induction k with
  | zero => exact ⟨carry_zero R, by rw [Nat.mul_zero, part_zero]; exact h7, by rw [Nat.mul_zero, part_zero]; exact h8⟩
  | succ k ih =>
    obtain ⟨i1, i2, i3⟩ := ih (by omega)
    have hk' : k < (k0_t1_loop i).trips := lt_of_lt_of_eq (show k < (i 0).val by omega) (trips_eq i).symm
    obtain ⟨j1, j2, j3⟩ := trip_real (c := c) (harg1 := harg1) (harg2 := harg2) (harg3 := harg3) (harg4 := harg4) (harg5 := harg5)
      (arg6 := arg6) (harg6 := harg6) (harg7 := harg7) (harg8 := harg8) hR hin ⟨k, hk'⟩ i1 i2 i3
    have e := st_k0_t1_succ (F := Ideal) Variants.none c none i arg1 harg1 arg2 harg2 arg3 harg3 arg4 harg4 arg5 harg5 arg6 harg6 arg7 harg7 arg8 harg8 X1 X2 X3 X4 X5 G7 G8 init0 ⟨k, hk'⟩
    rw [show ((⟨k, hk'⟩ : Fin (k0_t1_loop i).trips).val + 1) = k + 1 from rfl] at e
    rw [e]
    refine ⟨j1, ?_, ?_⟩
    · rw [View.writes_append, Nat.mul_succ, ← bump_part]; exact j2
    · rw [View.writes_append, Nat.mul_succ, ← bump_part]; exact j3

/-- The second loop makes no trip. -/
theorem loop2_eq (v : BitVec 32) (H7 : arg7.view.ty.Contents (Elt Ideal)) (H8 : arg8.view.ty.Contents (Elt Ideal)) (acc : Carry Ideal) :
    loop2 c i arg1 harg1 arg2 harg2 arg3 harg3 arg4 harg4 arg5 harg5 arg6 harg6 arg7 harg7 arg8 harg8 X1 X2 X3 X4 X5 v H7 H8 acc = (acc, [], []) := by
  have h : Scf.trips (k0_t2_loop i).lb (k0_t2_loop i).ub (k0_t2_loop i).st = 0 := Nat.le_zero.1 (k0_t2_abs i).2.1
  unfold loop2
  rw [h]
  rfl

/-- The key gradient after the tile on the diagonal. -/
theorem diag7_real {R : ℕ} (hR : R = 512 * (i 0).val) (hin : InOk arg1 arg2 arg3 arg4 arg5 X1 X2 X3 X4 X5 Q K V G R)
    {acc : Carry Ideal} (hacc : CarryOk Q K V G R R acc) {f : arg7.view.ty.Contents (Elt Ideal)} {L : Pieces Ideal} {a : ℕ → ℕ → ℕ → ℝ}
    (hL : IsA (arg7.view.read (Elt Ideal) (arg7.view.writes (Elt Ideal) f L)) (part a R (kShare Q K V G R))) :
    IsA (arg7.view.read (Elt Ideal) (arg7.view.writes (Elt Ideal) f (diag7 i arg1 arg2 arg3 arg4 arg5 arg7 X1 X2 X3 X4 X5 f acc L)))
      (fun h s d => a h s d + kShare Q K V G R h s d) := by
  have hi : (i 0).val < 4 := (i 0).isLt
  have hC : R + 512 ≤ 2048 := by omega
  obtain ⟨a0, a1, a2, a3⟩ := hacc
  have o0 : k0_off9 i = ![0, R, 0] := (k0_off9_eq i).trans (by rw [hR])
  have q0 := mat_real (φ := .bf16) (rdQ_real hin.q (show 0 < 4 by decide) inb_S4x512x64_S1x512x64_0_0_0)
  have g0 := half_real (rdQ_real32 hin.g (show 0 < 4 by decide) inb_S4x512x64_S1x512x64_0_0_0)
  have t0 := col_real (rdT_real hin.t (show 0 < 4 by decide) inb_S4x512x1_S1x512x1_0_0_0)
  have k0 := mat_real (φ := .bf16) (rdK_real hin.k (show 0 < 4 by decide) hC o0 (k0_off9_inb i))
  have v0 := mat_real (φ := .bf16) (rdK_real hin.v (show 0 < 4 by decide) hC o0 (k0_off9_inb i))
  have o1 : k0_off10 i = ![1, R, 0] := (k0_off10_eq i).trans (by rw [hR])
  have q1 := mat_real (φ := .bf16) (rdQ_real hin.q (show 1 < 4 by decide) inb_S4x512x64_S1x512x64_1_0_0)
  have g1 := half_real (rdQ_real32 hin.g (show 1 < 4 by decide) inb_S4x512x64_S1x512x64_1_0_0)
  have t1 := col_real (rdT_real hin.t (show 1 < 4 by decide) inb_S4x512x1_S1x512x1_1_0_0)
  have k1 := mat_real (φ := .bf16) (rdK_real hin.k (show 1 < 4 by decide) hC o1 (k0_off10_inb i))
  have v1 := mat_real (φ := .bf16) (rdK_real hin.v (show 1 < 4 by decide) hC o1 (k0_off10_inb i))
  have o2 : k0_off11 i = ![2, R, 0] := (k0_off11_eq i).trans (by rw [hR])
  have q2 := mat_real (φ := .bf16) (rdQ_real hin.q (show 2 < 4 by decide) inb_S4x512x64_S1x512x64_2_0_0)
  have g2 := half_real (rdQ_real32 hin.g (show 2 < 4 by decide) inb_S4x512x64_S1x512x64_2_0_0)
  have t2 := col_real (rdT_real hin.t (show 2 < 4 by decide) inb_S4x512x1_S1x512x1_2_0_0)
  have k2 := mat_real (φ := .bf16) (rdK_real hin.k (show 2 < 4 by decide) hC o2 (k0_off11_inb i))
  have v2 := mat_real (φ := .bf16) (rdK_real hin.v (show 2 < 4 by decide) hC o2 (k0_off11_inb i))
  have o3 : k0_off12 i = ![3, R, 0] := (k0_off12_eq i).trans (by rw [hR])
  have q3 := mat_real (φ := .bf16) (rdQ_real hin.q (show 3 < 4 by decide) inb_S4x512x64_S1x512x64_3_0_0)
  have g3 := half_real (rdQ_real32 hin.g (show 3 < 4 by decide) inb_S4x512x64_S1x512x64_3_0_0)
  have t3 := col_real (rdT_real hin.t (show 3 < 4 by decide) inb_S4x512x1_S1x512x1_3_0_0)
  have k3 := mat_real (φ := .bf16) (rdK_real hin.k (show 3 < 4 by decide) hC o3 (k0_off12_inb i))
  have v3 := mat_real (φ := .bf16) (rdK_real hin.v (show 3 < 4 by decide) hC o3 (k0_off12_inb i))
  have p0 := push_real (a := part a R (kShare Q K V G R)) (b := kShare Q K V G R) (h := 0) (by decide) hC o0 (by rw [upTo_zero]; exact hL)
    (k0_off9_inb i) (d_diag q0 k0 v0 g0 a0.1 t0 a0.2.1) q0 (fun _ _ => rfl) (.inr hL)
  have p1 := push_real (h := 1) (by decide) hC o1 p0 (k0_off10_inb i) (d_diag q1 k1 v1 g1 a1.1 t1 a1.2.1) q1 (fun _ _ => rfl) (.inl p0)
  have p2 := push_real (h := 2) (by decide) hC o2 p1 (k0_off11_inb i) (d_diag q2 k2 v2 g2 a2.1 t2 a2.2.1) q2 (fun _ _ => rfl) (.inl p1)
  have p3 := push_real (h := 3) (by decide) hC o3 p2 (k0_off12_inb i) (d_diag q3 k3 v3 g3 a3.1 t3 a3.2.1) q3 (fun _ _ => rfl) (.inl p2)
  refine IsA.congr p3 fun h r d hh _ _ => ?_
  unfold upTo
  rw [if_pos (by omega), bump_part, part_kShare]

theorem diag8_real {R : ℕ} (hR : R = 512 * (i 0).val) (hin : InOk arg1 arg2 arg3 arg4 arg5 X1 X2 X3 X4 X5 Q K V G R)
    {acc : Carry Ideal} (hacc : CarryOk Q K V G R R acc) {f : arg8.view.ty.Contents (Elt Ideal)} {L : Pieces Ideal} {a : ℕ → ℕ → ℕ → ℝ}
    (hL : IsA (arg8.view.read (Elt Ideal) (arg8.view.writes (Elt Ideal) f L)) (part a R (vShare Q K G R))) :
    IsA (arg8.view.read (Elt Ideal) (arg8.view.writes (Elt Ideal) f (diag8 i arg1 arg2 arg4 arg5 arg8 X1 X2 X4 X5 f acc L)))
      (fun h s d => a h s d + vShare Q K G R h s d) := by
  have hi : (i 0).val < 4 := (i 0).isLt
  have hC : R + 512 ≤ 2048 := by omega
  obtain ⟨a0, a1, a2, a3⟩ := hacc
  have o0 : k0_off9 i = ![0, R, 0] := (k0_off9_eq i).trans (by rw [hR])
  have q0 := mat_real (φ := .bf16) (rdQ_real hin.q (show 0 < 4 by decide) inb_S4x512x64_S1x512x64_0_0_0)
  have g0 := half_real (rdQ_real32 hin.g (show 0 < 4 by decide) inb_S4x512x64_S1x512x64_0_0_0)
  have t0 := col_real (rdT_real hin.t (show 0 < 4 by decide) inb_S4x512x1_S1x512x1_0_0_0)
  have k0 := mat_real (φ := .bf16) (rdK_real hin.k (show 0 < 4 by decide) hC o0 (k0_off9_inb i))
  have v0 := mat_real (φ := .bf16) (rdK_real hin.v (show 0 < 4 by decide) hC o0 (k0_off9_inb i))
  have o1 : k0_off10 i = ![1, R, 0] := (k0_off10_eq i).trans (by rw [hR])
  have q1 := mat_real (φ := .bf16) (rdQ_real hin.q (show 1 < 4 by decide) inb_S4x512x64_S1x512x64_1_0_0)
  have g1 := half_real (rdQ_real32 hin.g (show 1 < 4 by decide) inb_S4x512x64_S1x512x64_1_0_0)
  have t1 := col_real (rdT_real hin.t (show 1 < 4 by decide) inb_S4x512x1_S1x512x1_1_0_0)
  have k1 := mat_real (φ := .bf16) (rdK_real hin.k (show 1 < 4 by decide) hC o1 (k0_off10_inb i))
  have v1 := mat_real (φ := .bf16) (rdK_real hin.v (show 1 < 4 by decide) hC o1 (k0_off10_inb i))
  have o2 : k0_off11 i = ![2, R, 0] := (k0_off11_eq i).trans (by rw [hR])
  have q2 := mat_real (φ := .bf16) (rdQ_real hin.q (show 2 < 4 by decide) inb_S4x512x64_S1x512x64_2_0_0)
  have g2 := half_real (rdQ_real32 hin.g (show 2 < 4 by decide) inb_S4x512x64_S1x512x64_2_0_0)
  have t2 := col_real (rdT_real hin.t (show 2 < 4 by decide) inb_S4x512x1_S1x512x1_2_0_0)
  have k2 := mat_real (φ := .bf16) (rdK_real hin.k (show 2 < 4 by decide) hC o2 (k0_off11_inb i))
  have v2 := mat_real (φ := .bf16) (rdK_real hin.v (show 2 < 4 by decide) hC o2 (k0_off11_inb i))
  have o3 : k0_off12 i = ![3, R, 0] := (k0_off12_eq i).trans (by rw [hR])
  have q3 := mat_real (φ := .bf16) (rdQ_real hin.q (show 3 < 4 by decide) inb_S4x512x64_S1x512x64_3_0_0)
  have g3 := half_real (rdQ_real32 hin.g (show 3 < 4 by decide) inb_S4x512x64_S1x512x64_3_0_0)
  have t3 := col_real (rdT_real hin.t (show 3 < 4 by decide) inb_S4x512x1_S1x512x1_3_0_0)
  have k3 := mat_real (φ := .bf16) (rdK_real hin.k (show 3 < 4 by decide) hC o3 (k0_off12_inb i))
  have v3 := mat_real (φ := .bf16) (rdK_real hin.v (show 3 < 4 by decide) hC o3 (k0_off12_inb i))
  have p0 := push_real (a := part a R (vShare Q K G R)) (b := vShare Q K G R) (h := 0) (by decide) hC o0 (by rw [upTo_zero]; exact hL)
    (k0_off9_inb i) (w_diag q0 k0 a0.1 t0) g0 (fun _ _ => rfl) (.inr hL)
  have p1 := push_real (h := 1) (by decide) hC o1 p0 (k0_off10_inb i) (w_diag q1 k1 a1.1 t1) g1 (fun _ _ => rfl) (.inl p0)
  have p2 := push_real (h := 2) (by decide) hC o2 p1 (k0_off11_inb i) (w_diag q2 k2 a2.1 t2) g2 (fun _ _ => rfl) (.inl p1)
  have p3 := push_real (h := 3) (by decide) hC o3 p2 (k0_off12_inb i) (w_diag q3 k3 a3.1 t3) g3 (fun _ _ => rfl) (.inl p2)
  refine IsA.congr p3 fun h r d hh _ _ => ?_
  unfold upTo
  rw [if_pos (by omega), bump_part, part_vShare]

theorem outDq_real {x : FVec Ideal S512x64 .f32} {a : ℕ → ℕ → ℝ} (hx : Is2 x a) : Is3 (outDq x) (fun r d => a r d * (1 / 8)) := fun r c => by
  refine (unmat_apply _ r c).trans ?_
  show x (ix2 r c) * Ideal.ofBits .f32 0x3E000000#32 = _
  rw [hx r c, ofBits_eighth, ← EReal.coe_mul]

/-- The query gradient of head `h` at query `t`. -/
def qGrad (Q K V G : ℕ → ℕ → ℕ → ℝ) (h t d : ℕ) : ℝ := (∑ s ∈ range 2048, dr (Q h) (K h) (V h) (G h) t s * K h s d) * (1 / 8)

theorem dq_diag {h R : ℕ} (hR : R + 512 ≤ 2048) {q k v g : FVec Ideal S512x64 .bf16} {l cl tot : FVec Ideal S512x1 .f32} {dq : FVec Ideal S512x64 .f32}
    (hq : Is2 q (fun r d => Q h (R + r) d)) (hk : Is2 k (fun c d => K h (R + c) d)) (hv : Is2 v (fun c d => V h (R + c) d))
    (hg : Is2 g (fun r d => G h (R + r) d)) (ht : Is2 tot (fun r _ => tr (Q h) (K h) (R + r))) (ho : HeadOk Q K V G h R R l cl dq) :
    Is3 (outDq (accN dq (dDiag q k v g l cl tot) k)) (fun r d => qGrad Q K V G h (R + r) d) :=
  (outDq_real ((accN_real ho.2.2 (d_diag hq hk hv hg ho.1 ht ho.2.1) hk))).congr fun r d hr _ => by
    unfold qGrad
    congr 1
    rw [← sum_range_add (fun s => dr (Q h) (K h) (V h) (G h) (R + r) s * K h s d) R 512]
    obtain ⟨n, hn⟩ := Nat.exists_eq_add_of_le hR
    rw [hn, sum_range_add _ (R + 512) n, left_eq_add]
    exact sum_eq_zero fun j _ => by rw [dr_of_le _ _ _ _ (show R + r ≤ R + 512 + j by omega), zero_mul]

theorem diag6_real {R : ℕ} (hR : R = 512 * (i 0).val) (hin : InOk arg1 arg2 arg3 arg4 arg5 X1 X2 X3 X4 X5 Q K V G R)
    {acc : Carry Ideal} (hacc : CarryOk Q K V G R R acc) (v : View sig .tc .vmem S4x512x64 .f32) (f : v.ty.Contents (Elt Ideal)) :
    IsA (v.read (Elt Ideal) (v.writes (Elt Ideal) f (diag6 i arg1 arg2 arg3 arg4 arg5 X1 X2 X3 X4 X5 acc)))
      (fun h r d => qGrad Q K V G h (R + r) d) := fun h r d => by
  have hi : (i 0).val < 4 := (i 0).isLt
  have hC : R + 512 ≤ 2048 := by omega
  obtain ⟨a0, a1, a2, a3⟩ := hacc
  have o0 : k0_off9 i = ![0, R, 0] := (k0_off9_eq i).trans (by rw [hR])
  have q0 := mat_real (φ := .bf16) (rdQ_real hin.q (show 0 < 4 by decide) inb_S4x512x64_S1x512x64_0_0_0)
  have g0 := half_real (rdQ_real32 hin.g (show 0 < 4 by decide) inb_S4x512x64_S1x512x64_0_0_0)
  have t0 := col_real (rdT_real hin.t (show 0 < 4 by decide) inb_S4x512x1_S1x512x1_0_0_0)
  have k0 := mat_real (φ := .bf16) (rdK_real hin.k (show 0 < 4 by decide) hC o0 (k0_off9_inb i))
  have v0 := mat_real (φ := .bf16) (rdK_real hin.v (show 0 < 4 by decide) hC o0 (k0_off9_inb i))
  have o1 : k0_off10 i = ![1, R, 0] := (k0_off10_eq i).trans (by rw [hR])
  have q1 := mat_real (φ := .bf16) (rdQ_real hin.q (show 1 < 4 by decide) inb_S4x512x64_S1x512x64_1_0_0)
  have g1 := half_real (rdQ_real32 hin.g (show 1 < 4 by decide) inb_S4x512x64_S1x512x64_1_0_0)
  have t1 := col_real (rdT_real hin.t (show 1 < 4 by decide) inb_S4x512x1_S1x512x1_1_0_0)
  have k1 := mat_real (φ := .bf16) (rdK_real hin.k (show 1 < 4 by decide) hC o1 (k0_off10_inb i))
  have v1 := mat_real (φ := .bf16) (rdK_real hin.v (show 1 < 4 by decide) hC o1 (k0_off10_inb i))
  have o2 : k0_off11 i = ![2, R, 0] := (k0_off11_eq i).trans (by rw [hR])
  have q2 := mat_real (φ := .bf16) (rdQ_real hin.q (show 2 < 4 by decide) inb_S4x512x64_S1x512x64_2_0_0)
  have g2 := half_real (rdQ_real32 hin.g (show 2 < 4 by decide) inb_S4x512x64_S1x512x64_2_0_0)
  have t2 := col_real (rdT_real hin.t (show 2 < 4 by decide) inb_S4x512x1_S1x512x1_2_0_0)
  have k2 := mat_real (φ := .bf16) (rdK_real hin.k (show 2 < 4 by decide) hC o2 (k0_off11_inb i))
  have v2 := mat_real (φ := .bf16) (rdK_real hin.v (show 2 < 4 by decide) hC o2 (k0_off11_inb i))
  have o3 : k0_off12 i = ![3, R, 0] := (k0_off12_eq i).trans (by rw [hR])
  have q3 := mat_real (φ := .bf16) (rdQ_real hin.q (show 3 < 4 by decide) inb_S4x512x64_S1x512x64_3_0_0)
  have g3 := half_real (rdQ_real32 hin.g (show 3 < 4 by decide) inb_S4x512x64_S1x512x64_3_0_0)
  have t3 := col_real (rdT_real hin.t (show 3 < 4 by decide) inb_S4x512x1_S1x512x1_3_0_0)
  have k3 := mat_real (φ := .bf16) (rdK_real hin.k (show 3 < 4 by decide) hC o3 (k0_off12_inb i))
  have v3 := mat_real (φ := .bf16) (rdK_real hin.v (show 3 < 4 by decide) hC o3 (k0_off12_inb i))
  unfold diag6
  have hr := r.isLt
  match h with
  | ⟨0, _⟩ =>
    rw [store_at v f (h := 3) (R := 0) rfl, dif_neg (by simp)]
    rw [store_at v f (h := 2) (R := 0) rfl, dif_neg (by simp)]
    rw [store_at v f (h := 1) (R := 0) rfl, dif_neg (by simp)]
    rw [store_at v f (h := 0) (R := 0) rfl, dif_pos ⟨rfl, Nat.zero_le _, by omega⟩]
    exact dq_diag hC q0 k0 v0 g0 t0 a0 _ d
  | ⟨1, _⟩ =>
    rw [store_at v f (h := 3) (R := 0) rfl, dif_neg (by simp)]
    rw [store_at v f (h := 2) (R := 0) rfl, dif_neg (by simp)]
    rw [store_at v f (h := 1) (R := 0) rfl, dif_pos ⟨rfl, Nat.zero_le _, by omega⟩]
    exact dq_diag hC q1 k1 v1 g1 t1 a1 _ d
  | ⟨2, _⟩ =>
    rw [store_at v f (h := 3) (R := 0) rfl, dif_neg (by simp)]
    rw [store_at v f (h := 2) (R := 0) rfl, dif_pos ⟨rfl, Nat.zero_le _, by omega⟩]
    exact dq_diag hC q2 k2 v2 g2 t2 a2 _ d
  | ⟨3, _⟩ =>
    rw [store_at v f (h := 3) (R := 0) rfl, dif_pos ⟨rfl, Nat.zero_le _, by omega⟩]
    exact dq_diag hC q3 k3 v3 g3 t3 a3 _ d

end Point

end Cert.Sb

end
-- ==== Proof.Outs.lean ====
module

public import proofs.«01_k».proof.Proof.Point

/-!
# What the three outputs hold after each grid point

The query gradient of a point's tile is complete after the point. The other two gradients gain, point after point, the share
of the point's query tile; the first point starts them from zero.
-/

@[expose] public section

set_option maxRecDepth 16384

noncomputable section

namespace Cert.Sb

open Idealize.ShloMosaic Idealize.ShloMosaic.TcCoe Idealize.ShloMosaic.ValueIdx Cert.KernelIdeal Cert.KernelIdeal.Gen Finset
open scoped BigOperators

variable {Q K V G : ℕ → ℕ → ℕ → ℝ}

/-- The five blocks of a point hold the real arrays; its queries begin at row `R`. -/
structure InBlk (x0 : Vec Ideal S4x512x64 .bf16) (x1 x2 : Vec Ideal S4x2048x64 .bf16) (x3 : Vec Ideal S4x512x1 .f32) (x4 : Vec Ideal S4x512x64 .f32)
    (Q K V G : ℕ → ℕ → ℕ → ℝ) (R : ℕ) : Prop where
  q : IsA x0 (fun h r d => Q h (R + r) d)
  k : IsA x1 K
  v : IsA x2 V
  t : IsA x3 (fun h r _ => tr (Q h) (K h) (R + r))
  g : IsA x4 (fun h r d => G h (R + r) d)

section Outs

variable {c : Dev nD} {i : grid0.Coords}
  {arg1 : Memref sig .tc .vmem S4x512x64 .bf16} {harg1 : arg1.IsWhole}
  {arg2 : Memref sig .tc .vmem S4x2048x64 .bf16} {harg2 : arg2.IsWhole}
  {arg3 : Memref sig .tc .vmem S4x2048x64 .bf16} {harg3 : arg3.IsWhole}
  {arg4 : Memref sig .tc .vmem S4x512x1 .f32} {harg4 : arg4.IsWhole}
  {arg5 : Memref sig .tc .vmem S4x512x64 .f32} {harg5 : arg5.IsWhole}
  {arg6 : Memref sig .tc .vmem S4x512x64 .f32} {harg6 : arg6.IsWhole}
  {arg7 : Memref sig .tc .vmem S4x2048x64 .f32} {harg7 : arg7.IsWhole}
  {arg8 : Memref sig .tc .vmem S4x2048x64 .f32} {harg8 : arg8.IsWhole}
  {x0 : Vec Ideal S4x512x64 .bf16} {x1 x2 : Vec Ideal S4x2048x64 .bf16} {x3 : Vec Ideal S4x512x1 .f32} {x4 : Vec Ideal S4x512x64 .f32}

theorem InBlk.ok {R : ℕ} (h : InBlk x0 x1 x2 x3 x4 Q K V G R) : InOk arg1 arg2 arg3 arg4 arg5 (harg1.unread x0) (harg2.unread x1) (harg3.unread x2) (harg4.unread x3) (harg5.unread x4) Q K V G R where
  q := by rw [harg1.read_unread]; exact h.q
  k := by rw [harg2.read_unread]; exact h.k
  v := by rw [harg3.read_unread]; exact h.v
  t := by rw [harg4.read_unread]; exact h.t
  g := by rw [harg5.read_unread]; exact h.g

/-- The loop over the tiles before the diagonal. -/
theorem loop1_real {R : ℕ} (hR : R = 512 * (i 0).val) (h : InBlk x0 x1 x2 x3 x4 Q K V G R)
    {G7 : arg7.view.ty.Contents (Elt Ideal)} {G8 : arg8.view.ty.Contents (Elt Ideal)} {a7 a8 : ℕ → ℕ → ℕ → ℝ}
    (h7 : IsA (arg7.view.read (Elt Ideal) G7) a7) (h8 : IsA (arg8.view.read (Elt Ideal) G8) a8) :
    CarryOk Q K V G R R (loop1 c i arg1 harg1 arg2 harg2 arg3 harg3 arg4 harg4 arg5 harg5 arg6 harg6 arg7 harg7 arg8 harg8 (harg1.unread x0) (harg2.unread x1) (harg3.unread x2) (harg4.unread x3) (harg5.unread x4) G7 G8).1
    ∧ IsA (arg7.view.read (Elt Ideal) (arg7.view.writes (Elt Ideal) G7 (loop1 c i arg1 harg1 arg2 harg2 arg3 harg3 arg4 harg4 arg5 harg5 arg6 harg6 arg7 harg7 arg8 harg8 (harg1.unread x0) (harg2.unread x1) (harg3.unread x2) (harg4.unread x3) (harg5.unread x4) G7 G8).2.1)) (part a7 R (kShare Q K V G R))
    ∧ IsA (arg8.view.read (Elt Ideal) (arg8.view.writes (Elt Ideal) G8 (loop1 c i arg1 harg1 arg2 harg2 arg3 harg3 arg4 harg4 arg5 harg5 arg6 harg6 arg7 harg7 arg8 harg8 (harg1.unread x0) (harg2.unread x1) (harg3.unread x2) (harg4.unread x3) (harg5.unread x4) G7 G8).2.2)) (part a8 R (vShare Q K G R)) := by
  have e := loop_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR (h.ok (arg1 := arg1) (harg1 := harg1) (arg2 := arg2) (harg2 := harg2) (arg3 := arg3) (harg3 := harg3) (arg4 := arg4) (harg4 := harg4) (arg5 := arg5) (harg5 := harg5)) h7 h8 (i 0).val le_rfl
  rw [← hR] at e
  have ht : Scf.trips (k0_t1_loop i).lb (k0_t1_loop i).ub (k0_t1_loop i).st = (i 0).val := trips_eq i
  unfold loop1
  rw [ht]
  exact e

theorem outB_5 {R : ℕ} (hR : R = 512 * (i 0).val) (h : InBlk x0 x1 x2 x3 x4 Q K V G R) (hc : ¬cond0_0 i) {xo6 xo7 : Vec Ideal S4x2048x64 .f32} {a7 a8 : ℕ → ℕ → ℕ → ℝ}
    (h7 : IsA xo6 a7) (h8 : IsA xo7 a8) :
    IsA (out0_B_5 c i arg1 harg1 arg2 harg2 arg3 harg3 arg4 harg4 arg5 harg5 arg6 harg6 arg7 harg7 arg8 harg8 hc x0 x1 x2 x3 x4 xo6 xo7) (fun h r d => qGrad Q K V G h (R + r) d) := by
  obtain ⟨e1, -, -⟩ := loop1_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR h (G7 := harg7.unread xo6) (G8 := harg8.unread xo7) (by rw [harg7.read_unread]; exact h7) (by rw [harg8.read_unread]; exact h8)
  unfold out0_B_5
  rw [runB_5]
  refine diag6_real hR (h.ok (arg1 := arg1) (harg1 := harg1) (arg2 := arg2) (harg2 := harg2) (arg3 := arg3) (harg3 := harg3) (arg4 := arg4) (harg4 := harg4) (arg5 := arg5) (harg5 := harg5)) ?_ VO0_5 _
  unfold s2B
  rw [loop2_eq]
  exact e1

theorem outB_6 {R : ℕ} (hR : R = 512 * (i 0).val) (h : InBlk x0 x1 x2 x3 x4 Q K V G R) (hc : ¬cond0_0 i) {xo6 xo7 : Vec Ideal S4x2048x64 .f32} {a7 a8 : ℕ → ℕ → ℕ → ℝ}
    (h7 : IsA xo6 a7) (h8 : IsA xo7 a8) :
    IsA (out0_B_6 c i arg1 harg1 arg2 harg2 arg3 harg3 arg4 harg4 arg5 harg5 arg6 harg6 arg7 harg7 arg8 harg8 hc x0 x1 x2 x3 x4 xo6 xo7) (fun h s d => a7 h s d + kShare Q K V G R h s d) := by
  obtain ⟨e1, e2, -⟩ := loop1_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR h (G7 := harg7.unread xo6) (G8 := harg8.unread xo7) (by rw [harg7.read_unread]; exact h7) (by rw [harg8.read_unread]; exact h8)
  unfold out0_B_6
  rw [runB_7]
  unfold s2B
  rw [loop2_eq]
  exact diag7_real hR (h.ok (arg1 := arg1) (harg1 := harg1) (arg2 := arg2) (harg2 := harg2) (arg3 := arg3) (harg3 := harg3) (arg4 := arg4) (harg4 := harg4) (arg5 := arg5) (harg5 := harg5)) e1 e2

theorem outB_7 {R : ℕ} (hR : R = 512 * (i 0).val) (h : InBlk x0 x1 x2 x3 x4 Q K V G R) (hc : ¬cond0_0 i) {xo6 xo7 : Vec Ideal S4x2048x64 .f32} {a7 a8 : ℕ → ℕ → ℕ → ℝ}
    (h7 : IsA xo6 a7) (h8 : IsA xo7 a8) :
    IsA (out0_B_7 c i arg1 harg1 arg2 harg2 arg3 harg3 arg4 harg4 arg5 harg5 arg6 harg6 arg7 harg7 arg8 harg8 hc x0 x1 x2 x3 x4 xo6 xo7) (fun h s d => a8 h s d + vShare Q K G R h s d) := by
  obtain ⟨e1, -, e2⟩ := loop1_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR h (G7 := harg7.unread xo6) (G8 := harg8.unread xo7) (by rw [harg7.read_unread]; exact h7) (by rw [harg8.read_unread]; exact h8)
  unfold out0_B_7
  rw [runB_8]
  unfold s2B
  rw [loop2_eq]
  exact diag8_real hR (h.ok (arg1 := arg1) (harg1 := harg1) (arg2 := arg2) (harg2 := harg2) (arg3 := arg3) (harg3 := harg3) (arg4 := arg4) (harg4 := harg4) (arg5 := arg5) (harg5 := harg5)) e1 e2

/-- A store of zeros over the whole array. -/
theorem zeroed {v : View sig .tc .vmem S4x2048x64 .f32} (f : v.ty.Contents (Elt Ideal)) {w : Vec Ideal S4x2048x64 .f32} (hw : ∀ j, w j = 0) :
    IsA (v.read (Elt Ideal) (v.writes (Elt Ideal) f [⟨Rect.unit (s := S4x2048x64) ![0, 0, 0] S4x2048x64.size inb_S4x2048x64_S4x2048x64_0_0_0, w⟩])) (fun _ _ _ => 0) := fun h r d => by
  have e : ∀ y, v.read (Elt Ideal) (v.writes (Elt Ideal) f [⟨Rect.unit (s := S4x2048x64) ![0, 0, 0] S4x2048x64.size inb_S4x2048x64_S4x2048x64_0_0_0, w⟩]) y = 0 := fun y =>
    View.read_writes_apply_of_pieces v f (fun _ => (0 : EReal)) _
      (fun p hp x => by rw [List.mem_singleton] at hp; subst hp; exact hw x) y
      ⟨_, List.mem_singleton_self _, View.mem_set_unit_zero (by decide) inb_S4x2048x64_S4x2048x64_0_0_0 y⟩
  exact e _

theorem zero124 (j : S4x2048x64.Idx) : k0_pay124 (F := Ideal) j = 0 := Ideal.ofBits_zero_f32
theorem zero125 (j : S4x2048x64.Idx) : k0_pay125 (F := Ideal) j = 0 := Ideal.ofBits_zero_f32

theorem outA_5 {R : ℕ} (hR : R = 512 * (i 0).val) (h : InBlk x0 x1 x2 x3 x4 Q K V G R) (hc : cond0_0 i) :
    IsA (out0_A_5 c i arg1 harg1 arg2 harg2 arg3 harg3 arg4 harg4 arg5 harg5 arg6 harg6 arg7 harg7 arg8 harg8 hc x0 x1 x2 x3 x4) (fun h r d => qGrad Q K V G h (R + r) d) := by
  obtain ⟨e1, -, -⟩ := loop1_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR h (zeroed (v := arg7.view) arg7.view.junk zero124) (zeroed (v := arg8.view) arg8.view.junk zero125)
  unfold out0_A_5
  rw [runA_5]
  refine diag6_real hR (h.ok (arg1 := arg1) (harg1 := harg1) (arg2 := arg2) (harg2 := harg2) (arg3 := arg3) (harg3 := harg3) (arg4 := arg4) (harg4 := harg4) (arg5 := arg5) (harg5 := harg5)) ?_ VO0_5 _
  unfold s2A
  rw [loop2_eq]
  exact e1

theorem outA_6 {R : ℕ} (hR : R = 512 * (i 0).val) (h : InBlk x0 x1 x2 x3 x4 Q K V G R) (hc : cond0_0 i) :
    IsA (out0_A_6 c i arg1 harg1 arg2 harg2 arg3 harg3 arg4 harg4 arg5 harg5 arg6 harg6 arg7 harg7 arg8 harg8 hc x0 x1 x2 x3 x4) (fun h s d => 0 + kShare Q K V G R h s d) := by
  obtain ⟨e1, e2, -⟩ := loop1_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR h (zeroed (v := arg7.view) arg7.view.junk zero124) (zeroed (v := arg8.view) arg8.view.junk zero125)
  unfold out0_A_6
  rw [View.read_writes_of_cover VO0_6 VO0_6.junk arg7.view arg7.view.junk _ (cover0_A_6 c i arg1 harg1 arg2 harg2 arg3 harg3 arg4 harg4 arg5 harg5 arg6 harg6 arg7 harg7 arg8 harg8 hc x0 x1 x2 x3 x4), runA_7]
  unfold s2A
  rw [loop2_eq]
  refine diag7_real hR (h.ok (arg1 := arg1) (harg1 := harg1) (arg2 := arg2) (harg2 := harg2) (arg3 := arg3) (harg3 := harg3) (arg4 := arg4) (harg4 := harg4) (arg5 := arg5) (harg5 := harg5)) e1 ?_
  show IsA (arg7.view.read (Elt Ideal) (arg7.view.writes (Elt Ideal) arg7.view.junk (_ ++ zero7))) _
  rw [View.writes_append]
  exact e2

theorem outA_7 {R : ℕ} (hR : R = 512 * (i 0).val) (h : InBlk x0 x1 x2 x3 x4 Q K V G R) (hc : cond0_0 i) :
    IsA (out0_A_7 c i arg1 harg1 arg2 harg2 arg3 harg3 arg4 harg4 arg5 harg5 arg6 harg6 arg7 harg7 arg8 harg8 hc x0 x1 x2 x3 x4) (fun h s d => 0 + vShare Q K G R h s d) := by
  obtain ⟨e1, -, e2⟩ := loop1_real (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) hR h (zeroed (v := arg7.view) arg7.view.junk zero124) (zeroed (v := arg8.view) arg8.view.junk zero125)
  unfold out0_A_7
  rw [View.read_writes_of_cover VO0_7 VO0_7.junk arg8.view arg8.view.junk _ (cover0_A_7 c i arg1 harg1 arg2 harg2 arg3 harg3 arg4 harg4 arg5 harg5 arg6 harg6 arg7 harg7 arg8 harg8 hc x0 x1 x2 x3 x4), runA_8]
  unfold s2A
  rw [loop2_eq]
  refine diag8_real hR (h.ok (arg1 := arg1) (harg1 := harg1) (arg2 := arg2) (harg2 := harg2) (arg3 := arg3) (harg3 := harg3) (arg4 := arg4) (harg4 := harg4) (arg5 := arg5) (harg5 := harg5)) e1 ?_
  show IsA (arg8.view.read (Elt Ideal) (arg8.view.writes (Elt Ideal) arg8.view.junk (_ ++ zero8))) _
  rw [View.writes_append]
  exact e2

end Outs

section Points

variable (m : (ℓ : Loc nD τ sig) → Buf (Elt Ideal) ℓ) (c : Dev nD)

/-- The blocks of every point hold the real arrays. -/
def InAll (Q K V G : ℕ → ℕ → ℕ → ℝ) : Prop :=
  ∀ t : Fin cfg0.N, InBlk (iblk m c 0 t) (iblk m c 1 t) (iblk m c 2 t) (iblk m c 3 t) (iblk m c 4 t) Q K V G (512 * t.val)

theorem N0_eq : cfg0.N = 4 := by decide

theorem coord_eq : ∀ t : Fin grid0.N, (grid0.coords t 0).val = t.val := by decide +kernel

variable {m c}

theorem pointA (h : InAll m c Q K V G) (t : Fin cfg0.N) (h0 : t.val % 4 = 0) (R : ℕ) (hR : R = 512 * (grid0.coords t 0).val) (hR' : R = 512 * t.val) :
    IsA (outsAt0 m c t.val t.isLt).1 (fun h r d => qGrad Q K V G h (R + r) d)
    ∧ IsA (outsAt0 m c t.val t.isLt).2.1 (fun h s d => 0 + kShare Q K V G R h s d)
    ∧ IsA (outsAt0 m c t.val t.isLt).2.2 (fun h s d => 0 + vShare Q K G R h s d) := by
  have hb := h t
  rw [← hR'] at hb
  rw [outsAt0_A m c t h0]
  dsimp only
  exact ⟨outA_5 hR hb _, outA_6 hR hb _, outA_7 hR hb _⟩

theorem pointB (h : InAll m c Q K V G) (t : Fin cfg0.N) (h0 : ¬t.val % 4 = 0) (R : ℕ) (hR : R = 512 * (grid0.coords t 0).val) (hR' : R = 512 * t.val) {a7 a8 : ℕ → ℕ → ℕ → ℝ}
    (h7 : IsA (outsAt0 m c (t.val - 1) (Nat.lt_of_le_of_lt (Nat.sub_le _ _) t.isLt)).2.1 a7)
    (h8 : IsA (outsAt0 m c (t.val - 1) (Nat.lt_of_le_of_lt (Nat.sub_le _ _) t.isLt)).2.2 a8) :
    IsA (outsAt0 m c t.val t.isLt).1 (fun h r d => qGrad Q K V G h (R + r) d)
    ∧ IsA (outsAt0 m c t.val t.isLt).2.1 (fun h s d => a7 h s d + kShare Q K V G R h s d)
    ∧ IsA (outsAt0 m c t.val t.isLt).2.2 (fun h s d => a8 h s d + vShare Q K G R h s d) := by
  have hb := h t
  rw [← hR'] at hb
  rw [outsAt0_B m c t h0]
  dsimp only
  exact ⟨outB_5 hR hb _ h7 h8, outB_6 hR hb _ h7 h8, outB_7 hR hb _ h7 h8⟩

/-- After point `n`: the tile's query gradients, and the shares of the query tiles up to `n`. -/
theorem outs_real (h : InAll m c Q K V G) : ∀ (n : ℕ) (hn : n < cfg0.N),
    IsA (outsAt0 m c n hn).1 (fun h r d => qGrad Q K V G h (512 * n + r) d)
    ∧ IsA (outsAt0 m c n hn).2.1 (fun h s d => ∑ t ∈ range (n + 1), kShare Q K V G (512 * t) h s d)
    ∧ IsA (outsAt0 m c n hn).2.2 (fun h s d => ∑ t ∈ range (n + 1), vShare Q K G (512 * t) h s d)
  | 0, hn => by
    obtain ⟨j1, j2, j3⟩ := pointA h ⟨0, hn⟩ rfl (512 * 0) (by rw [coord_eq]) rfl
    refine ⟨j1, j2.congr fun _ _ _ _ _ _ => ?_, j3.congr fun _ _ _ _ _ _ => ?_⟩
    · rw [sum_range_one, zero_add]
    · rw [sum_range_one, zero_add]
  | n + 1, hn => by
    have hN : cfg0.N = 4 := N0_eq
    obtain ⟨-, i2, i3⟩ := outs_real h n (Nat.lt_of_succ_lt hn)
    obtain ⟨j1, j2, j3⟩ := pointB h ⟨n + 1, hn⟩ (show ¬(n + 1) % 4 = 0 by omega) (512 * (n + 1)) (by rw [coord_eq]) rfl i2 i3
    refine ⟨j1, j2.congr fun _ _ _ _ _ _ => ?_, j3.congr fun _ _ _ _ _ _ => ?_⟩
    · rw [sum_range_succ _ (n + 1)]
    · rw [sum_range_succ _ (n + 1)]

end Points

end Cert.Sb

end
-- ==== Proof.Ref.lean ====
module

public import proofs.«01_k».proof.Proof.Gen.ReferenceIdeal.Run

/-!
# The reference's results by stages

The gradient of stick-breaking attention as the reference computes it, stage by stage: the scores, their soft plus, the sums
after and up to a key, the weights, the gradient of the scores and the three results.
-/

@[expose] public section

set_option maxRecDepth 16384

noncomputable section

namespace Cert.Sb.Ref

open Idealize.ShloMosaic Idealize.ShloMosaic.TcCoe Cert.ReferenceIdeal Cert.ReferenceIdeal.Gen

variable {F : FTy → Type} [FloatOps F]

/-- A constant for every pair of a query and a key. -/
def fill (w : BitVec 32) : FVec F S1x4x2048x2048 .f32 := broadcastInDim S1x4x2048x2048 ![] bcast_S_S1x4x2048x2048 (constant S_ .f32 w)

/-- Key before query. -/
def isBefore : IVec S1x4x2048x2048 1 :=
  broadcastInDim S1x4x2048x2048 ![2, 3] bcast_S2048x2048_S1x4x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def keep (x : FVec F S1x4x2048x2048 .f32) : FVec F S1x4x2048x2048 .f32 := select isBefore x (fill 0x00000000#32)

/-- The scores. -/
def score (q k : FVec F S1x2048x4x64 .f32) : FVec F S1x4x2048x2048 .f32 :=
  mulf (Host.dotGeneral dot_S1x2048x4x64_S1x2048x4x64_S1x4x2048x2048_3_3_1_1_02_02 none q k) (fill 0x3E000000#32)

/-- `log (1 + exp x)`. -/
def softplus (x : FVec F S1x4x2048x2048 .f32) : FVec F S1x4x2048x2048 .f32 :=
  select (cmpf .une (subf x (fill 0x00000000#32)) (subf x (fill 0x00000000#32))) (addf x (fill 0x00000000#32))
    (addf (maximumf x (fill 0x00000000#32)) (Host.log1p (Host.exp (Host.negf (Host.absf (subf x (fill 0x00000000#32)))))))

/-- The sigmoid, as `exp (x - softplus x)`. -/
def sigmoid (x : FVec F S1x4x2048x2048 .f32) : FVec F S1x4x2048x2048 .f32 :=
  Host.exp (subf (select (cmpf .oeq x (fill 0x7F800000#32)) (fill 0x00000000#32) x)
    (select (cmpf .oeq (softplus x) (fill 0x7F800000#32)) (fill 0x00000000#32) (softplus x)))

/-- The sum over this key and those after it. -/
def sumFrom (x : FVec F S1x4x2048x2048 .f32) : FVec F S1x4x2048x2048 .f32 :=
  Host.reduceWindowAdd ![1, 1, 1, 2048] ![1, 1, 1, 1] ![0, 0, 0, 0] ![0, 0, 0, 2047] x (broadcastInDim S_ ![] bcast_S_S_ (constant S_ .f32 0x00000000#32)) reduceWindows_S1x4x2048x2048_S1x4x2048x2048_w1s1p0_0_w1s1p0_0_w1s1p0_0_w2048s1p0_2047 h_S_

/-- The sum over this key and those before it. -/
def sumUpto (x : FVec F S1x4x2048x2048 .f32) : FVec F S1x4x2048x2048 .f32 :=
  Host.reduceWindowAdd ![1, 1, 1, 2048] ![1, 1, 1, 1] ![0, 0, 0, 2047] ![0, 0, 0, 0] x (broadcastInDim S_ ![] bcast_S_S_ (constant S_ .f32 0x00000000#32)) reduceWindows_S1x4x2048x2048_S1x4x2048x2048_w1s1p0_0_w1s1p0_0_w1s1p0_0_w2048s1p2047_0 h_S_

/-- The logarithm of the chance to pass a key over; zero for a key that is not before the query. -/
def logFail (z : FVec F S1x4x2048x2048 .f32) : FVec F S1x4x2048x2048 .f32 := keep (Host.negf (softplus (Host.negf (Host.negf z))))

/-- The weights before they are masked. -/
def weight (z : FVec F S1x4x2048x2048 .f32) : FVec F S1x4x2048x2048 .f32 :=
  Host.exp (addf (Host.negf (softplus (Host.negf z))) (subf (sumFrom (logFail z)) (logFail z)))

/-- The gradient of the result, the axes exchanged. -/
def outGrad (g : FVec F S1x2048x4x64 .f32) : FVec F S1x4x64x2048 .f32 := transpose S1x4x64x2048 [0, 2, 3, 1] g transposes_S1x2048x4x64_S1x4x64x2048_0_2_3_1

/-- The gradient of the logarithm of the weights. -/
def logGrad (z : FVec F S1x4x2048x2048 .f32) (v g : FVec F S1x2048x4x64 .f32) : FVec F S1x4x2048x2048 .f32 :=
  mulf (keep (Host.dotGeneral dot_S1x4x64x2048_S1x2048x4x64_S1x4x2048x2048_2_3_3_1_01_02 none (outGrad g) v)) (weight z)

/-- The gradient of the scores from the gradient of the logarithm of the weights. -/
def scoreGrad (z p : FVec F S1x4x2048x2048 .f32) : FVec F S1x4x2048x2048 .f32 :=
  mulf (addf (Host.negf (mulf (Host.negf p) (sigmoid (Host.negf z))))
    (Host.negf (Host.negf (mulf (Host.negf (keep (addf (Host.negf p) (sumUpto p)))) (sigmoid (Host.negf (Host.negf z))))))) (fill 0x3E000000#32)

/-- Head first, the first axis dropped. -/
def heads (x : FVec F S1x2048x4x64 .f32) : FVec F S4x2048x64 .f32 :=
  transpose S4x2048x64 [1, 0, 2] (shapeCast S2048x4x64 x shapeCasts_S1x2048x4x64_S2048x4x64) transposes_S2048x4x64_S4x2048x64_1_0_2

def gradQ (q k v g : FVec F S1x2048x4x64 .f32) : FVec F S4x2048x64 .f32 :=
  heads (transpose S1x2048x4x64 [0, 2, 1, 3] (Host.dotGeneral dot_S1x4x2048x2048_S1x2048x4x64_S1x4x2048x64_3_1_2_3_01_02 none
    (scoreGrad (score q k) (logGrad (score q k) v g)) k) transposes_S1x4x2048x64_S1x2048x4x64_0_2_1_3)

def gradK (q k v g : FVec F S1x2048x4x64 .f32) : FVec F S4x2048x64 .f32 :=
  heads (transpose S1x2048x4x64 [0, 2, 1, 3] (Host.dotGeneral dot_S1x4x2048x2048_S1x2048x4x64_S1x4x2048x64_2_1_3_3_01_02 none
    (scoreGrad (score q k) (logGrad (score q k) v g)) q) transposes_S1x4x2048x64_S1x2048x4x64_0_2_1_3)

def gradV (q k g : FVec F S1x2048x4x64 .f32) : FVec F S4x2048x64 .f32 :=
  heads (transpose S1x2048x4x64 [0, 3, 1, 2] (Host.dotGeneral dot_S1x4x64x2048_S1x4x2048x2048_S1x4x64x2048_3_2_2_3_01_01 none
    (outGrad g) (keep (weight (score q k)))) transposes_S1x4x64x2048_S1x2048x4x64_0_3_1_2)

variable (m : (ℓ : Loc nD τ sig) → Buf (Elt F) ℓ) (c : Dev nD)

theorem resQ : Cert.ReferenceIdeal.Value.res_main_v41 m c = gradQ (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v41; rfl

theorem resK : Cert.ReferenceIdeal.Value.res_main_v43 m c = gradK (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v43; rfl

theorem resV : Cert.ReferenceIdeal.Value.res_main_v45 m c = gradV (m ((c.tc : Thread nD τ).loc main_arg0)) (m ((c.tc : Thread nD τ).loc main_arg1)) (m ((c.tc : Thread nD τ).loc main_arg3)) := by
  unfold Cert.ReferenceIdeal.Value.res_main_v45; rfl

end Cert.Sb.Ref

end
-- ==== Proof.HostMath.lean ====
module

public import Idealize.ShloMosaic.Lib.MatmulPlain
public import Idealize.ShloMosaic.Lib.Pipeline.Value
public import Idealize.ShloMosaic.Lib.WordCmp
public import Idealize.ShloMosaic.Lib.IdealHost
public import proofs.«01_k».proof.Proof.Scalars

/-!
# Host operations on real operands

The soft plus and the sigmoid as a host program writes them, the comparison of two positions, a product with one contracted
axis and the two running sums along the last axis.
-/

@[expose] public section

set_option maxRecDepth 16384

noncomputable section

namespace Cert.Sb

open Idealize.ShloMosaic Idealize.ShloMosaic.ValueIdx Finset
open scoped BigOperators

/-- `log (1 + exp x)` as a host program computes it. -/
def splus (x : EReal) : EReal :=
  Scalar.select (Ideal.cmp .une (x - 0) (x - 0)) (x + 0) (max x 0 + Ideal.log1p (Ideal.exp (-(max (x - 0) (-(x - 0))))))

theorem splus_coe (x : ℝ) : splus (x : EReal) = ((-lfail x : ℝ) : EReal) := by
  unfold splus
  have h0 : (x : EReal) - 0 = (x : EReal) := sub_zero _
  rw [h0]
  have hc : Ideal.cmp .une (x : EReal) (x : EReal) = 0#1 := by simp [Ideal.cmp]
  rw [hc]
  show max (x : EReal) 0 + Ideal.log (1 + Ideal.exp (-(max (x : EReal) (-(x : EReal))))) = _
  rw [abs_coe, ← EReal.coe_neg, Ideal.exp_coe, log_one_add_exp, show (0 : EReal) = ((0 : ℝ) : EReal) from rfl, coe_max, ← EReal.coe_add]
  unfold lfail
  rw [neg_neg]

/-- The sigmoid as a host program computes it from the soft plus. -/
def sgm (x y : EReal) : EReal :=
  Ideal.exp (Scalar.select (Ideal.cmp .oeq x ⊤) 0 x - Scalar.select (Ideal.cmp .oeq y ⊤) 0 y)

theorem sgm_coe (x y : ℝ) : sgm (x : EReal) (y : EReal) = ((Real.exp (x - y) : ℝ) : EReal) := by
  unfold sgm
  have hc : ∀ a : ℝ, Ideal.cmp .oeq (a : EReal) ⊤ = 0#1 := fun a => by simp [Ideal.cmp]
  rw [hc, hc]
  show Ideal.exp ((x : EReal) - (y : EReal)) = _
  rw [← EReal.coe_sub, Ideal.exp_coe]

/-- A product with one contracted axis. -/
theorem host_dot {sl sr so : Shape} (D : DotDims sl sr so) (n : ℕ) (hr : D.contr.rank = 1) (hs : D.contr.size ⟨0, by omega⟩ = n)
    (x : FVec Ideal sl .f32) (y : FVec Ideal sr .f32) (j : so.Idx) (X : Fin n → sl.Idx) (Y : Fin n → sr.Idx)
    (hX : ∀ d, D.lhsIdx j ((contrEquiv1 D n hr hs).symm d) = X d) (hY : ∀ d, D.rhsIdx j ((contrEquiv1 D n hr hs).symm d) = Y d) :
    Host.dotGeneral D none x y j = ∑ d : Fin n, x (X d) * y (Y d) := by
  simp only [Host.dotGeneral]
  rw [Ideal.dotGeneral_apply, ← Equiv.sum_comp (contrEquiv1 D n hr hs).symm]
  exact Finset.sum_congr rfl fun d _ => by rw [hX, hY]

/-- The choice by the order of two positions. -/
theorem select_before {s t : ℕ} (hs : s < 2048) (ht : t < 2048) (a b : EReal) :
    Scalar.select (IntOp.cmpi .slt (BitVec.ofNat 32 s) (BitVec.ofNat 32 t)) a b = if s < t then a else b := by
  rw [WordCmp.cmpi_slt_ofNat (show s < 2 ^ 31 by omega) (show t < 2 ^ 31 by omega)]
  by_cases h : s < t
  · simp only [h, decide_true, BitVec.ofBool_true, if_true]; rfl
  · simp only [h, decide_false, BitVec.ofBool_false, if_false]; rfl

/-! ### Running sums -/

theorem foldl_add_sum {n : ℕ} (g : Fin n → EReal) (v : EReal) : (List.finRange n).foldl (fun r k => r + g k) v = v + ∑ k, g k := by
  rw [← List.sum_ofFn, List.ofFn_eq_map]
  generalize List.finRange n = l
  induction l generalizing v with
  | nil => simp
  | cons a l ih => rw [List.foldl_cons, ih, List.map_cons, List.sum_cons, add_assoc]

/-- The positions of a window along the last axis. -/
def winEquiv : (⟨4, ![1, 1, 1, 2048]⟩ : Shape).Idx ≃ Fin 2048 where
  toFun i := i 3
  invFun w := ix4 (0 : Fin 1) (0 : Fin 1) (0 : Fin 1) w
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv w := rfl

section Window

variable {x : FVec Ideal (⟨4, ![1, 4, 2048, 2048]⟩ : Shape) .f32} {init : FVec Ideal (⟨0, ![]⟩ : Shape) .f32} {hu : 0 < (⟨0, ![]⟩ : Shape).numel}

/-- A running sum whose window reaches `lo` to the left, as a sum over the window. -/
theorem window_sum (lo hi : ℕ) (h : (⟨4, ![1, 4, 2048, 2048]⟩ : Shape).ReduceWindows (![1, 1, 1, 2048] : Fin 4 → ℕ) ![1, 1, 1, 1] ![0, 0, 0, lo] ![0, 0, 0, hi] (⟨4, ![1, 4, 2048, 2048]⟩ : Shape))
    (h0 : init (Shape.Idx.first hu) = 0) (g : Fin 4) (t s : Fin 2048) :
    Host.reduceWindowAdd ![1, 1, 1, 2048] ![1, 1, 1, 1] ![0, 0, 0, lo] ![0, 0, 0, hi] x init h hu (ix4 (0 : Fin 1) g t s)
      = ∑ w : Fin 2048, if hw : lo ≤ s.val + w.val ∧ s.val + w.val - lo < 2048 then x (ix4 (0 : Fin 1) g t ⟨s.val + w.val - lo, hw.2⟩) else 0 := by
  unfold Host.reduceWindowAdd
  rw [Ideal.hostReduceWindowAdd_def, h0]
  unfold Ideal.hostReduceWindowAdd Host.reduceWindow
  dsimp only
  rw [foldl_add_sum, zero_add]
  refine Fintype.sum_equiv ((⟨4, ![1, 1, 1, 2048]⟩ : Shape).rowMajor.symm.trans winEquiv) _ _ fun k => ?_
  have h0 : ((⟨4, ![1, 1, 1, 2048]⟩ : Shape).rowMajor.symm k 0).val = 0 := Nat.lt_one_iff.mp (((⟨4, ![1, 1, 1, 2048]⟩ : Shape).rowMajor.symm k 0).isLt : _ < 1)
  have h1 : ((⟨4, ![1, 1, 1, 2048]⟩ : Shape).rowMajor.symm k 1).val = 0 := Nat.lt_one_iff.mp (((⟨4, ![1, 1, 1, 2048]⟩ : Shape).rowMajor.symm k 1).isLt : _ < 1)
  have h2 : ((⟨4, ![1, 1, 1, 2048]⟩ : Shape).rowMajor.symm k 2).val = 0 := Nat.lt_one_iff.mp (((⟨4, ![1, 1, 1, 2048]⟩ : Shape).rowMajor.symm k 2).isLt : _ < 1)
  have h3 : ((⟨4, ![1, 1, 1, 2048]⟩ : Shape).rowMajor.symm k 3).val = (((⟨4, ![1, 1, 1, 2048]⟩ : Shape).rowMajor.symm.trans winEquiv) k).val := rfl
  have hg := g.isLt
  have ht := t.isLt
  by_cases hw : lo ≤ s.val + (((⟨4, ![1, 1, 1, 2048]⟩ : Shape).rowMajor.symm.trans winEquiv) k).val ∧ s.val + (((⟨4, ![1, 1, 1, 2048]⟩ : Shape).rowMajor.symm.trans winEquiv) k).val - lo < 2048
  · rw [dif_pos hw, dif_pos (fun a => by
      match a with
      | ⟨0, _⟩ => exact ⟨Nat.zero_le _, show 0 * 1 + ((⟨4, ![1, 1, 1, 2048]⟩ : Shape).rowMajor.symm k 0).val - 0 < 1 by omega⟩
      | ⟨1, _⟩ => exact ⟨Nat.zero_le _, show g.val * 1 + ((⟨4, ![1, 1, 1, 2048]⟩ : Shape).rowMajor.symm k 1).val - 0 < 4 by omega⟩
      | ⟨2, _⟩ => exact ⟨Nat.zero_le _, show t.val * 1 + ((⟨4, ![1, 1, 1, 2048]⟩ : Shape).rowMajor.symm k 2).val - 0 < 2048 by omega⟩
      | ⟨3, _⟩ => exact ⟨show lo ≤ s.val * 1 + ((⟨4, ![1, 1, 1, 2048]⟩ : Shape).rowMajor.symm k 3).val by omega,
          show s.val * 1 + ((⟨4, ![1, 1, 1, 2048]⟩ : Shape).rowMajor.symm k 3).val - lo < 2048 by omega⟩)]
    refine congrArg x (funext fun a => Fin.ext ?_)
    match a with
    | ⟨0, _⟩ => show 0 * 1 + ((⟨4, ![1, 1, 1, 2048]⟩ : Shape).rowMajor.symm k 0).val - 0 = 0; omega
    | ⟨1, _⟩ => show g.val * 1 + ((⟨4, ![1, 1, 1, 2048]⟩ : Shape).rowMajor.symm k 1).val - 0 = g.val; omega
    | ⟨2, _⟩ => show t.val * 1 + ((⟨4, ![1, 1, 1, 2048]⟩ : Shape).rowMajor.symm k 2).val - 0 = t.val; omega
    | ⟨3, _⟩ =>
      show s.val * 1 + ((⟨4, ![1, 1, 1, 2048]⟩ : Shape).rowMajor.symm k 3).val - lo
        = s.val + (((⟨4, ![1, 1, 1, 2048]⟩ : Shape).rowMajor.symm.trans winEquiv) k).val - lo
      omega
  · rw [dif_neg hw, dif_neg (fun hin => hw (by
      have h3' : lo ≤ s.val * 1 + ((⟨4, ![1, 1, 1, 2048]⟩ : Shape).rowMajor.symm k 3).val
        ∧ s.val * 1 + ((⟨4, ![1, 1, 1, 2048]⟩ : Shape).rowMajor.symm k 3).val - lo < 2048 := hin 3
      omega))]

theorem real_window (f : ℕ → ℝ) (lo s : ℕ) (y : Fin 2048 → EReal) (hy : ∀ j, y j = ((f j.val : ℝ) : EReal)) :
    (∑ w : Fin 2048, if hw : lo ≤ s + w.val ∧ s + w.val - lo < 2048 then y ⟨s + w.val - lo, hw.2⟩ else 0)
      = ((∑ w ∈ range 2048, if lo ≤ s + w ∧ s + w - lo < 2048 then f (s + w - lo) else 0 : ℝ) : EReal) := by
  rw [← Fin.sum_univ_eq_sum_range (fun w => if lo ≤ s + w ∧ s + w - lo < 2048 then f (s + w - lo) else 0), ← coe_sum]
  refine Finset.sum_congr rfl fun w _ => ?_
  by_cases hw : lo ≤ s + w.val ∧ s + w.val - lo < 2048
  · rw [dif_pos hw, if_pos hw, hy]
  · rw [dif_neg hw, if_neg hw]; rfl

theorem sum_from (f : ℕ → ℝ) {s : ℕ} (hs : s < 2048) :
    (∑ w ∈ range 2048, if 0 ≤ s + w ∧ s + w - 0 < 2048 then f (s + w - 0) else 0) = ∑ j ∈ range 2048, f j - ∑ j ∈ range s, f j := by
  obtain ⟨n, hn⟩ := Nat.exists_eq_add_of_le hs.le
  have e : ∑ j ∈ range 2048, f j = ∑ j ∈ range s, f j + ∑ j ∈ range n, f (s + j) := by
    conv_lhs => rw [hn]
    exact sum_range_add f s n
  rw [e, add_sub_cancel_left, ← sum_filter]
  refine Finset.sum_congr ?_ fun _ _ => rfl
  ext k; simp only [mem_filter, mem_range]; omega

theorem sum_to (f : ℕ → ℝ) {s : ℕ} (hs : s < 2048) :
    (∑ w ∈ range 2048, if 2047 ≤ s + w ∧ s + w - 2047 < 2048 then f (s + w - 2047) else 0) = ∑ j ∈ range (s + 1), f j := by
  obtain ⟨n, hn⟩ := Nat.exists_eq_add_of_le (show s + 1 ≤ 2048 by omega)
  have e := sum_range_add (fun w => if 2047 ≤ s + w ∧ s + w - 2047 < 2048 then f (s + w - 2047) else 0) n (s + 1)
  rw [show n + (s + 1) = 2048 by omega] at e
  rw [e, sum_eq_zero (s := range n) (fun w hw => if_neg (by rw [mem_range] at hw; omega)), zero_add]
  refine Finset.sum_congr rfl fun j hj => ?_
  rw [mem_range] at hj
  rw [if_pos (by omega), show s + (n + j) - 2047 = j by omega]

end Window

end Cert.Sb

end
-- ==== Proof.RefReal.lean ====
module

public import proofs.«01_k».proof.Proof.Ref
public import proofs.«01_k».proof.Proof.HostMath
public import proofs.«01_k».proof.Proof.Point

/-!
# The reference on real arrays

Every stage of the reference, on arrays of real numbers, in terms of the sums of `Grad.lean`.
-/

@[expose] public section

set_option maxRecDepth 16384

noncomputable section

namespace Cert.Sb.Ref

open Idealize.ShloMosaic Idealize.ShloMosaic.TcCoe Idealize.ShloMosaic.ValueIdx Cert.ReferenceIdeal Cert.ReferenceIdeal.Gen Finset Cert.Sb
open scoped BigOperators

/-- An array with one number for every head, query and key. -/
def IsL {n m : ℕ} (X : FVec Ideal (⟨4, ![1, 4, n, m]⟩ : Shape) .f32) (a : ℕ → ℕ → ℕ → ℝ) : Prop :=
  ∀ (h : Fin 4) (t : Fin n) (s : Fin m), X (ix4 (0 : Fin 1) h t s) = ((a h.val t.val s.val : ℝ) : EReal)

/-- An array as it comes in: the position before the head. -/
def IsI (X : FVec Ideal S1x2048x4x64 .f32) (a : ℕ → ℕ → ℕ → ℝ) : Prop :=
  ∀ (t : Fin 2048) (h : Fin 4) (d : Fin 64), X (ix4 (0 : Fin 1) t h d) = ((a h.val t.val d.val : ℝ) : EReal)

section Stages

variable {x y : FVec Ideal S1x4x2048x2048 .f32} {a b : ℕ → ℕ → ℕ → ℝ}

theorem IsL.congr (hx : IsL x a) (h : ∀ h < 4, ∀ t < 2048, ∀ s < 2048, a h t s = b h t s) : IsL x b := fun g t s => by
  rw [hx g t s, h g.val g.isLt t.val t.isLt s.val s.isLt]

theorem neg_real (hx : IsL x a) : IsL (Host.negf x) (fun h t s => -a h t s) := fun h t s => by
  show -(x _) = _
  rw [hx h t s, EReal.coe_neg]

theorem add_real (hx : IsL x a) (hy : IsL y b) : IsL (addf x y) (fun h t s => a h t s + b h t s) := fun h t s => by
  show x _ + y _ = _
  rw [hx h t s, hy h t s, EReal.coe_add]

theorem sub_real (hx : IsL x a) (hy : IsL y b) : IsL (subf x y) (fun h t s => a h t s - b h t s) := fun h t s => by
  show x _ - y _ = _
  rw [hx h t s, hy h t s, EReal.coe_sub]

theorem mul_real (hx : IsL x a) (hy : IsL y b) : IsL (mulf x y) (fun h t s => a h t s * b h t s) := fun h t s => by
  show x _ * y _ = _
  rw [hx h t s, hy h t s, EReal.coe_mul]

theorem exp_real (hx : IsL x a) : IsL (Host.exp x) (fun h t s => Real.exp (a h t s)) := fun h t s => by
  show Ideal.exp (x _) = _
  rw [hx h t s, Ideal.exp_coe]

theorem fill_apply (w : BitVec 32) (j : S1x4x2048x2048.Idx) : (fill w : FVec Ideal S1x4x2048x2048 .f32) j = Ideal.ofBits .f32 w := rfl

theorem isBefore_apply (h : Fin 4) (t s : Fin 2048) :
    isBefore (ix4 (0 : Fin 1) h t s) = IntOp.cmpi .slt (BitVec.ofNat 32 s.val) (BitVec.ofNat 32 t.val) := by
  unfold isBefore
  rw [broadcastInDim_apply ![2, 3] bcast_S2048x2048_S1x4x2048x2048_2_3 _ (ix4 (0 : Fin 1) h t s) (ix2 t s)
    (fun a => by match a with | ⟨0, _⟩ => rfl | ⟨1, _⟩ => rfl)]
  show IntOp.cmpi .slt (broadcastInDim S2048x2048 ![0, 1] bcast_S1x2048_S2048x2048_0_1 (broadcastInDim S1x2048 ![1] bcast_S2048_S1x2048_1 (iotaInDim S2048 32 0)) (ix2 t s))
    (broadcastInDim S2048x2048 ![0, 1] bcast_S2048x1_S2048x2048_0_1 (broadcastInDim S2048x1 ![0] bcast_S2048_S2048x1_0 (iotaInDim S2048 32 0)) (ix2 t s)) = _
  rw [broadcastInDim_apply ![0, 1] bcast_S1x2048_S2048x2048_0_1 _ (ix2 t s) (ix2 (0 : Fin 1) s) (fun a => by match a with | ⟨0, _⟩ => rfl | ⟨1, _⟩ => rfl),
    broadcastInDim_apply ![1] bcast_S2048_S1x2048_1 _ (ix2 (0 : Fin 1) s) (ix1 s) (fun a => by match a with | ⟨0, _⟩ => rfl),
    broadcastInDim_apply ![0, 1] bcast_S2048x1_S2048x2048_0_1 _ (ix2 t s) (ix2 t (0 : Fin 1)) (fun a => by match a with | ⟨0, _⟩ => rfl | ⟨1, _⟩ => rfl),
    broadcastInDim_apply ![0] bcast_S2048_S2048x1_0 _ (ix2 t (0 : Fin 1)) (ix1 t) (fun a => by match a with | ⟨0, _⟩ => rfl)]
  rfl

theorem keep_real (hx : IsL x a) : IsL (keep x) (fun h t s => if s < t then a h t s else 0) := fun h t s => by
  show Scalar.select (isBefore _) (x _) ((fill 0x00000000#32 : FVec Ideal S1x4x2048x2048 .f32) _) = _
  rw [isBefore_apply, select_before s.isLt t.isLt, fill_apply, hx h t s, Ideal.ofBits_zero_f32]
  by_cases hs : s.val < t.val
  · simp only [hs, if_true]
  · simp only [hs, if_false]; rfl

theorem softplus_real (hx : IsL x a) : IsL (softplus x) (fun h t s => -lfail (a h t s)) := fun h t s => by
  rw [← splus_coe, ← hx h t s]
  show Scalar.select (Ideal.cmp .une (x _ - Ideal.ofBits .f32 0x00000000#32) (x _ - Ideal.ofBits .f32 0x00000000#32)) (x _ + Ideal.ofBits .f32 0x00000000#32)
    (max (x _) (Ideal.ofBits .f32 0x00000000#32)
      + Ideal.log1p (Ideal.exp (-(max (x _ - Ideal.ofBits .f32 0x00000000#32) (-(x _ - Ideal.ofBits .f32 0x00000000#32)))))) = _
  rw [Ideal.ofBits_zero_f32]
  rfl

theorem sigmoid_real (hx : IsL x a) : IsL (sigmoid x) (fun h t s => Real.exp (a h t s + lfail (a h t s))) := fun h t s => by
  have e := sgm_coe (a h t s) (-lfail (a h t s))
  rw [sub_neg_eq_add] at e
  rw [← e, ← hx h t s, ← softplus_real hx h t s]
  show Ideal.exp (Scalar.select (Ideal.cmp .oeq (x _) (Ideal.ofBits .f32 0x7F800000#32)) (Ideal.ofBits .f32 0x00000000#32) (x _)
    - Scalar.select (Ideal.cmp .oeq (softplus x _) (Ideal.ofBits .f32 0x7F800000#32)) (Ideal.ofBits .f32 0x00000000#32) (softplus x _)) = _
  rw [Ideal.ofBits_zero_f32, ofBits_top]
  rfl

theorem sumFrom_real (hx : IsL x a) : IsL (sumFrom x) (fun h t s => ∑ j ∈ range 2048, a h t j - ∑ j ∈ range s, a h t j) := fun h t s => by
  unfold sumFrom
  refine (window_sum 0 2047 _ Ideal.ofBits_zero_f32 h t s).trans ?_
  rw [real_window (fun j => a h t j) 0 s.val (fun j => x (ix4 (0 : Fin 1) h t j)) (fun j => hx h t j), sum_from _ s.isLt]

theorem sumUpto_real (hx : IsL x a) : IsL (sumUpto x) (fun h t s => ∑ j ∈ range (s + 1), a h t j) := fun h t s => by
  unfold sumUpto
  refine (window_sum 2047 0 _ Ideal.ofBits_zero_f32 h t s).trans ?_
  rw [real_window (fun j => a h t j) 2047 s.val (fun j => x (ix4 (0 : Fin 1) h t j)) (fun j => hx h t j), sum_to _ s.isLt]

theorem eighth_real (hx : IsL x a) : IsL (mulf x (fill 0x3E000000#32)) (fun h t s => a h t s * (1 / 8)) := fun h t s => by
  show x _ * Ideal.ofBits .f32 0x3E000000#32 = _
  rw [hx h t s, ofBits_eighth, EReal.coe_mul]

end Stages

theorem outGrad_real {g : FVec Ideal S1x2048x4x64 .f32} {G : ℕ → ℕ → ℕ → ℝ} (hg : IsI g G) : IsL (outGrad g) (fun h d t => G h t d) := fun h d t => by
  unfold outGrad
  rw [transpose_apply [0, 2, 3, 1] g _ (ix4 (0 : Fin 1) h d t) (ix4 (0 : Fin 1) t h d)
    (fun b => by match b with | ⟨0, _⟩ => rfl | ⟨1, _⟩ => rfl | ⟨2, _⟩ => rfl | ⟨3, _⟩ => rfl), hg t h d]

theorem heads_apply (x : FVec Ideal S1x2048x4x64 .f32) (h : Fin 4) (t : Fin 2048) (d : Fin 64) : heads x (ix3 h t d) = x (ix4 (0 : Fin 1) t h d) := by
  unfold heads
  rw [transpose_apply [1, 0, 2] _ _ (ix3 h t d) (ix3 t h d) (fun b => by match b with | ⟨0, _⟩ => rfl | ⟨1, _⟩ => rfl | ⟨2, _⟩ => rfl),
    shapeCast_apply x _ (ix3 t h d) (ix4 (0 : Fin 1) t h d) (by
      rw [Shape.rowMajor_val_four, Shape.rowMajor_val_three]
      show ((0 * 2048 + t.val) * 4 + h.val) * 64 + d.val = (t.val * 4 + h.val) * 64 + d.val
      omega)]

/-! ### The products -/

theorem score_real {q k : FVec Ideal S1x2048x4x64 .f32} {Q K : ℕ → ℕ → ℕ → ℝ} (hq : IsI q Q) (hk : IsI k K) :
    IsL (score q k) (fun h t s => zr (fun t d => Q h t d * (1 / 8)) (K h) t s) := fun h t s => by
  have hr : dot_S1x2048x4x64_S1x2048x4x64_S1x4x2048x2048_3_3_1_1_02_02.contr.rank = 1 := rfl
  have hs : dot_S1x2048x4x64_S1x2048x4x64_S1x4x2048x2048_3_3_1_1_02_02.contr.size ⟨0, by omega⟩ = 64 := rfl
  have e : Host.dotGeneral dot_S1x2048x4x64_S1x2048x4x64_S1x4x2048x2048_3_3_1_1_02_02 none q k (ix4 (0 : Fin 1) h t s)
      = ((∑ d ∈ range 64, Q h t d * K h s d : ℝ) : EReal) := by
    rw [host_dot _ 64 hr hs q k _ (fun d => ix4 (0 : Fin 1) t h d) (fun d => ix4 (0 : Fin 1) s h d)
      (fun d => by
        have hk := contrEquiv1_symm_val _ 64 hr hs d
        funext a; apply Fin.ext
        match a with
        | ⟨0, _⟩ => rfl
        | ⟨1, _⟩ => rfl
        | ⟨2, _⟩ => rfl
        | ⟨3, _⟩ => exact hk)
      (fun d => by
        have hk := contrEquiv1_symm_val _ 64 hr hs d
        funext a; apply Fin.ext
        match a with
        | ⟨0, _⟩ => rfl
        | ⟨1, _⟩ => rfl
        | ⟨2, _⟩ => rfl
        | ⟨3, _⟩ => exact hk), ← sum_fin_mul 64 (fun d => Q h t d) (fun d => K h s d)]
    exact Finset.sum_congr rfl fun d _ => by rw [hq t h d, hk s h d]
  show Host.dotGeneral _ none q k _ * Ideal.ofBits .f32 0x3E000000#32 = _
  rw [e, ofBits_eighth, ← EReal.coe_mul]
  unfold zr
  rw [Finset.sum_mul]
  exact congrArg _ (Finset.sum_congr rfl fun d _ => by ring)

/-- The product of the gradient of the result and the values. -/
theorem dotP {g : FVec Ideal S1x4x64x2048 .f32} {v : FVec Ideal S1x2048x4x64 .f32} {G V : ℕ → ℕ → ℕ → ℝ} (hg : IsL g (fun h d t => G h t d)) (hv : IsI v V) (h : Fin 4) (t s : Fin 2048) :
    Host.dotGeneral dot_S1x4x64x2048_S1x2048x4x64_S1x4x2048x2048_2_3_3_1_01_02 none g v (ix4 (0 : Fin 1) h t s) = ((∑ j ∈ range 64, G h t j * V h s j : ℝ) : EReal) := by
  have hr : dot_S1x4x64x2048_S1x2048x4x64_S1x4x2048x2048_2_3_3_1_01_02.contr.rank = 1 := rfl
  have hs : dot_S1x4x64x2048_S1x2048x4x64_S1x4x2048x2048_2_3_3_1_01_02.contr.size ⟨0, by omega⟩ = 64 := rfl
  rw [host_dot _ 64 hr hs g v _ (fun j => ix4 (0 : Fin 1) h j t) (fun j => ix4 (0 : Fin 1) s h j)
    (fun j => by
        have hk := contrEquiv1_symm_val _ 64 hr hs j
        funext a; apply Fin.ext
        match a with
        | ⟨0, _⟩ => rfl
        | ⟨1, _⟩ => rfl
        | ⟨2, _⟩ => exact hk
        | ⟨3, _⟩ => rfl)
    (fun j => by
        have hk := contrEquiv1_symm_val _ 64 hr hs j
        funext a; apply Fin.ext
        match a with
        | ⟨0, _⟩ => rfl
        | ⟨1, _⟩ => rfl
        | ⟨2, _⟩ => rfl
        | ⟨3, _⟩ => exact hk), ← sum_fin_mul 64 (fun j => G h t j) (fun j => V h s j)]
  exact Finset.sum_congr rfl fun j _ => by rw [hg h j t, hv s h j]

/-- The product of the gradient of the scores and the keys. -/
theorem dotQ {x : FVec Ideal S1x4x2048x2048 .f32} {k : FVec Ideal S1x2048x4x64 .f32} {b K : ℕ → ℕ → ℕ → ℝ} (hx : IsL x b) (hk : IsI k K) (h : Fin 4) (t : Fin 2048) (d : Fin 64) :
    Host.dotGeneral dot_S1x4x2048x2048_S1x2048x4x64_S1x4x2048x64_3_1_2_3_01_02 none x k (ix4 (0 : Fin 1) h t d) = ((∑ j ∈ range 2048, b h t j * K h j d : ℝ) : EReal) := by
  have hr : dot_S1x4x2048x2048_S1x2048x4x64_S1x4x2048x64_3_1_2_3_01_02.contr.rank = 1 := rfl
  have hs : dot_S1x4x2048x2048_S1x2048x4x64_S1x4x2048x64_3_1_2_3_01_02.contr.size ⟨0, by omega⟩ = 2048 := rfl
  rw [host_dot _ 2048 hr hs x k _ (fun j => ix4 (0 : Fin 1) h t j) (fun j => ix4 (0 : Fin 1) j h d)
    (fun j => by
        have hk := contrEquiv1_symm_val _ 2048 hr hs j
        funext a; apply Fin.ext
        match a with
        | ⟨0, _⟩ => rfl
        | ⟨1, _⟩ => rfl
        | ⟨2, _⟩ => rfl
        | ⟨3, _⟩ => exact hk)
    (fun j => by
        have hk := contrEquiv1_symm_val _ 2048 hr hs j
        funext a; apply Fin.ext
        match a with
        | ⟨0, _⟩ => rfl
        | ⟨1, _⟩ => exact hk
        | ⟨2, _⟩ => rfl
        | ⟨3, _⟩ => rfl), ← sum_fin_mul 2048 (fun j => b h t j) (fun j => K h j d)]
  exact Finset.sum_congr rfl fun j _ => by rw [hx h t j, hk j h d]

/-- The product of the gradient of the scores and the queries. -/
theorem dotK {x : FVec Ideal S1x4x2048x2048 .f32} {q : FVec Ideal S1x2048x4x64 .f32} {b Q : ℕ → ℕ → ℕ → ℝ} (hx : IsL x b) (hq : IsI q Q) (h : Fin 4) (s : Fin 2048) (d : Fin 64) :
    Host.dotGeneral dot_S1x4x2048x2048_S1x2048x4x64_S1x4x2048x64_2_1_3_3_01_02 none x q (ix4 (0 : Fin 1) h s d) = ((∑ j ∈ range 2048, b h j s * Q h j d : ℝ) : EReal) := by
  have hr : dot_S1x4x2048x2048_S1x2048x4x64_S1x4x2048x64_2_1_3_3_01_02.contr.rank = 1 := rfl
  have hs : dot_S1x4x2048x2048_S1x2048x4x64_S1x4x2048x64_2_1_3_3_01_02.contr.size ⟨0, by omega⟩ = 2048 := rfl
  rw [host_dot _ 2048 hr hs x q _ (fun j => ix4 (0 : Fin 1) h j s) (fun j => ix4 (0 : Fin 1) j h d)
    (fun j => by
        have hk := contrEquiv1_symm_val _ 2048 hr hs j
        funext a; apply Fin.ext
        match a with
        | ⟨0, _⟩ => rfl
        | ⟨1, _⟩ => rfl
        | ⟨2, _⟩ => exact hk
        | ⟨3, _⟩ => rfl)
    (fun j => by
        have hk := contrEquiv1_symm_val _ 2048 hr hs j
        funext a; apply Fin.ext
        match a with
        | ⟨0, _⟩ => rfl
        | ⟨1, _⟩ => exact hk
        | ⟨2, _⟩ => rfl
        | ⟨3, _⟩ => rfl), ← sum_fin_mul 2048 (fun j => b h j s) (fun j => Q h j d)]
  exact Finset.sum_congr rfl fun j _ => by rw [hx h j s, hq j h d]

/-- The product of the gradient of the result and the weights. -/
theorem dotV {g : FVec Ideal S1x4x64x2048 .f32} {w : FVec Ideal S1x4x2048x2048 .f32} {G b : ℕ → ℕ → ℕ → ℝ} (hg : IsL g (fun h d t => G h t d)) (hw : IsL w b) (h : Fin 4) (s : Fin 2048) (d : Fin 64) :
    Host.dotGeneral dot_S1x4x64x2048_S1x4x2048x2048_S1x4x64x2048_3_2_2_3_01_01 none g w (ix4 (0 : Fin 1) h d s) = ((∑ j ∈ range 2048, G h j d * b h j s : ℝ) : EReal) := by
  have hr : dot_S1x4x64x2048_S1x4x2048x2048_S1x4x64x2048_3_2_2_3_01_01.contr.rank = 1 := rfl
  have hs : dot_S1x4x64x2048_S1x4x2048x2048_S1x4x64x2048_3_2_2_3_01_01.contr.size ⟨0, by omega⟩ = 2048 := rfl
  rw [host_dot _ 2048 hr hs g w _ (fun j => ix4 (0 : Fin 1) h d j) (fun j => ix4 (0 : Fin 1) h j s)
    (fun j => by
        have hk := contrEquiv1_symm_val _ 2048 hr hs j
        funext a; apply Fin.ext
        match a with
        | ⟨0, _⟩ => rfl
        | ⟨1, _⟩ => rfl
        | ⟨2, _⟩ => rfl
        | ⟨3, _⟩ => exact hk)
    (fun j => by
        have hk := contrEquiv1_symm_val _ 2048 hr hs j
        funext a; apply Fin.ext
        match a with
        | ⟨0, _⟩ => rfl
        | ⟨1, _⟩ => rfl
        | ⟨2, _⟩ => exact hk
        | ⟨3, _⟩ => rfl), ← sum_fin_mul 2048 (fun j => G h j d) (fun j => b h j s)]
  exact Finset.sum_congr rfl fun j _ => by rw [hg h d j, hw h j s]

/-! ### The gradients -/

section Gradients

variable {q k v g : FVec Ideal S1x2048x4x64 .f32} {Q K V G : ℕ → ℕ → ℕ → ℝ}

/-- The queries with the scale of the scores. -/
def eighth (Q : ℕ → ℕ → ℕ → ℝ) (h t d : ℕ) : ℝ := Q h t d * (1 / 8)

theorem score_eighth (hq : IsI q Q) (hk : IsI k K) : IsL (score q k) (fun h t s => zr (eighth Q h) (K h) t s) := score_real hq hk

section FromScores

variable {z : FVec Ideal S1x4x2048x2048 .f32} (hz : IsL z (fun h t s => zr (Q h) (K h) t s))
include hz

theorem logFail_real : IsL (logFail z) (fun h t s => lr (Q h) (K h) t s) :=
  IsL.congr (keep_real (neg_real (softplus_real (neg_real (neg_real hz))))) fun h _ t _ s _ => by
    unfold lr
    rw [neg_neg, neg_neg]

theorem weight_real : IsL (weight z)
    (fun h t s => Real.exp (zr (Q h) (K h) t s + lfail (zr (Q h) (K h) t s) + (tr (Q h) (K h) t - ∑ j ∈ range (s + 1), lr (Q h) (K h) t j))) :=
  IsL.congr (exp_real (add_real (neg_real (softplus_real (neg_real hz))) (sub_real (sumFrom_real (logFail_real hz)) (logFail_real hz)))) fun h _ t _ s _ => by
    rw [neg_neg, ← add_lfail, sum_range_succ _ s, ← sub_sub]
    rfl

theorem keep_weight_real : IsL (keep (weight z)) (fun h t s => wr (Q h) (K h) t s) := keep_real (weight_real hz)

theorem logGrad_real (hv : IsI v V) (hg : IsI g G) : IsL (logGrad z v g) (fun h t s => pr (Q h) (K h) (V h) (G h) t s) :=
  IsL.congr (mul_real (keep_real (a := fun h t s => ∑ d ∈ range 64, G h t d * V h s d) fun h t s => dotP (outGrad_real hg) hv h t s) (weight_real hz))
    fun h _ t _ s _ => by
      unfold pr wr
      by_cases hs : s < t
      · simp only [hs, if_true]; ring
      · simp only [hs, if_false, zero_mul]

theorem scoreGrad_real {p : FVec Ideal S1x4x2048x2048 .f32} (hp : IsL p (fun h t s => pr (Q h) (K h) (V h) (G h) t s)) :
    IsL (scoreGrad z p) (fun h t s => dr (Q h) (K h) (V h) (G h) t s * (1 / 8)) :=
  IsL.congr (eighth_real (add_real (neg_real (mul_real (neg_real hp) (sigmoid_real (neg_real hz))))
      (neg_real (neg_real (mul_real (neg_real (keep_real (add_real (neg_real hp) (sumUpto_real hp)))) (sigmoid_real (neg_real (neg_real hz))))))))
    fun h _ t _ s _ => by
      rw [neg_neg (zr (Q h) (K h) t s), exp_add_lfail (zr (Q h) (K h) t s), ← one_sub_sigm]
      by_cases hs : s < t
      · unfold dr
        rw [if_pos hs, if_pos hs, sum_range_succ]; ring
      · rw [if_neg hs, dr_of_le _ _ _ _ (by omega), show pr (Q h) (K h) (V h) (G h) t s = 0 by unfold pr; rw [wr_of_le _ _ (by omega), zero_mul]]
        ring

end FromScores

theorem gradQ_real (hq : IsI q Q) (hk : IsI k K) (hv : IsI v V) (hg : IsI g G) (h : Fin 4) (t : Fin 2048) (d : Fin 64) :
    gradQ q k v g (ix3 h t d) = ((qGrad (eighth Q) K V G h t d : ℝ) : EReal) := by
  unfold gradQ
  rw [heads_apply, transpose_apply [0, 2, 1, 3] _ _ (ix4 (0 : Fin 1) t h d) (ix4 (0 : Fin 1) h t d)
    (fun b => by match b with | ⟨0, _⟩ => rfl | ⟨1, _⟩ => rfl | ⟨2, _⟩ => rfl | ⟨3, _⟩ => rfl),
    dotQ (scoreGrad_real (score_eighth hq hk) (logGrad_real (score_eighth hq hk) hv hg)) hk h t d]
  unfold qGrad
  rw [Finset.sum_mul]
  exact congrArg _ (Finset.sum_congr rfl fun j _ => by ring)

theorem gradK_real (hq : IsI q Q) (hk : IsI k K) (hv : IsI v V) (hg : IsI g G) (h : Fin 4) (s : Fin 2048) (d : Fin 64) :
    gradK q k v g (ix3 h s d) = ((∑ t ∈ range 2048, dr (eighth Q h) (K h) (V h) (G h) t s * eighth Q h t d : ℝ) : EReal) := by
  unfold gradK
  rw [heads_apply, transpose_apply [0, 2, 1, 3] _ _ (ix4 (0 : Fin 1) s h d) (ix4 (0 : Fin 1) h s d)
    (fun b => by match b with | ⟨0, _⟩ => rfl | ⟨1, _⟩ => rfl | ⟨2, _⟩ => rfl | ⟨3, _⟩ => rfl),
    dotK (scoreGrad_real (score_eighth hq hk) (logGrad_real (score_eighth hq hk) hv hg)) hq h s d]
  exact congrArg _ (Finset.sum_congr rfl fun j _ => by unfold eighth; ring)

theorem gradV_real (hq : IsI q Q) (hk : IsI k K) (hg : IsI g G) (h : Fin 4) (s : Fin 2048) (d : Fin 64) :
    gradV q k g (ix3 h s d) = ((∑ t ∈ range 2048, wr (eighth Q h) (K h) t s * G h t d : ℝ) : EReal) := by
  unfold gradV
  rw [heads_apply, transpose_apply [0, 3, 1, 2] _ _ (ix4 (0 : Fin 1) s h d) (ix4 (0 : Fin 1) h d s)
    (fun b => by match b with | ⟨0, _⟩ => rfl | ⟨1, _⟩ => rfl | ⟨2, _⟩ => rfl | ⟨3, _⟩ => rfl),
    dotV (outGrad_real hg) (keep_weight_real (score_eighth hq hk)) h s d]
  exact congrArg _ (Finset.sum_congr rfl fun j _ => by ring)

end Gradients

end Cert.Sb.Ref

end
-- ==== Proof.ArgsReal.lean ====
module

public import proofs.«01_k».proof.Proof.Args
public import proofs.«01_k».proof.Proof.Outs
public import proofs.«01_k».proof.Proof.RefReal

/-!
# The region's blocks on real arguments

The blocks every grid point reads, when the arguments are real.
-/

@[expose] public section

set_option maxRecDepth 16384

noncomputable section

namespace Cert.Sb

open Idealize.ShloMosaic Idealize.ShloMosaic.TcCoe Idealize.ShloMosaic.ValueIdx Cert.KernelIdeal Cert.KernelIdeal.Gen Finset
open Cert.Sb.Ref (IsI eighth)
open scoped BigOperators

variable {q k v g : FVec Ideal S1x2048x4x64 .f32} {Q K V' G : ℕ → ℕ → ℕ → ℝ}

theorem byHead_real {x : FVec Ideal S1x2048x4x64 .f32} {a : ℕ → ℕ → ℕ → ℝ} (hx : IsI x a) : IsA (byHead x) a := fun h t d => by
  unfold byHead
  rw [transpose_apply [1, 0, 2] _ _ (ix3 h t d) (ix3 t h d) (fun b => by match b with | ⟨0, _⟩ => rfl | ⟨1, _⟩ => rfl | ⟨2, _⟩ => rfl),
    shapeCast_apply x _ (ix3 t h d) (ix4 (0 : Fin 1) t h d) (by
      rw [Shape.rowMajor_val_four, Shape.rowMajor_val_three]
      show ((0 * 2048 + t.val) * 4 + h.val) * 64 + d.val = (t.val * 4 + h.val) * 64 + d.val
      omega)]
  exact hx t h d

/-- Part `n` of the packed array. -/
theorem packed_q (hq : IsI q Q) (h : Fin 4) (t : Fin 2048) (d : Fin 64) :
    packed q k v (ix3 (⟨h.val, by omega⟩ : Fin 12) t d) = ((eighth Q h t d : ℝ) : EReal) := by
  show concatenate S12x2048x64 0 [⟨S4x2048x64, mulf (byHead q) (broadcastInDim S4x2048x64 ![] bcast_S_S4x2048x64 (constant S_ .f32 0x3E000000#32))⟩,
    ⟨S4x2048x64, byHead k⟩, ⟨S4x2048x64, byHead v⟩] concatenates_S4x2048x64_S4x2048x64_S4x2048x64_S12x2048x64_d0 _ = _
  rw [concatenate_apply_piece (t := S12x2048x64) 0 _ _ _ 0 (by simp) S4x2048x64 _ rfl rfl 0 rfl (ix3 h t d)
    (fun b hb => by match b with | ⟨0, _⟩ => exact absurd rfl hb | ⟨1, _⟩ => rfl | ⟨2, _⟩ => rfl) (Nat.zero_add _)]
  show byHead q _ * Ideal.ofBits .f32 0x3E000000#32 = _
  rw [byHead_real hq h t d, ofBits_eighth, ← EReal.coe_mul]
  rfl

theorem packed_k (hk : IsI k K) (h : Fin 4) (t : Fin 2048) (d : Fin 64) :
    packed q k v (ix3 (⟨4 + h.val, by omega⟩ : Fin 12) t d) = ((K h t d : ℝ) : EReal) := by
  show concatenate S12x2048x64 0 [⟨S4x2048x64, mulf (byHead q) (broadcastInDim S4x2048x64 ![] bcast_S_S4x2048x64 (constant S_ .f32 0x3E000000#32))⟩,
    ⟨S4x2048x64, byHead k⟩, ⟨S4x2048x64, byHead v⟩] concatenates_S4x2048x64_S4x2048x64_S4x2048x64_S12x2048x64_d0 _ = _
  rw [concatenate_apply_piece (t := S12x2048x64) 0 _ _ _ 1 (by simp) S4x2048x64 _ rfl rfl 4 rfl (ix3 h t d)
    (fun b hb => by match b with | ⟨0, _⟩ => exact absurd rfl hb | ⟨1, _⟩ => rfl | ⟨2, _⟩ => rfl) rfl]
  exact byHead_real hk h t d

theorem packed_v (hv : IsI v V') (h : Fin 4) (t : Fin 2048) (d : Fin 64) :
    packed q k v (ix3 (⟨8 + h.val, by omega⟩ : Fin 12) t d) = ((V' h t d : ℝ) : EReal) := by
  show concatenate S12x2048x64 0 [⟨S4x2048x64, mulf (byHead q) (broadcastInDim S4x2048x64 ![] bcast_S_S4x2048x64 (constant S_ .f32 0x3E000000#32))⟩,
    ⟨S4x2048x64, byHead k⟩, ⟨S4x2048x64, byHead v⟩] concatenates_S4x2048x64_S4x2048x64_S4x2048x64_S12x2048x64_d0 _ = _
  rw [concatenate_apply_piece (t := S12x2048x64) 0 _ _ _ 2 (by simp) S4x2048x64 _ rfl rfl 8 rfl (ix3 h t d)
    (fun b hb => by match b with | ⟨0, _⟩ => exact absurd rfl hb | ⟨1, _⟩ => rfl | ⟨2, _⟩ => rfl) rfl]
  exact byHead_real hv h t d

theorem hostScore_real (hq : IsI q Q) (hk : IsI k K) (h : Fin 4) (t s : Fin 2048) :
    hostScore q k (ix3 h t s) = ((zr (eighth Q h) (K h) t s : ℝ) : EReal) := by
  have hr : dot_S4x2048x64_S4x2048x64_S4x2048x2048_2_2_1_1_0_0.contr.rank = 1 := rfl
  have hs : dot_S4x2048x64_S4x2048x64_S4x2048x2048_2_2_1_1_0_0.contr.size ⟨0, by omega⟩ = 64 := rfl
  have e : Host.dotGeneral dot_S4x2048x64_S4x2048x64_S4x2048x2048_2_2_1_1_0_0 none (byHead q) (byHead k) (ix3 h t s)
      = ((∑ d ∈ range 64, Q h t d * K h s d : ℝ) : EReal) := by
    rw [host_dot _ 64 hr hs (byHead q) (byHead k) _ (fun d => ix3 h t d) (fun d => ix3 h s d)
      (fun d => by
        have hk := contrEquiv1_symm_val _ 64 hr hs d
        funext a; apply Fin.ext
        match a with
        | ⟨0, _⟩ => rfl
        | ⟨1, _⟩ => rfl
        | ⟨2, _⟩ => exact hk)
      (fun d => by
        have hk := contrEquiv1_symm_val _ 64 hr hs d
        funext a; apply Fin.ext
        match a with
        | ⟨0, _⟩ => rfl
        | ⟨1, _⟩ => rfl
        | ⟨2, _⟩ => exact hk), ← sum_fin_mul 64 (fun d => Q h t d) (fun d => K h s d)]
    exact Finset.sum_congr rfl fun d _ => by rw [byHead_real hq h t d, byHead_real hk h s d]
  show Host.dotGeneral _ none _ _ _ * Ideal.ofBits .f32 0x3E000000#32 = _
  rw [e, ofBits_eighth, ← EReal.coe_mul]
  unfold zr eighth
  rw [Finset.sum_mul]
  exact congrArg _ (Finset.sum_congr rfl fun d _ => by ring)

theorem hostBefore_apply (h : Fin 4) (t s : Fin 2048) : hostBefore (ix3 h t s) = IntOp.cmpi .slt (BitVec.ofNat 32 s.val) (BitVec.ofNat 32 t.val) := by
  unfold hostBefore
  rw [broadcastInDim_apply ![1, 2] bcast_S2048x2048_S4x2048x2048_1_2 _ (ix3 h t s) (ix2 t s)
    (fun a => by match a with | ⟨0, _⟩ => rfl | ⟨1, _⟩ => rfl)]
  show IntOp.cmpi .slt (broadcastInDim S2048x2048 ![0, 1] bcast_S1x2048_S2048x2048_0_1 (broadcastInDim S1x2048 ![1] bcast_S2048_S1x2048_1 (iotaInDim S2048 32 0)) (ix2 t s))
    (broadcastInDim S2048x2048 ![0, 1] bcast_S2048x1_S2048x2048_0_1 (broadcastInDim S2048x1 ![0] bcast_S2048_S2048x1_0 (iotaInDim S2048 32 0)) (ix2 t s)) = _
  rw [broadcastInDim_apply ![0, 1] bcast_S1x2048_S2048x2048_0_1 _ (ix2 t s) (ix2 (0 : Fin 1) s) (fun a => by match a with | ⟨0, _⟩ => rfl | ⟨1, _⟩ => rfl),
    broadcastInDim_apply ![1] bcast_S2048_S1x2048_1 _ (ix2 (0 : Fin 1) s) (ix1 s) (fun a => by match a with | ⟨0, _⟩ => rfl),
    broadcastInDim_apply ![0, 1] bcast_S2048x1_S2048x2048_0_1 _ (ix2 t s) (ix2 t (0 : Fin 1)) (fun a => by match a with | ⟨0, _⟩ => rfl | ⟨1, _⟩ => rfl),
    broadcastInDim_apply ![0] bcast_S2048_S2048x1_0 _ (ix2 t (0 : Fin 1)) (ix1 t) (fun a => by match a with | ⟨0, _⟩ => rfl)]
  rfl

theorem hostPlus_apply (x : FVec Ideal S4x2048x2048 .f32) (j : S4x2048x2048.Idx) : hostPlus x j = splus (x j) := by
  show Scalar.select (Ideal.cmp .une (x _ - Ideal.ofBits .f32 0x00000000#32) (x _ - Ideal.ofBits .f32 0x00000000#32)) (x _ + Ideal.ofBits .f32 0x00000000#32)
    (max (x _) (Ideal.ofBits .f32 0x00000000#32)
      + Ideal.log1p (Ideal.exp (-(max (x _ - Ideal.ofBits .f32 0x00000000#32) (-(x _ - Ideal.ofBits .f32 0x00000000#32)))))) = _
  rw [Ideal.ofBits_zero_f32]
  rfl

theorem masked_real (hq : IsI q Q) (hk : IsI k K) (h : Fin 4) (t s : Fin 2048) :
    select hostBefore (Host.negf (hostPlus (Host.negf (Host.negf (hostScore q k))))) (fill3 0x00000000#32) (ix3 h t s)
      = ((lr (eighth Q h) (K h) t s : ℝ) : EReal) := by
  show Scalar.select (hostBefore _) (-(hostPlus _ _)) (Ideal.ofBits .f32 0x00000000#32) = _
  rw [hostBefore_apply, select_before s.isLt t.isLt, hostPlus_apply]
  show (if _ then -(splus (-(-(hostScore q k _)))) else _) = _
  rw [hostScore_real hq hk h t s, ← EReal.coe_neg, ← EReal.coe_neg, neg_neg, splus_coe, ← EReal.coe_neg, neg_neg, Ideal.ofBits_zero_f32]
  unfold lr
  by_cases hs : s.val < t.val
  · simp only [hs, if_true]
  · simp only [hs, if_false]; rfl

theorem hostTot_real (hq : IsI q Q) (hk : IsI k K) : IsA (hostTot q k) (fun h t _ => tr (eighth Q h) (K h) t) := fun h t o => by
  unfold hostTot
  rw [broadcastInDim_apply ![0, 1] bcast_S4x2048_S4x2048x1_0_1 _ (ix3 h t o) (ix2 h t) (fun a => by match a with | ⟨0, _⟩ => rfl | ⟨1, _⟩ => rfl)]
  refine (Ideal.hostReduceAdd_single reducesTo_S4x2048x2048_S4x2048_d2 (by decide) _ _ (ix2 h t)).trans ?_
  rw [show (constant (F := Ideal) S_ .f32 0x00000000#32 (Shape.Idx.first h_S_)) = 0 from Ideal.ofBits_zero_f32, zero_add]
  show _ = ((∑ s ∈ range 2048, lr (eighth Q h.val) (K h.val) t.val s : ℝ) : EReal)
  rw [← Fin.sum_univ_eq_sum_range (fun s => lr (eighth Q h) (K h) t s), ← coe_sum]
  refine Finset.sum_congr rfl fun s _ => ?_
  refine Eq.trans (congrArg _ ?_) (masked_real hq hk h t s)
  funext a; apply Fin.ext
  match a with
  | ⟨0, _⟩ => rfl
  | ⟨1, _⟩ => rfl
  | ⟨2, _⟩ => rfl

/-! ### The blocks -/

variable (m : (ℓ : Loc nD τ sig) → Buf (Elt Ideal) ℓ) (c : Dev nD)

/-- The arguments are real. -/
structure RealArgs (Q K V' G : ℕ → ℕ → ℕ → ℝ) : Prop where
  q : IsI (m ((c.tc : Thread nD τ).loc main_arg0)) Q
  k : IsI (m ((c.tc : Thread nD τ).loc main_arg1)) K
  v : IsI (m ((c.tc : Thread nD τ).loc main_arg2)) V'
  g : IsI (m ((c.tc : Thread nD τ).loc main_arg3)) G

variable {m c}

theorem ix0_0 (t : Fin cfg0.N) : win0_0.index t 0 = 0 ∧ win0_0.index t 1 = t.val ∧ win0_0.index t 2 = 0 := by
  rcases fin_N0 t with rfl | rfl | rfl | rfl <;> decide
theorem ix0_1 (t : Fin cfg0.N) : win0_1.index t 0 = 1 ∧ win0_1.index t 1 = 0 ∧ win0_1.index t 2 = 0 := by
  rcases fin_N0 t with rfl | rfl | rfl | rfl <;> decide
theorem ix0_2 (t : Fin cfg0.N) : win0_2.index t 0 = 2 ∧ win0_2.index t 1 = 0 ∧ win0_2.index t 2 = 0 := by
  rcases fin_N0 t with rfl | rfl | rfl | rfl <;> decide
theorem ix0_3 (t : Fin cfg0.N) : win0_3.index t 0 = 0 ∧ win0_3.index t 1 = t.val ∧ win0_3.index t 2 = 0 := by
  rcases fin_N0 t with rfl | rfl | rfl | rfl <;> decide
theorem ix0_4 (t : Fin cfg0.N) : win0_4.index t 0 = 0 ∧ win0_4.index t 1 = t.val ∧ win0_4.index t 2 = 0 := by
  rcases fin_N0 t with rfl | rfl | rfl | rfl <;> decide

theorem lt_N (t : Fin cfg0.N) (r : Fin 512) : 512 * t.val + r.val < 2048 := by
  have := lt_of_lt_of_eq t.isLt N0_eq; omega

theorem iblk_0 (t : Fin cfg0.N) (h : Fin 4) (r : Fin 512) (d : Fin 64) :
    (iblk m c 0 t : Vec Ideal S4x512x64 .bf16) (ix3 h r d) = V m c main_v11 (ix3 (⟨h.val, by omega⟩ : Fin 12) (⟨512 * t.val + r.val, lt_N t r⟩ : Fin 2048) d) := by
  have hi := ix0_0 t
  unfold iblk
  rw [View.read_apply]
  show V m c main_v11 _ = _
  congr 1; funext a; apply Fin.ext
  match a with
  | ⟨0, _⟩ => show win0_0.index t 0 * 4 + 1 * h.val = h.val; rw [hi.1]; omega
  | ⟨1, _⟩ => show win0_0.index t 1 * 512 + 1 * r.val = 512 * t.val + r.val; rw [hi.2.1]; omega
  | ⟨2, _⟩ => show win0_0.index t 2 * 64 + 1 * d.val = d.val; rw [hi.2.2]; omega

theorem iblk_1 (t : Fin cfg0.N) (h : Fin 4) (s : Fin 2048) (d : Fin 64) :
    (iblk m c 1 t : Vec Ideal S4x2048x64 .bf16) (ix3 h s d) = V m c main_v11 (ix3 (⟨4 + h.val, by omega⟩ : Fin 12) s d) := by
  have hi := ix0_1 t
  unfold iblk
  rw [View.read_apply]
  show V m c main_v11 _ = _
  congr 1; funext a; apply Fin.ext
  match a with
  | ⟨0, _⟩ => show win0_1.index t 0 * 4 + 1 * h.val = 4 + h.val; rw [hi.1]; omega
  | ⟨1, _⟩ => show win0_1.index t 1 * 2048 + 1 * s.val = s.val; rw [hi.2.1]; omega
  | ⟨2, _⟩ => show win0_1.index t 2 * 64 + 1 * d.val = d.val; rw [hi.2.2]; omega

theorem iblk_2 (t : Fin cfg0.N) (h : Fin 4) (s : Fin 2048) (d : Fin 64) :
    (iblk m c 2 t : Vec Ideal S4x2048x64 .bf16) (ix3 h s d) = V m c main_v11 (ix3 (⟨8 + h.val, by omega⟩ : Fin 12) s d) := by
  have hi := ix0_2 t
  unfold iblk
  rw [View.read_apply]
  show V m c main_v11 _ = _
  congr 1; funext a; apply Fin.ext
  match a with
  | ⟨0, _⟩ => show win0_2.index t 0 * 4 + 1 * h.val = 8 + h.val; rw [hi.1]; omega
  | ⟨1, _⟩ => show win0_2.index t 1 * 2048 + 1 * s.val = s.val; rw [hi.2.1]; omega
  | ⟨2, _⟩ => show win0_2.index t 2 * 64 + 1 * d.val = d.val; rw [hi.2.2]; omega

theorem iblk_3 (t : Fin cfg0.N) (h : Fin 4) (r : Fin 512) (o : Fin 1) :
    (iblk m c 3 t : Vec Ideal S4x512x1 .f32) (ix3 h r o) = V m c main_v25 (ix3 h (⟨512 * t.val + r.val, lt_N t r⟩ : Fin 2048) o) := by
  have hi := ix0_3 t
  unfold iblk
  rw [View.read_apply]
  show V m c main_v25 _ = _
  congr 1; funext a; apply Fin.ext
  match a with
  | ⟨0, _⟩ => show win0_3.index t 0 * 4 + 1 * h.val = h.val; rw [hi.1]; omega
  | ⟨1, _⟩ => show win0_3.index t 1 * 512 + 1 * r.val = 512 * t.val + r.val; rw [hi.2.1]; omega
  | ⟨2, _⟩ => show win0_3.index t 2 * 1 + 1 * o.val = o.val; rw [hi.2.2]; omega

theorem iblk_4 (t : Fin cfg0.N) (h : Fin 4) (r : Fin 512) (d : Fin 64) :
    (iblk m c 4 t : Vec Ideal S4x512x64 .f32) (ix3 h r d) = V m c main_v7 (ix3 h (⟨512 * t.val + r.val, lt_N t r⟩ : Fin 2048) d) := by
  have hi := ix0_4 t
  unfold iblk
  rw [View.read_apply]
  show V m c main_v7 _ = _
  congr 1; funext a; apply Fin.ext
  match a with
  | ⟨0, _⟩ => show win0_4.index t 0 * 4 + 1 * h.val = h.val; rw [hi.1]; omega
  | ⟨1, _⟩ => show win0_4.index t 1 * 512 + 1 * r.val = 512 * t.val + r.val; rw [hi.2.1]; omega
  | ⟨2, _⟩ => show win0_4.index t 2 * 64 + 1 * d.val = d.val; rw [hi.2.2]; omega

theorem inAll (h : RealArgs m c Q K V' G) : InAll m c (eighth Q) K V' G := fun t =>
  { q := fun g r d => by rw [iblk_0, V_packed]; exact packed_q h.q g _ d
    k := fun g s d => by rw [iblk_1, V_packed]; exact packed_k h.k g s d
    v := fun g s d => by rw [iblk_2, V_packed]; exact packed_v h.v g s d
    t := fun g r o => by rw [iblk_3, V_tot]; exact hostTot_real h.q h.k g _ o
    g := fun g r d => by rw [iblk_4, V_outGrad]; exact byHead_real h.g g _ d }

end Cert.Sb

end
-- ==== Proof.Final.lean ====
module

public import Idealize.ShloMosaic.Lib.Pipeline.ValueKit.Geometry
public import proofs.«01_k».proof.Proof.ArgsReal

/-!
# The three result arrays

After the run every block of the gradient of the queries is in its place, and the gradients of the keys and of the values
hold the sum over all grid points.
-/

@[expose] public section

set_option maxRecDepth 16384

noncomputable section

namespace Cert.Sb

open Idealize.ShloMosaic Idealize.ShloMosaic.TcCoe Idealize.ShloMosaic.ValueIdx Cert.KernelIdeal Cert.KernelIdeal.Gen Finset
open scoped BigOperators

/-- The array of a real function of head, position and column. -/
def asArray (a : ℕ → ℕ → ℕ → ℝ) : FVec Ideal S4x2048x64 .f32 := fun i => ((a (i 0).val (i 1).val (i 2).val : ℝ) : EReal)

theorem IsA.eq {n k : ℕ} {A : (⟨3, ![4, n, k]⟩ : Shape).Idx → EReal} {a : ℕ → ℕ → ℕ → ℝ} (hA : IsA A a) (i : (⟨3, ![4, n, k]⟩ : Shape).Idx) :
    A i = ((a (i 0).val (i 1).val (i 2).val : ℝ) : EReal) := by
  rw [← hA (i 0) (i 1) (i 2)]
  refine congrArg A (funext fun b => ?_)
  match b with
  | ⟨0, _⟩ => rfl
  | ⟨1, _⟩ => rfl
  | ⟨2, _⟩ => rfl

variable {m : (ℓ : Loc nD τ sig) → Buf (Elt Ideal) ℓ} {c : Dev nD} {Q K V' G : ℕ → ℕ → ℕ → ℝ}

theorem ix0_5 (t : Fin cfg0.N) : win0_5.index t 0 = 0 ∧ win0_5.index t 1 = t.val ∧ win0_5.index t 2 = 0 := by
  rcases fin_N0 t with rfl | rfl | rfl | rfl <;> decide
theorem ix0_6 (t : Fin cfg0.N) : win0_6.index t 0 = 0 ∧ win0_6.index t 1 = 0 ∧ win0_6.index t 2 = 0 := by
  rcases fin_N0 t with rfl | rfl | rfl | rfl <;> decide
theorem ix0_7 (t : Fin cfg0.N) : win0_7.index t 0 = 0 ∧ win0_7.index t 1 = 0 ∧ win0_7.index t 2 = 0 := by
  rcases fin_N0 t with rfl | rfl | rfl | rfl <;> decide

theorem final5 (h : InAll m c Q K V' G) : (dats m 0 c).arrAt 5 cfg0.N = asArray (qGrad Q K V' G) := by
  refine (dats m 0 c).arrAt_eq_of_covers 5 _ (by decide +kernel) fun t hf y => ?_
  have hi := ix0_5 t
  have ho := ((outs_real h t.val t.isLt).1).eq y
  blk_simp
  rw [after0_5, ho]
  have e0 : (((win0_5.blk t).view.emb y) 0).val = (y 0).val := by
    show win0_5.index t 0 * 4 + 1 * (y 0).val = (y 0).val
    rw [hi.1]; omega
  have e1 : (((win0_5.blk t).view.emb y) 1).val = 512 * t.val + (y 1).val := by
    show win0_5.index t 1 * 512 + 1 * (y 1).val = 512 * t.val + (y 1).val
    rw [hi.2.1]; omega
  have e2 : (((win0_5.blk t).view.emb y) 2).val = (y 2).val := by
    show win0_5.index t 2 * 64 + 1 * (y 2).val = (y 2).val
    rw [hi.2.2]; omega
  unfold asArray
  rw [← e0, ← e1, ← e2]

theorem sum_parts (f : ℕ → ℝ) : ∑ n ∈ range 4, ∑ t ∈ range 512, f (512 * n + t) = ∑ t ∈ range 2048, f t := by
  have e : ∀ n, ∑ t ∈ range (512 * n), f t = ∑ i ∈ range n, ∑ t ∈ range 512, f (512 * i + t) := fun n => by
    induction n with
    | zero => simp
    | succ n ih => rw [Nat.mul_succ, sum_range_add f (512 * n) 512, ih, sum_range_succ _ n]
  exact (e 4).symm

theorem final6 (h : InAll m c Q K V' G) :
    (dats m 0 c).arrAt 6 cfg0.N = asArray (fun h s d => ∑ t ∈ range 2048, dr (Q h) (K h) (V' h) (G h) t s * Q h t d) := by
  refine (dats m 0 c).arrAt_eq_of_covers 6 _ (by decide +kernel) fun t hf y => ?_
  have hi := ix0_6 t
  have ht : t.val = 3 := by
    have h1 := (flush0_6 t).mp hf
    have h2 := lt_of_lt_of_eq t.isLt N0_eq
    omega
  have ho := ((outs_real h t.val t.isLt).2.1).eq y
  blk_simp
  rw [after0_6, ho, ht]
  have e0 : (((win0_6.blk t).view.emb y) 0).val = (y 0).val := by
    show win0_6.index t 0 * 4 + 1 * (y 0).val = (y 0).val
    rw [hi.1]; omega
  have e1 : (((win0_6.blk t).view.emb y) 1).val = (y 1).val := by
    show win0_6.index t 1 * 2048 + 1 * (y 1).val = (y 1).val
    rw [hi.2.1]; omega
  have e2 : (((win0_6.blk t).view.emb y) 2).val = (y 2).val := by
    show win0_6.index t 2 * 64 + 1 * (y 2).val = (y 2).val
    rw [hi.2.2]; omega
  unfold asArray
  rw [e0, e1, e2]
  exact congrArg _ (sum_parts fun t => dr (Q (y 0).val) (K (y 0).val) (V' (y 0).val) (G (y 0).val) t (y 1).val * Q (y 0).val t (y 2).val)

theorem final7 (h : InAll m c Q K V' G) :
    (dats m 0 c).arrAt 7 cfg0.N = asArray (fun h s d => ∑ t ∈ range 2048, wr (Q h) (K h) t s * G h t d) := by
  refine (dats m 0 c).arrAt_eq_of_covers 7 _ (by decide +kernel) fun t hf y => ?_
  have hi := ix0_7 t
  have ht : t.val = 3 := by
    have h1 := (flush0_7 t).mp hf
    have h2 := lt_of_lt_of_eq t.isLt N0_eq
    omega
  have ho := ((outs_real h t.val t.isLt).2.2).eq y
  blk_simp
  rw [after0_7, ho, ht]
  have e0 : (((win0_7.blk t).view.emb y) 0).val = (y 0).val := by
    show win0_7.index t 0 * 4 + 1 * (y 0).val = (y 0).val
    rw [hi.1]; omega
  have e1 : (((win0_7.blk t).view.emb y) 1).val = (y 1).val := by
    show win0_7.index t 1 * 2048 + 1 * (y 1).val = (y 1).val
    rw [hi.2.1]; omega
  have e2 : (((win0_7.blk t).view.emb y) 2).val = (y 2).val := by
    show win0_7.index t 2 * 64 + 1 * (y 2).val = (y 2).val
    rw [hi.2.2]; omega
  unfold asArray
  rw [e0, e1, e2]
  exact congrArg _ (sum_parts fun t => wr (Q (y 0).val) (K (y 0).val) t (y 1).val * G (y 0).val t (y 2).val)

end Cert.Sb

end
-- ==== Proof.Finite.lean ====
module

public import Idealize.ShloMosaic.Lib.ReduceAll
public import proofs.«01_k».proof.Defs
public import proofs.«01_k».proof.Proof.Final

/-!
# The precondition

The arguments have finite entries; so each is an array of real numbers.
-/

@[expose] public section

set_option maxRecDepth 16384

noncomputable section

namespace Cert.Sb

open Idealize.ShloMosaic Idealize.ShloMosaic.TcCoe Idealize.ShloMosaic.ValueIdx
open Cert.Sb.Ref (IsI)

theorem pre_facts : Cert.Pre_finite.Facts where
  bcast_S_S1x2048x4x64 := by decide
  reducesTo_S1x2048x4x64_S_d0_1_2_3 := by decide
  h_S_ := by decide

theorem real_of_abs_lt {x : EReal} (h : Ideal.cmp .olt (max x (-x)) ⊤ = 1#1) : x = ((x.toReal : ℝ) : EReal) := by
  have hlt : max x (-x) < ⊤ := by
    by_contra hn
    simp [Ideal.cmp, hn] at h
  obtain ⟨h1, h2⟩ := max_lt_iff.mp hlt
  refine (EReal.coe_toReal (ne_of_lt h1) fun hb => ?_).symm
  rw [hb, EReal.neg_bot] at h2
  exact lt_irrefl _ h2

/-- An array of finite entries is an array of real numbers. -/
theorem exists_real (x : FVec Ideal Cert.ReferenceIdeal.S1x2048x4x64 .f32) (hx : ∀ i, Ideal.cmp .olt (max (x i) (-(x i))) ⊤ = 1#1) : ∃ a, IsI x a :=
  ⟨fun h t d => if hh : h < 4 ∧ t < 2048 ∧ d < 64 then (x (ix4 (0 : Fin 1) (⟨t, hh.2.1⟩ : Fin 2048) (⟨h, hh.1⟩ : Fin 4) (⟨d, hh.2.2⟩ : Fin 64))).toReal else 0,
    fun t h d => by
      dsimp only
      rw [dif_pos ⟨h.isLt, t.isLt, d.isLt⟩]
      exact real_of_abs_lt (hx _)⟩

instance : Subsingleton Cert.Pre_finite.S_.Idx := ⟨fun _ _ => funext fun a => a.elim0⟩

/-- One argument's part of the precondition. -/
theorem exists_real_of_all [Cert.Pre_finite.Facts] (x : FVec Ideal Cert.Pre_finite.S1x2048x4x64 .f32) (i : Cert.Pre_finite.S_.Idx)
    (h : Host.reduce IntOp.andi (cmpf .olt (Host.absf x) (broadcastInDim Cert.Pre_finite.S1x2048x4x64 ![] Cert.Pre_finite.Facts.bcast_S_S1x2048x4x64 (constant (F := Ideal) Cert.Pre_finite.S_ .f32 0x7F800000#32)))
      (constantI Cert.Pre_finite.S_ 1 1#1) Cert.Pre_finite.Facts.reducesTo_S1x2048x4x64_S_d0_1_2_3 Cert.Pre_finite.Facts.h_S_ i = 1#1) : ∃ a, IsI x a := by
  refine exists_real x fun j => ?_
  rw [← ofBits_top]
  exact Host.reduce_andi_all _ _ _ _ i h j

theorem exists_real_args [Cert.Pre_finite.Facts] (q k v g : FVec Ideal Cert.Pre_finite.S1x2048x4x64 .f32)
    (h : Cert.Pre_finite.fn (F := Ideal) q k v g = fun _ => 1#1) : (∃ a, IsI q a) ∧ (∃ a, IsI k a) ∧ (∃ a, IsI v a) ∧ ∃ a, IsI g a := by
  have e := congrFun h (Shape.Idx.first Cert.Pre_finite.Facts.h_S_)
  obtain ⟨e1, eg⟩ := IntOp.andi_eq_one.1 (show IntOp.andi _ _ = 1#1 from e)
  obtain ⟨e2, ev⟩ := IntOp.andi_eq_one.1 (show IntOp.andi _ _ = 1#1 from e1)
  obtain ⟨eq, ek⟩ := IntOp.andi_eq_one.1 (show IntOp.andi _ _ = 1#1 from e2)
  exact ⟨exists_real_of_all q _ eq, exists_real_of_all k _ ek, exists_real_of_all v _ ev, exists_real_of_all g _ eg⟩

end Cert.Sb

end
-- ==== Proof.Ffn.lean ====
module

public import proofs.«01_k».proof.Proof.HostMath

/-!
# What the feed-forward calls share

Matrices as functions of two positions, the logistic function as both sides write it, and the two ways of multiplying with
the weights turned.
-/

@[expose] public section

set_option maxRecDepth 16384

noncomputable section

namespace Cert.Ffn

open Idealize.ShloMosaic Idealize.ShloMosaic.ValueIdx Finset
open scoped BigOperators

/-- A position of a matrix is a row and a column. -/
theorem exists_pair {A B : ℕ} (y : (⟨2, ![A, B]⟩ : Shape).Idx) : ∃ (r : Fin A) (n : Fin B), y = ix2 r n :=
  ⟨y 0, y 1, by
    funext a
    match a with
    | ⟨0, _⟩ => rfl
    | ⟨1, _⟩ => rfl⟩

/-- The logistic function, written with the exponential of the negated argument. -/
def lgs (x : EReal) : EReal := Ideal.div 1 (1 + Ideal.exp (-x))

/-- Rows times rows: the entry of a product whose second factor is turned. -/
def dotRows {A B K : ℕ} (x : (⟨2, ![A, K]⟩ : Shape).Idx → EReal) (w : (⟨2, ![B, K]⟩ : Shape).Idx → EReal) (r : Fin A) (n : Fin B) : EReal :=
  ∑ k : Fin K, x (ix2 r k) * w (ix2 n k)

/-- The matrix unit's product with a turned second factor, started at zero. -/
theorem unit_dotRows {A B K : ℕ} {φ ψ : FTy} (x : FVec Ideal ⟨2, ![A, K]⟩ φ) (w : FVec Ideal ⟨2, ![B, K]⟩ ψ) (r : Fin A) (n : Fin B) :
    FloatOps.matmul (DotDims.transposedRhs A K B) none x w (constant ⟨2, ![A, B]⟩ .f32 0x00000000#32) (ix2 r n) = dotRows x w r n := by
  rw [Ideal.matmul_transposedRhs_apply (M := A) (K := K) (N := B) none x w _ r n,
    show constant (F := Ideal) ⟨2, ![A, B]⟩ .f32 0x00000000#32 (ix2 r n) = 0 from Ideal.ofBits_zero_f32, zero_add]
  rfl

/-- The unit's logistic function. -/
theorem unit_lgs (x : EReal) :
    Ideal.div (Ideal.ofBits .f32 0x3F800000#32) (Ideal.ofBits .f32 0x3F800000#32 + Ideal.exp (Ideal.ofBits .f32 0x00000000#32 - x)) = lgs x := by
  rw [Ideal.ofBits_one_f32, Ideal.ofBits_zero_f32, sub_eq_add_neg, zero_add]; rfl

/-- The host's logistic function. -/
theorem host_lgs (x : EReal) :
    Ideal.div (Ideal.ofBits .f32 0x3F800000#32) (Ideal.ofBits .f32 0x3F800000#32 + Ideal.exp (-x)) = lgs x := by
  rw [Ideal.ofBits_one_f32]; rfl

/-! ### Real numbers -/

/-- Every entry is a real number. -/
def IsR {ι : Type} (x : ι → EReal) : Prop := ∀ i, ∃ v : ℝ, x i = (v : EReal)

theorem one_coe : (1 : EReal) = ((1 : ℝ) : EReal) := rfl

theorem lgs_coe (a : ℝ) : lgs (a : EReal) = (((1 : ℝ) / (1 + Real.exp (-a)) : ℝ) : EReal) := by
  unfold lgs
  rw [← EReal.coe_neg, Ideal.exp_coe, one_coe, ← EReal.coe_add, Ideal.div_coe (by positivity), ← EReal.coe_mul, one_mul]

theorem sum_real {n : ℕ} {f : Fin n → EReal} (h : IsR f) : ∃ v : ℝ, ∑ k, f k = (v : EReal) := by
  choose v hv using h
  exact ⟨∑ k, v k, by rw [Finset.sum_congr rfl fun k _ => hv k, Cert.Sb.coe_sum]⟩

theorem mul_real {x y : EReal} (hx : ∃ v : ℝ, x = (v : EReal)) (hy : ∃ v : ℝ, y = (v : EReal)) : ∃ v : ℝ, x * y = (v : EReal) := by
  obtain ⟨a, rfl⟩ := hx
  obtain ⟨b, rfl⟩ := hy
  exact ⟨a * b, (EReal.coe_mul a b).symm⟩

theorem dotRows_real {A B K : ℕ} {x : (⟨2, ![A, K]⟩ : Shape).Idx → EReal} {w : (⟨2, ![B, K]⟩ : Shape).Idx → EReal} (hx : IsR x) (hw : IsR w)
    (r : Fin A) (n : Fin B) : ∃ v : ℝ, dotRows x w r n = (v : EReal) :=
  sum_real fun k => mul_real (hx _) (hw _)

end Cert.Ffn

end
-- ==== Proof.WeightGrad.lean ====
module

public import Idealize.ShloMosaic.Lib.Pipeline.ValueKit
public import Idealize.ShloMosaic.Lib.Pipeline.ValueKit.Geometry
public import proofs.«01_k».proof.Proof.Gen.WeightGradIdeal.Value
public import proofs.«01_k».proof.Proof.Gen.WeightGradReferenceIdeal.Run
public import proofs.«01_k».proof.Proof.Ffn

/-!
# The gradient of a feed-forward weight

The kernel turns a half of the columns of the activations into rows and multiplies; the reference multiplies the other way
round and turns the product. Both are, entry by entry, the same sum over the positions.
-/

@[expose] public section

set_option maxRecDepth 16384

noncomputable section

namespace Cert.Wg

open Idealize.ShloMosaic hiding ix2
open Idealize.ShloMosaic.TcCoe Idealize.ShloMosaic.ValueIdx Cert.Ffn Cert.WeightGradIdeal Cert.WeightGradIdeal.Gen Finset
open scoped BigOperators

/-- The weight's gradient at each entry: the sum over positions of activation times incoming gradient. -/
def grad (s : FVec Ideal S2048x2816 .f32) (g : FVec Ideal S2048x1024 .f32) : FVec Ideal S2816x1024 .bf16 := fun i =>
  ∑ k : Fin 2048, s (ix2 k (i 0)) * g (ix2 k (i 1))

/-- The reference's term is that sum. -/
theorem ref_grad (s : FVec Ideal S2048x2816 .f32) (g : FVec Ideal S2048x1024 .f32) (h : Cert.WeightGradReferenceIdeal.S1024x2816.Transposes [1, 0] Cert.WeightGradReferenceIdeal.S2816x1024)
    (hb : FTy.bits .bf16 < FTy.bits .f32) :
    truncf .bf16 (transpose Cert.WeightGradReferenceIdeal.S2816x1024 [1, 0]
      (Host.dotGeneral Cert.WeightGradReferenceIdeal.dot_S2048x1024_S2048x2816_S1024x2816_0_0_1_1_n_n none g s)
      h) hb = grad s g := by
  refine funext fun (i : S2816x1024.Idx) => ?_
  refine (transpose_apply _ (Host.dotGeneral Cert.WeightGradReferenceIdeal.dot_S2048x1024_S2048x2816_S1024x2816_0_0_1_1_n_n none g s) h i (ix2 (i 1) (i 0)) (by
    intro a
    match a with
    | ⟨0, _⟩ => rfl
    | ⟨1, _⟩ => rfl)).trans ?_
  refine (Cert.Sb.host_dot Cert.WeightGradReferenceIdeal.dot_S2048x1024_S2048x2816_S1024x2816_0_0_1_1_n_n 2048 rfl rfl g s _
    (fun k => (ix2 k (i 1) : S2048x1024.Idx)) (fun k => (ix2 k (i 0) : S2048x2816.Idx)) (fun k => ?_) (fun k => ?_)).trans
    (Finset.sum_congr rfl fun k _ => mul_comm _ _)
  · have hk := contrEquiv1_symm_val Cert.WeightGradReferenceIdeal.dot_S2048x1024_S2048x2816_S1024x2816_0_0_1_1_n_n 2048 rfl rfl k
    funext a; apply Fin.ext
    match a with
    | ⟨0, _⟩ => exact hk
    | ⟨1, _⟩ => rfl
  · have hk := contrEquiv1_symm_val Cert.WeightGradReferenceIdeal.dot_S2048x1024_S2048x2816_S1024x2816_0_0_1_1_n_n 2048 rfl rfl k
    funext a; apply Fin.ext
    match a with
    | ⟨0, _⟩ => exact hk
    | ⟨1, _⟩ => rfl

/-- One block of the kernel's product. -/
theorem pay_apply (x : Vec Ideal S2048x1408 .bf16) (y : Vec Ideal S2048x1024 .bf16) (r : Fin 1408) (n : Fin 1024) :
    k0_pay2 (k0_pay1 x) y (ix2 r n) = ∑ k : Fin 2048, x (ix2 k r) * y (ix2 k n) := by
  unfold k0_pay2 k0_pay1
  simp only [shapeCast_self]
  show FloatOps.matmul (φ₁ := .bf16) (φ₂ := .bf16) (DotDims.plain 1408 2048 1024) none _ (y : FVec Ideal S2048x1024 .bf16) (constant (F := Ideal) ⟨2, ![1408, 1024]⟩ .f32 0x00000000#32) (ix2 r n) = _
  rw [Ideal.matmul_plain_apply, show constant (F := Ideal) ⟨2, ![1408, 1024]⟩ .f32 0x00000000#32 (ix2 r n) = 0 from Ideal.ofBits_zero_f32, zero_add]
  refine Finset.sum_congr rfl fun k _ => ?_
  rw [transpose_apply (k := ix2 k r) (hk := by
    intro a
    match a with
    | ⟨0, _⟩ => rfl
    | ⟨1, _⟩ => rfl)]

variable (m : (ℓ : Loc nD τ sig) → Buf (Elt Ideal) ℓ) (c : Dev nD)

/-- The activations and the incoming gradient as launched. -/
abbrev act : FVec Ideal S2048x2816 .f32 := m ((c.tc : Thread nD τ).loc main_arg0)
abbrev inc : FVec Ideal S2048x1024 .f32 := m ((c.tc : Thread nD τ).loc main_arg1)

theorem V_act : V m c main_v0 = act m c := rfl
theorem V_inc : V m c main_v1 = inc m c := rfl

theorem N0_eq : cfg0.N = 2 := by decide
theorem ix_0 : ∀ t : Fin cfg0.N, win0_0.index t 0 = 0 ∧ win0_0.index t 1 = t.val := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

theorem col_lt (t : Fin cfg0.N) (r : Fin 1408) : 1408 * t.val + r.val < 2816 := by
  have := lt_of_lt_of_eq t.isLt N0_eq; omega

theorem iblk_0 (t : Fin cfg0.N) (k : Fin 2048) (r : Fin 1408) :
    (iblk m c 0 t : Vec Ideal S2048x1408 .bf16) (ix2 k r) = act m c (ix2 k ⟨1408 * t.val + r.val, col_lt t r⟩) := by
  have hi := ix_0 t
  rw [← V_act]
  unfold iblk
  rw [View.read_apply]
  show V m c main_v0 _ = V m c main_v0 _
  congr 1; funext a; apply Fin.ext
  match a with
  | ⟨0, _⟩ => show win0_0.index t 0 * 2048 + 1 * k.val = k.val; rw [hi.1]; omega
  | ⟨1, _⟩ => show win0_0.index t 1 * 1408 + 1 * r.val = 1408 * t.val + r.val; rw [hi.2]; omega

theorem iblk_1 (t : Fin cfg0.N) (k : Fin 2048) (n : Fin 1024) :
    (iblk m c 1 t : Vec Ideal S2048x1024 .bf16) (ix2 k n) = inc m c (ix2 k n) := by
  have hi := ix_1 t
  rw [← V_inc]
  unfold iblk
  rw [View.read_apply]
  show V m c main_v1 _ = V m c main_v1 _
  congr 1; funext a; apply Fin.ext
  match a with
  | ⟨0, _⟩ => show win0_1.index t 0 * 2048 + 1 * k.val = k.val; rw [hi.1]; omega
  | ⟨1, _⟩ => show win0_1.index t 1 * 1024 + 1 * n.val = n.val; rw [hi.2]; omega

/-- The kernel's result array is the weight's gradient. -/
theorem final : (dats m 0 c).arrAt 2 cfg0.N = grad (act m c) (inc m c) := by
  refine (dats m 0 c).arrAt_eq_of_covers 2 _ (by decide +kernel) fun t hf y => ?_
  have hi := ix_2 t
  blk_simp
  rw [after0_2]
  unfold outsAt0
  frame_out
  obtain ⟨r, n, rfl⟩ := exists_pair y
  have e : ((cfg0.win 2).blk t).view.emb (ix2 r n) = ix2 (⟨1408 * t.val + r.val, col_lt t r⟩ : Fin 2816) n := by
    funext a; apply Fin.ext
    match a with
    | ⟨0, _⟩ => show win0_2.index t 0 * 1408 + 1 * r.val = 1408 * t.val + r.val; rw [hi.1]; omega
    | ⟨1, _⟩ => show win0_2.index t 1 * 1024 + 1 * n.val = n.val; rw [hi.2]; omega
  refine (pay_apply _ _ r n).trans (Eq.trans ?_ (congrArg (grad (act m c) (inc m c)) e).symm)
  exact Finset.sum_congr rfl fun k _ => by rw [iblk_0, iblk_1]

end Cert.Wg

end
-- ==== Proof.FfnUp.lean ====
module

public import Idealize.ShloMosaic.Lib.Pipeline.ValueKit
public import Idealize.ShloMosaic.Lib.Pipeline.ValueKit.Geometry
public import proofs.«01_k».proof.Proof.Gen.FfnUpIdeal.Value
public import proofs.«01_k».proof.Proof.Gen.FfnUpReferenceIdeal.Run
public import proofs.«01_k».proof.Proof.Ffn

/-!
# The feed-forward network's first half

The kernel multiplies the activations with a tile of the turned gate and up weights at a time and applies the activation
function to what it has; the reference multiplies with the whole weights. Every entry is the same sum, whatever the numbers.
-/

@[expose] public section

set_option maxRecDepth 16384

noncomputable section

namespace Cert.Up

open Idealize.ShloMosaic hiding ix2
open Idealize.ShloMosaic.TcCoe Idealize.ShloMosaic.ValueIdx Cert.Ffn Cert.FfnUpIdeal Cert.FfnUpIdeal.Gen Finset
open scoped BigOperators

/-- A product, entry by entry. -/
def prod (h : FVec Ideal S2048x1024 .f32) (w : FVec Ideal S1024x2816 .f32) : FVec Ideal S2048x2816 .bf16 := fun i =>
  ∑ k : Fin 1024, h (ix2 (i 0) k) * w (ix2 k (i 1))

/-- The gated product, entry by entry. -/
def gated (h : FVec Ideal S2048x1024 .f32) (wg wu : FVec Ideal S1024x2816 .f32) : FVec Ideal S2048x2816 .bf16 := fun i =>
  prod h wg i * lgs (prod h wg i) * prod h wu i

/-! ### The reference -/

theorem ref_dot (h : FVec Ideal S2048x1024 .f32) (w : FVec Ideal S1024x2816 .f32) (i : S2048x2816.Idx) :
    Host.dotGeneral Cert.FfnUpReferenceIdeal.dot_S2048x1024_S1024x2816_S2048x2816_1_0_0_1_n_n none h w i = prod h w i := by
  refine Cert.Sb.host_dot Cert.FfnUpReferenceIdeal.dot_S2048x1024_S1024x2816_S2048x2816_1_0_0_1_n_n 1024 rfl rfl h w i
    (fun k => (ix2 (i 0) k : S2048x1024.Idx)) (fun k => (ix2 k (i 1) : S1024x2816.Idx)) (fun k => ?_) (fun k => ?_)
  · have hk := contrEquiv1_symm_val Cert.FfnUpReferenceIdeal.dot_S2048x1024_S1024x2816_S2048x2816_1_0_0_1_n_n 1024 rfl rfl k
    funext a; apply Fin.ext
    match a with
    | ⟨0, _⟩ => rfl
    | ⟨1, _⟩ => exact hk
  · have hk := contrEquiv1_symm_val Cert.FfnUpReferenceIdeal.dot_S2048x1024_S1024x2816_S2048x2816_1_0_0_1_n_n 1024 rfl rfl k
    funext a; apply Fin.ext
    match a with
    | ⟨0, _⟩ => exact hk
    | ⟨1, _⟩ => rfl

theorem ref_prod (h : FVec Ideal S2048x1024 .f32) (w : FVec Ideal S1024x2816 .f32) (hb : FTy.bits .bf16 < FTy.bits .f32) :
    truncf .bf16 (Host.dotGeneral Cert.FfnUpReferenceIdeal.dot_S2048x1024_S1024x2816_S2048x2816_1_0_0_1_n_n none h w) hb = prod h w :=
  funext fun i => ref_dot h w i

theorem ref_gated (h : FVec Ideal S2048x1024 .f32) (wg wu : FVec Ideal S1024x2816 .f32) (hb : FTy.bits .bf16 < FTy.bits .f32)
    (hc : Cert.FfnUpReferenceIdeal.S_.BroadcastsInDim Cert.FfnUpReferenceIdeal.S2048x2816 ![]) :
    truncf .bf16 (mulf (mulf (Host.dotGeneral Cert.FfnUpReferenceIdeal.dot_S2048x1024_S1024x2816_S2048x2816_1_0_0_1_n_n none h wg)
      (Host.divf (broadcastInDim Cert.FfnUpReferenceIdeal.S2048x2816 ![] hc (constant Cert.FfnUpReferenceIdeal.S_ .f32 0x3F800000#32))
        (addf (broadcastInDim Cert.FfnUpReferenceIdeal.S2048x2816 ![] hc (constant Cert.FfnUpReferenceIdeal.S_ .f32 0x3F800000#32))
          (Host.exp (Host.negf (Host.dotGeneral Cert.FfnUpReferenceIdeal.dot_S2048x1024_S1024x2816_S2048x2816_1_0_0_1_n_n none h wg))))))
      (Host.dotGeneral Cert.FfnUpReferenceIdeal.dot_S2048x1024_S1024x2816_S2048x2816_1_0_0_1_n_n none h wu)) hb = gated h wg wu := by
  refine funext fun i => ?_
  unfold gated
  rw [← ref_dot, ← ref_dot, ← host_lgs]
  rfl

/-! ### One tile -/

theorem pay2_apply (x : Vec Ideal S2048x1024 .bf16) (w : Vec Ideal S256x1024 .bf16) (r : Fin 2048) (n : Fin 256) :
    k0_pay2 x w (ix2 r n) = dotRows x w r n := by
  unfold k0_pay2 k0_pay1
  simp only [shapeCast_self]
  exact unit_dotRows (A := 2048) (B := 256) (K := 1024) (φ := .bf16) (ψ := .bf16) x w r n

theorem pay3_apply (x : Vec Ideal S2048x1024 .bf16) (w : Vec Ideal S256x1024 .bf16) (r : Fin 2048) (n : Fin 256) :
    k0_pay3 x w (ix2 r n) = dotRows x w r n := by
  unfold k0_pay3 k0_pay1
  simp only [shapeCast_self]
  exact unit_dotRows (A := 2048) (B := 256) (K := 1024) (φ := .bf16) (ψ := .bf16) x w r n

theorem pay6_apply (x : Vec Ideal S2048x1024 .bf16) (v w : Vec Ideal S256x1024 .bf16) (r : Fin 2048) (n : Fin 256) :
    k0_pay6 x v w (ix2 r n) = dotRows x v r n * lgs (dotRows x v r n) * dotRows x w r n := by
  rw [← pay3_apply x w, ← pay2_apply x v, ← unit_lgs]
  rfl

/-! ### The arrays as launched -/

variable (m : (ℓ : Loc nD τ sig) → Buf (Elt Ideal) ℓ) (c : Dev nD)

/-- The activations and the two weights as launched. -/
abbrev inp : FVec Ideal S2048x1024 .f32 := m ((c.tc : Thread nD τ).loc main_arg0)
abbrev wgt : FVec Ideal S1024x2816 .f32 := m ((c.tc : Thread nD τ).loc main_arg1)
abbrev wup : FVec Ideal S1024x2816 .f32 := m ((c.tc : Thread nD τ).loc main_arg2)

theorem V_inp : V m c main_v0 = inp m c := rfl

theorem V_wgt : V m c main_v2 = (transpose S2816x1024 [1, 0] (wgt m c) transposes_S1024x2816_S2816x1024_1_0 : FVec Ideal S2816x1024 .f32) := rfl

theorem V_wup : V m c main_v4 = (transpose S2816x1024 [1, 0] (wup m c) transposes_S1024x2816_S2816x1024_1_0 : FVec Ideal S2816x1024 .f32) := rfl

theorem turn (w : FVec Ideal S1024x2816 .f32) (h : S1024x2816.Transposes [1, 0] S2816x1024) (i : Fin 2816) (k : Fin 1024) :
    transpose S2816x1024 [1, 0] w h (ix2 i k) = w (ix2 k i) :=
  transpose_apply _ w h _ (ix2 k i) (by
    intro a
    match a with
    | ⟨0, _⟩ => rfl
    | ⟨1, _⟩ => rfl)

theorem N0_eq : cfg0.N = 11 := by decide
theorem ix_0 : ∀ t : Fin cfg0.N, win0_0.index t 0 = 0 ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = 0 ∧ win0_3.index t 1 = t.val := by decide +kernel
theorem ix_4 : ∀ t : Fin cfg0.N, win0_4.index t 0 = 0 ∧ win0_4.index t 1 = t.val := by decide +kernel
theorem ix_5 : ∀ t : Fin cfg0.N, win0_5.index t 0 = 0 ∧ win0_5.index t 1 = t.val := by decide +kernel

theorem col_lt (t : Fin cfg0.N) (n : Fin 256) : 256 * t.val + n.val < 2816 := by
  have := lt_of_lt_of_eq t.isLt N0_eq; omega

/-- The column of the whole array that a tile's column is. -/
def colOf (t : Fin cfg0.N) (n : Fin 256) : Fin 2816 := ⟨256 * t.val + n.val, col_lt t n⟩

theorem iblk_0 (t : Fin cfg0.N) (r : Fin 2048) (k : Fin 1024) : (iblk m c 0 t : Vec Ideal S2048x1024 .bf16) (ix2 r k) = inp m c (ix2 r k) := by
  have hi := ix_0 t
  rw [← V_inp]
  unfold iblk
  rw [View.read_apply]
  show V m c main_v0 _ = V m c main_v0 _
  congr 1; funext a; apply Fin.ext
  match a with
  | ⟨0, _⟩ => show win0_0.index t 0 * 2048 + 1 * r.val = r.val; rw [hi.1]; omega
  | ⟨1, _⟩ => show win0_0.index t 1 * 1024 + 1 * k.val = k.val; rw [hi.2]; omega

theorem iblk_1 (t : Fin cfg0.N) (n : Fin 256) (k : Fin 1024) : (iblk m c 1 t : Vec Ideal S256x1024 .bf16) (ix2 n k) = wgt m c (ix2 k (colOf t n)) := by
  have hi := ix_1 t
  rw [← turn (wgt m c) transposes_S1024x2816_S2816x1024_1_0 (colOf t n) k, ← V_wgt]
  unfold iblk
  rw [View.read_apply]
  show V m c main_v2 _ = V m c main_v2 _
  congr 1; funext a; apply Fin.ext
  match a with
  | ⟨0, _⟩ => show win0_1.index t 0 * 256 + 1 * n.val = 256 * t.val + n.val; rw [hi.1]; omega
  | ⟨1, _⟩ => show win0_1.index t 1 * 1024 + 1 * k.val = k.val; rw [hi.2]; omega

theorem iblk_2 (t : Fin cfg0.N) (n : Fin 256) (k : Fin 1024) : (iblk m c 2 t : Vec Ideal S256x1024 .bf16) (ix2 n k) = wup m c (ix2 k (colOf t n)) := by
  have hi := ix_2 t
  rw [← turn (wup m c) transposes_S1024x2816_S2816x1024_1_0 (colOf t n) k, ← V_wup]
  unfold iblk
  rw [View.read_apply]
  show V m c main_v4 _ = V m c main_v4 _
  congr 1; funext a; apply Fin.ext
  match a with
  | ⟨0, _⟩ => show win0_2.index t 0 * 256 + 1 * n.val = 256 * t.val + n.val; rw [hi.1]; omega
  | ⟨1, _⟩ => show win0_2.index t 1 * 1024 + 1 * k.val = k.val; rw [hi.2]; omega

theorem tile_wgt (t : Fin cfg0.N) (r : Fin 2048) (n : Fin 256) :
    dotRows (iblk m c 0 t : Vec Ideal S2048x1024 .bf16) (iblk m c 1 t : Vec Ideal S256x1024 .bf16) r n = prod (inp m c) (wgt m c) (ix2 r (colOf t n)) :=
  Finset.sum_congr rfl fun k _ => by rw [iblk_0, iblk_1]

theorem tile_wup (t : Fin cfg0.N) (r : Fin 2048) (n : Fin 256) :
    dotRows (iblk m c 0 t : Vec Ideal S2048x1024 .bf16) (iblk m c 2 t : Vec Ideal S256x1024 .bf16) r n = prod (inp m c) (wup m c) (ix2 r (colOf t n)) :=
  Finset.sum_congr rfl fun k _ => by rw [iblk_0, iblk_2]

/-! ### The result arrays -/

theorem final_3 : (dats m 0 c).arrAt 3 cfg0.N = prod (inp m c) (wgt m c) := by
  refine (dats m 0 c).arrAt_eq_of_covers 3 _ (by decide +kernel) fun t hf y => ?_
  have hi := ix_3 t
  blk_simp
  rw [after0_3]
  frame_out
  obtain ⟨r, n, rfl⟩ := exists_pair y
  have e : ((cfg0.win 3).blk t).view.emb (ix2 r n) = ix2 r (colOf t n) := by
    funext a; apply Fin.ext
    match a with
    | ⟨0, _⟩ => show win0_3.index t 0 * 2048 + 1 * r.val = r.val; rw [hi.1]; omega
    | ⟨1, _⟩ => show win0_3.index t 1 * 256 + 1 * n.val = 256 * t.val + n.val; rw [hi.2]; omega
  refine (pay2_apply _ _ r n).trans ((tile_wgt m c t r n).trans (congrArg _ e).symm)

theorem final_4 : (dats m 0 c).arrAt 4 cfg0.N = prod (inp m c) (wup m c) := by
  refine (dats m 0 c).arrAt_eq_of_covers 4 _ (by decide +kernel) fun t hf y => ?_
  have hi := ix_4 t
  blk_simp
  rw [after0_4]
  frame_out
  obtain ⟨r, n, rfl⟩ := exists_pair y
  have e : ((cfg0.win 4).blk t).view.emb (ix2 r n) = ix2 r (colOf t n) := by
    funext a; apply Fin.ext
    match a with
    | ⟨0, _⟩ => show win0_4.index t 0 * 2048 + 1 * r.val = r.val; rw [hi.1]; omega
    | ⟨1, _⟩ => show win0_4.index t 1 * 256 + 1 * n.val = 256 * t.val + n.val; rw [hi.2]; omega
  refine (pay3_apply _ _ r n).trans ((tile_wup m c t r n).trans (congrArg _ e).symm)

theorem final_5 : (dats m 0 c).arrAt 5 cfg0.N = gated (inp m c) (wgt m c) (wup m c) := by
  refine (dats m 0 c).arrAt_eq_of_covers 5 _ (by decide +kernel) fun t hf y => ?_
  have hi := ix_5 t
  blk_simp
  rw [after0_5]
  frame_out
  obtain ⟨r, n, rfl⟩ := exists_pair y
  have e : ((cfg0.win 5).blk t).view.emb (ix2 r n) = ix2 r (colOf t n) := by
    funext a; apply Fin.ext
    match a with
    | ⟨0, _⟩ => show win0_5.index t 0 * 2048 + 1 * r.val = r.val; rw [hi.1]; omega
    | ⟨1, _⟩ => show win0_5.index t 1 * 256 + 1 * n.val = 256 * t.val + n.val; rw [hi.2]; omega
  refine (pay6_apply _ _ _ r n).trans (Eq.trans ?_ (congrArg (gated (inp m c) (wgt m c) (wup m c)) e).symm)
  rw [tile_wgt, tile_wup]
  rfl

end Cert.Up

end
-- ==== Proof.GateGrad.lean ====
module

public import Idealize.ShloMosaic.Lib.Pipeline.ValueKit
public import Idealize.ShloMosaic.Lib.Pipeline.ValueKit.Geometry
public import proofs.«01_k».proof.Proof.Gen.GateGradIdeal.Value
public import proofs.«01_k».proof.Proof.Gen.GateGradReferenceIdeal.Run
public import proofs.«01_k».proof.Proof.Ffn

/-!
# The gradient of the gated activation

The kernel multiplies a tile's incoming gradient with the down weight and applies the derivative in the form
`s * (1 + a * (1 - s))`, where `s` is the logistic function of `a`; the reference has the two terms of the product rule.
Where the incoming gradient, the down weight and the other factor are real the two agree.
-/

@[expose] public section

set_option maxRecDepth 16384

noncomputable section

namespace Cert.Gg

open Idealize.ShloMosaic hiding ix2
open Idealize.ShloMosaic.TcCoe Idealize.ShloMosaic.ValueIdx Cert.Ffn Cert.GateGradIdeal Cert.GateGradIdeal.Gen Finset
open scoped BigOperators

/-- The gradient of the gate's argument, as the kernel writes it. -/
def gateGrad (x : FVec Ideal S2048x1024 .f32) (w : FVec Ideal S2816x1024 .f32) (a u : FVec Ideal S2048x2816 .f32) : FVec Ideal S2048x2816 .bf16 := fun i =>
  dotRows x w (i 0) (i 1) * u i * (lgs (a i) * (1 + a i * (1 - lgs (a i))))

/-- The gradient of the other factor. -/
def upGrad (x : FVec Ideal S2048x1024 .f32) (w : FVec Ideal S2816x1024 .f32) (a : FVec Ideal S2048x2816 .f32) : FVec Ideal S2048x2816 .bf16 := fun i =>
  dotRows x w (i 0) (i 1) * (a i * lgs (a i))

/-! ### The reference -/

theorem ref_dot (x : FVec Ideal S2048x1024 .f32) (w : FVec Ideal S2816x1024 .f32) (i : S2048x2816.Idx) :
    Host.dotGeneral Cert.GateGradReferenceIdeal.dot_S2048x1024_S2816x1024_S2048x2816_1_1_0_0_n_n none x w i = dotRows x w (i 0) (i 1) := by
  refine Cert.Sb.host_dot Cert.GateGradReferenceIdeal.dot_S2048x1024_S2816x1024_S2048x2816_1_1_0_0_n_n 1024 rfl rfl x w i
    (fun k => (ix2 (i 0) k : S2048x1024.Idx)) (fun k => (ix2 (i 1) k : S2816x1024.Idx)) (fun k => ?_) (fun k => ?_)
  · have hk := contrEquiv1_symm_val Cert.GateGradReferenceIdeal.dot_S2048x1024_S2816x1024_S2048x2816_1_1_0_0_n_n 1024 rfl rfl k
    funext a; apply Fin.ext
    match a with
    | ⟨0, _⟩ => rfl
    | ⟨1, _⟩ => exact hk
  · have hk := contrEquiv1_symm_val Cert.GateGradReferenceIdeal.dot_S2048x1024_S2816x1024_S2048x2816_1_1_0_0_n_n 1024 rfl rfl k
    funext a; apply Fin.ext
    match a with
    | ⟨0, _⟩ => rfl
    | ⟨1, _⟩ => exact hk

theorem lgs_top : lgs ⊤ = 1 := by
  simp [lgs, Ideal.div]

theorem lgs_bot : lgs ⊥ = 0 := by
  have h : (1 : EReal) + ⊤ = ⊤ := EReal.coe_add_top 1
  simp [lgs, Ideal.div, h]

/-- The product rule's two terms, where the incoming gradient and the other factor are real; the gate's argument may be infinite. -/
theorem rule (p u : ℝ) (a : EReal) : ((p : EReal) * u) * lgs a + (a * ((p : EReal) * u)) * (lgs a * (1 - lgs a)) = (p : EReal) * u * (lgs a * (1 + a * (1 - lgs a))) := by
  induction a using EReal.rec with
  | bot => rw [lgs_bot]; simp
  | top => rw [lgs_top, show (1 : EReal) - 1 = 0 from by rw [one_coe, ← EReal.coe_sub, sub_self, EReal.coe_zero]]; simp
  | coe a =>
    rw [lgs_coe]
    generalize (1 : ℝ) / (1 + Real.exp (-a)) = s
    rw [one_coe]
    norm_cast
    ring

theorem ref_gate (x : FVec Ideal S2048x1024 .f32) (w : FVec Ideal S2816x1024 .f32) (a u : FVec Ideal S2048x2816 .f32)
    (hx : IsR x) (hw : IsR w) (hu : IsR u) (hb : FTy.bits .bf16 < FTy.bits .f32)
    (hc : Cert.GateGradReferenceIdeal.S_.BroadcastsInDim Cert.GateGradReferenceIdeal.S2048x2816 ![]) :
    truncf .bf16 (addf (mulf (mulf (Host.dotGeneral Cert.GateGradReferenceIdeal.dot_S2048x1024_S2816x1024_S2048x2816_1_1_0_0_n_n none x w) u) (Host.divf (broadcastInDim Cert.GateGradReferenceIdeal.S2048x2816 ![] hc (constant Cert.GateGradReferenceIdeal.S_ .f32 0x3F800000#32)) (addf (broadcastInDim Cert.GateGradReferenceIdeal.S2048x2816 ![] hc (constant Cert.GateGradReferenceIdeal.S_ .f32 0x3F800000#32)) (Host.exp (Host.negf a)))))
      (mulf (mulf a (mulf (Host.dotGeneral Cert.GateGradReferenceIdeal.dot_S2048x1024_S2816x1024_S2048x2816_1_1_0_0_n_n none x w) u)) (mulf (Host.divf (broadcastInDim Cert.GateGradReferenceIdeal.S2048x2816 ![] hc (constant Cert.GateGradReferenceIdeal.S_ .f32 0x3F800000#32)) (addf (broadcastInDim Cert.GateGradReferenceIdeal.S2048x2816 ![] hc (constant Cert.GateGradReferenceIdeal.S_ .f32 0x3F800000#32)) (Host.exp (Host.negf a)))) (subf (broadcastInDim Cert.GateGradReferenceIdeal.S2048x2816 ![] hc (constant Cert.GateGradReferenceIdeal.S_ .f32 0x3F800000#32)) (Host.divf (broadcastInDim Cert.GateGradReferenceIdeal.S2048x2816 ![] hc (constant Cert.GateGradReferenceIdeal.S_ .f32 0x3F800000#32)) (addf (broadcastInDim Cert.GateGradReferenceIdeal.S2048x2816 ![] hc (constant Cert.GateGradReferenceIdeal.S_ .f32 0x3F800000#32)) (Host.exp (Host.negf a)))))))) hb = gateGrad x w a u := by
  refine funext fun i => ?_
  obtain ⟨p, hp⟩ := dotRows_real hx hw (i 0) (i 1)
  obtain ⟨ru, eu⟩ := hu i
  unfold gateGrad
  rw [hp, eu, ← rule, ← eu, ← hp, ← ref_dot, ← host_lgs, ← Ideal.ofBits_one_f32]
  rfl

theorem ref_up (x : FVec Ideal S2048x1024 .f32) (w : FVec Ideal S2816x1024 .f32) (a : FVec Ideal S2048x2816 .f32) (hb : FTy.bits .bf16 < FTy.bits .f32)
    (hc : Cert.GateGradReferenceIdeal.S_.BroadcastsInDim Cert.GateGradReferenceIdeal.S2048x2816 ![]) :
    truncf .bf16 (mulf (mulf a (Host.divf (broadcastInDim Cert.GateGradReferenceIdeal.S2048x2816 ![] hc (constant Cert.GateGradReferenceIdeal.S_ .f32 0x3F800000#32)) (addf (broadcastInDim Cert.GateGradReferenceIdeal.S2048x2816 ![] hc (constant Cert.GateGradReferenceIdeal.S_ .f32 0x3F800000#32)) (Host.exp (Host.negf a))))) (Host.dotGeneral Cert.GateGradReferenceIdeal.dot_S2048x1024_S2816x1024_S2048x2816_1_1_0_0_n_n none x w)) hb = upGrad x w a := by
  refine funext fun i => ?_
  unfold upGrad
  rw [mul_comm, ← ref_dot, ← host_lgs]
  rfl

/-! ### One tile -/

theorem pay1_apply (x : Vec Ideal S2048x1024 .bf16) (w : Vec Ideal S256x1024 .bf16) (r : Fin 2048) (n : Fin 256) :
    k0_pay1 x w (ix2 r n) = dotRows x w r n := by
  unfold k0_pay1
  simp only [shapeCast_self]
  exact unit_dotRows (A := 2048) (B := 256) (K := 1024) (φ := .bf16) (ψ := .bf16) x w r n

theorem pay2_apply (a : Vec Ideal S2048x256 .bf16) : k0_pay2 a = a := by
  unfold k0_pay2
  simp only [shapeCast_self]
  rfl

theorem pay3_apply (a : Vec Ideal S2048x256 .bf16) (i : S2048x256.Idx) : k0_pay3 a i = lgs (a i) := by
  rw [← unit_lgs]
  unfold k0_pay3
  rw [pay2_apply]
  rfl

theorem pay4_apply (x : Vec Ideal S2048x1024 .bf16) (w : Vec Ideal S256x1024 .bf16) (a u : Vec Ideal S2048x256 .bf16) (r : Fin 2048) (n : Fin 256) :
    k0_pay4 x w a u (ix2 r n) = dotRows x w r n * u (ix2 r n) * (lgs (a (ix2 r n)) * (1 + a (ix2 r n) * (1 - lgs (a (ix2 r n))))) := by
  rw [← pay3_apply, ← pay1_apply, ← Ideal.ofBits_one_f32]
  unfold k0_pay4
  simp only [shapeCast_self, pay2_apply]
  rfl

theorem pay5_apply (x : Vec Ideal S2048x1024 .bf16) (w : Vec Ideal S256x1024 .bf16) (a : Vec Ideal S2048x256 .bf16) (r : Fin 2048) (n : Fin 256) :
    k0_pay5 x w a (ix2 r n) = dotRows x w r n * (a (ix2 r n) * lgs (a (ix2 r n))) := by
  rw [← pay3_apply, ← pay1_apply]
  unfold k0_pay5
  rw [pay2_apply]
  rfl

/-! ### The arrays as launched -/

variable (m : (ℓ : Loc nD τ sig) → Buf (Elt Ideal) ℓ) (c : Dev nD)

/-- The incoming gradient, the down weight and the two saved factors as launched. -/
abbrev inc : FVec Ideal S2048x1024 .f32 := m ((c.tc : Thread nD τ).loc main_arg0)
abbrev wdn : FVec Ideal S2816x1024 .f32 := m ((c.tc : Thread nD τ).loc main_arg1)
abbrev sva : FVec Ideal S2048x2816 .f32 := m ((c.tc : Thread nD τ).loc main_arg2)
abbrev svu : FVec Ideal S2048x2816 .f32 := m ((c.tc : Thread nD τ).loc main_arg3)

theorem V_inc : V m c main_v0 = inc m c := rfl

theorem V_wdn : V m c main_v1 = wdn m c := rfl

theorem V_sva : V m c main_v2 = sva m c := rfl

theorem V_svu : V m c main_v3 = svu m c := rfl

theorem N0_eq : cfg0.N = 11 := by decide
theorem ix_0 : ∀ t : Fin cfg0.N, win0_0.index t 0 = 0 ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = t.val := by decide +kernel
theorem ix_3 : ∀ t : Fin cfg0.N, win0_3.index t 0 = 0 ∧ win0_3.index t 1 = t.val := by decide +kernel
theorem ix_4 : ∀ t : Fin cfg0.N, win0_4.index t 0 = 0 ∧ win0_4.index t 1 = t.val := by decide +kernel
theorem ix_5 : ∀ t : Fin cfg0.N, win0_5.index t 0 = 0 ∧ win0_5.index t 1 = t.val := by decide +kernel

theorem col_lt (t : Fin cfg0.N) (n : Fin 256) : 256 * t.val + n.val < 2816 := by
  have := lt_of_lt_of_eq t.isLt N0_eq; omega

/-- The column of the whole array that a tile's column is. -/
def colOf (t : Fin cfg0.N) (n : Fin 256) : Fin 2816 := ⟨256 * t.val + n.val, col_lt t n⟩

theorem iblk_0 (t : Fin cfg0.N) (r : Fin 2048) (k : Fin 1024) : (iblk m c 0 t : Vec Ideal S2048x1024 .bf16) (ix2 r k) = inc m c (ix2 r k) := by
  have hi := ix_0 t
  rw [← V_inc]
  unfold iblk
  rw [View.read_apply]
  show V m c main_v0 _ = V m c main_v0 _
  congr 1; funext a; apply Fin.ext
  match a with
  | ⟨0, _⟩ => show win0_0.index t 0 * 2048 + 1 * r.val = r.val; rw [hi.1]; omega
  | ⟨1, _⟩ => show win0_0.index t 1 * 1024 + 1 * k.val = k.val; rw [hi.2]; omega

theorem iblk_1 (t : Fin cfg0.N) (n : Fin 256) (k : Fin 1024) : (iblk m c 1 t : Vec Ideal S256x1024 .bf16) (ix2 n k) = wdn m c (ix2 (colOf t n) k) := by
  have hi := ix_1 t
  rw [← V_wdn]
  unfold iblk
  rw [View.read_apply]
  show V m c main_v1 _ = V m c main_v1 _
  congr 1; funext a; apply Fin.ext
  match a with
  | ⟨0, _⟩ => show win0_1.index t 0 * 256 + 1 * n.val = 256 * t.val + n.val; rw [hi.1]; omega
  | ⟨1, _⟩ => show win0_1.index t 1 * 1024 + 1 * k.val = k.val; rw [hi.2]; omega

theorem iblk_2 (t : Fin cfg0.N) (r : Fin 2048) (n : Fin 256) : (iblk m c 2 t : Vec Ideal S2048x256 .bf16) (ix2 r n) = sva m c (ix2 r (colOf t n)) := by
  have hi := ix_2 t
  rw [← V_sva]
  unfold iblk
  rw [View.read_apply]
  show V m c main_v2 _ = V m c main_v2 _
  congr 1; funext a; apply Fin.ext
  match a with
  | ⟨0, _⟩ => show win0_2.index t 0 * 2048 + 1 * r.val = r.val; rw [hi.1]; omega
  | ⟨1, _⟩ => show win0_2.index t 1 * 256 + 1 * n.val = 256 * t.val + n.val; rw [hi.2]; omega

theorem iblk_3 (t : Fin cfg0.N) (r : Fin 2048) (n : Fin 256) : (iblk m c 3 t : Vec Ideal S2048x256 .bf16) (ix2 r n) = svu m c (ix2 r (colOf t n)) := by
  have hi := ix_3 t
  rw [← V_svu]
  unfold iblk
  rw [View.read_apply]
  show V m c main_v3 _ = V m c main_v3 _
  congr 1; funext a; apply Fin.ext
  match a with
  | ⟨0, _⟩ => show win0_3.index t 0 * 2048 + 1 * r.val = r.val; rw [hi.1]; omega
  | ⟨1, _⟩ => show win0_3.index t 1 * 256 + 1 * n.val = 256 * t.val + n.val; rw [hi.2]; omega

theorem tile_dot (t : Fin cfg0.N) (r : Fin 2048) (n : Fin 256) :
    dotRows (iblk m c 0 t : Vec Ideal S2048x1024 .bf16) (iblk m c 1 t : Vec Ideal S256x1024 .bf16) r n = dotRows (inc m c) (wdn m c) r (colOf t n) :=
  Finset.sum_congr rfl fun k _ => by rw [iblk_0, iblk_1]

/-! ### The result arrays -/

theorem final_4 : (dats m 0 c).arrAt 4 cfg0.N = gateGrad (inc m c) (wdn m c) (sva m c) (svu m c) := by
  refine (dats m 0 c).arrAt_eq_of_covers 4 _ (by decide +kernel) fun t hf y => ?_
  have hi := ix_4 t
  blk_simp
  rw [after0_4]
  frame_out
  obtain ⟨r, n, rfl⟩ := exists_pair y
  have e : ((cfg0.win 4).blk t).view.emb (ix2 r n) = ix2 r (colOf t n) := by
    funext a; apply Fin.ext
    match a with
    | ⟨0, _⟩ => show win0_4.index t 0 * 2048 + 1 * r.val = r.val; rw [hi.1]; omega
    | ⟨1, _⟩ => show win0_4.index t 1 * 256 + 1 * n.val = 256 * t.val + n.val; rw [hi.2]; omega
  refine (pay4_apply _ _ _ _ r n).trans (Eq.trans ?_ (congrArg (gateGrad (inc m c) (wdn m c) (sva m c) (svu m c)) e).symm)
  rw [tile_dot, iblk_2, iblk_3]
  rfl

theorem final_5 : (dats m 0 c).arrAt 5 cfg0.N = upGrad (inc m c) (wdn m c) (sva m c) := by
  refine (dats m 0 c).arrAt_eq_of_covers 5 _ (by decide +kernel) fun t hf y => ?_
  have hi := ix_5 t
  blk_simp
  rw [after0_5]
  frame_out
  obtain ⟨r, n, rfl⟩ := exists_pair y
  have e : ((cfg0.win 5).blk t).view.emb (ix2 r n) = ix2 r (colOf t n) := by
    funext a; apply Fin.ext
    match a with
    | ⟨0, _⟩ => show win0_5.index t 0 * 2048 + 1 * r.val = r.val; rw [hi.1]; omega
    | ⟨1, _⟩ => show win0_5.index t 1 * 256 + 1 * n.val = 256 * t.val + n.val; rw [hi.2]; omega
  refine (pay5_apply _ _ _ r n).trans (Eq.trans ?_ (congrArg (upGrad (inc m c) (wdn m c) (sva m c)) e).symm)
  rw [tile_dot, iblk_2]
  rfl

end Cert.Gg

end
-- ==== Proof.NormTile.lean ====
module

public import Idealize.ShloMosaic.Lib.Pipeline.Value
public import proofs.«01_k».proof.Proof.Gen.NormGradIdeal.Skeleton
public import proofs.«01_k».proof.Proof.Ffn

/-!
# One tile of the gradient through the normalised input

What each value the kernel computes in a tile of 256 rows is, entry by entry.
-/

@[expose] public section

set_option maxRecDepth 16384

noncomputable section

namespace Cert.Ng

open Idealize.ShloMosaic Idealize.ShloMosaic.TcCoe Idealize.ShloMosaic.ValueIdx Cert.Ffn Cert.NormGradIdeal Cert.NormGradIdeal.Gen Finset
open scoped BigOperators

/-- The number of columns and the small number under the root, as printed. -/
def width : EReal := Ideal.ofBits .f32 0x44800000#32
def small : EReal := Ideal.ofBits .f32 0x358637BD#32

/-- The reciprocal root of a row's mean square, from the row's sum of squares. -/
def recip (q : EReal) : EReal := Ideal.rsqrt (Ideal.div q width + small)

theorem sum_row {A B : ℕ} (x : FVec Ideal ⟨2, ![A, B]⟩ .f32) (h : (⟨2, ![A, B]⟩ : Shape).Reduces [1] ⟨1, ![A]⟩) (r : Fin A) :
    multiReduction .add [1] ⟨1, ![A]⟩ x 0x00000000#32 h (.inl rfl) rfl (ix1 r) = ∑ k : Fin B, x (ix2 r k) := by
  refine (Ideal.multiReduction_add_single x _ _ _ _ _).trans ?_
  refine Finset.sum_congr rfl fun k _ => congrArg x ?_
  funext d; apply Fin.ext
  match d with
  | ⟨0, _⟩ => rfl
  | ⟨1, _⟩ => rfl

theorem sum_col {A B : ℕ} (x : FVec Ideal ⟨2, ![A, B]⟩ .f32) (h : (⟨2, ![A, B]⟩ : Shape).Reduces [0] ⟨1, ![B]⟩) (n : Fin B) :
    multiReduction .add [0] ⟨1, ![B]⟩ x 0x00000000#32 h (.inl rfl) rfl (ix1 n) = ∑ k : Fin A, x (ix2 k n) := by
  refine (Ideal.multiReduction_add_single x _ _ _ _ _).trans ?_
  refine Finset.sum_congr rfl fun k _ => congrArg x ?_
  funext d; apply Fin.ext
  match d with
  | ⟨0, _⟩ => rfl
  | ⟨1, _⟩ => rfl

/-- A column of numbers as a matrix of one column, and a row as a matrix of one row. -/
theorem as_col {A : ℕ} (x : FVec Ideal ⟨1, ![A]⟩ .f32) (h : (⟨1, ![A]⟩ : Shape).ShapeCasts ⟨2, ![A, 1]⟩) (r : Fin A) :
    shapeCast ⟨2, ![A, 1]⟩ x h (ix2 r 0) = x (ix1 r) :=
  shapeCast_apply _ _ (ix2 r 0) (ix1 r) (by
    rw [Shape.rowMajor_val_one, Shape.rowMajor_val_two]
    show r.val = r.val * 1 + 0
    omega)

theorem as_row {B : ℕ} (x : FVec Ideal ⟨1, ![B]⟩ .f32) (h : (⟨1, ![B]⟩ : Shape).ShapeCasts ⟨2, ![1, B]⟩) (n : Fin B) :
    shapeCast ⟨2, ![1, B]⟩ x h (ix2 0 n) = x (ix1 n) :=
  shapeCast_apply _ _ (ix2 0 n) (ix1 n) (by
    rw [Shape.rowMajor_val_one, Shape.rowMajor_val_two]
    show n.val = 0 * B + n.val
    omega)

theorem over_cols (x : FVec Ideal S256x1 .f32) (r : Fin 256) (n : Fin 1024) :
    broadcastTo S256x1024 x broadcasts_S256x1_S256x1024 (ix2 r n) = x (ix2 r 0) :=
  broadcastTo_apply x _ (ix2 r n) (ix2 r 0) (fun d => by
    match d with
    | ⟨0, _⟩ => rfl
    | ⟨1, _⟩ => rfl)

theorem over_rows (x : FVec Ideal S1x1024 .f32) (r : Fin 256) (n : Fin 1024) :
    broadcastTo S256x1024 x broadcasts_S1x1024_S256x1024 (ix2 r n) = x (ix2 0 n) :=
  broadcastTo_apply x _ (ix2 r n) (ix2 0 n) (fun d => by
    match d with
    | ⟨0, _⟩ => rfl
    | ⟨1, _⟩ => rfl)

/-- A product's entry. -/
def dotCols {A B K : ℕ} (x : (⟨2, ![A, K]⟩ : Shape).Idx → EReal) (w : (⟨2, ![K, B]⟩ : Shape).Idx → EReal) (r : Fin A) (n : Fin B) : EReal :=
  ∑ k : Fin K, x (ix2 r k) * w (ix2 k n)

theorem unit_dotCols {A B K : ℕ} {φ ψ : FTy} (x : FVec Ideal ⟨2, ![A, K]⟩ φ) (w : FVec Ideal ⟨2, ![K, B]⟩ ψ) (r : Fin A) (n : Fin B) :
    FloatOps.matmul (DotDims.plain A K B) none x w (constant ⟨2, ![A, B]⟩ .f32 0x00000000#32) (ix2 r n) = dotCols x w r n := by
  rw [Ideal.matmul_plain_apply, show constant (F := Ideal) ⟨2, ![A, B]⟩ .f32 0x00000000#32 (ix2 r n) = 0 from Ideal.ofBits_zero_f32, zero_add]
  rfl

/-- The sum of two products' entries. -/
def dhT {A B K L : ℕ} (a : (⟨2, ![A, K]⟩ : Shape).Idx → EReal) (b : (⟨2, ![A, L]⟩ : Shape).Idx → EReal) (v : (⟨2, ![K, B]⟩ : Shape).Idx → EReal)
    (w : (⟨2, ![L, B]⟩ : Shape).Idx → EReal) (r : Fin A) (n : Fin B) : EReal := dotCols a v r n + dotCols b w r n

variable (a b : Vec Ideal S256x2816 .bf16) (v w : Vec Ideal S2816x1024 .bf16) (x d f : Vec Ideal S256x1024 .f32) (g s : Vec Ideal S1x1024 .f32)
variable (r : Fin 256) (n : Fin 1024)

/-- The gradient of the normalised input: a tile of the two products' sum. -/
theorem pay5_apply : k0_pay5 a v b w (ix2 r n) = dotCols a v r n + dotCols b w r n := by
  unfold k0_pay5
  simp only [shapeCast_self]
  exact congrArg₂ (· + ·) (unit_dotCols (A := 256) (B := 1024) (K := 2816) (φ := .bf16) (ψ := .bf16) a v r n)
    (unit_dotCols (A := 256) (B := 1024) (K := 2816) (φ := .bf16) (ψ := .bf16) b w r n)

theorem pay6_apply : k0_pay6 x (ix2 r 0) = recip (∑ k : Fin 1024, x (ix2 r k) * x (ix2 r k)) := by
  refine congrArg recip ((as_col _ _ r).trans (sum_row _ _ r))

theorem pay7_apply : k0_pay7 x (ix2 r n) = x (ix2 r n) * recip (∑ k : Fin 1024, x (ix2 r k) * x (ix2 r k)) := by
  exact congrArg (x (ix2 r n) * ·) ((over_cols _ r n).trans (pay6_apply x r))

theorem pay8_apply : k0_pay8 a v b w g s (ix2 r n) = k0_pay5 a v b w (ix2 r n) * (g (ix2 0 n) * (1 + s (ix2 0 n))) := by
  unfold k0_pay8
  simp only [shapeCast_self]
  refine congrArg (k0_pay5 a v b w (ix2 r n) * ·) ((over_rows _ r n).trans ?_)
  rw [← Ideal.ofBits_one_f32]
  rfl

theorem pay10_apply (u : FVec Ideal S256x1 .f32) (h p q : FVec Ideal S256x1024 .f32) :
    k0_pay10 u h p q d (ix2 r n) = d (ix2 r n) + u (ix2 r 0) * (p (ix2 r n) - h (ix2 r n) * Ideal.div (∑ k : Fin 1024, q (ix2 r k)) width) := by
  unfold k0_pay10
  refine congrArg (d (ix2 r n) + ·) (congrArg₂ (· * ·) (over_cols _ r n) (congrArg (p (ix2 r n) - ·) (congrArg (h (ix2 r n) * ·) ((over_cols _ r n).trans ?_))))
  exact congrArg (Ideal.div · width) ((as_col _ _ r).trans (sum_row _ _ r))

theorem pay11_apply (h : FVec Ideal S256x1024 .f32) (o : Vec Ideal S1x1024 .f32) :
    k0_pay11 h o (ix2 0 n) = o (ix2 0 n) + ∑ r : Fin 256, h (ix2 r n) := by
  unfold k0_pay11
  simp only [shapeCast_self]
  exact congrArg (o (ix2 0 n) + ·) ((as_row _ _ n).trans (sum_col _ _ n))

theorem pay12_apply (h p : FVec Ideal S256x1024 .f32) (o : Vec Ideal S1x1024 .f32) :
    k0_pay12 h p o (ix2 0 n) = o (ix2 0 n) + ∑ r : Fin 256, h (ix2 r n) * p (ix2 r n) := by
  unfold k0_pay12
  simp only [shapeCast_self]
  exact congrArg (o (ix2 0 n) + ·) ((as_row _ _ n).trans (sum_col _ _ n))

theorem pay13_apply (u : FVec Ideal S256x1 .f32) (h p q : FVec Ideal S256x1024 .f32) :
    k0_pay13 u h p q d g (ix2 r n) = k0_pay10 u h p q d (ix2 r n) * g (ix2 0 n) := by
  unfold k0_pay13
  simp only [shapeCast_self]
  exact congrArg (k0_pay10 u h p q d (ix2 r n) * ·) (over_rows _ r n)

theorem pay1_apply (h : FVec Ideal S256x1024 .f32) (o : FVec Ideal S1x1024 .f32) :
    k0_pay1 h o f (ix2 0 n) = o (ix2 0 n) + ∑ r : Fin 256, h (ix2 r n) * f (ix2 r n) := by
  refine congrArg (o (ix2 0 n) + ·) ?_
  refine Eq.trans (congrArg₂ (· * ·) Ideal.ofBits_one_f32 ((as_row _ _ n).trans (sum_col _ _ n))) ?_
  rw [one_mul]
  rfl

theorem pay2_apply : (k0_pay2 : FVec Ideal S1x1024 .f32) (ix2 0 n) = 0 := Ideal.ofBits_zero_f32
theorem pay3_apply : (k0_pay3 : FVec Ideal S1x1024 .f32) (ix2 0 n) = 0 := Ideal.ofBits_zero_f32
theorem pay4_apply : (k0_pay4 : FVec Ideal S1x1024 .f32) (ix2 0 n) = 0 := Ideal.ofBits_zero_f32

theorem pay14_eq (o : Vec Ideal S1x1024 .f32) : k0_pay14 o = o := by
  unfold k0_pay14
  simp only [shapeCast_self]

/-! ### The tile's values together -/

/-- A row's reciprocal root, and the input's gradient from a row of the normalised input's. -/
def rsT : EReal := recip (∑ k : Fin 1024, x (ix2 r k) * x (ix2 r k))
def dxT (D : Fin 1024 → EReal) : EReal :=
  d (ix2 r n) + rsT x r * (D n * (g (ix2 0 n) * (1 + s (ix2 0 n))) - x (ix2 r n) * rsT x r *
    Ideal.div (∑ k : Fin 1024, D k * (g (ix2 0 k) * (1 + s (ix2 0 k))) * (x (ix2 r k) * rsT x r)) width)

/-- The input's gradient from a tile `p` of the normalised input's after the factor and its product `q` with the input. -/
theorem tile_dx_of (p q : FVec Ideal S256x1024 .f32) (D : Fin 1024 → EReal) (hp : ∀ n, p (ix2 r n) = D n * (g (ix2 0 n) * (1 + s (ix2 0 n))))
    (hq : ∀ n, q (ix2 r n) = p (ix2 r n) * k0_pay7 x (ix2 r n)) : k0_pay10 (k0_pay6 x) (k0_pay7 x) p q d (ix2 r n) = dxT x d g s r n D := by
  rw [pay10_apply, pay6_apply, pay7_apply, hp]
  unfold dxT rsT
  refine congrArg (fun z : EReal => d (ix2 r n) + rsT x r * (D n * (g (ix2 0 n) * (1 + s (ix2 0 n))) - x (ix2 r n) * rsT x r * z)) (congrArg (Ideal.div · width) (Finset.sum_congr rfl fun k _ => ?_))
  rw [hq, hp, pay7_apply]

theorem tile_dx : k0_pay10 (k0_pay6 x) (k0_pay7 x) (k0_pay8 a v b w g s) (k0_pay9 a v b w x g s) d (ix2 r n) = dxT x d g s r n (dhT a b v w r) :=
  tile_dx_of x d g s r n _ _ _ (fun n => by
    rw [pay8_apply, pay5_apply]
    rfl) fun _ => rfl

/-! ### Eight tiles -/

variable {N : ℕ} (hN : N = 8) (t : Fin N)

/-- The row of the whole array that a tile's row is. -/
def rowAt : Fin 2048 := ⟨256 * t.val + r.val, by have := lt_of_lt_of_eq t.isLt hN; omega⟩

/-- The sum over a tile's rows of a function of the row. -/
def tileSum (g : Fin 2048 → EReal) : EReal := ∑ r : Fin 256, g (rowAt r hN t)

/-- A function on the rows, continued by zero. -/
def ext (g : Fin 2048 → EReal) (i : ℕ) : EReal := if h : i < 2048 then g ⟨i, h⟩ else 0

theorem tileSum_eq (g : Fin 2048 → EReal) : tileSum hN t g = ∑ i ∈ range 256, ext g (256 * t.val + i) := by
  unfold tileSum
  rw [← Fin.sum_univ_eq_sum_range (fun i => ext g (256 * t.val + i))]
  refine Finset.sum_congr rfl fun r _ => ?_
  have h : 256 * t.val + r.val < 2048 := (rowAt r hN t).isLt
  unfold ext
  rw [dif_pos h]
  rfl

/-- A quantity that starts from the first tile's sum and to which every further tile adds its own ends as the sum over all rows. -/
theorem acc_sum (o : (k : ℕ) → k < N → EReal) (g : Fin 2048 → EReal) (hs : ∀ t : Fin N, t.val % 8 = 0 → o t.val t.isLt = tileSum hN t g)
    (hn : ∀ t : Fin N, ¬t.val % 8 = 0 → o t.val t.isLt = o (t.val - 1) (Nat.lt_of_le_of_lt (Nat.sub_le _ _) t.isLt) + tileSum hN t g) (h7 : 7 < N) :
    o 7 h7 = ∑ i, g i := by
  have key : ∀ k (hk : k < N), o k hk = ∑ i ∈ range (256 * (k + 1)), ext g i := by
    intro k
    induction k with
    | zero =>
      intro hk
      rw [hs ⟨0, hk⟩ rfl, tileSum_eq]
      exact Finset.sum_congr rfl fun i _ => congrArg (ext g) (by simp)
    | succ k ih =>
      intro hk
      have h8 := lt_of_lt_of_eq hk hN
      rw [hn ⟨k + 1, hk⟩ (by show ¬(k + 1) % 8 = 0; omega), tileSum_eq, show 256 * (k + 1 + 1) = 256 * (k + 1) + 256 by ring, Finset.sum_range_add]
      exact congrArg (· + _) (ih (by omega))
  rw [key, show 256 * (7 + 1) = 2048 from rfl, ← Fin.sum_univ_eq_sum_range]
  refine Finset.sum_congr rfl fun i _ => ?_
  unfold ext
  rw [dif_pos i.isLt]

end Cert.Ng

end
-- ==== Proof.NormRef.lean ====
module

public import proofs.«01_k».proof.Proof.Gen.NormGradReferenceIdeal.Run
public import proofs.«01_k».proof.Proof.NormTile

/-!
# The reference's gradient through the normalised input

The reference's results by stages, each entry by entry; on real numbers its gradient of the input, which differentiates the
mean square and the reciprocal root one after the other, is the kernel's closed form.
-/

@[expose] public section

set_option maxRecDepth 16384

noncomputable section

namespace Cert.Ng.Ref

open Idealize.ShloMosaic Idealize.ShloMosaic.TcCoe Idealize.ShloMosaic.ValueIdx Cert.Ffn Cert.NormGradReferenceIdeal Cert.NormGradReferenceIdeal.Gen Finset
open scoped BigOperators

/-- What the results are computed from: the gradient of the normalised input, the input and the gradient that passes it by,
    the gain and the scale, the other factor of the step before and the row that multiplies its gradient. -/
structure Args where
  dh : FVec Ideal S2048x1024 .f32
  x : FVec Ideal S2048x1024 .f32
  dres : FVec Ideal S2048x1024 .f32
  gain : FVec Ideal S1024 .f32
  scale : FVec Ideal S1024 .f32
  f : FVec Ideal S2048x1024 .f32
  gate : FVec Ideal S1024 .f32

variable (A : Args)

/-! ### The stages as the reference has them -/

def colC (b : BitVec 32) : FVec Ideal S2048x1 .f32 := broadcastInDim S2048x1 ![] bcast_S_S2048x1 (constant S_ .f32 b)

/-- The mean square plus the small number. -/
def msq : FVec Ideal S2048x1 .f32 :=
  addf (Host.divf (broadcastInDim S2048x1 ![0] bcast_S2048_S2048x1_0 (Host.reduceAdd (mulf A.x A.x) (constant S_ .f32 0x00000000#32) reducesTo_S2048x1024_S2048_d1 h_S_))
    (colC 0x44800000#32)) (colC 0x358637BD#32)

def rstd : FVec Ideal S2048x1 .f32 := Host.rsqrt (msq A)

def xhat : FVec Ideal S2048x1024 .f32 := mulf A.x (broadcastInDim S2048x1024 ![0, 1] bcast_S2048x1_S2048x1024_0_1 (rstd A))

def rowOf (g : FVec Ideal S1024 .f32) : FVec Ideal S2048x1024 .f32 :=
  broadcastInDim S2048x1024 ![0, 1] bcast_S1x1024_S2048x1024_0_1 (broadcastInDim S1x1024 ![1] bcast_S1024_S1x1024_1 g)

def fac : FVec Ideal S1024 .f32 := mulf A.gain (addf (broadcastInDim S1024 ![] bcast_S_S1024 (constant S_ .f32 0x3F800000#32)) A.scale)

def dxh : FVec Ideal S2048x1024 .f32 := mulf A.dh (rowOf (fac A))

/-- What reaches the input through the mean square. -/
def via : FVec Ideal S2048 .f32 :=
  Host.reduceAdd (Host.divf (mulf (shapeCast S2048x1 (Host.reduceAdd (mulf A.x (dxh A)) (constant S_ .f32 0x00000000#32) reducesTo_S2048x1024_S2048_d1 h_S_) shapeCasts_S2048_S2048x1)
    (mulf (colC 0xBF000000#32) (Host.divf (rstd A) (msq A)))) (colC 0x44800000#32)) (constant S_ .f32 0x00000000#32) reducesTo_S2048x1_S2048_d1 h_S_

def viaCols : FVec Ideal S2048x1024 .f32 := broadcastInDim S2048x1024 ![0] bcast_S2048_S2048x1024_0 (via A)

def dx : FVec Ideal S2048x1024 .f32 :=
  addf (addf (addf A.dres (mulf (dxh A) (broadcastInDim S2048x1024 ![0, 1] bcast_S2048x1_S2048x1024_0_1 (rstd A)))) (mulf A.x (viaCols A))) (mulf (viaCols A) A.x)

def colSum (y : FVec Ideal S2048x1024 .f32) : FVec Ideal S1x1024 .f32 :=
  shapeCast S1x1024 (Host.reduceAdd y (constant S_ .f32 0x00000000#32) reducesTo_S2048x1024_S1024_d0 h_S_) shapeCasts_S1024_S1x1024

/-! ### Entry by entry -/

variable (r : Fin 2048) (n : Fin 1024)

theorem sumRow_apply (y : FVec Ideal S2048x1024 .f32) :
    Host.reduceAdd y (constant S_ .f32 0x00000000#32) reducesTo_S2048x1024_S2048_d1 h_S_ (ix1 r) = ∑ k : Fin 1024, y (ix2 r k) := by
  rw [hostReduceAdd_apply, Ideal.hostReduceAdd_single reducesTo_S2048x1024_S2048_d1 (by decide) _ _ _,
    show constant (F := Ideal) S_ .f32 0x00000000#32 (Shape.Idx.first h_S_) = 0 from Ideal.ofBits_zero_f32, zero_add]
  refine Finset.sum_congr rfl fun k _ => congrArg y ?_
  funext d; apply Fin.ext
  match d with
  | ⟨0, _⟩ => rfl
  | ⟨1, _⟩ => rfl

theorem sumOne_apply (y : FVec Ideal S2048x1 .f32) :
    Host.reduceAdd y (constant S_ .f32 0x00000000#32) reducesTo_S2048x1_S2048_d1 h_S_ (ix1 r) = y (ix2 r 0) := by
  rw [hostReduceAdd_apply, Ideal.hostReduceAdd_single reducesTo_S2048x1_S2048_d1 (by decide) _ _ _,
    show constant (F := Ideal) S_ .f32 0x00000000#32 (Shape.Idx.first h_S_) = 0 from Ideal.ofBits_zero_f32, zero_add]
  refine (Fin.sum_univ_one _).trans (congrArg y ?_)
  funext d; apply Fin.ext
  match d with
  | ⟨0, _⟩ => rfl
  | ⟨1, _⟩ => rfl

theorem colSum_apply (y : FVec Ideal S2048x1024 .f32) : colSum y (ix2 0 n) = ∑ k : Fin 2048, y (ix2 k n) := by
  refine (as_row (B := 1024) _ _ n).trans ?_
  rw [hostReduceAdd_apply, Ideal.hostReduceAdd_single reducesTo_S2048x1024_S1024_d0 (by decide) _ _ _,
    show constant (F := Ideal) S_ .f32 0x00000000#32 (Shape.Idx.first h_S_) = 0 from Ideal.ofBits_zero_f32, zero_add]
  refine Finset.sum_congr rfl fun k _ => congrArg y ?_
  funext d; apply Fin.ext
  match d with
  | ⟨0, _⟩ => rfl
  | ⟨1, _⟩ => rfl

theorem overCols_apply (y : FVec Ideal S2048x1 .f32) : broadcastInDim S2048x1024 ![0, 1] bcast_S2048x1_S2048x1024_0_1 y (ix2 r n) = y (ix2 r 0) :=
  broadcastInDim_apply _ _ _ (ix2 r n) (ix2 r 0) (fun a => by match a with | ⟨0, _⟩ => rfl | ⟨1, _⟩ => rfl)

theorem rowOf_apply (g : FVec Ideal S1024 .f32) : rowOf g (ix2 r n) = g (ix1 n) :=
  (broadcastInDim_apply _ _ _ (ix2 r n) (ix2 0 n) (fun a => by match a with | ⟨0, _⟩ => rfl | ⟨1, _⟩ => rfl)).trans
    (broadcastInDim_apply _ _ _ (ix2 0 n) (ix1 n) (fun a => by match a with | ⟨0, _⟩ => rfl))

theorem viaCols_apply : viaCols A (ix2 r n) = via A (ix1 r) :=
  broadcastInDim_apply _ _ _ (ix2 r n) (ix1 r) (fun a => by match a with | ⟨0, _⟩ => rfl)

/-! ### The kernel's form of each value -/

/-- The gradient of the normalised input, a row's reciprocal root, the normalised input and the factor. -/
def dhE : EReal := A.dh (ix2 r n)
def sqE : EReal := ∑ k : Fin 1024, A.x (ix2 r k) * A.x (ix2 r k)
def rsE : EReal := recip (sqE A r)
def facE : EReal := A.gain (ix1 n) * (1 + A.scale (ix1 n))
def dxE : EReal :=
  A.dres (ix2 r n) + rsE A r * (dhE A r n * facE A n - A.x (ix2 r n) * rsE A r *
    Ideal.div (∑ k : Fin 1024, dhE A r k * facE A k * (A.x (ix2 r k) * rsE A r)) width)

theorem msq_apply : msq A (ix2 r 0) = Ideal.div (sqE A r) width + small := by
  refine congrArg (· + small) (congrArg (Ideal.div · width) ?_)
  exact (broadcastInDim_apply _ _ _ (ix2 r 0) (ix1 r) (fun a => by match a with | ⟨0, _⟩ => rfl)).trans (sumRow_apply r _)

theorem rstd_apply : rstd A (ix2 r 0) = rsE A r := congrArg Ideal.rsqrt (msq_apply A r)

theorem xhat_apply : xhat A (ix2 r n) = A.x (ix2 r n) * rsE A r :=
  congrArg (A.x (ix2 r n) * ·) ((overCols_apply r n _).trans (rstd_apply A r))

theorem fac_apply : fac A (ix1 n) = facE A n := by
  unfold facE
  rw [← Ideal.ofBits_one_f32]
  rfl

theorem dxh_apply : dxh A (ix2 r n) = dhE A r n * facE A n :=
  congrArg (A.dh (ix2 r n) * ·) ((rowOf_apply r n _).trans (fac_apply A n))

/-- What reaches a row through its mean square. -/
def viaE : EReal :=
  Ideal.div ((∑ k : Fin 1024, A.x (ix2 r k) * (dhE A r k * facE A k)) *
    (Ideal.ofBits .f32 0xBF000000#32 * Ideal.div (rsE A r) (Ideal.div (sqE A r) width + small))) width

theorem via_apply : via A (ix1 r) = viaE A r := by
  refine (sumOne_apply r _).trans ?_
  refine congrArg (Ideal.div · width) (congrArg₂ (· * ·) ?_ (congrArg (Ideal.ofBits .f32 0xBF000000#32 * ·) (congrArg₂ Ideal.div (rstd_apply A r) (msq_apply A r))))
  refine (as_col (A := 2048) _ _ r).trans ((sumRow_apply r _).trans ?_)
  exact Finset.sum_congr rfl fun k _ => congrArg (A.x (ix2 r k) * ·) (dxh_apply A r k)

theorem dx_apply : dx A (ix2 r n) =
    A.dres (ix2 r n) + dhE A r n * facE A n * rsE A r + A.x (ix2 r n) * viaE A r + viaE A r * A.x (ix2 r n) := by
  have hv := (viaCols_apply A r n).trans (via_apply A r)
  refine congrArg₂ (· + ·) (congrArg₂ (· + ·) (congrArg (A.dres (ix2 r n) + ·) (congrArg₂ (· * ·) (dxh_apply A r n)
    ((overCols_apply r n _).trans (rstd_apply A r)))) (congrArg (A.x (ix2 r n) * ·) hv)) (congrArg (· * A.x (ix2 r n)) hv)

/-! ### On real numbers -/

/-- The entries of the arguments that are multiplied before the last sum are real numbers. -/
structure IsReal : Prop where
  dh : IsR A.dh
  x : IsR A.x
  gain : IsR A.gain
  scale : IsR A.scale

theorem width_eq : width = ((1024 : ℝ) : EReal) := by
  simp [width, Ideal.ofBits, Ideal.ieee, -EReal.coe_mul]; norm_num

theorem small_pos : ∃ e : ℝ, 0 < e ∧ small = (e : EReal) := by
  refine ⟨_, ?_, by simp [small, Ideal.ofBits, Ideal.ieee, -EReal.coe_mul]; rfl⟩
  norm_num

theorem mhalf_eq : Ideal.ofBits .f32 0xBF000000#32 = ((-(1 / 2) : ℝ) : EReal) := by
  simp [Ideal.ofBits, Ideal.ieee, -EReal.coe_mul]; norm_num

theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

theorem div_real (a : ℝ) {b : ℝ} (hb : b ≠ 0) : Ideal.div (a : EReal) (b : EReal) = ((a / b : ℝ) : EReal) := by
  rw [Ideal.div_coe hb, ← EReal.coe_mul, mul_one_div]

/-- The chain rule's terms sum to the closed form. -/
theorem chain (D G X : Fin 1024 → ℝ) (v : ℝ) (hv : 0 < v) (n : Fin 1024) :
    D n * G n * (Real.sqrt v)⁻¹ + (X n * ((∑ k, X k * (D k * G k)) * (-(1 / 2) * ((Real.sqrt v)⁻¹ / v)) / 1024)
        + (∑ k, X k * (D k * G k)) * (-(1 / 2) * ((Real.sqrt v)⁻¹ / v)) / 1024 * X n)
      = (Real.sqrt v)⁻¹ * (D n * G n - X n * (Real.sqrt v)⁻¹ * ((∑ k, D k * G k * (X k * (Real.sqrt v)⁻¹)) / 1024)) := by
  have hs : ∑ k, D k * G k * (X k * (Real.sqrt v)⁻¹) = (∑ k, X k * (D k * G k)) * (Real.sqrt v)⁻¹ := by
    rw [Finset.sum_mul]
    exact Finset.sum_congr rfl fun k _ => by ring
  have hq : (Real.sqrt v)⁻¹ / v = (Real.sqrt v)⁻¹ * ((Real.sqrt v)⁻¹ * (Real.sqrt v)⁻¹) := by
    rw [← mul_inv, Real.mul_self_sqrt hv.le, div_eq_mul_inv]
  rw [hs, hq]
  ring

theorem dx_eq (h : IsReal A) : dx A (ix2 r n) = dxE A r n := by
  obtain ⟨e, he, hsm⟩ := small_pos
  choose X hX using fun k : Fin 1024 => h.x (ix2 r k)
  choose D hD using fun k : Fin 1024 => (show ∃ v : ℝ, dhE A r k = (v : EReal) from h.dh (ix2 r k))
  choose G hG using fun k : Fin 1024 => (show ∃ v : ℝ, facE A k = (v : EReal) from by
    obtain ⟨p, hp⟩ := h.gain (ix1 k)
    obtain ⟨q, hq⟩ := h.scale (ix1 k)
    exact ⟨p * (1 + q), by unfold facE; rw [hp, hq, one_coe, ← EReal.coe_add, EReal.coe_mul]⟩)
  have hsq : sqE A r = ((∑ k, X k * X k : ℝ) : EReal) := by
    unfold sqE
    rw [← Cert.Sb.coe_sum]
    exact Finset.sum_congr rfl fun k _ => by rw [hX, EReal.coe_mul]
  have hv : 0 < (∑ k, X k * X k) / 1024 + e := add_pos_of_nonneg_of_pos (div_nonneg (Finset.sum_nonneg fun k _ => mul_self_nonneg _) (by norm_num)) he
  have hm : Ideal.div (sqE A r) width + small = (((∑ k, X k * X k) / 1024 + e : ℝ) : EReal) := by
    rw [hsq, width_eq, div_real _ (by norm_num), hsm, EReal.coe_add]
  have hr : rsE A r = (((Real.sqrt ((∑ k, X k * X k) / 1024 + e))⁻¹ : ℝ) : EReal) := by
    unfold rsE recip
    rw [hm, rsqrt_pos hv]
  generalize (∑ k, X k * X k) / 1024 + e = v at hv hm hr
  have hS : ∑ k : Fin 1024, A.x (ix2 r k) * (dhE A r k * facE A k) = ((∑ k, X k * (D k * G k) : ℝ) : EReal) := by
    rw [← Cert.Sb.coe_sum]
    exact Finset.sum_congr rfl fun k _ => by rw [hX, hD, hG, EReal.coe_mul, EReal.coe_mul]
  have hT : ∑ k : Fin 1024, dhE A r k * facE A k * (A.x (ix2 r k) * rsE A r) = ((∑ k, D k * G k * (X k * (Real.sqrt v)⁻¹) : ℝ) : EReal) := by
    rw [← Cert.Sb.coe_sum]
    exact Finset.sum_congr rfl fun k _ => by rw [hX, hD, hG, hr, EReal.coe_mul, EReal.coe_mul, EReal.coe_mul]
  have hq : viaE A r = (((∑ k, X k * (D k * G k)) * (-(1 / 2) * ((Real.sqrt v)⁻¹ / v)) / 1024 : ℝ) : EReal) := by
    unfold viaE
    rw [hS, hm, hr, mhalf_eq, width_eq, div_real _ hv.ne', ← EReal.coe_mul, ← EReal.coe_mul, div_real _ (by norm_num)]
  rw [dx_apply, add_assoc, add_assoc]
  refine congrArg (A.dres (ix2 r n) + ·) ?_
  rw [hq, hT, hX, hD, hG, hr, width_eq, div_real _ (by norm_num)]
  have hc := congrArg (fun t : ℝ => (t : EReal)) (chain D G X v hv n)
  simp only [EReal.coe_add, EReal.coe_mul, EReal.coe_sub] at hc ⊢
  exact hc

/-! ### The five results -/

/-- The five arrays. -/
def outDx : FVec Ideal S2048x1024 .f32 := fun i => dxE A (i 0) (i 1)
def outDh : FVec Ideal S1x1024 .f32 := fun i => ∑ r, dhE A r (i 1)
def outDhX : FVec Ideal S1x1024 .f32 := fun i => ∑ r, dhE A r (i 1) * (A.x (ix2 r (i 1)) * rsE A r)
def outDf : FVec Ideal S2048x1024 .bf16 := fun i => dxE A (i 0) (i 1) * A.gate (ix1 (i 1))
def outDgate : FVec Ideal S1x1024 .f32 := fun i => ∑ r, dxE A r (i 1) * A.f (ix2 r (i 1))

theorem resDx (h : IsReal A) : dx A = outDx A := funext fun i => by
  obtain ⟨r, n, rfl⟩ := exists_pair i
  exact dx_eq A r n h

theorem resDh : colSum A.dh = outDh A := funext fun i => by
  obtain ⟨z, n, rfl⟩ := exists_pair i
  obtain rfl : z = 0 := Subsingleton.elim _ _
  exact colSum_apply n _

theorem resDhX : colSum (mulf (xhat A) A.dh) = outDhX A := funext fun i => by
  obtain ⟨z, n, rfl⟩ := exists_pair i
  obtain rfl : z = 0 := Subsingleton.elim _ _
  exact (colSum_apply n _).trans (Finset.sum_congr rfl fun r _ => (congrArg (· * A.dh (ix2 r n)) (xhat_apply A r n)).trans (mul_comm _ _))

theorem resDf (h : IsReal A) (y : FVec Ideal S2048x1024 .f32) (hy : ∀ r n, y (ix2 r n) = A.gate (ix1 n)) (hb : FTy.bits .bf16 < FTy.bits .f32) :
    truncf .bf16 (mulf y (dx A)) hb = outDf A := funext fun i => by
  obtain ⟨r, n, rfl⟩ := exists_pair i
  exact (congrArg₂ (· * ·) (hy r n) (dx_eq A r n h)).trans (mul_comm _ _)

theorem resDgate (h : IsReal A) : colSum (mulf (dx A) A.f) = outDgate A := funext fun i => by
  obtain ⟨z, n, rfl⟩ := exists_pair i
  obtain rfl : z = 0 := Subsingleton.elim _ _
  exact (colSum_apply n _).trans (Finset.sum_congr rfl fun r _ => congrArg (· * A.f (ix2 r n)) (dx_eq A r n h))

/-! ### The normalised input's gradient from two products -/

/-- The two products' sum. -/
def dhOf (da : FVec Ideal S2048x2816 .f32) (wg : FVec Ideal S1024x2816 .f32) (du : FVec Ideal S2048x2816 .f32) (wu : FVec Ideal S1024x2816 .f32) :
    FVec Ideal S2048x1024 .f32 := fun i => dotRows da wg (i 0) (i 1) + dotRows du wu (i 0) (i 1)

theorem dot_apply (x : FVec Ideal S2048x2816 .f32) (w : FVec Ideal S1024x2816 .f32) :
    Host.dotGeneral dot_S2048x2816_S1024x2816_S2048x1024_1_1_0_0_n_n none x w (ix2 r n) = dotRows x w r n := by
  refine Cert.Sb.host_dot dot_S2048x2816_S1024x2816_S2048x1024_1_1_0_0_n_n 2816 rfl rfl x w _
    (fun k => (ix2 r k : S2048x2816.Idx)) (fun k => (ix2 n k : S1024x2816.Idx)) (fun k => ?_) (fun k => ?_)
  · have hk := contrEquiv1_symm_val dot_S2048x2816_S1024x2816_S2048x1024_1_1_0_0_n_n 2816 rfl rfl k
    funext a; apply Fin.ext
    match a with
    | ⟨0, _⟩ => rfl
    | ⟨1, _⟩ => exact hk
  · have hk := contrEquiv1_symm_val dot_S2048x2816_S1024x2816_S2048x1024_1_1_0_0_n_n 2816 rfl rfl k
    funext a; apply Fin.ext
    match a with
    | ⟨0, _⟩ => rfl
    | ⟨1, _⟩ => exact hk

theorem ref_dh (da : FVec Ideal S2048x2816 .f32) (wg : FVec Ideal S1024x2816 .f32) (du : FVec Ideal S2048x2816 .f32) (wu : FVec Ideal S1024x2816 .f32) :
    addf (Host.dotGeneral dot_S2048x2816_S1024x2816_S2048x1024_1_1_0_0_n_n none du wu) (Host.dotGeneral dot_S2048x2816_S1024x2816_S2048x1024_1_1_0_0_n_n none da wg)
      = dhOf da wg du wu := funext fun i => by
  obtain ⟨r, n, rfl⟩ := exists_pair i
  exact (congrArg₂ (· + ·) (dot_apply r n du wu) (dot_apply r n da wg)).trans (add_comm _ _)

theorem dhOf_real {da : FVec Ideal S2048x2816 .f32} {wg : FVec Ideal S1024x2816 .f32} {du : FVec Ideal S2048x2816 .f32} {wu : FVec Ideal S1024x2816 .f32}
    (h0 : IsR da) (h1 : IsR wg) (h2 : IsR du) (h3 : IsR wu) : IsR (dhOf da wg du wu) := fun i => by
  obtain ⟨p, hp⟩ := dotRows_real h0 h1 (i 0) (i 1)
  obtain ⟨q, hq⟩ := dotRows_real h2 h3 (i 0) (i 1)
  exact ⟨p + q, by unfold dhOf; rw [hp, hq, EReal.coe_add]⟩

end Cert.Ng.Ref

end
-- ==== Proof.NormPoint.lean ====
module

public import Idealize.ShloMosaic.Lib.Pipeline.ValueKit
public import Idealize.ShloMosaic.Lib.Pipeline.ValueKit.Geometry
public import proofs.«01_k».proof.Proof.Gen.NormGradIdeal.Value
public import proofs.«01_k».proof.Proof.NormTile
public import proofs.«01_k».proof.Proof.NormRef

/-!
# The arrays of the gradient through the normalised input

What the kernel leaves in its five arrays.  Two are written tile by tile; three hold one row that every tile adds to, the
first tile starting from zero, so that the last tile leaves the sum over all rows.
-/

@[expose] public section

set_option maxRecDepth 16384

noncomputable section

namespace Cert.Ng

open Idealize.ShloMosaic hiding ix1 ix2
open Idealize.ShloMosaic.TcCoe Idealize.ShloMosaic.ValueIdx Cert.Ffn Cert.Ng.Ref Cert.NormGradIdeal Cert.NormGradIdeal.Gen Finset
open scoped BigOperators

variable (m : (ℓ : Loc nD τ sig) → Buf (Elt Ideal) ℓ) (c : Dev nD)

/-- The gradients of the two products and their weights, as launched. -/
abbrev da : FVec Ideal S2048x2816 .f32 := m ((c.tc : Thread nD τ).loc main_arg0)
abbrev wg : FVec Ideal S1024x2816 .f32 := m ((c.tc : Thread nD τ).loc main_arg1)
abbrev du : FVec Ideal S2048x2816 .f32 := m ((c.tc : Thread nD τ).loc main_arg2)
abbrev wu : FVec Ideal S1024x2816 .f32 := m ((c.tc : Thread nD τ).loc main_arg3)

/-- What the results are computed from. -/
def args : Args where
  dh := dhOf (da m c) (wg m c) (du m c) (wu m c)
  x := m ((c.tc : Thread nD τ).loc main_arg4)
  dres := m ((c.tc : Thread nD τ).loc main_arg5)
  gain := m ((c.tc : Thread nD τ).loc main_arg6)
  scale := m ((c.tc : Thread nD τ).loc main_arg7)
  f := m ((c.tc : Thread nD τ).loc main_arg8)
  gate := m ((c.tc : Thread nD τ).loc main_arg9)

theorem V_da : V m c main_v0 = (da m c) := rfl

theorem V_wg : V m c main_v2 = (transpose S2816x1024 [1, 0] (wg m c) transposes_S1024x2816_S2816x1024_1_0 : FVec Ideal S2816x1024 .f32) := rfl

theorem V_du : V m c main_v3 = (du m c) := rfl

theorem V_wu : V m c main_v5 = (transpose S2816x1024 [1, 0] (wu m c) transposes_S1024x2816_S2816x1024_1_0 : FVec Ideal S2816x1024 .f32) := rfl

theorem V_x : V m c main_arg4 = (args m c).x := rfl

theorem V_dres : V m c main_arg5 = (args m c).dres := rfl

theorem V_gain : V m c main_v6 = (shapeCast S1x1024 (args m c).gain shapeCasts_S1024_S1x1024 : FVec Ideal S1x1024 .f32) := rfl

theorem V_scale : V m c main_v7 = (shapeCast S1x1024 (args m c).scale shapeCasts_S1024_S1x1024 : FVec Ideal S1x1024 .f32) := rfl

theorem V_f : V m c main_arg8 = (args m c).f := rfl

theorem V_gate : V m c main_v8 = (shapeCast S1x1024 (args m c).gate shapeCasts_S1024_S1x1024 : FVec Ideal S1x1024 .f32) := rfl

theorem turn (w : FVec Ideal S1024x2816 .f32) (h : S1024x2816.Transposes [1, 0] S2816x1024) (i : Fin 2816) (k : Fin 1024) :
    transpose S2816x1024 [1, 0] w h (ix2 i k) = w (ix2 k i) :=
  transpose_apply _ w h _ (ix2 k i) (by
    intro a
    match a with
    | ⟨0, _⟩ => rfl
    | ⟨1, _⟩ => rfl)

theorem N0_eq : cfg0.N = 8 := by decide
theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = t.val ∧ win0_4.index t 1 = 0 := by decide +kernel
theorem ix_5 : ∀ t : Fin cfg0.N, win0_5.index t 0 = t.val ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = t.val ∧ win0_8.index t 1 = 0 := by decide +kernel
theorem ix_9 : ∀ t : Fin cfg0.N, win0_9.index t 0 = 0 ∧ win0_9.index t 1 = 0 := by decide +kernel
theorem ix_10 : ∀ t : Fin cfg0.N, win0_10.index t 0 = t.val ∧ win0_10.index t 1 = 0 := by decide +kernel
theorem ix_11 : ∀ t : Fin cfg0.N, win0_11.index t 0 = 0 ∧ win0_11.index t 1 = 0 := by decide +kernel
theorem ix_12 : ∀ t : Fin cfg0.N, win0_12.index t 0 = 0 ∧ win0_12.index t 1 = 0 := by decide +kernel
theorem ix_13 : ∀ t : Fin cfg0.N, win0_13.index t 0 = t.val ∧ win0_13.index t 1 = 0 := by decide +kernel
theorem ix_14 : ∀ t : Fin cfg0.N, win0_14.index t 0 = 0 ∧ win0_14.index t 1 = 0 := by decide +kernel

variable (t : Fin cfg0.N) (r : Fin 256) (n : Fin 1024)

theorem iblk_0 (k : Fin 2816): (iblk m c 0 t : Vec Ideal S256x2816 .bf16) (ix2 r k) = (da m c) (ix2 (rowAt r N0_eq t) k) := by
  have hi := ix_0 t
  rw [← V_da]
  unfold iblk
  rw [View.read_apply]
  show V m c main_v0 _ = V m c main_v0 _
  congr 1; funext a; apply Fin.ext
  match a with
  | ⟨0, _⟩ => show win0_0.index t 0 * 256 + 1 * r.val = 256 * t.val + r.val; rw [hi.1]; omega
  | ⟨1, _⟩ => show win0_0.index t 1 * 2816 + 1 * k.val = k.val; rw [hi.2]; omega

theorem iblk_1 (k : Fin 2816) : (iblk m c 1 t : Vec Ideal S2816x1024 .bf16) (ix2 k n) = (wg m c) (ix2 n k) := by
  have hi := ix_1 t
  rw [← turn (wg m c) transposes_S1024x2816_S2816x1024_1_0 k n, ← V_wg]
  unfold iblk
  rw [View.read_apply]
  show V m c main_v2 _ = V m c main_v2 _
  congr 1; funext a; apply Fin.ext
  match a with
  | ⟨0, _⟩ => show win0_1.index t 0 * 2816 + 1 * k.val = k.val; rw [hi.1]; omega
  | ⟨1, _⟩ => show win0_1.index t 1 * 1024 + 1 * n.val = n.val; rw [hi.2]; omega

theorem iblk_2 (k : Fin 2816): (iblk m c 2 t : Vec Ideal S256x2816 .bf16) (ix2 r k) = (du m c) (ix2 (rowAt r N0_eq t) k) := by
  have hi := ix_2 t
  rw [← V_du]
  unfold iblk
  rw [View.read_apply]
  show V m c main_v3 _ = V m c main_v3 _
  congr 1; funext a; apply Fin.ext
  match a with
  | ⟨0, _⟩ => show win0_2.index t 0 * 256 + 1 * r.val = 256 * t.val + r.val; rw [hi.1]; omega
  | ⟨1, _⟩ => show win0_2.index t 1 * 2816 + 1 * k.val = k.val; rw [hi.2]; omega

theorem iblk_3 (k : Fin 2816) : (iblk m c 3 t : Vec Ideal S2816x1024 .bf16) (ix2 k n) = (wu m c) (ix2 n k) := by
  have hi := ix_3 t
  rw [← turn (wu m c) transposes_S1024x2816_S2816x1024_1_0 k n, ← V_wu]
  unfold iblk
  rw [View.read_apply]
  show V m c main_v5 _ = V m c main_v5 _
  congr 1; funext a; apply Fin.ext
  match a with
  | ⟨0, _⟩ => show win0_3.index t 0 * 2816 + 1 * k.val = k.val; rw [hi.1]; omega
  | ⟨1, _⟩ => show win0_3.index t 1 * 1024 + 1 * n.val = n.val; rw [hi.2]; omega

theorem iblk_4 : (iblk m c 4 t : Vec Ideal S256x1024 .f32) (ix2 r n) = (args m c).x (ix2 (rowAt r N0_eq t) n) := by
  have hi := ix_4 t
  rw [← V_x]
  unfold iblk
  rw [View.read_apply]
  show V m c main_arg4 _ = V m c main_arg4 _
  congr 1; funext a; apply Fin.ext
  match a with
  | ⟨0, _⟩ => show win0_4.index t 0 * 256 + 1 * r.val = 256 * t.val + r.val; rw [hi.1]; omega
  | ⟨1, _⟩ => show win0_4.index t 1 * 1024 + 1 * n.val = n.val; rw [hi.2]; omega

theorem iblk_5 : (iblk m c 5 t : Vec Ideal S256x1024 .f32) (ix2 r n) = (args m c).dres (ix2 (rowAt r N0_eq t) n) := by
  have hi := ix_5 t
  rw [← V_dres]
  unfold iblk
  rw [View.read_apply]
  show V m c main_arg5 _ = V m c main_arg5 _
  congr 1; funext a; apply Fin.ext
  match a with
  | ⟨0, _⟩ => show win0_5.index t 0 * 256 + 1 * r.val = 256 * t.val + r.val; rw [hi.1]; omega
  | ⟨1, _⟩ => show win0_5.index t 1 * 1024 + 1 * n.val = n.val; rw [hi.2]; omega

theorem iblk_8 : (iblk m c 8 t : Vec Ideal S256x1024 .f32) (ix2 r n) = (args m c).f (ix2 (rowAt r N0_eq t) n) := by
  have hi := ix_8 t
  rw [← V_f]
  unfold iblk
  rw [View.read_apply]
  show V m c main_arg8 _ = V m c main_arg8 _
  congr 1; funext a; apply Fin.ext
  match a with
  | ⟨0, _⟩ => show win0_8.index t 0 * 256 + 1 * r.val = 256 * t.val + r.val; rw [hi.1]; omega
  | ⟨1, _⟩ => show win0_8.index t 1 * 1024 + 1 * n.val = n.val; rw [hi.2]; omega

theorem iblk_6 : (iblk m c 6 t : Vec Ideal S1x1024 .f32) (ix2 0 n) = (args m c).gain (ix1 n) := by
  have hi := ix_6 t
  rw [← as_row (args m c).gain shapeCasts_S1024_S1x1024 n, ← V_gain]
  unfold iblk
  rw [View.read_apply]
  show V m c main_v6 _ = V m c main_v6 _
  congr 1; funext a; apply Fin.ext
  match a with
  | ⟨0, _⟩ => show win0_6.index t 0 * 1 + 1 * 0 = 0; rw [hi.1]
  | ⟨1, _⟩ => show win0_6.index t 1 * 1024 + 1 * n.val = n.val; rw [hi.2]; omega

theorem iblk_7 : (iblk m c 7 t : Vec Ideal S1x1024 .f32) (ix2 0 n) = (args m c).scale (ix1 n) := by
  have hi := ix_7 t
  rw [← as_row (args m c).scale shapeCasts_S1024_S1x1024 n, ← V_scale]
  unfold iblk
  rw [View.read_apply]
  show V m c main_v7 _ = V m c main_v7 _
  congr 1; funext a; apply Fin.ext
  match a with
  | ⟨0, _⟩ => show win0_7.index t 0 * 1 + 1 * 0 = 0; rw [hi.1]
  | ⟨1, _⟩ => show win0_7.index t 1 * 1024 + 1 * n.val = n.val; rw [hi.2]; omega

theorem iblk_9 : (iblk m c 9 t : Vec Ideal S1x1024 .f32) (ix2 0 n) = (args m c).gate (ix1 n) := by
  have hi := ix_9 t
  rw [← as_row (args m c).gate shapeCasts_S1024_S1x1024 n, ← V_gate]
  unfold iblk
  rw [View.read_apply]
  show V m c main_v8 _ = V m c main_v8 _
  congr 1; funext a; apply Fin.ext
  match a with
  | ⟨0, _⟩ => show win0_9.index t 0 * 1 + 1 * 0 = 0; rw [hi.1]
  | ⟨1, _⟩ => show win0_9.index t 1 * 1024 + 1 * n.val = n.val; rw [hi.2]; omega

/-! ### A tile's values are the whole array's at its rows -/

theorem tile_dh : dhT (iblk m c 0 t : Vec Ideal S256x2816 .bf16) (iblk m c 2 t : Vec Ideal S256x2816 .bf16) (iblk m c 1 t : Vec Ideal S2816x1024 .bf16) (iblk m c 3 t : Vec Ideal S2816x1024 .bf16) r n
    = dhE (args m c) (rowAt r N0_eq t) n :=
  congrArg₂ (· + ·) (Finset.sum_congr rfl fun k _ => by rw [iblk_0, iblk_1]) (Finset.sum_congr rfl fun k _ => by rw [iblk_2, iblk_3])

theorem tile_rs : rsT (iblk m c 4 t : Vec Ideal S256x1024 .f32) r = rsE (args m c) (rowAt r N0_eq t) :=
  congrArg recip (Finset.sum_congr rfl fun k _ => by rw [iblk_4])

/-- The factor the gain and the scale make, read off a tile. -/
def facT (g k : Vec Ideal S1x1024 .f32) : EReal := g (ix2 0 n) * (1 + k (ix2 0 n))

theorem tile_fac : facT n (iblk m c 6 t) (iblk m c 7 t) = facE (args m c) n :=
  congrArg₂ (· * ·) (iblk_6 m c t n) (congrArg ((1 : EReal) + ·) (iblk_7 m c t n))

theorem tile_dxE : dxT (iblk m c 4 t : Vec Ideal S256x1024 .f32) (iblk m c 5 t : Vec Ideal S256x1024 .f32) (iblk m c 6 t : Vec Ideal S1x1024 .f32) (iblk m c 7 t : Vec Ideal S1x1024 .f32) r n
    (dhT (iblk m c 0 t : Vec Ideal S256x2816 .bf16) (iblk m c 2 t : Vec Ideal S256x2816 .bf16) (iblk m c 1 t : Vec Ideal S2816x1024 .bf16) (iblk m c 3 t : Vec Ideal S2816x1024 .bf16) r)
    = dxE (args m c) (rowAt r N0_eq t) n := by
  unfold dxT dxE
  exact congrArg₂ (· + ·) (iblk_5 m c t r n) (congrArg₂ (· * ·) (tile_rs m c t r) (congrArg₂ (· - ·) (congrArg₂ (· * ·) (tile_dh m c t r n) (tile_fac m c t n))
    (congrArg₂ (· * ·) (congrArg₂ (· * ·) (iblk_4 m c t r n) (tile_rs m c t r)) (congrArg (Ideal.div · width)
      (Finset.sum_congr rfl fun k _ => congrArg₂ (· * ·) (congrArg₂ (· * ·) (tile_dh m c t r k) (tile_fac m c t k)) (congrArg₂ (· * ·) (iblk_4 m c t r k) (tile_rs m c t r)))))))

theorem point_dh : k0_pay5 (iblk m c 0 t) (iblk m c 1 t) (iblk m c 2 t) (iblk m c 3 t) (ix2 r n) = dhE (args m c) (rowAt r N0_eq t) n :=
  (pay5_apply _ _ _ _ r n).trans (tile_dh m c t r n)

theorem point_xhat : k0_pay7 (iblk m c 4 t) (ix2 r n) = (args m c).x (ix2 (rowAt r N0_eq t) n) * rsE (args m c) (rowAt r N0_eq t) :=
  (pay7_apply _ r n).trans (congrArg₂ (· * ·) (iblk_4 m c t r n) (tile_rs m c t r))

theorem point_dx : k0_pay10 (k0_pay6 (iblk m c 4 t)) (k0_pay7 (iblk m c 4 t)) (k0_pay8 (iblk m c 0 t) (iblk m c 1 t) (iblk m c 2 t) (iblk m c 3 t) (iblk m c 6 t) (iblk m c 7 t))
      (k0_pay9 (iblk m c 0 t) (iblk m c 1 t) (iblk m c 2 t) (iblk m c 3 t) (iblk m c 4 t) (iblk m c 6 t) (iblk m c 7 t)) (iblk m c 5 t) (ix2 r n) = dxE (args m c) (rowAt r N0_eq t) n :=
  (tile_dx _ _ _ _ _ _ _ _ r n).trans (tile_dxE m c t r n)

/-! ### What each point leaves -/

theorem outs_10 : (outsAt0 m c t.val t.isLt).1 (ix2 r n) = dxE (args m c) (rowAt r N0_eq t) n := by
  by_cases h0 : t.val % 8 = 0
  · rw [outsAt0_A m c t h0]
    dsimp only
    frame_out
    exact point_dx m c t r n
  · rw [outsAt0_B m c t h0]
    dsimp only
    frame_out
    exact point_dx m c t r n

theorem outs_13 : (outsAt0 m c t.val t.isLt).2.2.2.1 (ix2 r n) = dxE (args m c) (rowAt r N0_eq t) n * (args m c).gate (ix1 n) := by
  by_cases h0 : t.val % 8 = 0
  · rw [outsAt0_A m c t h0]
    dsimp only
    frame_out
    exact (pay13_apply _ _ r n _ _ _ _).trans (congrArg₂ (· * ·) (point_dx m c t r n) (iblk_9 m c t n))
  · rw [outsAt0_B m c t h0]
    dsimp only
    frame_out
    exact (pay13_apply _ _ r n _ _ _ _).trans (congrArg₂ (· * ·) (point_dx m c t r n) (iblk_9 m c t n))

theorem start_11 (h0 : t.val % 8 = 0) : (outsAt0 m c t.val t.isLt).2.1 (ix2 0 n) = tileSum N0_eq t (fun r => dhE (args m c) r n) := by
  rw [outsAt0_A m c t h0]
  dsimp only
  frame_out
  refine (pay11_apply n _ _).trans ?_
  rw [pay2_apply n, zero_add]
  exact Finset.sum_congr rfl fun r _ => point_dh m c t r n

theorem step_11 (h0 : ¬t.val % 8 = 0) : (outsAt0 m c t.val t.isLt).2.1 (ix2 0 n)
    = (outsAt0 m c (t.val - 1) (Nat.lt_of_le_of_lt (Nat.sub_le _ _) t.isLt)).2.1 (ix2 0 n) + tileSum N0_eq t (fun r => dhE (args m c) r n) := by
  rw [outsAt0_B m c t h0]
  dsimp only
  frame_out
  exact (pay11_apply n _ _).trans (congrArg₂ (· + ·) (rfl) (Finset.sum_congr rfl fun r _ => point_dh m c t r n))

theorem start_12 (h0 : t.val % 8 = 0) : (outsAt0 m c t.val t.isLt).2.2.1 (ix2 0 n) = tileSum N0_eq t (fun r => dhE (args m c) r n * ((args m c).x (ix2 r n) * rsE (args m c) r)) := by
  rw [outsAt0_A m c t h0]
  dsimp only
  frame_out
  refine (pay12_apply n _ _ _).trans ?_
  rw [pay3_apply n, zero_add]
  exact Finset.sum_congr rfl fun r _ => congrArg₂ (· * ·) (point_dh m c t r n) (point_xhat m c t r n)

theorem step_12 (h0 : ¬t.val % 8 = 0) : (outsAt0 m c t.val t.isLt).2.2.1 (ix2 0 n)
    = (outsAt0 m c (t.val - 1) (Nat.lt_of_le_of_lt (Nat.sub_le _ _) t.isLt)).2.2.1 (ix2 0 n) + tileSum N0_eq t (fun r => dhE (args m c) r n * ((args m c).x (ix2 r n) * rsE (args m c) r)) := by
  rw [outsAt0_B m c t h0]
  dsimp only
  frame_out
  exact (pay12_apply n _ _ _).trans (congrArg₂ (· + ·) (rfl) (Finset.sum_congr rfl fun r _ => congrArg₂ (· * ·) (point_dh m c t r n) (point_xhat m c t r n)))

theorem start_14 (h0 : t.val % 8 = 0) : (outsAt0 m c t.val t.isLt).2.2.2.2 (ix2 0 n) = tileSum N0_eq t (fun r => dxE (args m c) r n * (args m c).f (ix2 r n)) := by
  rw [outsAt0_A m c t h0]
  dsimp only
  frame_out
  refine (pay1_apply _ n _ _).trans ?_
  rw [pay14_eq, pay4_apply n, zero_add]
  exact Finset.sum_congr rfl fun r _ => congrArg₂ (· * ·) (point_dx m c t r n) (iblk_8 m c t r n)

theorem step_14 (h0 : ¬t.val % 8 = 0) : (outsAt0 m c t.val t.isLt).2.2.2.2 (ix2 0 n)
    = (outsAt0 m c (t.val - 1) (Nat.lt_of_le_of_lt (Nat.sub_le _ _) t.isLt)).2.2.2.2 (ix2 0 n) + tileSum N0_eq t (fun r => dxE (args m c) r n * (args m c).f (ix2 r n)) := by
  rw [outsAt0_B m c t h0]
  dsimp only
  frame_out
  exact (pay1_apply _ n _ _).trans (congrArg₂ (· + ·) (congrFun (pay14_eq _) (ix2 0 n)) (Finset.sum_congr rfl fun r _ => congrArg₂ (· * ·) (point_dx m c t r n) (iblk_8 m c t r n)))

/-- The last point. -/
def lastPt : Fin cfg0.N := ⟨7, by decide⟩

/-! ### The result arrays -/

theorem final_10 : (dats m 0 c).arrAt 10 cfg0.N = outDx (args m c) := by
  refine (dats m 0 c).arrAt_eq_of_covers 10 _ (by decide +kernel) fun t hf y => ?_
  have hi := ix_10 t
  blk_simp
  rw [after0_10]
  obtain ⟨r, n, rfl⟩ := exists_pair y
  have e : ((cfg0.win 10).blk t).view.emb (ix2 r n) = ix2 (rowAt r N0_eq t) n := by
    funext a; apply Fin.ext
    match a with
    | ⟨0, _⟩ => show win0_10.index t 0 * 256 + 1 * r.val = 256 * t.val + r.val; rw [hi.1]; omega
    | ⟨1, _⟩ => show win0_10.index t 1 * 1024 + 1 * n.val = n.val; rw [hi.2]; omega
  exact (outs_10 m c t r n).trans (congrArg (outDx (args m c)) e).symm

theorem final_13 : (dats m 0 c).arrAt 13 cfg0.N = outDf (args m c) := by
  refine (dats m 0 c).arrAt_eq_of_covers 13 _ (by decide +kernel) fun t hf y => ?_
  have hi := ix_13 t
  blk_simp
  rw [after0_13]
  obtain ⟨r, n, rfl⟩ := exists_pair y
  have e : ((cfg0.win 13).blk t).view.emb (ix2 r n) = ix2 (rowAt r N0_eq t) n := by
    funext a; apply Fin.ext
    match a with
    | ⟨0, _⟩ => show win0_13.index t 0 * 256 + 1 * r.val = 256 * t.val + r.val; rw [hi.1]; omega
    | ⟨1, _⟩ => show win0_13.index t 1 * 1024 + 1 * n.val = n.val; rw [hi.2]; omega
  exact (outs_13 m c t r n).trans (congrArg (outDf (args m c)) e).symm

theorem final_11 : (dats m 0 c).arrAt 11 cfg0.N = outDh (args m c) := by
  refine (dats m 0 c).arrAt_eq_of_after_last 11 lastPt (by decide +kernel) _ fun j => ?_
  blk_simp
  rw [after0_11]
  obtain ⟨z, n, rfl⟩ := exists_pair j
  obtain rfl : z = 0 := Subsingleton.elim _ _
  exact acc_sum N0_eq (fun k hk => (outsAt0 m c k hk).2.1 (ix2 0 n)) _ (fun t h => start_11 m c t n h) (fun t h => step_11 m c t n h) lastPt.isLt

theorem final_12 : (dats m 0 c).arrAt 12 cfg0.N = outDhX (args m c) := by
  refine (dats m 0 c).arrAt_eq_of_after_last 12 lastPt (by decide +kernel) _ fun j => ?_
  blk_simp
  rw [after0_12]
  obtain ⟨z, n, rfl⟩ := exists_pair j
  obtain rfl : z = 0 := Subsingleton.elim _ _
  exact acc_sum N0_eq (fun k hk => (outsAt0 m c k hk).2.2.1 (ix2 0 n)) _ (fun t h => start_12 m c t n h) (fun t h => step_12 m c t n h) lastPt.isLt

theorem final_14 : (dats m 0 c).arrAt 14 cfg0.N = outDgate (args m c) := by
  refine (dats m 0 c).arrAt_eq_of_after_last 14 lastPt (by decide +kernel) _ fun j => ?_
  blk_simp
  rw [after0_14]
  obtain ⟨z, n, rfl⟩ := exists_pair j
  obtain rfl : z = 0 := Subsingleton.elim _ _
  exact acc_sum N0_eq (fun k hk => (outsAt0 m c k hk).2.2.2.2 (ix2 0 n)) _ (fun t h => start_14 m c t n h) (fun t h => step_14 m c t n h) lastPt.isLt

end Cert.Ng

end
-- ==== Proof.FiniteFfn.lean ====
module

public import proofs.«01_k».proof.Proof.Finite
public import proofs.«01_k».proof.Proof.Ffn

/-!
# The preconditions of the feed-forward calls

Of an argument of any shape: when the test of its entries' absolute values against infinity holds, every entry is a real
number.
-/

@[expose] public section

set_option maxRecDepth 16384

noncomputable section

namespace Cert.Ffn

open Idealize.ShloMosaic Idealize.ShloMosaic.TcCoe

abbrev S0 : Shape := ⟨0, ![]⟩

theorem real_of_all {s : Shape} {axes : List (Fin s.rank)} (x : FVec Ideal s .f32) (hb : S0.BroadcastsInDim s ![]) (hr : s.ReducesTo axes S0)
    (hn : 0 < S0.numel) (i : S0.Idx)
    (h : Host.reduce IntOp.andi (cmpf .olt (Host.absf x) (broadcastInDim s ![] hb (constant (F := Ideal) S0 .f32 0x7F800000#32)))
      (constantI S0 1 1#1) hr hn i = 1#1) : IsR x := fun j => by
  refine ⟨(x j).toReal, Cert.Sb.real_of_abs_lt ?_⟩
  rw [← Cert.Sb.ofBits_top]
  exact Host.reduce_andi_all _ _ _ _ i h j

theorem gate_facts : Cert.Pre_finite_gate.Facts where
  bcast_S_S2048x1024 := by decide
  reducesTo_S2048x1024_S_d0_1 := by decide
  h_S_ := by decide
  bcast_S_S2816x1024 := by decide
  reducesTo_S2816x1024_S_d0_1 := by decide
  bcast_S_S2048x2816 := by decide
  reducesTo_S2048x2816_S_d0_1 := by decide

theorem norm_facts : Cert.Pre_finite_norm.Facts where
  bcast_S_S2048x2816 := by decide
  reducesTo_S2048x2816_S_d0_1 := by decide
  h_S_ := by decide
  bcast_S_S1024x2816 := by decide
  reducesTo_S1024x2816_S_d0_1 := by decide
  bcast_S_S2048x1024 := by decide
  reducesTo_S2048x1024_S_d0_1 := by decide
  bcast_S_S1024 := by decide
  reducesTo_S1024_S_d0 := by decide

theorem last_facts : Cert.Pre_finite_last.Facts where
  bcast_S_S2048x2816 := by decide
  reducesTo_S2048x2816_S_d0_1 := by decide
  h_S_ := by decide
  bcast_S_S1024x2816 := by decide
  reducesTo_S1024x2816_S_d0_1 := by decide
  bcast_S_S2048x1024 := by decide
  reducesTo_S2048x1024_S_d0_1 := by decide
  bcast_S_S1024 := by decide
  reducesTo_S1024_S_d0 := by decide

theorem mix_facts : Cert.Pre_finite_mix.Facts where
  bcast_S_S2048x5632 := by decide
  reducesTo_S2048x5632_S_d0_1 := by decide
  h_S_ := by decide
  bcast_S_S1024x5632 := by decide
  reducesTo_S1024x5632_S_d0_1 := by decide
  bcast_S_S2048x1024 := by decide
  reducesTo_S2048x1024_S_d0_1 := by decide
  bcast_S_S1024 := by decide
  reducesTo_S1024_S_d0 := by decide

/-- The arguments of the gradient of the gated activation, without the gate's own argument. -/
theorem real_gate [Cert.Pre_finite_gate.Facts] (x : FVec Ideal Cert.Pre_finite_gate.S2048x1024 .f32) (w : FVec Ideal Cert.Pre_finite_gate.S2816x1024 .f32)
    (a u : FVec Ideal Cert.Pre_finite_gate.S2048x2816 .f32) (h : Cert.Pre_finite_gate.fn (F := Ideal) x w a u = fun _ => 1#1) :
    IsR x ∧ IsR w ∧ IsR u := by
  have e := congrFun h (Shape.Idx.first Cert.Pre_finite_gate.Facts.h_S_)
  obtain ⟨e1, e2⟩ := IntOp.andi_eq_one.1 (show IntOp.andi _ _ = 1#1 from e)
  obtain ⟨e3, e4⟩ := IntOp.andi_eq_one.1 (show IntOp.andi _ _ = 1#1 from e1)
  exact ⟨real_of_all x _ _ _ _ e3, real_of_all w _ _ _ _ e4, real_of_all u _ _ _ _ e2⟩

open Cert.Pre_finite_norm in
/-- The arguments of the gradient through the normalised input, without those that only enter at its end. -/
theorem real_norm [Cert.Pre_finite_norm.Facts] (da : FVec Ideal S2048x2816 .f32) (wg : FVec Ideal S1024x2816 .f32) (du : FVec Ideal S2048x2816 .f32)
    (wu : FVec Ideal S1024x2816 .f32) (x dres : FVec Ideal S2048x1024 .f32) (gain scale : FVec Ideal S1024 .f32) (f : FVec Ideal S2048x1024 .f32)
    (gate : FVec Ideal S1024 .f32) (h : Cert.Pre_finite_norm.fn (F := Ideal) da wg du wu x dres gain scale f gate = fun _ => 1#1) :
    IsR da ∧ IsR wg ∧ IsR du ∧ IsR wu ∧ IsR x ∧ IsR gain ∧ IsR scale := by
  have e := congrFun h (Shape.Idx.first Cert.Pre_finite_norm.Facts.h_S_)
  obtain ⟨e1, es⟩ := IntOp.andi_eq_one.1 (show IntOp.andi _ _ = 1#1 from e)
  obtain ⟨e2, eg⟩ := IntOp.andi_eq_one.1 (show IntOp.andi _ _ = 1#1 from e1)
  obtain ⟨e3, ex⟩ := IntOp.andi_eq_one.1 (show IntOp.andi _ _ = 1#1 from e2)
  obtain ⟨e4, ewu⟩ := IntOp.andi_eq_one.1 (show IntOp.andi _ _ = 1#1 from e3)
  obtain ⟨e5, edu⟩ := IntOp.andi_eq_one.1 (show IntOp.andi _ _ = 1#1 from e4)
  obtain ⟨eda, ewg⟩ := IntOp.andi_eq_one.1 (show IntOp.andi _ _ = 1#1 from e5)
  exact ⟨real_of_all da _ _ _ _ eda, real_of_all wg _ _ _ _ ewg, real_of_all du _ _ _ _ edu, real_of_all wu _ _ _ _ ewu, real_of_all x _ _ _ _ ex,
    real_of_all gain _ _ _ _ eg, real_of_all scale _ _ _ _ es⟩

open Cert.Pre_finite_last in
/-- The same where no step lies before, without those that only enter at its end. -/
theorem real_last [Cert.Pre_finite_last.Facts] (da : FVec Ideal S2048x2816 .f32) (wg : FVec Ideal S1024x2816 .f32) (du : FVec Ideal S2048x2816 .f32)
    (wu : FVec Ideal S1024x2816 .f32) (x dres : FVec Ideal S2048x1024 .f32) (gain scale : FVec Ideal S1024 .f32)
    (h : Cert.Pre_finite_last.fn (F := Ideal) da wg du wu x dres gain scale = fun _ => 1#1) :
    IsR da ∧ IsR wg ∧ IsR du ∧ IsR wu ∧ IsR x ∧ IsR gain ∧ IsR scale := by
  have e := congrFun h (Shape.Idx.first Cert.Pre_finite_last.Facts.h_S_)
  obtain ⟨e1, es⟩ := IntOp.andi_eq_one.1 (show IntOp.andi _ _ = 1#1 from e)
  obtain ⟨e2, eg⟩ := IntOp.andi_eq_one.1 (show IntOp.andi _ _ = 1#1 from e1)
  obtain ⟨e3, ex⟩ := IntOp.andi_eq_one.1 (show IntOp.andi _ _ = 1#1 from e2)
  obtain ⟨e4, ewu⟩ := IntOp.andi_eq_one.1 (show IntOp.andi _ _ = 1#1 from e3)
  obtain ⟨e5, edu⟩ := IntOp.andi_eq_one.1 (show IntOp.andi _ _ = 1#1 from e4)
  obtain ⟨eda, ewg⟩ := IntOp.andi_eq_one.1 (show IntOp.andi _ _ = 1#1 from e5)
  exact ⟨real_of_all da _ _ _ _ eda, real_of_all wg _ _ _ _ ewg, real_of_all du _ _ _ _ edu, real_of_all wu _ _ _ _ ewu, real_of_all x _ _ _ _ ex,
    real_of_all gain _ _ _ _ eg, real_of_all scale _ _ _ _ es⟩

open Cert.Pre_finite_mix in
/-- The arguments of the gradient through the mixed projection's input, without those that only enter at its end. -/
theorem real_mix [Cert.Pre_finite_mix.Facts] (p : FVec Ideal S2048x5632 .f32) (w : FVec Ideal S1024x5632 .f32) (x dres : FVec Ideal S2048x1024 .f32)
    (gain scale : FVec Ideal S1024 .f32) (f : FVec Ideal S2048x1024 .f32) (gate : FVec Ideal S1024 .f32)
    (h : Cert.Pre_finite_mix.fn (F := Ideal) p w x dres gain scale f gate = fun _ => 1#1) : IsR p ∧ IsR w ∧ IsR x ∧ IsR gain ∧ IsR scale := by
  have e := congrFun h (Shape.Idx.first Cert.Pre_finite_mix.Facts.h_S_)
  obtain ⟨e1, es⟩ := IntOp.andi_eq_one.1 (show IntOp.andi _ _ = 1#1 from e)
  obtain ⟨e2, eg⟩ := IntOp.andi_eq_one.1 (show IntOp.andi _ _ = 1#1 from e1)
  obtain ⟨e3, ex⟩ := IntOp.andi_eq_one.1 (show IntOp.andi _ _ = 1#1 from e2)
  obtain ⟨ep, ew⟩ := IntOp.andi_eq_one.1 (show IntOp.andi _ _ = 1#1 from e3)
  exact ⟨real_of_all p _ _ _ _ ep, real_of_all w _ _ _ _ ew, real_of_all x _ _ _ _ ex, real_of_all gain _ _ _ _ eg, real_of_all scale _ _ _ _ es⟩

end Cert.Ffn

end
-- ==== Proof.Equal.lean ====
module

public import proofs.«01_k».proof.Defs
public import proofs.«01_k».proof.Proof.WeightGrad
public import proofs.«01_k».proof.Proof.FfnUp
public import proofs.«01_k».proof.Proof.GateGrad
public import proofs.«01_k».proof.Proof.NormPoint
public import proofs.«01_k».proof.Proof.FiniteFfn
public import proofs.«01_k».proof.Proof.Gen.WeightGradReferenceIdeal.Run
public import proofs.«01_k».proof.Proof.Gen.FfnUpReferenceIdeal.Run
public import proofs.«01_k».proof.Proof.Gen.GateGradReferenceIdeal.Run
public import proofs.«01_k».proof.Proof.Gen.NormGradReferenceIdeal.Run
public import Idealize.ShloMosaic.Adequacy
public import Idealize.ShloMosaic.Init

/-!
# The four kernels of the feed-forward part agree with their references
-/

@[expose] public section

set_option maxRecDepth 16384

noncomputable section

namespace Cert.Proof

open Idealize.ShloMosaic Idealize.ShloMosaic.TcCoe Idealize.SL.Sem

/-! ### The references' runs end with the arguments unchanged -/

theorem frameWg : Cert.quiescent_WeightGradReferenceIdeal := fun m ρ _ =>
  (θ_run Cert.WeightGradReferenceIdeal.defs _ _).mono
    (fun r h => ⟨fun c => (h c).2, Idealize.ShloMosaic.sem_eq_zero_of_no_sems (by decide) r.2⟩)
    (Cert.WeightGradReferenceIdeal.Value.run (F := Ideal) m ρ)

theorem frameUp : Cert.quiescent_FfnUpReferenceIdeal := fun m ρ _ =>
  (θ_run Cert.FfnUpReferenceIdeal.defs _ _).mono
    (fun r h => ⟨fun c => (h c).2.2.2, Idealize.ShloMosaic.sem_eq_zero_of_no_sems (by decide) r.2⟩)
    (Cert.FfnUpReferenceIdeal.Value.run (F := Ideal) m ρ)

theorem frameGg : Cert.quiescent_GateGradReferenceIdeal := fun m ρ _ =>
  (θ_run Cert.GateGradReferenceIdeal.defs _ _).mono
    (fun r h => ⟨fun c => (h c).2.2, Idealize.ShloMosaic.sem_eq_zero_of_no_sems (by decide) r.2⟩)
    (Cert.GateGradReferenceIdeal.Value.run (F := Ideal) m ρ)

theorem frameNg : Cert.quiescent_NormGradReferenceIdeal := fun m ρ _ =>
  (θ_run Cert.NormGradReferenceIdeal.defs _ _).mono
    (fun r h => ⟨fun c => (h c).2.2.2.2.2, Idealize.ShloMosaic.sem_eq_zero_of_no_sems (by decide) r.2⟩)
    (Cert.NormGradReferenceIdeal.Value.run (F := Ideal) m ρ)

/-! ### Equal results -/

/-- The gradient of a weight, on all arguments. -/
theorem equalWg : Cert.algebraic_WeightGradIdeal_WeightGradReferenceIdeal (hWeightGradIdeal := Cert.WeightGradIdeal.Gen.facts)
    (hWeightGradReferenceIdeal := Cert.WeightGradReferenceIdeal.Gen.facts) :=
  fun m ρ m' ρ' _ hag =>
    ⟨fun c => Cert.Wg.grad (Cert.Wg.act m c) (Cert.Wg.inc m c),
      (θ_run _ _ _).mono (fun r h c => ⟨(h c).1.trans (Cert.Wg.final m c), (h c).2⟩) (Cert.WeightGradIdeal.Value.run_blocks m ρ),
      (θ_run _ _ _).mono (fun r h c => by
        obtain ⟨r0, ha⟩ := h c
        obtain ⟨a0, a1⟩ := hag c
        refine ⟨r0.trans ((Cert.Wg.ref_grad _ _ _ _).trans ?_), ha⟩
        rw [a0, a1]) (Cert.WeightGradReferenceIdeal.Value.run m' ρ')⟩

/-- The gated activation and its two products, on all arguments. -/
theorem equalUp : Cert.algebraic_FfnUpIdeal_FfnUpReferenceIdeal (hFfnUpIdeal := Cert.FfnUpIdeal.Gen.facts)
    (hFfnUpReferenceIdeal := Cert.FfnUpReferenceIdeal.Gen.facts) :=
  fun m ρ m' ρ' _ hag =>
    ⟨fun c => Cert.Up.prod (Cert.Up.inp m c) (Cert.Up.wgt m c), fun c => Cert.Up.prod (Cert.Up.inp m c) (Cert.Up.wup m c),
      fun c => Cert.Up.gated (Cert.Up.inp m c) (Cert.Up.wgt m c) (Cert.Up.wup m c),
      (θ_run _ _ _).mono (fun r h c => by
        obtain ⟨r0, r1, r2, ha⟩ := h c
        exact ⟨r0.trans (Cert.Up.final_3 m c), r1.trans (Cert.Up.final_4 m c), r2.trans (Cert.Up.final_5 m c), ha⟩) (Cert.FfnUpIdeal.Value.run_blocks m ρ),
      (θ_run _ _ _).mono (fun r h c => by
        obtain ⟨r0, r1, r2, ha⟩ := h c
        obtain ⟨a0, a1, a2⟩ := hag c
        refine ⟨r0.trans ((Cert.Up.ref_prod _ _ _).trans ?_), r1.trans ((Cert.Up.ref_prod _ _ _).trans ?_), r2.trans ((Cert.Up.ref_gated _ _ _ _ _).trans ?_), ha⟩
        · rw [a0, a1]
        · rw [a0, a2]
        · rw [a0, a1, a2]) (Cert.FfnUpReferenceIdeal.Value.run m' ρ')⟩

/-- The gradient of the gated activation, where the incoming gradient, the down weight and the other factor are finite. -/
theorem equalGg [hf : Cert.Pre_finite_gate.Facts] :
    Cert.algebraic_GateGradIdeal_GateGradReferenceIdeal_pre_finite_gate (hGateGradIdeal := Cert.GateGradIdeal.Gen.facts)
      (hGateGradReferenceIdeal := Cert.GateGradReferenceIdeal.Gen.facts) :=
  fun m ρ m' ρ' hpre hag =>
    ⟨fun c => Cert.Gg.gateGrad (Cert.Gg.inc m c) (Cert.Gg.wdn m c) (Cert.Gg.sva m c) (Cert.Gg.svu m c), fun c => Cert.Gg.upGrad (Cert.Gg.inc m c) (Cert.Gg.wdn m c) (Cert.Gg.sva m c),
      (θ_run _ _ _).mono (fun r h c => by
        obtain ⟨r0, r1, ha⟩ := h c
        exact ⟨r0.trans (Cert.Gg.final_4 m c), r1.trans (Cert.Gg.final_5 m c), ha⟩) (Cert.GateGradIdeal.Value.run_blocks m ρ),
      (θ_run _ _ _).mono (fun r h c => by
        obtain ⟨r0, r1, ha⟩ := h c
        obtain ⟨a0, a1, a2, a3⟩ := hag c
        obtain ⟨hx, hw, hu⟩ := Cert.Ffn.real_gate _ _ _ _ (hpre c)
        rw [a0, a1, a2, a3] at r0
        rw [a0, a1, a2] at r1
        exact ⟨r0.trans (Cert.Gg.ref_gate _ _ _ _ hx hw hu _ _), r1.trans (Cert.Gg.ref_up _ _ _ _ _), ha⟩) (Cert.GateGradReferenceIdeal.Value.run m' ρ')⟩

section Norm

open Cert.NormGradReferenceIdeal Cert.NormGradReferenceIdeal.Gen

variable (m : (ℓ : Loc nD τ sig) → Buf (Elt Ideal) ℓ) (c : Dev nD)

/-- What the reference's results are computed from. -/
def refArgs : Cert.Ng.Ref.Args where
  dh := addf (Host.dotGeneral (φ₁ := .f32) (φ₂ := .f32) dot_S2048x2816_S1024x2816_S2048x1024_1_1_0_0_n_n none (m ((c.tc : Thread nD τ).loc main_arg2)) (m ((c.tc : Thread nD τ).loc main_arg3)))
    (Host.dotGeneral (φ₁ := .f32) (φ₂ := .f32) dot_S2048x2816_S1024x2816_S2048x1024_1_1_0_0_n_n none (m ((c.tc : Thread nD τ).loc main_arg0)) (m ((c.tc : Thread nD τ).loc main_arg1)))
  x := m ((c.tc : Thread nD τ).loc main_arg4)
  dres := m ((c.tc : Thread nD τ).loc main_arg5)
  gain := m ((c.tc : Thread nD τ).loc main_arg6)
  scale := m ((c.tc : Thread nD τ).loc main_arg7)
  f := m ((c.tc : Thread nD τ).loc main_arg8)
  gate := m ((c.tc : Thread nD τ).loc main_arg9)

theorem res_dx : Value.res_main_v48 m c = Cert.Ng.Ref.dx (refArgs m c) := rfl

theorem res_df : Value.res_main_v57 m c = truncf .bf16 (mulf (Cert.Ng.Ref.rowOf (refArgs m c).gate) (Cert.Ng.Ref.dx (refArgs m c))) (by decide) := rfl

theorem res_dgate : Value.res_main_v56 m c = Cert.Ng.Ref.colSum (mulf (Cert.Ng.Ref.dx (refArgs m c)) (refArgs m c).f) := rfl

end Norm

/-- The gradient through the normalised input, where what is multiplied before the last sum is finite. -/
theorem equalNg [hf : Cert.Pre_finite_norm.Facts] :
    Cert.algebraic_NormGradIdeal_NormGradReferenceIdeal_pre_finite_norm (hNormGradIdeal := Cert.NormGradIdeal.Gen.facts)
      (hNormGradReferenceIdeal := Cert.NormGradReferenceIdeal.Gen.facts) :=
  fun m ρ m' ρ' hpre hag =>
    ⟨fun c => Cert.Ng.Ref.outDx (Cert.Ng.args m c), fun c => Cert.Ng.Ref.outDh (Cert.Ng.args m c), fun c => Cert.Ng.Ref.outDhX (Cert.Ng.args m c),
      fun c => Cert.Ng.Ref.outDf (Cert.Ng.args m c), fun c => Cert.Ng.Ref.outDgate (Cert.Ng.args m c),
      (θ_run _ _ _).mono (fun r h c => by
        obtain ⟨r0, r1, r2, r3, r4, ha⟩ := h c
        exact ⟨r0.trans (Cert.Ng.final_10 m c), r1.trans (Cert.Ng.final_11 m c), r2.trans (Cert.Ng.final_12 m c), r3.trans (Cert.Ng.final_13 m c),
          r4.trans (Cert.Ng.final_14 m c), ha⟩) (Cert.NormGradIdeal.Value.run_blocks m ρ),
      (θ_run _ _ _).mono (fun r h c => by
        obtain ⟨r0, r1, r2, r3, r4, ha⟩ := h c
        have hA : refArgs m' c = Cert.Ng.args m c := by
          obtain ⟨a0, a1, a2, a3, a4, a5, a6, a7, a8, a9⟩ := hag c
          unfold refArgs Cert.Ng.args
          rw [Cert.Ng.Ref.ref_dh, a0, a1, a2, a3, a4, a5, a6, a7, a8, a9]
        obtain ⟨h0, h1, h2, h3, h4, h6, h7⟩ := Cert.Ffn.real_norm _ _ _ _ _ _ _ _ _ _ (hpre c)
        have hr : Cert.Ng.Ref.IsReal (Cert.Ng.args m c) := ⟨Cert.Ng.Ref.dhOf_real h0 h1 h2 h3, h4, h6, h7⟩
        rw [res_dx, hA] at r0
        rw [res_df, hA] at r3
        rw [res_dgate, hA] at r4
        refine ⟨r0.trans (Cert.Ng.Ref.resDx _ hr), ?_, ?_, r3.trans (Cert.Ng.Ref.resDf _ hr _ (fun r n => Cert.Ng.Ref.rowOf_apply r n _) _), r4.trans (Cert.Ng.Ref.resDgate _ hr), ha⟩
        · refine (r1.trans (show _ = Cert.Ng.Ref.colSum (refArgs m' c).dh from rfl)).trans ?_
          rw [hA]
          exact Cert.Ng.Ref.resDh _
        · refine (r2.trans (show _ = Cert.Ng.Ref.colSum (mulf (Cert.Ng.Ref.xhat (refArgs m' c)) (refArgs m' c).dh) from rfl)).trans ?_
          rw [hA]
          exact Cert.Ng.Ref.resDhX _) (Cert.NormGradReferenceIdeal.Value.run m' ρ')⟩

end Cert.Proof

end
-- ==== Proof.FfnDown.lean ====
module

public import Idealize.ShloMosaic.Lib.Pipeline.ValueKit
public import Idealize.ShloMosaic.Lib.Pipeline.ValueKit.Geometry
public import proofs.«01_k».proof.Proof.Gen.FfnDownIdeal.Value
public import proofs.«01_k».proof.Proof.Gen.FfnDownReferenceIdeal.Run
public import proofs.«01_k».proof.Proof.Ffn

/-!
# The feed-forward network's second half

The kernel multiplies a tile of 512 rows of the gated activation with the down weight, keeps the product, and adds it, times the
gate's half, to the step's input. The reference does the same on whole arrays.
-/

@[expose] public section

set_option maxRecDepth 16384

noncomputable section

namespace Cert.Dn

open Idealize.ShloMosaic hiding ix1 ix2
open Idealize.ShloMosaic.TcCoe Idealize.ShloMosaic.ValueIdx Cert.Ffn Cert.FfnDownIdeal Cert.FfnDownIdeal.Gen Finset
open scoped BigOperators

/-- The product, entry by entry. -/
def prod (s : FVec Ideal S2048x2816 .f32) (w : FVec Ideal S2816x1024 .f32) : FVec Ideal S2048x1024 .f32 := fun i =>
  ∑ k : Fin 2816, s (ix2 (i 0) k) * w (ix2 k (i 1))

/-- The factor one half, as printed. -/
def half : EReal := Ideal.ofBits .f32 0x3F000000#32

/-- The step's result, entry by entry. -/
def step (s : FVec Ideal S2048x2816 .f32) (w : FVec Ideal S2816x1024 .f32) (x : FVec Ideal S2048x1024 .f32) (g : FVec Ideal S1024 .f32) :
    FVec Ideal S2048x1024 .f32 := fun i => x i + prod s w i * (half * g (ix1 (i 1)))

/-! ### The reference -/

theorem ref_prod (s : FVec Ideal S2048x2816 .f32) (w : FVec Ideal S2816x1024 .f32) :
    Host.dotGeneral Cert.FfnDownReferenceIdeal.dot_S2048x2816_S2816x1024_S2048x1024_1_0_0_1_n_n none s w = prod s w := by
  refine funext fun (i : S2048x1024.Idx) => ?_
  refine Cert.Sb.host_dot Cert.FfnDownReferenceIdeal.dot_S2048x2816_S2816x1024_S2048x1024_1_0_0_1_n_n 2816 rfl rfl s w i
    (fun k => (ix2 (i 0) k : S2048x2816.Idx)) (fun k => (ix2 k (i 1) : S2816x1024.Idx)) (fun k => ?_) (fun k => ?_)
  · have hk := contrEquiv1_symm_val Cert.FfnDownReferenceIdeal.dot_S2048x2816_S2816x1024_S2048x1024_1_0_0_1_n_n 2816 rfl rfl k
    funext a; apply Fin.ext
    match a with
    | ⟨0, _⟩ => rfl
    | ⟨1, _⟩ => exact hk
  · have hk := contrEquiv1_symm_val Cert.FfnDownReferenceIdeal.dot_S2048x2816_S2816x1024_S2048x1024_1_0_0_1_n_n 2816 rfl rfl k
    funext a; apply Fin.ext
    match a with
    | ⟨0, _⟩ => exact hk
    | ⟨1, _⟩ => rfl

theorem ref_step (s : FVec Ideal S2048x2816 .f32) (w : FVec Ideal S2816x1024 .f32) (x : FVec Ideal S2048x1024 .f32) (g : FVec Ideal S1024 .f32)
    (h1 : Cert.FfnDownReferenceIdeal.S_.BroadcastsInDim Cert.FfnDownReferenceIdeal.S1024 ![]) (h2 : Cert.FfnDownReferenceIdeal.S1024.BroadcastsInDim Cert.FfnDownReferenceIdeal.S1x1024 ![1])
    (h3 : Cert.FfnDownReferenceIdeal.S1x1024.BroadcastsInDim Cert.FfnDownReferenceIdeal.S2048x1024 ![0, 1]) :
    addf x (mulf (broadcastInDim Cert.FfnDownReferenceIdeal.S2048x1024 ![0, 1] h3 (broadcastInDim Cert.FfnDownReferenceIdeal.S1x1024 ![1] h2
        (mulf (broadcastInDim Cert.FfnDownReferenceIdeal.S1024 ![] h1 (constant Cert.FfnDownReferenceIdeal.S_ .f32 0x3F000000#32)) g)))
      (Host.dotGeneral Cert.FfnDownReferenceIdeal.dot_S2048x2816_S2816x1024_S2048x1024_1_0_0_1_n_n none s w)) = step s w x g := by
  rw [ref_prod]
  refine funext fun i => ?_
  obtain ⟨r, n, rfl⟩ := exists_pair i
  refine congrArg (x (ix2 r n) + ·) ((congrArg (· * prod s w (ix2 r n)) ?_).trans (mul_comm _ _))
  exact (broadcastInDim_apply _ _ _ (ix2 r n) (ix2 0 n) (fun a => by match a with | ⟨0, _⟩ => rfl | ⟨1, _⟩ => rfl)).trans
    (broadcastInDim_apply _ _ _ (ix2 0 n) (ix1 n) (fun a => by match a with | ⟨0, _⟩ => rfl))

/-! ### One tile -/

/-- A tile's product, entry by entry. -/
def dotT (x : Vec Ideal S512x2816 .bf16) (w : Vec Ideal S2816x1024 .bf16) (r : Fin 512) (n : Fin 1024) : EReal :=
  ∑ k : Fin 2816, x (ix2 r k) * w (ix2 k n)

theorem pay1_apply (x : Vec Ideal S512x2816 .bf16) (w : Vec Ideal S2816x1024 .bf16) (r : Fin 512) (n : Fin 1024) :
    k0_pay1 x w (ix2 r n) = dotT x w r n := by
  unfold k0_pay1
  simp only [shapeCast_self]
  show FloatOps.matmul (φ₁ := .bf16) (φ₂ := .bf16) (DotDims.plain 512 2816 1024) none (x : FVec Ideal S512x2816 .bf16) (w : FVec Ideal S2816x1024 .bf16) (constant (F := Ideal) ⟨2, ![512, 1024]⟩ .f32 0x00000000#32) (ix2 r n) = _
  rw [Ideal.matmul_plain_apply, show constant (F := Ideal) ⟨2, ![512, 1024]⟩ .f32 0x00000000#32 (ix2 r n) = 0 from Ideal.ofBits_zero_f32, zero_add]
  rfl

theorem pay2_apply (x : Vec Ideal S512x2816 .bf16) (w : Vec Ideal S2816x1024 .bf16) (d : Vec Ideal S512x1024 .f32) (g : Vec Ideal S1x1024 .f32) (r : Fin 512) (n : Fin 1024) :
    k0_pay2 x w d g (ix2 r n) = d (ix2 r n) + dotT x w r n * g (ix2 0 n) := by
  rw [← pay1_apply]
  unfold k0_pay2
  simp only [shapeCast_self]
  refine congrArg (d (ix2 r n) + ·) (congrArg (k0_pay1 x w (ix2 r n) * ·) ?_)
  exact broadcastTo_apply g _ (ix2 r n) (ix2 0 n) (fun d => by
    match d with
    | ⟨0, _⟩ => rfl
    | ⟨1, _⟩ => rfl)

/-! ### The arrays as launched -/

variable (m : (ℓ : Loc nD τ sig) → Buf (Elt Ideal) ℓ) (c : Dev nD)

/-- The gated activation, the weight, the step's input and its gate as launched. -/
abbrev act : FVec Ideal S2048x2816 .f32 := m ((c.tc : Thread nD τ).loc main_arg0)
abbrev wdn : FVec Ideal S2816x1024 .f32 := m ((c.tc : Thread nD τ).loc main_arg1)
abbrev inp : FVec Ideal S2048x1024 .f32 := m ((c.tc : Thread nD τ).loc main_arg2)
abbrev gate : FVec Ideal S1024 .f32 := m ((c.tc : Thread nD τ).loc main_arg3)

theorem V_act : V m c main_v0 = act m c := rfl
theorem V_wdn : V m c main_v1 = wdn m c := rfl
theorem V_inp : V m c main_arg2 = inp m c := rfl
theorem V_gate : V m c main_v4 = (shapeCast S1x1024 (mulf (broadcastInDim S1024 ![] bcast_S_S1024 (constant S_ .f32 0x3F000000#32)) (gate m c)) shapeCasts_S1024_S1x1024 : FVec Ideal S1x1024 .f32) := rfl

theorem gate_apply (n : Fin 1024) :
    (shapeCast S1x1024 (mulf (broadcastInDim S1024 ![] bcast_S_S1024 (constant S_ .f32 0x3F000000#32)) (gate m c)) shapeCasts_S1024_S1x1024 : FVec Ideal S1x1024 .f32) (ix2 0 n)
      = half * gate m c (ix1 n) :=
  shapeCast_apply _ _ (ix2 0 n) (ix1 n) (by
    rw [Shape.rowMajor_val_one, Shape.rowMajor_val_two]
    show n.val = 0 * 1024 + n.val
    omega)

theorem N0_eq : cfg0.N = 4 := by decide
theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = t.val ∧ win0_4.index t 1 = 0 := by decide +kernel
theorem ix_5 : ∀ t : Fin cfg0.N, win0_5.index t 0 = t.val ∧ win0_5.index t 1 = 0 := by decide +kernel

theorem row_lt (t : Fin cfg0.N) (r : Fin 512) : 512 * t.val + r.val < 2048 := by
  have := lt_of_lt_of_eq t.isLt N0_eq; omega

/-- The row of the whole array that a tile's row is. -/
def rowAt (t : Fin cfg0.N) (r : Fin 512) : Fin 2048 := ⟨512 * t.val + r.val, row_lt t r⟩

theorem iblk_0 (t : Fin cfg0.N) (r : Fin 512) (k : Fin 2816) : (iblk m c 0 t : Vec Ideal S512x2816 .bf16) (ix2 r k) = act m c (ix2 (rowAt t r) k) := by
  have hi := ix_0 t
  rw [← V_act]
  unfold iblk
  rw [View.read_apply]
  show V m c main_v0 _ = V m c main_v0 _
  congr 1; funext a; apply Fin.ext
  match a with
  | ⟨0, _⟩ => show win0_0.index t 0 * 512 + 1 * r.val = 512 * t.val + r.val; rw [hi.1]; omega
  | ⟨1, _⟩ => show win0_0.index t 1 * 2816 + 1 * k.val = k.val; rw [hi.2]; omega

theorem iblk_1 (t : Fin cfg0.N) (k : Fin 2816) (n : Fin 1024) : (iblk m c 1 t : Vec Ideal S2816x1024 .bf16) (ix2 k n) = wdn m c (ix2 k n) := by
  have hi := ix_1 t
  rw [← V_wdn]
  unfold iblk
  rw [View.read_apply]
  show V m c main_v1 _ = V m c main_v1 _
  congr 1; funext a; apply Fin.ext
  match a with
  | ⟨0, _⟩ => show win0_1.index t 0 * 2816 + 1 * k.val = k.val; rw [hi.1]; omega
  | ⟨1, _⟩ => show win0_1.index t 1 * 1024 + 1 * n.val = n.val; rw [hi.2]; omega

theorem iblk_2 (t : Fin cfg0.N) (r : Fin 512) (n : Fin 1024) : (iblk m c 2 t : Vec Ideal S512x1024 .f32) (ix2 r n) = inp m c (ix2 (rowAt t r) n) := by
  have hi := ix_2 t
  rw [← V_inp]
  unfold iblk
  rw [View.read_apply]
  show V m c main_arg2 _ = V m c main_arg2 _
  congr 1; funext a; apply Fin.ext
  match a with
  | ⟨0, _⟩ => show win0_2.index t 0 * 512 + 1 * r.val = 512 * t.val + r.val; rw [hi.1]; omega
  | ⟨1, _⟩ => show win0_2.index t 1 * 1024 + 1 * n.val = n.val; rw [hi.2]; omega

theorem iblk_3 (t : Fin cfg0.N) (n : Fin 1024) : (iblk m c 3 t : Vec Ideal S1x1024 .f32) (ix2 0 n) = half * gate m c (ix1 n) := by
  have hi := ix_3 t
  rw [← gate_apply, ← V_gate]
  unfold iblk
  rw [View.read_apply]
  show V m c main_v4 _ = V m c main_v4 _
  congr 1; funext a; apply Fin.ext
  match a with
  | ⟨0, _⟩ => show win0_3.index t 0 * 1 + 1 * 0 = 0; rw [hi.1]
  | ⟨1, _⟩ => show win0_3.index t 1 * 1024 + 1 * n.val = n.val; rw [hi.2]; omega

theorem tile_prod (t : Fin cfg0.N) (r : Fin 512) (n : Fin 1024) :
    dotT (iblk m c 0 t : Vec Ideal S512x2816 .bf16) (iblk m c 1 t : Vec Ideal S2816x1024 .bf16) r n = prod (act m c) (wdn m c) (ix2 (rowAt t r) n) :=
  Finset.sum_congr rfl fun k _ => by rw [iblk_0, iblk_1]

/-! ### The result arrays -/

theorem final_4 : (dats m 0 c).arrAt 4 cfg0.N = prod (act m c) (wdn m c) := by
  refine (dats m 0 c).arrAt_eq_of_covers 4 _ (by decide +kernel) fun t hf y => ?_
  have hi := ix_4 t
  blk_simp
  rw [after0_4]
  frame_out
  obtain ⟨r, n, rfl⟩ := exists_pair y
  have e : ((cfg0.win 4).blk t).view.emb (ix2 r n) = ix2 (rowAt t r) n := by
    funext a; apply Fin.ext
    match a with
    | ⟨0, _⟩ => show win0_4.index t 0 * 512 + 1 * r.val = 512 * t.val + r.val; rw [hi.1]; omega
    | ⟨1, _⟩ => show win0_4.index t 1 * 1024 + 1 * n.val = n.val; rw [hi.2]; omega
  exact (pay1_apply _ _ r n).trans ((tile_prod m c t r n).trans (congrArg _ e).symm)

theorem final_5 : (dats m 0 c).arrAt 5 cfg0.N = step (act m c) (wdn m c) (inp m c) (gate m c) := by
  refine (dats m 0 c).arrAt_eq_of_covers 5 _ (by decide +kernel) fun t hf y => ?_
  have hi := ix_5 t
  blk_simp
  rw [after0_5]
  frame_out
  obtain ⟨r, n, rfl⟩ := exists_pair y
  have e : ((cfg0.win 5).blk t).view.emb (ix2 r n) = ix2 (rowAt t r) n := by
    funext a; apply Fin.ext
    match a with
    | ⟨0, _⟩ => show win0_5.index t 0 * 512 + 1 * r.val = 512 * t.val + r.val; rw [hi.1]; omega
    | ⟨1, _⟩ => show win0_5.index t 1 * 1024 + 1 * n.val = n.val; rw [hi.2]; omega
  refine (pay2_apply _ _ _ _ r n).trans (Eq.trans ?_ (congrArg (step (act m c) (wdn m c) (inp m c) (gate m c)) e).symm)
  exact congrArg₂ (· + ·) (iblk_2 m c t r n) (congrArg₂ (· * ·) (tile_prod m c t r n) (iblk_3 m c t n))

end Cert.Dn

end
-- ==== Proof.Qkv.lean ====
module

public import Idealize.ShloMosaic.Lib.Pipeline.ValueKit
public import Idealize.ShloMosaic.Lib.Pipeline.ValueKit.Geometry
public import proofs.«01_k».proof.Proof.Gen.QkvIdeal.Value
public import proofs.«01_k».proof.Proof.Gen.QkvReferenceIdeal.Run
public import proofs.«01_k».proof.Proof.Ffn

/-!
# The queries, keys and values of the mixer

The kernel multiplies the activations with 512 rows at a time of the turned projection; it takes the rows of the queries, keys and values only.
The reference multiplies with those columns of the projection.
-/

@[expose] public section

set_option maxRecDepth 16384

noncomputable section

namespace Cert.Qk

open Idealize.ShloMosaic hiding ix1 ix2
open Idealize.ShloMosaic.TcCoe Idealize.ShloMosaic.ValueIdx Cert.Ffn Cert.QkvIdeal Cert.QkvIdeal.Gen Finset
open scoped BigOperators

theorem col_lt' (n : Fin 2560) : n.val < 5632 := by omega

/-- The product, entry by entry. -/
def prod (h : FVec Ideal S2048x1024 .f32) (w : FVec Ideal S1024x5632 .f32) : FVec Ideal S2048x2560 .f32 := fun i =>
  ∑ k : Fin 1024, h (ix2 (i 0) k) * w (ix2 k ⟨(i 1).val, col_lt' (i 1)⟩)

/-! ### The reference -/

theorem ref_prod (h : FVec Ideal S2048x1024 .f32) (w : FVec Ideal S1024x5632 .f32) (hs : Cert.QkvReferenceIdeal.S1024x5632.Slices ![0, 0] Cert.QkvReferenceIdeal.S1024x2560) :
    Host.dotGeneral Cert.QkvReferenceIdeal.dot_S2048x1024_S1024x2560_S2048x2560_1_0_0_1_n_n none h (extractStridedSlice Cert.QkvReferenceIdeal.S1024x2560 ![0, 0] w hs) = prod h w := by
  refine funext fun (i : S2048x2560.Idx) => ?_
  refine (Cert.Sb.host_dot Cert.QkvReferenceIdeal.dot_S2048x1024_S1024x2560_S2048x2560_1_0_0_1_n_n 1024 rfl rfl h _ i
    (fun k => (ix2 (i 0) k : S2048x1024.Idx)) (fun k => (ix2 k (i 1) : Cert.QkvReferenceIdeal.S1024x2560.Idx)) (fun k => ?_) (fun k => ?_)).trans
    (Finset.sum_congr rfl fun k _ => congrArg (h (ix2 (i 0) k) * ·) ?_)
  · have hk := contrEquiv1_symm_val Cert.QkvReferenceIdeal.dot_S2048x1024_S1024x2560_S2048x2560_1_0_0_1_n_n 1024 rfl rfl k
    funext a; apply Fin.ext
    match a with
    | ⟨0, _⟩ => rfl
    | ⟨1, _⟩ => exact hk
  · have hk := contrEquiv1_symm_val Cert.QkvReferenceIdeal.dot_S2048x1024_S1024x2560_S2048x2560_1_0_0_1_n_n 1024 rfl rfl k
    funext a; apply Fin.ext
    match a with
    | ⟨0, _⟩ => exact hk
    | ⟨1, _⟩ => rfl
  · refine congrArg w ?_
    funext a; apply Fin.ext
    match a with
    | ⟨0, _⟩ => show 0 + k.val = k.val; omega
    | ⟨1, _⟩ => show 0 + (i 1).val = (i 1).val; omega

/-! ### One tile -/

theorem pay1_apply (x : Vec Ideal S2048x1024 .bf16) (w : Vec Ideal S512x1024 .bf16) (r : Fin 2048) (n : Fin 512) :
    k0_pay1 x w (ix2 r n) = dotRows x w r n := by
  unfold k0_pay1
  simp only [shapeCast_self]
  exact unit_dotRows (A := 2048) (B := 512) (K := 1024) (φ := .bf16) (ψ := .bf16) x w r n

/-! ### The arrays as launched -/

variable (m : (ℓ : Loc nD τ sig) → Buf (Elt Ideal) ℓ) (c : Dev nD)

/-- The activations and the projection as launched. -/
abbrev inp : FVec Ideal S2048x1024 .f32 := m ((c.tc : Thread nD τ).loc main_arg0)
abbrev win : FVec Ideal S1024x5632 .f32 := m ((c.tc : Thread nD τ).loc main_arg1)

theorem V_inp : V m c main_v0 = inp m c := rfl

theorem V_win : V m c main_v2 = (transpose S5632x1024 [1, 0] (win m c) transposes_S1024x5632_S5632x1024_1_0 : FVec Ideal S5632x1024 .f32) := rfl

theorem turn (w : FVec Ideal S1024x5632 .f32) (h : S1024x5632.Transposes [1, 0] S5632x1024) (i : Fin 5632) (k : Fin 1024) :
    transpose S5632x1024 [1, 0] w h (ix2 i k) = w (ix2 k i) :=
  transpose_apply _ w h _ (ix2 k i) (by
    intro a
    match a with
    | ⟨0, _⟩ => rfl
    | ⟨1, _⟩ => rfl)

theorem N0_eq : cfg0.N = 5 := by decide
theorem ix_0 : ∀ t : Fin cfg0.N, win0_0.index t 0 = 0 ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = t.val := by decide +kernel

theorem col_lt (t : Fin cfg0.N) (n : Fin 512) : 512 * t.val + n.val < 2560 := by
  have := lt_of_lt_of_eq t.isLt N0_eq; omega

/-- The column of the result that a tile's column is. -/
def colOf (t : Fin cfg0.N) (n : Fin 512) : Fin 2560 := ⟨512 * t.val + n.val, col_lt t n⟩

theorem iblk_0 (t : Fin cfg0.N) (r : Fin 2048) (k : Fin 1024) : (iblk m c 0 t : Vec Ideal S2048x1024 .bf16) (ix2 r k) = inp m c (ix2 r k) := by
  have hi := ix_0 t
  rw [← V_inp]
  unfold iblk
  rw [View.read_apply]
  show V m c main_v0 _ = V m c main_v0 _
  congr 1; funext a; apply Fin.ext
  match a with
  | ⟨0, _⟩ => show win0_0.index t 0 * 2048 + 1 * r.val = r.val; rw [hi.1]; omega
  | ⟨1, _⟩ => show win0_0.index t 1 * 1024 + 1 * k.val = k.val; rw [hi.2]; omega

theorem iblk_1 (t : Fin cfg0.N) (n : Fin 512) (k : Fin 1024) :
    (iblk m c 1 t : Vec Ideal S512x1024 .bf16) (ix2 n k) = win m c (ix2 k ⟨(colOf t n).val, col_lt' (colOf t n)⟩) := by
  have hi := ix_1 t
  rw [← turn (win m c) transposes_S1024x5632_S5632x1024_1_0 _ k, ← V_win]
  unfold iblk
  rw [View.read_apply]
  show V m c main_v2 _ = V m c main_v2 _
  congr 1; funext a; apply Fin.ext
  match a with
  | ⟨0, _⟩ => show win0_1.index t 0 * 512 + 1 * n.val = (512 * t.val + n.val); rw [hi.1]; omega
  | ⟨1, _⟩ => show win0_1.index t 1 * 1024 + 1 * k.val = k.val; rw [hi.2]; omega

/-- The kernel's result array is the product. -/
theorem final : (dats m 0 c).arrAt 2 cfg0.N = prod (inp m c) (win m c) := by
  refine (dats m 0 c).arrAt_eq_of_covers 2 _ (by decide +kernel) fun t hf y => ?_
  have hi := ix_2 t
  blk_simp
  rw [after0_2]
  frame_out
  obtain ⟨r, n, rfl⟩ := exists_pair y
  have e : ((cfg0.win 2).blk t).view.emb (ix2 r n) = ix2 r (colOf t n) := by
    funext a; apply Fin.ext
    match a with
    | ⟨0, _⟩ => show win0_2.index t 0 * 2048 + 1 * r.val = r.val; rw [hi.1]; omega
    | ⟨1, _⟩ => show win0_2.index t 1 * 512 + 1 * n.val = 512 * t.val + n.val; rw [hi.2]; omega
  refine (pay1_apply _ _ r n).trans (Eq.trans ?_ (congrArg (prod (inp m c) (win m c)) e).symm)
  exact Finset.sum_congr rfl fun k _ => by rw [iblk_0, iblk_1]

end Cert.Qk

end
-- ==== Proof.Gates.lean ====
module

public import Idealize.ShloMosaic.Lib.Pipeline.ValueKit
public import Idealize.ShloMosaic.Lib.Pipeline.ValueKit.Geometry
public import proofs.«01_k».proof.Proof.Gen.GatesIdeal.Value
public import proofs.«01_k».proof.Proof.Gen.GatesReferenceIdeal.Run
public import proofs.«01_k».proof.Proof.Ffn

/-!
# The gates of the mixer

The kernel multiplies the activations with 512 rows at a time of the turned projection; it takes the rows of the gates only.
The reference multiplies with those columns of the projection.
-/

@[expose] public section

set_option maxRecDepth 16384

noncomputable section

namespace Cert.Gt

open Idealize.ShloMosaic hiding ix1 ix2
open Idealize.ShloMosaic.TcCoe Idealize.ShloMosaic.ValueIdx Cert.Ffn Cert.GatesIdeal Cert.GatesIdeal.Gen Finset
open scoped BigOperators

theorem col_lt' (n : Fin 3072) : 2560 + n.val < 5632 := by omega

/-- The product, entry by entry. -/
def prod (h : FVec Ideal S2048x1024 .f32) (w : FVec Ideal S1024x5632 .f32) : FVec Ideal S2048x3072 .f32 := fun i =>
  ∑ k : Fin 1024, h (ix2 (i 0) k) * w (ix2 k ⟨2560 + (i 1).val, col_lt' (i 1)⟩)

/-! ### The reference -/

theorem ref_prod (h : FVec Ideal S2048x1024 .f32) (w : FVec Ideal S1024x5632 .f32) (hs : Cert.GatesReferenceIdeal.S1024x5632.Slices ![0, 2560] Cert.GatesReferenceIdeal.S1024x3072) :
    Host.dotGeneral Cert.GatesReferenceIdeal.dot_S2048x1024_S1024x3072_S2048x3072_1_0_0_1_n_n none h (extractStridedSlice Cert.GatesReferenceIdeal.S1024x3072 ![0, 2560] w hs) = prod h w := by
  refine funext fun (i : S2048x3072.Idx) => ?_
  refine (Cert.Sb.host_dot Cert.GatesReferenceIdeal.dot_S2048x1024_S1024x3072_S2048x3072_1_0_0_1_n_n 1024 rfl rfl h _ i
    (fun k => (ix2 (i 0) k : S2048x1024.Idx)) (fun k => (ix2 k (i 1) : Cert.GatesReferenceIdeal.S1024x3072.Idx)) (fun k => ?_) (fun k => ?_)).trans
    (Finset.sum_congr rfl fun k _ => congrArg (h (ix2 (i 0) k) * ·) ?_)
  · have hk := contrEquiv1_symm_val Cert.GatesReferenceIdeal.dot_S2048x1024_S1024x3072_S2048x3072_1_0_0_1_n_n 1024 rfl rfl k
    funext a; apply Fin.ext
    match a with
    | ⟨0, _⟩ => rfl
    | ⟨1, _⟩ => exact hk
  · have hk := contrEquiv1_symm_val Cert.GatesReferenceIdeal.dot_S2048x1024_S1024x3072_S2048x3072_1_0_0_1_n_n 1024 rfl rfl k
    funext a; apply Fin.ext
    match a with
    | ⟨0, _⟩ => exact hk
    | ⟨1, _⟩ => rfl
  · refine congrArg w ?_
    funext a; apply Fin.ext
    match a with
    | ⟨0, _⟩ => show 0 + k.val = k.val; omega
    | ⟨1, _⟩ => show 2560 + (i 1).val = 2560 + (i 1).val; omega

/-! ### One tile -/

theorem pay1_apply (x : Vec Ideal S2048x1024 .bf16) (w : Vec Ideal S512x1024 .bf16) (r : Fin 2048) (n : Fin 512) :
    k0_pay1 x w (ix2 r n) = dotRows x w r n := by
  unfold k0_pay1
  simp only [shapeCast_self]
  exact unit_dotRows (A := 2048) (B := 512) (K := 1024) (φ := .bf16) (ψ := .bf16) x w r n

/-! ### The arrays as launched -/

variable (m : (ℓ : Loc nD τ sig) → Buf (Elt Ideal) ℓ) (c : Dev nD)

/-- The activations and the projection as launched. -/
abbrev inp : FVec Ideal S2048x1024 .f32 := m ((c.tc : Thread nD τ).loc main_arg0)
abbrev win : FVec Ideal S1024x5632 .f32 := m ((c.tc : Thread nD τ).loc main_arg1)

theorem V_inp : V m c main_v0 = inp m c := rfl

theorem V_win : V m c main_v2 = (transpose S5632x1024 [1, 0] (win m c) transposes_S1024x5632_S5632x1024_1_0 : FVec Ideal S5632x1024 .f32) := rfl

theorem turn (w : FVec Ideal S1024x5632 .f32) (h : S1024x5632.Transposes [1, 0] S5632x1024) (i : Fin 5632) (k : Fin 1024) :
    transpose S5632x1024 [1, 0] w h (ix2 i k) = w (ix2 k i) :=
  transpose_apply _ w h _ (ix2 k i) (by
    intro a
    match a with
    | ⟨0, _⟩ => rfl
    | ⟨1, _⟩ => rfl)

theorem N0_eq : cfg0.N = 6 := by decide
theorem ix_0 : ∀ t : Fin cfg0.N, win0_0.index t 0 = 0 ∧ win0_0.index t 1 = 0 := by decide +kernel
theorem ix_1 : ∀ t : Fin cfg0.N, win0_1.index t 0 = 5 + t.val ∧ win0_1.index t 1 = 0 := by decide +kernel
theorem ix_2 : ∀ t : Fin cfg0.N, win0_2.index t 0 = 0 ∧ win0_2.index t 1 = t.val := by decide +kernel

theorem col_lt (t : Fin cfg0.N) (n : Fin 512) : 512 * t.val + n.val < 3072 := by
  have := lt_of_lt_of_eq t.isLt N0_eq; omega

/-- The column of the result that a tile's column is. -/
def colOf (t : Fin cfg0.N) (n : Fin 512) : Fin 3072 := ⟨512 * t.val + n.val, col_lt t n⟩

theorem iblk_0 (t : Fin cfg0.N) (r : Fin 2048) (k : Fin 1024) : (iblk m c 0 t : Vec Ideal S2048x1024 .bf16) (ix2 r k) = inp m c (ix2 r k) := by
  have hi := ix_0 t
  rw [← V_inp]
  unfold iblk
  rw [View.read_apply]
  show V m c main_v0 _ = V m c main_v0 _
  congr 1; funext a; apply Fin.ext
  match a with
  | ⟨0, _⟩ => show win0_0.index t 0 * 2048 + 1 * r.val = r.val; rw [hi.1]; omega
  | ⟨1, _⟩ => show win0_0.index t 1 * 1024 + 1 * k.val = k.val; rw [hi.2]; omega

theorem iblk_1 (t : Fin cfg0.N) (n : Fin 512) (k : Fin 1024) :
    (iblk m c 1 t : Vec Ideal S512x1024 .bf16) (ix2 n k) = win m c (ix2 k ⟨2560 + (colOf t n).val, col_lt' (colOf t n)⟩) := by
  have hi := ix_1 t
  rw [← turn (win m c) transposes_S1024x5632_S5632x1024_1_0 _ k, ← V_win]
  unfold iblk
  rw [View.read_apply]
  show V m c main_v2 _ = V m c main_v2 _
  congr 1; funext a; apply Fin.ext
  match a with
  | ⟨0, _⟩ => show win0_1.index t 0 * 512 + 1 * n.val = 2560 + (512 * t.val + n.val); rw [hi.1]; omega
  | ⟨1, _⟩ => show win0_1.index t 1 * 1024 + 1 * k.val = k.val; rw [hi.2]; omega

/-- The kernel's result array is the product. -/
theorem final : (dats m 0 c).arrAt 2 cfg0.N = prod (inp m c) (win m c) := by
  refine (dats m 0 c).arrAt_eq_of_covers 2 _ (by decide +kernel) fun t hf y => ?_
  have hi := ix_2 t
  blk_simp
  rw [after0_2]
  frame_out
  obtain ⟨r, n, rfl⟩ := exists_pair y
  have e : ((cfg0.win 2).blk t).view.emb (ix2 r n) = ix2 r (colOf t n) := by
    funext a; apply Fin.ext
    match a with
    | ⟨0, _⟩ => show win0_2.index t 0 * 2048 + 1 * r.val = r.val; rw [hi.1]; omega
    | ⟨1, _⟩ => show win0_2.index t 1 * 512 + 1 * n.val = 512 * t.val + n.val; rw [hi.2]; omega
  refine (pay1_apply _ _ r n).trans (Eq.trans ?_ (congrArg (prod (inp m c) (win m c)) e).symm)
  exact Finset.sum_congr rfl fun k _ => by rw [iblk_0, iblk_1]

end Cert.Gt

end
-- ==== Proof.GatesGrad.lean ====
module

public import Idealize.ShloMosaic.Lib.Pipeline.ValueKit
public import Idealize.ShloMosaic.Lib.Pipeline.ValueKit.Geometry
public import Idealize.ShloMosaic.Lib.Pipeline.ValueKit.Partial
public import proofs.«01_k».proof.Proof.Gen.GatesGradIdeal.Value
public import proofs.«01_k».proof.Proof.Gen.GatesGradReferenceIdeal.Run
public import proofs.«01_k».proof.Proof.Ffn

/-!
# The gate rows of the mixed projection weight's gradient

The kernel writes the rows from 2560 on into an array that already holds the others: six blocks of 512 rows, each the
turned columns of the gates' gradients times the input. The reference puts the same rows below the first 2560 of the array
given.
-/

@[expose] public section

set_option maxRecDepth 16384

noncomputable section

namespace Cert.Gw

open Idealize.ShloMosaic hiding ix1 ix2
open Idealize.ShloMosaic.TcCoe Idealize.ShloMosaic.ValueIdx Cert.Ffn Cert.GatesGradIdeal Cert.GatesGradIdeal.Gen Finset
open scoped BigOperators

/-- A row of the whole weight as a gate column. -/
def low (q : Fin 5632) : Fin 3072 := ⟨q.val - 2560, by have := q.isLt; omega⟩

/-- The gates' part: a sum over positions of the gate's gradient times the input. -/
def part (d : FVec Ideal S2048x3072 .f32) (h : FVec Ideal S2048x1024 .f32) (i : S5632x1024.Idx) : EReal :=
  ∑ k : Fin 2048, d (ix2 k (low (i 0))) * h (ix2 k (i 1))

/-- The whole: the first five blocks of 512 rows as given, the gates' part below. -/
def grad (d : FVec Ideal S2048x3072 .f32) (h : FVec Ideal S2048x1024 .f32) (p : FVec Ideal S5632x1024 .f32) : FVec Ideal S5632x1024 .bf16 := fun i =>
  if 5 ≤ (i 0).val / 512 then part d h i else p i

namespace Ref
open Cert.GatesGradReferenceIdeal (dot_S2048x3072_S2048x1024_S3072x1024_0_0_1_1_n_n S1024x3072 S3072x1024)

/-- The reference's product turned twice is the product. -/
theorem lower (d : FVec Ideal S2048x3072 .f32) (h : FVec Ideal S2048x1024 .f32) (h1 : S3072x1024.Transposes [1, 0] S1024x3072)
    (h2 : S1024x3072.Transposes [1, 0] S3072x1024) (j : Fin 3072) (n : Fin 1024) :
    transpose S3072x1024 [1, 0] (transpose S1024x3072 [1, 0]
      (Host.dotGeneral dot_S2048x3072_S2048x1024_S3072x1024_0_0_1_1_n_n none d h) h1) h2 (ix2 j n) = ∑ k : Fin 2048, d (ix2 k j) * h (ix2 k n) := by
  refine (transpose_apply _ _ h2 (ix2 j n) (ix2 n j) (by
    intro a
    match a with
    | ⟨0, _⟩ => rfl
    | ⟨1, _⟩ => rfl)).trans ?_
  refine (transpose_apply _ _ h1 (ix2 n j) (ix2 j n) (by
    intro a
    match a with
    | ⟨0, _⟩ => rfl
    | ⟨1, _⟩ => rfl)).trans ?_
  refine Cert.Sb.host_dot dot_S2048x3072_S2048x1024_S3072x1024_0_0_1_1_n_n 2048 rfl rfl d h _
    (fun k => (ix2 k j : S2048x3072.Idx)) (fun k => (ix2 k n : S2048x1024.Idx)) (fun k => ?_) (fun k => ?_)
  · have hk := contrEquiv1_symm_val dot_S2048x3072_S2048x1024_S3072x1024_0_0_1_1_n_n 2048 rfl rfl k
    funext a; apply Fin.ext
    match a with
    | ⟨0, _⟩ => exact hk
    | ⟨1, _⟩ => rfl
  · have hk := contrEquiv1_symm_val dot_S2048x3072_S2048x1024_S3072x1024_0_0_1_1_n_n 2048 rfl rfl k
    funext a; apply Fin.ext
    match a with
    | ⟨0, _⟩ => exact hk
    | ⟨1, _⟩ => rfl

end Ref

open Cert.GatesGradReferenceIdeal (dot_S2048x3072_S2048x1024_S3072x1024_0_0_1_1_n_n S1024x3072 S3072x1024 S2560x1024) in
/-- The reference's term is that array. -/
theorem ref_grad (d : FVec Ideal S2048x3072 .f32) (h : FVec Ideal S2048x1024 .f32) (p : FVec Ideal S5632x1024 .f32)
    (hs : S5632x1024.Slices ![0, 0] S2560x1024) (h1 : S3072x1024.Transposes [1, 0] S1024x3072)
    (h2 : S1024x3072.Transposes [1, 0] S3072x1024) (hc : Shape.Concatenates [S2560x1024, S3072x1024] S5632x1024 0) (hb : FTy.bits .bf16 < FTy.bits .f32) :
    truncf .bf16 (concatenate S5632x1024 0 [⟨S2560x1024, (extractStridedSlice S2560x1024 ![0, 0] p hs)⟩,
      ⟨S3072x1024, (transpose S3072x1024 [1, 0] (transpose S1024x3072 [1, 0]
        (Host.dotGeneral dot_S2048x3072_S2048x1024_S3072x1024_0_0_1_1_n_n none d h) h1) h2)⟩] hc : FVec Ideal S5632x1024 .f32) hb = Cert.Gw.grad d h p := by
  refine funext fun (i : S5632x1024.Idx) => ?_
  by_cases hi : (i 0).val < 2560
  · refine (concatenate_pair_apply_left (t := S5632x1024) (s₁ := S2560x1024) (s₂ := S3072x1024) (0 : Fin 2) _ _ hc i rfl (ix2 (⟨(i 0).val, hi⟩ : Fin 2560) (i 1) : S2560x1024.Idx) (fun b => by
      match b with
      | ⟨0, _⟩ => rfl
      | ⟨1, _⟩ => rfl)).trans ?_
    refine Eq.trans ?_ (if_neg (show ¬ 5 ≤ (i 0).val / 512 by omega)).symm
    show p _ = p i
    congr 1; funext a; apply Fin.ext
    match a with
    | ⟨0, _⟩ => show 0 + (i 0).val = _; exact Nat.zero_add _
    | ⟨1, _⟩ => show 0 + (i 1).val = _; exact Nat.zero_add _
  · refine (concatenate_pair_apply_right (t := S5632x1024) (s₁ := S2560x1024) (s₂ := S3072x1024) (0 : Fin 2) _ _ hc i rfl rfl (ix2 (low (i 0)) (i 1) : S3072x1024.Idx) (fun b hb => by
      match b with
      | ⟨0, _⟩ => exact absurd rfl hb
      | ⟨1, _⟩ => rfl) (show (i 0).val - 2560 + 2560 = (i 0).val by omega)).trans ?_
    refine Eq.trans ?_ (if_pos (show 5 ≤ (i 0).val / 512 by omega)).symm
    exact Ref.lower d h h1 h2 (low (i 0)) (i 1)

/-- One block of the kernel's product. -/
theorem pay_apply (x : Vec Ideal S2048x512 .bf16) (y : Vec Ideal S2048x1024 .bf16) (r : Fin 512) (n : Fin 1024) :
    k0_pay2 (k0_pay1 x) y (ix2 r n) = ∑ k : Fin 2048, x (ix2 k r) * y (ix2 k n) := by
  unfold k0_pay2 k0_pay1
  simp only [shapeCast_self]
  show FloatOps.matmul (φ₁ := .bf16) (φ₂ := .bf16) (DotDims.plain 512 2048 1024) none _ (y : FVec Ideal S2048x1024 .bf16) (constant (F := Ideal) ⟨2, ![512, 1024]⟩ .f32 0x00000000#32) (ix2 r n) = _
  rw [Ideal.matmul_plain_apply, show constant (F := Ideal) ⟨2, ![512, 1024]⟩ .f32 0x00000000#32 (ix2 r n) = 0 from Ideal.ofBits_zero_f32, zero_add]
  refine Finset.sum_congr rfl fun k _ => ?_
  rw [transpose_apply (k := ix2 k r) (hk := by
    intro a
    match a with
    | ⟨0, _⟩ => rfl
    | ⟨1, _⟩ => rfl)]

variable (m : (ℓ : Loc nD τ sig) → Buf (Elt Ideal) ℓ) (c : Dev nD)

/-- The gates' gradients, the input and the array with the other rows, as launched. -/
abbrev inc : FVec Ideal S2048x3072 .f32 := m ((c.tc : Thread nD τ).loc main_arg0)
abbrev inp : FVec Ideal S2048x1024 .f32 := m ((c.tc : Thread nD τ).loc main_arg1)
abbrev old : FVec Ideal S5632x1024 .f32 := m ((c.tc : Thread nD τ).loc main_arg2)

theorem V_inc : V m c main_v0 = inc m c := rfl
theorem V_inp : V m c main_v1 = inp m c := rfl
theorem V_old : V m c main_v3 = old m c := rfl

theorem N0_eq : cfg0.N = 6 := by decide
theorem ix_0 : ∀ t : Fin cfg0.N, win0_0.index t 0 = 0 ∧ win0_0.index t 1 = t.val := by decide +kernel
theorem ix_1 : ∀ t : Fin cfg0.N, win0_1.index t 0 = 0 ∧ win0_1.index t 1 = 0 := by decide +kernel
theorem ix_2 : ∀ t : Fin cfg0.N, win0_2.index t 0 = 5 + t.val ∧ win0_2.index t 1 = 0 := by decide +kernel

theorem col_lt (t : Fin cfg0.N) (r : Fin 512) : 512 * t.val + r.val < 3072 := by
  have := lt_of_lt_of_eq t.isLt N0_eq; omega

theorem row_lt (t : Fin cfg0.N) (r : Fin 512) : 2560 + 512 * t.val + r.val < 5632 := by
  have := col_lt t r; omega

theorem iblk_0 (t : Fin cfg0.N) (k : Fin 2048) (r : Fin 512) :
    (iblk m c 0 t : Vec Ideal S2048x512 .bf16) (ix2 k r) = inc m c (ix2 k ⟨512 * t.val + r.val, col_lt t r⟩) := by
  have hi := ix_0 t
  rw [← V_inc]
  unfold iblk
  rw [View.read_apply]
  show V m c main_v0 _ = V m c main_v0 _
  congr 1; funext a; apply Fin.ext
  match a with
  | ⟨0, _⟩ => show win0_0.index t 0 * 2048 + 1 * k.val = k.val; rw [hi.1]; omega
  | ⟨1, _⟩ => show win0_0.index t 1 * 512 + 1 * r.val = 512 * t.val + r.val; rw [hi.2]; omega

theorem iblk_1 (t : Fin cfg0.N) (k : Fin 2048) (n : Fin 1024) :
    (iblk m c 1 t : Vec Ideal S2048x1024 .bf16) (ix2 k n) = inp m c (ix2 k n) := by
  have hi := ix_1 t
  rw [← V_inp]
  unfold iblk
  rw [View.read_apply]
  show V m c main_v1 _ = V m c main_v1 _
  congr 1; funext a; apply Fin.ext
  match a with
  | ⟨0, _⟩ => show win0_1.index t 0 * 2048 + 1 * k.val = k.val; rw [hi.1]; omega
  | ⟨1, _⟩ => show win0_1.index t 1 * 1024 + 1 * n.val = n.val; rw [hi.2]; omega

/-- The array after the run: the gates' part in the blocks written, what was there in the others. -/
theorem final_parts : (dats m 0 c).arrAt 2 cfg0.N = fun i => if 5 ≤ (i 0 : ℕ) / 512 then part (inc m c) (inp m c) i else V m c main_v3 i := by
  refine (dats m 0 c).arrAt_eq_of_coversWhere 2 _ (fun β => 5 ≤ β (0 : Fin _)) (by decide +kernel) (fun t hf y => ?_) (fun j => Iff.rfl)
  have hi := ix_2 t
  blk_simp
  rw [after0_2]
  unfold outsAt0
  frame_out
  obtain ⟨r, n, rfl⟩ := exists_pair y
  have e : ((cfg0.win 2).blk t).view.emb (ix2 r n) = ix2 (⟨2560 + 512 * t.val + r.val, row_lt t r⟩ : Fin 5632) n := by
    funext a; apply Fin.ext
    match a with
    | ⟨0, _⟩ => show win0_2.index t 0 * 512 + 1 * r.val = 2560 + 512 * t.val + r.val; rw [hi.1]; omega
    | ⟨1, _⟩ => show win0_2.index t 1 * 1024 + 1 * n.val = n.val; rw [hi.2]; omega
  refine (pay_apply _ _ r n).trans (Eq.trans ?_ (congrArg (part (inc m c) (inp m c)) e).symm)
  refine Finset.sum_congr rfl fun k _ => ?_
  rw [iblk_0, iblk_1]
  have el : low (⟨2560 + 512 * t.val + r.val, row_lt t r⟩ : Fin 5632) = ⟨512 * t.val + r.val, col_lt t r⟩ :=
    Fin.ext (show 2560 + 512 * t.val + r.val - 2560 = 512 * t.val + r.val by omega)
  exact congrArg (fun q => inc m c (ix2 k q) * inp m c (ix2 k n)) el.symm

/-- The kernel's result array. -/
theorem final : (dats m 0 c).arrAt 2 cfg0.N = grad (inc m c) (inp m c) (old m c) := by
  rw [final_parts, V_old]
  rfl

end Cert.Gw

end
-- ==== Proof.MixRef.lean ====
module

public import proofs.«01_k».proof.Proof.Gen.MixNormGradIdeal.Skeleton
public import proofs.«01_k».proof.Proof.Gen.MixNormGradReferenceIdeal.Run
public import proofs.«01_k».proof.Proof.NormTile
public import proofs.«01_k».proof.Proof.NormRef

/-!
# The gradient through the mixed projection's normalised input: a tile and the reference

The kernel adds two products, one of the first 2560 columns and one of the other 3072; the reference multiplies all 5632 at
once. From there on the work is that of the feed-forward part's gradient, with one half as the step before's coefficient.
-/

@[expose] public section

set_option maxRecDepth 16384

noncomputable section

namespace Cert.Mx

open Idealize.ShloMosaic Idealize.ShloMosaic.TcCoe Idealize.ShloMosaic.ValueIdx Cert.Ffn Cert.Ng Cert.Ng.Ref Finset
open scoped BigOperators

/-- One half, as printed. -/
def half : EReal := Ideal.ofBits .f32 0x3F000000#32

theorem half_eq : half = ((1 / 2 : ℝ) : EReal) := by
  simp [half, Ideal.ofBits, Ideal.ieee, -EReal.coe_mul]; norm_num

/-- One half of a sum, whatever its terms. -/
theorem half_sum {ι : Type} (s : Finset ι) (g : ι → EReal) : half * ∑ i ∈ s, g i = ∑ i ∈ s, half * g i := by
  classical
  induction s using Finset.induction_on with
  | empty => simp
  | insert a s ha ih =>
    rw [Finset.sum_insert ha, Finset.sum_insert ha, ← ih, half_eq]
    exact EReal.left_distrib_of_nonneg_of_ne_top (EReal.coe_nonneg.2 (by norm_num)) (EReal.coe_ne_top _) _ _

section Reference

open Cert.MixNormGradReferenceIdeal Cert.MixNormGradReferenceIdeal.Gen

variable (p : FVec Ideal S2048x5632 .f32) (w : FVec Ideal S1024x5632 .f32) (r : Fin 2048) (n : Fin 1024)

/-- The normalised input's gradient. -/
def dhOf : FVec Ideal S2048x1024 .f32 := fun i => dotRows p w (i 0) (i 1)

theorem ref_dh : Host.dotGeneral dot_S2048x5632_S1024x5632_S2048x1024_1_1_0_0_n_n none p w = dhOf p w := funext fun (i : S2048x1024.Idx) => by
  obtain ⟨r, n, rfl⟩ := exists_pair i
  refine Cert.Sb.host_dot dot_S2048x5632_S1024x5632_S2048x1024_1_1_0_0_n_n 5632 rfl rfl p w _
    (fun k => (ix2 r k : S2048x5632.Idx)) (fun k => (ix2 n k : S1024x5632.Idx)) (fun k => ?_) (fun k => ?_)
  · have hk := contrEquiv1_symm_val dot_S2048x5632_S1024x5632_S2048x1024_1_1_0_0_n_n 5632 rfl rfl k
    funext a; apply Fin.ext
    match a with
    | ⟨0, _⟩ => rfl
    | ⟨1, _⟩ => exact hk
  · have hk := contrEquiv1_symm_val dot_S2048x5632_S1024x5632_S2048x1024_1_1_0_0_n_n 5632 rfl rfl k
    funext a; apply Fin.ext
    match a with
    | ⟨0, _⟩ => rfl
    | ⟨1, _⟩ => exact hk

theorem dhOf_real {p : FVec Ideal S2048x5632 .f32} {w : FVec Ideal S1024x5632 .f32} (hp : IsR p) (hw : IsR w) : IsR (dhOf p w) :=
  fun i => dotRows_real hp hw (i 0) (i 1)

/-- A column of the first part and of the second, as columns of the whole. -/
def fst (k : Fin 2560) : Fin 5632 := ⟨k.val, by have := k.isLt; omega⟩
def snd (k : Fin 3072) : Fin 5632 := ⟨2560 + k.val, by have := k.isLt; omega⟩

/-- The product over all columns is the two parts' sum. -/
theorem dhOf_split : dhOf p w (ix2 r n) = (∑ k : Fin 2560, p (ix2 r (fst k)) * w (ix2 n (fst k))) + ∑ k : Fin 3072, p (ix2 r (snd k)) * w (ix2 n (snd k)) :=
  Fin.sum_univ_add (a := 2560) (b := 3072) fun k => p (ix2 r k) * w (ix2 n k)

/-- The row that multiplies the other factor's gradient: one half of the gate. -/
def halfRow (g : FVec Ideal S1024 .f32) : FVec Ideal S1024 .f32 := fun i => half * g i

theorem halfRow_apply (g : FVec Ideal S1024 .f32) (h1 : S1x1024.BroadcastsInDim S2048x1024 ![0, 1]) (h2 : S_.BroadcastsInDim S1x1024 ![]) (h3 : S1024.BroadcastsInDim S1x1024 ![1]) :
    broadcastInDim S2048x1024 ![0, 1] h1 (mulf (broadcastInDim S1x1024 ![] h2 (constant (F := Ideal) S_ .f32 0x3F000000#32)) (broadcastInDim S1x1024 ![1] h3 g)) (ix2 r n)
      = halfRow g (ix1 n) :=
  (broadcastInDim_apply _ _ _ (ix2 r n) (ix2 0 n) (fun a => by match a with | ⟨0, _⟩ => rfl | ⟨1, _⟩ => rfl)).trans
    (congrArg (half * ·) (broadcastInDim_apply _ _ _ (ix2 0 n) (ix1 n) (fun a => by match a with | ⟨0, _⟩ => rfl)))

/-- The gate's gradient carries the half. -/
def outDgate (A : Args) : FVec Ideal S1x1024 .f32 := fun i => half * Ref.outDgate A i

theorem res_dgate (A : Args) (hA : IsReal A) (h : S_.BroadcastsInDim S1x1024 ![]) :
    mulf (broadcastInDim S1x1024 ![] h (constant (F := Ideal) S_ .f32 0x3F000000#32)) (colSum (mulf (dx A) A.f)) = outDgate A := funext fun i =>
  congrArg (half * ·) (congrFun (resDgate A hA) i)

end Reference

section Tile

open Cert.MixNormGradIdeal Cert.MixNormGradIdeal.Gen

variable (a : Vec Ideal S256x2560 .bf16) (b : Vec Ideal S256x3072 .bf16) (v : Vec Ideal S2560x1024 .bf16) (w : Vec Ideal S3072x1024 .bf16)
variable (x d f : Vec Ideal S256x1024 .f32) (g s : Vec Ideal S1x1024 .f32) (r : Fin 256) (n : Fin 1024)

theorem pay5_apply : k0_pay5 a v b w (ix2 r n) = dhT a b v w r n := by
  unfold k0_pay5
  simp only [shapeCast_self]
  exact congrArg₂ (· + ·) (unit_dotCols (A := 256) (B := 1024) (K := 2560) (φ := .bf16) (ψ := .bf16) a v r n)
    (unit_dotCols (A := 256) (B := 1024) (K := 3072) (φ := .bf16) (ψ := .bf16) b w r n)

theorem pay8_apply : k0_pay8 a v b w g s (ix2 r n) = dhT a b v w r n * (g (ix2 0 n) * (1 + s (ix2 0 n))) := by
  unfold k0_pay8
  simp only [shapeCast_self]
  refine congrArg₂ (· * ·) (pay5_apply a b v w r n) ((over_rows _ r n).trans ?_)
  rw [← Ideal.ofBits_one_f32]
  rfl

theorem tile_dx : k0_pay10 (k0_pay6 x) (k0_pay7 x) (k0_pay8 a v b w g s) (k0_pay9 a v b w x g s) d (ix2 r n) = dxT x d g s r n (dhT a b v w r) :=
  tile_dx_of x d g s r n _ _ _ (fun n => pay8_apply a b v w g s r n) fun _ => rfl

theorem pay1_apply (h : FVec Ideal S256x1024 .f32) (o : FVec Ideal S1x1024 .f32) :
    k0_pay1 h o f (ix2 0 n) = o (ix2 0 n) + ∑ r : Fin 256, half * (h (ix2 r n) * f (ix2 r n)) := by
  rw [← half_sum]
  refine congrArg (o (ix2 0 n) + ·) ?_
  exact congrArg (half * ·) ((as_row _ _ n).trans (sum_col _ _ n))

theorem pay2_apply : (k0_pay2 : FVec Ideal S1x1024 .f32) (ix2 0 n) = 0 := Ideal.ofBits_zero_f32
theorem pay3_apply : (k0_pay3 : FVec Ideal S1x1024 .f32) (ix2 0 n) = 0 := Ideal.ofBits_zero_f32
theorem pay4_apply : (k0_pay4 : FVec Ideal S1x1024 .f32) (ix2 0 n) = 0 := Ideal.ofBits_zero_f32

theorem pay14_eq (o : Vec Ideal S1x1024 .f32) : k0_pay14 o = o := Cert.Ng.pay14_eq o

end Tile

end Cert.Mx

end
-- ==== Proof.MixPoint.lean ====
module

public import Idealize.ShloMosaic.Lib.Pipeline.ValueKit
public import Idealize.ShloMosaic.Lib.Pipeline.ValueKit.Geometry
public import proofs.«01_k».proof.Proof.Gen.MixNormGradIdeal.Value
public import proofs.«01_k».proof.Proof.MixRef

/-!
# The arrays of the gradient through the mixed projection's normalised input

What the kernel leaves in its five arrays: two written tile by tile, three of one row that every tile adds to. The first two
inputs are the columns of one array, cut at 2560, and the two weights are the rows of one array, cut at the same place.
-/

@[expose] public section

set_option maxRecDepth 16384

noncomputable section

namespace Cert.Mx

open Idealize.ShloMosaic hiding ix1 ix2
open Idealize.ShloMosaic.TcCoe Idealize.ShloMosaic.ValueIdx Cert.Ffn Cert.Ng.Ref Cert.MixNormGradIdeal Cert.MixNormGradIdeal.Gen Finset
open Cert.Ng
open scoped BigOperators

variable (m : (ℓ : Loc nD τ sig) → Buf (Elt Ideal) ℓ) (c : Dev nD)

/-- The projection's gradient and its weight, as launched. -/
abbrev dproj : FVec Ideal S2048x5632 .f32 := m ((c.tc : Thread nD τ).loc main_arg0)
abbrev win : FVec Ideal S1024x5632 .f32 := m ((c.tc : Thread nD τ).loc main_arg1)

/-- What the results are computed from. -/
def args : Args where
  dh := dhOf (dproj m c) (win m c)
  x := m ((c.tc : Thread nD τ).loc main_arg2)
  dres := m ((c.tc : Thread nD τ).loc main_arg3)
  gain := m ((c.tc : Thread nD τ).loc main_arg4)
  scale := m ((c.tc : Thread nD τ).loc main_arg5)
  f := m ((c.tc : Thread nD τ).loc main_arg6)
  gate := halfRow (m ((c.tc : Thread nD τ).loc main_arg7))

theorem V_fst : V m c main_v3 = (extractStridedSlice S2048x2560 ![0, 0] (dproj m c) slices_S2048x5632_S2048x2560_0_0 : FVec Ideal S2048x2560 .f32) := rfl

theorem V_snd : V m c main_v4 = (extractStridedSlice S2048x3072 ![0, 2560] (dproj m c) slices_S2048x5632_S2048x3072_0_2560 : FVec Ideal S2048x3072 .f32) := rfl

theorem V_win : V m c main_v2 = (transpose S5632x1024 [1, 0] (win m c) transposes_S1024x5632_S5632x1024_1_0 : FVec Ideal S5632x1024 .f32) := rfl

theorem V_x : V m c main_arg2 = (args m c).x := rfl

theorem V_dres : V m c main_arg3 = (args m c).dres := rfl

theorem V_gain : V m c main_v5 = (shapeCast S1x1024 (args m c).gain shapeCasts_S1024_S1x1024 : FVec Ideal S1x1024 .f32) := rfl

theorem V_scale : V m c main_v6 = (shapeCast S1x1024 (args m c).scale shapeCasts_S1024_S1x1024 : FVec Ideal S1x1024 .f32) := rfl

theorem V_f : V m c main_arg6 = (args m c).f := rfl

theorem V_gate : V m c main_v9 = (shapeCast S1x1024 (args m c).gate shapeCasts_S1024_S1x1024 : FVec Ideal S1x1024 .f32) := rfl

theorem turn (w : FVec Ideal S1024x5632 .f32) (h : S1024x5632.Transposes [1, 0] S5632x1024) (i : Fin 5632) (k : Fin 1024) :
    transpose S5632x1024 [1, 0] w h (ix2 i k) = w (ix2 k i) :=
  transpose_apply _ w h _ (ix2 k i) (by
    intro a
    match a with
    | ⟨0, _⟩ => rfl
    | ⟨1, _⟩ => rfl)

/-- The two parts of a row. -/
theorem part_fst (p : FVec Ideal S2048x5632 .f32) (h : S2048x5632.Slices ![0, 0] S2048x2560) (i : Fin 2048) (k : Fin 2560) :
    extractStridedSlice S2048x2560 ![0, 0] p h (ix2 i k) = p (ix2 i (fst k)) := by
  show p _ = p _
  congr 1; funext a; apply Fin.ext
  match a with
  | ⟨0, _⟩ => exact Nat.zero_add _
  | ⟨1, _⟩ => exact Nat.zero_add _

theorem part_snd (p : FVec Ideal S2048x5632 .f32) (h : S2048x5632.Slices ![0, 2560] S2048x3072) (i : Fin 2048) (k : Fin 3072) :
    extractStridedSlice S2048x3072 ![0, 2560] p h (ix2 i k) = p (ix2 i (snd k)) := by
  show p _ = p _
  congr 1; funext a; apply Fin.ext
  match a with
  | ⟨0, _⟩ => exact Nat.zero_add _
  | ⟨1, _⟩ => rfl

theorem N0_eq : cfg0.N = 8 := by decide
theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = 2560 ∧ win0_3.index t 1 = 0 := by decide +kernel
theorem ix_4 : ∀ t : Fin cfg0.N, win0_4.index t 0 = t.val ∧ win0_4.index t 1 = 0 := by decide +kernel
theorem ix_5 : ∀ t : Fin cfg0.N, win0_5.index t 0 = t.val ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = t.val ∧ win0_8.index t 1 = 0 := by decide +kernel
theorem ix_9 : ∀ t : Fin cfg0.N, win0_9.index t 0 = 0 ∧ win0_9.index t 1 = 0 := by decide +kernel
theorem ix_10 : ∀ t : Fin cfg0.N, win0_10.index t 0 = t.val ∧ win0_10.index t 1 = 0 := by decide +kernel
theorem ix_11 : ∀ t : Fin cfg0.N, win0_11.index t 0 = 0 ∧ win0_11.index t 1 = 0 := by decide +kernel
theorem ix_12 : ∀ t : Fin cfg0.N, win0_12.index t 0 = 0 ∧ win0_12.index t 1 = 0 := by decide +kernel
theorem ix_13 : ∀ t : Fin cfg0.N, win0_13.index t 0 = t.val ∧ win0_13.index t 1 = 0 := by decide +kernel
theorem ix_14 : ∀ t : Fin cfg0.N, win0_14.index t 0 = 0 ∧ win0_14.index t 1 = 0 := by decide +kernel

variable (t : Fin cfg0.N) (r : Fin 256) (n : Fin 1024)

theorem iblk_0 (k : Fin 2560) : (iblk m c 0 t : Vec Ideal S256x2560 .bf16) (ix2 r k) = dproj m c (ix2 (rowAt r N0_eq t) (fst k)) := by
  have hi := ix_0 t
  rw [← part_fst (dproj m c) slices_S2048x5632_S2048x2560_0_0 (rowAt r N0_eq t) k, ← V_fst]
  unfold iblk
  rw [View.read_apply]
  show V m c main_v3 _ = V m c main_v3 _
  congr 1; funext a; apply Fin.ext
  match a with
  | ⟨0, _⟩ => show win0_0.index t 0 * 256 + 1 * r.val = 256 * t.val + r.val; rw [hi.1]; omega
  | ⟨1, _⟩ => show win0_0.index t 1 * 2560 + 1 * k.val = k.val; rw [hi.2]; omega

theorem iblk_1 (k : Fin 2560) : (iblk m c 1 t : Vec Ideal S2560x1024 .bf16) (ix2 k n) = win m c (ix2 n (fst k)) := by
  have hi := ix_1 t
  rw [← turn (win m c) transposes_S1024x5632_S5632x1024_1_0 (fst k) n, ← V_win]
  unfold iblk
  rw [View.read_apply]
  show V m c main_v2 _ = V m c main_v2 _
  congr 1; funext a; apply Fin.ext
  match a with
  | ⟨0, _⟩ => show win0_1.index t 0 + 1 * k.val = (fst k).val; rw [hi.1]; exact (Nat.zero_add _).trans (Nat.one_mul _)
  | ⟨1, _⟩ => show win0_1.index t 1 + 1 * n.val = n.val; rw [hi.2]; omega

theorem iblk_2 (k : Fin 3072) : (iblk m c 2 t : Vec Ideal S256x3072 .bf16) (ix2 r k) = dproj m c (ix2 (rowAt r N0_eq t) (snd k)) := by
  have hi := ix_2 t
  rw [← part_snd (dproj m c) slices_S2048x5632_S2048x3072_0_2560 (rowAt r N0_eq t) k, ← V_snd]
  unfold iblk
  rw [View.read_apply]
  show V m c main_v4 _ = V m c main_v4 _
  congr 1; funext a; apply Fin.ext
  match a with
  | ⟨0, _⟩ => show win0_2.index t 0 * 256 + 1 * r.val = 256 * t.val + r.val; rw [hi.1]; omega
  | ⟨1, _⟩ => show win0_2.index t 1 * 3072 + 1 * k.val = k.val; rw [hi.2]; omega

theorem iblk_3 (k : Fin 3072) : (iblk m c 3 t : Vec Ideal S3072x1024 .bf16) (ix2 k n) = win m c (ix2 n (snd k)) := by
  have hi := ix_3 t
  rw [← turn (win m c) transposes_S1024x5632_S5632x1024_1_0 (snd k) n, ← V_win]
  unfold iblk
  rw [View.read_apply]
  show V m c main_v2 _ = V m c main_v2 _
  congr 1; funext a; apply Fin.ext
  match a with
  | ⟨0, _⟩ => show win0_3.index t 0 + 1 * k.val = (snd k).val; rw [hi.1]; exact congrArg (2560 + ·) (Nat.one_mul _)
  | ⟨1, _⟩ => show win0_3.index t 1 + 1 * n.val = n.val; rw [hi.2]; omega

theorem iblk_4 : (iblk m c 4 t : Vec Ideal S256x1024 .f32) (ix2 r n) = (args m c).x (ix2 (rowAt r N0_eq t) n) := by
  have hi := ix_4 t
  rw [← V_x]
  unfold iblk
  rw [View.read_apply]
  show V m c main_arg2 _ = V m c main_arg2 _
  congr 1; funext a; apply Fin.ext
  match a with
  | ⟨0, _⟩ => show win0_4.index t 0 * 256 + 1 * r.val = 256 * t.val + r.val; rw [hi.1]; omega
  | ⟨1, _⟩ => show win0_4.index t 1 * 1024 + 1 * n.val = n.val; rw [hi.2]; omega

theorem iblk_5 : (iblk m c 5 t : Vec Ideal S256x1024 .f32) (ix2 r n) = (args m c).dres (ix2 (rowAt r N0_eq t) n) := by
  have hi := ix_5 t
  rw [← V_dres]
  unfold iblk
  rw [View.read_apply]
  show V m c main_arg3 _ = V m c main_arg3 _
  congr 1; funext a; apply Fin.ext
  match a with
  | ⟨0, _⟩ => show win0_5.index t 0 * 256 + 1 * r.val = 256 * t.val + r.val; rw [hi.1]; omega
  | ⟨1, _⟩ => show win0_5.index t 1 * 1024 + 1 * n.val = n.val; rw [hi.2]; omega

theorem iblk_8 : (iblk m c 8 t : Vec Ideal S256x1024 .f32) (ix2 r n) = (args m c).f (ix2 (rowAt r N0_eq t) n) := by
  have hi := ix_8 t
  rw [← V_f]
  unfold iblk
  rw [View.read_apply]
  show V m c main_arg6 _ = V m c main_arg6 _
  congr 1; funext a; apply Fin.ext
  match a with
  | ⟨0, _⟩ => show win0_8.index t 0 * 256 + 1 * r.val = 256 * t.val + r.val; rw [hi.1]; omega
  | ⟨1, _⟩ => show win0_8.index t 1 * 1024 + 1 * n.val = n.val; rw [hi.2]; omega

theorem iblk_6 : (iblk m c 6 t : Vec Ideal S1x1024 .f32) (ix2 0 n) = (args m c).gain (ix1 n) := by
  have hi := ix_6 t
  rw [← as_row (args m c).gain shapeCasts_S1024_S1x1024 n, ← V_gain]
  unfold iblk
  rw [View.read_apply]
  show V m c main_v5 _ = V m c main_v5 _
  congr 1; funext a; apply Fin.ext
  match a with
  | ⟨0, _⟩ => show win0_6.index t 0 * 1 + 1 * 0 = 0; rw [hi.1]
  | ⟨1, _⟩ => show win0_6.index t 1 * 1024 + 1 * n.val = n.val; rw [hi.2]; omega

theorem iblk_7 : (iblk m c 7 t : Vec Ideal S1x1024 .f32) (ix2 0 n) = (args m c).scale (ix1 n) := by
  have hi := ix_7 t
  rw [← as_row (args m c).scale shapeCasts_S1024_S1x1024 n, ← V_scale]
  unfold iblk
  rw [View.read_apply]
  show V m c main_v6 _ = V m c main_v6 _
  congr 1; funext a; apply Fin.ext
  match a with
  | ⟨0, _⟩ => show win0_7.index t 0 * 1 + 1 * 0 = 0; rw [hi.1]
  | ⟨1, _⟩ => show win0_7.index t 1 * 1024 + 1 * n.val = n.val; rw [hi.2]; omega

theorem iblk_9 : (iblk m c 9 t : Vec Ideal S1x1024 .f32) (ix2 0 n) = (args m c).gate (ix1 n) := by
  have hi := ix_9 t
  rw [← as_row (args m c).gate shapeCasts_S1024_S1x1024 n, ← V_gate]
  unfold iblk
  rw [View.read_apply]
  show V m c main_v9 _ = V m c main_v9 _
  congr 1; funext a; apply Fin.ext
  match a with
  | ⟨0, _⟩ => show win0_9.index t 0 * 1 + 1 * 0 = 0; rw [hi.1]
  | ⟨1, _⟩ => show win0_9.index t 1 * 1024 + 1 * n.val = n.val; rw [hi.2]; omega

/-! ### A tile's values are the whole array's at its rows -/

theorem tile_dh : dhT (iblk m c 0 t : Vec Ideal S256x2560 .bf16) (iblk m c 2 t : Vec Ideal S256x3072 .bf16) (iblk m c 1 t : Vec Ideal S2560x1024 .bf16) (iblk m c 3 t : Vec Ideal S3072x1024 .bf16) r n
    = dhE (args m c) (rowAt r N0_eq t) n :=
  (congrArg₂ (· + ·) (Finset.sum_congr rfl fun k _ => by rw [iblk_0, iblk_1]) (Finset.sum_congr rfl fun k _ => by rw [iblk_2, iblk_3])).trans
    (dhOf_split (dproj m c) (win m c) (rowAt r N0_eq t) n).symm

theorem tile_rs : rsT (iblk m c 4 t : Vec Ideal S256x1024 .f32) r = rsE (args m c) (rowAt r N0_eq t) :=
  congrArg recip (Finset.sum_congr rfl fun k _ => by rw [iblk_4])

/-- The factor the gain and the scale make, read off a tile. -/
def facT (g k : Vec Ideal S1x1024 .f32) : EReal := g (ix2 0 n) * (1 + k (ix2 0 n))

theorem tile_fac : facT n (iblk m c 6 t) (iblk m c 7 t) = facE (args m c) n :=
  congrArg₂ (· * ·) (iblk_6 m c t n) (congrArg ((1 : EReal) + ·) (iblk_7 m c t n))

theorem tile_dxE : dxT (iblk m c 4 t : Vec Ideal S256x1024 .f32) (iblk m c 5 t : Vec Ideal S256x1024 .f32) (iblk m c 6 t : Vec Ideal S1x1024 .f32) (iblk m c 7 t : Vec Ideal S1x1024 .f32) r n
    (dhT (iblk m c 0 t : Vec Ideal S256x2560 .bf16) (iblk m c 2 t : Vec Ideal S256x3072 .bf16) (iblk m c 1 t : Vec Ideal S2560x1024 .bf16) (iblk m c 3 t : Vec Ideal S3072x1024 .bf16) r)
    = dxE (args m c) (rowAt r N0_eq t) n := by
  unfold dxT dxE
  exact congrArg₂ (· + ·) (iblk_5 m c t r n) (congrArg₂ (· * ·) (tile_rs m c t r) (congrArg₂ (· - ·) (congrArg₂ (· * ·) (tile_dh m c t r n) (tile_fac m c t n))
    (congrArg₂ (· * ·) (congrArg₂ (· * ·) (iblk_4 m c t r n) (tile_rs m c t r)) (congrArg (Ideal.div · width)
      (Finset.sum_congr rfl fun k _ => congrArg₂ (· * ·) (congrArg₂ (· * ·) (tile_dh m c t r k) (tile_fac m c t k)) (congrArg₂ (· * ·) (iblk_4 m c t r k) (tile_rs m c t r)))))))

theorem point_dh : k0_pay5 (iblk m c 0 t) (iblk m c 1 t) (iblk m c 2 t) (iblk m c 3 t) (ix2 r n) = dhE (args m c) (rowAt r N0_eq t) n :=
  (pay5_apply _ _ _ _ r n).trans (tile_dh m c t r n)

theorem point_xhat : k0_pay7 (iblk m c 4 t) (ix2 r n) = (args m c).x (ix2 (rowAt r N0_eq t) n) * rsE (args m c) (rowAt r N0_eq t) :=
  (pay7_apply _ r n).trans (congrArg₂ (· * ·) (iblk_4 m c t r n) (tile_rs m c t r))

theorem point_dx : k0_pay10 (k0_pay6 (iblk m c 4 t)) (k0_pay7 (iblk m c 4 t)) (k0_pay8 (iblk m c 0 t) (iblk m c 1 t) (iblk m c 2 t) (iblk m c 3 t) (iblk m c 6 t) (iblk m c 7 t))
      (k0_pay9 (iblk m c 0 t) (iblk m c 1 t) (iblk m c 2 t) (iblk m c 3 t) (iblk m c 4 t) (iblk m c 6 t) (iblk m c 7 t)) (iblk m c 5 t) (ix2 r n) = dxE (args m c) (rowAt r N0_eq t) n :=
  (tile_dx _ _ _ _ _ _ _ _ r n).trans (tile_dxE m c t r n)

/-! ### What each point leaves -/

theorem outs_10 : (outsAt0 m c t.val t.isLt).1 (ix2 r n) = dxE (args m c) (rowAt r N0_eq t) n := by
  by_cases h0 : t.val % 8 = 0
  · rw [outsAt0_A m c t h0]
    dsimp only
    frame_out
    exact point_dx m c t r n
  · rw [outsAt0_B m c t h0]
    dsimp only
    frame_out
    exact point_dx m c t r n

theorem outs_13 : (outsAt0 m c t.val t.isLt).2.2.2.1 (ix2 r n) = dxE (args m c) (rowAt r N0_eq t) n * (args m c).gate (ix1 n) := by
  by_cases h0 : t.val % 8 = 0
  · rw [outsAt0_A m c t h0]
    dsimp only
    frame_out
    exact (pay13_apply _ _ r n _ _ _ _).trans (congrArg₂ (· * ·) (point_dx m c t r n) (iblk_9 m c t n))
  · rw [outsAt0_B m c t h0]
    dsimp only
    frame_out
    exact (pay13_apply _ _ r n _ _ _ _).trans (congrArg₂ (· * ·) (point_dx m c t r n) (iblk_9 m c t n))

theorem start_11 (h0 : t.val % 8 = 0) : (outsAt0 m c t.val t.isLt).2.1 (ix2 0 n) = tileSum N0_eq t (fun r => dhE (args m c) r n) := by
  rw [outsAt0_A m c t h0]
  dsimp only
  frame_out
  refine (pay11_apply n _ _).trans ?_
  rw [pay2_apply n, zero_add]
  exact Finset.sum_congr rfl fun r _ => point_dh m c t r n

theorem step_11 (h0 : ¬t.val % 8 = 0) : (outsAt0 m c t.val t.isLt).2.1 (ix2 0 n)
    = (outsAt0 m c (t.val - 1) (Nat.lt_of_le_of_lt (Nat.sub_le _ _) t.isLt)).2.1 (ix2 0 n) + tileSum N0_eq t (fun r => dhE (args m c) r n) := by
  rw [outsAt0_B m c t h0]
  dsimp only
  frame_out
  exact (pay11_apply n _ _).trans (congrArg₂ (· + ·) (rfl) (Finset.sum_congr rfl fun r _ => point_dh m c t r n))

theorem start_12 (h0 : t.val % 8 = 0) : (outsAt0 m c t.val t.isLt).2.2.1 (ix2 0 n) = tileSum N0_eq t (fun r => dhE (args m c) r n * ((args m c).x (ix2 r n) * rsE (args m c) r)) := by
  rw [outsAt0_A m c t h0]
  dsimp only
  frame_out
  refine (pay12_apply n _ _ _).trans ?_
  rw [pay3_apply n, zero_add]
  exact Finset.sum_congr rfl fun r _ => congrArg₂ (· * ·) (point_dh m c t r n) (point_xhat m c t r n)

theorem step_12 (h0 : ¬t.val % 8 = 0) : (outsAt0 m c t.val t.isLt).2.2.1 (ix2 0 n)
    = (outsAt0 m c (t.val - 1) (Nat.lt_of_le_of_lt (Nat.sub_le _ _) t.isLt)).2.2.1 (ix2 0 n) + tileSum N0_eq t (fun r => dhE (args m c) r n * ((args m c).x (ix2 r n) * rsE (args m c) r)) := by
  rw [outsAt0_B m c t h0]
  dsimp only
  frame_out
  exact (pay12_apply n _ _ _).trans (congrArg₂ (· + ·) (rfl) (Finset.sum_congr rfl fun r _ => congrArg₂ (· * ·) (point_dh m c t r n) (point_xhat m c t r n)))

theorem start_14 (h0 : t.val % 8 = 0) : (outsAt0 m c t.val t.isLt).2.2.2.2 (ix2 0 n) = tileSum N0_eq t (fun r => half * (dxE (args m c) r n * (args m c).f (ix2 r n))) := by
  rw [outsAt0_A m c t h0]
  dsimp only
  frame_out
  refine (pay1_apply _ n _ _).trans ?_
  rw [pay14_eq, pay4_apply n, zero_add]
  exact Finset.sum_congr rfl fun r _ => congrArg (half * ·) (congrArg₂ (· * ·) (point_dx m c t r n) (iblk_8 m c t r n))

theorem step_14 (h0 : ¬t.val % 8 = 0) : (outsAt0 m c t.val t.isLt).2.2.2.2 (ix2 0 n)
    = (outsAt0 m c (t.val - 1) (Nat.lt_of_le_of_lt (Nat.sub_le _ _) t.isLt)).2.2.2.2 (ix2 0 n) + tileSum N0_eq t (fun r => half * (dxE (args m c) r n * (args m c).f (ix2 r n))) := by
  rw [outsAt0_B m c t h0]
  dsimp only
  frame_out
  exact (pay1_apply _ n _ _).trans (congrArg₂ (· + ·) (congrFun (pay14_eq _) (ix2 0 n)) (Finset.sum_congr rfl fun r _ => congrArg (half * ·) (congrArg₂ (· * ·) (point_dx m c t r n) (iblk_8 m c t r n))))

/-- The last point. -/
def lastPt : Fin cfg0.N := ⟨7, by decide⟩

/-! ### The result arrays -/

theorem final_10 : (dats m 0 c).arrAt 10 cfg0.N = outDx (args m c) := by
  refine (dats m 0 c).arrAt_eq_of_covers 10 _ (by decide +kernel) fun t hf y => ?_
  have hi := ix_10 t
  blk_simp
  rw [after0_10]
  obtain ⟨r, n, rfl⟩ := exists_pair y
  have e : ((cfg0.win 10).blk t).view.emb (ix2 r n) = ix2 (rowAt r N0_eq t) n := by
    funext a; apply Fin.ext
    match a with
    | ⟨0, _⟩ => show win0_10.index t 0 * 256 + 1 * r.val = 256 * t.val + r.val; rw [hi.1]; omega
    | ⟨1, _⟩ => show win0_10.index t 1 * 1024 + 1 * n.val = n.val; rw [hi.2]; omega
  exact (outs_10 m c t r n).trans (congrArg (outDx (args m c)) e).symm

theorem final_13 : (dats m 0 c).arrAt 13 cfg0.N = outDf (args m c) := by
  refine (dats m 0 c).arrAt_eq_of_covers 13 _ (by decide +kernel) fun t hf y => ?_
  have hi := ix_13 t
  blk_simp
  rw [after0_13]
  obtain ⟨r, n, rfl⟩ := exists_pair y
  have e : ((cfg0.win 13).blk t).view.emb (ix2 r n) = ix2 (rowAt r N0_eq t) n := by
    funext a; apply Fin.ext
    match a with
    | ⟨0, _⟩ => show win0_13.index t 0 * 256 + 1 * r.val = 256 * t.val + r.val; rw [hi.1]; omega
    | ⟨1, _⟩ => show win0_13.index t 1 * 1024 + 1 * n.val = n.val; rw [hi.2]; omega
  exact (outs_13 m c t r n).trans (congrArg (outDf (args m c)) e).symm

theorem final_11 : (dats m 0 c).arrAt 11 cfg0.N = outDh (args m c) := by
  refine (dats m 0 c).arrAt_eq_of_after_last 11 lastPt (by decide +kernel) _ fun j => ?_
  blk_simp
  rw [after0_11]
  obtain ⟨z, n, rfl⟩ := exists_pair j
  obtain rfl : z = 0 := Subsingleton.elim _ _
  exact acc_sum N0_eq (fun k hk => (outsAt0 m c k hk).2.1 (ix2 0 n)) _ (fun t h => start_11 m c t n h) (fun t h => step_11 m c t n h) lastPt.isLt

theorem final_12 : (dats m 0 c).arrAt 12 cfg0.N = outDhX (args m c) := by
  refine (dats m 0 c).arrAt_eq_of_after_last 12 lastPt (by decide +kernel) _ fun j => ?_
  blk_simp
  rw [after0_12]
  obtain ⟨z, n, rfl⟩ := exists_pair j
  obtain rfl : z = 0 := Subsingleton.elim _ _
  exact acc_sum N0_eq (fun k hk => (outsAt0 m c k hk).2.2.1 (ix2 0 n)) _ (fun t h => start_12 m c t n h) (fun t h => step_12 m c t n h) lastPt.isLt

theorem final_14 : (dats m 0 c).arrAt 14 cfg0.N = outDgate (args m c) := by
  refine (dats m 0 c).arrAt_eq_of_after_last 14 lastPt (by decide +kernel) _ fun j => ?_
  blk_simp
  rw [after0_14]
  obtain ⟨z, n, rfl⟩ := exists_pair j
  obtain rfl : z = 0 := Subsingleton.elim _ _
  refine Eq.trans ?_ (half_sum _ _).symm
  exact acc_sum N0_eq (fun k hk => (outsAt0 m c k hk).2.2.2.2 (ix2 0 n)) _ (fun t h => start_14 m c t n h) (fun t h => step_14 m c t n h) lastPt.isLt

end Cert.Mx

end
-- ==== Proof.EqualRest.lean ====
module

public import proofs.«01_k».proof.Defs
public import proofs.«01_k».proof.Proof.FfnDown
public import proofs.«01_k».proof.Proof.Qkv
public import proofs.«01_k».proof.Proof.Gates
public import proofs.«01_k».proof.Proof.GatesGrad
public import proofs.«01_k».proof.Proof.MixPoint
public import proofs.«01_k».proof.Proof.FiniteFfn
public import Idealize.ShloMosaic.Adequacy
public import Idealize.ShloMosaic.Init

/-!
# The down projection and the mixed projection's kernels agree with their references
-/

@[expose] public section

set_option maxRecDepth 16384

noncomputable section

namespace Cert.Proof

open Idealize.ShloMosaic Idealize.ShloMosaic.TcCoe Idealize.SL.Sem

/-! ### The references' runs end with the arguments unchanged -/

theorem frameDn : Cert.quiescent_FfnDownReferenceIdeal := fun m ρ _ =>
  (θ_run Cert.FfnDownReferenceIdeal.defs _ _).mono
    (fun r h => ⟨fun c => (h c).2.2, Idealize.ShloMosaic.sem_eq_zero_of_no_sems (by decide) r.2⟩)
    (Cert.FfnDownReferenceIdeal.Value.run (F := Ideal) m ρ)

theorem frameQk : Cert.quiescent_QkvReferenceIdeal := fun m ρ _ =>
  (θ_run Cert.QkvReferenceIdeal.defs _ _).mono
    (fun r h => ⟨fun c => (h c).2, Idealize.ShloMosaic.sem_eq_zero_of_no_sems (by decide) r.2⟩)
    (Cert.QkvReferenceIdeal.Value.run (F := Ideal) m ρ)

theorem frameGt : Cert.quiescent_GatesReferenceIdeal := fun m ρ _ =>
  (θ_run Cert.GatesReferenceIdeal.defs _ _).mono
    (fun r h => ⟨fun c => (h c).2, Idealize.ShloMosaic.sem_eq_zero_of_no_sems (by decide) r.2⟩)
    (Cert.GatesReferenceIdeal.Value.run (F := Ideal) m ρ)

theorem frameGw : Cert.quiescent_GatesGradReferenceIdeal := fun m ρ _ =>
  (θ_run Cert.GatesGradReferenceIdeal.defs _ _).mono
    (fun r h => ⟨fun c => (h c).2, Idealize.ShloMosaic.sem_eq_zero_of_no_sems (by decide) r.2⟩)
    (Cert.GatesGradReferenceIdeal.Value.run (F := Ideal) m ρ)

theorem frameMx : Cert.quiescent_MixNormGradReferenceIdeal := fun m ρ _ =>
  (θ_run Cert.MixNormGradReferenceIdeal.defs _ _).mono
    (fun r h => ⟨fun c => (h c).2.2.2.2.2, Idealize.ShloMosaic.sem_eq_zero_of_no_sems (by decide) r.2⟩)
    (Cert.MixNormGradReferenceIdeal.Value.run (F := Ideal) m ρ)

/-! ### Equal results -/

/-- The down projection's product and the step it makes, on all arguments. -/
theorem equalDn : Cert.algebraic_FfnDownIdeal_FfnDownReferenceIdeal (hFfnDownIdeal := Cert.FfnDownIdeal.Gen.facts)
    (hFfnDownReferenceIdeal := Cert.FfnDownReferenceIdeal.Gen.facts) :=
  fun m ρ m' ρ' _ hag =>
    ⟨fun c => Cert.Dn.prod (Cert.Dn.act m c) (Cert.Dn.wdn m c), fun c => Cert.Dn.step (Cert.Dn.act m c) (Cert.Dn.wdn m c) (Cert.Dn.inp m c) (Cert.Dn.gate m c),
      (θ_run _ _ _).mono (fun r h c => by
        obtain ⟨r0, r1, ha⟩ := h c
        exact ⟨r0.trans (Cert.Dn.final_4 m c), r1.trans (Cert.Dn.final_5 m c), ha⟩) (Cert.FfnDownIdeal.Value.run_blocks m ρ),
      (θ_run _ _ _).mono (fun r h c => by
        obtain ⟨r0, r1, ha⟩ := h c
        obtain ⟨a0, a1, a2, a3⟩ := hag c
        refine ⟨r0.trans ((Cert.Dn.ref_prod _ _).trans ?_), r1.trans ((Cert.Dn.ref_step _ _ _ _ _ _ _).trans ?_), ha⟩
        · rw [a0, a1]
        · rw [a0, a1, a2, a3]) (Cert.FfnDownReferenceIdeal.Value.run m' ρ')⟩

/-- The queries', keys' and values' columns of the mixed projection, on all arguments. -/
theorem equalQk : Cert.algebraic_QkvIdeal_QkvReferenceIdeal (hQkvIdeal := Cert.QkvIdeal.Gen.facts)
    (hQkvReferenceIdeal := Cert.QkvReferenceIdeal.Gen.facts) :=
  fun m ρ m' ρ' _ hag =>
    ⟨fun c => Cert.Qk.prod (Cert.Qk.inp m c) (Cert.Qk.win m c),
      (θ_run _ _ _).mono (fun r h c => ⟨(h c).1.trans (Cert.Qk.final m c), (h c).2⟩) (Cert.QkvIdeal.Value.run_blocks m ρ),
      (θ_run _ _ _).mono (fun r h c => by
        obtain ⟨r0, ha⟩ := h c
        obtain ⟨a0, a1⟩ := hag c
        refine ⟨r0.trans ((Cert.Qk.ref_prod _ _ _).trans ?_), ha⟩
        rw [a0, a1]) (Cert.QkvReferenceIdeal.Value.run m' ρ')⟩

/-- The gates' columns of the mixed projection, on all arguments. -/
theorem equalGt : Cert.algebraic_GatesIdeal_GatesReferenceIdeal (hGatesIdeal := Cert.GatesIdeal.Gen.facts)
    (hGatesReferenceIdeal := Cert.GatesReferenceIdeal.Gen.facts) :=
  fun m ρ m' ρ' _ hag =>
    ⟨fun c => Cert.Gt.prod (Cert.Gt.inp m c) (Cert.Gt.win m c),
      (θ_run _ _ _).mono (fun r h c => ⟨(h c).1.trans (Cert.Gt.final m c), (h c).2⟩) (Cert.GatesIdeal.Value.run_blocks m ρ),
      (θ_run _ _ _).mono (fun r h c => by
        obtain ⟨r0, ha⟩ := h c
        obtain ⟨a0, a1⟩ := hag c
        refine ⟨r0.trans ((Cert.Gt.ref_prod _ _ _).trans ?_), ha⟩
        rw [a0, a1]) (Cert.GatesReferenceIdeal.Value.run m' ρ')⟩

/-- The gates' rows of the weight's gradient below the rows given, on all arguments. -/
theorem equalGw : Cert.algebraic_GatesGradIdeal_GatesGradReferenceIdeal (hGatesGradIdeal := Cert.GatesGradIdeal.Gen.facts)
    (hGatesGradReferenceIdeal := Cert.GatesGradReferenceIdeal.Gen.facts) :=
  fun m ρ m' ρ' _ hag =>
    ⟨fun c => Cert.Gw.grad (Cert.Gw.inc m c) (Cert.Gw.inp m c) (Cert.Gw.old m c),
      (θ_run _ _ _).mono (fun r h c => ⟨(h c).1.trans (Cert.Gw.final m c), (h c).2⟩) (Cert.GatesGradIdeal.Value.run_blocks m ρ),
      (θ_run _ _ _).mono (fun r h c => by
        obtain ⟨r0, ha⟩ := h c
        obtain ⟨a0, a1, a2⟩ := hag c
        refine ⟨r0.trans ((Cert.Gw.ref_grad _ _ _ _ _ _ _ _).trans ?_), ha⟩
        rw [a0, a1, a2]) (Cert.GatesGradReferenceIdeal.Value.run m' ρ')⟩

section Mix

open Cert.MixNormGradReferenceIdeal Cert.MixNormGradReferenceIdeal.Gen

variable (m : (ℓ : Loc nD τ sig) → Buf (Elt Ideal) ℓ) (c : Dev nD)

/-- What the reference's results are computed from; the row that multiplies the other factor's gradient is given apart. -/
def mixArgs (gate : FVec Ideal S1024 .f32) : Cert.Ng.Ref.Args where
  dh := Host.dotGeneral (φ₁ := .f32) (φ₂ := .f32) dot_S2048x5632_S1024x5632_S2048x1024_1_1_0_0_n_n none (m ((c.tc : Thread nD τ).loc main_arg0)) (m ((c.tc : Thread nD τ).loc main_arg1))
  x := m ((c.tc : Thread nD τ).loc main_arg2)
  dres := m ((c.tc : Thread nD τ).loc main_arg3)
  gain := m ((c.tc : Thread nD τ).loc main_arg4)
  scale := m ((c.tc : Thread nD τ).loc main_arg5)
  f := m ((c.tc : Thread nD τ).loc main_arg6)
  gate := gate

variable (g : FVec Ideal S1024 .f32)

theorem mix_dx : Value.res_main_v45 m c = Cert.Ng.Ref.dx (mixArgs m c g) := rfl

theorem mix_df : Value.res_main_v58 m c = truncf .bf16 (mulf (broadcastInDim S2048x1024 ![0, 1] bcast_S1x1024_S2048x1024_0_1
    (mulf (broadcastInDim S1x1024 ![] bcast_S_S1x1024 (constant (F := Ideal) S_ .f32 0x3F000000#32))
      (broadcastInDim S1x1024 ![1] bcast_S1024_S1x1024_1 (m ((c.tc : Thread nD τ).loc main_arg7))))) (Cert.Ng.Ref.dx (mixArgs m c g))) (by decide) := rfl

theorem mix_dgate : Value.res_main_v57 m c = mulf (broadcastInDim S1x1024 ![] bcast_S_S1x1024 (constant (F := Ideal) S_ .f32 0x3F000000#32))
    (Cert.Ng.Ref.colSum (mulf (Cert.Ng.Ref.dx (mixArgs m c g)) (mixArgs m c g).f)) := rfl

end Mix

/-- The gradient through the mixed projection's normalised input, where what is multiplied before the last sum is finite. -/
theorem equalMx [hf : Cert.Pre_finite_mix.Facts] :
    Cert.algebraic_MixNormGradIdeal_MixNormGradReferenceIdeal_pre_finite_mix (hMixNormGradIdeal := Cert.MixNormGradIdeal.Gen.facts)
      (hMixNormGradReferenceIdeal := Cert.MixNormGradReferenceIdeal.Gen.facts) :=
  fun m ρ m' ρ' hpre hag =>
    ⟨fun c => Cert.Ng.Ref.outDx (Cert.Mx.args m c), fun c => Cert.Ng.Ref.outDh (Cert.Mx.args m c), fun c => Cert.Ng.Ref.outDhX (Cert.Mx.args m c),
      fun c => Cert.Ng.Ref.outDf (Cert.Mx.args m c), fun c => Cert.Mx.outDgate (Cert.Mx.args m c),
      (θ_run _ _ _).mono (fun r h c => by
        obtain ⟨r0, r1, r2, r3, r4, ha⟩ := h c
        exact ⟨r0.trans (Cert.Mx.final_10 m c), r1.trans (Cert.Mx.final_11 m c), r2.trans (Cert.Mx.final_12 m c), r3.trans (Cert.Mx.final_13 m c),
          r4.trans (Cert.Mx.final_14 m c), ha⟩) (Cert.MixNormGradIdeal.Value.run_blocks m ρ),
      (θ_run _ _ _).mono (fun r h c => by
        obtain ⟨r0, r1, r2, r3, r4, ha⟩ := h c
        obtain ⟨a0, a1, a2, a3, a4, a5, a6, a7⟩ := hag c
        have hA : mixArgs m' c (Cert.Mx.args m c).gate = Cert.Mx.args m c := by
          unfold mixArgs Cert.Mx.args
          rw [Cert.Mx.ref_dh, a0, a1, a2, a3, a4, a5, a6]
        obtain ⟨h0, h1, h2, h4, h5⟩ := Cert.Ffn.real_mix _ _ _ _ _ _ _ _ (hpre c)
        have hr : Cert.Ng.Ref.IsReal (Cert.Mx.args m c) := ⟨Cert.Mx.dhOf_real h0 h1, h2, h4, h5⟩
        rw [mix_dx m' c (Cert.Mx.args m c).gate, hA] at r0
        rw [mix_df m' c (Cert.Mx.args m c).gate, hA, a7] at r3
        rw [mix_dgate m' c (Cert.Mx.args m c).gate, hA] at r4
        refine ⟨r0.trans (Cert.Ng.Ref.resDx _ hr), ?_, ?_, r3.trans (Cert.Ng.Ref.resDf _ hr _ (fun r n => Cert.Mx.halfRow_apply r n _ _ _ _) _),
          r4.trans (Cert.Mx.res_dgate _ hr _), ha⟩
        · refine (r1.trans (show _ = Cert.Ng.Ref.colSum (mixArgs m' c (Cert.Mx.args m c).gate).dh from rfl)).trans ?_
          rw [hA]
          exact Cert.Ng.Ref.resDh _
        · refine (r2.trans (show _ = Cert.Ng.Ref.colSum (mulf (Cert.Ng.Ref.xhat (mixArgs m' c (Cert.Mx.args m c).gate)) (mixArgs m' c (Cert.Mx.args m c).gate).dh) from rfl)).trans ?_
          rw [hA]
          exact Cert.Ng.Ref.resDhX _) (Cert.MixNormGradReferenceIdeal.Value.run m' ρ')⟩

end Cert.Proof

end
-- ==== Proof.OutProj.lean ====
module

public import Idealize.ShloMosaic.Lib.Pipeline.ValueKit
public import Idealize.ShloMosaic.Lib.Pipeline.ValueKit.Geometry
public import proofs.«01_k».proof.Proof.Gen.OutIdeal.Value
public import proofs.«01_k».proof.Proof.Gen.OutReferenceIdeal.Run
public import proofs.«01_k».proof.Proof.Gen.OutGradIdeal.Value
public import proofs.«01_k».proof.Proof.Gen.OutGradReferenceIdeal.Run
public import proofs.«01_k».proof.Proof.Gen.OutWeightGradIdeal.Value
public import proofs.«01_k».proof.Proof.Gen.OutWeightGradReferenceIdeal.Run
public import proofs.«01_k».proof.Proof.Ffn

/-!
# The mixed part's projection back, and its gradients

The kernels multiply tiles: of 512 rows and 512 columns the projection and the gradient of what is projected, of 512 rows of the
turned input the weight's gradient. The references multiply whole arrays.
-/

@[expose] public section

set_option maxRecDepth 16384

noncomputable section

namespace Cert.Op

open Idealize.ShloMosaic hiding ix1 ix2
open Idealize.ShloMosaic.TcCoe Idealize.ShloMosaic.ValueIdx Cert.Ffn Cert.OutIdeal Cert.OutIdeal.Gen Finset
open scoped BigOperators

/-- The product, entry by entry. -/
def prod (s : FVec Ideal S2048x1024 .f32) (w : FVec Ideal S1024x1024 .f32) : FVec Ideal S2048x1024 .f32 := fun i =>
  ∑ k : Fin 1024, s (ix2 (i 0) k) * w (ix2 k (i 1))

/-- The step's result, entry by entry. -/
def step (s : FVec Ideal S2048x1024 .f32) (w : FVec Ideal S1024x1024 .f32) (x : FVec Ideal S2048x1024 .f32) (g : FVec Ideal S1024 .f32) :
    FVec Ideal S2048x1024 .f32 := fun i => x i + prod s w i * g (ix1 (i 1))

/-! ### The reference -/

theorem ref_prod (s : FVec Ideal S2048x1024 .f32) (w : FVec Ideal S1024x1024 .f32) : Host.dotGeneral Cert.OutReferenceIdeal.dot_S2048x1024_S1024x1024_S2048x1024_1_0_0_1_n_n none s w = prod s w := by
  refine funext fun (i : S2048x1024.Idx) => ?_
  refine Cert.Sb.host_dot Cert.OutReferenceIdeal.dot_S2048x1024_S1024x1024_S2048x1024_1_0_0_1_n_n 1024 rfl rfl s w i
    (fun k => (ix2 (i 0) k : S2048x1024.Idx)) (fun k => (ix2 k (i 1) : S1024x1024.Idx)) (fun k => ?_) (fun k => ?_)
  · have hk := contrEquiv1_symm_val Cert.OutReferenceIdeal.dot_S2048x1024_S1024x1024_S2048x1024_1_0_0_1_n_n 1024 rfl rfl k
    funext a; apply Fin.ext
    match a with
    | ⟨0, _⟩ => rfl
    | ⟨1, _⟩ => exact hk
  · have hk := contrEquiv1_symm_val Cert.OutReferenceIdeal.dot_S2048x1024_S1024x1024_S2048x1024_1_0_0_1_n_n 1024 rfl rfl k
    funext a; apply Fin.ext
    match a with
    | ⟨0, _⟩ => exact hk
    | ⟨1, _⟩ => rfl

theorem ref_step (s : FVec Ideal S2048x1024 .f32) (w : FVec Ideal S1024x1024 .f32) (x : FVec Ideal S2048x1024 .f32) (g : FVec Ideal S1024 .f32)
    (h2 : Cert.OutReferenceIdeal.S1024.BroadcastsInDim Cert.OutReferenceIdeal.S1x1024 ![1]) (h3 : Cert.OutReferenceIdeal.S1x1024.BroadcastsInDim Cert.OutReferenceIdeal.S2048x1024 ![0, 1]) :
    addf x (mulf (broadcastInDim Cert.OutReferenceIdeal.S2048x1024 ![0, 1] h3 (broadcastInDim Cert.OutReferenceIdeal.S1x1024 ![1] h2 g)) (Host.dotGeneral Cert.OutReferenceIdeal.dot_S2048x1024_S1024x1024_S2048x1024_1_0_0_1_n_n none s w)) = step s w x g := by
  rw [ref_prod]
  refine funext fun i => ?_
  obtain ⟨r, n, rfl⟩ := exists_pair i
  refine congrArg (x (ix2 r n) + ·) ((congrArg (· * prod s w (ix2 r n)) ?_).trans (mul_comm _ _))
  exact (broadcastInDim_apply _ _ _ (ix2 r n) (ix2 0 n) (fun a => by match a with | ⟨0, _⟩ => rfl | ⟨1, _⟩ => rfl)).trans
    (broadcastInDim_apply _ _ _ (ix2 0 n) (ix1 n) (fun a => by match a with | ⟨0, _⟩ => rfl))

/-! ### One tile -/

/-- A tile's product, entry by entry. -/
def dotT (x : Vec Ideal S512x1024 .bf16) (w : Vec Ideal S1024x512 .bf16) (r : Fin 512) (n : Fin 512) : EReal :=
  ∑ k : Fin 1024, x (ix2 r k) * w (ix2 k n)

theorem pay1_apply (x : Vec Ideal S512x1024 .bf16) (w : Vec Ideal S1024x512 .bf16) (r : Fin 512) (n : Fin 512) :
    k0_pay1 x w (ix2 r n) = dotT x w r n := by
  unfold k0_pay1
  simp only [shapeCast_self]
  show FloatOps.matmul (φ₁ := .bf16) (φ₂ := .bf16) (DotDims.plain 512 1024 512) none (x : FVec Ideal S512x1024 .bf16) (w : FVec Ideal S1024x512 .bf16) (constant (F := Ideal) ⟨2, ![512, 512]⟩ .f32 0x00000000#32) (ix2 r n) = _
  rw [Ideal.matmul_plain_apply, show constant (F := Ideal) ⟨2, ![512, 512]⟩ .f32 0x00000000#32 (ix2 r n) = 0 from Ideal.ofBits_zero_f32, zero_add]
  rfl

theorem pay2_apply (x : Vec Ideal S512x1024 .bf16) (w : Vec Ideal S1024x512 .bf16) (d : Vec Ideal S512x512 .f32) (g : Vec Ideal S1x512 .f32) (r : Fin 512) (n : Fin 512) :
    k0_pay2 x w d g (ix2 r n) = d (ix2 r n) + dotT x w r n * g (ix2 0 n) := by
  rw [← pay1_apply]
  unfold k0_pay2
  simp only [shapeCast_self]
  refine congrArg (d (ix2 r n) + ·) (congrArg (k0_pay1 x w (ix2 r n) * ·) ?_)
  exact broadcastTo_apply g _ (ix2 r n) (ix2 0 n) (fun d => by
    match d with
    | ⟨0, _⟩ => rfl
    | ⟨1, _⟩ => rfl)

/-! ### The arrays as launched -/

variable (m : (ℓ : Loc nD τ sig) → Buf (Elt Ideal) ℓ) (c : Dev nD)

/-- The merged heads, the weight, the step's input and its gate as launched. -/
abbrev act : FVec Ideal S2048x1024 .f32 := m ((c.tc : Thread nD τ).loc main_arg0)
abbrev wout : FVec Ideal S1024x1024 .f32 := m ((c.tc : Thread nD τ).loc main_arg1)
abbrev inp : FVec Ideal S2048x1024 .f32 := m ((c.tc : Thread nD τ).loc main_arg2)
abbrev gate : FVec Ideal S1024 .f32 := m ((c.tc : Thread nD τ).loc main_arg3)

theorem V_act : V m c main_v0 = act m c := rfl
theorem V_wout : V m c main_v1 = wout m c := rfl
theorem V_inp : V m c main_arg2 = inp m c := rfl
theorem V_gate : V m c main_v2 = (shapeCast S1x1024 (gate m c) shapeCasts_S1024_S1x1024 : FVec Ideal S1x1024 .f32) := rfl

theorem gate_apply (n : Fin 1024) : (shapeCast S1x1024 (gate m c) shapeCasts_S1024_S1x1024 : FVec Ideal S1x1024 .f32) (ix2 0 n) = gate m c (ix1 n) :=
  shapeCast_apply _ _ (ix2 0 n) (ix1 n) (by
    rw [Shape.rowMajor_val_one, Shape.rowMajor_val_two]
    show n.val = 0 * 1024 + n.val
    omega)

theorem N0_eq : cfg0.N = 8 := by decide
theorem ix_0 : ∀ t : Fin cfg0.N, win0_0.index t 0 = t.val / 2 ∧ win0_0.index t 1 = 0 := by decide +kernel
theorem ix_1 : ∀ t : Fin cfg0.N, win0_1.index t 0 = 0 ∧ win0_1.index t 1 = t.val % 2 := by decide +kernel
theorem ix_2 : ∀ t : Fin cfg0.N, win0_2.index t 0 = t.val / 2 ∧ win0_2.index t 1 = t.val % 2 := by decide +kernel
theorem ix_3 : ∀ t : Fin cfg0.N, win0_3.index t 0 = 0 ∧ win0_3.index t 1 = t.val % 2 := by decide +kernel
theorem ix_4 : ∀ t : Fin cfg0.N, win0_4.index t 0 = t.val / 2 ∧ win0_4.index t 1 = t.val % 2 := by decide +kernel
theorem ix_5 : ∀ t : Fin cfg0.N, win0_5.index t 0 = t.val / 2 ∧ win0_5.index t 1 = t.val % 2 := by decide +kernel

theorem row_lt (t : Fin cfg0.N) (r : Fin 512) : 512 * (t.val / 2) + r.val < 2048 := by
  have := lt_of_lt_of_eq t.isLt N0_eq; omega
theorem col_lt (t : Fin cfg0.N) (n : Fin 512) : 512 * (t.val % 2) + n.val < 1024 := by omega

/-- The row and the column of the whole array that a tile's are. -/
def rowAt (t : Fin cfg0.N) (r : Fin 512) : Fin 2048 := ⟨512 * (t.val / 2) + r.val, row_lt t r⟩
def colAt (t : Fin cfg0.N) (n : Fin 512) : Fin 1024 := ⟨512 * (t.val % 2) + n.val, col_lt t n⟩

theorem iblk_0 (t : Fin cfg0.N) (r : Fin 512) (k : Fin 1024) : (iblk m c 0 t : Vec Ideal S512x1024 .bf16) (ix2 r k) = act m c (ix2 (rowAt t r) k) := by
  have hi := ix_0 t
  rw [← V_act]
  unfold iblk
  rw [View.read_apply]
  show V m c main_v0 _ = V m c main_v0 _
  congr 1; funext a; apply Fin.ext
  match a with
  | ⟨0, _⟩ => show win0_0.index t 0 * 512 + 1 * r.val = 512 * (t.val / 2) + r.val; rw [hi.1]; omega
  | ⟨1, _⟩ => show win0_0.index t 1 * 1024 + 1 * k.val = k.val; rw [hi.2]; omega

theorem iblk_1 (t : Fin cfg0.N) (k : Fin 1024) (n : Fin 512) : (iblk m c 1 t : Vec Ideal S1024x512 .bf16) (ix2 k n) = wout m c (ix2 k (colAt t n)) := by
  have hi := ix_1 t
  rw [← V_wout]
  unfold iblk
  rw [View.read_apply]
  show V m c main_v1 _ = V m c main_v1 _
  congr 1; funext a; apply Fin.ext
  match a with
  | ⟨0, _⟩ => show win0_1.index t 0 * 1024 + 1 * k.val = k.val; rw [hi.1]; omega
  | ⟨1, _⟩ => show win0_1.index t 1 * 512 + 1 * n.val = 512 * (t.val % 2) + n.val; rw [hi.2]; omega

theorem iblk_2 (t : Fin cfg0.N) (r : Fin 512) (n : Fin 512) : (iblk m c 2 t : Vec Ideal S512x512 .f32) (ix2 r n) = inp m c (ix2 (rowAt t r) (colAt t n)) := by
  have hi := ix_2 t
  rw [← V_inp]
  unfold iblk
  rw [View.read_apply]
  show V m c main_arg2 _ = V m c main_arg2 _
  congr 1; funext a; apply Fin.ext
  match a with
  | ⟨0, _⟩ => show win0_2.index t 0 * 512 + 1 * r.val = 512 * (t.val / 2) + r.val; rw [hi.1]; omega
  | ⟨1, _⟩ => show win0_2.index t 1 * 512 + 1 * n.val = 512 * (t.val % 2) + n.val; rw [hi.2]; omega

theorem iblk_3 (t : Fin cfg0.N) (n : Fin 512) : (iblk m c 3 t : Vec Ideal S1x512 .f32) (ix2 0 n) = gate m c (ix1 (colAt t n)) := by
  have hi := ix_3 t
  rw [← gate_apply, ← V_gate]
  unfold iblk
  rw [View.read_apply]
  show V m c main_v2 _ = V m c main_v2 _
  congr 1; funext a; apply Fin.ext
  match a with
  | ⟨0, _⟩ => show win0_3.index t 0 * 1 + 1 * 0 = 0; rw [hi.1]
  | ⟨1, _⟩ => show win0_3.index t 1 * 512 + 1 * n.val = 512 * (t.val % 2) + n.val; rw [hi.2]; omega

theorem tile_prod (t : Fin cfg0.N) (r : Fin 512) (n : Fin 512) :
    dotT (iblk m c 0 t : Vec Ideal S512x1024 .bf16) (iblk m c 1 t : Vec Ideal S1024x512 .bf16) r n = prod (act m c) (wout m c) (ix2 (rowAt t r) (colAt t n)) :=
  Finset.sum_congr rfl fun k _ => by rw [iblk_0, iblk_1]

/-! ### The result arrays -/

theorem final_4 : (dats m 0 c).arrAt 4 cfg0.N = prod (act m c) (wout m c) := by
  refine (dats m 0 c).arrAt_eq_of_covers 4 _ (by decide +kernel) fun t hf y => ?_
  have hi := ix_4 t
  blk_simp
  rw [after0_4]
  frame_out
  obtain ⟨r, n, rfl⟩ := exists_pair y
  have e : ((cfg0.win 4).blk t).view.emb (ix2 r n) = ix2 (rowAt t r) (colAt t n) := by
    funext a; apply Fin.ext
    match a with
    | ⟨0, _⟩ => show win0_4.index t 0 * 512 + 1 * r.val = 512 * (t.val / 2) + r.val; rw [hi.1]; omega
    | ⟨1, _⟩ => show win0_4.index t 1 * 512 + 1 * n.val = 512 * (t.val % 2) + n.val; rw [hi.2]; omega
  exact (pay1_apply _ _ r n).trans ((tile_prod m c t r n).trans (congrArg _ e).symm)

theorem final_5 : (dats m 0 c).arrAt 5 cfg0.N = step (act m c) (wout m c) (inp m c) (gate m c) := by
  refine (dats m 0 c).arrAt_eq_of_covers 5 _ (by decide +kernel) fun t hf y => ?_
  have hi := ix_5 t
  blk_simp
  rw [after0_5]
  frame_out
  obtain ⟨r, n, rfl⟩ := exists_pair y
  have e : ((cfg0.win 5).blk t).view.emb (ix2 r n) = ix2 (rowAt t r) (colAt t n) := by
    funext a; apply Fin.ext
    match a with
    | ⟨0, _⟩ => show win0_5.index t 0 * 512 + 1 * r.val = 512 * (t.val / 2) + r.val; rw [hi.1]; omega
    | ⟨1, _⟩ => show win0_5.index t 1 * 512 + 1 * n.val = 512 * (t.val % 2) + n.val; rw [hi.2]; omega
  refine (pay2_apply _ _ _ _ r n).trans (Eq.trans ?_ (congrArg (step (act m c) (wout m c) (inp m c) (gate m c)) e).symm)
  exact congrArg₂ (· + ·) (iblk_2 m c t r n) (congrArg₂ (· * ·) (tile_prod m c t r n) (iblk_3 m c t n))

end Cert.Op

namespace Cert.Od

open Idealize.ShloMosaic hiding ix1 ix2
open Idealize.ShloMosaic.TcCoe Idealize.ShloMosaic.ValueIdx Cert.Ffn Cert.OutGradIdeal Cert.OutGradIdeal.Gen Finset
open scoped BigOperators

/-- The gradient of what is projected: its product with the weight's rows. -/
def prod (d : FVec Ideal S2048x1024 .f32) (w : FVec Ideal S1024x1024 .f32) : FVec Ideal S2048x1024 .f32 := fun i => dotRows d w (i 0) (i 1)

theorem ref_prod (d : FVec Ideal S2048x1024 .f32) (w : FVec Ideal S1024x1024 .f32) : Host.dotGeneral Cert.OutGradReferenceIdeal.dot_S2048x1024_S1024x1024_S2048x1024_1_1_0_0_n_n none d w = prod d w := by
  refine funext fun (i : S2048x1024.Idx) => ?_
  refine Cert.Sb.host_dot Cert.OutGradReferenceIdeal.dot_S2048x1024_S1024x1024_S2048x1024_1_1_0_0_n_n 1024 rfl rfl d w i
    (fun k => (ix2 (i 0) k : S2048x1024.Idx)) (fun k => (ix2 (i 1) k : S1024x1024.Idx)) (fun k => ?_) (fun k => ?_)
  · have hk := contrEquiv1_symm_val Cert.OutGradReferenceIdeal.dot_S2048x1024_S1024x1024_S2048x1024_1_1_0_0_n_n 1024 rfl rfl k
    funext a; apply Fin.ext
    match a with
    | ⟨0, _⟩ => rfl
    | ⟨1, _⟩ => exact hk
  · have hk := contrEquiv1_symm_val Cert.OutGradReferenceIdeal.dot_S2048x1024_S1024x1024_S2048x1024_1_1_0_0_n_n 1024 rfl rfl k
    funext a; apply Fin.ext
    match a with
    | ⟨0, _⟩ => rfl
    | ⟨1, _⟩ => exact hk

theorem pay1_apply (x : Vec Ideal S512x1024 .bf16) (w : Vec Ideal S512x1024 .bf16) (r : Fin 512) (n : Fin 512) :
    k0_pay1 x w (ix2 r n) = dotRows x w r n := by
  unfold k0_pay1
  simp only [shapeCast_self]
  exact unit_dotRows (A := 512) (B := 512) (K := 1024) (φ := .bf16) (ψ := .bf16) x w r n

variable (m : (ℓ : Loc nD τ sig) → Buf (Elt Ideal) ℓ) (c : Dev nD)

/-- The incoming gradient and the weight as launched. -/
abbrev inc : FVec Ideal S2048x1024 .f32 := m ((c.tc : Thread nD τ).loc main_arg0)
abbrev wout : FVec Ideal S1024x1024 .f32 := m ((c.tc : Thread nD τ).loc main_arg1)

theorem V_inc : V m c main_v0 = inc m c := rfl
theorem V_wout : V m c main_v1 = wout m c := rfl

theorem N0_eq : cfg0.N = 8 := by decide
theorem ix_0 : ∀ t : Fin cfg0.N, win0_0.index t 0 = t.val / 2 ∧ win0_0.index t 1 = 0 := by decide +kernel
theorem ix_1 : ∀ t : Fin cfg0.N, win0_1.index t 0 = t.val % 2 ∧ win0_1.index t 1 = 0 := by decide +kernel
theorem ix_2 : ∀ t : Fin cfg0.N, win0_2.index t 0 = t.val / 2 ∧ win0_2.index t 1 = t.val % 2 := by decide +kernel

theorem row_lt (t : Fin cfg0.N) (r : Fin 512) : 512 * (t.val / 2) + r.val < 2048 := by
  have := lt_of_lt_of_eq t.isLt N0_eq; omega
theorem col_lt (t : Fin cfg0.N) (n : Fin 512) : 512 * (t.val % 2) + n.val < 1024 := by omega

/-- The row and the column of the whole array that a tile's are. -/
def rowAt (t : Fin cfg0.N) (r : Fin 512) : Fin 2048 := ⟨512 * (t.val / 2) + r.val, row_lt t r⟩
def colAt (t : Fin cfg0.N) (n : Fin 512) : Fin 1024 := ⟨512 * (t.val % 2) + n.val, col_lt t n⟩

theorem iblk_0 (t : Fin cfg0.N) (r : Fin 512) (k : Fin 1024) : (iblk m c 0 t : Vec Ideal S512x1024 .bf16) (ix2 r k) = inc m c (ix2 (rowAt t r) k) := by
  have hi := ix_0 t
  rw [← V_inc]
  unfold iblk
  rw [View.read_apply]
  show V m c main_v0 _ = V m c main_v0 _
  congr 1; funext a; apply Fin.ext
  match a with
  | ⟨0, _⟩ => show win0_0.index t 0 * 512 + 1 * r.val = 512 * (t.val / 2) + r.val; rw [hi.1]; omega
  | ⟨1, _⟩ => show win0_0.index t 1 * 1024 + 1 * k.val = k.val; rw [hi.2]; omega

theorem iblk_1 (t : Fin cfg0.N) (n : Fin 512) (k : Fin 1024) : (iblk m c 1 t : Vec Ideal S512x1024 .bf16) (ix2 n k) = wout m c (ix2 (colAt t n) k) := by
  have hi := ix_1 t
  rw [← V_wout]
  unfold iblk
  rw [View.read_apply]
  show V m c main_v1 _ = V m c main_v1 _
  congr 1; funext a; apply Fin.ext
  match a with
  | ⟨0, _⟩ => show win0_1.index t 0 * 512 + 1 * n.val = 512 * (t.val % 2) + n.val; rw [hi.1]; omega
  | ⟨1, _⟩ => show win0_1.index t 1 * 1024 + 1 * k.val = k.val; rw [hi.2]; omega

theorem tile_prod (t : Fin cfg0.N) (r : Fin 512) (n : Fin 512) :
    dotRows (iblk m c 0 t : Vec Ideal S512x1024 .bf16) (iblk m c 1 t : Vec Ideal S512x1024 .bf16) r n = prod (inc m c) (wout m c) (ix2 (rowAt t r) (colAt t n)) := by
  show _ = ∑ k : Fin 1024, inc m c (ix2 (rowAt t r) k) * wout m c (ix2 (colAt t n) k)
  refine Finset.sum_congr rfl fun k _ => ?_
  rw [iblk_0, iblk_1]

theorem final : (dats m 0 c).arrAt 2 cfg0.N = prod (inc m c) (wout m c) := by
  refine (dats m 0 c).arrAt_eq_of_covers 2 _ (by decide +kernel) fun t hf y => ?_
  have hi := ix_2 t
  blk_simp
  rw [after0_2]
  frame_out
  obtain ⟨r, n, rfl⟩ := exists_pair y
  have e : ((cfg0.win 2).blk t).view.emb (ix2 r n) = ix2 (rowAt t r) (colAt t n) := by
    funext a; apply Fin.ext
    match a with
    | ⟨0, _⟩ => show win0_2.index t 0 * 512 + 1 * r.val = 512 * (t.val / 2) + r.val; rw [hi.1]; omega
    | ⟨1, _⟩ => show win0_2.index t 1 * 512 + 1 * n.val = 512 * (t.val % 2) + n.val; rw [hi.2]; omega
  refine (pay1_apply _ _ r n).trans (Eq.trans ?_ (congrArg (prod (inc m c) (wout m c)) e).symm)
  exact tile_prod m c t r n

end Cert.Od

namespace Cert.Ow

open Idealize.ShloMosaic hiding ix1 ix2
open Idealize.ShloMosaic.TcCoe Idealize.ShloMosaic.ValueIdx Cert.Ffn Cert.OutWeightGradIdeal Cert.OutWeightGradIdeal.Gen Finset
open scoped BigOperators

/-- The weight's gradient at each entry: the sum over positions of activation times incoming gradient. -/
def grad (s : FVec Ideal S2048x1024 .f32) (g : FVec Ideal S2048x1024 .f32) : FVec Ideal S1024x1024 .bf16 := fun i =>
  ∑ k : Fin 2048, s (ix2 k (i 0)) * g (ix2 k (i 1))

/-- The reference's term is that sum. -/
theorem ref_grad (s : FVec Ideal S2048x1024 .f32) (g : FVec Ideal S2048x1024 .f32) (h : Cert.OutWeightGradReferenceIdeal.S1024x1024.Transposes [1, 0] Cert.OutWeightGradReferenceIdeal.S1024x1024)
    (hb : FTy.bits .bf16 < FTy.bits .f32) :
    truncf .bf16 (transpose Cert.OutWeightGradReferenceIdeal.S1024x1024 [1, 0]
      (Host.dotGeneral Cert.OutWeightGradReferenceIdeal.dot_S2048x1024_S2048x1024_S1024x1024_0_0_1_1_n_n none g s)
      h) hb = grad s g := by
  refine funext fun (i : S1024x1024.Idx) => ?_
  refine (transpose_apply _ (Host.dotGeneral Cert.OutWeightGradReferenceIdeal.dot_S2048x1024_S2048x1024_S1024x1024_0_0_1_1_n_n none g s) h i (ix2 (i 1) (i 0)) (by
    intro a
    match a with
    | ⟨0, _⟩ => rfl
    | ⟨1, _⟩ => rfl)).trans ?_
  refine (Cert.Sb.host_dot Cert.OutWeightGradReferenceIdeal.dot_S2048x1024_S2048x1024_S1024x1024_0_0_1_1_n_n 2048 rfl rfl g s _
    (fun k => (ix2 k (i 1) : S2048x1024.Idx)) (fun k => (ix2 k (i 0) : S2048x1024.Idx)) (fun k => ?_) (fun k => ?_)).trans
    (Finset.sum_congr rfl fun k _ => mul_comm _ _)
  · have hk := contrEquiv1_symm_val Cert.OutWeightGradReferenceIdeal.dot_S2048x1024_S2048x1024_S1024x1024_0_0_1_1_n_n 2048 rfl rfl k
    funext a; apply Fin.ext
    match a with
    | ⟨0, _⟩ => exact hk
    | ⟨1, _⟩ => rfl
  · have hk := contrEquiv1_symm_val Cert.OutWeightGradReferenceIdeal.dot_S2048x1024_S2048x1024_S1024x1024_0_0_1_1_n_n 2048 rfl rfl k
    funext a; apply Fin.ext
    match a with
    | ⟨0, _⟩ => exact hk
    | ⟨1, _⟩ => rfl

/-- One block of the kernel's product. -/
theorem pay_apply (x : Vec Ideal S2048x512 .bf16) (y : Vec Ideal S2048x1024 .bf16) (r : Fin 512) (n : Fin 1024) :
    k0_pay2 (k0_pay1 x) y (ix2 r n) = ∑ k : Fin 2048, x (ix2 k r) * y (ix2 k n) := by
  unfold k0_pay2 k0_pay1
  simp only [shapeCast_self]
  show FloatOps.matmul (φ₁ := .bf16) (φ₂ := .bf16) (DotDims.plain 512 2048 1024) none _ (y : FVec Ideal S2048x1024 .bf16) (constant (F := Ideal) ⟨2, ![512, 1024]⟩ .f32 0x00000000#32) (ix2 r n) = _
  rw [Ideal.matmul_plain_apply, show constant (F := Ideal) ⟨2, ![512, 1024]⟩ .f32 0x00000000#32 (ix2 r n) = 0 from Ideal.ofBits_zero_f32, zero_add]
  refine Finset.sum_congr rfl fun k _ => ?_
  rw [transpose_apply (k := ix2 k r) (hk := by
    intro a
    match a with
    | ⟨0, _⟩ => rfl
    | ⟨1, _⟩ => rfl)]

variable (m : (ℓ : Loc nD τ sig) → Buf (Elt Ideal) ℓ) (c : Dev nD)

/-- The activations and the incoming gradient as launched. -/
abbrev act : FVec Ideal S2048x1024 .f32 := m ((c.tc : Thread nD τ).loc main_arg0)
abbrev inc : FVec Ideal S2048x1024 .f32 := m ((c.tc : Thread nD τ).loc main_arg1)

theorem V_act : V m c main_v0 = act m c := rfl
theorem V_inc : V m c main_v1 = inc m c := rfl

theorem N0_eq : cfg0.N = 2 := by decide
theorem ix_0 : ∀ t : Fin cfg0.N, win0_0.index t 0 = 0 ∧ win0_0.index t 1 = t.val := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

theorem col_lt (t : Fin cfg0.N) (r : Fin 512) : 512 * t.val + r.val < 1024 := by
  have := lt_of_lt_of_eq t.isLt N0_eq; omega

theorem iblk_0 (t : Fin cfg0.N) (k : Fin 2048) (r : Fin 512) :
    (iblk m c 0 t : Vec Ideal S2048x512 .bf16) (ix2 k r) = act m c (ix2 k ⟨512 * t.val + r.val, col_lt t r⟩) := by
  have hi := ix_0 t
  rw [← V_act]
  unfold iblk
  rw [View.read_apply]
  show V m c main_v0 _ = V m c main_v0 _
  congr 1; funext a; apply Fin.ext
  match a with
  | ⟨0, _⟩ => show win0_0.index t 0 * 2048 + 1 * k.val = k.val; rw [hi.1]; omega
  | ⟨1, _⟩ => show win0_0.index t 1 * 512 + 1 * r.val = 512 * t.val + r.val; rw [hi.2]; omega

theorem iblk_1 (t : Fin cfg0.N) (k : Fin 2048) (n : Fin 1024) :
    (iblk m c 1 t : Vec Ideal S2048x1024 .bf16) (ix2 k n) = inc m c (ix2 k n) := by
  have hi := ix_1 t
  rw [← V_inc]
  unfold iblk
  rw [View.read_apply]
  show V m c main_v1 _ = V m c main_v1 _
  congr 1; funext a; apply Fin.ext
  match a with
  | ⟨0, _⟩ => show win0_1.index t 0 * 2048 + 1 * k.val = k.val; rw [hi.1]; omega
  | ⟨1, _⟩ => show win0_1.index t 1 * 1024 + 1 * n.val = n.val; rw [hi.2]; omega

/-- The kernel's result array is the weight's gradient. -/
theorem final : (dats m 0 c).arrAt 2 cfg0.N = grad (act m c) (inc m c) := by
  refine (dats m 0 c).arrAt_eq_of_covers 2 _ (by decide +kernel) fun t hf y => ?_
  have hi := ix_2 t
  blk_simp
  rw [after0_2]
  unfold outsAt0
  frame_out
  obtain ⟨r, n, rfl⟩ := exists_pair y
  have e : ((cfg0.win 2).blk t).view.emb (ix2 r n) = ix2 (⟨512 * t.val + r.val, col_lt t r⟩ : Fin 1024) n := by
    funext a; apply Fin.ext
    match a with
    | ⟨0, _⟩ => show win0_2.index t 0 * 512 + 1 * r.val = 512 * t.val + r.val; rw [hi.1]; omega
    | ⟨1, _⟩ => show win0_2.index t 1 * 1024 + 1 * n.val = n.val; rw [hi.2]; omega
  refine (pay_apply _ _ r n).trans (Eq.trans ?_ (congrArg (grad (act m c) (inc m c)) e).symm)
  exact Finset.sum_congr rfl fun k _ => by rw [iblk_0, iblk_1]

end Cert.Ow

end
-- ==== Proof.HalfPoint.lean ====
module

public import Idealize.ShloMosaic.Lib.Pipeline.ValueKit
public import Idealize.ShloMosaic.Lib.Pipeline.ValueKit.Geometry
public import proofs.«01_k».proof.Proof.Gen.HalfNormGradIdeal.Value
public import proofs.«01_k».proof.Proof.NormTile
public import proofs.«01_k».proof.Proof.NormRef
public import proofs.«01_k».proof.Proof.MixRef

/-!
# The arrays of the gradient through the normalised input, with one half before the gate

The call differs from the one with the factor one in the row that multiplies the input's gradient and in the factor of the last sum.
-/

@[expose] public section

set_option maxRecDepth 16384

noncomputable section

namespace Cert.Hg

open Cert.Ng
open Cert.Mx (half half_sum halfRow)

open Idealize.ShloMosaic hiding ix1 ix2
open Idealize.ShloMosaic.TcCoe Idealize.ShloMosaic.ValueIdx Cert.Ffn Cert.Ng.Ref Cert.HalfNormGradIdeal Cert.HalfNormGradIdeal.Gen Finset
open scoped BigOperators

/-! ### The tile's values that are not those of the other call by their text alone -/

section Tile

variable (f : Vec Ideal S256x1024 .f32) (n : Fin 1024)

theorem pay1_apply (h : FVec Ideal S256x1024 .f32) (o : FVec Ideal S1x1024 .f32) :
    k0_pay1 h o f (ix2 0 n) = o (ix2 0 n) + ∑ r : Fin 256, half * (h (ix2 r n) * f (ix2 r n)) := by
  rw [← half_sum]
  refine congrArg (o (ix2 0 n) + ·) ?_
  exact congrArg (half * ·) ((as_row _ _ n).trans (sum_col _ _ n))

theorem pay2_apply : (k0_pay2 : FVec Ideal S1x1024 .f32) (ix2 0 n) = 0 := Ideal.ofBits_zero_f32
theorem pay3_apply : (k0_pay3 : FVec Ideal S1x1024 .f32) (ix2 0 n) = 0 := Ideal.ofBits_zero_f32
theorem pay4_apply : (k0_pay4 : FVec Ideal S1x1024 .f32) (ix2 0 n) = 0 := Ideal.ofBits_zero_f32

theorem pay14_eq (o : Vec Ideal S1x1024 .f32) : k0_pay14 o = o := Cert.Ng.pay14_eq o

end Tile

variable (m : (ℓ : Loc nD τ sig) → Buf (Elt Ideal) ℓ) (c : Dev nD)

/-- The gradients of the two products and their weights, as launched. -/
abbrev da : FVec Ideal S2048x2816 .f32 := m ((c.tc : Thread nD τ).loc main_arg0)
abbrev wg : FVec Ideal S1024x2816 .f32 := m ((c.tc : Thread nD τ).loc main_arg1)
abbrev du : FVec Ideal S2048x2816 .f32 := m ((c.tc : Thread nD τ).loc main_arg2)
abbrev wu : FVec Ideal S1024x2816 .f32 := m ((c.tc : Thread nD τ).loc main_arg3)

/-- What the results are computed from. -/
def args : Args where
  dh := dhOf (da m c) (wg m c) (du m c) (wu m c)
  x := m ((c.tc : Thread nD τ).loc main_arg4)
  dres := m ((c.tc : Thread nD τ).loc main_arg5)
  gain := m ((c.tc : Thread nD τ).loc main_arg6)
  scale := m ((c.tc : Thread nD τ).loc main_arg7)
  f := m ((c.tc : Thread nD τ).loc main_arg8)
  gate := halfRow (m ((c.tc : Thread nD τ).loc main_arg9))

theorem V_da : V m c main_v0 = (da m c) := rfl

theorem V_wg : V m c main_v2 = (transpose S2816x1024 [1, 0] (wg m c) transposes_S1024x2816_S2816x1024_1_0 : FVec Ideal S2816x1024 .f32) := rfl

theorem V_du : V m c main_v3 = (du m c) := rfl

theorem V_wu : V m c main_v5 = (transpose S2816x1024 [1, 0] (wu m c) transposes_S1024x2816_S2816x1024_1_0 : FVec Ideal S2816x1024 .f32) := rfl

theorem V_x : V m c main_arg4 = (args m c).x := rfl

theorem V_dres : V m c main_arg5 = (args m c).dres := rfl

theorem V_gain : V m c main_v6 = (shapeCast S1x1024 (args m c).gain shapeCasts_S1024_S1x1024 : FVec Ideal S1x1024 .f32) := rfl

theorem V_scale : V m c main_v7 = (shapeCast S1x1024 (args m c).scale shapeCasts_S1024_S1x1024 : FVec Ideal S1x1024 .f32) := rfl

theorem V_f : V m c main_arg8 = (args m c).f := rfl

theorem V_gate : V m c main_v10 = (shapeCast S1x1024 (args m c).gate shapeCasts_S1024_S1x1024 : FVec Ideal S1x1024 .f32) := rfl

theorem turn (w : FVec Ideal S1024x2816 .f32) (h : S1024x2816.Transposes [1, 0] S2816x1024) (i : Fin 2816) (k : Fin 1024) :
    transpose S2816x1024 [1, 0] w h (ix2 i k) = w (ix2 k i) :=
  transpose_apply _ w h _ (ix2 k i) (by
    intro a
    match a with
    | ⟨0, _⟩ => rfl
    | ⟨1, _⟩ => rfl)

theorem N0_eq : cfg0.N = 8 := by decide
theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = t.val ∧ win0_4.index t 1 = 0 := by decide +kernel
theorem ix_5 : ∀ t : Fin cfg0.N, win0_5.index t 0 = t.val ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = t.val ∧ win0_8.index t 1 = 0 := by decide +kernel
theorem ix_9 : ∀ t : Fin cfg0.N, win0_9.index t 0 = 0 ∧ win0_9.index t 1 = 0 := by decide +kernel
theorem ix_10 : ∀ t : Fin cfg0.N, win0_10.index t 0 = t.val ∧ win0_10.index t 1 = 0 := by decide +kernel
theorem ix_11 : ∀ t : Fin cfg0.N, win0_11.index t 0 = 0 ∧ win0_11.index t 1 = 0 := by decide +kernel
theorem ix_12 : ∀ t : Fin cfg0.N, win0_12.index t 0 = 0 ∧ win0_12.index t 1 = 0 := by decide +kernel
theorem ix_13 : ∀ t : Fin cfg0.N, win0_13.index t 0 = t.val ∧ win0_13.index t 1 = 0 := by decide +kernel
theorem ix_14 : ∀ t : Fin cfg0.N, win0_14.index t 0 = 0 ∧ win0_14.index t 1 = 0 := by decide +kernel

variable (t : Fin cfg0.N) (r : Fin 256) (n : Fin 1024)

theorem iblk_0 (k : Fin 2816): (iblk m c 0 t : Vec Ideal S256x2816 .bf16) (ix2 r k) = (da m c) (ix2 (rowAt r N0_eq t) k) := by
  have hi := ix_0 t
  rw [← V_da]
  unfold iblk
  rw [View.read_apply]
  show V m c main_v0 _ = V m c main_v0 _
  congr 1; funext a; apply Fin.ext
  match a with
  | ⟨0, _⟩ => show win0_0.index t 0 * 256 + 1 * r.val = 256 * t.val + r.val; rw [hi.1]; omega
  | ⟨1, _⟩ => show win0_0.index t 1 * 2816 + 1 * k.val = k.val; rw [hi.2]; omega

theorem iblk_1 (k : Fin 2816) : (iblk m c 1 t : Vec Ideal S2816x1024 .bf16) (ix2 k n) = (wg m c) (ix2 n k) := by
  have hi := ix_1 t
  rw [← turn (wg m c) transposes_S1024x2816_S2816x1024_1_0 k n, ← V_wg]
  unfold iblk
  rw [View.read_apply]
  show V m c main_v2 _ = V m c main_v2 _
  congr 1; funext a; apply Fin.ext
  match a with
  | ⟨0, _⟩ => show win0_1.index t 0 * 2816 + 1 * k.val = k.val; rw [hi.1]; omega
  | ⟨1, _⟩ => show win0_1.index t 1 * 1024 + 1 * n.val = n.val; rw [hi.2]; omega

theorem iblk_2 (k : Fin 2816): (iblk m c 2 t : Vec Ideal S256x2816 .bf16) (ix2 r k) = (du m c) (ix2 (rowAt r N0_eq t) k) := by
  have hi := ix_2 t
  rw [← V_du]
  unfold iblk
  rw [View.read_apply]
  show V m c main_v3 _ = V m c main_v3 _
  congr 1; funext a; apply Fin.ext
  match a with
  | ⟨0, _⟩ => show win0_2.index t 0 * 256 + 1 * r.val = 256 * t.val + r.val; rw [hi.1]; omega
  | ⟨1, _⟩ => show win0_2.index t 1 * 2816 + 1 * k.val = k.val; rw [hi.2]; omega

theorem iblk_3 (k : Fin 2816) : (iblk m c 3 t : Vec Ideal S2816x1024 .bf16) (ix2 k n) = (wu m c) (ix2 n k) := by
  have hi := ix_3 t
  rw [← turn (wu m c) transposes_S1024x2816_S2816x1024_1_0 k n, ← V_wu]
  unfold iblk
  rw [View.read_apply]
  show V m c main_v5 _ = V m c main_v5 _
  congr 1; funext a; apply Fin.ext
  match a with
  | ⟨0, _⟩ => show win0_3.index t 0 * 2816 + 1 * k.val = k.val; rw [hi.1]; omega
  | ⟨1, _⟩ => show win0_3.index t 1 * 1024 + 1 * n.val = n.val; rw [hi.2]; omega

theorem iblk_4 : (iblk m c 4 t : Vec Ideal S256x1024 .f32) (ix2 r n) = (args m c).x (ix2 (rowAt r N0_eq t) n) := by
  have hi := ix_4 t
  rw [← V_x]
  unfold iblk
  rw [View.read_apply]
  show V m c main_arg4 _ = V m c main_arg4 _
  congr 1; funext a; apply Fin.ext
  match a with
  | ⟨0, _⟩ => show win0_4.index t 0 * 256 + 1 * r.val = 256 * t.val + r.val; rw [hi.1]; omega
  | ⟨1, _⟩ => show win0_4.index t 1 * 1024 + 1 * n.val = n.val; rw [hi.2]; omega

theorem iblk_5 : (iblk m c 5 t : Vec Ideal S256x1024 .f32) (ix2 r n) = (args m c).dres (ix2 (rowAt r N0_eq t) n) := by
  have hi := ix_5 t
  rw [← V_dres]
  unfold iblk
  rw [View.read_apply]
  show V m c main_arg5 _ = V m c main_arg5 _
  congr 1; funext a; apply Fin.ext
  match a with
  | ⟨0, _⟩ => show win0_5.index t 0 * 256 + 1 * r.val = 256 * t.val + r.val; rw [hi.1]; omega
  | ⟨1, _⟩ => show win0_5.index t 1 * 1024 + 1 * n.val = n.val; rw [hi.2]; omega

theorem iblk_8 : (iblk m c 8 t : Vec Ideal S256x1024 .f32) (ix2 r n) = (args m c).f (ix2 (rowAt r N0_eq t) n) := by
  have hi := ix_8 t
  rw [← V_f]
  unfold iblk
  rw [View.read_apply]
  show V m c main_arg8 _ = V m c main_arg8 _
  congr 1; funext a; apply Fin.ext
  match a with
  | ⟨0, _⟩ => show win0_8.index t 0 * 256 + 1 * r.val = 256 * t.val + r.val; rw [hi.1]; omega
  | ⟨1, _⟩ => show win0_8.index t 1 * 1024 + 1 * n.val = n.val; rw [hi.2]; omega

theorem iblk_6 : (iblk m c 6 t : Vec Ideal S1x1024 .f32) (ix2 0 n) = (args m c).gain (ix1 n) := by
  have hi := ix_6 t
  rw [← as_row (args m c).gain shapeCasts_S1024_S1x1024 n, ← V_gain]
  unfold iblk
  rw [View.read_apply]
  show V m c main_v6 _ = V m c main_v6 _
  congr 1; funext a; apply Fin.ext
  match a with
  | ⟨0, _⟩ => show win0_6.index t 0 * 1 + 1 * 0 = 0; rw [hi.1]
  | ⟨1, _⟩ => show win0_6.index t 1 * 1024 + 1 * n.val = n.val; rw [hi.2]; omega

theorem iblk_7 : (iblk m c 7 t : Vec Ideal S1x1024 .f32) (ix2 0 n) = (args m c).scale (ix1 n) := by
  have hi := ix_7 t
  rw [← as_row (args m c).scale shapeCasts_S1024_S1x1024 n, ← V_scale]
  unfold iblk
  rw [View.read_apply]
  show V m c main_v7 _ = V m c main_v7 _
  congr 1; funext a; apply Fin.ext
  match a with
  | ⟨0, _⟩ => show win0_7.index t 0 * 1 + 1 * 0 = 0; rw [hi.1]
  | ⟨1, _⟩ => show win0_7.index t 1 * 1024 + 1 * n.val = n.val; rw [hi.2]; omega

theorem iblk_9 : (iblk m c 9 t : Vec Ideal S1x1024 .f32) (ix2 0 n) = (args m c).gate (ix1 n) := by
  have hi := ix_9 t
  rw [← as_row (args m c).gate shapeCasts_S1024_S1x1024 n, ← V_gate]
  unfold iblk
  rw [View.read_apply]
  show V m c main_v10 _ = V m c main_v10 _
  congr 1; funext a; apply Fin.ext
  match a with
  | ⟨0, _⟩ => show win0_9.index t 0 * 1 + 1 * 0 = 0; rw [hi.1]
  | ⟨1, _⟩ => show win0_9.index t 1 * 1024 + 1 * n.val = n.val; rw [hi.2]; omega

/-! ### A tile's values are the whole array's at its rows -/

theorem tile_dh : dhT (iblk m c 0 t : Vec Ideal S256x2816 .bf16) (iblk m c 2 t : Vec Ideal S256x2816 .bf16) (iblk m c 1 t : Vec Ideal S2816x1024 .bf16) (iblk m c 3 t : Vec Ideal S2816x1024 .bf16) r n
    = dhE (args m c) (rowAt r N0_eq t) n :=
  congrArg₂ (· + ·) (Finset.sum_congr rfl fun k _ => by rw [iblk_0, iblk_1]) (Finset.sum_congr rfl fun k _ => by rw [iblk_2, iblk_3])

theorem tile_rs : rsT (iblk m c 4 t : Vec Ideal S256x1024 .f32) r = rsE (args m c) (rowAt r N0_eq t) :=
  congrArg recip (Finset.sum_congr rfl fun k _ => by rw [iblk_4])

/-- The factor the gain and the scale make, read off a tile. -/
def facT (g k : Vec Ideal S1x1024 .f32) : EReal := g (ix2 0 n) * (1 + k (ix2 0 n))

theorem tile_fac : facT n (iblk m c 6 t) (iblk m c 7 t) = facE (args m c) n :=
  congrArg₂ (· * ·) (iblk_6 m c t n) (congrArg ((1 : EReal) + ·) (iblk_7 m c t n))

theorem tile_dxE : dxT (iblk m c 4 t : Vec Ideal S256x1024 .f32) (iblk m c 5 t : Vec Ideal S256x1024 .f32) (iblk m c 6 t : Vec Ideal S1x1024 .f32) (iblk m c 7 t : Vec Ideal S1x1024 .f32) r n
    (dhT (iblk m c 0 t : Vec Ideal S256x2816 .bf16) (iblk m c 2 t : Vec Ideal S256x2816 .bf16) (iblk m c 1 t : Vec Ideal S2816x1024 .bf16) (iblk m c 3 t : Vec Ideal S2816x1024 .bf16) r)
    = dxE (args m c) (rowAt r N0_eq t) n := by
  unfold dxT dxE
  exact congrArg₂ (· + ·) (iblk_5 m c t r n) (congrArg₂ (· * ·) (tile_rs m c t r) (congrArg₂ (· - ·) (congrArg₂ (· * ·) (tile_dh m c t r n) (tile_fac m c t n))
    (congrArg₂ (· * ·) (congrArg₂ (· * ·) (iblk_4 m c t r n) (tile_rs m c t r)) (congrArg (Ideal.div · width)
      (Finset.sum_congr rfl fun k _ => congrArg₂ (· * ·) (congrArg₂ (· * ·) (tile_dh m c t r k) (tile_fac m c t k)) (congrArg₂ (· * ·) (iblk_4 m c t r k) (tile_rs m c t r)))))))

theorem point_dh : k0_pay5 (iblk m c 0 t) (iblk m c 1 t) (iblk m c 2 t) (iblk m c 3 t) (ix2 r n) = dhE (args m c) (rowAt r N0_eq t) n :=
  (pay5_apply _ _ _ _ r n).trans (tile_dh m c t r n)

theorem point_xhat : k0_pay7 (iblk m c 4 t) (ix2 r n) = (args m c).x (ix2 (rowAt r N0_eq t) n) * rsE (args m c) (rowAt r N0_eq t) :=
  (pay7_apply _ r n).trans (congrArg₂ (· * ·) (iblk_4 m c t r n) (tile_rs m c t r))

theorem point_dx : k0_pay10 (k0_pay6 (iblk m c 4 t)) (k0_pay7 (iblk m c 4 t)) (k0_pay8 (iblk m c 0 t) (iblk m c 1 t) (iblk m c 2 t) (iblk m c 3 t) (iblk m c 6 t) (iblk m c 7 t))
      (k0_pay9 (iblk m c 0 t) (iblk m c 1 t) (iblk m c 2 t) (iblk m c 3 t) (iblk m c 4 t) (iblk m c 6 t) (iblk m c 7 t)) (iblk m c 5 t) (ix2 r n) = dxE (args m c) (rowAt r N0_eq t) n :=
  (tile_dx _ _ _ _ _ _ _ _ r n).trans (tile_dxE m c t r n)

/-! ### What each point leaves -/

theorem outs_10 : (outsAt0 m c t.val t.isLt).1 (ix2 r n) = dxE (args m c) (rowAt r N0_eq t) n := by
  by_cases h0 : t.val % 8 = 0
  · rw [outsAt0_A m c t h0]
    dsimp only
    frame_out
    exact point_dx m c t r n
  · rw [outsAt0_B m c t h0]
    dsimp only
    frame_out
    exact point_dx m c t r n

theorem outs_13 : (outsAt0 m c t.val t.isLt).2.2.2.1 (ix2 r n) = dxE (args m c) (rowAt r N0_eq t) n * (args m c).gate (ix1 n) := by
  by_cases h0 : t.val % 8 = 0
  · rw [outsAt0_A m c t h0]
    dsimp only
    frame_out
    exact (pay13_apply _ _ r n _ _ _ _).trans (congrArg₂ (· * ·) (point_dx m c t r n) (iblk_9 m c t n))
  · rw [outsAt0_B m c t h0]
    dsimp only
    frame_out
    exact (pay13_apply _ _ r n _ _ _ _).trans (congrArg₂ (· * ·) (point_dx m c t r n) (iblk_9 m c t n))

theorem start_11 (h0 : t.val % 8 = 0) : (outsAt0 m c t.val t.isLt).2.1 (ix2 0 n) = tileSum N0_eq t (fun r => dhE (args m c) r n) := by
  rw [outsAt0_A m c t h0]
  dsimp only
  frame_out
  refine (pay11_apply n _ _).trans ?_
  rw [pay2_apply n, zero_add]
  exact Finset.sum_congr rfl fun r _ => point_dh m c t r n

theorem step_11 (h0 : ¬t.val % 8 = 0) : (outsAt0 m c t.val t.isLt).2.1 (ix2 0 n)
    = (outsAt0 m c (t.val - 1) (Nat.lt_of_le_of_lt (Nat.sub_le _ _) t.isLt)).2.1 (ix2 0 n) + tileSum N0_eq t (fun r => dhE (args m c) r n) := by
  rw [outsAt0_B m c t h0]
  dsimp only
  frame_out
  exact (pay11_apply n _ _).trans (congrArg₂ (· + ·) (rfl) (Finset.sum_congr rfl fun r _ => point_dh m c t r n))

theorem start_12 (h0 : t.val % 8 = 0) : (outsAt0 m c t.val t.isLt).2.2.1 (ix2 0 n) = tileSum N0_eq t (fun r => dhE (args m c) r n * ((args m c).x (ix2 r n) * rsE (args m c) r)) := by
  rw [outsAt0_A m c t h0]
  dsimp only
  frame_out
  refine (pay12_apply n _ _ _).trans ?_
  rw [pay3_apply n, zero_add]
  exact Finset.sum_congr rfl fun r _ => congrArg₂ (· * ·) (point_dh m c t r n) (point_xhat m c t r n)

theorem step_12 (h0 : ¬t.val % 8 = 0) : (outsAt0 m c t.val t.isLt).2.2.1 (ix2 0 n)
    = (outsAt0 m c (t.val - 1) (Nat.lt_of_le_of_lt (Nat.sub_le _ _) t.isLt)).2.2.1 (ix2 0 n) + tileSum N0_eq t (fun r => dhE (args m c) r n * ((args m c).x (ix2 r n) * rsE (args m c) r)) := by
  rw [outsAt0_B m c t h0]
  dsimp only
  frame_out
  exact (pay12_apply n _ _ _).trans (congrArg₂ (· + ·) (rfl) (Finset.sum_congr rfl fun r _ => congrArg₂ (· * ·) (point_dh m c t r n) (point_xhat m c t r n)))

theorem start_14 (h0 : t.val % 8 = 0) : (outsAt0 m c t.val t.isLt).2.2.2.2 (ix2 0 n) = tileSum N0_eq t (fun r => half * (dxE (args m c) r n * (args m c).f (ix2 r n))) := by
  rw [outsAt0_A m c t h0]
  dsimp only
  frame_out
  refine (pay1_apply _ n _ _).trans ?_
  rw [pay14_eq, pay4_apply n, zero_add]
  exact Finset.sum_congr rfl fun r _ => congrArg (half * ·) (congrArg₂ (· * ·) (point_dx m c t r n) (iblk_8 m c t r n))

theorem step_14 (h0 : ¬t.val % 8 = 0) : (outsAt0 m c t.val t.isLt).2.2.2.2 (ix2 0 n)
    = (outsAt0 m c (t.val - 1) (Nat.lt_of_le_of_lt (Nat.sub_le _ _) t.isLt)).2.2.2.2 (ix2 0 n) + tileSum N0_eq t (fun r => half * (dxE (args m c) r n * (args m c).f (ix2 r n))) := by
  rw [outsAt0_B m c t h0]
  dsimp only
  frame_out
  exact (pay1_apply _ n _ _).trans (congrArg₂ (· + ·) (congrFun (pay14_eq _) (ix2 0 n)) (Finset.sum_congr rfl fun r _ => congrArg (half * ·) (congrArg₂ (· * ·) (point_dx m c t r n) (iblk_8 m c t r n))))

/-- The last point. -/
def lastPt : Fin cfg0.N := ⟨7, by decide⟩

/-! ### The result arrays -/

theorem final_10 : (dats m 0 c).arrAt 10 cfg0.N = outDx (args m c) := by
  refine (dats m 0 c).arrAt_eq_of_covers 10 _ (by decide +kernel) fun t hf y => ?_
  have hi := ix_10 t
  blk_simp
  rw [after0_10]
  obtain ⟨r, n, rfl⟩ := exists_pair y
  have e : ((cfg0.win 10).blk t).view.emb (ix2 r n) = ix2 (rowAt r N0_eq t) n := by
    funext a; apply Fin.ext
    match a with
    | ⟨0, _⟩ => show win0_10.index t 0 * 256 + 1 * r.val = 256 * t.val + r.val; rw [hi.1]; omega
    | ⟨1, _⟩ => show win0_10.index t 1 * 1024 + 1 * n.val = n.val; rw [hi.2]; omega
  exact (outs_10 m c t r n).trans (congrArg (outDx (args m c)) e).symm

theorem final_13 : (dats m 0 c).arrAt 13 cfg0.N = outDf (args m c) := by
  refine (dats m 0 c).arrAt_eq_of_covers 13 _ (by decide +kernel) fun t hf y => ?_
  have hi := ix_13 t
  blk_simp
  rw [after0_13]
  obtain ⟨r, n, rfl⟩ := exists_pair y
  have e : ((cfg0.win 13).blk t).view.emb (ix2 r n) = ix2 (rowAt r N0_eq t) n := by
    funext a; apply Fin.ext
    match a with
    | ⟨0, _⟩ => show win0_13.index t 0 * 256 + 1 * r.val = 256 * t.val + r.val; rw [hi.1]; omega
    | ⟨1, _⟩ => show win0_13.index t 1 * 1024 + 1 * n.val = n.val; rw [hi.2]; omega
  exact (outs_13 m c t r n).trans (congrArg (outDf (args m c)) e).symm

theorem final_11 : (dats m 0 c).arrAt 11 cfg0.N = outDh (args m c) := by
  refine (dats m 0 c).arrAt_eq_of_after_last 11 lastPt (by decide +kernel) _ fun j => ?_
  blk_simp
  rw [after0_11]
  obtain ⟨z, n, rfl⟩ := exists_pair j
  obtain rfl : z = 0 := Subsingleton.elim _ _
  exact acc_sum N0_eq (fun k hk => (outsAt0 m c k hk).2.1 (ix2 0 n)) _ (fun t h => start_11 m c t n h) (fun t h => step_11 m c t n h) lastPt.isLt

theorem final_12 : (dats m 0 c).arrAt 12 cfg0.N = outDhX (args m c) := by
  refine (dats m 0 c).arrAt_eq_of_after_last 12 lastPt (by decide +kernel) _ fun j => ?_
  blk_simp
  rw [after0_12]
  obtain ⟨z, n, rfl⟩ := exists_pair j
  obtain rfl : z = 0 := Subsingleton.elim _ _
  exact acc_sum N0_eq (fun k hk => (outsAt0 m c k hk).2.2.1 (ix2 0 n)) _ (fun t h => start_12 m c t n h) (fun t h => step_12 m c t n h) lastPt.isLt

theorem final_14 : (dats m 0 c).arrAt 14 cfg0.N = Cert.Mx.outDgate (args m c) := by
  refine (dats m 0 c).arrAt_eq_of_after_last 14 lastPt (by decide +kernel) _ fun j => ?_
  blk_simp
  rw [after0_14]
  obtain ⟨z, n, rfl⟩ := exists_pair j
  obtain rfl : z = 0 := Subsingleton.elim _ _
  refine Eq.trans ?_ (half_sum _ _).symm
  exact acc_sum N0_eq (fun k hk => (outsAt0 m c k hk).2.2.2.2 (ix2 0 n)) _ (fun t h => start_14 m c t n h) (fun t h => step_14 m c t n h) lastPt.isLt

end Cert.Hg

end
-- ==== Proof.LastPoint.lean ====
module

public import Idealize.ShloMosaic.Lib.Pipeline.ValueKit
public import Idealize.ShloMosaic.Lib.Pipeline.ValueKit.Geometry
public import proofs.«01_k».proof.Proof.Gen.LastNormGradIdeal.Value
public import proofs.«01_k».proof.Proof.NormTile
public import proofs.«01_k».proof.Proof.NormRef

/-!
# The arrays of the gradient through the normalised input, where no step is before it

The first three of the other call's results.
-/

@[expose] public section

set_option maxRecDepth 16384

noncomputable section

namespace Cert.Lg

open Cert.Ng

open Idealize.ShloMosaic hiding ix1 ix2
open Idealize.ShloMosaic.TcCoe Idealize.ShloMosaic.ValueIdx Cert.Ffn Cert.Ng.Ref Cert.LastNormGradIdeal Cert.LastNormGradIdeal.Gen Finset
open scoped BigOperators

/-! ### The rows as they start -/

theorem pay4_apply (n : Fin 1024) : (k0_pay4 : FVec Ideal S1x1024 .f32) (ix2 0 n) = 0 := Ideal.ofBits_zero_f32
theorem pay5_zero (n : Fin 1024) : (k0_pay5 : FVec Ideal S1x1024 .f32) (ix2 0 n) = 0 := Ideal.ofBits_zero_f32

variable (m : (ℓ : Loc nD τ sig) → Buf (Elt Ideal) ℓ) (c : Dev nD)

/-- The gradients of the two products and their weights, as launched. -/
abbrev da : FVec Ideal S2048x2816 .f32 := m ((c.tc : Thread nD τ).loc main_arg0)
abbrev wg : FVec Ideal S1024x2816 .f32 := m ((c.tc : Thread nD τ).loc main_arg1)
abbrev du : FVec Ideal S2048x2816 .f32 := m ((c.tc : Thread nD τ).loc main_arg2)
abbrev wu : FVec Ideal S1024x2816 .f32 := m ((c.tc : Thread nD τ).loc main_arg3)

/-- What the results are computed from. -/
def args : Args where
  dh := dhOf (da m c) (wg m c) (du m c) (wu m c)
  x := m ((c.tc : Thread nD τ).loc main_arg4)
  dres := m ((c.tc : Thread nD τ).loc main_arg5)
  gain := m ((c.tc : Thread nD τ).loc main_arg6)
  scale := m ((c.tc : Thread nD τ).loc main_arg7)
  f := fun _ => 0
  gate := fun _ => 0

theorem V_da : V m c main_v0 = (da m c) := rfl

theorem V_wg : V m c main_v2 = (transpose S2816x1024 [1, 0] (wg m c) transposes_S1024x2816_S2816x1024_1_0 : FVec Ideal S2816x1024 .f32) := rfl

theorem V_du : V m c main_v3 = (du m c) := rfl

theorem V_wu : V m c main_v5 = (transpose S2816x1024 [1, 0] (wu m c) transposes_S1024x2816_S2816x1024_1_0 : FVec Ideal S2816x1024 .f32) := rfl

theorem V_x : V m c main_arg4 = (args m c).x := rfl

theorem V_dres : V m c main_arg5 = (args m c).dres := rfl

theorem V_gain : V m c main_v6 = (shapeCast S1x1024 (args m c).gain shapeCasts_S1024_S1x1024 : FVec Ideal S1x1024 .f32) := rfl

theorem V_scale : V m c main_v7 = (shapeCast S1x1024 (args m c).scale shapeCasts_S1024_S1x1024 : FVec Ideal S1x1024 .f32) := rfl

theorem turn (w : FVec Ideal S1024x2816 .f32) (h : S1024x2816.Transposes [1, 0] S2816x1024) (i : Fin 2816) (k : Fin 1024) :
    transpose S2816x1024 [1, 0] w h (ix2 i k) = w (ix2 k i) :=
  transpose_apply _ w h _ (ix2 k i) (by
    intro a
    match a with
    | ⟨0, _⟩ => rfl
    | ⟨1, _⟩ => rfl)

theorem N0_eq : cfg0.N = 8 := by decide
theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = t.val ∧ win0_4.index t 1 = 0 := by decide +kernel
theorem ix_5 : ∀ t : Fin cfg0.N, win0_5.index t 0 = t.val ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = t.val ∧ win0_8.index t 1 = 0 := by decide +kernel
theorem ix_9 : ∀ t : Fin cfg0.N, win0_9.index t 0 = 0 ∧ win0_9.index t 1 = 0 := by decide +kernel
theorem ix_10 : ∀ t : Fin cfg0.N, win0_10.index t 0 = 0 ∧ win0_10.index t 1 = 0 := by decide +kernel

variable (t : Fin cfg0.N) (r : Fin 256) (n : Fin 1024)

theorem iblk_0 (k : Fin 2816): (iblk m c 0 t : Vec Ideal S256x2816 .bf16) (ix2 r k) = (da m c) (ix2 (rowAt r N0_eq t) k) := by
  have hi := ix_0 t
  rw [← V_da]
  unfold iblk
  rw [View.read_apply]
  show V m c main_v0 _ = V m c main_v0 _
  congr 1; funext a; apply Fin.ext
  match a with
  | ⟨0, _⟩ => show win0_0.index t 0 * 256 + 1 * r.val = 256 * t.val + r.val; rw [hi.1]; omega
  | ⟨1, _⟩ => show win0_0.index t 1 * 2816 + 1 * k.val = k.val; rw [hi.2]; omega

theorem iblk_1 (k : Fin 2816) : (iblk m c 1 t : Vec Ideal S2816x1024 .bf16) (ix2 k n) = (wg m c) (ix2 n k) := by
  have hi := ix_1 t
  rw [← turn (wg m c) transposes_S1024x2816_S2816x1024_1_0 k n, ← V_wg]
  unfold iblk
  rw [View.read_apply]
  show V m c main_v2 _ = V m c main_v2 _
  congr 1; funext a; apply Fin.ext
  match a with
  | ⟨0, _⟩ => show win0_1.index t 0 * 2816 + 1 * k.val = k.val; rw [hi.1]; omega
  | ⟨1, _⟩ => show win0_1.index t 1 * 1024 + 1 * n.val = n.val; rw [hi.2]; omega

theorem iblk_2 (k : Fin 2816): (iblk m c 2 t : Vec Ideal S256x2816 .bf16) (ix2 r k) = (du m c) (ix2 (rowAt r N0_eq t) k) := by
  have hi := ix_2 t
  rw [← V_du]
  unfold iblk
  rw [View.read_apply]
  show V m c main_v3 _ = V m c main_v3 _
  congr 1; funext a; apply Fin.ext
  match a with
  | ⟨0, _⟩ => show win0_2.index t 0 * 256 + 1 * r.val = 256 * t.val + r.val; rw [hi.1]; omega
  | ⟨1, _⟩ => show win0_2.index t 1 * 2816 + 1 * k.val = k.val; rw [hi.2]; omega

theorem iblk_3 (k : Fin 2816) : (iblk m c 3 t : Vec Ideal S2816x1024 .bf16) (ix2 k n) = (wu m c) (ix2 n k) := by
  have hi := ix_3 t
  rw [← turn (wu m c) transposes_S1024x2816_S2816x1024_1_0 k n, ← V_wu]
  unfold iblk
  rw [View.read_apply]
  show V m c main_v5 _ = V m c main_v5 _
  congr 1; funext a; apply Fin.ext
  match a with
  | ⟨0, _⟩ => show win0_3.index t 0 * 2816 + 1 * k.val = k.val; rw [hi.1]; omega
  | ⟨1, _⟩ => show win0_3.index t 1 * 1024 + 1 * n.val = n.val; rw [hi.2]; omega

theorem iblk_4 : (iblk m c 4 t : Vec Ideal S256x1024 .f32) (ix2 r n) = (args m c).x (ix2 (rowAt r N0_eq t) n) := by
  have hi := ix_4 t
  rw [← V_x]
  unfold iblk
  rw [View.read_apply]
  show V m c main_arg4 _ = V m c main_arg4 _
  congr 1; funext a; apply Fin.ext
  match a with
  | ⟨0, _⟩ => show win0_4.index t 0 * 256 + 1 * r.val = 256 * t.val + r.val; rw [hi.1]; omega
  | ⟨1, _⟩ => show win0_4.index t 1 * 1024 + 1 * n.val = n.val; rw [hi.2]; omega

theorem iblk_5 : (iblk m c 5 t : Vec Ideal S256x1024 .f32) (ix2 r n) = (args m c).dres (ix2 (rowAt r N0_eq t) n) := by
  have hi := ix_5 t
  rw [← V_dres]
  unfold iblk
  rw [View.read_apply]
  show V m c main_arg5 _ = V m c main_arg5 _
  congr 1; funext a; apply Fin.ext
  match a with
  | ⟨0, _⟩ => show win0_5.index t 0 * 256 + 1 * r.val = 256 * t.val + r.val; rw [hi.1]; omega
  | ⟨1, _⟩ => show win0_5.index t 1 * 1024 + 1 * n.val = n.val; rw [hi.2]; omega

theorem iblk_6 : (iblk m c 6 t : Vec Ideal S1x1024 .f32) (ix2 0 n) = (args m c).gain (ix1 n) := by
  have hi := ix_6 t
  rw [← as_row (args m c).gain shapeCasts_S1024_S1x1024 n, ← V_gain]
  unfold iblk
  rw [View.read_apply]
  show V m c main_v6 _ = V m c main_v6 _
  congr 1; funext a; apply Fin.ext
  match a with
  | ⟨0, _⟩ => show win0_6.index t 0 * 1 + 1 * 0 = 0; rw [hi.1]
  | ⟨1, _⟩ => show win0_6.index t 1 * 1024 + 1 * n.val = n.val; rw [hi.2]; omega

theorem iblk_7 : (iblk m c 7 t : Vec Ideal S1x1024 .f32) (ix2 0 n) = (args m c).scale (ix1 n) := by
  have hi := ix_7 t
  rw [← as_row (args m c).scale shapeCasts_S1024_S1x1024 n, ← V_scale]
  unfold iblk
  rw [View.read_apply]
  show V m c main_v7 _ = V m c main_v7 _
  congr 1; funext a; apply Fin.ext
  match a with
  | ⟨0, _⟩ => show win0_7.index t 0 * 1 + 1 * 0 = 0; rw [hi.1]
  | ⟨1, _⟩ => show win0_7.index t 1 * 1024 + 1 * n.val = n.val; rw [hi.2]; omega

/-! ### A tile's values are the whole array's at its rows -/

theorem tile_dh : dhT (iblk m c 0 t : Vec Ideal S256x2816 .bf16) (iblk m c 2 t : Vec Ideal S256x2816 .bf16) (iblk m c 1 t : Vec Ideal S2816x1024 .bf16) (iblk m c 3 t : Vec Ideal S2816x1024 .bf16) r n
    = dhE (args m c) (rowAt r N0_eq t) n :=
  congrArg₂ (· + ·) (Finset.sum_congr rfl fun k _ => by rw [iblk_0, iblk_1]) (Finset.sum_congr rfl fun k _ => by rw [iblk_2, iblk_3])

theorem tile_rs : rsT (iblk m c 4 t : Vec Ideal S256x1024 .f32) r = rsE (args m c) (rowAt r N0_eq t) :=
  congrArg recip (Finset.sum_congr rfl fun k _ => by rw [iblk_4])

/-- The factor the gain and the scale make, read off a tile. -/
def facT (g k : Vec Ideal S1x1024 .f32) : EReal := g (ix2 0 n) * (1 + k (ix2 0 n))

theorem tile_fac : facT n (iblk m c 6 t) (iblk m c 7 t) = facE (args m c) n :=
  congrArg₂ (· * ·) (iblk_6 m c t n) (congrArg ((1 : EReal) + ·) (iblk_7 m c t n))

theorem tile_dxE : dxT (iblk m c 4 t : Vec Ideal S256x1024 .f32) (iblk m c 5 t : Vec Ideal S256x1024 .f32) (iblk m c 6 t : Vec Ideal S1x1024 .f32) (iblk m c 7 t : Vec Ideal S1x1024 .f32) r n
    (dhT (iblk m c 0 t : Vec Ideal S256x2816 .bf16) (iblk m c 2 t : Vec Ideal S256x2816 .bf16) (iblk m c 1 t : Vec Ideal S2816x1024 .bf16) (iblk m c 3 t : Vec Ideal S2816x1024 .bf16) r)
    = dxE (args m c) (rowAt r N0_eq t) n := by
  unfold dxT dxE
  exact congrArg₂ (· + ·) (iblk_5 m c t r n) (congrArg₂ (· * ·) (tile_rs m c t r) (congrArg₂ (· - ·) (congrArg₂ (· * ·) (tile_dh m c t r n) (tile_fac m c t n))
    (congrArg₂ (· * ·) (congrArg₂ (· * ·) (iblk_4 m c t r n) (tile_rs m c t r)) (congrArg (Ideal.div · width)
      (Finset.sum_congr rfl fun k _ => congrArg₂ (· * ·) (congrArg₂ (· * ·) (tile_dh m c t r k) (tile_fac m c t k)) (congrArg₂ (· * ·) (iblk_4 m c t r k) (tile_rs m c t r)))))))

theorem point_dh : k0_pay6 (iblk m c 0 t) (iblk m c 1 t) (iblk m c 2 t) (iblk m c 3 t) (ix2 r n) = dhE (args m c) (rowAt r N0_eq t) n :=
  (pay5_apply _ _ _ _ r n).trans (tile_dh m c t r n)

theorem point_xhat : k0_pay8 (iblk m c 4 t) (ix2 r n) = (args m c).x (ix2 (rowAt r N0_eq t) n) * rsE (args m c) (rowAt r N0_eq t) :=
  (pay7_apply _ r n).trans (congrArg₂ (· * ·) (iblk_4 m c t r n) (tile_rs m c t r))

theorem point_dx : k0_pay1 (k0_pay7 (iblk m c 4 t)) (k0_pay8 (iblk m c 4 t)) (k0_pay9 (iblk m c 0 t) (iblk m c 1 t) (iblk m c 2 t) (iblk m c 3 t) (iblk m c 6 t) (iblk m c 7 t))
      (k0_pay10 (iblk m c 0 t) (iblk m c 1 t) (iblk m c 2 t) (iblk m c 3 t) (iblk m c 4 t) (iblk m c 6 t) (iblk m c 7 t)) (iblk m c 5 t) (ix2 r n) = dxE (args m c) (rowAt r N0_eq t) n :=
  (tile_dx _ _ _ _ _ _ _ _ r n).trans (tile_dxE m c t r n)

/-! ### What each point leaves -/

theorem outs_8 : (outsAt0 m c t.val t.isLt).1 (ix2 r n) = dxE (args m c) (rowAt r N0_eq t) n := by
  by_cases h0 : t.val % 8 = 0
  · rw [outsAt0_A m c t h0]
    dsimp only
    frame_out
    exact point_dx m c t r n
  · rw [outsAt0_B m c t h0]
    dsimp only
    frame_out
    exact point_dx m c t r n

theorem start_9 (h0 : t.val % 8 = 0) : (outsAt0 m c t.val t.isLt).2.1 (ix2 0 n) = tileSum N0_eq t (fun r => dhE (args m c) r n) := by
  rw [outsAt0_A m c t h0]
  dsimp only
  frame_out
  refine (pay11_apply n _ _).trans ?_
  rw [pay4_apply n, zero_add]
  exact Finset.sum_congr rfl fun r _ => point_dh m c t r n

theorem step_9 (h0 : ¬t.val % 8 = 0) : (outsAt0 m c t.val t.isLt).2.1 (ix2 0 n)
    = (outsAt0 m c (t.val - 1) (Nat.lt_of_le_of_lt (Nat.sub_le _ _) t.isLt)).2.1 (ix2 0 n) + tileSum N0_eq t (fun r => dhE (args m c) r n) := by
  rw [outsAt0_B m c t h0]
  dsimp only
  frame_out
  exact (pay11_apply n _ _).trans (congrArg₂ (· + ·) (rfl) (Finset.sum_congr rfl fun r _ => point_dh m c t r n))

theorem start_10 (h0 : t.val % 8 = 0) : (outsAt0 m c t.val t.isLt).2.2 (ix2 0 n) = tileSum N0_eq t (fun r => dhE (args m c) r n * ((args m c).x (ix2 r n) * rsE (args m c) r)) := by
  rw [outsAt0_A m c t h0]
  dsimp only
  frame_out
  refine (pay12_apply n _ _ _).trans ?_
  rw [pay5_zero n, zero_add]
  exact Finset.sum_congr rfl fun r _ => congrArg₂ (· * ·) (point_dh m c t r n) (point_xhat m c t r n)

theorem step_10 (h0 : ¬t.val % 8 = 0) : (outsAt0 m c t.val t.isLt).2.2 (ix2 0 n)
    = (outsAt0 m c (t.val - 1) (Nat.lt_of_le_of_lt (Nat.sub_le _ _) t.isLt)).2.2 (ix2 0 n) + tileSum N0_eq t (fun r => dhE (args m c) r n * ((args m c).x (ix2 r n) * rsE (args m c) r)) := by
  rw [outsAt0_B m c t h0]
  dsimp only
  frame_out
  exact (pay12_apply n _ _ _).trans (congrArg₂ (· + ·) (rfl) (Finset.sum_congr rfl fun r _ => congrArg₂ (· * ·) (point_dh m c t r n) (point_xhat m c t r n)))

/-- The last point. -/
def lastPt : Fin cfg0.N := ⟨7, by decide⟩

/-! ### The result arrays -/

theorem final_8 : (dats m 0 c).arrAt 8 cfg0.N = outDx (args m c) := by
  refine (dats m 0 c).arrAt_eq_of_covers 8 _ (by decide +kernel) fun t hf y => ?_
  have hi := ix_8 t
  blk_simp
  rw [after0_8]
  obtain ⟨r, n, rfl⟩ := exists_pair y
  have e : ((cfg0.win 8).blk t).view.emb (ix2 r n) = ix2 (rowAt r N0_eq t) n := by
    funext a; apply Fin.ext
    match a with
    | ⟨0, _⟩ => show win0_8.index t 0 * 256 + 1 * r.val = 256 * t.val + r.val; rw [hi.1]; omega
    | ⟨1, _⟩ => show win0_8.index t 1 * 1024 + 1 * n.val = n.val; rw [hi.2]; omega
  exact (outs_8 m c t r n).trans (congrArg (outDx (args m c)) e).symm

theorem final_9 : (dats m 0 c).arrAt 9 cfg0.N = outDh (args m c) := by
  refine (dats m 0 c).arrAt_eq_of_after_last 9 lastPt (by decide +kernel) _ fun j => ?_
  blk_simp
  rw [after0_9]
  obtain ⟨z, n, rfl⟩ := exists_pair j
  obtain rfl : z = 0 := Subsingleton.elim _ _
  exact acc_sum N0_eq (fun k hk => (outsAt0 m c k hk).2.1 (ix2 0 n)) _ (fun t h => start_9 m c t n h) (fun t h => step_9 m c t n h) lastPt.isLt

theorem final_10 : (dats m 0 c).arrAt 10 cfg0.N = outDhX (args m c) := by
  refine (dats m 0 c).arrAt_eq_of_after_last 10 lastPt (by decide +kernel) _ fun j => ?_
  blk_simp
  rw [after0_10]
  obtain ⟨z, n, rfl⟩ := exists_pair j
  obtain rfl : z = 0 := Subsingleton.elim _ _
  exact acc_sum N0_eq (fun k hk => (outsAt0 m c k hk).2.2 (ix2 0 n)) _ (fun t h => start_10 m c t n h) (fun t h => step_10 m c t n h) lastPt.isLt

end Cert.Lg

end
-- ==== Proof.EqualLast.lean ====
module

public import proofs.«01_k».proof.Defs
public import proofs.«01_k».proof.Proof.OutProj
public import proofs.«01_k».proof.Proof.HalfPoint
public import proofs.«01_k».proof.Proof.LastPoint
public import proofs.«01_k».proof.Proof.FiniteFfn
public import proofs.«01_k».proof.Proof.Gen.HalfNormGradReferenceIdeal.Run
public import proofs.«01_k».proof.Proof.Gen.LastNormGradReferenceIdeal.Run
public import Idealize.ShloMosaic.Adequacy
public import Idealize.ShloMosaic.Init

/-!
# The projection back, its gradients and the other two gradients through a normalised input agree with their references
-/

@[expose] public section

set_option maxRecDepth 16384

noncomputable section

namespace Cert.Proof

open Idealize.ShloMosaic Idealize.ShloMosaic.TcCoe Idealize.SL.Sem

/-! ### The references' runs end with the arguments unchanged -/

theorem frameOp : Cert.quiescent_OutReferenceIdeal := fun m ρ _ =>
  (θ_run Cert.OutReferenceIdeal.defs _ _).mono
    (fun r h => ⟨fun c => (h c).2.2, Idealize.ShloMosaic.sem_eq_zero_of_no_sems (by decide) r.2⟩)
    (Cert.OutReferenceIdeal.Value.run (F := Ideal) m ρ)

theorem frameOd : Cert.quiescent_OutGradReferenceIdeal := fun m ρ _ =>
  (θ_run Cert.OutGradReferenceIdeal.defs _ _).mono
    (fun r h => ⟨fun c => (h c).2, Idealize.ShloMosaic.sem_eq_zero_of_no_sems (by decide) r.2⟩)
    (Cert.OutGradReferenceIdeal.Value.run (F := Ideal) m ρ)

theorem frameOw : Cert.quiescent_OutWeightGradReferenceIdeal := fun m ρ _ =>
  (θ_run Cert.OutWeightGradReferenceIdeal.defs _ _).mono
    (fun r h => ⟨fun c => (h c).2, Idealize.ShloMosaic.sem_eq_zero_of_no_sems (by decide) r.2⟩)
    (Cert.OutWeightGradReferenceIdeal.Value.run (F := Ideal) m ρ)

theorem frameHg : Cert.quiescent_HalfNormGradReferenceIdeal := fun m ρ _ =>
  (θ_run Cert.HalfNormGradReferenceIdeal.defs _ _).mono
    (fun r h => ⟨fun c => (h c).2.2.2.2.2, Idealize.ShloMosaic.sem_eq_zero_of_no_sems (by decide) r.2⟩)
    (Cert.HalfNormGradReferenceIdeal.Value.run (F := Ideal) m ρ)

theorem frameLg : Cert.quiescent_LastNormGradReferenceIdeal := fun m ρ _ =>
  (θ_run Cert.LastNormGradReferenceIdeal.defs _ _).mono
    (fun r h => ⟨fun c => (h c).2.2.2, Idealize.ShloMosaic.sem_eq_zero_of_no_sems (by decide) r.2⟩)
    (Cert.LastNormGradReferenceIdeal.Value.run (F := Ideal) m ρ)

/-! ### Equal results -/

/-- The projection back and the step it makes, on all arguments. -/
theorem equalOp : Cert.algebraic_OutIdeal_OutReferenceIdeal (hOutIdeal := Cert.OutIdeal.Gen.facts)
    (hOutReferenceIdeal := Cert.OutReferenceIdeal.Gen.facts) :=
  fun m ρ m' ρ' _ hag =>
    ⟨fun c => Cert.Op.prod (Cert.Op.act m c) (Cert.Op.wout m c), fun c => Cert.Op.step (Cert.Op.act m c) (Cert.Op.wout m c) (Cert.Op.inp m c) (Cert.Op.gate m c),
      (θ_run _ _ _).mono (fun r h c => by
        obtain ⟨r0, r1, ha⟩ := h c
        exact ⟨r0.trans (Cert.Op.final_4 m c), r1.trans (Cert.Op.final_5 m c), ha⟩) (Cert.OutIdeal.Value.run_blocks m ρ),
      (θ_run _ _ _).mono (fun r h c => by
        obtain ⟨r0, r1, ha⟩ := h c
        obtain ⟨a0, a1, a2, a3⟩ := hag c
        refine ⟨r0.trans ((Cert.Op.ref_prod _ _).trans ?_), r1.trans ((Cert.Op.ref_step _ _ _ _ _ _).trans ?_), ha⟩
        · rw [a0, a1]
        · rw [a0, a1, a2, a3]) (Cert.OutReferenceIdeal.Value.run m' ρ')⟩

/-- The gradient of what is projected back, on all arguments. -/
theorem equalOd : Cert.algebraic_OutGradIdeal_OutGradReferenceIdeal (hOutGradIdeal := Cert.OutGradIdeal.Gen.facts)
    (hOutGradReferenceIdeal := Cert.OutGradReferenceIdeal.Gen.facts) :=
  fun m ρ m' ρ' _ hag =>
    ⟨fun c => Cert.Od.prod (Cert.Od.inc m c) (Cert.Od.wout m c),
      (θ_run _ _ _).mono (fun r h c => ⟨(h c).1.trans (Cert.Od.final m c), (h c).2⟩) (Cert.OutGradIdeal.Value.run_blocks m ρ),
      (θ_run _ _ _).mono (fun r h c => by
        obtain ⟨r0, ha⟩ := h c
        obtain ⟨a0, a1⟩ := hag c
        refine ⟨r0.trans ((Cert.Od.ref_prod _ _).trans ?_), ha⟩
        rw [a0, a1]) (Cert.OutGradReferenceIdeal.Value.run m' ρ')⟩

/-- The gradient of the projection's weight, on all arguments. -/
theorem equalOw : Cert.algebraic_OutWeightGradIdeal_OutWeightGradReferenceIdeal (hOutWeightGradIdeal := Cert.OutWeightGradIdeal.Gen.facts)
    (hOutWeightGradReferenceIdeal := Cert.OutWeightGradReferenceIdeal.Gen.facts) :=
  fun m ρ m' ρ' _ hag =>
    ⟨fun c => Cert.Ow.grad (Cert.Ow.act m c) (Cert.Ow.inc m c),
      (θ_run _ _ _).mono (fun r h c => ⟨(h c).1.trans (Cert.Ow.final m c), (h c).2⟩) (Cert.OutWeightGradIdeal.Value.run_blocks m ρ),
      (θ_run _ _ _).mono (fun r h c => by
        obtain ⟨r0, ha⟩ := h c
        obtain ⟨a0, a1⟩ := hag c
        refine ⟨r0.trans ((Cert.Ow.ref_grad _ _ _ _).trans ?_), ha⟩
        rw [a0, a1]) (Cert.OutWeightGradReferenceIdeal.Value.run m' ρ')⟩

section Half

open Cert.HalfNormGradReferenceIdeal Cert.HalfNormGradReferenceIdeal.Gen

variable (m : (ℓ : Loc nD τ sig) → Buf (Elt Ideal) ℓ) (c : Dev nD)

/-- What the reference's results are computed from; the row that multiplies the other factor's gradient is given apart. -/
def halfArgs (gate : FVec Ideal S1024 .f32) : Cert.Ng.Ref.Args where
  dh := addf (Host.dotGeneral (φ₁ := .f32) (φ₂ := .f32) dot_S2048x2816_S1024x2816_S2048x1024_1_1_0_0_n_n none (m ((c.tc : Thread nD τ).loc main_arg2)) (m ((c.tc : Thread nD τ).loc main_arg3)))
    (Host.dotGeneral (φ₁ := .f32) (φ₂ := .f32) dot_S2048x2816_S1024x2816_S2048x1024_1_1_0_0_n_n none (m ((c.tc : Thread nD τ).loc main_arg0)) (m ((c.tc : Thread nD τ).loc main_arg1)))
  x := m ((c.tc : Thread nD τ).loc main_arg4)
  dres := m ((c.tc : Thread nD τ).loc main_arg5)
  gain := m ((c.tc : Thread nD τ).loc main_arg6)
  scale := m ((c.tc : Thread nD τ).loc main_arg7)
  f := m ((c.tc : Thread nD τ).loc main_arg8)
  gate := gate

variable (g : FVec Ideal S1024 .f32)

theorem half_dx : Value.res_main_v48 m c = Cert.Ng.Ref.dx (halfArgs m c g) := rfl

theorem half_df : Value.res_main_v61 m c = truncf .bf16 (mulf (broadcastInDim S2048x1024 ![0, 1] bcast_S1x1024_S2048x1024_0_1
    (mulf (broadcastInDim S1x1024 ![] bcast_S_S1x1024 (constant (F := Ideal) S_ .f32 0x3F000000#32))
      (broadcastInDim S1x1024 ![1] bcast_S1024_S1x1024_1 (m ((c.tc : Thread nD τ).loc main_arg9))))) (Cert.Ng.Ref.dx (halfArgs m c g))) (by decide) := rfl

theorem half_dgate : Value.res_main_v60 m c = mulf (broadcastInDim S1x1024 ![] bcast_S_S1x1024 (constant (F := Ideal) S_ .f32 0x3F000000#32))
    (Cert.Ng.Ref.colSum (mulf (Cert.Ng.Ref.dx (halfArgs m c g)) (halfArgs m c g).f)) := rfl

end Half

/-- The same with half the gate, where what is multiplied before the last sum is finite. -/
theorem equalHg [hf : Cert.Pre_finite_norm.Facts] :
    Cert.algebraic_HalfNormGradIdeal_HalfNormGradReferenceIdeal_pre_finite_norm (hHalfNormGradIdeal := Cert.HalfNormGradIdeal.Gen.facts)
      (hHalfNormGradReferenceIdeal := Cert.HalfNormGradReferenceIdeal.Gen.facts) :=
  fun m ρ m' ρ' hpre hag =>
    ⟨fun c => Cert.Ng.Ref.outDx (Cert.Hg.args m c), fun c => Cert.Ng.Ref.outDh (Cert.Hg.args m c), fun c => Cert.Ng.Ref.outDhX (Cert.Hg.args m c),
      fun c => Cert.Ng.Ref.outDf (Cert.Hg.args m c), fun c => Cert.Mx.outDgate (Cert.Hg.args m c),
      (θ_run _ _ _).mono (fun r h c => by
        obtain ⟨r0, r1, r2, r3, r4, ha⟩ := h c
        exact ⟨r0.trans (Cert.Hg.final_10 m c), r1.trans (Cert.Hg.final_11 m c), r2.trans (Cert.Hg.final_12 m c), r3.trans (Cert.Hg.final_13 m c),
          r4.trans (Cert.Hg.final_14 m c), ha⟩) (Cert.HalfNormGradIdeal.Value.run_blocks m ρ),
      (θ_run _ _ _).mono (fun r h c => by
        obtain ⟨r0, r1, r2, r3, r4, ha⟩ := h c
        obtain ⟨a0, a1, a2, a3, a4, a5, a6, a7, a8, a9⟩ := hag c
        have hA : halfArgs m' c (Cert.Hg.args m c).gate = Cert.Hg.args m c := by
          unfold halfArgs Cert.Hg.args
          rw [a0, a1, a2, a3, a4, a5, a6, a7, a8]
          congr 1
          exact Cert.Ng.Ref.ref_dh _ _ _ _
        obtain ⟨h0, h1, h2, h3, h4, h6, h7⟩ := Cert.Ffn.real_norm _ _ _ _ _ _ _ _ _ _ (hpre c)
        have hr : Cert.Ng.Ref.IsReal (Cert.Hg.args m c) := ⟨Cert.Ng.Ref.dhOf_real h0 h1 h2 h3, h4, h6, h7⟩
        rw [half_dx m' c (Cert.Hg.args m c).gate, hA] at r0
        rw [half_df m' c (Cert.Hg.args m c).gate, hA, a9] at r3
        rw [half_dgate m' c (Cert.Hg.args m c).gate, hA] at r4
        refine ⟨r0.trans (Cert.Ng.Ref.resDx _ hr), ?_, ?_, r3.trans (Cert.Ng.Ref.resDf _ hr _ (fun r n => Cert.Mx.halfRow_apply r n _ _ _ _) _), r4.trans (Cert.Mx.res_dgate _ hr _), ha⟩
        · refine (r1.trans (show _ = Cert.Ng.Ref.colSum (halfArgs m' c (Cert.Hg.args m c).gate).dh from rfl)).trans ?_
          rw [hA]
          exact Cert.Ng.Ref.resDh _
        · refine (r2.trans (show _ = Cert.Ng.Ref.colSum (mulf (Cert.Ng.Ref.xhat (halfArgs m' c (Cert.Hg.args m c).gate)) (halfArgs m' c (Cert.Hg.args m c).gate).dh) from rfl)).trans ?_
          rw [hA]
          exact Cert.Ng.Ref.resDhX _) (Cert.HalfNormGradReferenceIdeal.Value.run m' ρ')⟩

section Last

open Cert.LastNormGradReferenceIdeal Cert.LastNormGradReferenceIdeal.Gen

variable (m : (ℓ : Loc nD τ sig) → Buf (Elt Ideal) ℓ) (c : Dev nD)

/-- What the reference's results are computed from; what only the step before enters with is zero. -/
def lastArgs : Cert.Ng.Ref.Args where
  dh := addf (Host.dotGeneral (φ₁ := .f32) (φ₂ := .f32) dot_S2048x2816_S1024x2816_S2048x1024_1_1_0_0_n_n none (m ((c.tc : Thread nD τ).loc main_arg2)) (m ((c.tc : Thread nD τ).loc main_arg3)))
    (Host.dotGeneral (φ₁ := .f32) (φ₂ := .f32) dot_S2048x2816_S1024x2816_S2048x1024_1_1_0_0_n_n none (m ((c.tc : Thread nD τ).loc main_arg0)) (m ((c.tc : Thread nD τ).loc main_arg1)))
  x := m ((c.tc : Thread nD τ).loc main_arg4)
  dres := m ((c.tc : Thread nD τ).loc main_arg5)
  gain := m ((c.tc : Thread nD τ).loc main_arg6)
  scale := m ((c.tc : Thread nD τ).loc main_arg7)
  f := fun _ => 0
  gate := fun _ => 0

theorem last_dx : Value.res_main_v48 m c = Cert.Ng.Ref.dx (lastArgs m c) := rfl

end Last

/-- The same where no step lies before, where what is multiplied before the last sum is finite. -/
theorem equalLg [hf : Cert.Pre_finite_last.Facts] :
    Cert.algebraic_LastNormGradIdeal_LastNormGradReferenceIdeal_pre_finite_last (hLastNormGradIdeal := Cert.LastNormGradIdeal.Gen.facts)
      (hLastNormGradReferenceIdeal := Cert.LastNormGradReferenceIdeal.Gen.facts) :=
  fun m ρ m' ρ' hpre hag =>
    ⟨fun c => Cert.Ng.Ref.outDx (Cert.Lg.args m c), fun c => Cert.Ng.Ref.outDh (Cert.Lg.args m c), fun c => Cert.Ng.Ref.outDhX (Cert.Lg.args m c),
      (θ_run _ _ _).mono (fun r h c => by
        obtain ⟨r0, r1, r2, ha⟩ := h c
        exact ⟨r0.trans (Cert.Lg.final_8 m c), r1.trans (Cert.Lg.final_9 m c), r2.trans (Cert.Lg.final_10 m c), ha⟩) (Cert.LastNormGradIdeal.Value.run_blocks m ρ),
      (θ_run _ _ _).mono (fun r h c => by
        obtain ⟨r0, r1, r2, ha⟩ := h c
        have hA : lastArgs m' c = Cert.Lg.args m c := by
          obtain ⟨a0, a1, a2, a3, a4, a5, a6, a7⟩ := hag c
          unfold lastArgs Cert.Lg.args
          rw [a0, a1, a2, a3, a4, a5, a6, a7]
          congr 1
          exact Cert.Ng.Ref.ref_dh _ _ _ _
        obtain ⟨h0, h1, h2, h3, h4, h6, h7⟩ := Cert.Ffn.real_last _ _ _ _ _ _ _ _ (hpre c)
        have hr : Cert.Ng.Ref.IsReal (Cert.Lg.args m c) := ⟨Cert.Ng.Ref.dhOf_real h0 h1 h2 h3, h4, h6, h7⟩
        rw [last_dx, hA] at r0
        refine ⟨r0.trans (Cert.Ng.Ref.resDx _ hr), ?_, ?_, ha⟩
        · refine (r1.trans (show _ = Cert.Ng.Ref.colSum (lastArgs m' c).dh from rfl)).trans ?_
          rw [hA]
          exact Cert.Ng.Ref.resDh _
        · refine (r2.trans (show _ = Cert.Ng.Ref.colSum (mulf (Cert.Ng.Ref.xhat (lastArgs m' c)) (lastArgs m' c).dh) from rfl)).trans ?_
          rw [hA]
          exact Cert.Ng.Ref.resDhX _) (Cert.LastNormGradReferenceIdeal.Value.run m' ρ')⟩

end Cert.Proof

end
-- ==== Proof.ForwardTile.lean ====
module

public import proofs.«01_k».proof.Proof.Gen.SbForwardIdeal.Frame
public import proofs.«01_k».proof.Proof.Loop

/-!
# One tile of the attention's forward output

The forward kernel meets the key tiles from the diagonal backwards. It carries for every query the sum of the logarithms of the
keys met so far (`right`) and the output so far. Here are its operations on one tile, and what they are on real operands: the
same weights as in the backward kernel, found from the other side.
-/

@[expose] public section

set_option maxRecDepth 16384

noncomputable section

namespace Cert.Sf

open Idealize.ShloMosaic Idealize.ShloMosaic.ValueIdx Cert.SbForwardIdeal Cert.SbForwardIdeal.Gen Finset
open Cert.Sb (Is2 Is3 IsA tZ tLf tCum tSel accN rowAcc mat zr lr tr wr)
open scoped BigOperators

section Ops
variable {F : FTy → Type} [FloatOps F]

/-- The logarithm of the weights. -/
def tLogF (right : FVec F S512x1 .f32) (z lf : FVec F S512x512 .f32) : FVec F S512x512 .f32 :=
  addf (addf z lf) (addf (broadcastTo S512x512 right broadcasts_S512x1_S512x512) (tCum k0_pay36 lf))

/-- The weights of a tile off the diagonal. -/
def fOff (q k : FVec F S512x64 .bf16) (right : FVec F S512x1 .f32) : FVec F S512x512 .f32 :=
  exp (tLogF right (tZ q k) (tLf (tZ q k)))

/-- The weights of a tile on the diagonal. -/
def fDiag (q k : FVec F S512x64 .bf16) (right : FVec F S512x1 .f32) : FVec F S512x512 .f32 :=
  tSel (exp (tLogF right (tZ q k) (tSel (tLf (tZ q k)))))

end Ops

/-! ## On real operands -/

/-- The triangle the kernel multiplies with: ones where the row is after the column. -/
theorem after_real : Is2 (k0_pay36 (F := Ideal)) (fun r c => if c < r then 1 else 0) := fun r c => by
  show (((((IntOp.cmpi .sgt (iota .tc S512x512 32 [0] iota_S512x512_d0_w32 (ix2 r c))
    (iota .tc S512x512 32 [1] iota_S512x512_d1_w32 (ix2 r c))).setWidth 32).toInt : ℝ)) : EReal) = _
  rw [iota_single_apply, iota_single_apply]
  have hr := r.isLt
  have hc := c.isLt
  erw [WordCmp.cmpi_sgt_ofNat (show r.val < 2 ^ 31 by omega) (show c.val < 2 ^ 31 by omega)]
  by_cases h : c.val < r.val
  · simp [h]
  · simp [h]

theorem sum_after {c : ℕ} (hc : c < 512) (f : ℕ → ℝ) :
    ∑ k ∈ range 512, f k * (if c < k then 1 else 0) = ∑ k ∈ range 512, f k - ∑ k ∈ range (c + 1), f k := by
  rw [← Cert.Sb.sum_upto hc f, ← sum_sub_distrib]
  refine sum_congr rfl fun k _ => ?_
  by_cases h : c < k
  · rw [if_pos h, if_neg (by omega)]; ring
  · rw [if_neg h, if_pos (by omega)]; ring

theorem tLogF_real {right : FVec Ideal S512x1 .f32} {z lf : FVec Ideal S512x512 .f32} {l a f : ℕ → ℕ → ℝ}
    (hl : Is2 right l) (hz : Is2 z a) (hf : Is2 lf f) :
    Is2 (tLogF right z lf) (fun r c => a r c + f r c + (l r 0 + (∑ k ∈ range 512, f r k - ∑ k ∈ range (c + 1), f r k))) := by
  have h : Is2 (tLogF right z lf) (fun r c => a r c + f r c + (l r 0 + ∑ k ∈ range 512, f r k * (if c < k then 1 else 0))) := fun r c => by
    show (z (ix2 r c) + lf (ix2 r c)) + (broadcastTo S512x512 right broadcasts_S512x1_S512x512 (ix2 r c) + tCum k0_pay36 lf (ix2 r c)) = _
    rw [hz r c, hf r c, Cert.Sb.bcast_real hl r c, Cert.Sb.tCum_real after_real hf r c]
    norm_cast
  exact h.congr fun r c _ hc => by rw [sum_after hc]

section Head

variable {Q K V : ℕ → ℕ → ℝ} {R C : ℕ} {q k v : FVec Ideal S512x64 .bf16} {right : FVec Ideal S512x1 .f32} {acc : FVec Ideal S512x64 .f32}

/-- What is carried of one head when the keys from `C` on have been met: the sum of their logarithms, and their part of the output. -/
structure HeadOk (Q K V : ℕ → ℕ → ℝ) (R C : ℕ) (right : FVec Ideal S512x1 .f32) (acc : FVec Ideal S512x64 .f32) : Prop where
  right : Is2 right (fun r _ => tr Q K (R + r) - ∑ j ∈ range C, lr Q K (R + r) j)
  acc : Is2 acc (fun r d => (∑ s ∈ range 2048, wr Q K (R + r) s * V s d) - ∑ s ∈ range C, wr Q K (R + r) s * V s d)

theorem w_off (hRC : C + 512 ≤ R) (hq : Is2 q (fun r d => Q (R + r) d)) (hk : Is2 k (fun c d => K (C + c) d))
    (hl : Is2 right (fun r _ => tr Q K (R + r) - ∑ j ∈ range (C + 512), lr Q K (R + r) j)) :
    Is2 (fOff q k right) (fun r c => wr Q K (R + r) (C + c)) :=
  (Cert.Sb.exp_real (tLogF_real hl (Cert.Sb.z_tile hq hk) (Cert.Sb.lf_off hRC hq hk))).congr fun r c _ hc => by
    have e1 := sum_range_add (fun j => lr Q K (R + r) j) C 512
    have e2 := sum_range_add (fun j => lr Q K (R + r) j) C (c + 1)
    have e3 : lr Q K (R + r) (C + c) = Cert.Sb.lfail (zr Q K (R + r) (C + c)) := if_pos (by omega)
    unfold wr
    rw [if_pos (by omega), e3, e1, show C + c + 1 = C + (c + 1) from rfl, e2]
    congr 1; ring

theorem w_diag (hq : Is2 q (fun r d => Q (R + r) d)) (hk : Is2 k (fun c d => K (R + c) d))
    (hl : Is2 right (fun r _ => tr Q K (R + r) - ∑ j ∈ range (R + 512), lr Q K (R + r) j)) :
    Is2 (fDiag q k right) (fun r c => wr Q K (R + r) (R + c)) :=
  (Cert.Sb.tSel_real (Cert.Sb.exp_real (tLogF_real hl (Cert.Sb.z_tile hq hk) (Cert.Sb.lf_diag hq hk)))).congr fun r c _ hc => by
    have e1 := sum_range_add (fun j => lr Q K (R + r) j) R 512
    have e2 := sum_range_add (fun j => lr Q K (R + r) j) R (c + 1)
    by_cases h : c < r
    · have e3 : lr Q K (R + r) (R + c) = Cert.Sb.lfail (zr Q K (R + r) (R + c)) := if_pos (by omega)
      unfold wr
      rw [if_pos h, if_pos (by omega), e3, e1, show R + c + 1 = R + (c + 1) from rfl, e2]
      congr 1; ring
    · rw [if_neg h, Cert.Sb.wr_of_le _ _ (by omega)]

theorem HeadOk.off (h : HeadOk Q K V R (C + 512) right acc) (hRC : C + 512 ≤ R) (hq : Is2 q (fun r d => Q (R + r) d))
    (hk : Is2 k (fun c d => K (C + c) d)) (hv : Is2 v (fun c d => V (C + c) d)) :
    HeadOk Q K V R C (rowAcc right (tLf (tZ q k))) (accN acc (fOff q k right) v) where
  right := (Cert.Sb.rowAcc_real h.right (Cert.Sb.lf_off hRC hq hk)).congr fun r c _ _ => by
    have e1 := sum_range_add (fun j => lr Q K (R + r) j) C 512
    rw [e1]; ring
  acc := (Cert.Sb.accN_real h.acc (w_off hRC hq hk h.right) hv).congr fun r c _ _ => by
    have e1 := sum_range_add (fun s => wr Q K (R + r) s * V s c) C 512
    rw [e1]; ring

theorem HeadOk.diag (h : HeadOk Q K V R (R + 512) right acc) (hq : Is2 q (fun r d => Q (R + r) d))
    (hk : Is2 k (fun c d => K (R + c) d)) (hv : Is2 v (fun c d => V (R + c) d)) :
    HeadOk Q K V R R (rowAcc right (tSel (tLf (tZ q k)))) (accN acc (fDiag q k right) v) where
  right := (Cert.Sb.rowAcc_real h.right (Cert.Sb.lf_diag hq hk)).congr fun r c _ _ => by
    have e1 := sum_range_add (fun j => lr Q K (R + r) j) R 512
    rw [e1]; ring
  acc := (Cert.Sb.accN_real h.acc (w_diag hq hk h.right) hv).congr fun r c _ _ => by
    have e1 := sum_range_add (fun s => wr Q K (R + r) s * V s c) R 512
    rw [e1]; ring

/-- A sum of terms that vanish from `C` on. -/
theorem sum_tail {f : ℕ → ℝ} (hC : C ≤ 2048) (h : ∀ s, C ≤ s → f s = 0) : ∑ s ∈ range 2048, f s = ∑ s ∈ range C, f s :=
  (sum_subset (range_subset_range.2 hC) fun s _ hs => h s (by simpa using hs)).symm

/-- The zeros the kernel begins with. -/
theorem HeadOk.zero (hR : R + 512 ≤ 2048) (h1 : Is2 right (fun _ _ => 0)) (h2 : Is2 acc (fun _ _ => 0)) :
    HeadOk Q K V R (R + 512) right acc where
  right := h1.congr fun r c hr _ => by
    unfold tr
    rw [sum_tail (f := lr Q K (R + r)) hR fun s hs => if_neg (by omega), sub_self]
  acc := h2.congr fun r c hr _ => by
    rw [sum_tail (f := fun s => wr Q K (R + r) s * V s c) hR fun s hs => by
      show wr Q K (R + r) s * V s c = 0
      rw [Cert.Sb.wr_of_le _ _ (by omega), zero_mul], sub_self]

end Head

end Cert.Sf

end
-- ==== Proof.ForwardPoint.lean ====
module

public import proofs.«01_k».proof.Proof.ForwardTile

/-!
# One grid point of the attention's forward output

The body begins every head with the tile on the diagonal, then a loop takes the tiles before it, the nearest first. The second
loop, over what is left when the first one's steps are unrolled, makes no trip. At the end the four heads' carried values are
stored.
-/

@[expose] public section

set_option maxRecDepth 16384

noncomputable section

namespace Cert.Sf

open Idealize.ShloMosaic Idealize.ShloMosaic.TcCoe Idealize.ShloMosaic.ValueIdx Cert.SbForwardIdeal Cert.SbForwardIdeal.Gen Finset
open Cert.Sb (Is2 Is3 IsA tZ tLf tCum tSel accN rowAcc mat zr lr tr wr)
open scoped BigOperators

section Text
variable {F : FTy → Type} [FloatOps F]

/-- The carried value of the loop: for every head the sum of the logarithms and the output. -/
abbrev Carry (F : FTy → Type) : Type :=
  FVec F S512x1 .f32 × FVec F S512x64 .f32 × FVec F S512x1 .f32 × FVec F S512x64 .f32 ×
  FVec F S512x1 .f32 × FVec F S512x64 .f32 × FVec F S512x1 .f32 × FVec F S512x64 .f32

section Reads

variable {e : EltTy}

/-- A block of 512 rows of one head of a query-tile array. -/
abbrev rdQ (m : Memref sig .tc .vmem S4x512x64 e) (X : m.view.ty.Contents (Elt F)) (o : Fin 3 → ℕ)
    (h : ∀ a, o a + S1x512x64.size a ≤ S4x512x64.size a) : Vec F S1x512x64 e :=
  m.view.readAt (Elt F) (Rect.unit (s := S4x512x64) o S1x512x64.size h).toLoadRect X

/-- A block of 512 rows of one head of a whole array. -/
abbrev rdK (m : Memref sig .tc .vmem S4x2048x64 e) (X : m.view.ty.Contents (Elt F)) (o : Fin 3 → ℕ)
    (h : ∀ a, o a + S1x512x64.size a ≤ S4x2048x64.size a) : Vec F S1x512x64 e :=
  m.view.readAt (Elt F) (Rect.unit (s := S4x2048x64) o S1x512x64.size h).toLoadRect X

end Reads

section Trip

variable (𝒱 : Variants) (c : Dev nD) (bd : Option 𝒱.V) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x64 .f32) (harg4 : arg4.IsWhole)
  (arg5 : Memref sig .tc .vmem S4x512x1 .f32) (harg5 : arg5.IsWhole)
  (arg0 : BitVec 32) (v12 : FVec F S512x1 .f32) (v13 : FVec F S512x64 .f32) (v15 : BitVec 32)
  (v55 : FVec F S512x1 .f32) (v61 : FVec F S512x64 .f32) (v101 : FVec F S512x1 .f32) (v107 : FVec F S512x64 .f32)
  (v147 : FVec F S512x1 .f32) (v153 : FVec F S512x64 .f32) (v159 v163 v165 v166 : FVec F S512x512 .f32)
  (X1 : arg1.view.ty.Contents (Elt F)) (X2 : arg2.view.ty.Contents (Elt F)) (X3 : arg3.view.ty.Contents (Elt F))
  (k : Fin (k0_t1_loop i).trips) (acc : Carry F)

/-- What a trip carries on. -/
theorem tripR : (trip_k0_t1 𝒱 c bd i arg1 harg1 arg2 harg2 arg3 harg3 arg4 harg4 arg5 harg5 arg0 k0_pay36 v12 v13 v15 v55 v61 v101 v107 v147 v153 v159 v163 v165 v166 X1 X2 X3 k).1 acc =
    (rowAcc acc.1 (tLf (tZ (mat (rdQ arg1 X1 ![0, 0, 0] inb_S4x512x64_S1x512x64_0_0_0)) (mat (rdK arg2 X2 (k0_off5 i k) (k0_off5_inb i k))))),
      accN acc.2.1 (fOff (mat (rdQ arg1 X1 ![0, 0, 0] inb_S4x512x64_S1x512x64_0_0_0)) (mat (rdK arg2 X2 (k0_off5 i k) (k0_off5_inb i k))) acc.1) (mat (rdK arg3 X3 (k0_off5 i k) (k0_off5_inb i k))),
      rowAcc acc.2.2.1 (tLf (tZ (mat (rdQ arg1 X1 ![1, 0, 0] inb_S4x512x64_S1x512x64_1_0_0)) (mat (rdK arg2 X2 (k0_off6 i k) (k0_off6_inb i k))))),
      accN acc.2.2.2.1 (fOff (mat (rdQ arg1 X1 ![1, 0, 0] inb_S4x512x64_S1x512x64_1_0_0)) (mat (rdK arg2 X2 (k0_off6 i k) (k0_off6_inb i k))) acc.2.2.1) (mat (rdK arg3 X3 (k0_off6 i k) (k0_off6_inb i k))),
      rowAcc acc.2.2.2.2.1 (tLf (tZ (mat (rdQ arg1 X1 ![2, 0, 0] inb_S4x512x64_S1x512x64_2_0_0)) (mat (rdK arg2 X2 (k0_off7 i k) (k0_off7_inb i k))))),
      accN acc.2.2.2.2.2.1 (fOff (mat (rdQ arg1 X1 ![2, 0, 0] inb_S4x512x64_S1x512x64_2_0_0)) (mat (rdK arg2 X2 (k0_off7 i k) (k0_off7_inb i k))) acc.2.2.2.2.1) (mat (rdK arg3 X3 (k0_off7 i k) (k0_off7_inb i k))),
      rowAcc acc.2.2.2.2.2.2.1 (tLf (tZ (mat (rdQ arg1 X1 ![3, 0, 0] inb_S4x512x64_S1x512x64_3_0_0)) (mat (rdK arg2 X2 (k0_off8 i k) (k0_off8_inb i k))))),
      accN acc.2.2.2.2.2.2.2 (fOff (mat (rdQ arg1 X1 ![3, 0, 0] inb_S4x512x64_S1x512x64_3_0_0)) (mat (rdK arg2 X2 (k0_off8 i k) (k0_off8_inb i k))) acc.2.2.2.2.2.2.1) (mat (rdK arg3 X3 (k0_off8 i k) (k0_off8_inb i k)))) := by
  unfold trip_k0_t1; rfl

end Trip

section Point

variable (c : Dev nD) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x64 .f32) (harg4 : arg4.IsWhole)
  (arg5 : Memref sig .tc .vmem S4x512x1 .f32) (harg5 : arg5.IsWhole)
  (X1 : arg1.view.ty.Contents (Elt F)) (X2 : arg2.view.ty.Contents (Elt F)) (X3 : arg3.view.ty.Contents (Elt F)) (acc : Carry F)

/-- What is carried after the tile on the diagonal. -/
def diag : Carry F :=
   (rowAcc k0_pay37 (tSel (tLf (tZ (mat (rdQ arg1 X1 ![0, 0, 0] inb_S4x512x64_S1x512x64_0_0_0)) (mat (rdK arg2 X2 (k0_off1 i) (k0_off1_inb i)))))),
    accN k0_pay38 (fDiag (mat (rdQ arg1 X1 ![0, 0, 0] inb_S4x512x64_S1x512x64_0_0_0)) (mat (rdK arg2 X2 (k0_off1 i) (k0_off1_inb i))) k0_pay37) (mat (rdK arg3 X3 (k0_off1 i) (k0_off1_inb i))),
    rowAcc k0_pay39 (tSel (tLf (tZ (mat (rdQ arg1 X1 ![1, 0, 0] inb_S4x512x64_S1x512x64_1_0_0)) (mat (rdK arg2 X2 (k0_off2 i) (k0_off2_inb i)))))),
    accN k0_pay40 (fDiag (mat (rdQ arg1 X1 ![1, 0, 0] inb_S4x512x64_S1x512x64_1_0_0)) (mat (rdK arg2 X2 (k0_off2 i) (k0_off2_inb i))) k0_pay39) (mat (rdK arg3 X3 (k0_off2 i) (k0_off2_inb i))),
    rowAcc k0_pay41 (tSel (tLf (tZ (mat (rdQ arg1 X1 ![2, 0, 0] inb_S4x512x64_S1x512x64_2_0_0)) (mat (rdK arg2 X2 (k0_off3 i) (k0_off3_inb i)))))),
    accN k0_pay42 (fDiag (mat (rdQ arg1 X1 ![2, 0, 0] inb_S4x512x64_S1x512x64_2_0_0)) (mat (rdK arg2 X2 (k0_off3 i) (k0_off3_inb i))) k0_pay41) (mat (rdK arg3 X3 (k0_off3 i) (k0_off3_inb i))),
    rowAcc k0_pay43 (tSel (tLf (tZ (mat (rdQ arg1 X1 ![3, 0, 0] inb_S4x512x64_S1x512x64_3_0_0)) (mat (rdK arg2 X2 (k0_off4 i) (k0_off4_inb i)))))),
    accN k0_pay44 (fDiag (mat (rdQ arg1 X1 ![3, 0, 0] inb_S4x512x64_S1x512x64_3_0_0)) (mat (rdK arg2 X2 (k0_off4 i) (k0_off4_inb i))) k0_pay43) (mat (rdK arg3 X3 (k0_off4 i) (k0_off4_inb i))))

/-- The pieces of the output. -/
def pieces3 : List (View.Piece (Elt F) S4x512x64 .f32) :=
  [⟨Rect.unit (s := S4x512x64) ![3, 0, 0] S1x512x64.size inb_S4x512x64_S1x512x64_3_0_0, shapeCast S1x512x64 acc.2.2.2.2.2.2.2 shapeCasts_S512x64_S1x512x64⟩,
   ⟨Rect.unit (s := S4x512x64) ![2, 0, 0] S1x512x64.size inb_S4x512x64_S1x512x64_2_0_0, shapeCast S1x512x64 acc.2.2.2.2.2.1 shapeCasts_S512x64_S1x512x64⟩,
   ⟨Rect.unit (s := S4x512x64) ![1, 0, 0] S1x512x64.size inb_S4x512x64_S1x512x64_1_0_0, shapeCast S1x512x64 acc.2.2.2.1 shapeCasts_S512x64_S1x512x64⟩,
   ⟨Rect.unit (s := S4x512x64) ![0, 0, 0] S1x512x64.size inb_S4x512x64_S1x512x64_0_0_0, shapeCast S1x512x64 acc.2.1 shapeCasts_S512x64_S1x512x64⟩]

/-- The pieces of the sums of the logarithms. -/
def pieces4 : List (View.Piece (Elt F) S4x512x1 .f32) :=
  [⟨Rect.unit (s := S4x512x1) ![3, 0, 0] S1x512x1.size inb_S4x512x1_S1x512x1_3_0_0, shapeCast S1x512x1 acc.2.2.2.2.2.2.1 shapeCasts_S512x1_S1x512x1⟩,
   ⟨Rect.unit (s := S4x512x1) ![2, 0, 0] S1x512x1.size inb_S4x512x1_S1x512x1_2_0_0, shapeCast S1x512x1 acc.2.2.2.2.1 shapeCasts_S512x1_S1x512x1⟩,
   ⟨Rect.unit (s := S4x512x1) ![1, 0, 0] S1x512x1.size inb_S4x512x1_S1x512x1_1_0_0, shapeCast S1x512x1 acc.2.2.1 shapeCasts_S512x1_S1x512x1⟩,
   ⟨Rect.unit (s := S4x512x1) ![0, 0, 0] S1x512x1.size inb_S4x512x1_S1x512x1_0_0_0, shapeCast S1x512x1 acc.1 shapeCasts_S512x1_S1x512x1⟩]

/-- The first loop's state after all its trips. The words it hands on without reading them are left open. -/
abbrev loop1 (arg0 : BitVec 32) (v12 : FVec F S512x1 .f32) (v13 : FVec F S512x64 .f32) (v15 : BitVec 32)
    (v55 : FVec F S512x1 .f32) (v61 : FVec F S512x64 .f32) (v101 : FVec F S512x1 .f32) (v107 : FVec F S512x64 .f32)
    (v147 : FVec F S512x1 .f32) (v153 : FVec F S512x64 .f32) (v159 v163 v165 v166 : FVec F S512x512 .f32) : Carry F :=
  st_k0_t1 Variants.none c none i arg1 harg1 arg2 harg2 arg3 harg3 arg4 harg4 arg5 harg5 arg0 k0_pay36 v12 v13 v15 v55 v61 v101 v107 v147 v153 v159 v163 v165 v166 X1 X2 X3 acc
    (Scf.trips (k0_t1_loop i).lb (k0_t1_loop i).ub (k0_t1_loop i).st)

/-- The second loop's state after all its trips. -/
abbrev loop2 (arg0 : BitVec 32) (v12 : FVec F S512x1 .f32) (v13 : FVec F S512x64 .f32) (v15 : BitVec 32)
    (v55 : FVec F S512x1 .f32) (v61 : FVec F S512x64 .f32) (v101 : FVec F S512x1 .f32) (v107 : FVec F S512x64 .f32)
    (v147 : FVec F S512x1 .f32) (v153 : FVec F S512x64 .f32) (v159 v163 v165 v166 : FVec F S512x512 .f32) (v204 : BitVec 32) : Carry F :=
  st_k0_t2 Variants.none c none i arg1 harg1 arg2 harg2 arg3 harg3 arg4 harg4 arg5 harg5 arg0 k0_pay36 v12 v13 v15 v55 v61 v101 v107 v147 v153 v159 v163 v165 v166 v204 X1 X2 X3 acc
    (Scf.trips (k0_t2_loop i).lb (k0_t2_loop i).ub (k0_t2_loop i).st)

end Point

section Runs

variable (c : Dev nD) (i : grid0.Coords)
  (arg1 : Memref sig .tc .vmem S4x512x64 .bf16) (harg1 : arg1.IsWhole)
  (arg2 : Memref sig .tc .vmem S4x2048x64 .bf16) (harg2 : arg2.IsWhole)
  (arg3 : Memref sig .tc .vmem S4x2048x64 .bf16) (harg3 : arg3.IsWhole)
  (arg4 : Memref sig .tc .vmem S4x512x64 .f32) (harg4 : arg4.IsWhole)
  (arg5 : Memref sig .tc .vmem S4x512x1 .f32) (harg5 : arg5.IsWhole)
  (x0 : Vec F S4x512x64 .bf16) (x1 x2 : Vec F S4x2048x64 .bf16)

set_option maxHeartbeats 4000000 in
/-- What the body leaves: the four heads' values after both loops. -/
theorem run_eq : ∃ arg0 v12 v13 v15 v55 v61 v101 v107 v147 v153 v159 v163 v165 v166 v204,
    (kernelRun0_A c i arg1 harg1 arg2 harg2 arg3 harg3 arg4 harg4 arg5 harg5 x0 x1 x2).1 =
      pieces3 (loop2 c i arg1 harg1 arg2 harg2 arg3 harg3 arg4 harg4 arg5 harg5 (harg1.unread x0) (harg2.unread x1) (harg3.unread x2)
        (loop1 c i arg1 harg1 arg2 harg2 arg3 harg3 arg4 harg4 arg5 harg5 (harg1.unread x0) (harg2.unread x1) (harg3.unread x2)
          (diag i arg1 arg2 arg3 (harg1.unread x0) (harg2.unread x1) (harg3.unread x2)) arg0 v12 v13 v15 v55 v61 v101 v107 v147 v153 v159 v163 v165 v166) arg0 v12 v13 v15 v55 v61 v101 v107 v147 v153 v159 v163 v165 v166 v204)
    ∧ (kernelRun0_A c i arg1 harg1 arg2 harg2 arg3 harg3 arg4 harg4 arg5 harg5 x0 x1 x2).2.1 =
      pieces4 (loop2 c i arg1 harg1 arg2 harg2 arg3 harg3 arg4 harg4 arg5 harg5 (harg1.unread x0) (harg2.unread x1) (harg3.unread x2)
        (loop1 c i arg1 harg1 arg2 harg2 arg3 harg3 arg4 harg4 arg5 harg5 (harg1.unread x0) (harg2.unread x1) (harg3.unread x2)
          (diag i arg1 arg2 arg3 (harg1.unread x0) (harg2.unread x1) (harg3.unread x2)) arg0 v12 v13 v15 v55 v61 v101 v107 v147 v153 v159 v163 v165 v166) arg0 v12 v13 v15 v55 v61 v101 v107 v147 v153 v159 v163 v165 v166 v204) := by
  iterate 15 apply Exists.intro
  apply And.intro
  · unfold kernelRun0_A; rfl
  · unfold kernelRun0_A; rfl

end Runs
end Text

end Cert.Sf

end
-- ==== Proof.ForwardReal.lean ====
module

public import proofs.«01_k».proof.Proof.ForwardPoint

/-!
# One grid point of the attention's forward output, on real operands

After the tile on the diagonal and the loop every key has been met: the point leaves its query tile's rows of the output, and the
sums of the logarithms over all keys.
-/

@[expose] public section

set_option maxRecDepth 16384

noncomputable section

namespace Cert.Sf

open Idealize.ShloMosaic Idealize.ShloMosaic.TcCoe Idealize.ShloMosaic.ValueIdx Cert.SbForwardIdeal Cert.SbForwardIdeal.Gen Finset
open Cert.Sb (Is2 Is3 IsA tZ tLf tCum tSel accN rowAcc mat zr lr tr wr)
open scoped BigOperators

section Access

variable {n k m : ℕ} {e : EltTy} (v : View sig .tc .vmem (⟨3, ![4, n, m]⟩ : Shape) e) (f : v.ty.Contents (Elt Ideal))

/-- A load of rows `R …` of head `h`. -/
theorem load_at {o : Fin 3 → ℕ} {h R : ℕ} (hh : h < 4) (ho : o = ![h, R, 0])
    (inb : ∀ a, o a + (⟨3, ![1, k, m]⟩ : Shape).size a ≤ (⟨3, ![4, n, m]⟩ : Shape).size a) (r : Fin k) (c : Fin m) (hr : R + r.val < n) :
    v.readAt (Elt Ideal) (Rect.unit (s := ⟨3, ![4, n, m]⟩) o (⟨3, ![1, k, m]⟩ : Shape).size inb).toLoadRect f (ix3 0 r c)
      = v.read (Elt Ideal) f (ix3 ⟨h, hh⟩ ⟨R + r.val, hr⟩ c) := by
  subst ho
  refine congrArg (v.read (Elt Ideal) f) (funext fun a => Fin.ext ?_)
  match a with
  | ⟨0, _⟩ => show h + 1 * 0 = h; omega
  | ⟨1, _⟩ => show R + 1 * r.val = R + r.val; omega
  | ⟨2, _⟩ => show 0 + 1 * c.val = c.val; omega

/-- A store of rows `R …` of head `h`: the newest piece where it lies, the others elsewhere. -/
theorem store_at {o : Fin 3 → ℕ} {h R : ℕ} (ho : o = ![h, R, 0])
    (inb : ∀ a, o a + (⟨3, ![1, k, m]⟩ : Shape).size a ≤ (⟨3, ![4, n, m]⟩ : Shape).size a)
    (x : (⟨3, ![1, k, m]⟩ : Shape).Idx → Elt Ideal e) (L : List (View.Piece (Elt Ideal) (⟨3, ![4, n, m]⟩ : Shape) e))
    (h' : Fin 4) (r : Fin n) (c : Fin m) :
    v.read (Elt Ideal) (v.writes (Elt Ideal) f (⟨Rect.unit (s := ⟨3, ![4, n, m]⟩) o (⟨3, ![1, k, m]⟩ : Shape).size inb, x⟩ :: L)) (ix3 h' r c)
      = if hc : h'.val = h ∧ R ≤ r.val ∧ r.val < R + k then x (ix3 0 ⟨r.val - R, by omega⟩ c)
        else v.read (Elt Ideal) (v.writes (Elt Ideal) f L) (ix3 h' r c) := by
  split
  · rename_i hc
    refine View.read_writes_cons_unit_of_mem v f inb x L (ix3 h' r c) (ix3 0 ⟨r.val - R, by omega⟩ c) ho fun a => ?_
    match a with
    | ⟨0, _⟩ => show h'.val = h + 0; omega
    | ⟨1, _⟩ => show r.val = R + (r.val - R); omega
    | ⟨2, _⟩ => show c.val = 0 + c.val; omega
  · rename_i hc
    by_cases h0 : h'.val = h
    · refine View.read_writes_cons_unit_of_not_mem v f inb x L (ix3 h' r c) ho ⟨1, by show 1 < 3; omega⟩ ?_
      show r.val < R ∨ R + k ≤ r.val
      omega
    · refine View.read_writes_cons_unit_of_not_mem v f inb x L (ix3 h' r c) ho ⟨0, by show 0 < 3; omega⟩ ?_
      show h'.val < h ∨ h + 1 ≤ h'.val
      omega

end Access

theorem rdK_real {v : Memref sig .tc .vmem S4x2048x64 .bf16} {f : v.view.ty.Contents (Elt Ideal)} {a : ℕ → ℕ → ℕ → ℝ}
    (hA : IsA (v.view.read (Elt Ideal) f) a) {o : Fin 3 → ℕ} {h R : ℕ} (hh : h < 4) (hR : R + 512 ≤ 2048) (ho : o = ![h, R, 0])
    (inb : ∀ a, o a + S1x512x64.size a ≤ S4x2048x64.size a) :
    Is3 (rdK v f o inb) (fun r c => a h (R + r) c) := fun r c => by
  have hr := r.isLt
  exact (load_at v.view f hh ho inb r c (by omega)).trans (hA _ _ _)

theorem rdQ_real {v : Memref sig .tc .vmem S4x512x64 .bf16} {f : v.view.ty.Contents (Elt Ideal)} {a : ℕ → ℕ → ℕ → ℝ}
    (hA : IsA (v.view.read (Elt Ideal) f) a) {h : ℕ} (hh : h < 4) (inb : ∀ a, ![h, 0, 0] a + S1x512x64.size a ≤ S4x512x64.size a) :
    Is3 (rdQ v f ![h, 0, 0] inb) (fun r c => a h r c) := fun r c => by
  have hr := r.isLt
  refine (load_at v.view f hh rfl inb r c (by omega)).trans ((hA _ _ _).trans ?_)
  show ((a h (0 + r.val) c.val : ℝ) : EReal) = _
  rw [Nat.zero_add]

variable {Q K V : ℕ → ℕ → ℕ → ℝ}

/-- The four heads' carried values. -/
def CarryOk (Q K V : ℕ → ℕ → ℕ → ℝ) (R C : ℕ) (acc : Carry Ideal) : Prop :=
  HeadOk (Q 0) (K 0) (V 0) R C acc.1 acc.2.1
  ∧ HeadOk (Q 1) (K 1) (V 1) R C acc.2.2.1 acc.2.2.2.1
  ∧ HeadOk (Q 2) (K 2) (V 2) R C acc.2.2.2.2.1 acc.2.2.2.2.2.1
  ∧ HeadOk (Q 3) (K 3) (V 3) R C acc.2.2.2.2.2.2.1 acc.2.2.2.2.2.2.2

/-- The inputs of the point hold the real arrays. -/
structure InOk (arg1 : Memref sig .tc .vmem S4x512x64 .bf16) (arg2 : Memref sig .tc .vmem S4x2048x64 .bf16)
    (arg3 : Memref sig .tc .vmem S4x2048x64 .bf16) (X1 : arg1.view.ty.Contents (Elt Ideal)) (X2 : arg2.view.ty.Contents (Elt Ideal))
    (X3 : arg3.view.ty.Contents (Elt Ideal)) (Q K V : ℕ → ℕ → ℕ → ℝ) (R : ℕ) : Prop where
  q : IsA (arg1.view.read (Elt Ideal) X1) (fun h r d => Q h (R + r) d)
  k : IsA (arg2.view.read (Elt Ideal) X2) K
  v : IsA (arg3.view.read (Elt Ideal) X3) V

theorem trips_eq : ∀ i : grid0.Coords, (k0_t1_loop i).trips = (i 0).val := by decide +kernel
theorem off5_eq : ∀ (i : grid0.Coords) (k : Fin (k0_t1_loop i).trips), k0_off5 i k = ![0, 512 * ((i 0).val - 1 - k.val), 0] := by decide +kernel
theorem off6_eq : ∀ (i : grid0.Coords) (k : Fin (k0_t1_loop i).trips), k0_off6 i k = ![1, 512 * ((i 0).val - 1 - k.val), 0] := by decide +kernel
theorem off7_eq : ∀ (i : grid0.Coords) (k : Fin (k0_t1_loop i).trips), k0_off7 i k = ![2, 512 * ((i 0).val - 1 - k.val), 0] := by decide +kernel
theorem off8_eq : ∀ (i : grid0.Coords) (k : Fin (k0_t1_loop i).trips), k0_off8 i k = ![3, 512 * ((i 0).val - 1 - k.val), 0] := by decide +kernel

section Point

variable {c : Dev nD} {i : grid0.Coords}
  {arg1 : Memref sig .tc .vmem S4x512x64 .bf16} {harg1 : arg1.IsWhole}
  {arg2 : Memref sig .tc .vmem S4x2048x64 .bf16} {harg2 : arg2.IsWhole}
  {arg3 : Memref sig .tc .vmem S4x2048x64 .bf16} {harg3 : arg3.IsWhole}
  {arg4 : Memref sig .tc .vmem S4x512x64 .f32} {harg4 : arg4.IsWhole}
  {arg5 : Memref sig .tc .vmem S4x512x1 .f32} {harg5 : arg5.IsWhole}
  {X1 : arg1.view.ty.Contents (Elt Ideal)} {X2 : arg2.view.ty.Contents (Elt Ideal)} {X3 : arg3.view.ty.Contents (Elt Ideal)}

/-- After the tile on the diagonal. -/
theorem diag_real {R : ℕ} (hR : R = 512 * (i 0).val) (hin : InOk arg1 arg2 arg3 X1 X2 X3 Q K V R) :
    CarryOk Q K V R R (diag i arg1 arg2 arg3 X1 X2 X3) := by
  have hi : (i 0).val < 4 := (i 0).isLt
  have hC : R + 512 ≤ 2048 := by omega
  have o0 : k0_off1 i = ![0, R, 0] := (k0_off1_eq i).trans (by rw [hR])
  have o1 : k0_off2 i = ![1, R, 0] := (k0_off2_eq i).trans (by rw [hR])
  have o2 : k0_off3 i = ![2, R, 0] := (k0_off3_eq i).trans (by rw [hR])
  have o3 : k0_off4 i = ![3, R, 0] := (k0_off4_eq i).trans (by rw [hR])
  have q0 := Cert.Sb.mat_real (φ := .bf16) (rdQ_real hin.q (show 0 < 4 by decide) inb_S4x512x64_S1x512x64_0_0_0)
  have k0 := Cert.Sb.mat_real (φ := .bf16) (rdK_real hin.k (show 0 < 4 by decide) hC o0 (k0_off1_inb i))
  have v0 := Cert.Sb.mat_real (φ := .bf16) (rdK_real hin.v (show 0 < 4 by decide) hC o0 (k0_off1_inb i))
  have q1 := Cert.Sb.mat_real (φ := .bf16) (rdQ_real hin.q (show 1 < 4 by decide) inb_S4x512x64_S1x512x64_1_0_0)
  have k1 := Cert.Sb.mat_real (φ := .bf16) (rdK_real hin.k (show 1 < 4 by decide) hC o1 (k0_off2_inb i))
  have v1 := Cert.Sb.mat_real (φ := .bf16) (rdK_real hin.v (show 1 < 4 by decide) hC o1 (k0_off2_inb i))
  have q2 := Cert.Sb.mat_real (φ := .bf16) (rdQ_real hin.q (show 2 < 4 by decide) inb_S4x512x64_S1x512x64_2_0_0)
  have k2 := Cert.Sb.mat_real (φ := .bf16) (rdK_real hin.k (show 2 < 4 by decide) hC o2 (k0_off3_inb i))
  have v2 := Cert.Sb.mat_real (φ := .bf16) (rdK_real hin.v (show 2 < 4 by decide) hC o2 (k0_off3_inb i))
  have q3 := Cert.Sb.mat_real (φ := .bf16) (rdQ_real hin.q (show 3 < 4 by decide) inb_S4x512x64_S1x512x64_3_0_0)
  have k3 := Cert.Sb.mat_real (φ := .bf16) (rdK_real hin.k (show 3 < 4 by decide) hC o3 (k0_off4_inb i))
  have v3 := Cert.Sb.mat_real (φ := .bf16) (rdK_real hin.v (show 3 < 4 by decide) hC o3 (k0_off4_inb i))
  have z : ∀ h, ∀ x : FVec Ideal S512x1 .f32, ∀ y : FVec Ideal S512x64 .f32, Is2 x (fun _ _ => 0) → Is2 y (fun _ _ => 0) →
      HeadOk (Q h) (K h) (V h) R (R + 512) x y := fun h x y hx hy => HeadOk.zero hC hx hy
  exact ⟨(z 0 k0_pay37 k0_pay38 (fun _ _ => Ideal.ofBits_zero_f32) (fun _ _ => Ideal.ofBits_zero_f32)).diag q0 k0 v0,
    (z 1 k0_pay39 k0_pay40 (fun _ _ => Ideal.ofBits_zero_f32) (fun _ _ => Ideal.ofBits_zero_f32)).diag q1 k1 v1,
    (z 2 k0_pay41 k0_pay42 (fun _ _ => Ideal.ofBits_zero_f32) (fun _ _ => Ideal.ofBits_zero_f32)).diag q2 k2 v2,
    (z 3 k0_pay43 k0_pay44 (fun _ _ => Ideal.ofBits_zero_f32) (fun _ _ => Ideal.ofBits_zero_f32)).diag q3 k3 v3⟩

/-- One trip. -/
theorem trip_real {R : ℕ} (hR : R = 512 * (i 0).val) (hin : InOk arg1 arg2 arg3 X1 X2 X3 Q K V R)
    (arg0 : BitVec 32) (v12 : FVec Ideal S512x1 .f32) (v13 : FVec Ideal S512x64 .f32) (v15 : BitVec 32)
    (v55 : FVec Ideal S512x1 .f32) (v61 : FVec Ideal S512x64 .f32) (v101 : FVec Ideal S512x1 .f32) (v107 : FVec Ideal S512x64 .f32)
    (v147 : FVec Ideal S512x1 .f32) (v153 : FVec Ideal S512x64 .f32) (v159 v163 v165 v166 : FVec Ideal S512x512 .f32)
    (k : Fin (k0_t1_loop i).trips) {acc : Carry Ideal} (hacc : CarryOk Q K V R (512 * ((i 0).val - 1 - k.val) + 512) acc) :
    CarryOk Q K V R (512 * ((i 0).val - 1 - k.val)) ((trip_k0_t1 Variants.none c none i arg1 harg1 arg2 harg2 arg3 harg3 arg4 harg4 arg5 harg5 arg0 k0_pay36 v12 v13 v15 v55 v61 v101 v107 v147 v153 v159 v163 v165 v166 X1 X2 X3 k).1 acc) := by
  have hi : (i 0).val < 4 := (i 0).isLt
  have hk : k.val < (i 0).val := lt_of_lt_of_eq k.isLt (trips_eq i)
  have hRC : 512 * ((i 0).val - 1 - k.val) + 512 ≤ R := by omega
  have hC : 512 * ((i 0).val - 1 - k.val) + 512 ≤ 2048 := by omega
  obtain ⟨a0, a1, a2, a3⟩ := hacc
  have o0 := off5_eq i k
  have o1 := off6_eq i k
  have o2 := off7_eq i k
  have o3 := off8_eq i k
  have q0 := Cert.Sb.mat_real (φ := .bf16) (rdQ_real hin.q (show 0 < 4 by decide) inb_S4x512x64_S1x512x64_0_0_0)
  have k0 := Cert.Sb.mat_real (φ := .bf16) (rdK_real hin.k (show 0 < 4 by decide) hC o0 (k0_off5_inb i k))
  have v0 := Cert.Sb.mat_real (φ := .bf16) (rdK_real hin.v (show 0 < 4 by decide) hC o0 (k0_off5_inb i k))
  have q1 := Cert.Sb.mat_real (φ := .bf16) (rdQ_real hin.q (show 1 < 4 by decide) inb_S4x512x64_S1x512x64_1_0_0)
  have k1 := Cert.Sb.mat_real (φ := .bf16) (rdK_real hin.k (show 1 < 4 by decide) hC o1 (k0_off6_inb i k))
  have v1 := Cert.Sb.mat_real (φ := .bf16) (rdK_real hin.v (show 1 < 4 by decide) hC o1 (k0_off6_inb i k))
  have q2 := Cert.Sb.mat_real (φ := .bf16) (rdQ_real hin.q (show 2 < 4 by decide) inb_S4x512x64_S1x512x64_2_0_0)
  have k2 := Cert.Sb.mat_real (φ := .bf16) (rdK_real hin.k (show 2 < 4 by decide) hC o2 (k0_off7_inb i k))
  have v2 := Cert.Sb.mat_real (φ := .bf16) (rdK_real hin.v (show 2 < 4 by decide) hC o2 (k0_off7_inb i k))
  have q3 := Cert.Sb.mat_real (φ := .bf16) (rdQ_real hin.q (show 3 < 4 by decide) inb_S4x512x64_S1x512x64_3_0_0)
  have k3 := Cert.Sb.mat_real (φ := .bf16) (rdK_real hin.k (show 3 < 4 by decide) hC o3 (k0_off8_inb i k))
  have v3 := Cert.Sb.mat_real (φ := .bf16) (rdK_real hin.v (show 3 < 4 by decide) hC o3 (k0_off8_inb i k))
  rw [tripR]
  exact ⟨a0.off hRC q0 k0 v0, a1.off hRC q1 k1 v1, a2.off hRC q2 k2 v2, a3.off hRC q3 k3 v3⟩

/-- The loop's invariant. -/
theorem loop_real {R : ℕ} (hR : R = 512 * (i 0).val) (hin : InOk arg1 arg2 arg3 X1 X2 X3 Q K V R)
    (arg0 : BitVec 32) (v12 : FVec Ideal S512x1 .f32) (v13 : FVec Ideal S512x64 .f32) (v15 : BitVec 32)
    (v55 : FVec Ideal S512x1 .f32) (v61 : FVec Ideal S512x64 .f32) (v101 : FVec Ideal S512x1 .f32) (v107 : FVec Ideal S512x64 .f32)
    (v147 : FVec Ideal S512x1 .f32) (v153 : FVec Ideal S512x64 .f32) (v159 v163 v165 v166 : FVec Ideal S512x512 .f32)
    {acc : Carry Ideal} (hacc : CarryOk Q K V R R acc) (k : ℕ) (hk : k ≤ (i 0).val) :
    CarryOk Q K V R (512 * ((i 0).val - k)) (st_k0_t1 Variants.none c none i arg1 harg1 arg2 harg2 arg3 harg3 arg4 harg4 arg5 harg5 arg0 k0_pay36 v12 v13 v15 v55 v61 v101 v107 v147 v153 v159 v163 v165 v166 X1 X2 X3 acc k) := by
  induction k with
  | zero => rw [Nat.sub_zero, ← hR]; exact hacc
  | succ k ih =>
    have ih := ih (by omega)
    have hk' : k < (k0_t1_loop i).trips := lt_of_lt_of_eq (show k < (i 0).val by omega) (trips_eq i).symm
    have e := st_k0_t1_succ (F := Ideal) Variants.none c none i arg1 harg1 arg2 harg2 arg3 harg3 arg4 harg4 arg5 harg5 arg0 k0_pay36 v12 v13 v15 v55 v61 v101 v107 v147 v153 v159 v163 v165 v166 X1 X2 X3 acc ⟨k, hk'⟩
    rw [show ((⟨k, hk'⟩ : Fin (k0_t1_loop i).trips).val + 1) = k + 1 from rfl] at e
    rw [e, show (i 0).val - (k + 1) = (i 0).val - 1 - k by omega]
    refine trip_real hR hin arg0 v12 v13 v15 v55 v61 v101 v107 v147 v153 v159 v163 v165 v166 ⟨k, hk'⟩ ?_
    rw [show 512 * ((i 0).val - 1 - (⟨k, hk'⟩ : Fin (k0_t1_loop i).trips).val) + 512 = 512 * ((i 0).val - k) by
      show 512 * ((i 0).val - 1 - k) + 512 = 512 * ((i 0).val - k)
      omega]
    exact ih

/-- After both loops. -/
theorem loops_real {R : ℕ} (hR : R = 512 * (i 0).val) (hin : InOk arg1 arg2 arg3 X1 X2 X3 Q K V R)
    (arg0 : BitVec 32) (v12 : FVec Ideal S512x1 .f32) (v13 : FVec Ideal S512x64 .f32) (v15 : BitVec 32)
    (v55 : FVec Ideal S512x1 .f32) (v61 : FVec Ideal S512x64 .f32) (v101 : FVec Ideal S512x1 .f32) (v107 : FVec Ideal S512x64 .f32)
    (v147 : FVec Ideal S512x1 .f32) (v153 : FVec Ideal S512x64 .f32) (v159 v163 v165 v166 : FVec Ideal S512x512 .f32) (v204 : BitVec 32) :
    CarryOk Q K V R 0 (loop2 c i arg1 harg1 arg2 harg2 arg3 harg3 arg4 harg4 arg5 harg5 X1 X2 X3 (loop1 c i arg1 harg1 arg2 harg2 arg3 harg3 arg4 harg4 arg5 harg5 X1 X2 X3 (diag i arg1 arg2 arg3 X1 X2 X3) arg0 v12 v13 v15 v55 v61 v101 v107 v147 v153 v159 v163 v165 v166) arg0 v12 v13 v15 v55 v61 v101 v107 v147 v153 v159 v163 v165 v166 v204) := by
  have h : Scf.trips (k0_t2_loop i).lb (k0_t2_loop i).ub (k0_t2_loop i).st = 0 := Nat.le_zero.1 (k0_t2_abs i).2.1
  have h1 : Scf.trips (k0_t1_loop i).lb (k0_t1_loop i).ub (k0_t1_loop i).st = (i 0).val := trips_eq i
  unfold loop2
  rw [h]
  show CarryOk Q K V R 0 (loop1 c i arg1 harg1 arg2 harg2 arg3 harg3 arg4 harg4 arg5 harg5 X1 X2 X3 (diag i arg1 arg2 arg3 X1 X2 X3) arg0 v12 v13 v15 v55 v61 v101 v107 v147 v153 v159 v163 v165 v166)
  unfold loop1
  rw [h1]
  have e := loop_real (c := c) (harg1 := harg1) (harg2 := harg2) (harg3 := harg3) (arg4 := arg4) (harg4 := harg4) (arg5 := arg5) (harg5 := harg5)
    hR hin arg0 v12 v13 v15 v55 v61 v101 v107 v147 v153 v159 v163 v165 v166 (diag_real hR hin) (i 0).val le_rfl
  rw [Nat.sub_self] at e
  exact e

end Point

/-- The output of the attention. -/
def attn (Q K V : ℕ → ℕ → ℕ → ℝ) (h t d : ℕ) : ℝ := ∑ s ∈ range 2048, wr (Q h) (K h) t s * V h s d

theorem uncol_apply (x : FVec Ideal S512x1 .f32) (r : Fin 512) (c : Fin 1) :
    shapeCast S1x512x1 x shapeCasts_S512x1_S1x512x1 (ix3 0 r c) = x (ix2 r c) :=
  shapeCast_apply _ _ _ _ (by
    rw [Shape.rowMajor_val_two, Shape.rowMajor_val_succ, Shape.rowMajor_val_two]
    show r.val * 1 + c.val = 0 * _ + (r.val * 1 + c.val)
    omega)

theorem out_head {h R : ℕ} {x : FVec Ideal S512x1 .f32} {y : FVec Ideal S512x64 .f32} (ho : HeadOk (Q h) (K h) (V h) R 0 x y) :
    Is3 (shapeCast S1x512x64 y shapeCasts_S512x64_S1x512x64) (fun r d => attn Q K V h (R + r) d) := fun r d => by
  refine (Cert.Sb.unmat_apply y r d).trans ?_
  rw [ho.acc r d]
  simp only [sum_range_zero, sub_zero]
  rfl

theorem tot_head {h R : ℕ} {x : FVec Ideal S512x1 .f32} {y : FVec Ideal S512x64 .f32} (ho : HeadOk (Q h) (K h) (V h) R 0 x y) :
    Is3 (shapeCast S1x512x1 x shapeCasts_S512x1_S1x512x1) (fun r _ => tr (Q h) (K h) (R + r)) := fun r d => by
  refine (uncol_apply x r d).trans ?_
  rw [ho.right r d]
  simp only [sum_range_zero, sub_zero]

theorem pieces3_real {R : ℕ} {acc : Carry Ideal} (hacc : CarryOk Q K V R 0 acc) (v : View sig .tc .vmem S4x512x64 .f32) (f : v.ty.Contents (Elt Ideal)) :
    IsA (v.read (Elt Ideal) (v.writes (Elt Ideal) f (pieces3 acc))) (fun h r d => attn Q K V h (R + r) d) := fun h r d => by
  obtain ⟨a0, a1, a2, a3⟩ := hacc
  unfold pieces3
  have hr := r.isLt
  match h with
  | ⟨0, _⟩ =>
    rw [store_at v f (h := 3) (R := 0) rfl, dif_neg (by simp)]
    rw [store_at v f (h := 2) (R := 0) rfl, dif_neg (by simp)]
    rw [store_at v f (h := 1) (R := 0) rfl, dif_neg (by simp)]
    rw [store_at v f (h := 0) (R := 0) rfl, dif_pos ⟨rfl, Nat.zero_le _, by omega⟩]
    exact out_head a0 _ d
  | ⟨1, _⟩ =>
    rw [store_at v f (h := 3) (R := 0) rfl, dif_neg (by simp)]
    rw [store_at v f (h := 2) (R := 0) rfl, dif_neg (by simp)]
    rw [store_at v f (h := 1) (R := 0) rfl, dif_pos ⟨rfl, Nat.zero_le _, by omega⟩]
    exact out_head a1 _ d
  | ⟨2, _⟩ =>
    rw [store_at v f (h := 3) (R := 0) rfl, dif_neg (by simp)]
    rw [store_at v f (h := 2) (R := 0) rfl, dif_pos ⟨rfl, Nat.zero_le _, by omega⟩]
    exact out_head a2 _ d
  | ⟨3, _⟩ =>
    rw [store_at v f (h := 3) (R := 0) rfl, dif_pos ⟨rfl, Nat.zero_le _, by omega⟩]
    exact out_head a3 _ d

theorem pieces4_real {R : ℕ} {acc : Carry Ideal} (hacc : CarryOk Q K V R 0 acc) (v : View sig .tc .vmem S4x512x1 .f32) (f : v.ty.Contents (Elt Ideal)) :
    IsA (v.read (Elt Ideal) (v.writes (Elt Ideal) f (pieces4 acc))) (fun h r _ => tr (Q h) (K h) (R + r)) := fun h r d => by
  obtain ⟨a0, a1, a2, a3⟩ := hacc
  unfold pieces4
  have hr := r.isLt
  match h with
  | ⟨0, _⟩ =>
    rw [store_at v f (h := 3) (R := 0) rfl, dif_neg (by simp)]
    rw [store_at v f (h := 2) (R := 0) rfl, dif_neg (by simp)]
    rw [store_at v f (h := 1) (R := 0) rfl, dif_neg (by simp)]
    rw [store_at v f (h := 0) (R := 0) rfl, dif_pos ⟨rfl, Nat.zero_le _, by omega⟩]
    exact tot_head a0 _ d
  | ⟨1, _⟩ =>
    rw [store_at v f (h := 3) (R := 0) rfl, dif_neg (by simp)]
    rw [store_at v f (h := 2) (R := 0) rfl, dif_neg (by simp)]
    rw [store_at v f (h := 1) (R := 0) rfl, dif_pos ⟨rfl, Nat.zero_le _, by omega⟩]
    exact tot_head a1 _ d
  | ⟨2, _⟩ =>
    rw [store_at v f (h := 3) (R := 0) rfl, dif_neg (by simp)]
    rw [store_at v f (h := 2) (R := 0) rfl, dif_pos ⟨rfl, Nat.zero_le _, by omega⟩]
    exact tot_head a2 _ d
  | ⟨3, _⟩ =>
    rw [store_at v f (h := 3) (R := 0) rfl, dif_pos ⟨rfl, Nat.zero_le _, by omega⟩]
    exact tot_head a3 _ d

section Outs

variable {c : Dev nD} {i : grid0.Coords}
  {arg1 : Memref sig .tc .vmem S4x512x64 .bf16} {harg1 : arg1.IsWhole}
  {arg2 : Memref sig .tc .vmem S4x2048x64 .bf16} {harg2 : arg2.IsWhole}
  {arg3 : Memref sig .tc .vmem S4x2048x64 .bf16} {harg3 : arg3.IsWhole}
  {arg4 : Memref sig .tc .vmem S4x512x64 .f32} {harg4 : arg4.IsWhole}
  {arg5 : Memref sig .tc .vmem S4x512x1 .f32} {harg5 : arg5.IsWhole}
  {x0 : Vec Ideal S4x512x64 .bf16} {x1 x2 : Vec Ideal S4x2048x64 .bf16}

/-- The blocks of the point hold the real arrays. -/
structure InBlk (x0 : Vec Ideal S4x512x64 .bf16) (x1 x2 : Vec Ideal S4x2048x64 .bf16) (Q K V : ℕ → ℕ → ℕ → ℝ) (R : ℕ) : Prop where
  q : IsA x0 (fun h r d => Q h (R + r) d)
  k : IsA x1 K
  v : IsA x2 V

theorem InBlk.ok {R : ℕ} (h : InBlk x0 x1 x2 Q K V R) :
    InOk arg1 arg2 arg3 (harg1.unread x0) (harg2.unread x1) (harg3.unread x2) Q K V R where
  q := by rw [harg1.read_unread]; exact h.q
  k := by rw [harg2.read_unread]; exact h.k
  v := by rw [harg3.read_unread]; exact h.v

theorem run_real {R : ℕ} (hR : R = 512 * (i 0).val) (h : InBlk x0 x1 x2 Q K V R) :
    ∃ acc, CarryOk Q K V R 0 acc ∧ (kernelRun0_A c i arg1 harg1 arg2 harg2 arg3 harg3 arg4 harg4 arg5 harg5 x0 x1 x2).1 = pieces3 acc
      ∧ (kernelRun0_A c i arg1 harg1 arg2 harg2 arg3 harg3 arg4 harg4 arg5 harg5 x0 x1 x2).2.1 = pieces4 acc := by
  obtain ⟨arg0, v12, v13, v15, v55, v61, v101, v107, v147, v153, v159, v163, v165, v166, v204, e3, e4⟩ := run_eq c i arg1 harg1 arg2 harg2 arg3 harg3 arg4 harg4 arg5 harg5 x0 x1 x2
  exact ⟨_, loops_real hR h.ok arg0 v12 v13 v15 v55 v61 v101 v107 v147 v153 v159 v163 v165 v166 v204, e3, e4⟩

theorem outs_real {R : ℕ} (hR : R = 512 * (i 0).val) (h : InBlk x0 x1 x2 Q K V R) :
    IsA (out0_A_3 c i arg1 harg1 arg2 harg2 arg3 harg3 arg4 harg4 arg5 harg5 x0 x1 x2) (fun h r d => attn Q K V h (R + r) d)
    ∧ IsA (out0_A_4 c i arg1 harg1 arg2 harg2 arg3 harg3 arg4 harg4 arg5 harg5 x0 x1 x2) (fun h r _ => tr (Q h) (K h) (R + r)) := by
  obtain ⟨acc, hl, e3, e4⟩ := run_real (c := c) (harg1 := harg1) (harg2 := harg2) (harg3 := harg3) (harg4 := harg4) (harg5 := harg5) hR h
  have h3 := congrArg (fun p => VO0_3.read (Elt Ideal) (VO0_3.writes (Elt Ideal) VO0_3.junk p)) e3
  have h4 := congrArg (fun p => VO0_4.read (Elt Ideal) (VO0_4.writes (Elt Ideal) VO0_4.junk p)) e4
  refine ⟨fun h r d => (congrFun h3 (ix3 h r d)).trans ?_, fun h r d => (congrFun h4 (ix3 h r d)).trans ?_⟩
  · exact pieces3_real hl VO0_3 VO0_3.junk h r d
  · exact pieces4_real hl VO0_4 VO0_4.junk h r d

end Outs

end Cert.Sf

end
-- ==== Proof.ForwardFinal.lean ====
module

public import Idealize.ShloMosaic.Lib.Pipeline.ValueKit.Geometry
public import proofs.«01_k».proof.Proof.Final
public import proofs.«01_k».proof.Proof.ForwardReal
public import proofs.«01_k».proof.Proof.Gen.SbForwardIdeal.Value

/-!
# The two result arrays of the attention's forward pass

The blocks every grid point reads when the arguments are real, and the two arrays after the run.
-/

@[expose] public section

set_option maxRecDepth 16384

noncomputable section

namespace Cert.Sf

open Idealize.ShloMosaic Idealize.ShloMosaic.TcCoe Idealize.ShloMosaic.ValueIdx Cert.SbForwardIdeal Cert.SbForwardIdeal.Gen Finset
open Cert.Sb (Is2 Is3 IsA tr wr asArray packed packed_q packed_k packed_v)
open Cert.Sb.Ref (IsI eighth)
open scoped BigOperators

variable (m : (ℓ : Loc nD τ sig) → Buf (Elt Ideal) ℓ) (c : Dev nD)

theorem V_packed : V m c main_v9 = packed (F := Ideal) (m ((c.tc : Thread nD τ).loc main_arg0)) (m ((c.tc : Thread nD τ).loc main_arg1)) (m ((c.tc : Thread nD τ).loc main_arg2)) := by
  simp only [V, hostOps0]
  after_results_simp <;> rfl

variable {m c} {Q K V' : ℕ → ℕ → ℕ → ℝ}

theorem N0_eq : cfg0.N = 4 := by decide
theorem coord_eq : ∀ t : Fin grid0.N, (grid0.coords t 0).val = t.val := by decide +kernel

theorem ix0_0 (t : Fin cfg0.N) : win0_0.index t 0 = 0 ∧ win0_0.index t 1 = t.val ∧ win0_0.index t 2 = 0 := by
  rcases fin_N0 t with rfl | rfl | rfl | rfl <;> decide
theorem ix0_1 (t : Fin cfg0.N) : win0_1.index t 0 = 1 ∧ win0_1.index t 1 = 0 ∧ win0_1.index t 2 = 0 := by
  rcases fin_N0 t with rfl | rfl | rfl | rfl <;> decide
theorem ix0_2 (t : Fin cfg0.N) : win0_2.index t 0 = 2 ∧ win0_2.index t 1 = 0 ∧ win0_2.index t 2 = 0 := by
  rcases fin_N0 t with rfl | rfl | rfl | rfl <;> decide
theorem ix0_3 (t : Fin cfg0.N) : win0_3.index t 0 = 0 ∧ win0_3.index t 1 = t.val ∧ win0_3.index t 2 = 0 := by
  rcases fin_N0 t with rfl | rfl | rfl | rfl <;> decide
theorem ix0_4 (t : Fin cfg0.N) : win0_4.index t 0 = 0 ∧ win0_4.index t 1 = t.val ∧ win0_4.index t 2 = 0 := by
  rcases fin_N0 t with rfl | rfl | rfl | rfl <;> decide

theorem lt_N (t : Fin cfg0.N) (r : Fin 512) : 512 * t.val + r.val < 2048 := by
  have := lt_of_lt_of_eq t.isLt N0_eq; omega

theorem iblk_0 (t : Fin cfg0.N) (h : Fin 4) (r : Fin 512) (d : Fin 64) :
    (iblk m c 0 t : Vec Ideal S4x512x64 .bf16) (ix3 h r d) = V m c main_v9 (ix3 (⟨h.val, by omega⟩ : Fin 12) (⟨512 * t.val + r.val, lt_N t r⟩ : Fin 2048) d) := by
  have hi := ix0_0 t
  unfold iblk
  rw [View.read_apply]
  show V m c main_v9 _ = _
  congr 1; funext a; apply Fin.ext
  match a with
  | ⟨0, _⟩ => show win0_0.index t 0 * 4 + 1 * h.val = h.val; rw [hi.1]; omega
  | ⟨1, _⟩ => show win0_0.index t 1 * 512 + 1 * r.val = 512 * t.val + r.val; rw [hi.2.1]; omega
  | ⟨2, _⟩ => show win0_0.index t 2 * 64 + 1 * d.val = d.val; rw [hi.2.2]; omega

theorem iblk_1 (t : Fin cfg0.N) (h : Fin 4) (s : Fin 2048) (d : Fin 64) :
    (iblk m c 1 t : Vec Ideal S4x2048x64 .bf16) (ix3 h s d) = V m c main_v9 (ix3 (⟨4 + h.val, by omega⟩ : Fin 12) s d) := by
  have hi := ix0_1 t
  unfold iblk
  rw [View.read_apply]
  show V m c main_v9 _ = _
  congr 1; funext a; apply Fin.ext
  match a with
  | ⟨0, _⟩ => show win0_1.index t 0 * 4 + 1 * h.val = 4 + h.val; rw [hi.1]; omega
  | ⟨1, _⟩ => show win0_1.index t 1 * 2048 + 1 * s.val = s.val; rw [hi.2.1]; omega
  | ⟨2, _⟩ => show win0_1.index t 2 * 64 + 1 * d.val = d.val; rw [hi.2.2]; omega

theorem iblk_2 (t : Fin cfg0.N) (h : Fin 4) (s : Fin 2048) (d : Fin 64) :
    (iblk m c 2 t : Vec Ideal S4x2048x64 .bf16) (ix3 h s d) = V m c main_v9 (ix3 (⟨8 + h.val, by omega⟩ : Fin 12) s d) := by
  have hi := ix0_2 t
  unfold iblk
  rw [View.read_apply]
  show V m c main_v9 _ = _
  congr 1; funext a; apply Fin.ext
  match a with
  | ⟨0, _⟩ => show win0_2.index t 0 * 4 + 1 * h.val = 8 + h.val; rw [hi.1]; omega
  | ⟨1, _⟩ => show win0_2.index t 1 * 2048 + 1 * s.val = s.val; rw [hi.2.1]; omega
  | ⟨2, _⟩ => show win0_2.index t 2 * 64 + 1 * d.val = d.val; rw [hi.2.2]; omega

variable (m c Q K V') in
/-- The blocks of every grid point hold the real arrays. -/
def InAll : Prop := ∀ t : Fin cfg0.N, InBlk (iblk m c 0 t) (iblk m c 1 t) (iblk m c 2 t) Q K V' (512 * t.val)

/-- What every grid point reads. -/
theorem inAll (hq : IsI (m ((c.tc : Thread nD τ).loc main_arg0)) Q) (hk : IsI (m ((c.tc : Thread nD τ).loc main_arg1)) K)
    (hv : IsI (m ((c.tc : Thread nD τ).loc main_arg2)) V') : InAll m c (eighth Q) K V' := fun t =>
  { q := fun g r d => by rw [iblk_0, V_packed]; exact packed_q hq g _ d
    k := fun g s d => by rw [iblk_1, V_packed]; exact packed_k hk g s d
    v := fun g s d => by rw [iblk_2, V_packed]; exact packed_v hv g s d }

/-- What the two outputs hold after a grid point. -/
theorem outs_at (h : InAll m c Q K V') (t : Fin cfg0.N) :
    IsA (outsAt0 m c t).1 (fun h r d => attn Q K V' h (512 * t.val + r) d)
    ∧ IsA (outsAt0 m c t).2 (fun h r _ => tr (Q h) (K h) (512 * t.val + r)) := by
  have e := outs_real (c := c) (i := grid0.coords t) (harg1 := hs0_0 t) (harg2 := hs0_1 t) (harg3 := hs0_2 t) (harg4 := hs0_3 t) (harg5 := hs0_4 t)
    (by rw [coord_eq]) (h t)
  have e3 : (outsAt0 m c t).1 = out0_A_3 c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by simp only [outsAt0]
  have e4 : (outsAt0 m c t).2 = out0_A_4 c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by simp only [outsAt0]
  refine ⟨fun g r d => (congrFun e3 _).trans ?_, fun g r d => (congrFun e4 _).trans ?_⟩
  · exact e.1 g r d
  · exact e.2 g r d

/-- The array of the sums of the logarithms. -/
def asColumn (a : ℕ → ℕ → ℝ) : FVec Ideal S4x2048x1 .f32 := fun i => ((a (i 0).val (i 1).val : ℝ) : EReal)

theorem final3 (h : InAll m c Q K V') :
    (dats m 0 c).arrAt 3 cfg0.N = asArray (attn Q K V') := by
  refine (dats m 0 c).arrAt_eq_of_covers 3 _ (by decide +kernel) fun t hf y => ?_
  have hi := ix0_3 t
  have ho := Cert.Sb.IsA.eq (outs_at h t).1 y
  blk_simp
  rw [after0_3, ho]
  have e0 : (((win0_3.blk t).view.emb y) 0).val = (y 0).val := by
    show win0_3.index t 0 * 4 + 1 * (y 0).val = (y 0).val
    rw [hi.1]; omega
  have e1 : (((win0_3.blk t).view.emb y) 1).val = 512 * t.val + (y 1).val := by
    show win0_3.index t 1 * 512 + 1 * (y 1).val = 512 * t.val + (y 1).val
    rw [hi.2.1]; omega
  have e2 : (((win0_3.blk t).view.emb y) 2).val = (y 2).val := by
    show win0_3.index t 2 * 64 + 1 * (y 2).val = (y 2).val
    rw [hi.2.2]; omega
  unfold asArray
  rw [← e0, ← e1, ← e2]

theorem final4 (h : InAll m c Q K V') :
    (dats m 0 c).arrAt 4 cfg0.N = asColumn (fun h t => tr (Q h) (K h) t) := by
  refine (dats m 0 c).arrAt_eq_of_covers 4 _ (by decide +kernel) fun t hf y => ?_
  have hi := ix0_4 t
  have ho := Cert.Sb.IsA.eq (outs_at h t).2 y
  blk_simp
  rw [after0_4, ho]
  have e0 : (((win0_4.blk t).view.emb y) 0).val = (y 0).val := by
    show win0_4.index t 0 * 4 + 1 * (y 0).val = (y 0).val
    rw [hi.1]; omega
  have e1 : (((win0_4.blk t).view.emb y) 1).val = 512 * t.val + (y 1).val := by
    show win0_4.index t 1 * 512 + 1 * (y 1).val = 512 * t.val + (y 1).val
    rw [hi.2.1]; omega
  have e2 : (((win0_4.blk t).view.emb y) 2).val = (y 2).val := by
    show win0_4.index t 2 * 1 + 1 * (y 2).val = (y 2).val
    rw [hi.2.2]; omega
  unfold asColumn
  rw [← e0, ← e1]

end Cert.Sf

end
-- ==== Proof.ForwardRef.lean ====
module

public import Idealize.ShloMosaic.Lib.ReduceAll
public import proofs.«01_k».proof.Defs
public import proofs.«01_k».proof.Proof.ForwardFinal
public import proofs.«01_k».proof.Proof.Finite
public import proofs.«01_k».proof.Proof.Gen.SbForwardReferenceIdeal.Run

/-!
# The reference of the attention's forward pass, and its precondition

The reference's two results on arrays of real numbers; and the arguments, whose entries are finite, are such arrays.
-/

@[expose] public section

set_option maxRecDepth 16384

noncomputable section

namespace Cert.Sf

open Idealize.ShloMosaic Idealize.ShloMosaic.TcCoe Idealize.ShloMosaic.ValueIdx Cert.SbForwardReferenceIdeal Cert.SbForwardReferenceIdeal.Gen Finset
open Cert.Sb (IsA tr wr asArray coe_sum host_dot sum_fin_mul)
open Cert.Sb.Ref (IsI IsL eighth score weight keep logFail heads)
open scoped BigOperators

section Text

variable {F : FTy → Type} [FloatOps F]

/-- The output of the attention. -/
def refOut (q k v : FVec F S1x2048x4x64 .f32) : FVec F S4x2048x64 .f32 :=
  heads (transpose S1x2048x4x64 [0, 3, 1, 2] (Host.dotGeneral dot_S1x2048x4x64_S1x4x2048x2048_S1x4x64x2048_1_3_3_2_02_01 none
    v (keep (weight (score q k)))) transposes_S1x4x64x2048_S1x2048x4x64_0_3_1_2)

/-- The sums of the logarithms. -/
def refTot (q k : FVec F S1x2048x4x64 .f32) : FVec F S4x2048x1 .f32 :=
  shapeCast S4x2048x1 (broadcastInDim S1x4x2048x1 ![0, 1, 2] bcast_S1x4x2048_S1x4x2048x1_0_1_2
    (Host.reduceAdd (logFail (score q k)) (constant S_ .f32 0x00000000#32) reducesTo_S1x4x2048x2048_S1x4x2048_d3 h_S_)) shapeCasts_S1x4x2048x1_S4x2048x1

theorem res_out (m : (ℓ : Loc nD τ sig) → Buf (Elt F) ℓ) (c : Dev nD) : Value.res_main_v35 m c
    = refOut (m ((c.tc : Thread nD τ).loc main_arg0)) (m ((c.tc : Thread nD τ).loc main_arg1)) (m ((c.tc : Thread nD τ).loc main_arg2)) := by
  unfold Value.res_main_v35; rfl

end Text

variable {q k v : FVec Ideal S1x2048x4x64 .f32} {Q K V : ℕ → ℕ → ℕ → ℝ}

/-- The product of the values and the weights. -/
theorem dotO {w : FVec Ideal S1x4x2048x2048 .f32} {b : ℕ → ℕ → ℕ → ℝ} (hv : IsI v V) (hw : IsL w b) (h : Fin 4) (t : Fin 2048) (d : Fin 64) :
    Host.dotGeneral dot_S1x2048x4x64_S1x4x2048x2048_S1x4x64x2048_1_3_3_2_02_01 none v w (ix4 (0 : Fin 1) h d t)
      = ((∑ j ∈ range 2048, V h j d * b h t j : ℝ) : EReal) := by
  have hr : dot_S1x2048x4x64_S1x4x2048x2048_S1x4x64x2048_1_3_3_2_02_01.contr.rank = 1 := rfl
  have hs : dot_S1x2048x4x64_S1x4x2048x2048_S1x4x64x2048_1_3_3_2_02_01.contr.size ⟨0, by omega⟩ = 2048 := rfl
  rw [host_dot _ 2048 hr hs v w _ (fun j => ix4 (0 : Fin 1) j h d) (fun j => ix4 (0 : Fin 1) h t j)
    (fun j => by
        have hk := contrEquiv1_symm_val _ 2048 hr hs j
        funext a; apply Fin.ext
        match a with
        | ⟨0, _⟩ => rfl
        | ⟨1, _⟩ => exact hk
        | ⟨2, _⟩ => rfl
        | ⟨3, _⟩ => rfl)
    (fun j => by
        have hk := contrEquiv1_symm_val _ 2048 hr hs j
        funext a; apply Fin.ext
        match a with
        | ⟨0, _⟩ => rfl
        | ⟨1, _⟩ => rfl
        | ⟨2, _⟩ => rfl
        | ⟨3, _⟩ => exact hk), ← sum_fin_mul 2048 (fun j => V h j d) (fun j => b h t j)]
  exact Finset.sum_congr rfl fun j _ => by rw [hv j h d, hw h t j]

theorem refOut_real (hq : IsI q Q) (hk : IsI k K) (hv : IsI v V) : IsA (refOut q k v) (attn (eighth Q) K V) := fun h t d => by
  unfold refOut
  rw [Cert.Sb.Ref.heads_apply, transpose_apply [0, 3, 1, 2] _ _ (ix4 (0 : Fin 1) t h d) (ix4 (0 : Fin 1) h d t)
    (fun b => by match b with | ⟨0, _⟩ => rfl | ⟨1, _⟩ => rfl | ⟨2, _⟩ => rfl | ⟨3, _⟩ => rfl),
    dotO hv (Cert.Sb.Ref.keep_weight_real (Cert.Sb.Ref.score_eighth hq hk)) h t d]
  exact congrArg _ (Finset.sum_congr rfl fun j _ => mul_comm _ _)

theorem refTot_real (hq : IsI q Q) (hk : IsI k K) : IsA (refTot q k) (fun h t _ => tr (eighth Q h) (K h) t) := fun h t o => by
  unfold refTot
  rw [shapeCast_apply _ _ (ix3 h t o) (ix4 (0 : Fin 1) h t o) (by
      rw [Shape.rowMajor_val_four, Shape.rowMajor_val_three]
      show ((0 * 4 + h.val) * 2048 + t.val) * 1 + o.val = (h.val * 2048 + t.val) * 1 + o.val
      omega),
    broadcastInDim_apply ![0, 1, 2] bcast_S1x4x2048_S1x4x2048x1_0_1_2 _ (ix4 (0 : Fin 1) h t o) (ix3 (0 : Fin 1) h t)
      (fun a => by match a with | ⟨0, _⟩ => rfl | ⟨1, _⟩ => rfl | ⟨2, _⟩ => rfl)]
  refine (Ideal.hostReduceAdd_single reducesTo_S1x4x2048x2048_S1x4x2048_d3 (by decide) _ _ (ix3 (0 : Fin 1) h t)).trans ?_
  rw [show (constant (F := Ideal) S_ .f32 0x00000000#32 (Shape.Idx.first h_S_)) = 0 from Ideal.ofBits_zero_f32, zero_add]
  show _ = ((∑ s ∈ range 2048, Cert.Sb.lr (eighth Q h.val) (K h.val) t.val s : ℝ) : EReal)
  rw [← Fin.sum_univ_eq_sum_range (fun s => Cert.Sb.lr (eighth Q h) (K h) t s), ← coe_sum]
  refine Finset.sum_congr rfl fun s _ => ?_
  refine Eq.trans (congrArg _ ?_) (Cert.Sb.Ref.logFail_real (Cert.Sb.Ref.score_eighth hq hk) h t s)
  funext a; apply Fin.ext
  match a with
  | ⟨0, _⟩ => rfl
  | ⟨1, _⟩ => rfl
  | ⟨2, _⟩ => rfl
  | ⟨3, _⟩ => rfl

/-! ### The precondition -/

theorem forward_facts : Cert.Pre_finite_forward.Facts where
  bcast_S_S1x2048x4x64 := by decide
  reducesTo_S1x2048x4x64_S_d0_1_2_3 := by decide
  h_S_ := by decide

theorem exists_real_args [hf : Cert.Pre_finite_forward.Facts] (q k v : FVec Ideal Cert.Pre_finite_forward.S1x2048x4x64 .f32)
    (h : Cert.Pre_finite_forward.fn (F := Ideal) q k v = fun _ => 1#1) : (∃ a, IsI q a) ∧ (∃ a, IsI k a) ∧ ∃ a, IsI v a := by
  have e := congrFun h (Shape.Idx.first Cert.Pre_finite_forward.Facts.h_S_)
  obtain ⟨e1, ev⟩ := IntOp.andi_eq_one.1 (show IntOp.andi _ _ = 1#1 from e)
  obtain ⟨eq, ek⟩ := IntOp.andi_eq_one.1 (show IntOp.andi _ _ = 1#1 from e1)
  haveI : Cert.Pre_finite.Facts := Cert.Sb.pre_facts
  exact ⟨Cert.Sb.exists_real_of_all q _ eq, Cert.Sb.exists_real_of_all k _ ek, Cert.Sb.exists_real_of_all v _ ev⟩

end Cert.Sf

end
-- ==== Proof.EqualForward.lean ====
module

public import proofs.«01_k».proof.Defs
public import proofs.«01_k».proof.Proof.ForwardRef
public import Idealize.ShloMosaic.Adequacy
public import Idealize.ShloMosaic.Init

/-!
# The attention's forward pass agrees with its reference
-/

@[expose] public section

set_option maxRecDepth 16384

noncomputable section

namespace Cert.Proof

open Idealize.ShloMosaic Idealize.ShloMosaic.TcCoe Idealize.SL.Sem

/-- The run of the reference of the attention's forward pass ends with the arguments unchanged. -/
theorem frameSf : Cert.quiescent_SbForwardReferenceIdeal := fun m ρ _ =>
  (θ_run Cert.SbForwardReferenceIdeal.defs _ _).mono
    (fun r h => ⟨fun c => (h c).2.2, Idealize.ShloMosaic.sem_eq_zero_of_no_sems (by decide) r.2⟩)
    (Cert.SbForwardReferenceIdeal.Value.run (F := Ideal) m ρ)

section Forward

open Cert.SbForwardIdeal

variable (m : (ℓ : Loc nD τ sig) → Buf (Elt Ideal) ℓ) (c : Dev nD)

/-- The kernel's three arguments. -/
abbrev fq : FVec Ideal Cert.SbForwardReferenceIdeal.S1x2048x4x64 .f32 := m ((c.tc : Thread nD τ).loc main_arg0)
abbrev fk : FVec Ideal Cert.SbForwardReferenceIdeal.S1x2048x4x64 .f32 := m ((c.tc : Thread nD τ).loc main_arg1)
abbrev fv : FVec Ideal Cert.SbForwardReferenceIdeal.S1x2048x4x64 .f32 := m ((c.tc : Thread nD τ).loc main_arg2)

/-- On finite arguments the kernel's two results are the reference's. -/
theorem resultsSf [Cert.Pre_finite_forward.Facts] (h : Cert.Pre_finite_forward.fn (F := Ideal) (fq m c) (fk m c) (fv m c) = fun _ => 1#1) :
    (Gen.dats m 0 c).arrAt 3 cfg0.N = Cert.Sf.refOut (fq m c) (fk m c) (fv m c)
    ∧ (Gen.dats m 0 c).arrAt 4 cfg0.N = Cert.Sf.refTot (fq m c) (fk m c) := by
  obtain ⟨⟨Q, hQ⟩, ⟨K, hK⟩, ⟨V, hV⟩⟩ := Cert.Sf.exists_real_args _ _ _ h
  have hin := Cert.Sf.inAll (m := m) (c := c) hQ hK hV
  refine ⟨(Cert.Sf.final3 hin).trans (funext fun i => ?_), (Cert.Sf.final4 hin).trans (funext fun i => ?_)⟩
  · exact (Cert.Sb.IsA.eq (Cert.Sf.refOut_real hQ hK hV) i).symm
  · exact (Cert.Sb.IsA.eq (Cert.Sf.refTot_real hQ hK) i).symm

end Forward

/-- On finite arguments the attention's forward pass and its reference end with equal results. -/
theorem equalSf [hf : Cert.Pre_finite_forward.Facts] :
    Cert.algebraic_SbForwardIdeal_SbForwardReferenceIdeal_pre_finite_forward (hSbForwardIdeal := Cert.SbForwardIdeal.Gen.facts)
      (hSbForwardReferenceIdeal := Cert.SbForwardReferenceIdeal.Gen.facts) :=
  fun m ρ m' ρ' hpre hag =>
    ⟨fun c => Cert.Sf.refOut (fq m c) (fk m c) (fv m c), fun c => Cert.Sf.refTot (fq m c) (fk m c),
      (θ_run _ _ _).mono (fun r h c => by
        obtain ⟨r0, r1, ha⟩ := h c
        obtain ⟨e0, e1⟩ := resultsSf m c (hpre c)
        exact ⟨r0.trans e0, r1.trans e1, ha⟩) (Cert.SbForwardIdeal.Value.run_blocks m ρ),
      (θ_run _ _ _).mono (fun r h c => by
        obtain ⟨r0, r1, ha⟩ := h c
        obtain ⟨a0, a1, a2⟩ := hag c
        have r1 := r1.trans (show _ = Cert.Sf.refTot (F := Ideal) (m' ((c.tc : Thread _ _).loc Cert.SbForwardReferenceIdeal.main_arg0))
          (m' ((c.tc : Thread _ _).loc Cert.SbForwardReferenceIdeal.main_arg1)) from rfl)
        rw [Cert.Sf.res_out, a0, a1, a2] at r0
        rw [a0, a1] at r1
        exact ⟨r0, r1, ha⟩) (Cert.SbForwardReferenceIdeal.Value.run m' ρ')⟩

end Cert.Proof

end
-- ==== Proof.Branch.lean ====
module

public import Idealize.ShloMosaic.Lib.Pipeline.ValueKit
public import Idealize.ShloMosaic.Lib.Pipeline.ValueKit.Geometry
public import proofs.«01_k».proof.Proof.Gen.BranchSbGradIdeal.Value
public import proofs.«01_k».proof.Proof.Gen.BranchSbGradReferenceIdeal.Run
public import proofs.«01_k».proof.Proof.Gen.BranchDilGradIdeal.Value
public import proofs.«01_k».proof.Proof.Gen.BranchDilGradReferenceIdeal.Run
public import proofs.«01_k».proof.Proof.Gen.BranchSwaGradIdeal.Value
public import proofs.«01_k».proof.Proof.Gen.BranchSwaGradReferenceIdeal.Run
public import proofs.«01_k».proof.Proof.Ffn

/-!
# The gradients of the three branches' weights

Each kernel turns the branch's output and multiplies it with the gradient of the branch's product, in one piece. The reference
multiplies the other way round and turns the result.
-/

@[expose] public section

set_option maxRecDepth 16384

noncomputable section

namespace Cert.Bs

open Idealize.ShloMosaic hiding ix1 ix2
open Idealize.ShloMosaic.TcCoe Idealize.ShloMosaic.ValueIdx Cert.Ffn Cert.BranchSbGradIdeal Cert.BranchSbGradIdeal.Gen Finset
open scoped BigOperators

/-- The weight's gradient at each entry: the sum over positions of activation times incoming gradient. -/
def grad (s : FVec Ideal S2048x256 .f32) (g : FVec Ideal S2048x1024 .f32) : FVec Ideal S256x1024 .bf16 := fun i =>
  ∑ k : Fin 2048, s (ix2 k (i 0)) * g (ix2 k (i 1))

/-- The reference's term is that sum. -/
theorem ref_grad (s : FVec Ideal S2048x256 .f32) (g : FVec Ideal S2048x1024 .f32) (h : Cert.BranchSbGradReferenceIdeal.S1024x256.Transposes [1, 0] Cert.BranchSbGradReferenceIdeal.S256x1024)
    (hb : FTy.bits .bf16 < FTy.bits .f32) :
    truncf .bf16 (transpose Cert.BranchSbGradReferenceIdeal.S256x1024 [1, 0]
      (Host.dotGeneral Cert.BranchSbGradReferenceIdeal.dot_S2048x1024_S2048x256_S1024x256_0_0_1_1_n_n none g s)
      h) hb = grad s g := by
  refine funext fun (i : S256x1024.Idx) => ?_
  refine (transpose_apply _ (Host.dotGeneral Cert.BranchSbGradReferenceIdeal.dot_S2048x1024_S2048x256_S1024x256_0_0_1_1_n_n none g s) h i (ix2 (i 1) (i 0)) (by
    intro a
    match a with
    | ⟨0, _⟩ => rfl
    | ⟨1, _⟩ => rfl)).trans ?_
  refine (Cert.Sb.host_dot Cert.BranchSbGradReferenceIdeal.dot_S2048x1024_S2048x256_S1024x256_0_0_1_1_n_n 2048 rfl rfl g s _
    (fun k => (ix2 k (i 1) : S2048x1024.Idx)) (fun k => (ix2 k (i 0) : S2048x256.Idx)) (fun k => ?_) (fun k => ?_)).trans
    (Finset.sum_congr rfl fun k _ => mul_comm _ _)
  · have hk := contrEquiv1_symm_val Cert.BranchSbGradReferenceIdeal.dot_S2048x1024_S2048x256_S1024x256_0_0_1_1_n_n 2048 rfl rfl k
    funext a; apply Fin.ext
    match a with
    | ⟨0, _⟩ => exact hk
    | ⟨1, _⟩ => rfl
  · have hk := contrEquiv1_symm_val Cert.BranchSbGradReferenceIdeal.dot_S2048x1024_S2048x256_S1024x256_0_0_1_1_n_n 2048 rfl rfl k
    funext a; apply Fin.ext
    match a with
    | ⟨0, _⟩ => exact hk
    | ⟨1, _⟩ => rfl

/-- One block of the kernel's product. -/
theorem pay_apply (x : Vec Ideal S2048x256 .bf16) (y : Vec Ideal S2048x1024 .bf16) (r : Fin 256) (n : Fin 1024) :
    k0_pay2 (k0_pay1 x) y (ix2 r n) = ∑ k : Fin 2048, x (ix2 k r) * y (ix2 k n) := by
  unfold k0_pay2 k0_pay1
  simp only [shapeCast_self]
  show FloatOps.matmul (φ₁ := .bf16) (φ₂ := .bf16) (DotDims.plain 256 2048 1024) none _ (y : FVec Ideal S2048x1024 .bf16) (constant (F := Ideal) ⟨2, ![256, 1024]⟩ .f32 0x00000000#32) (ix2 r n) = _
  rw [Ideal.matmul_plain_apply, show constant (F := Ideal) ⟨2, ![256, 1024]⟩ .f32 0x00000000#32 (ix2 r n) = 0 from Ideal.ofBits_zero_f32, zero_add]
  refine Finset.sum_congr rfl fun k _ => ?_
  rw [transpose_apply (k := ix2 k r) (hk := by
    intro a
    match a with
    | ⟨0, _⟩ => rfl
    | ⟨1, _⟩ => rfl)]

variable (m : (ℓ : Loc nD τ sig) → Buf (Elt Ideal) ℓ) (c : Dev nD)

/-- The activations and the incoming gradient as launched. -/
abbrev act : FVec Ideal S2048x256 .f32 := m ((c.tc : Thread nD τ).loc main_arg0)
abbrev inc : FVec Ideal S2048x1024 .f32 := m ((c.tc : Thread nD τ).loc main_arg1)

theorem V_act : V m c main_v0 = act m c := rfl
theorem V_inc : V m c main_v1 = inc m c := rfl

theorem N0_eq : cfg0.N = 1 := by decide
theorem ix_0 : ∀ t : Fin cfg0.N, win0_0.index t 0 = 0 ∧ win0_0.index t 1 = t.val := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

theorem col_lt (t : Fin cfg0.N) (r : Fin 256) : 256 * t.val + r.val < 256 := by
  have := lt_of_lt_of_eq t.isLt N0_eq; omega

theorem iblk_0 (t : Fin cfg0.N) (k : Fin 2048) (r : Fin 256) :
    (iblk m c 0 t : Vec Ideal S2048x256 .bf16) (ix2 k r) = act m c (ix2 k ⟨256 * t.val + r.val, col_lt t r⟩) := by
  have hi := ix_0 t
  rw [← V_act]
  unfold iblk
  rw [View.read_apply]
  show V m c main_v0 _ = V m c main_v0 _
  congr 1; funext a; apply Fin.ext
  match a with
  | ⟨0, _⟩ => show win0_0.index t 0 * 2048 + 1 * k.val = k.val; rw [hi.1]; omega
  | ⟨1, _⟩ => show win0_0.index t 1 * 256 + 1 * r.val = 256 * t.val + r.val; rw [hi.2]; omega

theorem iblk_1 (t : Fin cfg0.N) (k : Fin 2048) (n : Fin 1024) :
    (iblk m c 1 t : Vec Ideal S2048x1024 .bf16) (ix2 k n) = inc m c (ix2 k n) := by
  have hi := ix_1 t
  rw [← V_inc]
  unfold iblk
  rw [View.read_apply]
  show V m c main_v1 _ = V m c main_v1 _
  congr 1; funext a; apply Fin.ext
  match a with
  | ⟨0, _⟩ => show win0_1.index t 0 * 2048 + 1 * k.val = k.val; rw [hi.1]; omega
  | ⟨1, _⟩ => show win0_1.index t 1 * 1024 + 1 * n.val = n.val; rw [hi.2]; omega

/-- The kernel's result array is the weight's gradient. -/
theorem final : (dats m 0 c).arrAt 2 cfg0.N = grad (act m c) (inc m c) := by
  refine (dats m 0 c).arrAt_eq_of_covers 2 _ (by decide +kernel) fun t hf y => ?_
  have hi := ix_2 t
  blk_simp
  rw [after0_2]
  unfold outsAt0
  frame_out
  obtain ⟨r, n, rfl⟩ := exists_pair y
  have e : ((cfg0.win 2).blk t).view.emb (ix2 r n) = ix2 (⟨256 * t.val + r.val, col_lt t r⟩ : Fin 256) n := by
    funext a; apply Fin.ext
    match a with
    | ⟨0, _⟩ => show win0_2.index t 0 * 256 + 1 * r.val = 256 * t.val + r.val; rw [hi.1]; omega
    | ⟨1, _⟩ => show win0_2.index t 1 * 1024 + 1 * n.val = n.val; rw [hi.2]; omega
  refine (pay_apply _ _ r n).trans (Eq.trans ?_ (congrArg (grad (act m c) (inc m c)) e).symm)
  exact Finset.sum_congr rfl fun k _ => by rw [iblk_0, iblk_1]

end Cert.Bs

namespace Cert.Bd

open Idealize.ShloMosaic hiding ix1 ix2
open Idealize.ShloMosaic.TcCoe Idealize.ShloMosaic.ValueIdx Cert.Ffn Cert.BranchDilGradIdeal Cert.BranchDilGradIdeal.Gen Finset
open scoped BigOperators

/-- The weight's gradient at each entry: the sum over positions of activation times incoming gradient. -/
def grad (s : FVec Ideal S2048x128 .f32) (g : FVec Ideal S2048x1024 .f32) : FVec Ideal S128x1024 .bf16 := fun i =>
  ∑ k : Fin 2048, s (ix2 k (i 0)) * g (ix2 k (i 1))

/-- The reference's term is that sum. -/
theorem ref_grad (s : FVec Ideal S2048x128 .f32) (g : FVec Ideal S2048x1024 .f32) (h : Cert.BranchDilGradReferenceIdeal.S1024x128.Transposes [1, 0] Cert.BranchDilGradReferenceIdeal.S128x1024)
    (hb : FTy.bits .bf16 < FTy.bits .f32) :
    truncf .bf16 (transpose Cert.BranchDilGradReferenceIdeal.S128x1024 [1, 0]
      (Host.dotGeneral Cert.BranchDilGradReferenceIdeal.dot_S2048x1024_S2048x128_S1024x128_0_0_1_1_n_n none g s)
      h) hb = grad s g := by
  refine funext fun (i : S128x1024.Idx) => ?_
  refine (transpose_apply _ (Host.dotGeneral Cert.BranchDilGradReferenceIdeal.dot_S2048x1024_S2048x128_S1024x128_0_0_1_1_n_n none g s) h i (ix2 (i 1) (i 0)) (by
    intro a
    match a with
    | ⟨0, _⟩ => rfl
    | ⟨1, _⟩ => rfl)).trans ?_
  refine (Cert.Sb.host_dot Cert.BranchDilGradReferenceIdeal.dot_S2048x1024_S2048x128_S1024x128_0_0_1_1_n_n 2048 rfl rfl g s _
    (fun k => (ix2 k (i 1) : S2048x1024.Idx)) (fun k => (ix2 k (i 0) : S2048x128.Idx)) (fun k => ?_) (fun k => ?_)).trans
    (Finset.sum_congr rfl fun k _ => mul_comm _ _)
  · have hk := contrEquiv1_symm_val Cert.BranchDilGradReferenceIdeal.dot_S2048x1024_S2048x128_S1024x128_0_0_1_1_n_n 2048 rfl rfl k
    funext a; apply Fin.ext
    match a with
    | ⟨0, _⟩ => exact hk
    | ⟨1, _⟩ => rfl
  · have hk := contrEquiv1_symm_val Cert.BranchDilGradReferenceIdeal.dot_S2048x1024_S2048x128_S1024x128_0_0_1_1_n_n 2048 rfl rfl k
    funext a; apply Fin.ext
    match a with
    | ⟨0, _⟩ => exact hk
    | ⟨1, _⟩ => rfl

/-- One block of the kernel's product. -/
theorem pay_apply (x : Vec Ideal S2048x128 .bf16) (y : Vec Ideal S2048x1024 .bf16) (r : Fin 128) (n : Fin 1024) :
    k0_pay2 (k0_pay1 x) y (ix2 r n) = ∑ k : Fin 2048, x (ix2 k r) * y (ix2 k n) := by
  unfold k0_pay2 k0_pay1
  simp only [shapeCast_self]
  show FloatOps.matmul (φ₁ := .bf16) (φ₂ := .bf16) (DotDims.plain 128 2048 1024) none _ (y : FVec Ideal S2048x1024 .bf16) (constant (F := Ideal) ⟨2, ![128, 1024]⟩ .f32 0x00000000#32) (ix2 r n) = _
  rw [Ideal.matmul_plain_apply, show constant (F := Ideal) ⟨2, ![128, 1024]⟩ .f32 0x00000000#32 (ix2 r n) = 0 from Ideal.ofBits_zero_f32, zero_add]
  refine Finset.sum_congr rfl fun k _ => ?_
  rw [transpose_apply (k := ix2 k r) (hk := by
    intro a
    match a with
    | ⟨0, _⟩ => rfl
    | ⟨1, _⟩ => rfl)]

variable (m : (ℓ : Loc nD τ sig) → Buf (Elt Ideal) ℓ) (c : Dev nD)

/-- The activations and the incoming gradient as launched. -/
abbrev act : FVec Ideal S2048x128 .f32 := m ((c.tc : Thread nD τ).loc main_arg0)
abbrev inc : FVec Ideal S2048x1024 .f32 := m ((c.tc : Thread nD τ).loc main_arg1)

theorem V_act : V m c main_v0 = act m c := rfl
theorem V_inc : V m c main_v1 = inc m c := rfl

theorem N0_eq : cfg0.N = 1 := by decide
theorem ix_0 : ∀ t : Fin cfg0.N, win0_0.index t 0 = 0 ∧ win0_0.index t 1 = t.val := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

theorem col_lt (t : Fin cfg0.N) (r : Fin 128) : 128 * t.val + r.val < 128 := by
  have := lt_of_lt_of_eq t.isLt N0_eq; omega

theorem iblk_0 (t : Fin cfg0.N) (k : Fin 2048) (r : Fin 128) :
    (iblk m c 0 t : Vec Ideal S2048x128 .bf16) (ix2 k r) = act m c (ix2 k ⟨128 * t.val + r.val, col_lt t r⟩) := by
  have hi := ix_0 t
  rw [← V_act]
  unfold iblk
  rw [View.read_apply]
  show V m c main_v0 _ = V m c main_v0 _
  congr 1; funext a; apply Fin.ext
  match a with
  | ⟨0, _⟩ => show win0_0.index t 0 * 2048 + 1 * k.val = k.val; rw [hi.1]; omega
  | ⟨1, _⟩ => show win0_0.index t 1 * 128 + 1 * r.val = 128 * t.val + r.val; rw [hi.2]; omega

theorem iblk_1 (t : Fin cfg0.N) (k : Fin 2048) (n : Fin 1024) :
    (iblk m c 1 t : Vec Ideal S2048x1024 .bf16) (ix2 k n) = inc m c (ix2 k n) := by
  have hi := ix_1 t
  rw [← V_inc]
  unfold iblk
  rw [View.read_apply]
  show V m c main_v1 _ = V m c main_v1 _
  congr 1; funext a; apply Fin.ext
  match a with
  | ⟨0, _⟩ => show win0_1.index t 0 * 2048 + 1 * k.val = k.val; rw [hi.1]; omega
  | ⟨1, _⟩ => show win0_1.index t 1 * 1024 + 1 * n.val = n.val; rw [hi.2]; omega

/-- The kernel's result array is the weight's gradient. -/
theorem final : (dats m 0 c).arrAt 2 cfg0.N = grad (act m c) (inc m c) := by
  refine (dats m 0 c).arrAt_eq_of_covers 2 _ (by decide +kernel) fun t hf y => ?_
  have hi := ix_2 t
  blk_simp
  rw [after0_2]
  unfold outsAt0
  frame_out
  obtain ⟨r, n, rfl⟩ := exists_pair y
  have e : ((cfg0.win 2).blk t).view.emb (ix2 r n) = ix2 (⟨128 * t.val + r.val, col_lt t r⟩ : Fin 128) n := by
    funext a; apply Fin.ext
    match a with
    | ⟨0, _⟩ => show win0_2.index t 0 * 128 + 1 * r.val = 128 * t.val + r.val; rw [hi.1]; omega
    | ⟨1, _⟩ => show win0_2.index t 1 * 1024 + 1 * n.val = n.val; rw [hi.2]; omega
  refine (pay_apply _ _ r n).trans (Eq.trans ?_ (congrArg (grad (act m c) (inc m c)) e).symm)
  exact Finset.sum_congr rfl fun k _ => by rw [iblk_0, iblk_1]

end Cert.Bd

namespace Cert.Bw

open Idealize.ShloMosaic hiding ix1 ix2
open Idealize.ShloMosaic.TcCoe Idealize.ShloMosaic.ValueIdx Cert.Ffn Cert.BranchSwaGradIdeal Cert.BranchSwaGradIdeal.Gen Finset
open scoped BigOperators

/-- The weight's gradient at each entry: the sum over positions of activation times incoming gradient. -/
def grad (s : FVec Ideal S2048x384 .f32) (g : FVec Ideal S2048x1024 .f32) : FVec Ideal S384x1024 .bf16 := fun i =>
  ∑ k : Fin 2048, s (ix2 k (i 0)) * g (ix2 k (i 1))

/-- The reference's term is that sum. -/
theorem ref_grad (s : FVec Ideal S2048x384 .f32) (g : FVec Ideal S2048x1024 .f32) (h : Cert.BranchSwaGradReferenceIdeal.S1024x384.Transposes [1, 0] Cert.BranchSwaGradReferenceIdeal.S384x1024)
    (hb : FTy.bits .bf16 < FTy.bits .f32) :
    truncf .bf16 (transpose Cert.BranchSwaGradReferenceIdeal.S384x1024 [1, 0]
      (Host.dotGeneral Cert.BranchSwaGradReferenceIdeal.dot_S2048x1024_S2048x384_S1024x384_0_0_1_1_n_n none g s)
      h) hb = grad s g := by
  refine funext fun (i : S384x1024.Idx) => ?_
  refine (transpose_apply _ (Host.dotGeneral Cert.BranchSwaGradReferenceIdeal.dot_S2048x1024_S2048x384_S1024x384_0_0_1_1_n_n none g s) h i (ix2 (i 1) (i 0)) (by
    intro a
    match a with
    | ⟨0, _⟩ => rfl
    | ⟨1, _⟩ => rfl)).trans ?_
  refine (Cert.Sb.host_dot Cert.BranchSwaGradReferenceIdeal.dot_S2048x1024_S2048x384_S1024x384_0_0_1_1_n_n 2048 rfl rfl g s _
    (fun k => (ix2 k (i 1) : S2048x1024.Idx)) (fun k => (ix2 k (i 0) : S2048x384.Idx)) (fun k => ?_) (fun k => ?_)).trans
    (Finset.sum_congr rfl fun k _ => mul_comm _ _)
  · have hk := contrEquiv1_symm_val Cert.BranchSwaGradReferenceIdeal.dot_S2048x1024_S2048x384_S1024x384_0_0_1_1_n_n 2048 rfl rfl k
    funext a; apply Fin.ext
    match a with
    | ⟨0, _⟩ => exact hk
    | ⟨1, _⟩ => rfl
  · have hk := contrEquiv1_symm_val Cert.BranchSwaGradReferenceIdeal.dot_S2048x1024_S2048x384_S1024x384_0_0_1_1_n_n 2048 rfl rfl k
    funext a; apply Fin.ext
    match a with
    | ⟨0, _⟩ => exact hk
    | ⟨1, _⟩ => rfl

/-- One block of the kernel's product. -/
theorem pay_apply (x : Vec Ideal S2048x384 .bf16) (y : Vec Ideal S2048x1024 .bf16) (r : Fin 384) (n : Fin 1024) :
    k0_pay2 (k0_pay1 x) y (ix2 r n) = ∑ k : Fin 2048, x (ix2 k r) * y (ix2 k n) := by
  unfold k0_pay2 k0_pay1
  simp only [shapeCast_self]
  show FloatOps.matmul (φ₁ := .bf16) (φ₂ := .bf16) (DotDims.plain 384 2048 1024) none _ (y : FVec Ideal S2048x1024 .bf16) (constant (F := Ideal) ⟨2, ![384, 1024]⟩ .f32 0x00000000#32) (ix2 r n) = _
  rw [Ideal.matmul_plain_apply, show constant (F := Ideal) ⟨2, ![384, 1024]⟩ .f32 0x00000000#32 (ix2 r n) = 0 from Ideal.ofBits_zero_f32, zero_add]
  refine Finset.sum_congr rfl fun k _ => ?_
  rw [transpose_apply (k := ix2 k r) (hk := by
    intro a
    match a with
    | ⟨0, _⟩ => rfl
    | ⟨1, _⟩ => rfl)]

variable (m : (ℓ : Loc nD τ sig) → Buf (Elt Ideal) ℓ) (c : Dev nD)

/-- The activations and the incoming gradient as launched. -/
abbrev act : FVec Ideal S2048x384 .f32 := m ((c.tc : Thread nD τ).loc main_arg0)
abbrev inc : FVec Ideal S2048x1024 .f32 := m ((c.tc : Thread nD τ).loc main_arg1)

theorem V_act : V m c main_v0 = act m c := rfl
theorem V_inc : V m c main_v1 = inc m c := rfl

theorem N0_eq : cfg0.N = 1 := by decide
theorem ix_0 : ∀ t : Fin cfg0.N, win0_0.index t 0 = 0 ∧ win0_0.index t 1 = t.val := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

theorem col_lt (t : Fin cfg0.N) (r : Fin 384) : 384 * t.val + r.val < 384 := by
  have := lt_of_lt_of_eq t.isLt N0_eq; omega

theorem iblk_0 (t : Fin cfg0.N) (k : Fin 2048) (r : Fin 384) :
    (iblk m c 0 t : Vec Ideal S2048x384 .bf16) (ix2 k r) = act m c (ix2 k ⟨384 * t.val + r.val, col_lt t r⟩) := by
  have hi := ix_0 t
  rw [← V_act]
  unfold iblk
  rw [View.read_apply]
  show V m c main_v0 _ = V m c main_v0 _
  congr 1; funext a; apply Fin.ext
  match a with
  | ⟨0, _⟩ => show win0_0.index t 0 * 2048 + 1 * k.val = k.val; rw [hi.1]; omega
  | ⟨1, _⟩ => show win0_0.index t 1 * 384 + 1 * r.val = 384 * t.val + r.val; rw [hi.2]; omega

theorem iblk_1 (t : Fin cfg0.N) (k : Fin 2048) (n : Fin 1024) :
    (iblk m c 1 t : Vec Ideal S2048x1024 .bf16) (ix2 k n) = inc m c (ix2 k n) := by
  have hi := ix_1 t
  rw [← V_inc]
  unfold iblk
  rw [View.read_apply]
  show V m c main_v1 _ = V m c main_v1 _
  congr 1; funext a; apply Fin.ext
  match a with
  | ⟨0, _⟩ => show win0_1.index t 0 * 2048 + 1 * k.val = k.val; rw [hi.1]; omega
  | ⟨1, _⟩ => show win0_1.index t 1 * 1024 + 1 * n.val = n.val; rw [hi.2]; omega

/-- The kernel's result array is the weight's gradient. -/
theorem final : (dats m 0 c).arrAt 2 cfg0.N = grad (act m c) (inc m c) := by
  refine (dats m 0 c).arrAt_eq_of_covers 2 _ (by decide +kernel) fun t hf y => ?_
  have hi := ix_2 t
  blk_simp
  rw [after0_2]
  unfold outsAt0
  frame_out
  obtain ⟨r, n, rfl⟩ := exists_pair y
  have e : ((cfg0.win 2).blk t).view.emb (ix2 r n) = ix2 (⟨384 * t.val + r.val, col_lt t r⟩ : Fin 384) n := by
    funext a; apply Fin.ext
    match a with
    | ⟨0, _⟩ => show win0_2.index t 0 * 384 + 1 * r.val = 384 * t.val + r.val; rw [hi.1]; omega
    | ⟨1, _⟩ => show win0_2.index t 1 * 1024 + 1 * n.val = n.val; rw [hi.2]; omega
  refine (pay_apply _ _ r n).trans (Eq.trans ?_ (congrArg (grad (act m c) (inc m c)) e).symm)
  exact Finset.sum_congr rfl fun k _ => by rw [iblk_0, iblk_1]

end Cert.Bw

end
-- ==== Proof.Branches.lean ====
module

public import Idealize.ShloMosaic.Lib.Pipeline.ValueKit
public import proofs.«01_k».proof.Proof.Ffn

/-!
# What the two calls on the gated branches share

Three branches' outputs are each multiplied with a weight and with the logistic function of a third of the gates' columns. The
definitions hold for any number of rows, so that a tile and the whole array are read by the same ones.
-/

@[expose] public section

set_option maxRecDepth 16384

noncomputable section

namespace Cert.Ffn

open Idealize.ShloMosaic hiding ix1 ix2 ix3
open Idealize.ShloMosaic.ValueIdx Finset
open scoped BigOperators

/-- Rows times columns: the entry of a product. -/
def dotCols {A B K : ℕ} (x : (⟨2, ![A, K]⟩ : Shape).Idx → EReal) (w : (⟨2, ![K, B]⟩ : Shape).Idx → EReal) (r : Fin A) (n : Fin B) : EReal :=
  ∑ k : Fin K, x (ix2 r k) * w (ix2 k n)

/-- The matrix unit's product started at zero. -/
theorem unit_dotCols {A B K : ℕ} {φ ψ : FTy} (x : FVec Ideal ⟨2, ![A, K]⟩ φ) (w : FVec Ideal ⟨2, ![K, B]⟩ ψ) (r : Fin A) (n : Fin B) :
    FloatOps.matmul (DotDims.plain A K B) none x w (constant ⟨2, ![A, B]⟩ .f32 0x00000000#32) (ix2 r n) = dotCols x w r n := by
  rw [Ideal.matmul_plain_apply, show constant (F := Ideal) ⟨2, ![A, B]⟩ .f32 0x00000000#32 (ix2 r n) = 0 from Ideal.ofBits_zero_f32, zero_add]
  rfl

/-- The host's products. -/
theorem host_dotCols {A B K : ℕ} (x : FVec Ideal ⟨2, ![A, K]⟩ .f32) (w : FVec Ideal ⟨2, ![K, B]⟩ .f32) (r : Fin A) (n : Fin B) :
    Host.dotGeneral (DotDims.plain A K B) none x w (ix2 r n) = dotCols x w r n := by
  refine Cert.Sb.host_dot (DotDims.plain A K B) K rfl rfl x w _ (fun k => ix2 r k) (fun k => ix2 k n) (fun k => ?_) (fun k => ?_)
  · have hk := contrEquiv1_symm_val (DotDims.plain A K B) K rfl rfl k
    funext a; apply Fin.ext
    match a with
    | ⟨0, _⟩ => rfl
    | ⟨1, _⟩ => exact hk
  · have hk := contrEquiv1_symm_val (DotDims.plain A K B) K rfl rfl k
    funext a; apply Fin.ext
    match a with
    | ⟨0, _⟩ => exact hk
    | ⟨1, _⟩ => rfl

theorem host_dotRows {A B K : ℕ} (x : FVec Ideal ⟨2, ![A, K]⟩ .f32) (w : FVec Ideal ⟨2, ![B, K]⟩ .f32) (r : Fin A) (n : Fin B) :
    Host.dotGeneral (DotDims.transposedRhs A K B) none x w (ix2 r n) = dotRows x w r n := by
  refine Cert.Sb.host_dot (DotDims.transposedRhs A K B) K rfl rfl x w _ (fun k => ix2 r k) (fun k => ix2 n k) (fun k => ?_) (fun k => ?_)
  all_goals
    have hk := contrEquiv1_symm_val (DotDims.transposedRhs A K B) K rfl rfl k
    funext a; apply Fin.ext
    match a with
    | ⟨0, _⟩ => rfl
    | ⟨1, _⟩ => exact hk

/-- A load of a whole array reads it. -/
theorem idx_whole {A B : ℕ} (h : ∀ a, (![0, 0] : Fin 2 → ℕ) a + (⟨2, ![A, B]⟩ : Shape).size a ≤ (⟨2, ![A, B]⟩ : Shape).size a) (r : Fin A) (n : Fin B) :
    (Rect.unit (s := ⟨2, ![A, B]⟩) ![0, 0] ![A, B] h).idx (ix2 r n) = ix2 r n := by
  funext a; apply Fin.ext
  match a with
  | ⟨0, _⟩ => show 0 + 1 * r.val = r.val; omega
  | ⟨1, _⟩ => show 0 + 1 * n.val = n.val; omega

theorem ld_whole {A B : ℕ} {φ : EltTy} (x : Vec Ideal ⟨2, ![A, B]⟩ φ)
    (h : ∀ a, (![0, 0] : Fin 2 → ℕ) a + (⟨2, ![A, B]⟩ : Shape).size a ≤ (⟨2, ![A, B]⟩ : Shape).size a) :
    View.ld x (Rect.unit (s := ⟨2, ![A, B]⟩) ![0, 0] ![A, B] h) = x := by
  funext y
  obtain ⟨r, n, rfl⟩ := exists_pair y
  exact congrArg x (idx_whole h r n)

/-- Column `n` of branch `b`'s gates. -/
def col (b : Fin 3) (n : Fin 1024) : Fin 3072 := ⟨1024 * b.val + n.val, by omega⟩

theorem col_cases (j : Fin 3072) : (∃ n, j = col 0 n) ∨ (∃ n, j = col 1 n) ∨ ∃ n, j = col 2 n := by
  by_cases h : j.val < 1024
  · exact Or.inl ⟨⟨j.val, h⟩, Fin.ext (by show j.val = 1024 * 0 + j.val; omega)⟩
  · by_cases h' : j.val < 2048
    · exact Or.inr (Or.inl ⟨⟨j.val - 1024, by omega⟩, Fin.ext (by show j.val = 1024 * 1 + (j.val - 1024); omega)⟩)
    · exact Or.inr (Or.inr ⟨⟨j.val - 2048, by omega⟩, Fin.ext (by show j.val = 1024 * 2 + (j.val - 2048); omega)⟩)

/-- The column that a head's lane is. -/
def lane {H N : ℕ} (e : N = 64 * H) (h : Fin H) (d : Fin 64) : Fin N := ⟨64 * h.val + d.val, by omega⟩

/-- A branch's gate. -/
def gate {A : ℕ} (g : (⟨2, ![A, 3072]⟩ : Shape).Idx → EReal) (b : Fin 3) (r : Fin A) (n : Fin 1024) : EReal := lgs (g (ix2 r (col b n)))

/-- The gradient of a branch's product. -/
def dbr {A : ℕ} (d : (⟨2, ![A, 1024]⟩ : Shape).Idx → EReal) (g : (⟨2, ![A, 3072]⟩ : Shape).Idx → EReal) (b : Fin 3) (r : Fin A) (n : Fin 1024) : EReal :=
  d (ix2 r n) * gate g b r n

/-- The gradient of a branch's output. -/
def dout {A K : ℕ} (d : (⟨2, ![A, 1024]⟩ : Shape).Idx → EReal) (g : (⟨2, ![A, 3072]⟩ : Shape).Idx → EReal) (w : (⟨2, ![K, 1024]⟩ : Shape).Idx → EReal)
    (b : Fin 3) (r : Fin A) (n : Fin K) : EReal := ∑ k : Fin 1024, dbr d g b r k * w (ix2 n k)

/-- The gradient of a branch's gates before the logistic function. -/
def dgate {A K : ℕ} (d : (⟨2, ![A, 1024]⟩ : Shape).Idx → EReal) (t : (⟨2, ![A, K]⟩ : Shape).Idx → EReal) (w : (⟨2, ![K, 1024]⟩ : Shape).Idx → EReal)
    (g : (⟨2, ![A, 3072]⟩ : Shape).Idx → EReal) (b : Fin 3) (r : Fin A) (n : Fin 1024) : EReal :=
  d (ix2 r n) * dotCols t w r n * (gate g b r n * (1 - gate g b r n))

/-- The gradients of all three branches' gates, side by side. -/
def dgates {A K L M : ℕ} (d : (⟨2, ![A, 1024]⟩ : Shape).Idx → EReal) (s : (⟨2, ![A, K]⟩ : Shape).Idx → EReal) (l : (⟨2, ![A, L]⟩ : Shape).Idx → EReal)
    (w : (⟨2, ![A, M]⟩ : Shape).Idx → EReal) (g : (⟨2, ![A, 3072]⟩ : Shape).Idx → EReal) (ws : (⟨2, ![K, 1024]⟩ : Shape).Idx → EReal)
    (wl : (⟨2, ![L, 1024]⟩ : Shape).Idx → EReal) (ww : (⟨2, ![M, 1024]⟩ : Shape).Idx → EReal) (r : Fin A) (j : Fin 3072) : EReal :=
  if j.val < 1024 then dgate d s ws g 0 r ⟨j.val % 1024, by omega⟩
  else if j.val < 2048 then dgate d l wl g 1 r ⟨j.val % 1024, by omega⟩
  else dgate d w ww g 2 r ⟨j.val % 1024, by omega⟩

section Columns

variable {A K L M : ℕ} (d : (⟨2, ![A, 1024]⟩ : Shape).Idx → EReal) (s : (⟨2, ![A, K]⟩ : Shape).Idx → EReal) (l : (⟨2, ![A, L]⟩ : Shape).Idx → EReal)
  (w : (⟨2, ![A, M]⟩ : Shape).Idx → EReal) (g : (⟨2, ![A, 3072]⟩ : Shape).Idx → EReal) (ws : (⟨2, ![K, 1024]⟩ : Shape).Idx → EReal)
  (wl : (⟨2, ![L, 1024]⟩ : Shape).Idx → EReal) (ww : (⟨2, ![M, 1024]⟩ : Shape).Idx → EReal) (r : Fin A) (n : Fin 1024)

theorem dgates_0 : dgates d s l w g ws wl ww r (col 0 n) = dgate d s ws g 0 r n := by
  have e : (col 0 n).val = n.val := by show 1024 * 0 + n.val = n.val; omega
  unfold dgates
  rw [if_pos (by omega)]
  exact congrArg (dgate d s ws g 0 r) (Fin.ext (by show (col 0 n).val % 1024 = n.val; omega))

theorem dgates_1 : dgates d s l w g ws wl ww r (col 1 n) = dgate d l wl g 1 r n := by
  have e : (col 1 n).val = 1024 + n.val := by show 1024 * 1 + n.val = 1024 + n.val; omega
  unfold dgates
  rw [if_neg (by omega), if_pos (by omega)]
  exact congrArg (dgate d l wl g 1 r) (Fin.ext (by show (col 1 n).val % 1024 = n.val; omega))

theorem dgates_2 : dgates d s l w g ws wl ww r (col 2 n) = dgate d w ww g 2 r n := by
  have e : (col 2 n).val = 2048 + n.val := by show 1024 * 2 + n.val = 2048 + n.val; omega
  unfold dgates
  rw [if_neg (by omega), if_neg (by omega)]
  exact congrArg (dgate d w ww g 2 r) (Fin.ext (by show (col 2 n).val % 1024 = n.val; omega))

end Columns

section Rows

variable {A B K L M : ℕ} (f : Fin B → Fin A) {d : (⟨2, ![A, 1024]⟩ : Shape).Idx → EReal} {d' : (⟨2, ![B, 1024]⟩ : Shape).Idx → EReal}
  {s : (⟨2, ![A, K]⟩ : Shape).Idx → EReal} {s' : (⟨2, ![B, K]⟩ : Shape).Idx → EReal} {l : (⟨2, ![A, L]⟩ : Shape).Idx → EReal} {l' : (⟨2, ![B, L]⟩ : Shape).Idx → EReal}
  {w : (⟨2, ![A, M]⟩ : Shape).Idx → EReal} {w' : (⟨2, ![B, M]⟩ : Shape).Idx → EReal} {g : (⟨2, ![A, 3072]⟩ : Shape).Idx → EReal} {g' : (⟨2, ![B, 3072]⟩ : Shape).Idx → EReal}
  {ws ws' : (⟨2, ![K, 1024]⟩ : Shape).Idx → EReal} {wl wl' : (⟨2, ![L, 1024]⟩ : Shape).Idx → EReal} {ww ww' : (⟨2, ![M, 1024]⟩ : Shape).Idx → EReal}
  (hd : ∀ r n, d' (ix2 r n) = d (ix2 (f r) n)) (hg : ∀ r n, g' (ix2 r n) = g (ix2 (f r) n)) (hs : ∀ r n, s' (ix2 r n) = s (ix2 (f r) n))
  (hws : ∀ r n, ws' (ix2 r n) = ws (ix2 r n)) (hl : ∀ r n, l' (ix2 r n) = l (ix2 (f r) n)) (hwl : ∀ r n, wl' (ix2 r n) = wl (ix2 r n))
  (hw : ∀ r n, w' (ix2 r n) = w (ix2 (f r) n)) (hww : ∀ r n, ww' (ix2 r n) = ww (ix2 r n))
include hd hg

/-- The definitions on some of the rows are those on all of them, read at these rows. -/
theorem dbr_rows (b : Fin 3) (r : Fin B) (n : Fin 1024) : dbr d' g' b r n = dbr d g b (f r) n := by
  unfold dbr gate
  rw [hd, hg]

include hws in
theorem dout_rows (b : Fin 3) (r : Fin B) (n : Fin K) : dout d' g' ws' b r n = dout d g ws b (f r) n :=
  Finset.sum_congr rfl fun k _ => by rw [dbr_rows f hd hg, hws]

include hs hws in
theorem dgate_rows (b : Fin 3) (r : Fin B) (n : Fin 1024) : dgate d' s' ws' g' b r n = dgate d s ws g b (f r) n := by
  have e : dotCols s' ws' r n = dotCols s ws (f r) n := Finset.sum_congr rfl fun k _ => by rw [hs, hws]
  unfold dgate gate
  rw [hd, hg, e]

include hs hws hl hwl hw hww in
theorem dgates_rows (r : Fin B) (j : Fin 3072) : dgates d' s' l' w' g' ws' wl' ww' r j = dgates d s l w g ws wl ww (f r) j := by
  unfold dgates
  rw [dgate_rows f hd hg hs hws, dgate_rows f hd hg hl hwl, dgate_rows f hd hg hw hww]

end Rows

end Cert.Ffn

end
-- ==== Proof.MergeGrad.lean ====
module

public import Idealize.ShloMosaic.Lib.Pipeline.ValueKit
public import Idealize.ShloMosaic.Lib.Pipeline.ValueKit.Geometry
public import proofs.«01_k».proof.Proof.Gen.MergeGradIdeal.Value
public import proofs.«01_k».proof.Proof.Gen.MergeGradReferenceIdeal.Run
public import proofs.«01_k».proof.Proof.Branches

/-!
# The gradient through the gated sum of the three branches

The kernel takes 256 rows at a time: it multiplies each branch's output with its weight, multiplies with the gate and its
derivative, and multiplies back with the turned weight. The reference does the same with whole arrays.
-/

@[expose] public section

set_option maxRecDepth 16384

noncomputable section

namespace Cert.Mb

open Idealize.ShloMosaic hiding ix1 ix2 ix3
open Idealize.ShloMosaic.TcCoe Idealize.ShloMosaic.ValueIdx Cert.Ffn Finset
open scoped BigOperators

/-! ### What the results are -/

section Results

open Cert.MergeGradIdeal

/-- The gradient of a branch's product as an array. -/
def dbrs (d : FVec Ideal S2048x1024 .f32) (g : FVec Ideal S2048x3072 .f32) (b : Fin 3) : FVec Ideal S2048x1024 .bf16 := fun i =>
  dbr d g b (i 0) (i 1)

/-- The gradient of the gates as an array. -/
def dgs (d : FVec Ideal S2048x1024 .f32) (s : FVec Ideal S2048x256 .f32) (l : FVec Ideal S2048x128 .f32) (w : FVec Ideal S2048x384 .f32)
    (g : FVec Ideal S2048x3072 .f32) (ws : FVec Ideal S256x1024 .f32) (wl : FVec Ideal S128x1024 .f32) (ww : FVec Ideal S384x1024 .f32) :
    FVec Ideal S2048x3072 .bf16 := fun i => dgates d s l w g ws wl ww (i 0) (i 1)

/-- The gradients of the branches' outputs as arrays; those of the first and the third are laid out by heads. -/
def dsb (d : FVec Ideal S2048x1024 .f32) (g : FVec Ideal S2048x3072 .f32) (w : FVec Ideal S256x1024 .f32) : FVec Ideal S4x2048x64 .f32 := fun i =>
  dout d g w 0 (i 1) (lane (H := 4) (N := 256) rfl (i 0) (i 2))
def ddil (d : FVec Ideal S2048x1024 .f32) (g : FVec Ideal S2048x3072 .f32) (w : FVec Ideal S128x1024 .f32) : FVec Ideal S2048x128 .f32 := fun i =>
  dout d g w 1 (i 0) (i 1)
def dswa (d : FVec Ideal S2048x1024 .f32) (g : FVec Ideal S2048x3072 .f32) (w : FVec Ideal S384x1024 .f32) : FVec Ideal S6x2048x64 .f32 := fun i =>
  dout d g w 2 (i 1) (lane (H := 6) (N := 384) rfl (i 0) (i 2))

end Results

section Reference

open Cert.MergeGradReferenceIdeal

/-- The host's logistic function of an array. -/
abbrev sg (x : FVec Ideal S2048x1024 .f32) (hc : S_.BroadcastsInDim S2048x1024 ![]) : FVec Ideal S2048x1024 .f32 :=
  Host.divf (broadcastInDim S2048x1024 ![] hc (constant (F := Ideal) S_ .f32 0x3F800000#32))
    (addf (broadcastInDim S2048x1024 ![] hc (constant (F := Ideal) S_ .f32 0x3F800000#32)) (Host.exp (Host.negf x)))

theorem sg_apply (x : FVec Ideal S2048x1024 .f32) (hc : S_.BroadcastsInDim S2048x1024 ![]) (i : S2048x1024.Idx) : sg x hc i = lgs (x i) := by
  rw [← host_lgs]; rfl

/-- One less the logistic function. -/
theorem co_apply (x : FVec Ideal S2048x1024 .f32) (hc : S_.BroadcastsInDim S2048x1024 ![]) (i : S2048x1024.Idx) :
    subf (broadcastInDim S2048x1024 ![] hc (constant (F := Ideal) S_ .f32 0x3F800000#32)) (sg x hc) i = 1 - lgs (x i) := by
  rw [← sg_apply x hc, ← Ideal.ofBits_one_f32]; rfl

theorem gate_sb (g : FVec Ideal S2048x3072 .f32) (hs : S2048x3072.Slices ![0, 0] S2048x1024) (r : Fin 2048) (n : Fin 1024) :
    extractStridedSlice S2048x1024 ![0, 0] g hs (ix2 r n) = g (ix2 r (col 0 n)) :=
  extractStridedSlice_apply _ g hs _ (ix2 r (col 0 n)) (fun a => match a with
    | ⟨0, _⟩ => (Nat.zero_add _).symm
    | ⟨1, _⟩ => rfl)

theorem ref_dbr_sb (d : FVec Ideal S2048x1024 .f32) (g : FVec Ideal S2048x3072 .f32) (hs : S2048x3072.Slices ![0, 0] S2048x1024)
    (hc : S_.BroadcastsInDim S2048x1024 ![]) (h1 : S2048x1024.ShapeCasts S2048x1024) (r : Fin 2048) (n : Fin 1024) :
    mulf (sg (extractStridedSlice S2048x1024 ![0, 0] g hs) hc) (shapeCast S2048x1024 d h1) (ix2 r n) = dbr d g 0 r n := by
  rw [shapeCast_self]
  show sg _ hc (ix2 r n) * d (ix2 r n) = _
  rw [sg_apply, gate_sb, mul_comm]
  rfl

theorem ref_dbrs_sb (d : FVec Ideal S2048x1024 .f32) (g : FVec Ideal S2048x3072 .f32) (hs : S2048x3072.Slices ![0, 0] S2048x1024)
    (hc : S_.BroadcastsInDim S2048x1024 ![]) (h1 : S2048x1024.ShapeCasts S2048x1024) (hb : FTy.bits .bf16 < FTy.bits .f32) :
    truncf .bf16 (mulf (sg (extractStridedSlice S2048x1024 ![0, 0] g hs) hc) (shapeCast S2048x1024 d h1)) hb = dbrs d g 0 := by
  refine funext fun i => ?_
  obtain ⟨r, n, rfl⟩ := exists_pair i
  exact ref_dbr_sb d g hs hc h1 r n

theorem ref_prod_sb (t : FVec Ideal S2048x256 .f32) (w : FVec Ideal S256x1024 .f32) (r : Fin 2048) (n : Fin 1024) :
    Host.dotGeneral dot_S2048x256_S256x1024_S2048x1024_1_0_0_1_n_n none t w (ix2 r n) = dotCols t w r n := host_dotCols t w r n

theorem ref_back_sb (x : FVec Ideal S2048x1024 .f32) (w : FVec Ideal S256x1024 .f32) (r : Fin 2048) (n : Fin 256) :
    Host.dotGeneral dot_S2048x1024_S256x1024_S2048x256_1_1_0_0_n_n none x w (ix2 r n) = dotRows x w r n := host_dotRows x w r n

theorem ref_dout_sb (d : FVec Ideal S2048x1024 .f32) (g : FVec Ideal S2048x3072 .f32) (w : FVec Ideal S256x1024 .f32) (hs : S2048x3072.Slices ![0, 0] S2048x1024)
    (hc : S_.BroadcastsInDim S2048x1024 ![]) (h1 : S2048x1024.ShapeCasts S2048x1024) (r : Fin 2048) (n : Fin 256) :
    Host.dotGeneral dot_S2048x1024_S256x1024_S2048x256_1_1_0_0_n_n none
      (mulf (sg (extractStridedSlice S2048x1024 ![0, 0] g hs) hc) (shapeCast S2048x1024 d h1)) w (ix2 r n) = dout d g w 0 r n :=
  (ref_back_sb _ w r n).trans (Finset.sum_congr rfl fun k _ => congrArg (· * w (ix2 n k)) (ref_dbr_sb d g hs hc h1 r k))

theorem ref_dgate_sb (d : FVec Ideal S2048x1024 .f32) (t : FVec Ideal S2048x256 .f32) (w : FVec Ideal S256x1024 .f32) (g : FVec Ideal S2048x3072 .f32)
    (hs : S2048x3072.Slices ![0, 0] S2048x1024) (hc : S_.BroadcastsInDim S2048x1024 ![]) (h1 : S2048x1024.ShapeCasts S2048x1024) (r : Fin 2048) (n : Fin 1024) :
    mulf (mulf (shapeCast S2048x1024 d h1) (Host.dotGeneral dot_S2048x256_S256x1024_S2048x1024_1_0_0_1_n_n none t w))
      (mulf (sg (extractStridedSlice S2048x1024 ![0, 0] g hs) hc) (subf (broadcastInDim S2048x1024 ![] hc (constant (F := Ideal) S_ .f32 0x3F800000#32))
        (sg (extractStridedSlice S2048x1024 ![0, 0] g hs) hc))) (ix2 r n) = dgate d t w g 0 r n := by
  rw [shapeCast_self]
  show d (ix2 r n) * Host.dotGeneral dot_S2048x256_S256x1024_S2048x1024_1_0_0_1_n_n none t w (ix2 r n)
    * (sg _ hc (ix2 r n) * subf (broadcastInDim S2048x1024 ![] hc (constant (F := Ideal) S_ .f32 0x3F800000#32)) (sg _ hc) (ix2 r n)) = _
  rw [co_apply, sg_apply, gate_sb, ref_prod_sb]
  rfl

theorem ref_dsb (d : FVec Ideal S2048x1024 .f32) (g : FVec Ideal S2048x3072 .f32) (w : FVec Ideal S256x1024 .f32) (hs : S2048x3072.Slices ![0, 0] S2048x1024)
    (hc : S_.BroadcastsInDim S2048x1024 ![]) (h1 : S2048x1024.ShapeCasts S2048x1024) (h2 : S2048x256.ShapeCasts S2048x4x64)
    (h3 : S2048x4x64.Transposes [1, 0, 2] S4x2048x64) :
    transpose S4x2048x64 [1, 0, 2] (shapeCast S2048x4x64 (Host.dotGeneral dot_S2048x1024_S256x1024_S2048x256_1_1_0_0_n_n none
      (mulf (sg (extractStridedSlice S2048x1024 ![0, 0] g hs) hc) (shapeCast S2048x1024 d h1)) w) h2) h3 = dsb d g w := by
  refine funext fun (i : S4x2048x64.Idx) => ?_
  refine (transpose_apply _ _ h3 i (ix3 (i 1) (i 0) (i 2) : S2048x4x64.Idx) (by
    intro a
    match a with
    | ⟨0, _⟩ => rfl
    | ⟨1, _⟩ => rfl
    | ⟨2, _⟩ => rfl)).trans ?_
  refine (shapeCast_apply _ h2 _ (ix2 (i 1) (lane (H := 4) (N := 256) rfl (i 0) (i 2)) : S2048x256.Idx) (by
    rw [Shape.rowMajor_val_two, Shape.rowMajor_val_three]
    show (i 1).val * 256 + (64 * (i 0).val + (i 2).val) = ((i 1).val * 4 + (i 0).val) * 64 + (i 2).val
    omega)).trans ?_
  exact ref_dout_sb d g w hs hc h1 _ _

theorem gate_dil (g : FVec Ideal S2048x3072 .f32) (hs : S2048x3072.Slices ![0, 1024] S2048x1024) (r : Fin 2048) (n : Fin 1024) :
    extractStridedSlice S2048x1024 ![0, 1024] g hs (ix2 r n) = g (ix2 r (col 1 n)) :=
  extractStridedSlice_apply _ g hs _ (ix2 r (col 1 n)) (fun a => match a with
    | ⟨0, _⟩ => (Nat.zero_add _).symm
    | ⟨1, _⟩ => rfl)

theorem ref_dbr_dil (d : FVec Ideal S2048x1024 .f32) (g : FVec Ideal S2048x3072 .f32) (hs : S2048x3072.Slices ![0, 1024] S2048x1024)
    (hc : S_.BroadcastsInDim S2048x1024 ![]) (h1 : S2048x1024.ShapeCasts S2048x1024) (r : Fin 2048) (n : Fin 1024) :
    mulf (sg (extractStridedSlice S2048x1024 ![0, 1024] g hs) hc) (shapeCast S2048x1024 d h1) (ix2 r n) = dbr d g 1 r n := by
  rw [shapeCast_self]
  show sg _ hc (ix2 r n) * d (ix2 r n) = _
  rw [sg_apply, gate_dil, mul_comm]
  rfl

theorem ref_dbrs_dil (d : FVec Ideal S2048x1024 .f32) (g : FVec Ideal S2048x3072 .f32) (hs : S2048x3072.Slices ![0, 1024] S2048x1024)
    (hc : S_.BroadcastsInDim S2048x1024 ![]) (h1 : S2048x1024.ShapeCasts S2048x1024) (hb : FTy.bits .bf16 < FTy.bits .f32) :
    truncf .bf16 (mulf (sg (extractStridedSlice S2048x1024 ![0, 1024] g hs) hc) (shapeCast S2048x1024 d h1)) hb = dbrs d g 1 := by
  refine funext fun i => ?_
  obtain ⟨r, n, rfl⟩ := exists_pair i
  exact ref_dbr_dil d g hs hc h1 r n

theorem ref_prod_dil (t : FVec Ideal S2048x128 .f32) (w : FVec Ideal S128x1024 .f32) (r : Fin 2048) (n : Fin 1024) :
    Host.dotGeneral dot_S2048x128_S128x1024_S2048x1024_1_0_0_1_n_n none t w (ix2 r n) = dotCols t w r n := host_dotCols t w r n

theorem ref_back_dil (x : FVec Ideal S2048x1024 .f32) (w : FVec Ideal S128x1024 .f32) (r : Fin 2048) (n : Fin 128) :
    Host.dotGeneral dot_S2048x1024_S128x1024_S2048x128_1_1_0_0_n_n none x w (ix2 r n) = dotRows x w r n := host_dotRows x w r n

theorem ref_dout_dil (d : FVec Ideal S2048x1024 .f32) (g : FVec Ideal S2048x3072 .f32) (w : FVec Ideal S128x1024 .f32) (hs : S2048x3072.Slices ![0, 1024] S2048x1024)
    (hc : S_.BroadcastsInDim S2048x1024 ![]) (h1 : S2048x1024.ShapeCasts S2048x1024) (r : Fin 2048) (n : Fin 128) :
    Host.dotGeneral dot_S2048x1024_S128x1024_S2048x128_1_1_0_0_n_n none
      (mulf (sg (extractStridedSlice S2048x1024 ![0, 1024] g hs) hc) (shapeCast S2048x1024 d h1)) w (ix2 r n) = dout d g w 1 r n :=
  (ref_back_dil _ w r n).trans (Finset.sum_congr rfl fun k _ => congrArg (· * w (ix2 n k)) (ref_dbr_dil d g hs hc h1 r k))

theorem ref_dgate_dil (d : FVec Ideal S2048x1024 .f32) (t : FVec Ideal S2048x128 .f32) (w : FVec Ideal S128x1024 .f32) (g : FVec Ideal S2048x3072 .f32)
    (hs : S2048x3072.Slices ![0, 1024] S2048x1024) (hc : S_.BroadcastsInDim S2048x1024 ![]) (h1 : S2048x1024.ShapeCasts S2048x1024) (r : Fin 2048) (n : Fin 1024) :
    mulf (mulf (shapeCast S2048x1024 d h1) (Host.dotGeneral dot_S2048x128_S128x1024_S2048x1024_1_0_0_1_n_n none t w))
      (mulf (sg (extractStridedSlice S2048x1024 ![0, 1024] g hs) hc) (subf (broadcastInDim S2048x1024 ![] hc (constant (F := Ideal) S_ .f32 0x3F800000#32))
        (sg (extractStridedSlice S2048x1024 ![0, 1024] g hs) hc))) (ix2 r n) = dgate d t w g 1 r n := by
  rw [shapeCast_self]
  show d (ix2 r n) * Host.dotGeneral dot_S2048x128_S128x1024_S2048x1024_1_0_0_1_n_n none t w (ix2 r n)
    * (sg _ hc (ix2 r n) * subf (broadcastInDim S2048x1024 ![] hc (constant (F := Ideal) S_ .f32 0x3F800000#32)) (sg _ hc) (ix2 r n)) = _
  rw [co_apply, sg_apply, gate_dil, ref_prod_dil]
  rfl

theorem ref_ddil (d : FVec Ideal S2048x1024 .f32) (g : FVec Ideal S2048x3072 .f32) (w : FVec Ideal S128x1024 .f32) (hs : S2048x3072.Slices ![0, 1024] S2048x1024)
    (hc : S_.BroadcastsInDim S2048x1024 ![]) (h1 : S2048x1024.ShapeCasts S2048x1024) :
    Host.dotGeneral dot_S2048x1024_S128x1024_S2048x128_1_1_0_0_n_n none
      (mulf (sg (extractStridedSlice S2048x1024 ![0, 1024] g hs) hc) (shapeCast S2048x1024 d h1)) w = ddil d g w := by
  refine funext fun i => ?_
  obtain ⟨r, n, rfl⟩ := exists_pair i
  exact ref_dout_dil d g w hs hc h1 r n

theorem gate_swa (g : FVec Ideal S2048x3072 .f32) (hs : S2048x3072.Slices ![0, 2048] S2048x1024) (r : Fin 2048) (n : Fin 1024) :
    extractStridedSlice S2048x1024 ![0, 2048] g hs (ix2 r n) = g (ix2 r (col 2 n)) :=
  extractStridedSlice_apply _ g hs _ (ix2 r (col 2 n)) (fun a => match a with
    | ⟨0, _⟩ => (Nat.zero_add _).symm
    | ⟨1, _⟩ => rfl)

theorem ref_dbr_swa (d : FVec Ideal S2048x1024 .f32) (g : FVec Ideal S2048x3072 .f32) (hs : S2048x3072.Slices ![0, 2048] S2048x1024)
    (hc : S_.BroadcastsInDim S2048x1024 ![]) (h1 : S2048x1024.ShapeCasts S2048x1024) (r : Fin 2048) (n : Fin 1024) :
    mulf (sg (extractStridedSlice S2048x1024 ![0, 2048] g hs) hc) (shapeCast S2048x1024 d h1) (ix2 r n) = dbr d g 2 r n := by
  rw [shapeCast_self]
  show sg _ hc (ix2 r n) * d (ix2 r n) = _
  rw [sg_apply, gate_swa, mul_comm]
  rfl

theorem ref_dbrs_swa (d : FVec Ideal S2048x1024 .f32) (g : FVec Ideal S2048x3072 .f32) (hs : S2048x3072.Slices ![0, 2048] S2048x1024)
    (hc : S_.BroadcastsInDim S2048x1024 ![]) (h1 : S2048x1024.ShapeCasts S2048x1024) (hb : FTy.bits .bf16 < FTy.bits .f32) :
    truncf .bf16 (mulf (sg (extractStridedSlice S2048x1024 ![0, 2048] g hs) hc) (shapeCast S2048x1024 d h1)) hb = dbrs d g 2 := by
  refine funext fun i => ?_
  obtain ⟨r, n, rfl⟩ := exists_pair i
  exact ref_dbr_swa d g hs hc h1 r n

theorem ref_prod_swa (t : FVec Ideal S2048x384 .f32) (w : FVec Ideal S384x1024 .f32) (r : Fin 2048) (n : Fin 1024) :
    Host.dotGeneral dot_S2048x384_S384x1024_S2048x1024_1_0_0_1_n_n none t w (ix2 r n) = dotCols t w r n := host_dotCols t w r n

theorem ref_back_swa (x : FVec Ideal S2048x1024 .f32) (w : FVec Ideal S384x1024 .f32) (r : Fin 2048) (n : Fin 384) :
    Host.dotGeneral dot_S2048x1024_S384x1024_S2048x384_1_1_0_0_n_n none x w (ix2 r n) = dotRows x w r n := host_dotRows x w r n

theorem ref_dout_swa (d : FVec Ideal S2048x1024 .f32) (g : FVec Ideal S2048x3072 .f32) (w : FVec Ideal S384x1024 .f32) (hs : S2048x3072.Slices ![0, 2048] S2048x1024)
    (hc : S_.BroadcastsInDim S2048x1024 ![]) (h1 : S2048x1024.ShapeCasts S2048x1024) (r : Fin 2048) (n : Fin 384) :
    Host.dotGeneral dot_S2048x1024_S384x1024_S2048x384_1_1_0_0_n_n none
      (mulf (sg (extractStridedSlice S2048x1024 ![0, 2048] g hs) hc) (shapeCast S2048x1024 d h1)) w (ix2 r n) = dout d g w 2 r n :=
  (ref_back_swa _ w r n).trans (Finset.sum_congr rfl fun k _ => congrArg (· * w (ix2 n k)) (ref_dbr_swa d g hs hc h1 r k))

theorem ref_dgate_swa (d : FVec Ideal S2048x1024 .f32) (t : FVec Ideal S2048x384 .f32) (w : FVec Ideal S384x1024 .f32) (g : FVec Ideal S2048x3072 .f32)
    (hs : S2048x3072.Slices ![0, 2048] S2048x1024) (hc : S_.BroadcastsInDim S2048x1024 ![]) (h1 : S2048x1024.ShapeCasts S2048x1024) (r : Fin 2048) (n : Fin 1024) :
    mulf (mulf (shapeCast S2048x1024 d h1) (Host.dotGeneral dot_S2048x384_S384x1024_S2048x1024_1_0_0_1_n_n none t w))
      (mulf (sg (extractStridedSlice S2048x1024 ![0, 2048] g hs) hc) (subf (broadcastInDim S2048x1024 ![] hc (constant (F := Ideal) S_ .f32 0x3F800000#32))
        (sg (extractStridedSlice S2048x1024 ![0, 2048] g hs) hc))) (ix2 r n) = dgate d t w g 2 r n := by
  rw [shapeCast_self]
  show d (ix2 r n) * Host.dotGeneral dot_S2048x384_S384x1024_S2048x1024_1_0_0_1_n_n none t w (ix2 r n)
    * (sg _ hc (ix2 r n) * subf (broadcastInDim S2048x1024 ![] hc (constant (F := Ideal) S_ .f32 0x3F800000#32)) (sg _ hc) (ix2 r n)) = _
  rw [co_apply, sg_apply, gate_swa, ref_prod_swa]
  rfl

theorem ref_dswa (d : FVec Ideal S2048x1024 .f32) (g : FVec Ideal S2048x3072 .f32) (w : FVec Ideal S384x1024 .f32) (hs : S2048x3072.Slices ![0, 2048] S2048x1024)
    (hc : S_.BroadcastsInDim S2048x1024 ![]) (h1 : S2048x1024.ShapeCasts S2048x1024) (h2 : S2048x384.ShapeCasts S2048x6x64)
    (h3 : S2048x6x64.Transposes [1, 0, 2] S6x2048x64) :
    transpose S6x2048x64 [1, 0, 2] (shapeCast S2048x6x64 (Host.dotGeneral dot_S2048x1024_S384x1024_S2048x384_1_1_0_0_n_n none
      (mulf (sg (extractStridedSlice S2048x1024 ![0, 2048] g hs) hc) (shapeCast S2048x1024 d h1)) w) h2) h3 = dswa d g w := by
  refine funext fun (i : S6x2048x64.Idx) => ?_
  refine (transpose_apply _ _ h3 i (ix3 (i 1) (i 0) (i 2) : S2048x6x64.Idx) (by
    intro a
    match a with
    | ⟨0, _⟩ => rfl
    | ⟨1, _⟩ => rfl
    | ⟨2, _⟩ => rfl)).trans ?_
  refine (shapeCast_apply _ h2 _ (ix2 (i 1) (lane (H := 6) (N := 384) rfl (i 0) (i 2)) : S2048x384.Idx) (by
    rw [Shape.rowMajor_val_two, Shape.rowMajor_val_three]
    show (i 1).val * 384 + (64 * (i 0).val + (i 2).val) = ((i 1).val * 6 + (i 0).val) * 64 + (i 2).val
    omega)).trans ?_
  exact ref_dout_swa d g w hs hc h1 _ _

/-- The three parts side by side. -/
theorem ref_dgs (d : FVec Ideal S2048x1024 .f32) (s : FVec Ideal S2048x256 .f32) (l : FVec Ideal S2048x128 .f32) (w : FVec Ideal S2048x384 .f32)
    (g : FVec Ideal S2048x3072 .f32) (ws : FVec Ideal S256x1024 .f32) (wl : FVec Ideal S128x1024 .f32) (ww : FVec Ideal S384x1024 .f32)
    (x y z : FVec Ideal S2048x1024 .f32) (hx : ∀ r n, x (ix2 r n) = dgate d s ws g 0 r n) (hy : ∀ r n, y (ix2 r n) = dgate d l wl g 1 r n)
    (hz : ∀ r n, z (ix2 r n) = dgate d w ww g 2 r n)
    (hc : Shape.Concatenates [S2048x1024, S2048x1024, S2048x1024] S2048x3072 1) (hb : FTy.bits .bf16 < FTy.bits .f32) :
    truncf .bf16 (concatenate S2048x3072 1 [⟨S2048x1024, x⟩, ⟨S2048x1024, y⟩, ⟨S2048x1024, z⟩] hc : FVec Ideal S2048x3072 .f32) hb = dgs d s l w g ws wl ww := by
  refine funext fun i => ?_
  obtain ⟨r, j, rfl⟩ := exists_pair i
  show concatenate S2048x3072 1 [⟨S2048x1024, x⟩, ⟨S2048x1024, y⟩, ⟨S2048x1024, z⟩] hc (ix2 r j) = dgates d s l w g ws wl ww r j
  obtain ⟨n, rfl⟩ | ⟨n, rfl⟩ | ⟨n, rfl⟩ := col_cases j
  · rw [dgates_0, concatenate_apply_piece (t := S2048x3072) 1 _ _ _ 0 (by simp) S2048x1024 x rfl rfl 0 rfl (ix2 r n)
      (fun b hb => by match b with | ⟨0, _⟩ => rfl | ⟨1, _⟩ => exact absurd rfl hb) rfl]
    exact hx r n
  · rw [dgates_1, concatenate_apply_piece (t := S2048x3072) 1 _ _ _ 1 (by simp) S2048x1024 y rfl rfl 1024 rfl (ix2 r n)
      (fun b hb => by match b with | ⟨0, _⟩ => rfl | ⟨1, _⟩ => exact absurd rfl hb) rfl]
    exact hy r n
  · rw [dgates_2, concatenate_apply_piece (t := S2048x3072) 1 _ _ _ 2 (by simp) S2048x1024 z rfl rfl 2048 rfl (ix2 r n)
      (fun b hb => by match b with | ⟨0, _⟩ => rfl | ⟨1, _⟩ => exact absurd rfl hb) rfl]
    exact hz r n

end Reference

open Cert.MergeGradIdeal Cert.MergeGradIdeal.Gen

/-! ### One tile -/

theorem pay7_apply (v : Vec Ideal S256x1024 .f32) (i : S256x1024.Idx) : k0_pay7 v i = lgs (v i) := by
  rw [← unit_lgs]; rfl

theorem pay8_apply (d v : Vec Ideal S256x1024 .f32) (i : S256x1024.Idx) : k0_pay8 d v i = d i * lgs (v i) := by
  rw [← pay7_apply]; rfl

theorem pay9_apply (d : Vec Ideal S256x1024 .f32) (w : Vec Ideal S256x1024 .bf16) (t : Vec Ideal S256x256 .bf16) (v : Vec Ideal S256x1024 .f32) (r : Fin 256) (n : Fin 1024) :
    k0_pay9 d w t v (ix2 r n) = d (ix2 r n) * dotCols t w r n * (lgs (v (ix2 r n)) * (1 - lgs (v (ix2 r n)))) := by
  rw [← unit_dotCols (A := 256) (B := 1024) (K := 256) (φ := .bf16) (ψ := .bf16) t w r n, ← pay7_apply, ← Ideal.ofBits_one_f32]
  unfold k0_pay9 k0_pay6
  simp only [shapeCast_self]
  rfl

theorem pay10_apply (d : Vec Ideal S256x1024 .f32) (w : Vec Ideal S256x1024 .bf16) (v : Vec Ideal S256x1024 .f32) (r : Fin 256) (n : Fin 256) :
    k0_pay10 d w v (ix2 r n) = ∑ k : Fin 1024, d (ix2 r k) * lgs (v (ix2 r k)) * w (ix2 n k) := by
  unfold k0_pay10 k0_pay6
  simp only [shapeCast_self]
  refine (unit_dotRows (A := 256) (B := 256) (K := 1024) (φ := .bf16) (ψ := .bf16) (k0_pay8 d v) w r n).trans ?_
  exact Finset.sum_congr rfl fun k _ => by rw [pay8_apply]

theorem pay17_apply (v : Vec Ideal S256x1024 .f32) (i : S256x1024.Idx) : k0_pay17 v i = lgs (v i) := by
  rw [← unit_lgs]; rfl

theorem pay18_apply (d v : Vec Ideal S256x1024 .f32) (i : S256x1024.Idx) : k0_pay18 d v i = d i * lgs (v i) := by
  rw [← pay17_apply]; rfl

theorem pay19_apply (d : Vec Ideal S256x1024 .f32) (w : Vec Ideal S128x1024 .bf16) (t : Vec Ideal S256x128 .bf16) (v : Vec Ideal S256x1024 .f32) (r : Fin 256) (n : Fin 1024) :
    k0_pay19 d w t v (ix2 r n) = d (ix2 r n) * dotCols t w r n * (lgs (v (ix2 r n)) * (1 - lgs (v (ix2 r n)))) := by
  rw [← unit_dotCols (A := 256) (B := 1024) (K := 128) (φ := .bf16) (ψ := .bf16) t w r n, ← pay17_apply, ← Ideal.ofBits_one_f32]
  unfold k0_pay19 k0_pay16
  simp only [shapeCast_self]
  rfl

theorem pay20_apply (d : Vec Ideal S256x1024 .f32) (w : Vec Ideal S128x1024 .bf16) (v : Vec Ideal S256x1024 .f32) (r : Fin 256) (n : Fin 128) :
    k0_pay20 d w v (ix2 r n) = ∑ k : Fin 1024, d (ix2 r k) * lgs (v (ix2 r k)) * w (ix2 n k) := by
  unfold k0_pay20 k0_pay16
  simp only [shapeCast_self]
  refine (unit_dotRows (A := 256) (B := 128) (K := 1024) (φ := .bf16) (ψ := .bf16) (k0_pay18 d v) w r n).trans ?_
  exact Finset.sum_congr rfl fun k _ => by rw [pay18_apply]

theorem pay22_apply (v : Vec Ideal S256x1024 .f32) (i : S256x1024.Idx) : k0_pay22 v i = lgs (v i) := by
  rw [← unit_lgs]; rfl

theorem pay23_apply (d v : Vec Ideal S256x1024 .f32) (i : S256x1024.Idx) : k0_pay23 d v i = d i * lgs (v i) := by
  rw [← pay22_apply]; rfl

theorem pay24_apply (d : Vec Ideal S256x1024 .f32) (w : Vec Ideal S384x1024 .bf16) (t : Vec Ideal S256x384 .bf16) (v : Vec Ideal S256x1024 .f32) (r : Fin 256) (n : Fin 1024) :
    k0_pay24 d w t v (ix2 r n) = d (ix2 r n) * dotCols t w r n * (lgs (v (ix2 r n)) * (1 - lgs (v (ix2 r n)))) := by
  rw [← unit_dotCols (A := 256) (B := 1024) (K := 384) (φ := .bf16) (ψ := .bf16) t w r n, ← pay22_apply, ← Ideal.ofBits_one_f32]
  unfold k0_pay24 k0_pay21
  simp only [shapeCast_self]
  rfl

theorem pay25_apply (d : Vec Ideal S256x1024 .f32) (w : Vec Ideal S384x1024 .bf16) (v : Vec Ideal S256x1024 .f32) (r : Fin 256) (n : Fin 384) :
    k0_pay25 d w v (ix2 r n) = ∑ k : Fin 1024, d (ix2 r k) * lgs (v (ix2 r k)) * w (ix2 n k) := by
  unfold k0_pay25 k0_pay21
  simp only [shapeCast_self]
  refine (unit_dotRows (A := 256) (B := 384) (K := 1024) (φ := .bf16) (ψ := .bf16) (k0_pay23 d v) w r n).trans ?_
  exact Finset.sum_congr rfl fun k _ => by rw [pay23_apply]

/-- What a load of a whole block and of a third of the gates reads. -/
theorem idx_r0_0 (r : Fin 256) (n : Fin 1024) : r0_0.idx (ix2 r n) = ix2 r n := idx_whole _ r n

theorem ld_r0_0 {φ : EltTy} (x : Vec Ideal S256x1024 φ) : View.ld x r0_0 = x := ld_whole x _

theorem ld_r0_1 {φ : EltTy} (x : Vec Ideal S256x256 φ) : View.ld x r0_1 = x := ld_whole x _

theorem ld_r0_7 {φ : EltTy} (x : Vec Ideal S128x1024 φ) : View.ld x r0_7 = x := ld_whole x _

theorem idx_r0_8 (r : Fin 256) (n : Fin 128) : r0_8.idx (ix2 r n) = ix2 r n := idx_whole _ r n

theorem ld_r0_8 {φ : EltTy} (x : Vec Ideal S256x128 φ) : View.ld x r0_8 = x := ld_whole x _

theorem ld_r0_10 {φ : EltTy} (x : Vec Ideal S384x1024 φ) : View.ld x r0_10 = x := ld_whole x _

theorem ld_r0_11 {φ : EltTy} (x : Vec Ideal S256x384 φ) : View.ld x r0_11 = x := ld_whole x _

theorem idx_r0_2 (r : Fin 256) (n : Fin 1024) : r0_2.idx (ix2 r n) = ix2 r (col 0 n) := by
  funext a; apply Fin.ext
  match a with
  | ⟨0, _⟩ => show 0 + 1 * r.val = r.val; omega
  | ⟨1, _⟩ => show 0 + 1 * n.val = 1024 * 0 + n.val; omega

theorem ld_r0_2 {φ : EltTy} (x : Vec Ideal S256x3072 φ) (r : Fin 256) (n : Fin 1024) : View.ld x r0_2 (ix2 r n) = x (ix2 r (col 0 n)) :=
  congrArg x (idx_r0_2 r n)

theorem idx_r0_9 (r : Fin 256) (n : Fin 1024) : r0_9.idx (ix2 r n) = ix2 r (col 1 n) := by
  funext a; apply Fin.ext
  match a with
  | ⟨0, _⟩ => show 0 + 1 * r.val = r.val; omega
  | ⟨1, _⟩ => show 1024 + 1 * n.val = 1024 * 1 + n.val; omega

theorem ld_r0_9 {φ : EltTy} (x : Vec Ideal S256x3072 φ) (r : Fin 256) (n : Fin 1024) : View.ld x r0_9 (ix2 r n) = x (ix2 r (col 1 n)) :=
  congrArg x (idx_r0_9 r n)

theorem idx_r0_12 (r : Fin 256) (n : Fin 1024) : r0_12.idx (ix2 r n) = ix2 r (col 2 n) := by
  funext a; apply Fin.ext
  match a with
  | ⟨0, _⟩ => show 0 + 1 * r.val = r.val; omega
  | ⟨1, _⟩ => show 2048 + 1 * n.val = 1024 * 2 + n.val; omega

theorem ld_r0_12 {φ : EltTy} (x : Vec Ideal S256x3072 φ) (r : Fin 256) (n : Fin 1024) : View.ld x r0_12 (ix2 r n) = x (ix2 r (col 2 n)) :=
  congrArg x (idx_r0_12 r n)

section Tile

variable (x0 : Vec Ideal S256x1024 .f32) (x1 : Vec Ideal S256x256 .bf16) (x2 : Vec Ideal S256x128 .bf16) (x3 : Vec Ideal S256x384 .bf16) (x4 : Vec Ideal S256x3072 .f32)
  (x5 : Vec Ideal S256x1024 .bf16) (x6 : Vec Ideal S128x1024 .bf16) (x7 : Vec Ideal S384x1024 .bf16)

theorem piece_sb (r : Fin 256) (n : Fin 1024) :
    k0_pay9 (View.ld x0 r0_0) (View.ld x5 r0_0) (View.ld x1 r0_1) (View.ld x4 r0_2) (ix2 r n) = dgate x0 x1 x5 x4 0 r n := by
  rw [pay9_apply, ld_r0_0, ld_r0_1, ld_r0_2, ld_r0_0]
  rfl

theorem back_sb (r : Fin 256) (n : Fin 256) :
    k0_pay10 (View.ld x0 r0_0) (View.ld x5 r0_0) (View.ld x4 r0_2) (ix2 r n) = dout x0 x4 x5 0 r n := by
  rw [pay10_apply]
  refine Finset.sum_congr rfl fun k _ => ?_
  rw [ld_r0_0, ld_r0_2, ld_r0_0]
  rfl

theorem prod_sb (r : Fin 256) (n : Fin 1024) :
    k0_pay8 (View.ld x0 r0_0) (View.ld x4 r0_2) (ix2 r n) = dbr x0 x4 0 r n := by
  rw [pay8_apply, ld_r0_0, ld_r0_2]
  rfl

theorem out12_apply (r : Fin 256) (n : Fin 1024) : out0_12 x0 x1 x2 x3 x4 x5 x6 x7 (ix2 r n) = dbr x0 x4 0 r n := by
  unfold out0_12
  refine (View.canon_apply_of_pieces (Val := Elt Ideal) (fun y => dbr x0 x4 0 (y 0) (y 1) : Vec Ideal S256x1024 .bf16) _ ?_ (ix2 r n) (cover0_12 _ _)).trans rfl
  intro pc hpc
  rcases List.mem_cons.mp hpc with rfl | hpc
  · intro x
    obtain ⟨r, n, rfl⟩ := exists_pair x
    exact (prod_sb x0 x4 r n).trans (congrArg (fun y : S256x1024.Idx => dbr x0 x4 0 (y 0) (y 1)) (idx_r0_0 r n)).symm
  nomatch hpc

theorem piece_dil (r : Fin 256) (n : Fin 1024) :
    k0_pay19 (View.ld x0 r0_0) (View.ld x6 r0_7) (View.ld x2 r0_8) (View.ld x4 r0_9) (ix2 r n) = dgate x0 x2 x6 x4 1 r n := by
  rw [pay19_apply, ld_r0_0, ld_r0_8, ld_r0_9, ld_r0_7]
  rfl

theorem back_dil (r : Fin 256) (n : Fin 128) :
    k0_pay20 (View.ld x0 r0_0) (View.ld x6 r0_7) (View.ld x4 r0_9) (ix2 r n) = dout x0 x4 x6 1 r n := by
  rw [pay20_apply]
  refine Finset.sum_congr rfl fun k _ => ?_
  rw [ld_r0_0, ld_r0_9, ld_r0_7]
  rfl

theorem prod_dil (r : Fin 256) (n : Fin 1024) :
    k0_pay18 (View.ld x0 r0_0) (View.ld x4 r0_9) (ix2 r n) = dbr x0 x4 1 r n := by
  rw [pay18_apply, ld_r0_0, ld_r0_9]
  rfl

theorem out13_apply (r : Fin 256) (n : Fin 1024) : out0_13 x0 x1 x2 x3 x4 x5 x6 x7 (ix2 r n) = dbr x0 x4 1 r n := by
  unfold out0_13
  refine (View.canon_apply_of_pieces (Val := Elt Ideal) (fun y => dbr x0 x4 1 (y 0) (y 1) : Vec Ideal S256x1024 .bf16) _ ?_ (ix2 r n) (cover0_13 _ _)).trans rfl
  intro pc hpc
  rcases List.mem_cons.mp hpc with rfl | hpc
  · intro x
    obtain ⟨r, n, rfl⟩ := exists_pair x
    exact (prod_dil x0 x4 r n).trans (congrArg (fun y : S256x1024.Idx => dbr x0 x4 1 (y 0) (y 1)) (idx_r0_0 r n)).symm
  nomatch hpc

theorem piece_swa (r : Fin 256) (n : Fin 1024) :
    k0_pay24 (View.ld x0 r0_0) (View.ld x7 r0_10) (View.ld x3 r0_11) (View.ld x4 r0_12) (ix2 r n) = dgate x0 x3 x7 x4 2 r n := by
  rw [pay24_apply, ld_r0_0, ld_r0_11, ld_r0_12, ld_r0_10]
  rfl

theorem back_swa (r : Fin 256) (n : Fin 384) :
    k0_pay25 (View.ld x0 r0_0) (View.ld x7 r0_10) (View.ld x4 r0_12) (ix2 r n) = dout x0 x4 x7 2 r n := by
  rw [pay25_apply]
  refine Finset.sum_congr rfl fun k _ => ?_
  rw [ld_r0_0, ld_r0_12, ld_r0_10]
  rfl

theorem prod_swa (r : Fin 256) (n : Fin 1024) :
    k0_pay23 (View.ld x0 r0_0) (View.ld x4 r0_12) (ix2 r n) = dbr x0 x4 2 r n := by
  rw [pay23_apply, ld_r0_0, ld_r0_12]
  rfl

theorem out14_apply (r : Fin 256) (n : Fin 1024) : out0_14 x0 x1 x2 x3 x4 x5 x6 x7 (ix2 r n) = dbr x0 x4 2 r n := by
  unfold out0_14
  refine (View.canon_apply_of_pieces (Val := Elt Ideal) (fun y => dbr x0 x4 2 (y 0) (y 1) : Vec Ideal S256x1024 .bf16) _ ?_ (ix2 r n) (cover0_14 _ _)).trans rfl
  intro pc hpc
  rcases List.mem_cons.mp hpc with rfl | hpc
  · intro x
    obtain ⟨r, n, rfl⟩ := exists_pair x
    exact (prod_swa x0 x4 r n).trans (congrArg (fun y : S256x1024.Idx => dbr x0 x4 2 (y 0) (y 1)) (idx_r0_0 r n)).symm
  nomatch hpc

theorem out8_apply (y : S256x3072.Idx) : out0_8 x0 x1 x2 x3 x4 x5 x6 x7 y = dgates x0 x1 x2 x3 x4 x5 x6 x7 (y 0) (y 1) := by
  unfold out0_8
  refine View.canon_apply_of_pieces (Val := Elt Ideal) (fun y => dgates x0 x1 x2 x3 x4 x5 x6 x7 (y 0) (y 1) : Vec Ideal S256x3072 .bf16) _ ?_ y (cover0_8 _ _ _ y)
  intro pc hpc
  rcases List.mem_cons.mp hpc with rfl | hpc
  · intro x
    obtain ⟨r, n, rfl⟩ := exists_pair x
    refine Eq.trans ?_ (congrArg (fun y : S256x3072.Idx => dgates x0 x1 x2 x3 x4 x5 x6 x7 (y 0) (y 1)) (idx_r0_12 r n)).symm
    exact (piece_swa x0 x3 x4 x7 r n).trans (dgates_2 x0 x1 x2 x3 x4 x5 x6 x7 r n).symm
  rcases List.mem_cons.mp hpc with rfl | hpc
  · intro x
    obtain ⟨r, n, rfl⟩ := exists_pair x
    refine Eq.trans ?_ (congrArg (fun y : S256x3072.Idx => dgates x0 x1 x2 x3 x4 x5 x6 x7 (y 0) (y 1)) (idx_r0_9 r n)).symm
    exact (piece_dil x0 x2 x4 x6 r n).trans (dgates_1 x0 x1 x2 x3 x4 x5 x6 x7 r n).symm
  rcases List.mem_cons.mp hpc with rfl | hpc
  · intro x
    obtain ⟨r, n, rfl⟩ := exists_pair x
    refine Eq.trans ?_ (congrArg (fun y : S256x3072.Idx => dgates x0 x1 x2 x3 x4 x5 x6 x7 (y 0) (y 1)) (idx_r0_2 r n)).symm
    exact (piece_sb x0 x1 x4 x5 r n).trans (dgates_0 x0 x1 x2 x3 x4 x5 x6 x7 r n).symm
  nomatch hpc

theorem out9_apply (y : S4x256x64.Idx) : out0_9 x0 x1 x2 x3 x4 x5 x6 x7 y = dout x0 x4 x5 0 (y 1) (lane (H := 4) (N := 256) rfl (y 0) (y 2)) := by
  unfold out0_9
  refine (Value.canon9_eq (View.ld x0 r0_0) (View.ld x5 r0_0) (View.ld x4 r0_2) y).trans ?_
  refine Eq.trans (congrArg (k0_pay10 (View.ld x0 r0_0) (View.ld x5 r0_0) (View.ld x4 r0_2)) ?_) (back_sb x0 x4 x5 (y 1) (lane (H := 4) (N := 256) rfl (y 0) (y 2)))
  funext a; apply Fin.ext
  match a with
  | ⟨0, _⟩ => rfl
  | ⟨1, _⟩ => show (y 0).val * 64 + (y 2).val = 64 * (y 0).val + (y 2).val; omega

theorem out11_apply (y : S6x256x64.Idx) : out0_11 x0 x1 x2 x3 x4 x5 x6 x7 y = dout x0 x4 x7 2 (y 1) (lane (H := 6) (N := 384) rfl (y 0) (y 2)) := by
  unfold out0_11
  refine (Value.canon11_eq (View.ld x0 r0_0) (View.ld x7 r0_10) (View.ld x4 r0_12) y).trans ?_
  refine Eq.trans (congrArg (k0_pay25 (View.ld x0 r0_0) (View.ld x7 r0_10) (View.ld x4 r0_12)) ?_) (back_swa x0 x4 x7 (y 1) (lane (H := 6) (N := 384) rfl (y 0) (y 2)))
  funext a; apply Fin.ext
  match a with
  | ⟨0, _⟩ => rfl
  | ⟨1, _⟩ => show (y 0).val * 64 + (y 2).val = 64 * (y 0).val + (y 2).val; omega

theorem out10_apply (r : Fin 256) (n : Fin 128) : out0_10 x0 x1 x2 x3 x4 x5 x6 x7 (ix2 r n) = dout x0 x4 x6 1 r n := by
  unfold out0_10
  refine (View.canon_apply_of_pieces (Val := Elt Ideal) (fun y => dout x0 x4 x6 1 (y 0) (y 1) : Vec Ideal S256x128 .f32) _ ?_ (ix2 r n) (cover0_10 _ _)).trans rfl
  intro pc hpc
  rcases List.mem_cons.mp hpc with rfl | hpc
  · intro x
    obtain ⟨r, n, rfl⟩ := exists_pair x
    exact (back_dil x0 x4 x6 r n).trans (congrArg (fun y : S256x128.Idx => dout x0 x4 x6 1 (y 0) (y 1)) (idx_r0_8 r n)).symm
  nomatch hpc

end Tile

/-! ### The arrays as launched -/

variable (m : (ℓ : Loc nD τ sig) → Buf (Elt Ideal) ℓ) (c : Dev nD)

abbrev dm : FVec Ideal S2048x1024 .f32 := m ((c.tc : Thread nD τ).loc main_arg0)
abbrev os : FVec Ideal S2048x256 .f32 := m ((c.tc : Thread nD τ).loc main_arg1)
abbrev ol : FVec Ideal S2048x128 .f32 := m ((c.tc : Thread nD τ).loc main_arg2)
abbrev ow : FVec Ideal S2048x384 .f32 := m ((c.tc : Thread nD τ).loc main_arg3)
abbrev gt : FVec Ideal S2048x3072 .f32 := m ((c.tc : Thread nD τ).loc main_arg4)
abbrev ws : FVec Ideal S256x1024 .f32 := m ((c.tc : Thread nD τ).loc main_arg5)
abbrev wl : FVec Ideal S128x1024 .f32 := m ((c.tc : Thread nD τ).loc main_arg6)
abbrev ww : FVec Ideal S384x1024 .f32 := m ((c.tc : Thread nD τ).loc main_arg7)

theorem V_dm : V m c main_arg0 = dm m c := rfl
theorem V_os : V m c main_v0 = os m c := rfl
theorem V_ol : V m c main_v1 = ol m c := rfl
theorem V_ow : V m c main_v2 = ow m c := rfl
theorem V_gt : V m c main_arg4 = gt m c := rfl
theorem V_ws : V m c main_v3 = ws m c := rfl
theorem V_wl : V m c main_v4 = wl m c := rfl
theorem V_ww : V m c main_v5 = ww m c := rfl

theorem N0_eq : cfg0.N = 8 := by decide
theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = t.val ∧ win0_2.index t 1 = 0 := by decide +kernel
theorem ix_3 : ∀ t : Fin cfg0.N, win0_3.index t 0 = t.val ∧ win0_3.index t 1 = 0 := by decide +kernel
theorem ix_4 : ∀ t : Fin cfg0.N, win0_4.index t 0 = t.val ∧ win0_4.index t 1 = 0 := by decide +kernel
theorem ix_5 : ∀ t : Fin cfg0.N, win0_5.index t 0 = 0 ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = t.val ∧ win0_8.index t 1 = 0 := by decide +kernel
theorem ix_10 : ∀ t : Fin cfg0.N, win0_10.index t 0 = t.val ∧ win0_10.index t 1 = 0 := by decide +kernel
theorem ix_12 : ∀ t : Fin cfg0.N, win0_12.index t 0 = t.val ∧ win0_12.index t 1 = 0 := by decide +kernel
theorem ix_13 : ∀ t : Fin cfg0.N, win0_13.index t 0 = t.val ∧ win0_13.index t 1 = 0 := by decide +kernel
theorem ix_14 : ∀ t : Fin cfg0.N, win0_14.index t 0 = t.val ∧ win0_14.index t 1 = 0 := by decide +kernel
theorem ix_9 : ∀ t : Fin cfg0.N, win0_9.index t 0 = 0 ∧ win0_9.index t 1 = t.val ∧ win0_9.index t 2 = 0 := by decide +kernel
theorem ix_11 : ∀ t : Fin cfg0.N, win0_11.index t 0 = 0 ∧ win0_11.index t 1 = t.val ∧ win0_11.index t 2 = 0 := by decide +kernel

theorem row_lt (t : Fin cfg0.N) (r : Fin 256) : 256 * t.val + r.val < 2048 := by
  have := lt_of_lt_of_eq t.isLt N0_eq; omega

/-- The row of the whole array that a tile's row is. -/
def rowAt (t : Fin cfg0.N) (r : Fin 256) : Fin 2048 := ⟨256 * t.val + r.val, row_lt t r⟩

theorem iblk_0 (t : Fin cfg0.N) (r : Fin 256) (n : Fin 1024) : (iblk m c 0 t : Vec Ideal S256x1024 .f32) (ix2 r n) = dm m c (ix2 (rowAt t r) n) := by
  have hi := ix_0 t
  rw [← V_dm]
  unfold iblk
  rw [View.read_apply]
  show V m c main_arg0 _ = V m c main_arg0 _
  congr 1; funext a; apply Fin.ext
  match a with
  | ⟨0, _⟩ => show win0_0.index t 0 * 256 + 1 * r.val = 256 * t.val + r.val; rw [hi.1]; omega
  | ⟨1, _⟩ => show win0_0.index t 1 * 1024 + 1 * n.val = n.val; rw [hi.2]; omega

theorem iblk_1 (t : Fin cfg0.N) (r : Fin 256) (n : Fin 256) : (iblk m c 1 t : Vec Ideal S256x256 .bf16) (ix2 r n) = os m c (ix2 (rowAt t r) n) := by
  have hi := ix_1 t
  rw [← V_os]
  unfold iblk
  rw [View.read_apply]
  show V m c main_v0 _ = V m c main_v0 _
  congr 1; funext a; apply Fin.ext
  match a with
  | ⟨0, _⟩ => show win0_1.index t 0 * 256 + 1 * r.val = 256 * t.val + r.val; rw [hi.1]; omega
  | ⟨1, _⟩ => show win0_1.index t 1 * 256 + 1 * n.val = n.val; rw [hi.2]; omega

theorem iblk_2 (t : Fin cfg0.N) (r : Fin 256) (n : Fin 128) : (iblk m c 2 t : Vec Ideal S256x128 .bf16) (ix2 r n) = ol m c (ix2 (rowAt t r) n) := by
  have hi := ix_2 t
  rw [← V_ol]
  unfold iblk
  rw [View.read_apply]
  show V m c main_v1 _ = V m c main_v1 _
  congr 1; funext a; apply Fin.ext
  match a with
  | ⟨0, _⟩ => show win0_2.index t 0 * 256 + 1 * r.val = 256 * t.val + r.val; rw [hi.1]; omega
  | ⟨1, _⟩ => show win0_2.index t 1 * 128 + 1 * n.val = n.val; rw [hi.2]; omega

theorem iblk_3 (t : Fin cfg0.N) (r : Fin 256) (n : Fin 384) : (iblk m c 3 t : Vec Ideal S256x384 .bf16) (ix2 r n) = ow m c (ix2 (rowAt t r) n) := by
  have hi := ix_3 t
  rw [← V_ow]
  unfold iblk
  rw [View.read_apply]
  show V m c main_v2 _ = V m c main_v2 _
  congr 1; funext a; apply Fin.ext
  match a with
  | ⟨0, _⟩ => show win0_3.index t 0 * 256 + 1 * r.val = 256 * t.val + r.val; rw [hi.1]; omega
  | ⟨1, _⟩ => show win0_3.index t 1 * 384 + 1 * n.val = n.val; rw [hi.2]; omega

theorem iblk_4 (t : Fin cfg0.N) (r : Fin 256) (n : Fin 3072) : (iblk m c 4 t : Vec Ideal S256x3072 .f32) (ix2 r n) = gt m c (ix2 (rowAt t r) n) := by
  have hi := ix_4 t
  rw [← V_gt]
  unfold iblk
  rw [View.read_apply]
  show V m c main_arg4 _ = V m c main_arg4 _
  congr 1; funext a; apply Fin.ext
  match a with
  | ⟨0, _⟩ => show win0_4.index t 0 * 256 + 1 * r.val = 256 * t.val + r.val; rw [hi.1]; omega
  | ⟨1, _⟩ => show win0_4.index t 1 * 3072 + 1 * n.val = n.val; rw [hi.2]; omega

theorem iblk_5 (t : Fin cfg0.N) (r : Fin 256) (n : Fin 1024) : (iblk m c 5 t : Vec Ideal S256x1024 .bf16) (ix2 r n) = ws m c (ix2 r n) := by
  have hi := ix_5 t
  rw [← V_ws]
  unfold iblk
  rw [View.read_apply]
  show V m c main_v3 _ = V m c main_v3 _
  congr 1; funext a; apply Fin.ext
  match a with
  | ⟨0, _⟩ => show win0_5.index t 0 * 256 + 1 * r.val = r.val; rw [hi.1]; omega
  | ⟨1, _⟩ => show win0_5.index t 1 * 1024 + 1 * n.val = n.val; rw [hi.2]; omega

theorem iblk_6 (t : Fin cfg0.N) (r : Fin 128) (n : Fin 1024) : (iblk m c 6 t : Vec Ideal S128x1024 .bf16) (ix2 r n) = wl m c (ix2 r n) := by
  have hi := ix_6 t
  rw [← V_wl]
  unfold iblk
  rw [View.read_apply]
  show V m c main_v4 _ = V m c main_v4 _
  congr 1; funext a; apply Fin.ext
  match a with
  | ⟨0, _⟩ => show win0_6.index t 0 * 128 + 1 * r.val = r.val; rw [hi.1]; omega
  | ⟨1, _⟩ => show win0_6.index t 1 * 1024 + 1 * n.val = n.val; rw [hi.2]; omega

theorem iblk_7 (t : Fin cfg0.N) (r : Fin 384) (n : Fin 1024) : (iblk m c 7 t : Vec Ideal S384x1024 .bf16) (ix2 r n) = ww m c (ix2 r n) := by
  have hi := ix_7 t
  rw [← V_ww]
  unfold iblk
  rw [View.read_apply]
  show V m c main_v5 _ = V m c main_v5 _
  congr 1; funext a; apply Fin.ext
  match a with
  | ⟨0, _⟩ => show win0_7.index t 0 * 384 + 1 * r.val = r.val; rw [hi.1]; omega
  | ⟨1, _⟩ => show win0_7.index t 1 * 1024 + 1 * n.val = n.val; rw [hi.2]; omega

/-! ### The result arrays -/

theorem final_8 : (dats m 0 c).arrAt 8 cfg0.N = dgs (dm m c) (os m c) (ol m c) (ow m c) (gt m c) (ws m c) (wl m c) (ww m c) := by
  refine (dats m 0 c).arrAt_eq_of_covers 8 _ (by decide +kernel) fun t hf y => ?_
  have hi := ix_8 t
  blk_simp
  rw [after0_8]
  obtain ⟨r, n, rfl⟩ := exists_pair y
  have e : ((cfg0.win 8).blk t).view.emb (ix2 r n) = ix2 (rowAt t r) n := by
    funext a; apply Fin.ext
    match a with
    | ⟨0, _⟩ => show win0_8.index t 0 * 256 + 1 * r.val = 256 * t.val + r.val; rw [hi.1]; omega
    | ⟨1, _⟩ => show win0_8.index t 1 * 3072 + 1 * n.val = n.val; rw [hi.2]; omega
  refine (out8_apply (iblk m c 0 t) (iblk m c 1 t) (iblk m c 2 t) (iblk m c 3 t) (iblk m c 4 t) (iblk m c 5 t) (iblk m c 6 t) (iblk m c 7 t) (ix2 r n)).trans (Eq.trans ?_ (congrArg (dgs (dm m c) (os m c) (ol m c) (ow m c) (gt m c) (ws m c) (wl m c) (ww m c)) e).symm)
  exact dgates_rows (rowAt t) (iblk_0 m c t) (iblk_4 m c t) (iblk_1 m c t) (iblk_5 m c t) (iblk_2 m c t) (iblk_6 m c t) (iblk_3 m c t) (iblk_7 m c t) r n

theorem final_9 : (dats m 0 c).arrAt 9 cfg0.N = dsb (dm m c) (gt m c) (ws m c) := by
  refine (dats m 0 c).arrAt_eq_of_covers 9 _ (by decide +kernel) fun t hf y => ?_
  have hi := ix_9 t
  blk_simp
  rw [after0_9]
  have e : ((cfg0.win 9).blk t).view.emb y = (ix3 (y 0) (rowAt t (y 1)) (y 2) : S4x2048x64.Idx) := by
    funext a; apply Fin.ext
    match a with
    | ⟨0, _⟩ => show win0_9.index t 0 * 4 + 1 * (y 0).val = (y 0).val; rw [hi.1]; omega
    | ⟨1, _⟩ => show win0_9.index t 1 * 256 + 1 * (y 1).val = 256 * t.val + (y 1).val; rw [hi.2.1]; omega
    | ⟨2, _⟩ => show win0_9.index t 2 * 64 + 1 * (y 2).val = (y 2).val; rw [hi.2.2]; omega
  refine (out9_apply (iblk m c 0 t) (iblk m c 1 t) (iblk m c 2 t) (iblk m c 3 t) (iblk m c 4 t) (iblk m c 5 t) (iblk m c 6 t) (iblk m c 7 t) y).trans (Eq.trans ?_ (congrArg (dsb (dm m c) (gt m c) (ws m c)) e).symm)
  exact dout_rows (rowAt t) (iblk_0 m c t) (iblk_4 m c t) (iblk_5 m c t) 0 (y 1) (lane (H := 4) (N := 256) rfl (y 0) (y 2))

theorem final_10 : (dats m 0 c).arrAt 10 cfg0.N = ddil (dm m c) (gt m c) (wl m c) := by
  refine (dats m 0 c).arrAt_eq_of_covers 10 _ (by decide +kernel) fun t hf y => ?_
  have hi := ix_10 t
  blk_simp
  rw [after0_10]
  obtain ⟨r, n, rfl⟩ := exists_pair y
  have e : ((cfg0.win 10).blk t).view.emb (ix2 r n) = ix2 (rowAt t r) n := by
    funext a; apply Fin.ext
    match a with
    | ⟨0, _⟩ => show win0_10.index t 0 * 256 + 1 * r.val = 256 * t.val + r.val; rw [hi.1]; omega
    | ⟨1, _⟩ => show win0_10.index t 1 * 128 + 1 * n.val = n.val; rw [hi.2]; omega
  refine (out10_apply (iblk m c 0 t) (iblk m c 1 t) (iblk m c 2 t) (iblk m c 3 t) (iblk m c 4 t) (iblk m c 5 t) (iblk m c 6 t) (iblk m c 7 t) r n).trans (Eq.trans ?_ (congrArg (ddil (dm m c) (gt m c) (wl m c)) e).symm)
  exact dout_rows (rowAt t) (iblk_0 m c t) (iblk_4 m c t) (iblk_6 m c t) 1 r n

theorem final_11 : (dats m 0 c).arrAt 11 cfg0.N = dswa (dm m c) (gt m c) (ww m c) := by
  refine (dats m 0 c).arrAt_eq_of_covers 11 _ (by decide +kernel) fun t hf y => ?_
  have hi := ix_11 t
  blk_simp
  rw [after0_11]
  have e : ((cfg0.win 11).blk t).view.emb y = (ix3 (y 0) (rowAt t (y 1)) (y 2) : S6x2048x64.Idx) := by
    funext a; apply Fin.ext
    match a with
    | ⟨0, _⟩ => show win0_11.index t 0 * 6 + 1 * (y 0).val = (y 0).val; rw [hi.1]; omega
    | ⟨1, _⟩ => show win0_11.index t 1 * 256 + 1 * (y 1).val = 256 * t.val + (y 1).val; rw [hi.2.1]; omega
    | ⟨2, _⟩ => show win0_11.index t 2 * 64 + 1 * (y 2).val = (y 2).val; rw [hi.2.2]; omega
  refine (out11_apply (iblk m c 0 t) (iblk m c 1 t) (iblk m c 2 t) (iblk m c 3 t) (iblk m c 4 t) (iblk m c 5 t) (iblk m c 6 t) (iblk m c 7 t) y).trans (Eq.trans ?_ (congrArg (dswa (dm m c) (gt m c) (ww m c)) e).symm)
  exact dout_rows (rowAt t) (iblk_0 m c t) (iblk_4 m c t) (iblk_7 m c t) 2 (y 1) (lane (H := 6) (N := 384) rfl (y 0) (y 2))

theorem final_12 : (dats m 0 c).arrAt 12 cfg0.N = dbrs (dm m c) (gt m c) 0 := by
  refine (dats m 0 c).arrAt_eq_of_covers 12 _ (by decide +kernel) fun t hf y => ?_
  have hi := ix_12 t
  blk_simp
  rw [after0_12]
  obtain ⟨r, n, rfl⟩ := exists_pair y
  have e : ((cfg0.win 12).blk t).view.emb (ix2 r n) = ix2 (rowAt t r) n := by
    funext a; apply Fin.ext
    match a with
    | ⟨0, _⟩ => show win0_12.index t 0 * 256 + 1 * r.val = 256 * t.val + r.val; rw [hi.1]; omega
    | ⟨1, _⟩ => show win0_12.index t 1 * 1024 + 1 * n.val = n.val; rw [hi.2]; omega
  refine (out12_apply (iblk m c 0 t) (iblk m c 1 t) (iblk m c 2 t) (iblk m c 3 t) (iblk m c 4 t) (iblk m c 5 t) (iblk m c 6 t) (iblk m c 7 t) r n).trans (Eq.trans ?_ (congrArg (dbrs (dm m c) (gt m c) 0) e).symm)
  exact dbr_rows (rowAt t) (iblk_0 m c t) (iblk_4 m c t) 0 r n

theorem final_13 : (dats m 0 c).arrAt 13 cfg0.N = dbrs (dm m c) (gt m c) 1 := by
  refine (dats m 0 c).arrAt_eq_of_covers 13 _ (by decide +kernel) fun t hf y => ?_
  have hi := ix_13 t
  blk_simp
  rw [after0_13]
  obtain ⟨r, n, rfl⟩ := exists_pair y
  have e : ((cfg0.win 13).blk t).view.emb (ix2 r n) = ix2 (rowAt t r) n := by
    funext a; apply Fin.ext
    match a with
    | ⟨0, _⟩ => show win0_13.index t 0 * 256 + 1 * r.val = 256 * t.val + r.val; rw [hi.1]; omega
    | ⟨1, _⟩ => show win0_13.index t 1 * 1024 + 1 * n.val = n.val; rw [hi.2]; omega
  refine (out13_apply (iblk m c 0 t) (iblk m c 1 t) (iblk m c 2 t) (iblk m c 3 t) (iblk m c 4 t) (iblk m c 5 t) (iblk m c 6 t) (iblk m c 7 t) r n).trans (Eq.trans ?_ (congrArg (dbrs (dm m c) (gt m c) 1) e).symm)
  exact dbr_rows (rowAt t) (iblk_0 m c t) (iblk_4 m c t) 1 r n

theorem final_14 : (dats m 0 c).arrAt 14 cfg0.N = dbrs (dm m c) (gt m c) 2 := by
  refine (dats m 0 c).arrAt_eq_of_covers 14 _ (by decide +kernel) fun t hf y => ?_
  have hi := ix_14 t
  blk_simp
  rw [after0_14]
  obtain ⟨r, n, rfl⟩ := exists_pair y
  have e : ((cfg0.win 14).blk t).view.emb (ix2 r n) = ix2 (rowAt t r) n := by
    funext a; apply Fin.ext
    match a with
    | ⟨0, _⟩ => show win0_14.index t 0 * 256 + 1 * r.val = 256 * t.val + r.val; rw [hi.1]; omega
    | ⟨1, _⟩ => show win0_14.index t 1 * 1024 + 1 * n.val = n.val; rw [hi.2]; omega
  refine (out14_apply (iblk m c 0 t) (iblk m c 1 t) (iblk m c 2 t) (iblk m c 3 t) (iblk m c 4 t) (iblk m c 5 t) (iblk m c 6 t) (iblk m c 7 t) r n).trans (Eq.trans ?_ (congrArg (dbrs (dm m c) (gt m c) 2) e).symm)
  exact dbr_rows (rowAt t) (iblk_0 m c t) (iblk_4 m c t) 2 r n

end Cert.Mb

end
-- ==== Proof.EqualBranch.lean ====
module

public import proofs.«01_k».proof.Defs
public import proofs.«01_k».proof.Proof.Branch
public import proofs.«01_k».proof.Proof.MergeGrad
public import Idealize.ShloMosaic.Adequacy
public import Idealize.ShloMosaic.Init

/-!
# The gradients of the three branches' weights and through their gated sum agree with their references
-/

@[expose] public section

set_option maxRecDepth 16384

noncomputable section

namespace Cert.Proof

open Idealize.ShloMosaic Idealize.ShloMosaic.TcCoe Idealize.SL.Sem

theorem frameBs : Cert.quiescent_BranchSbGradReferenceIdeal := fun m ρ _ =>
  (θ_run Cert.BranchSbGradReferenceIdeal.defs _ _).mono
    (fun r h => ⟨fun c => (h c).2, Idealize.ShloMosaic.sem_eq_zero_of_no_sems (by decide) r.2⟩)
    (Cert.BranchSbGradReferenceIdeal.Value.run (F := Ideal) m ρ)

theorem equalBs : Cert.algebraic_BranchSbGradIdeal_BranchSbGradReferenceIdeal (hBranchSbGradIdeal := Cert.BranchSbGradIdeal.Gen.facts)
    (hBranchSbGradReferenceIdeal := Cert.BranchSbGradReferenceIdeal.Gen.facts) :=
  fun m ρ m' ρ' _ hag =>
    ⟨fun c => Cert.Bs.grad (Cert.Bs.act m c) (Cert.Bs.inc m c),
      (θ_run _ _ _).mono (fun r h c => ⟨(h c).1.trans (Cert.Bs.final m c), (h c).2⟩) (Cert.BranchSbGradIdeal.Value.run_blocks m ρ),
      (θ_run _ _ _).mono (fun r h c => by
        obtain ⟨r0, ha⟩ := h c
        obtain ⟨a0, a1⟩ := hag c
        refine ⟨r0.trans ((Cert.Bs.ref_grad _ _ _ _).trans ?_), ha⟩
        rw [a0, a1]) (Cert.BranchSbGradReferenceIdeal.Value.run m' ρ')⟩

theorem frameBd : Cert.quiescent_BranchDilGradReferenceIdeal := fun m ρ _ =>
  (θ_run Cert.BranchDilGradReferenceIdeal.defs _ _).mono
    (fun r h => ⟨fun c => (h c).2, Idealize.ShloMosaic.sem_eq_zero_of_no_sems (by decide) r.2⟩)
    (Cert.BranchDilGradReferenceIdeal.Value.run (F := Ideal) m ρ)

theorem equalBd : Cert.algebraic_BranchDilGradIdeal_BranchDilGradReferenceIdeal (hBranchDilGradIdeal := Cert.BranchDilGradIdeal.Gen.facts)
    (hBranchDilGradReferenceIdeal := Cert.BranchDilGradReferenceIdeal.Gen.facts) :=
  fun m ρ m' ρ' _ hag =>
    ⟨fun c => Cert.Bd.grad (Cert.Bd.act m c) (Cert.Bd.inc m c),
      (θ_run _ _ _).mono (fun r h c => ⟨(h c).1.trans (Cert.Bd.final m c), (h c).2⟩) (Cert.BranchDilGradIdeal.Value.run_blocks m ρ),
      (θ_run _ _ _).mono (fun r h c => by
        obtain ⟨r0, ha⟩ := h c
        obtain ⟨a0, a1⟩ := hag c
        refine ⟨r0.trans ((Cert.Bd.ref_grad _ _ _ _).trans ?_), ha⟩
        rw [a0, a1]) (Cert.BranchDilGradReferenceIdeal.Value.run m' ρ')⟩

theorem frameBw : Cert.quiescent_BranchSwaGradReferenceIdeal := fun m ρ _ =>
  (θ_run Cert.BranchSwaGradReferenceIdeal.defs _ _).mono
    (fun r h => ⟨fun c => (h c).2, Idealize.ShloMosaic.sem_eq_zero_of_no_sems (by decide) r.2⟩)
    (Cert.BranchSwaGradReferenceIdeal.Value.run (F := Ideal) m ρ)

theorem equalBw : Cert.algebraic_BranchSwaGradIdeal_BranchSwaGradReferenceIdeal (hBranchSwaGradIdeal := Cert.BranchSwaGradIdeal.Gen.facts)
    (hBranchSwaGradReferenceIdeal := Cert.BranchSwaGradReferenceIdeal.Gen.facts) :=
  fun m ρ m' ρ' _ hag =>
    ⟨fun c => Cert.Bw.grad (Cert.Bw.act m c) (Cert.Bw.inc m c),
      (θ_run _ _ _).mono (fun r h c => ⟨(h c).1.trans (Cert.Bw.final m c), (h c).2⟩) (Cert.BranchSwaGradIdeal.Value.run_blocks m ρ),
      (θ_run _ _ _).mono (fun r h c => by
        obtain ⟨r0, ha⟩ := h c
        obtain ⟨a0, a1⟩ := hag c
        refine ⟨r0.trans ((Cert.Bw.ref_grad _ _ _ _).trans ?_), ha⟩
        rw [a0, a1]) (Cert.BranchSwaGradReferenceIdeal.Value.run m' ρ')⟩

theorem frameMb : Cert.quiescent_MergeGradReferenceIdeal := fun m ρ _ =>
  (θ_run Cert.MergeGradReferenceIdeal.defs _ _).mono
    (fun r h => ⟨fun c => (h c).2.2.2.2.2.2.2, Idealize.ShloMosaic.sem_eq_zero_of_no_sems (by decide) r.2⟩)
    (Cert.MergeGradReferenceIdeal.Value.run (F := Ideal) m ρ)

theorem equalMb : Cert.algebraic_MergeGradIdeal_MergeGradReferenceIdeal (hMergeGradIdeal := Cert.MergeGradIdeal.Gen.facts)
    (hMergeGradReferenceIdeal := Cert.MergeGradReferenceIdeal.Gen.facts) :=
  fun m ρ m' ρ' _ hag =>
    ⟨fun c => Cert.Mb.dgs (Cert.Mb.dm m c) (Cert.Mb.os m c) (Cert.Mb.ol m c) (Cert.Mb.ow m c) (Cert.Mb.gt m c) (Cert.Mb.ws m c) (Cert.Mb.wl m c) (Cert.Mb.ww m c),
      fun c => Cert.Mb.dsb (Cert.Mb.dm m c) (Cert.Mb.gt m c) (Cert.Mb.ws m c),
      fun c => Cert.Mb.ddil (Cert.Mb.dm m c) (Cert.Mb.gt m c) (Cert.Mb.wl m c),
      fun c => Cert.Mb.dswa (Cert.Mb.dm m c) (Cert.Mb.gt m c) (Cert.Mb.ww m c),
      fun c => Cert.Mb.dbrs (Cert.Mb.dm m c) (Cert.Mb.gt m c) 0,
      fun c => Cert.Mb.dbrs (Cert.Mb.dm m c) (Cert.Mb.gt m c) 1,
      fun c => Cert.Mb.dbrs (Cert.Mb.dm m c) (Cert.Mb.gt m c) 2,
      (θ_run _ _ _).mono (fun r h c => by
        obtain ⟨r0, r1, r2, r3, r4, r5, r6, ha⟩ := h c
        exact ⟨r0.trans (Cert.Mb.final_8 m c), r1.trans (Cert.Mb.final_9 m c), r2.trans (Cert.Mb.final_10 m c), r3.trans (Cert.Mb.final_11 m c),
          r4.trans (Cert.Mb.final_12 m c), r5.trans (Cert.Mb.final_13 m c), r6.trans (Cert.Mb.final_14 m c), ha⟩) (Cert.MergeGradIdeal.Value.run_blocks m ρ),
      (θ_run _ _ _).mono (fun r h c => by
        obtain ⟨r0, r1, r2, r3, r4, r5, r6, ha⟩ := h c
        obtain ⟨a0, a1, a2, a3, a4, a5, a6, a7⟩ := hag c
        refine ⟨r0.trans ((Cert.Mb.ref_dgs _ _ _ _ _ _ _ _ _ _ _ (Cert.Mb.ref_dgate_sb _ _ _ _ _ _ _) (Cert.Mb.ref_dgate_dil _ _ _ _ _ _ _)
            (Cert.Mb.ref_dgate_swa _ _ _ _ _ _ _) _ _).trans ?_),
          r1.trans ((Cert.Mb.ref_dsb _ _ _ _ _ _ _ _).trans ?_), r2.trans ((Cert.Mb.ref_ddil _ _ _ _ _ _).trans ?_),
          r3.trans ((Cert.Mb.ref_dswa _ _ _ _ _ _ _ _).trans ?_), r4.trans ((Cert.Mb.ref_dbrs_sb _ _ _ _ _ _).trans ?_),
          r5.trans ((Cert.Mb.ref_dbrs_dil _ _ _ _ _ _).trans ?_), r6.trans ((Cert.Mb.ref_dbrs_swa _ _ _ _ _ _).trans ?_), ha⟩
        · rw [a0, a1, a2, a3, a4, a5, a6, a7]
        · rw [a0, a4, a5]
        · rw [a0, a4, a6]
        · rw [a0, a4, a7]
        · rw [a0, a4]
        · rw [a0, a4]
        · rw [a0, a4]) (Cert.MergeGradReferenceIdeal.Value.run m' ρ')⟩

end Cert.Proof

end
-- ==== Proof.MergeFwd.lean ====
module

public import Idealize.ShloMosaic.Lib.Pipeline.ValueKit
public import Idealize.ShloMosaic.Lib.Pipeline.ValueKit.Geometry
public import proofs.«01_k».proof.Proof.Gen.MergeIdeal.Value
public import proofs.«01_k».proof.Proof.Gen.MergeReferenceIdeal.Run
public import proofs.«01_k».proof.Proof.Branches

/-!
# The gated sum of the three branches

The kernel takes 256 rows at a time: it lays the heads of the first and the third branch side by side, multiplies each branch
with its weight and with the logistic function of its gates, and adds the three. The reference does the same with whole arrays.
-/

@[expose] public section

set_option maxRecDepth 16384

noncomputable section

namespace Cert.Mf

open Idealize.ShloMosaic hiding ix1 ix2 ix3
open Idealize.ShloMosaic.TcCoe Idealize.ShloMosaic.ValueIdx Cert.Ffn Finset
open scoped BigOperators

/-! ### What the results are -/

/-- The heads of an array side by side. -/
def flat {H A N : ℕ} (e : N = 64 * H) (x : (⟨3, ![H, A, 64]⟩ : Shape).Idx → EReal) : (⟨2, ![A, N]⟩ : Shape).Idx → EReal := fun i =>
  x (ix3 ⟨(i 1).val / 64, by have : (i 1).val < N := (i 1).isLt; omega⟩ (i 0) ⟨(i 1).val % 64, by omega⟩)

theorem flat_lane {H A N : ℕ} (e : N = 64 * H) (x : (⟨3, ![H, A, 64]⟩ : Shape).Idx → EReal) (r : Fin A) (h : Fin H) (d : Fin 64) :
    flat e x (ix2 r (lane e h d)) = x (ix3 h r d) := by
  show x (ix3 ⟨(64 * h.val + d.val) / 64, _⟩ r ⟨(64 * h.val + d.val) % 64, _⟩) = _
  congr 1
  funext a; apply Fin.ext
  match a with
  | ⟨0, _⟩ => show (64 * h.val + d.val) / 64 = h.val; omega
  | ⟨1, _⟩ => rfl
  | ⟨2, _⟩ => show (64 * h.val + d.val) % 64 = d.val; omega

/-- An entry of the gated sum. -/
def merge {A K L M : ℕ} (s : (⟨2, ![A, K]⟩ : Shape).Idx → EReal) (l : (⟨2, ![A, L]⟩ : Shape).Idx → EReal) (w : (⟨2, ![A, M]⟩ : Shape).Idx → EReal)
    (g : (⟨2, ![A, 3072]⟩ : Shape).Idx → EReal) (ws : (⟨2, ![K, 1024]⟩ : Shape).Idx → EReal) (wl : (⟨2, ![L, 1024]⟩ : Shape).Idx → EReal)
    (ww : (⟨2, ![M, 1024]⟩ : Shape).Idx → EReal) (r : Fin A) (n : Fin 1024) : EReal :=
  gate g 0 r n * dotCols s ws r n + gate g 1 r n * dotCols l wl r n + gate g 2 r n * dotCols w ww r n

section Rows

variable {A B H N K L M : ℕ} (f : Fin B → Fin A)

/-- Some of the rows laid side by side are these rows of all of them laid side by side. -/
theorem flat_rows (e : N = 64 * H) {x : (⟨3, ![H, A, 64]⟩ : Shape).Idx → EReal} {x' : (⟨3, ![H, B, 64]⟩ : Shape).Idx → EReal}
    (hx : ∀ h r d, x' (ix3 h r d) = x (ix3 h (f r) d)) (r : Fin B) (n : Fin N) : flat e x' (ix2 r n) = flat e x (ix2 (f r) n) := hx _ _ _

/-- The gated sum on some of the rows is that on all of them, read at these rows. -/
theorem merge_rows {s : (⟨2, ![A, K]⟩ : Shape).Idx → EReal} {s' : (⟨2, ![B, K]⟩ : Shape).Idx → EReal} {l : (⟨2, ![A, L]⟩ : Shape).Idx → EReal}
    {l' : (⟨2, ![B, L]⟩ : Shape).Idx → EReal} {w : (⟨2, ![A, M]⟩ : Shape).Idx → EReal} {w' : (⟨2, ![B, M]⟩ : Shape).Idx → EReal}
    {g : (⟨2, ![A, 3072]⟩ : Shape).Idx → EReal} {g' : (⟨2, ![B, 3072]⟩ : Shape).Idx → EReal} {ws ws' : (⟨2, ![K, 1024]⟩ : Shape).Idx → EReal}
    {wl wl' : (⟨2, ![L, 1024]⟩ : Shape).Idx → EReal} {ww ww' : (⟨2, ![M, 1024]⟩ : Shape).Idx → EReal}
    (hs : ∀ r n, s' (ix2 r n) = s (ix2 (f r) n)) (hl : ∀ r n, l' (ix2 r n) = l (ix2 (f r) n)) (hw : ∀ r n, w' (ix2 r n) = w (ix2 (f r) n))
    (hg : ∀ r n, g' (ix2 r n) = g (ix2 (f r) n)) (hws : ∀ r n, ws' (ix2 r n) = ws (ix2 r n)) (hwl : ∀ r n, wl' (ix2 r n) = wl (ix2 r n))
    (hww : ∀ r n, ww' (ix2 r n) = ww (ix2 r n)) (r : Fin B) (n : Fin 1024) : merge s' l' w' g' ws' wl' ww' r n = merge s l w g ws wl ww (f r) n := by
  have e0 : dotCols s' ws' r n = dotCols s ws (f r) n := Finset.sum_congr rfl fun k _ => by rw [hs, hws]
  have e1 : dotCols l' wl' r n = dotCols l wl (f r) n := Finset.sum_congr rfl fun k _ => by rw [hl, hwl]
  have e2 : dotCols w' ww' r n = dotCols w ww (f r) n := Finset.sum_congr rfl fun k _ => by rw [hw, hww]
  unfold merge gate
  rw [e0, e1, e2, hg, hg, hg]

end Rows

section Results

open Cert.MergeIdeal

/-- The gated sum as an array. -/
def sum3 (s : FVec Ideal S4x2048x64 .f32) (l : FVec Ideal S2048x128 .f32) (w : FVec Ideal S6x2048x64 .f32) (g : FVec Ideal S2048x3072 .f32)
    (ws : FVec Ideal S256x1024 .f32) (wl : FVec Ideal S128x1024 .f32) (ww : FVec Ideal S384x1024 .f32) : FVec Ideal S2048x1024 .bf16 := fun i =>
  merge (K := 256) (L := 128) (M := 384) (flat (H := 4) rfl s) l (flat (H := 6) rfl w) g ws wl ww (i 0) (i 1)

/-- The three branches as they are kept for the backward pass. -/
def keptSb (s : FVec Ideal S4x2048x64 .f32) : FVec Ideal S2048x256 .bf16 := flat (H := 4) rfl s
def keptDil (l : FVec Ideal S2048x128 .f32) : FVec Ideal S2048x128 .bf16 := l
def keptSwa (w : FVec Ideal S6x2048x64 .f32) : FVec Ideal S2048x384 .bf16 := flat (H := 6) rfl w

end Results

section Reference

open Cert.MergeReferenceIdeal

/-- The host's logistic function of an array. -/
abbrev sg (x : FVec Ideal S2048x1024 .f32) (hc : S_.BroadcastsInDim S2048x1024 ![]) : FVec Ideal S2048x1024 .f32 :=
  Host.divf (broadcastInDim S2048x1024 ![] hc (constant (F := Ideal) S_ .f32 0x3F800000#32))
    (addf (broadcastInDim S2048x1024 ![] hc (constant (F := Ideal) S_ .f32 0x3F800000#32)) (Host.exp (Host.negf x)))

theorem sg_apply (x : FVec Ideal S2048x1024 .f32) (hc : S_.BroadcastsInDim S2048x1024 ![]) (i : S2048x1024.Idx) : sg x hc i = lgs (x i) := by
  rw [← host_lgs]; rfl

theorem gate_part (b : Fin 3) (o : ℕ) (ho : o = 1024 * b.val) (g : FVec Ideal S2048x3072 .f32) (hs : S2048x3072.Slices ![0, o] S2048x1024) (r : Fin 2048)
    (n : Fin 1024) : extractStridedSlice S2048x1024 ![0, o] g hs (ix2 r n) = g (ix2 r (col b n)) := by
  subst ho
  exact extractStridedSlice_apply _ g hs _ (ix2 r (col b n)) (fun a => match a with
    | ⟨0, _⟩ => (Nat.zero_add _).symm
    | ⟨1, _⟩ => rfl)

theorem ref_prod_sb (t : FVec Ideal S2048x256 .f32) (w : FVec Ideal S256x1024 .f32) (r : Fin 2048) (n : Fin 1024) :
    Host.dotGeneral dot_S2048x256_S256x1024_S2048x1024_1_0_0_1_n_n none t w (ix2 r n) = dotCols t w r n := by
  exact host_dotCols t w r n

theorem ref_flat_sb (x : FVec Ideal S4x2048x64 .f32) (h1 : S4x2048x64.Transposes [1, 0, 2] S2048x4x64) (h2 : S2048x4x64.ShapeCasts S2048x256) :
    shapeCast S2048x256 (transpose S2048x4x64 [1, 0, 2] x h1) h2 = flat (H := 4) rfl x := by
  refine funext fun (i : S2048x256.Idx) => ?_
  have hl : (i 1).val < 256 := (i 1).isLt
  refine (shapeCast_apply _ h2 i (ix3 (i 0) ⟨(i 1).val / 64, by omega⟩ ⟨(i 1).val % 64, by omega⟩ : S2048x4x64.Idx) (by
    rw [Shape.rowMajor_val_two, Shape.rowMajor_val_three]
    show ((i 0).val * 4 + (i 1).val / 64) * 64 + (i 1).val % 64 = (i 0).val * 256 + (i 1).val
    omega)).trans ?_
  exact transpose_apply _ _ h1 _ (ix3 ⟨(i 1).val / 64, by omega⟩ (i 0) ⟨(i 1).val % 64, by omega⟩ : S4x2048x64.Idx) (by
    intro a
    match a with
    | ⟨0, _⟩ => rfl
    | ⟨1, _⟩ => rfl
    | ⟨2, _⟩ => rfl)

theorem ref_prod_dil (t : FVec Ideal S2048x128 .f32) (w : FVec Ideal S128x1024 .f32) (r : Fin 2048) (n : Fin 1024) :
    Host.dotGeneral dot_S2048x128_S128x1024_S2048x1024_1_0_0_1_n_n none t w (ix2 r n) = dotCols t w r n := by
  exact host_dotCols t w r n

theorem ref_prod_swa (t : FVec Ideal S2048x384 .f32) (w : FVec Ideal S384x1024 .f32) (r : Fin 2048) (n : Fin 1024) :
    Host.dotGeneral dot_S2048x384_S384x1024_S2048x1024_1_0_0_1_n_n none t w (ix2 r n) = dotCols t w r n := by
  exact host_dotCols t w r n

theorem ref_flat_swa (x : FVec Ideal S6x2048x64 .f32) (h1 : S6x2048x64.Transposes [1, 0, 2] S2048x6x64) (h2 : S2048x6x64.ShapeCasts S2048x384) :
    shapeCast S2048x384 (transpose S2048x6x64 [1, 0, 2] x h1) h2 = flat (H := 6) rfl x := by
  refine funext fun (i : S2048x384.Idx) => ?_
  have hl : (i 1).val < 384 := (i 1).isLt
  refine (shapeCast_apply _ h2 i (ix3 (i 0) ⟨(i 1).val / 64, by omega⟩ ⟨(i 1).val % 64, by omega⟩ : S2048x6x64.Idx) (by
    rw [Shape.rowMajor_val_two, Shape.rowMajor_val_three]
    show ((i 0).val * 6 + (i 1).val / 64) * 64 + (i 1).val % 64 = (i 0).val * 384 + (i 1).val
    omega)).trans ?_
  exact transpose_apply _ _ h1 _ (ix3 ⟨(i 1).val / 64, by omega⟩ (i 0) ⟨(i 1).val % 64, by omega⟩ : S6x2048x64.Idx) (by
    intro a
    match a with
    | ⟨0, _⟩ => rfl
    | ⟨1, _⟩ => rfl
    | ⟨2, _⟩ => rfl)

theorem ref_sum (s : FVec Ideal S4x2048x64 .f32) (l : FVec Ideal S2048x128 .f32) (w : FVec Ideal S6x2048x64 .f32) (g : FVec Ideal S2048x3072 .f32)
    (ws : FVec Ideal S256x1024 .f32) (wl : FVec Ideal S128x1024 .f32) (ww : FVec Ideal S384x1024 .f32) (hc : S_.BroadcastsInDim S2048x1024 ![])
    (s0 : S2048x3072.Slices ![0, 0] S2048x1024) (s1 : S2048x3072.Slices ![0, 1024] S2048x1024) (s2 : S2048x3072.Slices ![0, 2048] S2048x1024)
    (h1 : S4x2048x64.Transposes [1, 0, 2] S2048x4x64) (h2 : S2048x4x64.ShapeCasts S2048x256) (h3 : S6x2048x64.Transposes [1, 0, 2] S2048x6x64)
    (h4 : S2048x6x64.ShapeCasts S2048x384) (hb : FTy.bits .bf16 < FTy.bits .f32) :
    truncf .bf16 (addf (addf
      (mulf (sg (extractStridedSlice S2048x1024 ![0, 0] g s0) hc) (Host.dotGeneral dot_S2048x256_S256x1024_S2048x1024_1_0_0_1_n_n none
        (shapeCast S2048x256 (transpose S2048x4x64 [1, 0, 2] s h1) h2) ws))
      (mulf (sg (extractStridedSlice S2048x1024 ![0, 1024] g s1) hc) (Host.dotGeneral dot_S2048x128_S128x1024_S2048x1024_1_0_0_1_n_n none l wl)))
      (mulf (sg (extractStridedSlice S2048x1024 ![0, 2048] g s2) hc) (Host.dotGeneral dot_S2048x384_S384x1024_S2048x1024_1_0_0_1_n_n none
        (shapeCast S2048x384 (transpose S2048x6x64 [1, 0, 2] w h3) h4) ww))) hb = sum3 s l w g ws wl ww := by
  refine funext fun i => ?_
  obtain ⟨r, n, rfl⟩ := exists_pair i
  show sg _ hc (ix2 r n) * Host.dotGeneral dot_S2048x256_S256x1024_S2048x1024_1_0_0_1_n_n none _ ws (ix2 r n)
    + sg _ hc (ix2 r n) * Host.dotGeneral dot_S2048x128_S128x1024_S2048x1024_1_0_0_1_n_n none l wl (ix2 r n)
    + sg _ hc (ix2 r n) * Host.dotGeneral dot_S2048x384_S384x1024_S2048x1024_1_0_0_1_n_n none _ ww (ix2 r n) = _
  rw [sg_apply, sg_apply, sg_apply, gate_part 0 0 rfl, gate_part 1 1024 rfl, gate_part 2 2048 rfl, ref_prod_sb, ref_prod_dil, ref_prod_swa, ref_flat_sb, ref_flat_swa]
  rfl

theorem ref_keptSb (s : FVec Ideal S4x2048x64 .f32) (h1 : S4x2048x64.Transposes [1, 0, 2] S2048x4x64) (h2 : S2048x4x64.ShapeCasts S2048x256)
    (hb : FTy.bits .bf16 < FTy.bits .f32) : truncf .bf16 (shapeCast S2048x256 (transpose S2048x4x64 [1, 0, 2] s h1) h2) hb = keptSb s :=
  ref_flat_sb s h1 h2

theorem ref_keptSwa (w : FVec Ideal S6x2048x64 .f32) (h1 : S6x2048x64.Transposes [1, 0, 2] S2048x6x64) (h2 : S2048x6x64.ShapeCasts S2048x384)
    (hb : FTy.bits .bf16 < FTy.bits .f32) : truncf .bf16 (shapeCast S2048x384 (transpose S2048x6x64 [1, 0, 2] w h1) h2) hb = keptSwa w :=
  ref_flat_swa w h1 h2

theorem ref_keptDil (l : FVec Ideal S2048x128 .f32) (hb : FTy.bits .bf16 < FTy.bits .f32) : truncf .bf16 l hb = keptDil l := rfl

end Reference

open Cert.MergeIdeal Cert.MergeIdeal.Gen

/-! ### One tile -/

/-- A head as the matrix unit reads it. -/
theorem head_apply (v : Vec Ideal S1x256x64 .f32) (r : Fin 256) (d : Fin 64) : k0_pay2 v (ix2 r d) = v (ix3 (0 : Fin 1) r d) := by
  unfold k0_pay2
  exact shapeCast_apply v shapeCasts_S1x256x64_S256x64 (ix2 r d : S256x64.Idx) (ix3 (0 : Fin 1) r d : S1x256x64.Idx) (by
    rw [Shape.rowMajor_val_two, Shape.rowMajor_val_three]
    show (0 * 256 + r.val) * 64 + d.val = r.val * 64 + d.val
    omega)

/-- A head goes to its own columns. -/
theorem head_piece {H K : ℕ} (e : K = 64 * H) (x : Vec Ideal ⟨3, ![H, 256, 64]⟩ .f32) (h : ℕ) (hh : h < H) (o : ℕ) (ho : o = 64 * h)
    (hi : ∀ a, (![h, 0, 0] : Fin 3 → ℕ) a + S1x256x64.size a ≤ (⟨3, ![H, 256, 64]⟩ : Shape).size a)
    (hj : ∀ a, (![0, o] : Fin 2 → ℕ) a + S256x64.size a ≤ (⟨2, ![256, K]⟩ : Shape).size a) (y : S256x64.Idx) :
    k0_pay2 (View.ld x (Rect.unit (s := ⟨3, ![H, 256, 64]⟩) ![h, 0, 0] ![1, 256, 64] hi)) y
      = flat e x ((Rect.unit (s := ⟨2, ![256, K]⟩) ![0, o] ![256, 64] hj).emb y) := by
  obtain ⟨r, d, rfl⟩ := exists_pair y
  refine (head_apply _ r d).trans ?_
  have e' : (Rect.unit (s := ⟨2, ![256, K]⟩) ![0, o] ![256, 64] hj).emb (ix2 r d : S256x64.Idx) = ix2 r (lane e ⟨h, hh⟩ d) := by
    funext a; apply Fin.ext
    match a with
    | ⟨0, _⟩ => show 0 + 1 * r.val = r.val; omega
    | ⟨1, _⟩ => show o + 1 * d.val = 64 * h + d.val; omega
  rw [e', flat_lane]
  refine congrArg x ?_
  funext a; apply Fin.ext
  match a with
  | ⟨0, _⟩ => rfl
  | ⟨1, _⟩ => show 0 + 1 * r.val = r.val; omega
  | ⟨2, _⟩ => show 0 + 1 * d.val = d.val; omega

theorem sum_apply (v0 v1 v2 : Vec Ideal S256x1024 .f32) (s : Vec Ideal S256x256 .bf16) (ws : Vec Ideal S256x1024 .bf16) (l : Vec Ideal S256x128 .bf16)
    (wl : Vec Ideal S128x1024 .bf16) (w : Vec Ideal S256x384 .bf16) (ww : Vec Ideal S384x1024 .bf16) (r : Fin 256) (n : Fin 1024) :
    k0_pay1 (k0_pay14 (k0_pay13 v0) (FloatOps.ofBits (F := Ideal) .f32 0x3F800000#32) s ws v1 l wl) (k0_pay15 v2) (k0_pay16 w) (k0_pay17 ww)
      (constant S256x1024 .f32 0x00000000#32) (ix2 r n)
      = lgs (v0 (ix2 r n)) * dotCols s ws r n + lgs (v1 (ix2 r n)) * dotCols l wl r n + lgs (v2 (ix2 r n)) * dotCols w ww r n := by
  rw [← unit_dotCols (A := 256) (B := 1024) (K := 256) (φ := .bf16) (ψ := .bf16) s ws r n,
    ← unit_dotCols (A := 256) (B := 1024) (K := 128) (φ := .bf16) (ψ := .bf16) l wl r n,
    ← unit_dotCols (A := 256) (B := 1024) (K := 384) (φ := .bf16) (ψ := .bf16) w ww r n,
    ← unit_lgs (v0 (ix2 r n)), ← unit_lgs (v1 (ix2 r n)), ← unit_lgs (v2 (ix2 r n))]
  unfold k0_pay1 k0_pay14 k0_pay16 k0_pay17
  simp only [shapeCast_self]
  rfl

abbrev w256x1024 : Rect S256x1024 := Rect.unit ![0, 0] ![256, 1024] inb_S256x1024_S256x1024_0_0

theorem ld_w256x1024 {φ : EltTy} (x : Vec Ideal S256x1024 φ) : View.ld x w256x1024 = x := ld_whole x _

abbrev w256x256 : Rect S256x256 := Rect.unit ![0, 0] ![256, 256] inb_S256x256_S256x256_0_0

theorem ld_w256x256 {φ : EltTy} (x : Vec Ideal S256x256 φ) : View.ld x w256x256 = x := ld_whole x _

abbrev w128x1024 : Rect S128x1024 := Rect.unit ![0, 0] ![128, 1024] inb_S128x1024_S128x1024_0_0

theorem ld_w128x1024 {φ : EltTy} (x : Vec Ideal S128x1024 φ) : View.ld x w128x1024 = x := ld_whole x _

abbrev w256x128 : Rect S256x128 := Rect.unit ![0, 0] ![256, 128] inb_S256x128_S256x128_0_0

theorem ld_w256x128 {φ : EltTy} (x : Vec Ideal S256x128 φ) : View.ld x w256x128 = x := ld_whole x _

abbrev w384x1024 : Rect S384x1024 := Rect.unit ![0, 0] ![384, 1024] inb_S384x1024_S384x1024_0_0

theorem ld_w384x1024 {φ : EltTy} (x : Vec Ideal S384x1024 φ) : View.ld x w384x1024 = x := ld_whole x _

abbrev w256x384 : Rect S256x384 := Rect.unit ![0, 0] ![256, 384] inb_S256x384_S256x384_0_0

theorem ld_w256x384 {φ : EltTy} (x : Vec Ideal S256x384 φ) : View.ld x w256x384 = x := ld_whole x _

abbrev g0 : Rect S256x3072 := Rect.unit ![0, 0] ![256, 1024] inb_S256x3072_S256x1024_0_0

theorem ld_g0 {φ : EltTy} (x : Vec Ideal S256x3072 φ) (r : Fin 256) (n : Fin 1024) : View.ld x g0 (ix2 r n) = x (ix2 r (col 0 n)) :=
  congrArg x (by
    funext a; apply Fin.ext
    match a with
    | ⟨0, _⟩ => show 0 + 1 * r.val = r.val; omega
    | ⟨1, _⟩ => show 0 + 1 * n.val = 1024 * 0 + n.val; omega)

abbrev g1 : Rect S256x3072 := Rect.unit ![0, 1024] ![256, 1024] inb_S256x3072_S256x1024_0_1024

theorem ld_g1 {φ : EltTy} (x : Vec Ideal S256x3072 φ) (r : Fin 256) (n : Fin 1024) : View.ld x g1 (ix2 r n) = x (ix2 r (col 1 n)) :=
  congrArg x (by
    funext a; apply Fin.ext
    match a with
    | ⟨0, _⟩ => show 0 + 1 * r.val = r.val; omega
    | ⟨1, _⟩ => show 1024 + 1 * n.val = 1024 * 1 + n.val; omega)

abbrev g2 : Rect S256x3072 := Rect.unit ![0, 2048] ![256, 1024] inb_S256x3072_S256x1024_0_2048

theorem ld_g2 {φ : EltTy} (x : Vec Ideal S256x3072 φ) (r : Fin 256) (n : Fin 1024) : View.ld x g2 (ix2 r n) = x (ix2 r (col 2 n)) :=
  congrArg x (by
    funext a; apply Fin.ext
    match a with
    | ⟨0, _⟩ => show 0 + 1 * r.val = r.val; omega
    | ⟨1, _⟩ => show 2048 + 1 * n.val = 1024 * 2 + n.val; omega)

/-- The heads one after the other. -/
def sbParts (x : Vec Ideal S4x256x64 .f32) : List (View.Piece (Elt Ideal) S256x256 .bf16) :=
  [⟨Rect.unit ![0, 192] ![256, 64] inb_S256x256_S256x64_0_192, k0_pay5 (View.ld x (Rect.unit ![3, 0, 0] ![1, 256, 64] inb_S4x256x64_S1x256x64_3_0_0))⟩,
    ⟨Rect.unit ![0, 128] ![256, 64] inb_S256x256_S256x64_0_128, k0_pay4 (View.ld x (Rect.unit ![2, 0, 0] ![1, 256, 64] inb_S4x256x64_S1x256x64_2_0_0))⟩,
    ⟨Rect.unit ![0, 64] ![256, 64] inb_S256x256_S256x64_0_64, k0_pay3 (View.ld x (Rect.unit ![1, 0, 0] ![1, 256, 64] inb_S4x256x64_S1x256x64_1_0_0))⟩,
    ⟨Rect.unit ![0, 0] ![256, 64] inb_S256x256_S256x64_0_0, k0_pay2 (View.ld x (Rect.unit ![0, 0, 0] ![1, 256, 64] inb_S4x256x64_S1x256x64_0_0_0))⟩]

theorem sb_canon (x : Vec Ideal S4x256x64 .f32) (hc : ∀ y, ∃ pc ∈ sbParts x, y ∈ pc.1.set) :
    View.canon (sbParts x) = (flat (H := 4) (N := 256) rfl x : Vec Ideal S256x256 .bf16) := by
  funext y
  refine View.canon_apply_of_pieces (Val := Elt Ideal) (flat (H := 4) (N := 256) rfl x : Vec Ideal S256x256 .bf16) _ ?_ y (hc y)
  intro pc hpc
  rcases List.mem_cons.mp hpc with rfl | hpc
  · exact head_piece rfl x 3 (by decide) 192 rfl inb_S4x256x64_S1x256x64_3_0_0 inb_S256x256_S256x64_0_192
  rcases List.mem_cons.mp hpc with rfl | hpc
  · exact head_piece rfl x 2 (by decide) 128 rfl inb_S4x256x64_S1x256x64_2_0_0 inb_S256x256_S256x64_0_128
  rcases List.mem_cons.mp hpc with rfl | hpc
  · exact head_piece rfl x 1 (by decide) 64 rfl inb_S4x256x64_S1x256x64_1_0_0 inb_S256x256_S256x64_0_64
  rcases List.mem_cons.mp hpc with rfl | hpc
  · exact head_piece rfl x 0 (by decide) 0 rfl inb_S4x256x64_S1x256x64_0_0_0 inb_S256x256_S256x64_0_0
  nomatch hpc

/-- The heads one after the other. -/
def swaParts (x : Vec Ideal S6x256x64 .f32) : List (View.Piece (Elt Ideal) S256x384 .bf16) :=
  [⟨Rect.unit ![0, 320] ![256, 64] inb_S256x384_S256x64_0_320, k0_pay11 (View.ld x (Rect.unit ![5, 0, 0] ![1, 256, 64] inb_S6x256x64_S1x256x64_5_0_0))⟩,
    ⟨Rect.unit ![0, 256] ![256, 64] inb_S256x384_S256x64_0_256, k0_pay10 (View.ld x (Rect.unit ![4, 0, 0] ![1, 256, 64] inb_S6x256x64_S1x256x64_4_0_0))⟩,
    ⟨Rect.unit ![0, 192] ![256, 64] inb_S256x384_S256x64_0_192, k0_pay9 (View.ld x (Rect.unit ![3, 0, 0] ![1, 256, 64] inb_S6x256x64_S1x256x64_3_0_0))⟩,
    ⟨Rect.unit ![0, 128] ![256, 64] inb_S256x384_S256x64_0_128, k0_pay8 (View.ld x (Rect.unit ![2, 0, 0] ![1, 256, 64] inb_S6x256x64_S1x256x64_2_0_0))⟩,
    ⟨Rect.unit ![0, 64] ![256, 64] inb_S256x384_S256x64_0_64, k0_pay7 (View.ld x (Rect.unit ![1, 0, 0] ![1, 256, 64] inb_S6x256x64_S1x256x64_1_0_0))⟩,
    ⟨Rect.unit ![0, 0] ![256, 64] inb_S256x384_S256x64_0_0, k0_pay6 (View.ld x (Rect.unit ![0, 0, 0] ![1, 256, 64] inb_S6x256x64_S1x256x64_0_0_0))⟩]

theorem swa_canon (x : Vec Ideal S6x256x64 .f32) (hc : ∀ y, ∃ pc ∈ swaParts x, y ∈ pc.1.set) :
    View.canon (swaParts x) = (flat (H := 6) (N := 384) rfl x : Vec Ideal S256x384 .bf16) := by
  funext y
  refine View.canon_apply_of_pieces (Val := Elt Ideal) (flat (H := 6) (N := 384) rfl x : Vec Ideal S256x384 .bf16) _ ?_ y (hc y)
  intro pc hpc
  rcases List.mem_cons.mp hpc with rfl | hpc
  · exact head_piece rfl x 5 (by decide) 320 rfl inb_S6x256x64_S1x256x64_5_0_0 inb_S256x384_S256x64_0_320
  rcases List.mem_cons.mp hpc with rfl | hpc
  · exact head_piece rfl x 4 (by decide) 256 rfl inb_S6x256x64_S1x256x64_4_0_0 inb_S256x384_S256x64_0_256
  rcases List.mem_cons.mp hpc with rfl | hpc
  · exact head_piece rfl x 3 (by decide) 192 rfl inb_S6x256x64_S1x256x64_3_0_0 inb_S256x384_S256x64_0_192
  rcases List.mem_cons.mp hpc with rfl | hpc
  · exact head_piece rfl x 2 (by decide) 128 rfl inb_S6x256x64_S1x256x64_2_0_0 inb_S256x384_S256x64_0_128
  rcases List.mem_cons.mp hpc with rfl | hpc
  · exact head_piece rfl x 1 (by decide) 64 rfl inb_S6x256x64_S1x256x64_1_0_0 inb_S256x384_S256x64_0_64
  rcases List.mem_cons.mp hpc with rfl | hpc
  · exact head_piece rfl x 0 (by decide) 0 rfl inb_S6x256x64_S1x256x64_0_0_0 inb_S256x384_S256x64_0_0
  nomatch hpc

/-- The second branch as it is. -/
def dilParts (x : Vec Ideal S256x128 .f32) : List (View.Piece (Elt Ideal) S256x128 .bf16) := [⟨w256x128, k0_pay12 (View.ld x w256x128)⟩]

theorem dil_canon (x : Vec Ideal S256x128 .f32) (hc : ∀ y, ∃ pc ∈ dilParts x, y ∈ pc.1.set) : View.canon (dilParts x) = (x : Vec Ideal S256x128 .bf16) := by
  funext y
  refine View.canon_apply_of_pieces (Val := Elt Ideal) (x : Vec Ideal S256x128 .bf16) _ ?_ y (hc y)
  intro pc hpc
  rcases List.mem_cons.mp hpc with rfl | hpc
  · exact fun y => rfl
  nomatch hpc

section Tile

variable (c : Dev nD) (i : grid0.Coords)
  (a1 : Memref sig .tc .vmem S4x256x64 .f32) (ha1 : a1.IsWhole)
  (a2 : Memref sig .tc .vmem S256x128 .f32) (ha2 : a2.IsWhole)
  (a3 : Memref sig .tc .vmem S6x256x64 .f32) (ha3 : a3.IsWhole)
  (a4 : Memref sig .tc .vmem S256x3072 .f32) (ha4 : a4.IsWhole)
  (a5 : Memref sig .tc .vmem S256x1024 .bf16) (ha5 : a5.IsWhole)
  (a6 : Memref sig .tc .vmem S128x1024 .bf16) (ha6 : a6.IsWhole)
  (a7 : Memref sig .tc .vmem S384x1024 .bf16) (ha7 : a7.IsWhole)
  (a8 : Memref sig .tc .vmem S256x1024 .bf16) (ha8 : a8.IsWhole)
  (a9 : Memref sig .tc .vmem S256x256 .bf16) (ha9 : a9.IsWhole)
  (a10 : Memref sig .tc .vmem S256x128 .bf16) (ha10 : a10.IsWhole)
  (a11 : Memref sig .tc .vmem S256x384 .bf16) (ha11 : a11.IsWhole)
  (x0 : Vec Ideal S4x256x64 .f32)
  (x1 : Vec Ideal S256x128 .f32)
  (x2 : Vec Ideal S6x256x64 .f32)
  (x3 : Vec Ideal S256x3072 .f32)
  (x4 : Vec Ideal S256x1024 .bf16)
  (x5 : Vec Ideal S128x1024 .bf16)
  (x6 : Vec Ideal S384x1024 .bf16)

theorem list_8 : (kernelRun0_A c i a1 ha1 a2 ha2 a3 ha3 a4 ha4 a5 ha5 a6 ha6 a7 ha7 a8 ha8 a9 ha9 a10 ha10 a11 ha11 x0 x1 x2 x3 x4 x5 x6).2.1 = sbParts x0 := by
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.cst_46, kernelRun0_A.sl.cst_69, kernelRun0_A.sl.v51, kernelRun0_A.sl.v65, kernelRun0_A.sl.v80, kernelRun0_A.sl.H8_4, kernelRun0_A.sl.H9_1, kernelRun0_A.sl.H10_6]
  simp only [View.readAt_eq_ld, Memref.IsWhole.read_unread]
  rfl

include c i a1 ha1 a2 ha2 a3 ha3 a4 ha4 a5 ha5 a6 ha6 a7 ha7 a8 ha8 a9 ha9 a10 ha10 a11 ha11 x0 x1 x2 x3 x4 x5 x6 in
theorem covers_8 : ∀ y, ∃ pc ∈ sbParts x0, y ∈ pc.1.set := by
  rw [← list_8 c i a1 ha1 a2 ha2 a3 ha3 a4 ha4 a5 ha5 a6 ha6 a7 ha7 a8 ha8 a9 ha9 a10 ha10 a11 ha11 x0 x1 x2 x3 x4 x5 x6]
  exact cover0_A_8 c i a1 ha1 a2 ha2 a3 ha3 a4 ha4 a5 ha5 a6 ha6 a7 ha7 a8 ha8 a9 ha9 a10 ha10 a11 ha11 x0 x1 x2 x3 x4 x5 x6

theorem out_8 : out0_A_8 c i a1 ha1 a2 ha2 a3 ha3 a4 ha4 a5 ha5 a6 ha6 a7 ha7 a8 ha8 a9 ha9 a10 ha10 a11 ha11 x0 x1 x2 x3 x4 x5 x6 = (flat (H := 4) (N := 256) rfl x0 : Vec Ideal S256x256 .bf16) := by
  unfold out0_A_8
  rw [View.read_writes_eq_canon _ _ _ (cover0_A_8 c i a1 ha1 a2 ha2 a3 ha3 a4 ha4 a5 ha5 a6 ha6 a7 ha7 a8 ha8 a9 ha9 a10 ha10 a11 ha11 x0 x1 x2 x3 x4 x5 x6), list_8]
  exact sb_canon x0 (covers_8 c i a1 ha1 a2 ha2 a3 ha3 a4 ha4 a5 ha5 a6 ha6 a7 ha7 a8 ha8 a9 ha9 a10 ha10 a11 ha11 x0 x1 x2 x3 x4 x5 x6)

theorem list_9 : (kernelRun0_A c i a1 ha1 a2 ha2 a3 ha3 a4 ha4 a5 ha5 a6 ha6 a7 ha7 a8 ha8 a9 ha9 a10 ha10 a11 ha11 x0 x1 x2 x3 x4 x5 x6).2.2.1 = dilParts x1 := by
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.cst_46, kernelRun0_A.sl.cst_69, kernelRun0_A.sl.v51, kernelRun0_A.sl.v65, kernelRun0_A.sl.v80, kernelRun0_A.sl.H8_4, kernelRun0_A.sl.H9_1, kernelRun0_A.sl.H10_6]
  simp only [View.readAt_eq_ld, Memref.IsWhole.read_unread]
  rfl

include c i a1 ha1 a2 ha2 a3 ha3 a4 ha4 a5 ha5 a6 ha6 a7 ha7 a8 ha8 a9 ha9 a10 ha10 a11 ha11 x0 x1 x2 x3 x4 x5 x6 in
theorem covers_9 : ∀ y, ∃ pc ∈ dilParts x1, y ∈ pc.1.set := by
  rw [← list_9 c i a1 ha1 a2 ha2 a3 ha3 a4 ha4 a5 ha5 a6 ha6 a7 ha7 a8 ha8 a9 ha9 a10 ha10 a11 ha11 x0 x1 x2 x3 x4 x5 x6]
  exact cover0_A_9 c i a1 ha1 a2 ha2 a3 ha3 a4 ha4 a5 ha5 a6 ha6 a7 ha7 a8 ha8 a9 ha9 a10 ha10 a11 ha11 x0 x1 x2 x3 x4 x5 x6

theorem out_9 : out0_A_9 c i a1 ha1 a2 ha2 a3 ha3 a4 ha4 a5 ha5 a6 ha6 a7 ha7 a8 ha8 a9 ha9 a10 ha10 a11 ha11 x0 x1 x2 x3 x4 x5 x6 = (x1 : Vec Ideal S256x128 .bf16) := by
  unfold out0_A_9
  rw [View.read_writes_eq_canon _ _ _ (cover0_A_9 c i a1 ha1 a2 ha2 a3 ha3 a4 ha4 a5 ha5 a6 ha6 a7 ha7 a8 ha8 a9 ha9 a10 ha10 a11 ha11 x0 x1 x2 x3 x4 x5 x6), list_9]
  exact dil_canon x1 (covers_9 c i a1 ha1 a2 ha2 a3 ha3 a4 ha4 a5 ha5 a6 ha6 a7 ha7 a8 ha8 a9 ha9 a10 ha10 a11 ha11 x0 x1 x2 x3 x4 x5 x6)

theorem list_10 : (kernelRun0_A c i a1 ha1 a2 ha2 a3 ha3 a4 ha4 a5 ha5 a6 ha6 a7 ha7 a8 ha8 a9 ha9 a10 ha10 a11 ha11 x0 x1 x2 x3 x4 x5 x6).2.2.2.1 = swaParts x2 := by
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.cst_46, kernelRun0_A.sl.cst_69, kernelRun0_A.sl.v51, kernelRun0_A.sl.v65, kernelRun0_A.sl.v80, kernelRun0_A.sl.H8_4, kernelRun0_A.sl.H9_1, kernelRun0_A.sl.H10_6]
  simp only [View.readAt_eq_ld, Memref.IsWhole.read_unread]
  rfl

include c i a1 ha1 a2 ha2 a3 ha3 a4 ha4 a5 ha5 a6 ha6 a7 ha7 a8 ha8 a9 ha9 a10 ha10 a11 ha11 x0 x1 x2 x3 x4 x5 x6 in
theorem covers_10 : ∀ y, ∃ pc ∈ swaParts x2, y ∈ pc.1.set := by
  rw [← list_10 c i a1 ha1 a2 ha2 a3 ha3 a4 ha4 a5 ha5 a6 ha6 a7 ha7 a8 ha8 a9 ha9 a10 ha10 a11 ha11 x0 x1 x2 x3 x4 x5 x6]
  exact cover0_A_10 c i a1 ha1 a2 ha2 a3 ha3 a4 ha4 a5 ha5 a6 ha6 a7 ha7 a8 ha8 a9 ha9 a10 ha10 a11 ha11 x0 x1 x2 x3 x4 x5 x6

theorem out_10 : out0_A_10 c i a1 ha1 a2 ha2 a3 ha3 a4 ha4 a5 ha5 a6 ha6 a7 ha7 a8 ha8 a9 ha9 a10 ha10 a11 ha11 x0 x1 x2 x3 x4 x5 x6 = (flat (H := 6) (N := 384) rfl x2 : Vec Ideal S256x384 .bf16) := by
  unfold out0_A_10
  rw [View.read_writes_eq_canon _ _ _ (cover0_A_10 c i a1 ha1 a2 ha2 a3 ha3 a4 ha4 a5 ha5 a6 ha6 a7 ha7 a8 ha8 a9 ha9 a10 ha10 a11 ha11 x0 x1 x2 x3 x4 x5 x6), list_10]
  exact swa_canon x2 (covers_10 c i a1 ha1 a2 ha2 a3 ha3 a4 ha4 a5 ha5 a6 ha6 a7 ha7 a8 ha8 a9 ha9 a10 ha10 a11 ha11 x0 x1 x2 x3 x4 x5 x6)

theorem list_7 : (kernelRun0_A c i a1 ha1 a2 ha2 a3 ha3 a4 ha4 a5 ha5 a6 ha6 a7 ha7 a8 ha8 a9 ha9 a10 ha10 a11 ha11 x0 x1 x2 x3 x4 x5 x6).1 = [⟨w256x1024, k0_pay1 (k0_pay14 (k0_pay13 (View.ld x3 g0)) (FloatOps.ofBits (F := Ideal) .f32 0x3F800000#32)
      (View.ld (View.canon (sbParts x0)) w256x256) (View.ld x4 w256x1024) (View.ld x3 g1) (View.ld (View.canon (dilParts x1)) w256x128) (View.ld x5 w128x1024))
      (k0_pay15 (View.ld x3 g2)) (k0_pay16 (View.ld (View.canon (swaParts x2)) w256x384)) (k0_pay17 (View.ld x6 w384x1024)) (constant S256x1024 .f32 0x00000000#32)⟩] := by
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.cst_46, kernelRun0_A.sl.cst_69, kernelRun0_A.sl.v51, kernelRun0_A.sl.v65, kernelRun0_A.sl.v80, kernelRun0_A.sl.H8_4, kernelRun0_A.sl.H9_1, kernelRun0_A.sl.H10_6]
  simp only [View.readAt_eq_ld, Memref.IsWhole.read_unread, View.readCov_eq_canon']
  rfl

theorem out_7 (r : Fin 256) (n : Fin 1024) : out0_A_7 c i a1 ha1 a2 ha2 a3 ha3 a4 ha4 a5 ha5 a6 ha6 a7 ha7 a8 ha8 a9 ha9 a10 ha10 a11 ha11 x0 x1 x2 x3 x4 x5 x6 (ix2 r n)
    = merge (K := 256) (L := 128) (M := 384) (flat (H := 4) rfl x0) x1 (flat (H := 6) rfl x2) x3 x4 x5 x6 r n := by
  have hc := cover0_A_7 c i a1 ha1 a2 ha2 a3 ha3 a4 ha4 a5 ha5 a6 ha6 a7 ha7 a8 ha8 a9 ha9 a10 ha10 a11 ha11 x0 x1 x2 x3 x4 x5 x6
  unfold out0_A_7
  rw [View.read_writes_eq_canon _ _ _ hc]
  rw [list_7] at hc ⊢
  refine (View.canon_apply_of_pieces (Val := Elt Ideal)
    (fun y => merge (K := 256) (L := 128) (M := 384) (flat (H := 4) rfl x0) x1 (flat (H := 6) rfl x2) x3 x4 x5 x6 (y 0) (y 1) : Vec Ideal S256x1024 .bf16) _ ?_
    (ix2 r n) (hc _)).trans rfl
  intro pc hpc
  rcases List.mem_cons.mp hpc with rfl | hpc
  · intro x
    obtain ⟨r, n, rfl⟩ := exists_pair x
    refine Eq.trans ?_ (congrArg (fun y : S256x1024.Idx => merge (K := 256) (L := 128) (M := 384) (flat (H := 4) rfl x0) x1 (flat (H := 6) rfl x2) x3 x4 x5 x6 (y 0) (y 1))
      (idx_whole inb_S256x1024_S256x1024_0_0 r n)).symm
    refine (sum_apply _ _ _ _ _ _ _ _ _ r n).trans ?_
    rw [ld_g0, ld_g1, ld_g2, ld_w256x256, ld_w256x1024, ld_w256x128, ld_w128x1024, ld_w256x384, ld_w384x1024, sb_canon x0 (covers_8 c i a1 ha1 a2 ha2 a3 ha3 a4 ha4 a5 ha5 a6 ha6 a7 ha7 a8 ha8 a9 ha9 a10 ha10 a11 ha11 x0 x1 x2 x3 x4 x5 x6),
      dil_canon x1 (covers_9 c i a1 ha1 a2 ha2 a3 ha3 a4 ha4 a5 ha5 a6 ha6 a7 ha7 a8 ha8 a9 ha9 a10 ha10 a11 ha11 x0 x1 x2 x3 x4 x5 x6), swa_canon x2 (covers_10 c i a1 ha1 a2 ha2 a3 ha3 a4 ha4 a5 ha5 a6 ha6 a7 ha7 a8 ha8 a9 ha9 a10 ha10 a11 ha11 x0 x1 x2 x3 x4 x5 x6)]
    rfl
  nomatch hpc

end Tile

/-! ### The arrays as launched -/

variable (m : (ℓ : Loc nD τ sig) → Buf (Elt Ideal) ℓ) (c : Dev nD)

abbrev os : FVec Ideal S4x2048x64 .f32 := m ((c.tc : Thread nD τ).loc main_arg0)
abbrev ol : FVec Ideal S2048x128 .f32 := m ((c.tc : Thread nD τ).loc main_arg1)
abbrev ow : FVec Ideal S6x2048x64 .f32 := m ((c.tc : Thread nD τ).loc main_arg2)
abbrev gt : FVec Ideal S2048x3072 .f32 := m ((c.tc : Thread nD τ).loc main_arg3)
abbrev ws : FVec Ideal S256x1024 .f32 := m ((c.tc : Thread nD τ).loc main_arg4)
abbrev wl : FVec Ideal S128x1024 .f32 := m ((c.tc : Thread nD τ).loc main_arg5)
abbrev ww : FVec Ideal S384x1024 .f32 := m ((c.tc : Thread nD τ).loc main_arg6)

theorem V_os : V m c main_arg0 = os m c := rfl
theorem V_ol : V m c main_arg1 = ol m c := rfl
theorem V_ow : V m c main_arg2 = ow m c := rfl
theorem V_gt : V m c main_arg3 = gt m c := rfl
theorem V_ws : V m c main_v0 = ws m c := rfl
theorem V_wl : V m c main_v1 = wl m c := rfl
theorem V_ww : V m c main_v2 = ww m c := rfl

theorem N0_eq : cfg0.N = 8 := by decide
theorem ix_0 : ∀ t : Fin cfg0.N, win0_0.index t 0 = 0 ∧ win0_0.index t 1 = t.val ∧ win0_0.index t 2 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = t.val ∧ win0_2.index t 2 = 0 := by decide +kernel
theorem ix_3 : ∀ t : Fin cfg0.N, win0_3.index t 0 = t.val ∧ win0_3.index t 1 = 0 := by decide +kernel
theorem ix_4 : ∀ t : Fin cfg0.N, win0_4.index t 0 = 0 ∧ win0_4.index t 1 = 0 := by decide +kernel
theorem ix_5 : ∀ t : Fin cfg0.N, win0_5.index t 0 = 0 ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = t.val ∧ win0_7.index t 1 = 0 := by decide +kernel
theorem ix_8 : ∀ t : Fin cfg0.N, win0_8.index t 0 = t.val ∧ win0_8.index t 1 = 0 := by decide +kernel
theorem ix_9 : ∀ t : Fin cfg0.N, win0_9.index t 0 = t.val ∧ win0_9.index t 1 = 0 := by decide +kernel
theorem ix_10 : ∀ t : Fin cfg0.N, win0_10.index t 0 = t.val ∧ win0_10.index t 1 = 0 := by decide +kernel

theorem row_lt (t : Fin cfg0.N) (r : Fin 256) : 256 * t.val + r.val < 2048 := by
  have := lt_of_lt_of_eq t.isLt N0_eq; omega

/-- The row of the whole array that a tile's row is. -/
def rowAt (t : Fin cfg0.N) (r : Fin 256) : Fin 2048 := ⟨256 * t.val + r.val, row_lt t r⟩

theorem iblk_0 (t : Fin cfg0.N) (h : Fin 4) (r : Fin 256) (d : Fin 64) : (iblk m c 0 t : Vec Ideal S4x256x64 .f32) (ix3 h r d) = os m c (ix3 h (rowAt t r) d) := by
  have hi := ix_0 t
  rw [← V_os]
  unfold iblk
  rw [View.read_apply]
  show V m c main_arg0 _ = V m c main_arg0 _
  congr 1; funext a; apply Fin.ext
  match a with
  | ⟨0, _⟩ => show win0_0.index t 0 * 4 + 1 * h.val = h.val; rw [hi.1]; omega
  | ⟨1, _⟩ => show win0_0.index t 1 * 256 + 1 * r.val = 256 * t.val + r.val; rw [hi.2.1]; omega
  | ⟨2, _⟩ => show win0_0.index t 2 * 64 + 1 * d.val = d.val; rw [hi.2.2]; omega

theorem iblk_1 (t : Fin cfg0.N) (r : Fin 256) (n : Fin 128) : (iblk m c 1 t : Vec Ideal S256x128 .f32) (ix2 r n) = ol m c (ix2 (rowAt t r) n) := by
  have hi := ix_1 t
  rw [← V_ol]
  unfold iblk
  rw [View.read_apply]
  show V m c main_arg1 _ = V m c main_arg1 _
  congr 1; funext a; apply Fin.ext
  match a with
  | ⟨0, _⟩ => show win0_1.index t 0 * 256 + 1 * r.val = 256 * t.val + r.val; rw [hi.1]; omega
  | ⟨1, _⟩ => show win0_1.index t 1 * 128 + 1 * n.val = n.val; rw [hi.2]; omega

theorem iblk_2 (t : Fin cfg0.N) (h : Fin 6) (r : Fin 256) (d : Fin 64) : (iblk m c 2 t : Vec Ideal S6x256x64 .f32) (ix3 h r d) = ow m c (ix3 h (rowAt t r) d) := by
  have hi := ix_2 t
  rw [← V_ow]
  unfold iblk
  rw [View.read_apply]
  show V m c main_arg2 _ = V m c main_arg2 _
  congr 1; funext a; apply Fin.ext
  match a with
  | ⟨0, _⟩ => show win0_2.index t 0 * 6 + 1 * h.val = h.val; rw [hi.1]; omega
  | ⟨1, _⟩ => show win0_2.index t 1 * 256 + 1 * r.val = 256 * t.val + r.val; rw [hi.2.1]; omega
  | ⟨2, _⟩ => show win0_2.index t 2 * 64 + 1 * d.val = d.val; rw [hi.2.2]; omega

theorem iblk_3 (t : Fin cfg0.N) (r : Fin 256) (n : Fin 3072) : (iblk m c 3 t : Vec Ideal S256x3072 .f32) (ix2 r n) = gt m c (ix2 (rowAt t r) n) := by
  have hi := ix_3 t
  rw [← V_gt]
  unfold iblk
  rw [View.read_apply]
  show V m c main_arg3 _ = V m c main_arg3 _
  congr 1; funext a; apply Fin.ext
  match a with
  | ⟨0, _⟩ => show win0_3.index t 0 * 256 + 1 * r.val = 256 * t.val + r.val; rw [hi.1]; omega
  | ⟨1, _⟩ => show win0_3.index t 1 * 3072 + 1 * n.val = n.val; rw [hi.2]; omega

theorem iblk_4 (t : Fin cfg0.N) (r : Fin 256) (n : Fin 1024) : (iblk m c 4 t : Vec Ideal S256x1024 .bf16) (ix2 r n) = ws m c (ix2 r n) := by
  have hi := ix_4 t
  rw [← V_ws]
  unfold iblk
  rw [View.read_apply]
  show V m c main_v0 _ = V m c main_v0 _
  congr 1; funext a; apply Fin.ext
  match a with
  | ⟨0, _⟩ => show win0_4.index t 0 * 256 + 1 * r.val = r.val; rw [hi.1]; omega
  | ⟨1, _⟩ => show win0_4.index t 1 * 1024 + 1 * n.val = n.val; rw [hi.2]; omega

theorem iblk_5 (t : Fin cfg0.N) (r : Fin 128) (n : Fin 1024) : (iblk m c 5 t : Vec Ideal S128x1024 .bf16) (ix2 r n) = wl m c (ix2 r n) := by
  have hi := ix_5 t
  rw [← V_wl]
  unfold iblk
  rw [View.read_apply]
  show V m c main_v1 _ = V m c main_v1 _
  congr 1; funext a; apply Fin.ext
  match a with
  | ⟨0, _⟩ => show win0_5.index t 0 * 128 + 1 * r.val = r.val; rw [hi.1]; omega
  | ⟨1, _⟩ => show win0_5.index t 1 * 1024 + 1 * n.val = n.val; rw [hi.2]; omega

theorem iblk_6 (t : Fin cfg0.N) (r : Fin 384) (n : Fin 1024) : (iblk m c 6 t : Vec Ideal S384x1024 .bf16) (ix2 r n) = ww m c (ix2 r n) := by
  have hi := ix_6 t
  rw [← V_ww]
  unfold iblk
  rw [View.read_apply]
  show V m c main_v2 _ = V m c main_v2 _
  congr 1; funext a; apply Fin.ext
  match a with
  | ⟨0, _⟩ => show win0_6.index t 0 * 384 + 1 * r.val = r.val; rw [hi.1]; omega
  | ⟨1, _⟩ => show win0_6.index t 1 * 1024 + 1 * n.val = n.val; rw [hi.2]; omega

/-! ### The result arrays -/

theorem final_7 : (dats m 0 c).arrAt 7 cfg0.N = sum3 (os m c) (ol m c) (ow m c) (gt m c) (ws m c) (wl m c) (ww m c) := by
  refine (dats m 0 c).arrAt_eq_of_covers 7 _ (by decide +kernel) fun t hf y => ?_
  have hi := ix_7 t
  blk_simp
  rw [after0_7]
  obtain ⟨r, n, rfl⟩ := exists_pair y
  have e : ((cfg0.win 7).blk t).view.emb (ix2 r n) = ix2 (rowAt t r) n := by
    funext a; apply Fin.ext
    match a with
    | ⟨0, _⟩ => show win0_7.index t 0 * 256 + 1 * r.val = 256 * t.val + r.val; rw [hi.1]; omega
    | ⟨1, _⟩ => show win0_7.index t 1 * 1024 + 1 * n.val = n.val; rw [hi.2]; omega
  have e' : (outsAt0 m c t).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) := by simp only [outsAt0]
  refine (congrFun e' (ix2 r n)).trans ((out_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) r n).trans (Eq.trans ?_ (congrArg (sum3 (os m c) (ol m c) (ow m c) (gt m c) (ws m c) (wl m c) (ww m c)) e).symm))
  exact merge_rows (rowAt t) (flat_rows (rowAt t) rfl (iblk_0 m c t)) (iblk_1 m c t) (flat_rows (rowAt t) rfl (iblk_2 m c t)) (iblk_3 m c t) (iblk_4 m c t) (iblk_5 m c t) (iblk_6 m c t) r n

theorem final_8 : (dats m 0 c).arrAt 8 cfg0.N = keptSb (os m c) := by
  refine (dats m 0 c).arrAt_eq_of_covers 8 _ (by decide +kernel) fun t hf y => ?_
  have hi := ix_8 t
  blk_simp
  rw [after0_8]
  obtain ⟨r, n, rfl⟩ := exists_pair y
  have e : ((cfg0.win 8).blk t).view.emb (ix2 r n) = ix2 (rowAt t r) n := by
    funext a; apply Fin.ext
    match a with
    | ⟨0, _⟩ => show win0_8.index t 0 * 256 + 1 * r.val = 256 * t.val + r.val; rw [hi.1]; omega
    | ⟨1, _⟩ => show win0_8.index t 1 * 256 + 1 * n.val = n.val; rw [hi.2]; omega
  have e' : (outsAt0 m c t).2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) := by simp only [outsAt0]
  refine (congrFun e' (ix2 r n)).trans ((congrFun (out_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t)) (ix2 r n)).trans (Eq.trans ?_ (congrArg (keptSb (os m c)) e).symm))
  exact flat_rows (H := 4) (N := 256) (rowAt t) rfl (iblk_0 m c t) r n

theorem final_9 : (dats m 0 c).arrAt 9 cfg0.N = keptDil (ol m c) := by
  refine (dats m 0 c).arrAt_eq_of_covers 9 _ (by decide +kernel) fun t hf y => ?_
  have hi := ix_9 t
  blk_simp
  rw [after0_9]
  obtain ⟨r, n, rfl⟩ := exists_pair y
  have e : ((cfg0.win 9).blk t).view.emb (ix2 r n) = ix2 (rowAt t r) n := by
    funext a; apply Fin.ext
    match a with
    | ⟨0, _⟩ => show win0_9.index t 0 * 256 + 1 * r.val = 256 * t.val + r.val; rw [hi.1]; omega
    | ⟨1, _⟩ => show win0_9.index t 1 * 128 + 1 * n.val = n.val; rw [hi.2]; omega
  have e' : (outsAt0 m c t).2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) := by simp only [outsAt0]
  refine (congrFun e' (ix2 r n)).trans ((congrFun (out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t)) (ix2 r n)).trans (Eq.trans ?_ (congrArg (keptDil (ol m c)) e).symm))
  exact iblk_1 m c t r n

theorem final_10 : (dats m 0 c).arrAt 10 cfg0.N = keptSwa (ow m c) := by
  refine (dats m 0 c).arrAt_eq_of_covers 10 _ (by decide +kernel) fun t hf y => ?_
  have hi := ix_10 t
  blk_simp
  rw [after0_10]
  obtain ⟨r, n, rfl⟩ := exists_pair y
  have e : ((cfg0.win 10).blk t).view.emb (ix2 r n) = ix2 (rowAt t r) n := by
    funext a; apply Fin.ext
    match a with
    | ⟨0, _⟩ => show win0_10.index t 0 * 256 + 1 * r.val = 256 * t.val + r.val; rw [hi.1]; omega
    | ⟨1, _⟩ => show win0_10.index t 1 * 384 + 1 * n.val = n.val; rw [hi.2]; omega
  have e' : (outsAt0 m c t).2.2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) := by simp only [outsAt0]
  refine (congrFun e' (ix2 r n)).trans ((congrFun (out_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t)) (ix2 r n)).trans (Eq.trans ?_ (congrArg (keptSwa (ow m c)) e).symm))
  exact flat_rows (H := 6) (N := 384) (rowAt t) rfl (iblk_2 m c t) r n

end Cert.Mf

end
-- ==== Proof.EqualMerge.lean ====
module

public import proofs.«01_k».proof.Defs
public import proofs.«01_k».proof.Proof.MergeFwd
public import Idealize.ShloMosaic.Adequacy
public import Idealize.ShloMosaic.Init

/-!
# The gated sum of the three branches agrees with its reference
-/

@[expose] public section

set_option maxRecDepth 16384

noncomputable section

namespace Cert.Proof

open Idealize.ShloMosaic Idealize.ShloMosaic.TcCoe Idealize.SL.Sem

theorem frameMf : Cert.quiescent_MergeReferenceIdeal := fun m ρ _ =>
  (θ_run Cert.MergeReferenceIdeal.defs _ _).mono
    (fun r h => ⟨fun c => (h c).2.2.2.2, Idealize.ShloMosaic.sem_eq_zero_of_no_sems (by decide) r.2⟩)
    (Cert.MergeReferenceIdeal.Value.run (F := Ideal) m ρ)

theorem equalMf : Cert.algebraic_MergeIdeal_MergeReferenceIdeal (hMergeIdeal := Cert.MergeIdeal.Gen.facts)
    (hMergeReferenceIdeal := Cert.MergeReferenceIdeal.Gen.facts) :=
  fun m ρ m' ρ' _ hag =>
    ⟨fun c => Cert.Mf.sum3 (Cert.Mf.os m c) (Cert.Mf.ol m c) (Cert.Mf.ow m c) (Cert.Mf.gt m c) (Cert.Mf.ws m c) (Cert.Mf.wl m c) (Cert.Mf.ww m c),
      fun c => Cert.Mf.keptSb (Cert.Mf.os m c),
      fun c => Cert.Mf.keptDil (Cert.Mf.ol m c),
      fun c => Cert.Mf.keptSwa (Cert.Mf.ow m c),
      (θ_run _ _ _).mono (fun r h c => by
        obtain ⟨r0, r1, r2, r3, ha⟩ := h c
        exact ⟨r0.trans (Cert.Mf.final_7 m c), r1.trans (Cert.Mf.final_8 m c), r2.trans (Cert.Mf.final_9 m c), r3.trans (Cert.Mf.final_10 m c), ha⟩)
        (Cert.MergeIdeal.Value.run_blocks m ρ),
      (θ_run _ _ _).mono (fun r h c => by
        obtain ⟨r0, r1, r2, r3, ha⟩ := h c
        obtain ⟨a0, a1, a2, a3, a4, a5, a6⟩ := hag c
        refine ⟨r0.trans ((Cert.Mf.ref_sum _ _ _ _ _ _ _ _ _ _ _ _ _ _ _ _).trans ?_), r1.trans ((Cert.Mf.ref_keptSb _ _ _ _).trans ?_),
          r2.trans ((Cert.Mf.ref_keptDil _ _).trans ?_), r3.trans ((Cert.Mf.ref_keptSwa _ _ _ _).trans ?_), ha⟩
        · rw [a0, a1, a2, a3, a4, a5, a6]
        · rw [a0]
        · rw [a1]
        · rw [a2]) (Cert.MergeReferenceIdeal.Value.run m' ρ')⟩

end Cert.Proof

end
-- ==== Proof.lean ====
/- The claims about twenty-one kernels of one training step: of the stick-breaking attention the gradient and the forward pass; of
   the feed-forward part and of the mixed and output projections the products, the gated activation and their gradients; of the mixer's
   three branches the gated sum, the gradient through it and the gradients of the weights.  Every run of a kernel and of its reference
   ends with the arguments unchanged and the semaphores at zero, and the idealized kernel is the kernel's own text.  The kernel's
   results are the reference's, of seven kernels where the arguments named in the precondition are finite. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.GateGrad.Frame
public import proofs.«01_k».proof.Proof.Gen.GateGradIdeal.Value
public import proofs.«01_k».proof.Proof.Gen.GateGradReferenceIdeal.Run
public import proofs.«01_k».proof.Proof.Gen.WeightGrad.Frame
public import proofs.«01_k».proof.Proof.Gen.WeightGradIdeal.Value
public import proofs.«01_k».proof.Proof.Gen.WeightGradReferenceIdeal.Run
public import proofs.«01_k».proof.Proof.Gen.NormGrad.Frame
public import proofs.«01_k».proof.Proof.Gen.NormGradIdeal.Value
public import proofs.«01_k».proof.Proof.Gen.NormGradReferenceIdeal.Run
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.Qkv.Frame
public import proofs.«01_k».proof.Proof.Gen.QkvIdeal.Value
public import proofs.«01_k».proof.Proof.Gen.QkvReferenceIdeal.Run
public import proofs.«01_k».proof.Proof.Gen.Gates.Frame
public import proofs.«01_k».proof.Proof.Gen.GatesIdeal.Value
public import proofs.«01_k».proof.Proof.Gen.GatesReferenceIdeal.Run
public import proofs.«01_k».proof.Proof.Gen.GatesGrad.Frame
public import proofs.«01_k».proof.Proof.Gen.GatesGradIdeal.Value
public import proofs.«01_k».proof.Proof.Gen.GatesGradReferenceIdeal.Run
public import proofs.«01_k».proof.Proof.Gen.MixNormGrad.Frame
public import proofs.«01_k».proof.Proof.Gen.MixNormGradIdeal.Value
public import proofs.«01_k».proof.Proof.Gen.MixNormGradReferenceIdeal.Run
public import proofs.«01_k».proof.Proof.Finite
public import Idealize.ShloMosaic.Adequacy
public import Idealize.ShloMosaic.Init
public import proofs.«01_k».proof.Proof.Gen.Out.Frame
public import proofs.«01_k».proof.Proof.Gen.OutIdeal.Value
public import proofs.«01_k».proof.Proof.Gen.OutReferenceIdeal.Run
public import proofs.«01_k».proof.Proof.Gen.OutGrad.Frame
public import proofs.«01_k».proof.Proof.Gen.OutGradIdeal.Value
public import proofs.«01_k».proof.Proof.Gen.OutGradReferenceIdeal.Run
public import proofs.«01_k».proof.Proof.Gen.OutWeightGrad.Frame
public import proofs.«01_k».proof.Proof.Gen.OutWeightGradIdeal.Value
public import proofs.«01_k».proof.Proof.Gen.OutWeightGradReferenceIdeal.Run
public import proofs.«01_k».proof.Proof.Gen.HalfNormGrad.Frame
public import proofs.«01_k».proof.Proof.Gen.HalfNormGradIdeal.Value
public import proofs.«01_k».proof.Proof.Gen.HalfNormGradReferenceIdeal.Run
public import proofs.«01_k».proof.Proof.Gen.LastNormGrad.Frame
public import proofs.«01_k».proof.Proof.Gen.LastNormGradIdeal.Value
public import proofs.«01_k».proof.Proof.Gen.LastNormGradReferenceIdeal.Run
public import proofs.«01_k».proof.Proof.Gen.SbForward.Frame
public import proofs.«01_k».proof.Proof.Gen.SbForwardIdeal.Value
public import proofs.«01_k».proof.Proof.Gen.SbForwardReferenceIdeal.Run
public import proofs.«01_k».proof.Proof.Gen.BranchSbGrad.Frame
public import proofs.«01_k».proof.Proof.Gen.BranchSbGradIdeal.Value
public import proofs.«01_k».proof.Proof.Gen.BranchSbGradReferenceIdeal.Run
public import proofs.«01_k».proof.Proof.Gen.BranchDilGrad.Frame
public import proofs.«01_k».proof.Proof.Gen.BranchDilGradIdeal.Value
public import proofs.«01_k».proof.Proof.Gen.BranchDilGradReferenceIdeal.Run
public import proofs.«01_k».proof.Proof.Gen.BranchSwaGrad.Frame
public import proofs.«01_k».proof.Proof.Gen.BranchSwaGradIdeal.Value
public import proofs.«01_k».proof.Proof.Gen.BranchSwaGradReferenceIdeal.Run
public import proofs.«01_k».proof.Proof.Gen.MergeGrad.Frame
public import proofs.«01_k».proof.Proof.Gen.MergeGradIdeal.Value
public import proofs.«01_k».proof.Proof.Gen.MergeGradReferenceIdeal.Run
public import proofs.«01_k».proof.Proof.Equal
public import proofs.«01_k».proof.Proof.EqualRest
public import proofs.«01_k».proof.Proof.EqualLast
public import proofs.«01_k».proof.Proof.Gen.Merge.Frame
public import proofs.«01_k».proof.Proof.Gen.MergeIdeal.Value
public import proofs.«01_k».proof.Proof.Gen.MergeReferenceIdeal.Run
public import proofs.«01_k».proof.Proof.EqualForward
public import proofs.«01_k».proof.Proof.EqualBranch
public import proofs.«01_k».proof.Proof.EqualMerge

@[expose] public section

noncomputable section

namespace Cert.Proof

open Idealize.ShloMosaic Idealize.SL.Sem Cert.Kernel

/-- The reference is host code alone: its run read at the arguments; it declares no semaphore. -/
theorem frameRef : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

section Values

open Idealize.ShloMosaic.TcCoe Cert.Sb

variable (m : (ℓ : Loc Cert.KernelIdeal.nD Cert.KernelIdeal.τ Cert.KernelIdeal.sig) → Buf (Elt Ideal) ℓ) (c : Dev Cert.KernelIdeal.nD)

/-- The kernel's four arguments. -/
abbrev aq : FVec Ideal Cert.ReferenceIdeal.S1x2048x4x64 .f32 := m ((c.tc : Thread Cert.KernelIdeal.nD Cert.KernelIdeal.τ).loc Cert.KernelIdeal.main_arg0)
abbrev ak : FVec Ideal Cert.ReferenceIdeal.S1x2048x4x64 .f32 := m ((c.tc : Thread Cert.KernelIdeal.nD Cert.KernelIdeal.τ).loc Cert.KernelIdeal.main_arg1)
abbrev av : FVec Ideal Cert.ReferenceIdeal.S1x2048x4x64 .f32 := m ((c.tc : Thread Cert.KernelIdeal.nD Cert.KernelIdeal.τ).loc Cert.KernelIdeal.main_arg2)
abbrev ag : FVec Ideal Cert.ReferenceIdeal.S1x2048x4x64 .f32 := m ((c.tc : Thread Cert.KernelIdeal.nD Cert.KernelIdeal.τ).loc Cert.KernelIdeal.main_arg3)

/-- On finite arguments the kernel's three results are the reference's. -/
theorem results [Cert.Pre_finite.Facts] (h : Cert.Pre_finite.fn (F := Ideal) (aq m c) (ak m c) (av m c) (ag m c) = fun _ => 1#1) :
    (Cert.KernelIdeal.Gen.dats m 0 c).arrAt 5 Cert.KernelIdeal.cfg0.N = Ref.gradQ (aq m c) (ak m c) (av m c) (ag m c)
    ∧ (Cert.KernelIdeal.Gen.dats m 0 c).arrAt 6 Cert.KernelIdeal.cfg0.N = Ref.gradK (aq m c) (ak m c) (av m c) (ag m c)
    ∧ (Cert.KernelIdeal.Gen.dats m 0 c).arrAt 7 Cert.KernelIdeal.cfg0.N = Ref.gradV (aq m c) (ak m c) (ag m c) := by
  obtain ⟨⟨Q, hQ⟩, ⟨K, hK⟩, ⟨V, hV⟩, ⟨G, hG⟩⟩ := exists_real_args _ _ _ _ h
  have hin : InAll m c (Ref.eighth Q) K V G := inAll ⟨hQ, hK, hV, hG⟩
  refine ⟨(final5 hin).trans (funext fun i => ?_), (final6 hin).trans (funext fun i => ?_), (final7 hin).trans (funext fun i => ?_)⟩
  · exact (IsA.eq (fun h t d => Ref.gradQ_real hQ hK hV hG h t d) i).symm
  · exact (IsA.eq (a := fun h s d => ∑ t ∈ Finset.range 2048, dr (Ref.eighth Q h) (K h) (V h) (G h) t s * Ref.eighth Q h t d)
      (fun h s d => Ref.gradK_real hQ hK hV hG h s d) i).symm
  · exact (IsA.eq (a := fun h s d => ∑ t ∈ Finset.range 2048, wr (Ref.eighth Q h) (K h) t s * G h t d)
      (fun h s d => Ref.gradV_real hQ hK hG h s d) i).symm

end Values

/-- On finite arguments the kernel and the reference end with equal results. -/
theorem equal [hf : Cert.Pre_finite.Facts] :
    Cert.algebraic_KernelIdeal_ReferenceIdeal_pre_finite (hKernelIdeal := Cert.KernelIdeal.Gen.facts) (hReferenceIdeal := Cert.ReferenceIdeal.Gen.facts) :=
  fun m ρ m' ρ' hpre hag =>
    ⟨fun c => Cert.Sb.Ref.gradQ (aq m c) (ak m c) (av m c) (ag m c), fun c => Cert.Sb.Ref.gradK (aq m c) (ak m c) (av m c) (ag m c),
      fun c => Cert.Sb.Ref.gradV (aq m c) (ak m c) (ag m c),
      (θ_run _ _ _).mono (fun r h c => by
        obtain ⟨r0, r1, r2, ha⟩ := h c
        obtain ⟨e0, e1, e2⟩ := results m c (hpre c)
        exact ⟨r0.trans e0, r1.trans e1, r2.trans e2, ha⟩) (Cert.KernelIdeal.Value.run_blocks m ρ),
      (θ_run _ _ _).mono (fun r h c => by
        obtain ⟨r0, r1, r2, ha⟩ := h c
        obtain ⟨a0, a1, a2, a3⟩ := hag c
        rw [Cert.Sb.Ref.resQ, a0, a1, a2, a3] at r0
        rw [Cert.Sb.Ref.resK, a0, a1, a2, a3] at r1
        rw [Cert.Sb.Ref.resV, a0, a1, a3] at r2
        exact ⟨r0, r1, r2, ha⟩) (Cert.ReferenceIdeal.Value.run m' ρ')⟩

theorem claim : Cert.Claim := ⟨Cert.Kernel.Gen.facts, Cert.KernelIdeal.Gen.facts, Cert.ReferenceIdeal.Gen.facts, Cert.GateGrad.Gen.facts,
  Cert.GateGradIdeal.Gen.facts, Cert.GateGradReferenceIdeal.Gen.facts, Cert.WeightGrad.Gen.facts, Cert.WeightGradIdeal.Gen.facts,
  Cert.WeightGradReferenceIdeal.Gen.facts, Cert.NormGrad.Gen.facts, Cert.NormGradIdeal.Gen.facts, Cert.NormGradReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.Qkv.Gen.facts, Cert.QkvIdeal.Gen.facts, Cert.QkvReferenceIdeal.Gen.facts,
  Cert.Gates.Gen.facts, Cert.GatesIdeal.Gen.facts, Cert.GatesReferenceIdeal.Gen.facts,
  Cert.GatesGrad.Gen.facts, Cert.GatesGradIdeal.Gen.facts, Cert.GatesGradReferenceIdeal.Gen.facts,
  Cert.MixNormGrad.Gen.facts, Cert.MixNormGradIdeal.Gen.facts, Cert.MixNormGradReferenceIdeal.Gen.facts,
  Cert.Out.Gen.facts, Cert.OutIdeal.Gen.facts, Cert.OutReferenceIdeal.Gen.facts,
  Cert.OutGrad.Gen.facts, Cert.OutGradIdeal.Gen.facts, Cert.OutGradReferenceIdeal.Gen.facts,
  Cert.OutWeightGrad.Gen.facts, Cert.OutWeightGradIdeal.Gen.facts, Cert.OutWeightGradReferenceIdeal.Gen.facts,
  Cert.HalfNormGrad.Gen.facts, Cert.HalfNormGradIdeal.Gen.facts, Cert.HalfNormGradReferenceIdeal.Gen.facts,
  Cert.LastNormGrad.Gen.facts, Cert.LastNormGradIdeal.Gen.facts, Cert.LastNormGradReferenceIdeal.Gen.facts,
  Cert.SbForward.Gen.facts, Cert.SbForwardIdeal.Gen.facts, Cert.SbForwardReferenceIdeal.Gen.facts,
  Cert.BranchSbGrad.Gen.facts, Cert.BranchSbGradIdeal.Gen.facts, Cert.BranchSbGradReferenceIdeal.Gen.facts,
  Cert.BranchDilGrad.Gen.facts, Cert.BranchDilGradIdeal.Gen.facts, Cert.BranchDilGradReferenceIdeal.Gen.facts,
  Cert.BranchSwaGrad.Gen.facts, Cert.BranchSwaGradIdeal.Gen.facts, Cert.BranchSwaGradReferenceIdeal.Gen.facts,
  Cert.MergeGrad.Gen.facts, Cert.MergeGradIdeal.Gen.facts, Cert.MergeGradReferenceIdeal.Gen.facts,
  Cert.Merge.Gen.facts, Cert.MergeIdeal.Gen.facts, Cert.MergeReferenceIdeal.Gen.facts,
  Cert.Sb.pre_facts,
  Cert.Ffn.gate_facts, Cert.Ffn.norm_facts, Cert.Ffn.mix_facts, Cert.Ffn.last_facts, Cert.Sf.forward_facts,
  fun m ρ _ => Cert.Kernel.Gen.frame m ρ, fun m ρ _ => Cert.KernelIdeal.Gen.frame m ρ, fun m ρ _ => Cert.KernelIdeal.Gen.frame m ρ,
  frameRef, fun m ρ _ => frameRef m ρ trivial, fun m ρ _ => Cert.GateGrad.Gen.frame m ρ,
  fun m ρ _ => Cert.GateGradIdeal.Gen.frame m ρ, fun m ρ _ => Cert.GateGradIdeal.Gen.frame m ρ, frameGg,
  fun m ρ _ => frameGg m ρ trivial, fun m ρ _ => Cert.WeightGrad.Gen.frame m ρ, fun m ρ _ => Cert.WeightGradIdeal.Gen.frame m ρ,
  frameWg, fun m ρ _ => Cert.NormGrad.Gen.frame m ρ, fun m ρ _ => Cert.NormGradIdeal.Gen.frame m ρ,
  fun m ρ _ => Cert.NormGradIdeal.Gen.frame m ρ, frameNg, fun m ρ _ => frameNg m ρ trivial,
  fun m ρ _ => Cert.FfnUp.Gen.frame m ρ, fun m ρ _ => Cert.FfnUpIdeal.Gen.frame m ρ, frameUp,
  fun m ρ _ => Cert.FfnDown.Gen.frame m ρ, fun m ρ _ => Cert.FfnDownIdeal.Gen.frame m ρ, frameDn,
  fun m ρ _ => Cert.Qkv.Gen.frame m ρ, fun m ρ _ => Cert.QkvIdeal.Gen.frame m ρ, frameQk,
  fun m ρ _ => Cert.Gates.Gen.frame m ρ, fun m ρ _ => Cert.GatesIdeal.Gen.frame m ρ, frameGt,
  fun m ρ _ => Cert.GatesGrad.Gen.frame m ρ, fun m ρ _ => Cert.GatesGradIdeal.Gen.frame m ρ, frameGw,
  fun m ρ _ => Cert.MixNormGrad.Gen.frame m ρ, fun m ρ _ => Cert.MixNormGradIdeal.Gen.frame m ρ,
  fun m ρ _ => Cert.MixNormGradIdeal.Gen.frame m ρ, frameMx, fun m ρ _ => frameMx m ρ trivial,
  fun m ρ _ => Cert.Out.Gen.frame m ρ, fun m ρ _ => Cert.OutIdeal.Gen.frame m ρ, frameOp,
  fun m ρ _ => Cert.OutGrad.Gen.frame m ρ, fun m ρ _ => Cert.OutGradIdeal.Gen.frame m ρ, frameOd,
  fun m ρ _ => Cert.OutWeightGrad.Gen.frame m ρ, fun m ρ _ => Cert.OutWeightGradIdeal.Gen.frame m ρ, frameOw,
  fun m ρ _ => Cert.HalfNormGrad.Gen.frame m ρ, fun m ρ _ => Cert.HalfNormGradIdeal.Gen.frame m ρ,
  fun m ρ _ => Cert.HalfNormGradIdeal.Gen.frame m ρ, frameHg, fun m ρ _ => frameHg m ρ trivial,
  fun m ρ _ => Cert.LastNormGrad.Gen.frame m ρ, fun m ρ _ => Cert.LastNormGradIdeal.Gen.frame m ρ,
  fun m ρ _ => Cert.LastNormGradIdeal.Gen.frame m ρ, frameLg, fun m ρ _ => frameLg m ρ trivial,
  fun m ρ _ => Cert.SbForward.Gen.frame m ρ, fun m ρ _ => Cert.SbForwardIdeal.Gen.frame m ρ,
  fun m ρ _ => Cert.SbForwardIdeal.Gen.frame m ρ, frameSf, fun m ρ _ => frameSf m ρ trivial,
  fun m ρ _ => Cert.BranchSbGrad.Gen.frame m ρ, fun m ρ _ => Cert.BranchSbGradIdeal.Gen.frame m ρ, frameBs,
  fun m ρ _ => Cert.BranchDilGrad.Gen.frame m ρ, fun m ρ _ => Cert.BranchDilGradIdeal.Gen.frame m ρ, frameBd,
  fun m ρ _ => Cert.BranchSwaGrad.Gen.frame m ρ, fun m ρ _ => Cert.BranchSwaGradIdeal.Gen.frame m ρ, frameBw,
  fun m ρ _ => Cert.MergeGrad.Gen.frame m ρ, fun m ρ _ => Cert.MergeGradIdeal.Gen.frame m ρ, frameMb,
  fun m ρ _ => Cert.Merge.Gen.frame m ρ, fun m ρ _ => Cert.MergeIdeal.Gen.frame m ρ, frameMf,
  trivial, equal (hf := Cert.Sb.pre_facts), trivial,
  equalGg (hf := Cert.Ffn.gate_facts), trivial, equalWg,
  trivial, equalNg (hf := Cert.Ffn.norm_facts), trivial,
  equalUp, trivial, equalDn, trivial, equalQk, trivial, equalGt, trivial, equalGw,
  trivial, equalMx (hf := Cert.Ffn.mix_facts),
  trivial, equalOp, trivial, equalOd, trivial, equalOw, trivial, equalHg (hf := Cert.Ffn.norm_facts),
  trivial, equalLg (hf := Cert.Ffn.last_facts), trivial, equalSf (hf := Cert.Sf.forward_facts),
  trivial, equalBs, trivial, equalBd, trivial, equalBw, trivial, equalMb, trivial, equalMf⟩

end Cert.Proof

end
